-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_WgHgKernel (m : (ℓ : Loc Cert.WgHgKernel.nD Cert.WgHgKernel.τ Cert.WgHgKernel.sig) → Buf (Elt Bits) ℓ) : Prop :=
  True

def Pre_WgHgKernelIdeal (m : (ℓ : Loc Cert.WgHgKernelIdeal.nD Cert.WgHgKernelIdeal.τ Cert.WgHgKernelIdeal.sig) → Buf (Elt Ideal) ℓ) : Prop :=
  True

def Pre_WgHgReferenceIdeal (m : (ℓ : Loc Cert.WgHgReferenceIdeal.nD Cert.WgHgReferenceIdeal.τ Cert.WgHgReferenceIdeal.sig) → Buf (Elt Ideal) ℓ) : Prop :=
  True

def Pre_WgUKernel (m : (ℓ : Loc Cert.WgUKernel.nD Cert.WgUKernel.τ Cert.WgUKernel.sig) → Buf (Elt Bits) ℓ) : Prop :=
  True

def Pre_WgUKernelIdeal (m : (ℓ : Loc Cert.WgUKernelIdeal.nD Cert.WgUKernelIdeal.τ Cert.WgUKernelIdeal.sig) → Buf (Elt Ideal) ℓ) : Prop :=
  True

def Pre_WgUReferenceIdeal (m : (ℓ : Loc Cert.WgUReferenceIdeal.nD Cert.WgUReferenceIdeal.τ Cert.WgUReferenceIdeal.sig) → Buf (Elt Ideal) ℓ) : Prop :=
  True

def Pre_WgUpKernel (m : (ℓ : Loc Cert.WgUpKernel.nD Cert.WgUpKernel.τ Cert.WgUpKernel.sig) → Buf (Elt Bits) ℓ) : Prop :=
  True

def Pre_WgUpKernelIdeal (m : (ℓ : Loc Cert.WgUpKernelIdeal.nD Cert.WgUpKernelIdeal.τ Cert.WgUpKernelIdeal.sig) → Buf (Elt Ideal) ℓ) : Prop :=
  True

def Pre_WgUpReferenceIdeal (m : (ℓ : Loc Cert.WgUpReferenceIdeal.nD Cert.WgUpReferenceIdeal.τ Cert.WgUpReferenceIdeal.sig) → Buf (Elt Ideal) ℓ) : Prop :=
  True

def Pre_WgDownKernel (m : (ℓ : Loc Cert.WgDownKernel.nD Cert.WgDownKernel.τ Cert.WgDownKernel.sig) → Buf (Elt Bits) ℓ) : Prop :=
  True

def Pre_WgDownKernelIdeal (m : (ℓ : Loc Cert.WgDownKernelIdeal.nD Cert.WgDownKernelIdeal.τ Cert.WgDownKernelIdeal.sig) → Buf (Elt Ideal) ℓ) : Prop :=
  True

def Pre_WgDownReferenceIdeal (m : (ℓ : Loc Cert.WgDownReferenceIdeal.nD Cert.WgDownReferenceIdeal.τ Cert.WgDownReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite [hPre_finite : Cert.Pre_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7))).1 = (fun _ => 1#1)
    ∧ (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7))).2.1 = (fun _ => 1#1)
    ∧ (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7))).2.2.1 = (fun _ => 1#1)
    ∧ (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7))).2.2.2.1 = (fun _ => 1#1)
    ∧ (Cert.Pre_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7))).2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite [hPre_finite : Cert.Pre_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7))).1 = (fun _ => 1#1)
    ∧ (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7))).2.1 = (fun _ => 1#1)
    ∧ (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7))).2.2.1 = (fun _ => 1#1)
    ∧ (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7))).2.2.2.1 = (fun _ => 1#1)
    ∧ (Cert.Pre_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7))).2.2.2.2 = (fun _ => 1#1)

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_InProjKernel (m : (ℓ : Loc Cert.InProjKernel.nD Cert.InProjKernel.τ Cert.InProjKernel.sig) → Buf (Elt Bits) ℓ) : Prop :=
  True

def Pre_InProjKernelIdeal (m : (ℓ : Loc Cert.InProjKernelIdeal.nD Cert.InProjKernelIdeal.τ Cert.InProjKernelIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_WgPgKernel (m : (ℓ : Loc Cert.WgPgKernel.nD Cert.WgPgKernel.τ Cert.WgPgKernel.sig) → Buf (Elt Bits) ℓ) : Prop :=
  True

def Pre_WgPgKernelIdeal (m : (ℓ : Loc Cert.WgPgKernelIdeal.nD Cert.WgPgKernelIdeal.τ Cert.WgPgKernelIdeal.sig) → Buf (Elt Ideal) ℓ) : Prop :=
  True

def Pre_WgPgReferenceIdeal (m : (ℓ : Loc Cert.WgPgReferenceIdeal.nD Cert.WgPgReferenceIdeal.τ Cert.WgPgReferenceIdeal.sig) → Buf (Elt Ideal) ℓ) : Prop :=
  True

def Pre_WgPpKernel (m : (ℓ : Loc Cert.WgPpKernel.nD Cert.WgPpKernel.τ Cert.WgPpKernel.sig) → Buf (Elt Bits) ℓ) : Prop :=
  True

def Pre_WgPpKernelIdeal (m : (ℓ : Loc Cert.WgPpKernelIdeal.nD Cert.WgPpKernelIdeal.τ Cert.WgPpKernelIdeal.sig) → Buf (Elt Ideal) ℓ) : Prop :=
  True

def Pre_WgPpReferenceIdeal (m : (ℓ : Loc Cert.WgPpReferenceIdeal.nD Cert.WgPpReferenceIdeal.τ Cert.WgPpReferenceIdeal.sig) → Buf (Elt Ideal) ℓ) : Prop :=
  True

def Pre_AdamInKernel (m : (ℓ : Loc Cert.AdamInKernel.nD Cert.AdamInKernel.τ Cert.AdamInKernel.sig) → Buf (Elt Bits) ℓ) : Prop :=
  True

def Pre_AdamInKernelIdeal (m : (ℓ : Loc Cert.AdamInKernelIdeal.nD Cert.AdamInKernelIdeal.τ Cert.AdamInKernelIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamGluKernel (m : (ℓ : Loc Cert.AdamGluKernel.nD Cert.AdamGluKernel.τ Cert.AdamGluKernel.sig) → Buf (Elt Bits) ℓ) : Prop :=
  True

def Pre_AdamGluKernelIdeal (m : (ℓ : Loc Cert.AdamGluKernelIdeal.nD Cert.AdamGluKernelIdeal.τ Cert.AdamGluKernelIdeal.sig) → Buf (Elt Ideal) ℓ) : Prop :=
  True

def Pre_AdamGluReferenceIdeal (m : (ℓ : Loc Cert.AdamGluReferenceIdeal.nD Cert.AdamGluReferenceIdeal.τ Cert.AdamGluReferenceIdeal.sig) → Buf (Elt Ideal) ℓ) : Prop :=
  True

def Pre_AdamBranchKernel (m : (ℓ : Loc Cert.AdamBranchKernel.nD Cert.AdamBranchKernel.τ Cert.AdamBranchKernel.sig) → Buf (Elt Bits) ℓ) : Prop :=
  True

def Pre_AdamBranchKernelIdeal (m : (ℓ : Loc Cert.AdamBranchKernelIdeal.nD Cert.AdamBranchKernelIdeal.τ Cert.AdamBranchKernelIdeal.sig) → Buf (Elt Ideal) ℓ) : Prop :=
  True

def Pre_AdamBranchReferenceIdeal (m : (ℓ : Loc Cert.AdamBranchReferenceIdeal.nD Cert.AdamBranchReferenceIdeal.τ Cert.AdamBranchReferenceIdeal.sig) → Buf (Elt Ideal) ℓ) : Prop :=
  True

def Pre_AdamOutKernel (m : (ℓ : Loc Cert.AdamOutKernel.nD Cert.AdamOutKernel.τ Cert.AdamOutKernel.sig) → Buf (Elt Bits) ℓ) : Prop :=
  True

def Pre_AdamOutKernelIdeal (m : (ℓ : Loc Cert.AdamOutKernelIdeal.nD Cert.AdamOutKernelIdeal.τ Cert.AdamOutKernelIdeal.sig) → Buf (Elt Ideal) ℓ) : Prop :=
  True

def Pre_AdamOutReferenceIdeal (m : (ℓ : Loc Cert.AdamOutReferenceIdeal.nD Cert.AdamOutReferenceIdeal.τ Cert.AdamOutReferenceIdeal.sig) → Buf (Elt Ideal) ℓ) : Prop :=
  True

def Pre_AdamUpKernel (m : (ℓ : Loc Cert.AdamUpKernel.nD Cert.AdamUpKernel.τ Cert.AdamUpKernel.sig) → Buf (Elt Bits) ℓ) : Prop :=
  True

def Pre_AdamUpKernelIdeal (m : (ℓ : Loc Cert.AdamUpKernelIdeal.nD Cert.AdamUpKernelIdeal.τ Cert.AdamUpKernelIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamDownKernel (m : (ℓ : Loc Cert.AdamDownKernel.nD Cert.AdamDownKernel.τ Cert.AdamDownKernel.sig) → Buf (Elt Bits) ℓ) : Prop :=
  True

def Pre_AdamDownKernelIdeal (m : (ℓ : Loc Cert.AdamDownKernelIdeal.nD Cert.AdamDownKernelIdeal.τ Cert.AdamDownKernelIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_AdamProjKernel (m : (ℓ : Loc Cert.AdamProjKernel.nD Cert.AdamProjKernel.τ Cert.AdamProjKernel.sig) → Buf (Elt Bits) ℓ) : Prop :=
  True

def Pre_AdamProjKernelIdeal (m : (ℓ : Loc Cert.AdamProjKernelIdeal.nD Cert.AdamProjKernelIdeal.τ Cert.AdamProjKernelIdeal.sig) → Buf (Elt Ideal) ℓ) : Prop :=
  True

def Pre_AdamProjReferenceIdeal (m : (ℓ : Loc Cert.AdamProjReferenceIdeal.nD Cert.AdamProjReferenceIdeal.τ Cert.AdamProjReferenceIdeal.sig) → Buf (Elt Ideal) ℓ) : Prop :=
  True

def Pre_AdamConvKernel (m : (ℓ : Loc Cert.AdamConvKernel.nD Cert.AdamConvKernel.τ Cert.AdamConvKernel.sig) → Buf (Elt Bits) ℓ) : Prop :=
  True

def Pre_AdamConvKernelIdeal (m : (ℓ : Loc Cert.AdamConvKernelIdeal.nD Cert.AdamConvKernelIdeal.τ Cert.AdamConvKernelIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamSumKernel (m : (ℓ : Loc Cert.AdamSumKernel.nD Cert.AdamSumKernel.τ Cert.AdamSumKernel.sig) → Buf (Elt Bits) ℓ) : Prop :=
  True

def Pre_AdamSumKernelIdeal (m : (ℓ : Loc Cert.AdamSumKernelIdeal.nD Cert.AdamSumKernelIdeal.τ Cert.AdamSumKernelIdeal.sig) → Buf (Elt Ideal) ℓ) : Prop :=
  True

def Pre_AdamSumReferenceIdeal (m : (ℓ : Loc Cert.AdamSumReferenceIdeal.nD Cert.AdamSumReferenceIdeal.τ Cert.AdamSumReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4)
      ∧ r.2.mem ((c.tc : Thread Cert.InKernel.nD Cert.InKernel.τ).loc Cert.InKernel.main_arg5) = m ((c.tc : Thread Cert.InKernel.nD Cert.InKernel.τ).loc Cert.InKernel.main_arg5)
      ∧ r.2.mem ((c.tc : Thread Cert.InKernel.nD Cert.InKernel.τ).loc Cert.InKernel.main_arg6) = m ((c.tc : Thread Cert.InKernel.nD Cert.InKernel.τ).loc Cert.InKernel.main_arg6))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6))
      ∧ r.2.sem = fun _ => 0)

def quiescent_WgHgKernel [hWgHgKernel : Cert.WgHgKernel.Facts] : Prop :=
  ∀ (m : (ℓ : Loc Cert.WgHgKernel.nD Cert.WgHgKernel.τ Cert.WgHgKernel.sig) → Buf (Elt Bits) ℓ) (g : Dev Cert.WgHgKernel.nD → PrngReg), Pre_WgHgKernel m →
    θ_run (Cert.WgHgKernel.defs (F := Bits)) (onTc (τ := Cert.WgHgKernel.τ) (Cert.WgHgKernel.main (F := Bits))) ⟨m, fun _ => 0, g⟩ (fun r => (∀ c : Dev Cert.WgHgKernel.nD,
      r.2.mem ((c.tc : Thread Cert.WgHgKernel.nD Cert.WgHgKernel.τ).loc Cert.WgHgKernel.main_arg0) = m ((c.tc : Thread Cert.WgHgKernel.nD Cert.WgHgKernel.τ).loc Cert.WgHgKernel.main_arg0)
      ∧ r.2.mem ((c.tc : Thread Cert.WgHgKernel.nD Cert.WgHgKernel.τ).loc Cert.WgHgKernel.main_arg1) = m ((c.tc : Thread Cert.WgHgKernel.nD Cert.WgHgKernel.τ).loc Cert.WgHgKernel.main_arg1)
      ∧ r.2.mem ((c.tc : Thread Cert.WgHgKernel.nD Cert.WgHgKernel.τ).loc Cert.WgHgKernel.main_arg2) = m ((c.tc : Thread Cert.WgHgKernel.nD Cert.WgHgKernel.τ).loc Cert.WgHgKernel.main_arg2))
      ∧ r.2.sem = fun _ => 0)

def quiescent_WgHgKernelIdeal [hWgHgKernelIdeal : Cert.WgHgKernelIdeal.Facts] : Prop :=
  ∀ (m : (ℓ : Loc Cert.WgHgKernelIdeal.nD Cert.WgHgKernelIdeal.τ Cert.WgHgKernelIdeal.sig) → Buf (Elt Ideal) ℓ) (g : Dev Cert.WgHgKernelIdeal.nD → PrngReg), Pre_WgHgKernelIdeal m →
    θ_run (Cert.WgHgKernelIdeal.defs (F := Ideal)) (onTc (τ := Cert.WgHgKernelIdeal.τ) (Cert.WgHgKernelIdeal.main (F := Ideal))) ⟨m, fun _ => 0, g⟩ (fun r => (∀ c : Dev Cert.WgHgKernelIdeal.nD,
      r.2.mem ((c.tc : Thread Cert.WgHgKernelIdeal.nD Cert.WgHgKernelIdeal.τ).loc Cert.WgHgKernelIdeal.main_arg0) = m ((c.tc : Thread Cert.WgHgKernelIdeal.nD Cert.WgHgKernelIdeal.τ).loc Cert.WgHgKernelIdeal.main_arg0)
      ∧ r.2.mem ((c.tc : Thread Cert.WgHgKernelIdeal.nD Cert.WgHgKernelIdeal.τ).loc Cert.WgHgKernelIdeal.main_arg1) = m ((c.tc : Thread Cert.WgHgKernelIdeal.nD Cert.WgHgKernelIdeal.τ).loc Cert.WgHgKernelIdeal.main_arg1)
      ∧ r.2.mem ((c.tc : Thread Cert.WgHgKernelIdeal.nD Cert.WgHgKernelIdeal.τ).loc Cert.WgHgKernelIdeal.main_arg2) = m ((c.tc : Thread Cert.WgHgKernelIdeal.nD Cert.WgHgKernelIdeal.τ).loc Cert.WgHgKernelIdeal.main_arg2))
      ∧ r.2.sem = fun _ => 0)

def quiescent_WgHgReferenceIdeal [hWgHgReferenceIdeal : Cert.WgHgReferenceIdeal.Facts] : Prop :=
  ∀ (m : (ℓ : Loc Cert.WgHgReferenceIdeal.nD Cert.WgHgReferenceIdeal.τ Cert.WgHgReferenceIdeal.sig) → Buf (Elt Ideal) ℓ) (g : Dev Cert.WgHgReferenceIdeal.nD → PrngReg), Pre_WgHgReferenceIdeal m →
    θ_run (Cert.WgHgReferenceIdeal.defs (F := Ideal)) (onTc (τ := Cert.WgHgReferenceIdeal.τ) (Cert.WgHgReferenceIdeal.main (F := Ideal))) ⟨m, fun _ => 0, g⟩ (fun r => (∀ c : Dev Cert.WgHgReferenceIdeal.nD,
      r.2.mem ((c.tc : Thread Cert.WgHgReferenceIdeal.nD Cert.WgHgReferenceIdeal.τ).loc Cert.WgHgReferenceIdeal.main_arg0) = m ((c.tc : Thread Cert.WgHgReferenceIdeal.nD Cert.WgHgReferenceIdeal.τ).loc Cert.WgHgReferenceIdeal.main_arg0)
      ∧ r.2.mem ((c.tc : Thread Cert.WgHgReferenceIdeal.nD Cert.WgHgReferenceIdeal.τ).loc Cert.WgHgReferenceIdeal.main_arg1) = m ((c.tc : Thread Cert.WgHgReferenceIdeal.nD Cert.WgHgReferenceIdeal.τ).loc Cert.WgHgReferenceIdeal.main_arg1)
      ∧ r.2.mem ((c.tc : Thread Cert.WgHgReferenceIdeal.nD Cert.WgHgReferenceIdeal.τ).loc Cert.WgHgReferenceIdeal.main_arg2) = m ((c.tc : Thread Cert.WgHgReferenceIdeal.nD Cert.WgHgReferenceIdeal.τ).loc Cert.WgHgReferenceIdeal.main_arg2))
      ∧ r.2.sem = fun _ => 0)

def quiescent_WgUKernel [hWgUKernel : Cert.WgUKernel.Facts] : Prop :=
  ∀ (m : (ℓ : Loc Cert.WgUKernel.nD Cert.WgUKernel.τ Cert.WgUKernel.sig) → Buf (Elt Bits) ℓ) (g : Dev Cert.WgUKernel.nD → PrngReg), Pre_WgUKernel m →
    θ_run (Cert.WgUKernel.defs (F := Bits)) (onTc (τ := Cert.WgUKernel.τ) (Cert.WgUKernel.main (F := Bits))) ⟨m, fun _ => 0, g⟩ (fun r => (∀ c : Dev Cert.WgUKernel.nD,
      r.2.mem ((c.tc : Thread Cert.WgUKernel.nD Cert.WgUKernel.τ).loc Cert.WgUKernel.main_arg0) = m ((c.tc : Thread Cert.WgUKernel.nD Cert.WgUKernel.τ).loc Cert.WgUKernel.main_arg0)
      ∧ r.2.mem ((c.tc : Thread Cert.WgUKernel.nD Cert.WgUKernel.τ).loc Cert.WgUKernel.main_arg1) = m ((c.tc : Thread Cert.WgUKernel.nD Cert.WgUKernel.τ).loc Cert.WgUKernel.main_arg1)
      ∧ r.2.mem ((c.tc : Thread Cert.WgUKernel.nD Cert.WgUKernel.τ).loc Cert.WgUKernel.main_arg2) = m ((c.tc : Thread Cert.WgUKernel.nD Cert.WgUKernel.τ).loc Cert.WgUKernel.main_arg2))
      ∧ r.2.sem = fun _ => 0)

def quiescent_WgUKernelIdeal [hWgUKernelIdeal : Cert.WgUKernelIdeal.Facts] : Prop :=
  ∀ (m : (ℓ : Loc Cert.WgUKernelIdeal.nD Cert.WgUKernelIdeal.τ Cert.WgUKernelIdeal.sig) → Buf (Elt Ideal) ℓ) (g : Dev Cert.WgUKernelIdeal.nD → PrngReg), Pre_WgUKernelIdeal m →
    θ_run (Cert.WgUKernelIdeal.defs (F := Ideal)) (onTc (τ := Cert.WgUKernelIdeal.τ) (Cert.WgUKernelIdeal.main (F := Ideal))) ⟨m, fun _ => 0, g⟩ (fun r => (∀ c : Dev Cert.WgUKernelIdeal.nD,
      r.2.mem ((c.tc : Thread Cert.WgUKernelIdeal.nD Cert.WgUKernelIdeal.τ).loc Cert.WgUKernelIdeal.main_arg0) = m ((c.tc : Thread Cert.WgUKernelIdeal.nD Cert.WgUKernelIdeal.τ).loc Cert.WgUKernelIdeal.main_arg0)
      ∧ r.2.mem ((c.tc : Thread Cert.WgUKernelIdeal.nD Cert.WgUKernelIdeal.τ).loc Cert.WgUKernelIdeal.main_arg1) = m ((c.tc : Thread Cert.WgUKernelIdeal.nD Cert.WgUKernelIdeal.τ).loc Cert.WgUKernelIdeal.main_arg1)
      ∧ r.2.mem ((c.tc : Thread Cert.WgUKernelIdeal.nD Cert.WgUKernelIdeal.τ).loc Cert.WgUKernelIdeal.main_arg2) = m ((c.tc : Thread Cert.WgUKernelIdeal.nD Cert.WgUKernelIdeal.τ).loc Cert.WgUKernelIdeal.main_arg2))
      ∧ r.2.sem = fun _ => 0)

def quiescent_WgUReferenceIdeal [hWgUReferenceIdeal : Cert.WgUReferenceIdeal.Facts] : Prop :=
  ∀ (m : (ℓ : Loc Cert.WgUReferenceIdeal.nD Cert.WgUReferenceIdeal.τ Cert.WgUReferenceIdeal.sig) → Buf (Elt Ideal) ℓ) (g : Dev Cert.WgUReferenceIdeal.nD → PrngReg), Pre_WgUReferenceIdeal m →
    θ_run (Cert.WgUReferenceIdeal.defs (F := Ideal)) (onTc (τ := Cert.WgUReferenceIdeal.τ) (Cert.WgUReferenceIdeal.main (F := Ideal))) ⟨m, fun _ => 0, g⟩ (fun r => (∀ c : Dev Cert.WgUReferenceIdeal.nD,
      r.2.mem ((c.tc : Thread Cert.WgUReferenceIdeal.nD Cert.WgUReferenceIdeal.τ).loc Cert.WgUReferenceIdeal.main_arg0) = m ((c.tc : Thread Cert.WgUReferenceIdeal.nD Cert.WgUReferenceIdeal.τ).loc Cert.WgUReferenceIdeal.main_arg0)
      ∧ r.2.mem ((c.tc : Thread Cert.WgUReferenceIdeal.nD Cert.WgUReferenceIdeal.τ).loc Cert.WgUReferenceIdeal.main_arg1) = m ((c.tc : Thread Cert.WgUReferenceIdeal.nD Cert.WgUReferenceIdeal.τ).loc Cert.WgUReferenceIdeal.main_arg1)
      ∧ r.2.mem ((c.tc : Thread Cert.WgUReferenceIdeal.nD Cert.WgUReferenceIdeal.τ).loc Cert.WgUReferenceIdeal.main_arg2) = m ((c.tc : Thread Cert.WgUReferenceIdeal.nD Cert.WgUReferenceIdeal.τ).loc Cert.WgUReferenceIdeal.main_arg2))
      ∧ r.2.sem = fun _ => 0)

def quiescent_WgUpKernel [hWgUpKernel : Cert.WgUpKernel.Facts] : Prop :=
  ∀ (m : (ℓ : Loc Cert.WgUpKernel.nD Cert.WgUpKernel.τ Cert.WgUpKernel.sig) → Buf (Elt Bits) ℓ) (g : Dev Cert.WgUpKernel.nD → PrngReg), Pre_WgUpKernel m →
    θ_run (Cert.WgUpKernel.defs (F := Bits)) (onTc (τ := Cert.WgUpKernel.τ) (Cert.WgUpKernel.main (F := Bits))) ⟨m, fun _ => 0, g⟩ (fun r => (∀ c : Dev Cert.WgUpKernel.nD,
      r.2.mem ((c.tc : Thread Cert.WgUpKernel.nD Cert.WgUpKernel.τ).loc Cert.WgUpKernel.main_arg0) = m ((c.tc : Thread Cert.WgUpKernel.nD Cert.WgUpKernel.τ).loc Cert.WgUpKernel.main_arg0)
      ∧ r.2.mem ((c.tc : Thread Cert.WgUpKernel.nD Cert.WgUpKernel.τ).loc Cert.WgUpKernel.main_arg1) = m ((c.tc : Thread Cert.WgUpKernel.nD Cert.WgUpKernel.τ).loc Cert.WgUpKernel.main_arg1)
      ∧ r.2.mem ((c.tc : Thread Cert.WgUpKernel.nD Cert.WgUpKernel.τ).loc Cert.WgUpKernel.main_arg2) = m ((c.tc : Thread Cert.WgUpKernel.nD Cert.WgUpKernel.τ).loc Cert.WgUpKernel.main_arg2))
      ∧ r.2.sem = fun _ => 0)

def quiescent_WgUpKernelIdeal [hWgUpKernelIdeal : Cert.WgUpKernelIdeal.Facts] : Prop :=
  ∀ (m : (ℓ : Loc Cert.WgUpKernelIdeal.nD Cert.WgUpKernelIdeal.τ Cert.WgUpKernelIdeal.sig) → Buf (Elt Ideal) ℓ) (g : Dev Cert.WgUpKernelIdeal.nD → PrngReg), Pre_WgUpKernelIdeal m →
    θ_run (Cert.WgUpKernelIdeal.defs (F := Ideal)) (onTc (τ := Cert.WgUpKernelIdeal.τ) (Cert.WgUpKernelIdeal.main (F := Ideal))) ⟨m, fun _ => 0, g⟩ (fun r => (∀ c : Dev Cert.WgUpKernelIdeal.nD,
      r.2.mem ((c.tc : Thread Cert.WgUpKernelIdeal.nD Cert.WgUpKernelIdeal.τ).loc Cert.WgUpKernelIdeal.main_arg0) = m ((c.tc : Thread Cert.WgUpKernelIdeal.nD Cert.WgUpKernelIdeal.τ).loc Cert.WgUpKernelIdeal.main_arg0)
      ∧ r.2.mem ((c.tc : Thread Cert.WgUpKernelIdeal.nD Cert.WgUpKernelIdeal.τ).loc Cert.WgUpKernelIdeal.main_arg1) = m ((c.tc : Thread Cert.WgUpKernelIdeal.nD Cert.WgUpKernelIdeal.τ).loc Cert.WgUpKernelIdeal.main_arg1)
      ∧ r.2.mem ((c.tc : Thread Cert.WgUpKernelIdeal.nD Cert.WgUpKernelIdeal.τ).loc Cert.WgUpKernelIdeal.main_arg2) = m ((c.tc : Thread Cert.WgUpKernelIdeal.nD Cert.WgUpKernelIdeal.τ).loc Cert.WgUpKernelIdeal.main_arg2))
      ∧ r.2.sem = fun _ => 0)

def quiescent_WgUpReferenceIdeal [hWgUpReferenceIdeal : Cert.WgUpReferenceIdeal.Facts] : Prop :=
  ∀ (m : (ℓ : Loc Cert.WgUpReferenceIdeal.nD Cert.WgUpReferenceIdeal.τ Cert.WgUpReferenceIdeal.sig) → Buf (Elt Ideal) ℓ) (g : Dev Cert.WgUpReferenceIdeal.nD → PrngReg), Pre_WgUpReferenceIdeal m →
    θ_run (Cert.WgUpReferenceIdeal.defs (F := Ideal)) (onTc (τ := Cert.WgUpReferenceIdeal.τ) (Cert.WgUpReferenceIdeal.main (F := Ideal))) ⟨m, fun _ => 0, g⟩ (fun r => (∀ c : Dev Cert.WgUpReferenceIdeal.nD,
      r.2.mem ((c.tc : Thread Cert.WgUpReferenceIdeal.nD Cert.WgUpReferenceIdeal.τ).loc Cert.WgUpReferenceIdeal.main_arg0) = m ((c.tc : Thread Cert.WgUpReferenceIdeal.nD Cert.WgUpReferenceIdeal.τ).loc Cert.WgUpReferenceIdeal.main_arg0)
      ∧ r.2.mem ((c.tc : Thread Cert.WgUpReferenceIdeal.nD Cert.WgUpReferenceIdeal.τ).loc Cert.WgUpReferenceIdeal.main_arg1) = m ((c.tc : Thread Cert.WgUpReferenceIdeal.nD Cert.WgUpReferenceIdeal.τ).loc Cert.WgUpReferenceIdeal.main_arg1)
      ∧ r.2.mem ((c.tc : Thread Cert.WgUpReferenceIdeal.nD Cert.WgUpReferenceIdeal.τ).loc Cert.WgUpReferenceIdeal.main_arg2) = m ((c.tc : Thread Cert.WgUpReferenceIdeal.nD Cert.WgUpReferenceIdeal.τ).loc Cert.WgUpReferenceIdeal.main_arg2))
      ∧ r.2.sem = fun _ => 0)

def quiescent_WgDownKernel [hWgDownKernel : Cert.WgDownKernel.Facts] : Prop :=
  ∀ (m : (ℓ : Loc Cert.WgDownKernel.nD Cert.WgDownKernel.τ Cert.WgDownKernel.sig) → Buf (Elt Bits) ℓ) (g : Dev Cert.WgDownKernel.nD → PrngReg), Pre_WgDownKernel m →
    θ_run (Cert.WgDownKernel.defs (F := Bits)) (onTc (τ := Cert.WgDownKernel.τ) (Cert.WgDownKernel.main (F := Bits))) ⟨m, fun _ => 0, g⟩ (fun r => (∀ c : Dev Cert.WgDownKernel.nD,
      r.2.mem ((c.tc : Thread Cert.WgDownKernel.nD Cert.WgDownKernel.τ).loc Cert.WgDownKernel.main_arg0) = m ((c.tc : Thread Cert.WgDownKernel.nD Cert.WgDownKernel.τ).loc Cert.WgDownKernel.main_arg0)
      ∧ r.2.mem ((c.tc : Thread Cert.WgDownKernel.nD Cert.WgDownKernel.τ).loc Cert.WgDownKernel.main_arg1) = m ((c.tc : Thread Cert.WgDownKernel.nD Cert.WgDownKernel.τ).loc Cert.WgDownKernel.main_arg1)
      ∧ r.2.mem ((c.tc : Thread Cert.WgDownKernel.nD Cert.WgDownKernel.τ).loc Cert.WgDownKernel.main_arg2) = m ((c.tc : Thread Cert.WgDownKernel.nD Cert.WgDownKernel.τ).loc Cert.WgDownKernel.main_arg2)
      ∧ r.2.mem ((c.tc : Thread Cert.WgDownKernel.nD Cert.WgDownKernel.τ).loc Cert.WgDownKernel.main_arg3) = m ((c.tc : Thread Cert.WgDownKernel.nD Cert.WgDownKernel.τ).loc Cert.WgDownKernel.main_arg3))
      ∧ r.2.sem = fun _ => 0)

def quiescent_WgDownKernelIdeal [hWgDownKernelIdeal : Cert.WgDownKernelIdeal.Facts] : Prop :=
  ∀ (m : (ℓ : Loc Cert.WgDownKernelIdeal.nD Cert.WgDownKernelIdeal.τ Cert.WgDownKernelIdeal.sig) → Buf (Elt Ideal) ℓ) (g : Dev Cert.WgDownKernelIdeal.nD → PrngReg), Pre_WgDownKernelIdeal m →
    θ_run (Cert.WgDownKernelIdeal.defs (F := Ideal)) (onTc (τ := Cert.WgDownKernelIdeal.τ) (Cert.WgDownKernelIdeal.main (F := Ideal))) ⟨m, fun _ => 0, g⟩ (fun r => (∀ c : Dev Cert.WgDownKernelIdeal.nD,
      r.2.mem ((c.tc : Thread Cert.WgDownKernelIdeal.nD Cert.WgDownKernelIdeal.τ).loc Cert.WgDownKernelIdeal.main_arg0) = m ((c.tc : Thread Cert.WgDownKernelIdeal.nD Cert.WgDownKernelIdeal.τ).loc Cert.WgDownKernelIdeal.main_arg0)
      ∧ r.2.mem ((c.tc : Thread Cert.WgDownKernelIdeal.nD Cert.WgDownKernelIdeal.τ).loc Cert.WgDownKernelIdeal.main_arg1) = m ((c.tc : Thread Cert.WgDownKernelIdeal.nD Cert.WgDownKernelIdeal.τ).loc Cert.WgDownKernelIdeal.main_arg1)
      ∧ r.2.mem ((c.tc : Thread Cert.WgDownKernelIdeal.nD Cert.WgDownKernelIdeal.τ).loc Cert.WgDownKernelIdeal.main_arg2) = m ((c.tc : Thread Cert.WgDownKernelIdeal.nD Cert.WgDownKernelIdeal.τ).loc Cert.WgDownKernelIdeal.main_arg2)
      ∧ r.2.mem ((c.tc : Thread Cert.WgDownKernelIdeal.nD Cert.WgDownKernelIdeal.τ).loc Cert.WgDownKernelIdeal.main_arg3) = m ((c.tc : Thread Cert.WgDownKernelIdeal.nD Cert.WgDownKernelIdeal.τ).loc Cert.WgDownKernelIdeal.main_arg3))
      ∧ r.2.sem = fun _ => 0)

def quiescent_WgDownReferenceIdeal [hWgDownReferenceIdeal : Cert.WgDownReferenceIdeal.Facts] : Prop :=
  ∀ (m : (ℓ : Loc Cert.WgDownReferenceIdeal.nD Cert.WgDownReferenceIdeal.τ Cert.WgDownReferenceIdeal.sig) → Buf (Elt Ideal) ℓ) (g : Dev Cert.WgDownReferenceIdeal.nD → PrngReg), Pre_WgDownReferenceIdeal m →
    θ_run (Cert.WgDownReferenceIdeal.defs (F := Ideal)) (onTc (τ := Cert.WgDownReferenceIdeal.τ) (Cert.WgDownReferenceIdeal.main (F := Ideal))) ⟨m, fun _ => 0, g⟩ (fun r => (∀ c : Dev Cert.WgDownReferenceIdeal.nD,
      r.2.mem ((c.tc : Thread Cert.WgDownReferenceIdeal.nD Cert.WgDownReferenceIdeal.τ).loc Cert.WgDownReferenceIdeal.main_arg0) = m ((c.tc : Thread Cert.WgDownReferenceIdeal.nD Cert.WgDownReferenceIdeal.τ).loc Cert.WgDownReferenceIdeal.main_arg0)
      ∧ r.2.mem ((c.tc : Thread Cert.WgDownReferenceIdeal.nD Cert.WgDownReferenceIdeal.τ).loc Cert.WgDownReferenceIdeal.main_arg1) = m ((c.tc : Thread Cert.WgDownReferenceIdeal.nD Cert.WgDownReferenceIdeal.τ).loc Cert.WgDownReferenceIdeal.main_arg1)
      ∧ r.2.mem ((c.tc : Thread Cert.WgDownReferenceIdeal.nD Cert.WgDownReferenceIdeal.τ).loc Cert.WgDownReferenceIdeal.main_arg2) = m ((c.tc : Thread Cert.WgDownReferenceIdeal.nD Cert.WgDownReferenceIdeal.τ).loc Cert.WgDownReferenceIdeal.main_arg2)
      ∧ r.2.mem ((c.tc : Thread Cert.WgDownReferenceIdeal.nD Cert.WgDownReferenceIdeal.τ).loc Cert.WgDownReferenceIdeal.main_arg3) = m ((c.tc : Thread Cert.WgDownReferenceIdeal.nD Cert.WgDownReferenceIdeal.τ).loc Cert.WgDownReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4)
      ∧ r.2.mem ((c.tc : Thread Cert.UpKernel.nD Cert.UpKernel.τ).loc Cert.UpKernel.main_arg5) = m ((c.tc : Thread Cert.UpKernel.nD Cert.UpKernel.τ).loc Cert.UpKernel.main_arg5)
      ∧ r.2.mem ((c.tc : Thread Cert.UpKernel.nD Cert.UpKernel.τ).loc Cert.UpKernel.main_arg6) = m ((c.tc : Thread Cert.UpKernel.nD Cert.UpKernel.τ).loc Cert.UpKernel.main_arg6)
      ∧ r.2.mem ((c.tc : Thread Cert.UpKernel.nD Cert.UpKernel.τ).loc Cert.UpKernel.main_arg7) = m ((c.tc : Thread Cert.UpKernel.nD Cert.UpKernel.τ).loc Cert.UpKernel.main_arg7)
      ∧ r.2.mem ((c.tc : Thread Cert.UpKernel.nD Cert.UpKernel.τ).loc Cert.UpKernel.main_arg8) = m ((c.tc : Thread Cert.UpKernel.nD Cert.UpKernel.τ).loc Cert.UpKernel.main_arg8))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
      ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
      ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6)
      ∧ r.2.mem ((c.tc : Thread Cert.FfnKernel.nD Cert.FfnKernel.τ).loc Cert.FfnKernel.main_arg7) = m ((c.tc : Thread Cert.FfnKernel.nD Cert.FfnKernel.τ).loc Cert.FfnKernel.main_arg7))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ r.2.sem = fun _ => 0)

def quiescent_FfnKernelIdeal_pre_finite [hFfnKernelIdeal : Cert.FfnKernelIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_FfnReferenceIdeal_pre_finite [hFfnReferenceIdeal : Cert.FfnReferenceIdeal.Facts] [hPre_finite : Cert.Pre_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7)
      ∧ r.2.mem ((c.tc : Thread Cert.TailKernel.nD Cert.TailKernel.τ).loc Cert.TailKernel.main_arg8) = m ((c.tc : Thread Cert.TailKernel.nD Cert.TailKernel.τ).loc Cert.TailKernel.main_arg8)
      ∧ r.2.mem ((c.tc : Thread Cert.TailKernel.nD Cert.TailKernel.τ).loc Cert.TailKernel.main_arg9) = m ((c.tc : Thread Cert.TailKernel.nD Cert.TailKernel.τ).loc Cert.TailKernel.main_arg9)
      ∧ r.2.mem ((c.tc : Thread Cert.TailKernel.nD Cert.TailKernel.τ).loc Cert.TailKernel.main_arg10) = m ((c.tc : Thread Cert.TailKernel.nD Cert.TailKernel.τ).loc Cert.TailKernel.main_arg10))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
      ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10))
      ∧ r.2.sem = fun _ => 0)

def quiescent_InProjKernel [hInProjKernel : Cert.InProjKernel.Facts] : Prop :=
  ∀ (m : (ℓ : Loc Cert.InProjKernel.nD Cert.InProjKernel.τ Cert.InProjKernel.sig) → Buf (Elt Bits) ℓ) (g : Dev Cert.InProjKernel.nD → PrngReg), Pre_InProjKernel m →
    θ_run (Cert.InProjKernel.defs (F := Bits)) (onTc (τ := Cert.InProjKernel.τ) (Cert.InProjKernel.main (F := Bits))) ⟨m, fun _ => 0, g⟩ (fun r => (∀ c : Dev Cert.InProjKernel.nD,
      r.2.mem ((c.tc : Thread Cert.InProjKernel.nD Cert.InProjKernel.τ).loc Cert.InProjKernel.main_arg0) = m ((c.tc : Thread Cert.InProjKernel.nD Cert.InProjKernel.τ).loc Cert.InProjKernel.main_arg0)
      ∧ r.2.mem ((c.tc : Thread Cert.InProjKernel.nD Cert.InProjKernel.τ).loc Cert.InProjKernel.main_arg1) = m ((c.tc : Thread Cert.InProjKernel.nD Cert.InProjKernel.τ).loc Cert.InProjKernel.main_arg1)
      ∧ r.2.mem ((c.tc : Thread Cert.InProjKernel.nD Cert.InProjKernel.τ).loc Cert.InProjKernel.main_arg2) = m ((c.tc : Thread Cert.InProjKernel.nD Cert.InProjKernel.τ).loc Cert.InProjKernel.main_arg2))
      ∧ r.2.sem = fun _ => 0)

def quiescent_InProjKernelIdeal [hInProjKernelIdeal : Cert.InProjKernelIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg), Pre_InProjKernelIdeal m →
    θ_run (Cert.InProjKernelIdeal.defs (F := Ideal)) (onTc (τ := Cert.InProjKernelIdeal.τ) (Cert.InProjKernelIdeal.main (F := Ideal))) ⟨m, fun _ => 0, g⟩ (fun r => (∀ c : Dev Cert.InProjKernelIdeal.nD,
      r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_WgPgKernel [hWgPgKernel : Cert.WgPgKernel.Facts] : Prop :=
  ∀ (m : (ℓ : Loc Cert.WgPgKernel.nD Cert.WgPgKernel.τ Cert.WgPgKernel.sig) → Buf (Elt Bits) ℓ) (g : Dev Cert.WgPgKernel.nD → PrngReg), Pre_WgPgKernel m →
    θ_run (Cert.WgPgKernel.defs (F := Bits)) (onTc (τ := Cert.WgPgKernel.τ) (Cert.WgPgKernel.main (F := Bits))) ⟨m, fun _ => 0, g⟩ (fun r => (∀ c : Dev Cert.WgPgKernel.nD,
      r.2.mem ((c.tc : Thread Cert.WgPgKernel.nD Cert.WgPgKernel.τ).loc Cert.WgPgKernel.main_arg0) = m ((c.tc : Thread Cert.WgPgKernel.nD Cert.WgPgKernel.τ).loc Cert.WgPgKernel.main_arg0)
      ∧ r.2.mem ((c.tc : Thread Cert.WgPgKernel.nD Cert.WgPgKernel.τ).loc Cert.WgPgKernel.main_arg1) = m ((c.tc : Thread Cert.WgPgKernel.nD Cert.WgPgKernel.τ).loc Cert.WgPgKernel.main_arg1)
      ∧ r.2.mem ((c.tc : Thread Cert.WgPgKernel.nD Cert.WgPgKernel.τ).loc Cert.WgPgKernel.main_arg2) = m ((c.tc : Thread Cert.WgPgKernel.nD Cert.WgPgKernel.τ).loc Cert.WgPgKernel.main_arg2))
      ∧ r.2.sem = fun _ => 0)

def quiescent_WgPgKernelIdeal [hWgPgKernelIdeal : Cert.WgPgKernelIdeal.Facts] : Prop :=
  ∀ (m : (ℓ : Loc Cert.WgPgKernelIdeal.nD Cert.WgPgKernelIdeal.τ Cert.WgPgKernelIdeal.sig) → Buf (Elt Ideal) ℓ) (g : Dev Cert.WgPgKernelIdeal.nD → PrngReg), Pre_WgPgKernelIdeal m →
    θ_run (Cert.WgPgKernelIdeal.defs (F := Ideal)) (onTc (τ := Cert.WgPgKernelIdeal.τ) (Cert.WgPgKernelIdeal.main (F := Ideal))) ⟨m, fun _ => 0, g⟩ (fun r => (∀ c : Dev Cert.WgPgKernelIdeal.nD,
      r.2.mem ((c.tc : Thread Cert.WgPgKernelIdeal.nD Cert.WgPgKernelIdeal.τ).loc Cert.WgPgKernelIdeal.main_arg0) = m ((c.tc : Thread Cert.WgPgKernelIdeal.nD Cert.WgPgKernelIdeal.τ).loc Cert.WgPgKernelIdeal.main_arg0)
      ∧ r.2.mem ((c.tc : Thread Cert.WgPgKernelIdeal.nD Cert.WgPgKernelIdeal.τ).loc Cert.WgPgKernelIdeal.main_arg1) = m ((c.tc : Thread Cert.WgPgKernelIdeal.nD Cert.WgPgKernelIdeal.τ).loc Cert.WgPgKernelIdeal.main_arg1)
      ∧ r.2.mem ((c.tc : Thread Cert.WgPgKernelIdeal.nD Cert.WgPgKernelIdeal.τ).loc Cert.WgPgKernelIdeal.main_arg2) = m ((c.tc : Thread Cert.WgPgKernelIdeal.nD Cert.WgPgKernelIdeal.τ).loc Cert.WgPgKernelIdeal.main_arg2))
      ∧ r.2.sem = fun _ => 0)

def quiescent_WgPgReferenceIdeal [hWgPgReferenceIdeal : Cert.WgPgReferenceIdeal.Facts] : Prop :=
  ∀ (m : (ℓ : Loc Cert.WgPgReferenceIdeal.nD Cert.WgPgReferenceIdeal.τ Cert.WgPgReferenceIdeal.sig) → Buf (Elt Ideal) ℓ) (g : Dev Cert.WgPgReferenceIdeal.nD → PrngReg), Pre_WgPgReferenceIdeal m →
    θ_run (Cert.WgPgReferenceIdeal.defs (F := Ideal)) (onTc (τ := Cert.WgPgReferenceIdeal.τ) (Cert.WgPgReferenceIdeal.main (F := Ideal))) ⟨m, fun _ => 0, g⟩ (fun r => (∀ c : Dev Cert.WgPgReferenceIdeal.nD,
      r.2.mem ((c.tc : Thread Cert.WgPgReferenceIdeal.nD Cert.WgPgReferenceIdeal.τ).loc Cert.WgPgReferenceIdeal.main_arg0) = m ((c.tc : Thread Cert.WgPgReferenceIdeal.nD Cert.WgPgReferenceIdeal.τ).loc Cert.WgPgReferenceIdeal.main_arg0)
      ∧ r.2.mem ((c.tc : Thread Cert.WgPgReferenceIdeal.nD Cert.WgPgReferenceIdeal.τ).loc Cert.WgPgReferenceIdeal.main_arg1) = m ((c.tc : Thread Cert.WgPgReferenceIdeal.nD Cert.WgPgReferenceIdeal.τ).loc Cert.WgPgReferenceIdeal.main_arg1)
      ∧ r.2.mem ((c.tc : Thread Cert.WgPgReferenceIdeal.nD Cert.WgPgReferenceIdeal.τ).loc Cert.WgPgReferenceIdeal.main_arg2) = m ((c.tc : Thread Cert.WgPgReferenceIdeal.nD Cert.WgPgReferenceIdeal.τ).loc Cert.WgPgReferenceIdeal.main_arg2))
      ∧ r.2.sem = fun _ => 0)

def quiescent_WgPpKernel [hWgPpKernel : Cert.WgPpKernel.Facts] : Prop :=
  ∀ (m : (ℓ : Loc Cert.WgPpKernel.nD Cert.WgPpKernel.τ Cert.WgPpKernel.sig) → Buf (Elt Bits) ℓ) (g : Dev Cert.WgPpKernel.nD → PrngReg), Pre_WgPpKernel m →
    θ_run (Cert.WgPpKernel.defs (F := Bits)) (onTc (τ := Cert.WgPpKernel.τ) (Cert.WgPpKernel.main (F := Bits))) ⟨m, fun _ => 0, g⟩ (fun r => (∀ c : Dev Cert.WgPpKernel.nD,
      r.2.mem ((c.tc : Thread Cert.WgPpKernel.nD Cert.WgPpKernel.τ).loc Cert.WgPpKernel.main_arg0) = m ((c.tc : Thread Cert.WgPpKernel.nD Cert.WgPpKernel.τ).loc Cert.WgPpKernel.main_arg0)
      ∧ r.2.mem ((c.tc : Thread Cert.WgPpKernel.nD Cert.WgPpKernel.τ).loc Cert.WgPpKernel.main_arg1) = m ((c.tc : Thread Cert.WgPpKernel.nD Cert.WgPpKernel.τ).loc Cert.WgPpKernel.main_arg1))
      ∧ r.2.sem = fun _ => 0)

def quiescent_WgPpKernelIdeal [hWgPpKernelIdeal : Cert.WgPpKernelIdeal.Facts] : Prop :=
  ∀ (m : (ℓ : Loc Cert.WgPpKernelIdeal.nD Cert.WgPpKernelIdeal.τ Cert.WgPpKernelIdeal.sig) → Buf (Elt Ideal) ℓ) (g : Dev Cert.WgPpKernelIdeal.nD → PrngReg), Pre_WgPpKernelIdeal m →
    θ_run (Cert.WgPpKernelIdeal.defs (F := Ideal)) (onTc (τ := Cert.WgPpKernelIdeal.τ) (Cert.WgPpKernelIdeal.main (F := Ideal))) ⟨m, fun _ => 0, g⟩ (fun r => (∀ c : Dev Cert.WgPpKernelIdeal.nD,
      r.2.mem ((c.tc : Thread Cert.WgPpKernelIdeal.nD Cert.WgPpKernelIdeal.τ).loc Cert.WgPpKernelIdeal.main_arg0) = m ((c.tc : Thread Cert.WgPpKernelIdeal.nD Cert.WgPpKernelIdeal.τ).loc Cert.WgPpKernelIdeal.main_arg0)
      ∧ r.2.mem ((c.tc : Thread Cert.WgPpKernelIdeal.nD Cert.WgPpKernelIdeal.τ).loc Cert.WgPpKernelIdeal.main_arg1) = m ((c.tc : Thread Cert.WgPpKernelIdeal.nD Cert.WgPpKernelIdeal.τ).loc Cert.WgPpKernelIdeal.main_arg1))
      ∧ r.2.sem = fun _ => 0)

def quiescent_WgPpReferenceIdeal [hWgPpReferenceIdeal : Cert.WgPpReferenceIdeal.Facts] : Prop :=
  ∀ (m : (ℓ : Loc Cert.WgPpReferenceIdeal.nD Cert.WgPpReferenceIdeal.τ Cert.WgPpReferenceIdeal.sig) → Buf (Elt Ideal) ℓ) (g : Dev Cert.WgPpReferenceIdeal.nD → PrngReg), Pre_WgPpReferenceIdeal m →
    θ_run (Cert.WgPpReferenceIdeal.defs (F := Ideal)) (onTc (τ := Cert.WgPpReferenceIdeal.τ) (Cert.WgPpReferenceIdeal.main (F := Ideal))) ⟨m, fun _ => 0, g⟩ (fun r => (∀ c : Dev Cert.WgPpReferenceIdeal.nD,
      r.2.mem ((c.tc : Thread Cert.WgPpReferenceIdeal.nD Cert.WgPpReferenceIdeal.τ).loc Cert.WgPpReferenceIdeal.main_arg0) = m ((c.tc : Thread Cert.WgPpReferenceIdeal.nD Cert.WgPpReferenceIdeal.τ).loc Cert.WgPpReferenceIdeal.main_arg0)
      ∧ r.2.mem ((c.tc : Thread Cert.WgPpReferenceIdeal.nD Cert.WgPpReferenceIdeal.τ).loc Cert.WgPpReferenceIdeal.main_arg1) = m ((c.tc : Thread Cert.WgPpReferenceIdeal.nD Cert.WgPpReferenceIdeal.τ).loc Cert.WgPpReferenceIdeal.main_arg1))
      ∧ r.2.sem = fun _ => 0)

def quiescent_AdamInKernel [hAdamInKernel : Cert.AdamInKernel.Facts] : Prop :=
  ∀ (m : (ℓ : Loc Cert.AdamInKernel.nD Cert.AdamInKernel.τ Cert.AdamInKernel.sig) → Buf (Elt Bits) ℓ) (g : Dev Cert.AdamInKernel.nD → PrngReg), Pre_AdamInKernel m →
    θ_run (Cert.AdamInKernel.defs (F := Bits)) (onTc (τ := Cert.AdamInKernel.τ) (Cert.AdamInKernel.main (F := Bits))) ⟨m, fun _ => 0, g⟩ (fun r => (∀ c : Dev Cert.AdamInKernel.nD,
      r.2.mem ((c.tc : Thread Cert.AdamInKernel.nD Cert.AdamInKernel.τ).loc Cert.AdamInKernel.main_arg0) = m ((c.tc : Thread Cert.AdamInKernel.nD Cert.AdamInKernel.τ).loc Cert.AdamInKernel.main_arg0)
      ∧ r.2.mem ((c.tc : Thread Cert.AdamInKernel.nD Cert.AdamInKernel.τ).loc Cert.AdamInKernel.main_arg1) = m ((c.tc : Thread Cert.AdamInKernel.nD Cert.AdamInKernel.τ).loc Cert.AdamInKernel.main_arg1)
      ∧ r.2.mem ((c.tc : Thread Cert.AdamInKernel.nD Cert.AdamInKernel.τ).loc Cert.AdamInKernel.main_arg2) = m ((c.tc : Thread Cert.AdamInKernel.nD Cert.AdamInKernel.τ).loc Cert.AdamInKernel.main_arg2)
      ∧ r.2.mem ((c.tc : Thread Cert.AdamInKernel.nD Cert.AdamInKernel.τ).loc Cert.AdamInKernel.main_arg3) = m ((c.tc : Thread Cert.AdamInKernel.nD Cert.AdamInKernel.τ).loc Cert.AdamInKernel.main_arg3)
      ∧ r.2.mem ((c.tc : Thread Cert.AdamInKernel.nD Cert.AdamInKernel.τ).loc Cert.AdamInKernel.main_arg4) = m ((c.tc : Thread Cert.AdamInKernel.nD Cert.AdamInKernel.τ).loc Cert.AdamInKernel.main_arg4))
      ∧ r.2.sem = fun _ => 0)

def quiescent_AdamInKernelIdeal [hAdamInKernelIdeal : Cert.AdamInKernelIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg), Pre_AdamInKernelIdeal m →
    θ_run (Cert.AdamInKernelIdeal.defs (F := Ideal)) (onTc (τ := Cert.AdamInKernelIdeal.τ) (Cert.AdamInKernelIdeal.main (F := Ideal))) ⟨m, fun _ => 0, g⟩ (fun r => (∀ c : Dev Cert.AdamInKernelIdeal.nD,
      r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
      ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamGluKernel [hAdamGluKernel : Cert.AdamGluKernel.Facts] : Prop :=
  ∀ (m : (ℓ : Loc Cert.AdamGluKernel.nD Cert.AdamGluKernel.τ Cert.AdamGluKernel.sig) → Buf (Elt Bits) ℓ) (g : Dev Cert.AdamGluKernel.nD → PrngReg), Pre_AdamGluKernel m →
    θ_run (Cert.AdamGluKernel.defs (F := Bits)) (onTc (τ := Cert.AdamGluKernel.τ) (Cert.AdamGluKernel.main (F := Bits))) ⟨m, fun _ => 0, g⟩ (fun r => (∀ c : Dev Cert.AdamGluKernel.nD,
      r.2.mem ((c.tc : Thread Cert.AdamGluKernel.nD Cert.AdamGluKernel.τ).loc Cert.AdamGluKernel.main_arg0) = m ((c.tc : Thread Cert.AdamGluKernel.nD Cert.AdamGluKernel.τ).loc Cert.AdamGluKernel.main_arg0)
      ∧ r.2.mem ((c.tc : Thread Cert.AdamGluKernel.nD Cert.AdamGluKernel.τ).loc Cert.AdamGluKernel.main_arg1) = m ((c.tc : Thread Cert.AdamGluKernel.nD Cert.AdamGluKernel.τ).loc Cert.AdamGluKernel.main_arg1)
      ∧ r.2.mem ((c.tc : Thread Cert.AdamGluKernel.nD Cert.AdamGluKernel.τ).loc Cert.AdamGluKernel.main_arg2) = m ((c.tc : Thread Cert.AdamGluKernel.nD Cert.AdamGluKernel.τ).loc Cert.AdamGluKernel.main_arg2)
      ∧ r.2.mem ((c.tc : Thread Cert.AdamGluKernel.nD Cert.AdamGluKernel.τ).loc Cert.AdamGluKernel.main_arg3) = m ((c.tc : Thread Cert.AdamGluKernel.nD Cert.AdamGluKernel.τ).loc Cert.AdamGluKernel.main_arg3)
      ∧ r.2.mem ((c.tc : Thread Cert.AdamGluKernel.nD Cert.AdamGluKernel.τ).loc Cert.AdamGluKernel.main_arg4) = m ((c.tc : Thread Cert.AdamGluKernel.nD Cert.AdamGluKernel.τ).loc Cert.AdamGluKernel.main_arg4))
      ∧ r.2.sem = fun _ => 0)

def quiescent_AdamGluKernelIdeal [hAdamGluKernelIdeal : Cert.AdamGluKernelIdeal.Facts] : Prop :=
  ∀ (m : (ℓ : Loc Cert.AdamGluKernelIdeal.nD Cert.AdamGluKernelIdeal.τ Cert.AdamGluKernelIdeal.sig) → Buf (Elt Ideal) ℓ) (g : Dev Cert.AdamGluKernelIdeal.nD → PrngReg), Pre_AdamGluKernelIdeal m →
    θ_run (Cert.AdamGluKernelIdeal.defs (F := Ideal)) (onTc (τ := Cert.AdamGluKernelIdeal.τ) (Cert.AdamGluKernelIdeal.main (F := Ideal))) ⟨m, fun _ => 0, g⟩ (fun r => (∀ c : Dev Cert.AdamGluKernelIdeal.nD,
      r.2.mem ((c.tc : Thread Cert.AdamGluKernelIdeal.nD Cert.AdamGluKernelIdeal.τ).loc Cert.AdamGluKernelIdeal.main_arg0) = m ((c.tc : Thread Cert.AdamGluKernelIdeal.nD Cert.AdamGluKernelIdeal.τ).loc Cert.AdamGluKernelIdeal.main_arg0)
      ∧ r.2.mem ((c.tc : Thread Cert.AdamGluKernelIdeal.nD Cert.AdamGluKernelIdeal.τ).loc Cert.AdamGluKernelIdeal.main_arg1) = m ((c.tc : Thread Cert.AdamGluKernelIdeal.nD Cert.AdamGluKernelIdeal.τ).loc Cert.AdamGluKernelIdeal.main_arg1)
      ∧ r.2.mem ((c.tc : Thread Cert.AdamGluKernelIdeal.nD Cert.AdamGluKernelIdeal.τ).loc Cert.AdamGluKernelIdeal.main_arg2) = m ((c.tc : Thread Cert.AdamGluKernelIdeal.nD Cert.AdamGluKernelIdeal.τ).loc Cert.AdamGluKernelIdeal.main_arg2)
      ∧ r.2.mem ((c.tc : Thread Cert.AdamGluKernelIdeal.nD Cert.AdamGluKernelIdeal.τ).loc Cert.AdamGluKernelIdeal.main_arg3) = m ((c.tc : Thread Cert.AdamGluKernelIdeal.nD Cert.AdamGluKernelIdeal.τ).loc Cert.AdamGluKernelIdeal.main_arg3)
      ∧ r.2.mem ((c.tc : Thread Cert.AdamGluKernelIdeal.nD Cert.AdamGluKernelIdeal.τ).loc Cert.AdamGluKernelIdeal.main_arg4) = m ((c.tc : Thread Cert.AdamGluKernelIdeal.nD Cert.AdamGluKernelIdeal.τ).loc Cert.AdamGluKernelIdeal.main_arg4))
      ∧ r.2.sem = fun _ => 0)

def quiescent_AdamGluReferenceIdeal [hAdamGluReferenceIdeal : Cert.AdamGluReferenceIdeal.Facts] : Prop :=
  ∀ (m : (ℓ : Loc Cert.AdamGluReferenceIdeal.nD Cert.AdamGluReferenceIdeal.τ Cert.AdamGluReferenceIdeal.sig) → Buf (Elt Ideal) ℓ) (g : Dev Cert.AdamGluReferenceIdeal.nD → PrngReg), Pre_AdamGluReferenceIdeal m →
    θ_run (Cert.AdamGluReferenceIdeal.defs (F := Ideal)) (onTc (τ := Cert.AdamGluReferenceIdeal.τ) (Cert.AdamGluReferenceIdeal.main (F := Ideal))) ⟨m, fun _ => 0, g⟩ (fun r => (∀ c : Dev Cert.AdamGluReferenceIdeal.nD,
      r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3)
      ∧ r.2.mem ((c.tc : Thread Cert.AdamGluReferenceIdeal.nD Cert.AdamGluReferenceIdeal.τ).loc Cert.AdamGluReferenceIdeal.main_arg4) = m ((c.tc : Thread Cert.AdamGluReferenceIdeal.nD Cert.AdamGluReferenceIdeal.τ).loc Cert.AdamGluReferenceIdeal.main_arg4))
      ∧ r.2.sem = fun _ => 0)

def quiescent_AdamBranchKernel [hAdamBranchKernel : Cert.AdamBranchKernel.Facts] : Prop :=
  ∀ (m : (ℓ : Loc Cert.AdamBranchKernel.nD Cert.AdamBranchKernel.τ Cert.AdamBranchKernel.sig) → Buf (Elt Bits) ℓ) (g : Dev Cert.AdamBranchKernel.nD → PrngReg), Pre_AdamBranchKernel m →
    θ_run (Cert.AdamBranchKernel.defs (F := Bits)) (onTc (τ := Cert.AdamBranchKernel.τ) (Cert.AdamBranchKernel.main (F := Bits))) ⟨m, fun _ => 0, g⟩ (fun r => (∀ c : Dev Cert.AdamBranchKernel.nD,
      r.2.mem ((c.tc : Thread Cert.AdamBranchKernel.nD Cert.AdamBranchKernel.τ).loc Cert.AdamBranchKernel.main_arg0) = m ((c.tc : Thread Cert.AdamBranchKernel.nD Cert.AdamBranchKernel.τ).loc Cert.AdamBranchKernel.main_arg0)
      ∧ r.2.mem ((c.tc : Thread Cert.AdamBranchKernel.nD Cert.AdamBranchKernel.τ).loc Cert.AdamBranchKernel.main_arg1) = m ((c.tc : Thread Cert.AdamBranchKernel.nD Cert.AdamBranchKernel.τ).loc Cert.AdamBranchKernel.main_arg1)
      ∧ r.2.mem ((c.tc : Thread Cert.AdamBranchKernel.nD Cert.AdamBranchKernel.τ).loc Cert.AdamBranchKernel.main_arg2) = m ((c.tc : Thread Cert.AdamBranchKernel.nD Cert.AdamBranchKernel.τ).loc Cert.AdamBranchKernel.main_arg2)
      ∧ r.2.mem ((c.tc : Thread Cert.AdamBranchKernel.nD Cert.AdamBranchKernel.τ).loc Cert.AdamBranchKernel.main_arg3) = m ((c.tc : Thread Cert.AdamBranchKernel.nD Cert.AdamBranchKernel.τ).loc Cert.AdamBranchKernel.main_arg3)
      ∧ r.2.mem ((c.tc : Thread Cert.AdamBranchKernel.nD Cert.AdamBranchKernel.τ).loc Cert.AdamBranchKernel.main_arg4) = m ((c.tc : Thread Cert.AdamBranchKernel.nD Cert.AdamBranchKernel.τ).loc Cert.AdamBranchKernel.main_arg4))
      ∧ r.2.sem = fun _ => 0)

def quiescent_AdamBranchKernelIdeal [hAdamBranchKernelIdeal : Cert.AdamBranchKernelIdeal.Facts] : Prop :=
  ∀ (m : (ℓ : Loc Cert.AdamBranchKernelIdeal.nD Cert.AdamBranchKernelIdeal.τ Cert.AdamBranchKernelIdeal.sig) → Buf (Elt Ideal) ℓ) (g : Dev Cert.AdamBranchKernelIdeal.nD → PrngReg), Pre_AdamBranchKernelIdeal m →
    θ_run (Cert.AdamBranchKernelIdeal.defs (F := Ideal)) (onTc (τ := Cert.AdamBranchKernelIdeal.τ) (Cert.AdamBranchKernelIdeal.main (F := Ideal))) ⟨m, fun _ => 0, g⟩ (fun r => (∀ c : Dev Cert.AdamBranchKernelIdeal.nD,
      r.2.mem ((c.tc : Thread Cert.AdamBranchKernelIdeal.nD Cert.AdamBranchKernelIdeal.τ).loc Cert.AdamBranchKernelIdeal.main_arg0) = m ((c.tc : Thread Cert.AdamBranchKernelIdeal.nD Cert.AdamBranchKernelIdeal.τ).loc Cert.AdamBranchKernelIdeal.main_arg0)
      ∧ r.2.mem ((c.tc : Thread Cert.AdamBranchKernelIdeal.nD Cert.AdamBranchKernelIdeal.τ).loc Cert.AdamBranchKernelIdeal.main_arg1) = m ((c.tc : Thread Cert.AdamBranchKernelIdeal.nD Cert.AdamBranchKernelIdeal.τ).loc Cert.AdamBranchKernelIdeal.main_arg1)
      ∧ r.2.mem ((c.tc : Thread Cert.AdamBranchKernelIdeal.nD Cert.AdamBranchKernelIdeal.τ).loc Cert.AdamBranchKernelIdeal.main_arg2) = m ((c.tc : Thread Cert.AdamBranchKernelIdeal.nD Cert.AdamBranchKernelIdeal.τ).loc Cert.AdamBranchKernelIdeal.main_arg2)
      ∧ r.2.mem ((c.tc : Thread Cert.AdamBranchKernelIdeal.nD Cert.AdamBranchKernelIdeal.τ).loc Cert.AdamBranchKernelIdeal.main_arg3) = m ((c.tc : Thread Cert.AdamBranchKernelIdeal.nD Cert.AdamBranchKernelIdeal.τ).loc Cert.AdamBranchKernelIdeal.main_arg3)
      ∧ r.2.mem ((c.tc : Thread Cert.AdamBranchKernelIdeal.nD Cert.AdamBranchKernelIdeal.τ).loc Cert.AdamBranchKernelIdeal.main_arg4) = m ((c.tc : Thread Cert.AdamBranchKernelIdeal.nD Cert.AdamBranchKernelIdeal.τ).loc Cert.AdamBranchKernelIdeal.main_arg4))
      ∧ r.2.sem = fun _ => 0)

def quiescent_AdamBranchReferenceIdeal [hAdamBranchReferenceIdeal : Cert.AdamBranchReferenceIdeal.Facts] : Prop :=
  ∀ (m : (ℓ : Loc Cert.AdamBranchReferenceIdeal.nD Cert.AdamBranchReferenceIdeal.τ Cert.AdamBranchReferenceIdeal.sig) → Buf (Elt Ideal) ℓ) (g : Dev Cert.AdamBranchReferenceIdeal.nD → PrngReg), Pre_AdamBranchReferenceIdeal m →
    θ_run (Cert.AdamBranchReferenceIdeal.defs (F := Ideal)) (onTc (τ := Cert.AdamBranchReferenceIdeal.τ) (Cert.AdamBranchReferenceIdeal.main (F := Ideal))) ⟨m, fun _ => 0, g⟩ (fun r => (∀ c : Dev Cert.AdamBranchReferenceIdeal.nD,
      r.2.mem ((c.tc : Thread Cert.AdamBranchReferenceIdeal.nD Cert.AdamBranchReferenceIdeal.τ).loc Cert.AdamBranchReferenceIdeal.main_arg0) = m ((c.tc : Thread Cert.AdamBranchReferenceIdeal.nD Cert.AdamBranchReferenceIdeal.τ).loc Cert.AdamBranchReferenceIdeal.main_arg0)
      ∧ r.2.mem ((c.tc : Thread Cert.AdamBranchReferenceIdeal.nD Cert.AdamBranchReferenceIdeal.τ).loc Cert.AdamBranchReferenceIdeal.main_arg1) = m ((c.tc : Thread Cert.AdamBranchReferenceIdeal.nD Cert.AdamBranchReferenceIdeal.τ).loc Cert.AdamBranchReferenceIdeal.main_arg1)
      ∧ r.2.mem ((c.tc : Thread Cert.AdamBranchReferenceIdeal.nD Cert.AdamBranchReferenceIdeal.τ).loc Cert.AdamBranchReferenceIdeal.main_arg2) = m ((c.tc : Thread Cert.AdamBranchReferenceIdeal.nD Cert.AdamBranchReferenceIdeal.τ).loc Cert.AdamBranchReferenceIdeal.main_arg2)
      ∧ r.2.mem ((c.tc : Thread Cert.AdamBranchReferenceIdeal.nD Cert.AdamBranchReferenceIdeal.τ).loc Cert.AdamBranchReferenceIdeal.main_arg3) = m ((c.tc : Thread Cert.AdamBranchReferenceIdeal.nD Cert.AdamBranchReferenceIdeal.τ).loc Cert.AdamBranchReferenceIdeal.main_arg3)
      ∧ r.2.mem ((c.tc : Thread Cert.AdamBranchReferenceIdeal.nD Cert.AdamBranchReferenceIdeal.τ).loc Cert.AdamBranchReferenceIdeal.main_arg4) = m ((c.tc : Thread Cert.AdamBranchReferenceIdeal.nD Cert.AdamBranchReferenceIdeal.τ).loc Cert.AdamBranchReferenceIdeal.main_arg4))
      ∧ r.2.sem = fun _ => 0)

def quiescent_AdamOutKernel [hAdamOutKernel : Cert.AdamOutKernel.Facts] : Prop :=
  ∀ (m : (ℓ : Loc Cert.AdamOutKernel.nD Cert.AdamOutKernel.τ Cert.AdamOutKernel.sig) → Buf (Elt Bits) ℓ) (g : Dev Cert.AdamOutKernel.nD → PrngReg), Pre_AdamOutKernel m →
    θ_run (Cert.AdamOutKernel.defs (F := Bits)) (onTc (τ := Cert.AdamOutKernel.τ) (Cert.AdamOutKernel.main (F := Bits))) ⟨m, fun _ => 0, g⟩ (fun r => (∀ c : Dev Cert.AdamOutKernel.nD,
      r.2.mem ((c.tc : Thread Cert.AdamOutKernel.nD Cert.AdamOutKernel.τ).loc Cert.AdamOutKernel.main_arg0) = m ((c.tc : Thread Cert.AdamOutKernel.nD Cert.AdamOutKernel.τ).loc Cert.AdamOutKernel.main_arg0)
      ∧ r.2.mem ((c.tc : Thread Cert.AdamOutKernel.nD Cert.AdamOutKernel.τ).loc Cert.AdamOutKernel.main_arg1) = m ((c.tc : Thread Cert.AdamOutKernel.nD Cert.AdamOutKernel.τ).loc Cert.AdamOutKernel.main_arg1)
      ∧ r.2.mem ((c.tc : Thread Cert.AdamOutKernel.nD Cert.AdamOutKernel.τ).loc Cert.AdamOutKernel.main_arg2) = m ((c.tc : Thread Cert.AdamOutKernel.nD Cert.AdamOutKernel.τ).loc Cert.AdamOutKernel.main_arg2)
      ∧ r.2.mem ((c.tc : Thread Cert.AdamOutKernel.nD Cert.AdamOutKernel.τ).loc Cert.AdamOutKernel.main_arg3) = m ((c.tc : Thread Cert.AdamOutKernel.nD Cert.AdamOutKernel.τ).loc Cert.AdamOutKernel.main_arg3)
      ∧ r.2.mem ((c.tc : Thread Cert.AdamOutKernel.nD Cert.AdamOutKernel.τ).loc Cert.AdamOutKernel.main_arg4) = m ((c.tc : Thread Cert.AdamOutKernel.nD Cert.AdamOutKernel.τ).loc Cert.AdamOutKernel.main_arg4))
      ∧ r.2.sem = fun _ => 0)

def quiescent_AdamOutKernelIdeal [hAdamOutKernelIdeal : Cert.AdamOutKernelIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg), Pre_AdamOutKernelIdeal m →
    θ_run (Cert.AdamOutKernelIdeal.defs (F := Ideal)) (onTc (τ := Cert.AdamOutKernelIdeal.τ) (Cert.AdamOutKernelIdeal.main (F := Ideal))) ⟨m, fun _ => 0, g⟩ (fun r => (∀ c : Dev Cert.AdamOutKernelIdeal.nD,
      r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
      ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4))
      ∧ r.2.sem = fun _ => 0)

def quiescent_AdamOutReferenceIdeal [hAdamOutReferenceIdeal : Cert.AdamOutReferenceIdeal.Facts] : Prop :=
  ∀ (m : (ℓ : Loc Cert.AdamOutReferenceIdeal.nD Cert.AdamOutReferenceIdeal.τ Cert.AdamOutReferenceIdeal.sig) → Buf (Elt Ideal) ℓ) (g : Dev Cert.AdamOutReferenceIdeal.nD → PrngReg), Pre_AdamOutReferenceIdeal m →
    θ_run (Cert.AdamOutReferenceIdeal.defs (F := Ideal)) (onTc (τ := Cert.AdamOutReferenceIdeal.τ) (Cert.AdamOutReferenceIdeal.main (F := Ideal))) ⟨m, fun _ => 0, g⟩ (fun r => (∀ c : Dev Cert.AdamOutReferenceIdeal.nD,
      r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4))
      ∧ r.2.sem = fun _ => 0)

def quiescent_AdamUpKernel [hAdamUpKernel : Cert.AdamUpKernel.Facts] : Prop :=
  ∀ (m : (ℓ : Loc Cert.AdamUpKernel.nD Cert.AdamUpKernel.τ Cert.AdamUpKernel.sig) → Buf (Elt Bits) ℓ) (g : Dev Cert.AdamUpKernel.nD → PrngReg), Pre_AdamUpKernel m →
    θ_run (Cert.AdamUpKernel.defs (F := Bits)) (onTc (τ := Cert.AdamUpKernel.τ) (Cert.AdamUpKernel.main (F := Bits))) ⟨m, fun _ => 0, g⟩ (fun r => (∀ c : Dev Cert.AdamUpKernel.nD,
      r.2.mem ((c.tc : Thread Cert.AdamUpKernel.nD Cert.AdamUpKernel.τ).loc Cert.AdamUpKernel.main_arg0) = m ((c.tc : Thread Cert.AdamUpKernel.nD Cert.AdamUpKernel.τ).loc Cert.AdamUpKernel.main_arg0)
      ∧ r.2.mem ((c.tc : Thread Cert.AdamUpKernel.nD Cert.AdamUpKernel.τ).loc Cert.AdamUpKernel.main_arg1) = m ((c.tc : Thread Cert.AdamUpKernel.nD Cert.AdamUpKernel.τ).loc Cert.AdamUpKernel.main_arg1)
      ∧ r.2.mem ((c.tc : Thread Cert.AdamUpKernel.nD Cert.AdamUpKernel.τ).loc Cert.AdamUpKernel.main_arg2) = m ((c.tc : Thread Cert.AdamUpKernel.nD Cert.AdamUpKernel.τ).loc Cert.AdamUpKernel.main_arg2)
      ∧ r.2.mem ((c.tc : Thread Cert.AdamUpKernel.nD Cert.AdamUpKernel.τ).loc Cert.AdamUpKernel.main_arg3) = m ((c.tc : Thread Cert.AdamUpKernel.nD Cert.AdamUpKernel.τ).loc Cert.AdamUpKernel.main_arg3)
      ∧ r.2.mem ((c.tc : Thread Cert.AdamUpKernel.nD Cert.AdamUpKernel.τ).loc Cert.AdamUpKernel.main_arg4) = m ((c.tc : Thread Cert.AdamUpKernel.nD Cert.AdamUpKernel.τ).loc Cert.AdamUpKernel.main_arg4))
      ∧ r.2.sem = fun _ => 0)

def quiescent_AdamUpKernelIdeal [hAdamUpKernelIdeal : Cert.AdamUpKernelIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg), Pre_AdamUpKernelIdeal m →
    θ_run (Cert.AdamUpKernelIdeal.defs (F := Ideal)) (onTc (τ := Cert.AdamUpKernelIdeal.τ) (Cert.AdamUpKernelIdeal.main (F := Ideal))) ⟨m, fun _ => 0, g⟩ (fun r => (∀ c : Dev Cert.AdamUpKernelIdeal.nD,
      r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
      ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
      ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
      ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3)
      ∧ r.2.mem ((c.tc : Thread Cert.AdamUpKernelIdeal.nD Cert.AdamUpKernelIdeal.τ).loc Cert.AdamUpKernelIdeal.main_arg4) = m ((c.tc : Thread Cert.AdamUpKernelIdeal.nD Cert.AdamUpKernelIdeal.τ).loc Cert.AdamUpKernelIdeal.main_arg4))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4))
      ∧ r.2.sem = fun _ => 0)

def quiescent_AdamDownKernel [hAdamDownKernel : Cert.AdamDownKernel.Facts] : Prop :=
  ∀ (m : (ℓ : Loc Cert.AdamDownKernel.nD Cert.AdamDownKernel.τ Cert.AdamDownKernel.sig) → Buf (Elt Bits) ℓ) (g : Dev Cert.AdamDownKernel.nD → PrngReg), Pre_AdamDownKernel m →
    θ_run (Cert.AdamDownKernel.defs (F := Bits)) (onTc (τ := Cert.AdamDownKernel.τ) (Cert.AdamDownKernel.main (F := Bits))) ⟨m, fun _ => 0, g⟩ (fun r => (∀ c : Dev Cert.AdamDownKernel.nD,
      r.2.mem ((c.tc : Thread Cert.AdamDownKernel.nD Cert.AdamDownKernel.τ).loc Cert.AdamDownKernel.main_arg0) = m ((c.tc : Thread Cert.AdamDownKernel.nD Cert.AdamDownKernel.τ).loc Cert.AdamDownKernel.main_arg0)
      ∧ r.2.mem ((c.tc : Thread Cert.AdamDownKernel.nD Cert.AdamDownKernel.τ).loc Cert.AdamDownKernel.main_arg1) = m ((c.tc : Thread Cert.AdamDownKernel.nD Cert.AdamDownKernel.τ).loc Cert.AdamDownKernel.main_arg1)
      ∧ r.2.mem ((c.tc : Thread Cert.AdamDownKernel.nD Cert.AdamDownKernel.τ).loc Cert.AdamDownKernel.main_arg2) = m ((c.tc : Thread Cert.AdamDownKernel.nD Cert.AdamDownKernel.τ).loc Cert.AdamDownKernel.main_arg2)
      ∧ r.2.mem ((c.tc : Thread Cert.AdamDownKernel.nD Cert.AdamDownKernel.τ).loc Cert.AdamDownKernel.main_arg3) = m ((c.tc : Thread Cert.AdamDownKernel.nD Cert.AdamDownKernel.τ).loc Cert.AdamDownKernel.main_arg3)
      ∧ r.2.mem ((c.tc : Thread Cert.AdamDownKernel.nD Cert.AdamDownKernel.τ).loc Cert.AdamDownKernel.main_arg4) = m ((c.tc : Thread Cert.AdamDownKernel.nD Cert.AdamDownKernel.τ).loc Cert.AdamDownKernel.main_arg4))
      ∧ r.2.sem = fun _ => 0)

def quiescent_AdamDownKernelIdeal [hAdamDownKernelIdeal : Cert.AdamDownKernelIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg), Pre_AdamDownKernelIdeal m →
    θ_run (Cert.AdamDownKernelIdeal.defs (F := Ideal)) (onTc (τ := Cert.AdamDownKernelIdeal.τ) (Cert.AdamDownKernelIdeal.main (F := Ideal))) ⟨m, fun _ => 0, g⟩ (fun r => (∀ c : Dev Cert.AdamDownKernelIdeal.nD,
      r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
      ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
      ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
      ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3)
      ∧ r.2.mem ((c.tc : Thread Cert.AdamDownKernelIdeal.nD Cert.AdamDownKernelIdeal.τ).loc Cert.AdamDownKernelIdeal.main_arg4) = m ((c.tc : Thread Cert.AdamDownKernelIdeal.nD Cert.AdamDownKernelIdeal.τ).loc Cert.AdamDownKernelIdeal.main_arg4))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4))
      ∧ r.2.sem = fun _ => 0)

def quiescent_AdamProjKernel [hAdamProjKernel : Cert.AdamProjKernel.Facts] : Prop :=
  ∀ (m : (ℓ : Loc Cert.AdamProjKernel.nD Cert.AdamProjKernel.τ Cert.AdamProjKernel.sig) → Buf (Elt Bits) ℓ) (g : Dev Cert.AdamProjKernel.nD → PrngReg), Pre_AdamProjKernel m →
    θ_run (Cert.AdamProjKernel.defs (F := Bits)) (onTc (τ := Cert.AdamProjKernel.τ) (Cert.AdamProjKernel.main (F := Bits))) ⟨m, fun _ => 0, g⟩ (fun r => (∀ c : Dev Cert.AdamProjKernel.nD,
      r.2.mem ((c.tc : Thread Cert.AdamProjKernel.nD Cert.AdamProjKernel.τ).loc Cert.AdamProjKernel.main_arg0) = m ((c.tc : Thread Cert.AdamProjKernel.nD Cert.AdamProjKernel.τ).loc Cert.AdamProjKernel.main_arg0)
      ∧ r.2.mem ((c.tc : Thread Cert.AdamProjKernel.nD Cert.AdamProjKernel.τ).loc Cert.AdamProjKernel.main_arg1) = m ((c.tc : Thread Cert.AdamProjKernel.nD Cert.AdamProjKernel.τ).loc Cert.AdamProjKernel.main_arg1)
      ∧ r.2.mem ((c.tc : Thread Cert.AdamProjKernel.nD Cert.AdamProjKernel.τ).loc Cert.AdamProjKernel.main_arg2) = m ((c.tc : Thread Cert.AdamProjKernel.nD Cert.AdamProjKernel.τ).loc Cert.AdamProjKernel.main_arg2)
      ∧ r.2.mem ((c.tc : Thread Cert.AdamProjKernel.nD Cert.AdamProjKernel.τ).loc Cert.AdamProjKernel.main_arg3) = m ((c.tc : Thread Cert.AdamProjKernel.nD Cert.AdamProjKernel.τ).loc Cert.AdamProjKernel.main_arg3)
      ∧ r.2.mem ((c.tc : Thread Cert.AdamProjKernel.nD Cert.AdamProjKernel.τ).loc Cert.AdamProjKernel.main_arg4) = m ((c.tc : Thread Cert.AdamProjKernel.nD Cert.AdamProjKernel.τ).loc Cert.AdamProjKernel.main_arg4))
      ∧ r.2.sem = fun _ => 0)

def quiescent_AdamProjKernelIdeal [hAdamProjKernelIdeal : Cert.AdamProjKernelIdeal.Facts] : Prop :=
  ∀ (m : (ℓ : Loc Cert.AdamProjKernelIdeal.nD Cert.AdamProjKernelIdeal.τ Cert.AdamProjKernelIdeal.sig) → Buf (Elt Ideal) ℓ) (g : Dev Cert.AdamProjKernelIdeal.nD → PrngReg), Pre_AdamProjKernelIdeal m →
    θ_run (Cert.AdamProjKernelIdeal.defs (F := Ideal)) (onTc (τ := Cert.AdamProjKernelIdeal.τ) (Cert.AdamProjKernelIdeal.main (F := Ideal))) ⟨m, fun _ => 0, g⟩ (fun r => (∀ c : Dev Cert.AdamProjKernelIdeal.nD,
      r.2.mem ((c.tc : Thread Cert.AdamProjKernelIdeal.nD Cert.AdamProjKernelIdeal.τ).loc Cert.AdamProjKernelIdeal.main_arg0) = m ((c.tc : Thread Cert.AdamProjKernelIdeal.nD Cert.AdamProjKernelIdeal.τ).loc Cert.AdamProjKernelIdeal.main_arg0)
      ∧ r.2.mem ((c.tc : Thread Cert.AdamProjKernelIdeal.nD Cert.AdamProjKernelIdeal.τ).loc Cert.AdamProjKernelIdeal.main_arg1) = m ((c.tc : Thread Cert.AdamProjKernelIdeal.nD Cert.AdamProjKernelIdeal.τ).loc Cert.AdamProjKernelIdeal.main_arg1)
      ∧ r.2.mem ((c.tc : Thread Cert.AdamProjKernelIdeal.nD Cert.AdamProjKernelIdeal.τ).loc Cert.AdamProjKernelIdeal.main_arg2) = m ((c.tc : Thread Cert.AdamProjKernelIdeal.nD Cert.AdamProjKernelIdeal.τ).loc Cert.AdamProjKernelIdeal.main_arg2)
      ∧ r.2.mem ((c.tc : Thread Cert.AdamProjKernelIdeal.nD Cert.AdamProjKernelIdeal.τ).loc Cert.AdamProjKernelIdeal.main_arg3) = m ((c.tc : Thread Cert.AdamProjKernelIdeal.nD Cert.AdamProjKernelIdeal.τ).loc Cert.AdamProjKernelIdeal.main_arg3)
      ∧ r.2.mem ((c.tc : Thread Cert.AdamProjKernelIdeal.nD Cert.AdamProjKernelIdeal.τ).loc Cert.AdamProjKernelIdeal.main_arg4) = m ((c.tc : Thread Cert.AdamProjKernelIdeal.nD Cert.AdamProjKernelIdeal.τ).loc Cert.AdamProjKernelIdeal.main_arg4))
      ∧ r.2.sem = fun _ => 0)

def quiescent_AdamProjReferenceIdeal [hAdamProjReferenceIdeal : Cert.AdamProjReferenceIdeal.Facts] : Prop :=
  ∀ (m : (ℓ : Loc Cert.AdamProjReferenceIdeal.nD Cert.AdamProjReferenceIdeal.τ Cert.AdamProjReferenceIdeal.sig) → Buf (Elt Ideal) ℓ) (g : Dev Cert.AdamProjReferenceIdeal.nD → PrngReg), Pre_AdamProjReferenceIdeal m →
    θ_run (Cert.AdamProjReferenceIdeal.defs (F := Ideal)) (onTc (τ := Cert.AdamProjReferenceIdeal.τ) (Cert.AdamProjReferenceIdeal.main (F := Ideal))) ⟨m, fun _ => 0, g⟩ (fun r => (∀ c : Dev Cert.AdamProjReferenceIdeal.nD,
      r.2.mem ((c.tc : Thread Cert.AdamProjReferenceIdeal.nD Cert.AdamProjReferenceIdeal.τ).loc Cert.AdamProjReferenceIdeal.main_arg0) = m ((c.tc : Thread Cert.AdamProjReferenceIdeal.nD Cert.AdamProjReferenceIdeal.τ).loc Cert.AdamProjReferenceIdeal.main_arg0)
      ∧ r.2.mem ((c.tc : Thread Cert.AdamProjReferenceIdeal.nD Cert.AdamProjReferenceIdeal.τ).loc Cert.AdamProjReferenceIdeal.main_arg1) = m ((c.tc : Thread Cert.AdamProjReferenceIdeal.nD Cert.AdamProjReferenceIdeal.τ).loc Cert.AdamProjReferenceIdeal.main_arg1)
      ∧ r.2.mem ((c.tc : Thread Cert.AdamProjReferenceIdeal.nD Cert.AdamProjReferenceIdeal.τ).loc Cert.AdamProjReferenceIdeal.main_arg2) = m ((c.tc : Thread Cert.AdamProjReferenceIdeal.nD Cert.AdamProjReferenceIdeal.τ).loc Cert.AdamProjReferenceIdeal.main_arg2)
      ∧ r.2.mem ((c.tc : Thread Cert.AdamProjReferenceIdeal.nD Cert.AdamProjReferenceIdeal.τ).loc Cert.AdamProjReferenceIdeal.main_arg3) = m ((c.tc : Thread Cert.AdamProjReferenceIdeal.nD Cert.AdamProjReferenceIdeal.τ).loc Cert.AdamProjReferenceIdeal.main_arg3)
      ∧ r.2.mem ((c.tc : Thread Cert.AdamProjReferenceIdeal.nD Cert.AdamProjReferenceIdeal.τ).loc Cert.AdamProjReferenceIdeal.main_arg4) = m ((c.tc : Thread Cert.AdamProjReferenceIdeal.nD Cert.AdamProjReferenceIdeal.τ).loc Cert.AdamProjReferenceIdeal.main_arg4))
      ∧ r.2.sem = fun _ => 0)

def quiescent_AdamConvKernel [hAdamConvKernel : Cert.AdamConvKernel.Facts] : Prop :=
  ∀ (m : (ℓ : Loc Cert.AdamConvKernel.nD Cert.AdamConvKernel.τ Cert.AdamConvKernel.sig) → Buf (Elt Bits) ℓ) (g : Dev Cert.AdamConvKernel.nD → PrngReg), Pre_AdamConvKernel m →
    θ_run (Cert.AdamConvKernel.defs (F := Bits)) (onTc (τ := Cert.AdamConvKernel.τ) (Cert.AdamConvKernel.main (F := Bits))) ⟨m, fun _ => 0, g⟩ (fun r => (∀ c : Dev Cert.AdamConvKernel.nD,
      r.2.mem ((c.tc : Thread Cert.AdamConvKernel.nD Cert.AdamConvKernel.τ).loc Cert.AdamConvKernel.main_arg0) = m ((c.tc : Thread Cert.AdamConvKernel.nD Cert.AdamConvKernel.τ).loc Cert.AdamConvKernel.main_arg0)
      ∧ r.2.mem ((c.tc : Thread Cert.AdamConvKernel.nD Cert.AdamConvKernel.τ).loc Cert.AdamConvKernel.main_arg1) = m ((c.tc : Thread Cert.AdamConvKernel.nD Cert.AdamConvKernel.τ).loc Cert.AdamConvKernel.main_arg1)
      ∧ r.2.mem ((c.tc : Thread Cert.AdamConvKernel.nD Cert.AdamConvKernel.τ).loc Cert.AdamConvKernel.main_arg2) = m ((c.tc : Thread Cert.AdamConvKernel.nD Cert.AdamConvKernel.τ).loc Cert.AdamConvKernel.main_arg2)
      ∧ r.2.mem ((c.tc : Thread Cert.AdamConvKernel.nD Cert.AdamConvKernel.τ).loc Cert.AdamConvKernel.main_arg3) = m ((c.tc : Thread Cert.AdamConvKernel.nD Cert.AdamConvKernel.τ).loc Cert.AdamConvKernel.main_arg3)
      ∧ r.2.mem ((c.tc : Thread Cert.AdamConvKernel.nD Cert.AdamConvKernel.τ).loc Cert.AdamConvKernel.main_arg4) = m ((c.tc : Thread Cert.AdamConvKernel.nD Cert.AdamConvKernel.τ).loc Cert.AdamConvKernel.main_arg4))
      ∧ r.2.sem = fun _ => 0)

def quiescent_AdamConvKernelIdeal [hAdamConvKernelIdeal : Cert.AdamConvKernelIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg), Pre_AdamConvKernelIdeal m →
    θ_run (Cert.AdamConvKernelIdeal.defs (F := Ideal)) (onTc (τ := Cert.AdamConvKernelIdeal.τ) (Cert.AdamConvKernelIdeal.main (F := Ideal))) ⟨m, fun _ => 0, g⟩ (fun r => (∀ c : Dev Cert.AdamConvKernelIdeal.nD,
      r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
      ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
      ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
      ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3)
      ∧ r.2.mem ((c.tc : Thread Cert.AdamConvKernelIdeal.nD Cert.AdamConvKernelIdeal.τ).loc Cert.AdamConvKernelIdeal.main_arg4) = m ((c.tc : Thread Cert.AdamConvKernelIdeal.nD Cert.AdamConvKernelIdeal.τ).loc Cert.AdamConvKernelIdeal.main_arg4))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3)
      ∧ r.2.mem ((c.tc : Thread Cert.AdamConvReferenceIdeal.nD Cert.AdamConvReferenceIdeal.τ).loc Cert.AdamConvReferenceIdeal.main_arg4) = m ((c.tc : Thread Cert.AdamConvReferenceIdeal.nD Cert.AdamConvReferenceIdeal.τ).loc Cert.AdamConvReferenceIdeal.main_arg4))
      ∧ r.2.sem = fun _ => 0)

def quiescent_AdamSumKernel [hAdamSumKernel : Cert.AdamSumKernel.Facts] : Prop :=
  ∀ (m : (ℓ : Loc Cert.AdamSumKernel.nD Cert.AdamSumKernel.τ Cert.AdamSumKernel.sig) → Buf (Elt Bits) ℓ) (g : Dev Cert.AdamSumKernel.nD → PrngReg), Pre_AdamSumKernel m →
    θ_run (Cert.AdamSumKernel.defs (F := Bits)) (onTc (τ := Cert.AdamSumKernel.τ) (Cert.AdamSumKernel.main (F := Bits))) ⟨m, fun _ => 0, g⟩ (fun r => (∀ c : Dev Cert.AdamSumKernel.nD,
      r.2.mem ((c.tc : Thread Cert.AdamSumKernel.nD Cert.AdamSumKernel.τ).loc Cert.AdamSumKernel.main_arg0) = m ((c.tc : Thread Cert.AdamSumKernel.nD Cert.AdamSumKernel.τ).loc Cert.AdamSumKernel.main_arg0)
      ∧ r.2.mem ((c.tc : Thread Cert.AdamSumKernel.nD Cert.AdamSumKernel.τ).loc Cert.AdamSumKernel.main_arg1) = m ((c.tc : Thread Cert.AdamSumKernel.nD Cert.AdamSumKernel.τ).loc Cert.AdamSumKernel.main_arg1)
      ∧ r.2.mem ((c.tc : Thread Cert.AdamSumKernel.nD Cert.AdamSumKernel.τ).loc Cert.AdamSumKernel.main_arg2) = m ((c.tc : Thread Cert.AdamSumKernel.nD Cert.AdamSumKernel.τ).loc Cert.AdamSumKernel.main_arg2)
      ∧ r.2.mem ((c.tc : Thread Cert.AdamSumKernel.nD Cert.AdamSumKernel.τ).loc Cert.AdamSumKernel.main_arg3) = m ((c.tc : Thread Cert.AdamSumKernel.nD Cert.AdamSumKernel.τ).loc Cert.AdamSumKernel.main_arg3))
      ∧ r.2.sem = fun _ => 0)

def quiescent_AdamSumKernelIdeal [hAdamSumKernelIdeal : Cert.AdamSumKernelIdeal.Facts] : Prop :=
  ∀ (m : (ℓ : Loc Cert.AdamSumKernelIdeal.nD Cert.AdamSumKernelIdeal.τ Cert.AdamSumKernelIdeal.sig) → Buf (Elt Ideal) ℓ) (g : Dev Cert.AdamSumKernelIdeal.nD → PrngReg), Pre_AdamSumKernelIdeal m →
    θ_run (Cert.AdamSumKernelIdeal.defs (F := Ideal)) (onTc (τ := Cert.AdamSumKernelIdeal.τ) (Cert.AdamSumKernelIdeal.main (F := Ideal))) ⟨m, fun _ => 0, g⟩ (fun r => (∀ c : Dev Cert.AdamSumKernelIdeal.nD,
      r.2.mem ((c.tc : Thread Cert.AdamSumKernelIdeal.nD Cert.AdamSumKernelIdeal.τ).loc Cert.AdamSumKernelIdeal.main_arg0) = m ((c.tc : Thread Cert.AdamSumKernelIdeal.nD Cert.AdamSumKernelIdeal.τ).loc Cert.AdamSumKernelIdeal.main_arg0)
      ∧ r.2.mem ((c.tc : Thread Cert.AdamSumKernelIdeal.nD Cert.AdamSumKernelIdeal.τ).loc Cert.AdamSumKernelIdeal.main_arg1) = m ((c.tc : Thread Cert.AdamSumKernelIdeal.nD Cert.AdamSumKernelIdeal.τ).loc Cert.AdamSumKernelIdeal.main_arg1)
      ∧ r.2.mem ((c.tc : Thread Cert.AdamSumKernelIdeal.nD Cert.AdamSumKernelIdeal.τ).loc Cert.AdamSumKernelIdeal.main_arg2) = m ((c.tc : Thread Cert.AdamSumKernelIdeal.nD Cert.AdamSumKernelIdeal.τ).loc Cert.AdamSumKernelIdeal.main_arg2)
      ∧ r.2.mem ((c.tc : Thread Cert.AdamSumKernelIdeal.nD Cert.AdamSumKernelIdeal.τ).loc Cert.AdamSumKernelIdeal.main_arg3) = m ((c.tc : Thread Cert.AdamSumKernelIdeal.nD Cert.AdamSumKernelIdeal.τ).loc Cert.AdamSumKernelIdeal.main_arg3))
      ∧ r.2.sem = fun _ => 0)

def quiescent_AdamSumReferenceIdeal [hAdamSumReferenceIdeal : Cert.AdamSumReferenceIdeal.Facts] : Prop :=
  ∀ (m : (ℓ : Loc Cert.AdamSumReferenceIdeal.nD Cert.AdamSumReferenceIdeal.τ Cert.AdamSumReferenceIdeal.sig) → Buf (Elt Ideal) ℓ) (g : Dev Cert.AdamSumReferenceIdeal.nD → PrngReg), Pre_AdamSumReferenceIdeal m →
    θ_run (Cert.AdamSumReferenceIdeal.defs (F := Ideal)) (onTc (τ := Cert.AdamSumReferenceIdeal.τ) (Cert.AdamSumReferenceIdeal.main (F := Ideal))) ⟨m, fun _ => 0, g⟩ (fun r => (∀ c : Dev Cert.AdamSumReferenceIdeal.nD,
      r.2.mem ((c.tc : Thread Cert.AdamSumReferenceIdeal.nD Cert.AdamSumReferenceIdeal.τ).loc Cert.AdamSumReferenceIdeal.main_arg0) = m ((c.tc : Thread Cert.AdamSumReferenceIdeal.nD Cert.AdamSumReferenceIdeal.τ).loc Cert.AdamSumReferenceIdeal.main_arg0)
      ∧ r.2.mem ((c.tc : Thread Cert.AdamSumReferenceIdeal.nD Cert.AdamSumReferenceIdeal.τ).loc Cert.AdamSumReferenceIdeal.main_arg1) = m ((c.tc : Thread Cert.AdamSumReferenceIdeal.nD Cert.AdamSumReferenceIdeal.τ).loc Cert.AdamSumReferenceIdeal.main_arg1)
      ∧ r.2.mem ((c.tc : Thread Cert.AdamSumReferenceIdeal.nD Cert.AdamSumReferenceIdeal.τ).loc Cert.AdamSumReferenceIdeal.main_arg2) = m ((c.tc : Thread Cert.AdamSumReferenceIdeal.nD Cert.AdamSumReferenceIdeal.τ).loc Cert.AdamSumReferenceIdeal.main_arg2)
      ∧ r.2.mem ((c.tc : Thread Cert.AdamSumReferenceIdeal.nD Cert.AdamSumReferenceIdeal.τ).loc Cert.AdamSumReferenceIdeal.main_arg3) = m ((c.tc : Thread Cert.AdamSumReferenceIdeal.nD Cert.AdamSumReferenceIdeal.τ).loc Cert.AdamSumReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)) (v3 : (c : Dev Cert.KernelIdeal.nD) → Buf (Elt Ideal) ((c.tc : Thread Cert.KernelIdeal.nD Cert.KernelIdeal.τ).loc Cert.KernelIdeal.main_v20_3)) (v4 : (c : Dev Cert.KernelIdeal.nD) → Buf (Elt Ideal) ((c.tc : Thread Cert.KernelIdeal.nD Cert.KernelIdeal.τ).loc Cert.KernelIdeal.main_v20_4)) (v5 : (c : Dev Cert.KernelIdeal.nD) → Buf (Elt Ideal) ((c.tc : Thread Cert.KernelIdeal.nD Cert.KernelIdeal.τ).loc Cert.KernelIdeal.main_v20_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_v20_3) = v3 c
          ∧ r.2.mem ((c.tc : Thread Cert.KernelIdeal.nD Cert.KernelIdeal.τ).loc Cert.KernelIdeal.main_v20_4) = v4 c
          ∧ r.2.mem ((c.tc : Thread Cert.KernelIdeal.nD Cert.KernelIdeal.τ).loc Cert.KernelIdeal.main_v20_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v44) = v3 c
          ∧ r.2.mem ((c.tc : Thread Cert.ReferenceIdeal.nD Cert.ReferenceIdeal.τ).loc Cert.ReferenceIdeal.main_v41) = v4 c
          ∧ r.2.mem ((c.tc : Thread Cert.ReferenceIdeal.nD Cert.ReferenceIdeal.τ).loc Cert.ReferenceIdeal.main_v32) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)
      ∧ m' ((c.tc : Thread Cert.InReferenceIdeal.nD Cert.InReferenceIdeal.τ).loc Cert.InReferenceIdeal.main_arg3) = m ((c.tc : Thread Cert.InKernelIdeal.nD Cert.InKernelIdeal.τ).loc Cert.InKernelIdeal.main_arg3)
      ∧ m' ((c.tc : Thread Cert.InReferenceIdeal.nD Cert.InReferenceIdeal.τ).loc Cert.InReferenceIdeal.main_arg4) = m ((c.tc : Thread Cert.InKernelIdeal.nD Cert.InKernelIdeal.τ).loc Cert.InKernelIdeal.main_arg4)
      ∧ m' ((c.tc : Thread Cert.InReferenceIdeal.nD Cert.InReferenceIdeal.τ).loc Cert.InReferenceIdeal.main_arg5) = m ((c.tc : Thread Cert.InKernelIdeal.nD Cert.InKernelIdeal.τ).loc Cert.InKernelIdeal.main_arg5)
      ∧ m' ((c.tc : Thread Cert.InReferenceIdeal.nD Cert.InReferenceIdeal.τ).loc Cert.InReferenceIdeal.main_arg6) = m ((c.tc : Thread Cert.InKernelIdeal.nD Cert.InKernelIdeal.τ).loc Cert.InKernelIdeal.main_arg6)) →
    ∃ (v0 : (c : Dev Cert.InKernelIdeal.nD) → Buf (Elt Ideal) ((c.tc : Thread Cert.InKernelIdeal.nD Cert.InKernelIdeal.τ).loc Cert.InKernelIdeal.main_v0_0)) (v1 : (c : Dev Cert.InKernelIdeal.nD) → Buf (Elt Ideal) ((c.tc : Thread Cert.InKernelIdeal.nD Cert.InKernelIdeal.τ).loc Cert.InKernelIdeal.main_v0_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v0_0) = v0 c
          ∧ r.2.mem ((c.tc : Thread Cert.InKernelIdeal.nD Cert.InKernelIdeal.τ).loc Cert.InKernelIdeal.main_v0_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
          ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
          ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v38) = v0 c
          ∧ r.2.mem ((c.tc : Thread Cert.InReferenceIdeal.nD Cert.InReferenceIdeal.τ).loc Cert.InReferenceIdeal.main_v21) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2)
          ∧ r.2.mem ((c.tc : Thread Cert.InReferenceIdeal.nD Cert.InReferenceIdeal.τ).loc Cert.InReferenceIdeal.main_arg3) = m' ((c.tc : Thread Cert.InReferenceIdeal.nD Cert.InReferenceIdeal.τ).loc Cert.InReferenceIdeal.main_arg3)
          ∧ r.2.mem ((c.tc : Thread Cert.InReferenceIdeal.nD Cert.InReferenceIdeal.τ).loc Cert.InReferenceIdeal.main_arg4) = m' ((c.tc : Thread Cert.InReferenceIdeal.nD Cert.InReferenceIdeal.τ).loc Cert.InReferenceIdeal.main_arg4)
          ∧ r.2.mem ((c.tc : Thread Cert.InReferenceIdeal.nD Cert.InReferenceIdeal.τ).loc Cert.InReferenceIdeal.main_arg5) = m' ((c.tc : Thread Cert.InReferenceIdeal.nD Cert.InReferenceIdeal.τ).loc Cert.InReferenceIdeal.main_arg5)
          ∧ r.2.mem ((c.tc : Thread Cert.InReferenceIdeal.nD Cert.InReferenceIdeal.τ).loc Cert.InReferenceIdeal.main_arg6) = m' ((c.tc : Thread Cert.InReferenceIdeal.nD Cert.InReferenceIdeal.τ).loc Cert.InReferenceIdeal.main_arg6))

def preserves_WgHgKernel_WgHgKernelIdeal : Prop :=
  True

def algebraic_WgHgKernelIdeal_WgHgReferenceIdeal [hWgHgKernelIdeal : Cert.WgHgKernelIdeal.Facts] [hWgHgReferenceIdeal : Cert.WgHgReferenceIdeal.Facts] : Prop :=
  ∀ (m : (ℓ : Loc Cert.WgHgKernelIdeal.nD Cert.WgHgKernelIdeal.τ Cert.WgHgKernelIdeal.sig) → Buf (Elt Ideal) ℓ) (g : Dev Cert.WgHgKernelIdeal.nD → PrngReg)
    (m' : (ℓ : Loc Cert.WgHgReferenceIdeal.nD Cert.WgHgReferenceIdeal.τ Cert.WgHgReferenceIdeal.sig) → Buf (Elt Ideal) ℓ) (g' : Dev Cert.WgHgReferenceIdeal.nD → PrngReg), Pre_WgHgKernelIdeal m →
    (∀ c : Dev Cert.WgHgKernelIdeal.nD,
      m' ((c.tc : Thread Cert.WgHgReferenceIdeal.nD Cert.WgHgReferenceIdeal.τ).loc Cert.WgHgReferenceIdeal.main_arg0) = m ((c.tc : Thread Cert.WgHgKernelIdeal.nD Cert.WgHgKernelIdeal.τ).loc Cert.WgHgKernelIdeal.main_arg0)
      ∧ m' ((c.tc : Thread Cert.WgHgReferenceIdeal.nD Cert.WgHgReferenceIdeal.τ).loc Cert.WgHgReferenceIdeal.main_arg1) = m ((c.tc : Thread Cert.WgHgKernelIdeal.nD Cert.WgHgKernelIdeal.τ).loc Cert.WgHgKernelIdeal.main_arg1)
      ∧ m' ((c.tc : Thread Cert.WgHgReferenceIdeal.nD Cert.WgHgReferenceIdeal.τ).loc Cert.WgHgReferenceIdeal.main_arg2) = m ((c.tc : Thread Cert.WgHgKernelIdeal.nD Cert.WgHgKernelIdeal.τ).loc Cert.WgHgKernelIdeal.main_arg2)) →
    ∃ (v0 : (c : Dev Cert.WgHgKernelIdeal.nD) → Buf (Elt Ideal) ((c.tc : Thread Cert.WgHgKernelIdeal.nD Cert.WgHgKernelIdeal.τ).loc Cert.WgHgKernelIdeal.main_v13)),
      θ_run (Cert.WgHgKernelIdeal.defs (F := Ideal)) (onTc (τ := Cert.WgHgKernelIdeal.τ) (Cert.WgHgKernelIdeal.main (F := Ideal))) ⟨m, fun _ => 0, g⟩ (fun r => ∀ c : Dev Cert.WgHgKernelIdeal.nD,
          r.2.mem ((c.tc : Thread Cert.WgHgKernelIdeal.nD Cert.WgHgKernelIdeal.τ).loc Cert.WgHgKernelIdeal.main_v13) = v0 c
          ∧ r.2.mem ((c.tc : Thread Cert.WgHgKernelIdeal.nD Cert.WgHgKernelIdeal.τ).loc Cert.WgHgKernelIdeal.main_arg0) = m ((c.tc : Thread Cert.WgHgKernelIdeal.nD Cert.WgHgKernelIdeal.τ).loc Cert.WgHgKernelIdeal.main_arg0)
          ∧ r.2.mem ((c.tc : Thread Cert.WgHgKernelIdeal.nD Cert.WgHgKernelIdeal.τ).loc Cert.WgHgKernelIdeal.main_arg1) = m ((c.tc : Thread Cert.WgHgKernelIdeal.nD Cert.WgHgKernelIdeal.τ).loc Cert.WgHgKernelIdeal.main_arg1)
          ∧ r.2.mem ((c.tc : Thread Cert.WgHgKernelIdeal.nD Cert.WgHgKernelIdeal.τ).loc Cert.WgHgKernelIdeal.main_arg2) = m ((c.tc : Thread Cert.WgHgKernelIdeal.nD Cert.WgHgKernelIdeal.τ).loc Cert.WgHgKernelIdeal.main_arg2))
      ∧ θ_run (Cert.WgHgReferenceIdeal.defs (F := Ideal)) (onTc (τ := Cert.WgHgReferenceIdeal.τ) (Cert.WgHgReferenceIdeal.main (F := Ideal))) ⟨m', fun _ => 0, g'⟩ (fun r => ∀ c : Dev Cert.WgHgReferenceIdeal.nD,
          r.2.mem ((c.tc : Thread Cert.WgHgReferenceIdeal.nD Cert.WgHgReferenceIdeal.τ).loc Cert.WgHgReferenceIdeal.main_v15) = v0 c
          ∧ r.2.mem ((c.tc : Thread Cert.WgHgReferenceIdeal.nD Cert.WgHgReferenceIdeal.τ).loc Cert.WgHgReferenceIdeal.main_arg0) = m' ((c.tc : Thread Cert.WgHgReferenceIdeal.nD Cert.WgHgReferenceIdeal.τ).loc Cert.WgHgReferenceIdeal.main_arg0)
          ∧ r.2.mem ((c.tc : Thread Cert.WgHgReferenceIdeal.nD Cert.WgHgReferenceIdeal.τ).loc Cert.WgHgReferenceIdeal.main_arg1) = m' ((c.tc : Thread Cert.WgHgReferenceIdeal.nD Cert.WgHgReferenceIdeal.τ).loc Cert.WgHgReferenceIdeal.main_arg1)
          ∧ r.2.mem ((c.tc : Thread Cert.WgHgReferenceIdeal.nD Cert.WgHgReferenceIdeal.τ).loc Cert.WgHgReferenceIdeal.main_arg2) = m' ((c.tc : Thread Cert.WgHgReferenceIdeal.nD Cert.WgHgReferenceIdeal.τ).loc Cert.WgHgReferenceIdeal.main_arg2))

def preserves_WgUKernel_WgUKernelIdeal : Prop :=
  True

def algebraic_WgUKernelIdeal_WgUReferenceIdeal [hWgUKernelIdeal : Cert.WgUKernelIdeal.Facts] [hWgUReferenceIdeal : Cert.WgUReferenceIdeal.Facts] : Prop :=
  ∀ (m : (ℓ : Loc Cert.WgUKernelIdeal.nD Cert.WgUKernelIdeal.τ Cert.WgUKernelIdeal.sig) → Buf (Elt Ideal) ℓ) (g : Dev Cert.WgUKernelIdeal.nD → PrngReg)
    (m' : (ℓ : Loc Cert.WgUReferenceIdeal.nD Cert.WgUReferenceIdeal.τ Cert.WgUReferenceIdeal.sig) → Buf (Elt Ideal) ℓ) (g' : Dev Cert.WgUReferenceIdeal.nD → PrngReg), Pre_WgUKernelIdeal m →
    (∀ c : Dev Cert.WgUKernelIdeal.nD,
      m' ((c.tc : Thread Cert.WgUReferenceIdeal.nD Cert.WgUReferenceIdeal.τ).loc Cert.WgUReferenceIdeal.main_arg0) = m ((c.tc : Thread Cert.WgUKernelIdeal.nD Cert.WgUKernelIdeal.τ).loc Cert.WgUKernelIdeal.main_arg0)
      ∧ m' ((c.tc : Thread Cert.WgUReferenceIdeal.nD Cert.WgUReferenceIdeal.τ).loc Cert.WgUReferenceIdeal.main_arg1) = m ((c.tc : Thread Cert.WgUKernelIdeal.nD Cert.WgUKernelIdeal.τ).loc Cert.WgUKernelIdeal.main_arg1)
      ∧ m' ((c.tc : Thread Cert.WgUReferenceIdeal.nD Cert.WgUReferenceIdeal.τ).loc Cert.WgUReferenceIdeal.main_arg2) = m ((c.tc : Thread Cert.WgUKernelIdeal.nD Cert.WgUKernelIdeal.τ).loc Cert.WgUKernelIdeal.main_arg2)) →
    ∃ (v0 : (c : Dev Cert.WgUKernelIdeal.nD) → Buf (Elt Ideal) ((c.tc : Thread Cert.WgUKernelIdeal.nD Cert.WgUKernelIdeal.τ).loc Cert.WgUKernelIdeal.main_v13)),
      θ_run (Cert.WgUKernelIdeal.defs (F := Ideal)) (onTc (τ := Cert.WgUKernelIdeal.τ) (Cert.WgUKernelIdeal.main (F := Ideal))) ⟨m, fun _ => 0, g⟩ (fun r => ∀ c : Dev Cert.WgUKernelIdeal.nD,
          r.2.mem ((c.tc : Thread Cert.WgUKernelIdeal.nD Cert.WgUKernelIdeal.τ).loc Cert.WgUKernelIdeal.main_v13) = v0 c
          ∧ r.2.mem ((c.tc : Thread Cert.WgUKernelIdeal.nD Cert.WgUKernelIdeal.τ).loc Cert.WgUKernelIdeal.main_arg0) = m ((c.tc : Thread Cert.WgUKernelIdeal.nD Cert.WgUKernelIdeal.τ).loc Cert.WgUKernelIdeal.main_arg0)
          ∧ r.2.mem ((c.tc : Thread Cert.WgUKernelIdeal.nD Cert.WgUKernelIdeal.τ).loc Cert.WgUKernelIdeal.main_arg1) = m ((c.tc : Thread Cert.WgUKernelIdeal.nD Cert.WgUKernelIdeal.τ).loc Cert.WgUKernelIdeal.main_arg1)
          ∧ r.2.mem ((c.tc : Thread Cert.WgUKernelIdeal.nD Cert.WgUKernelIdeal.τ).loc Cert.WgUKernelIdeal.main_arg2) = m ((c.tc : Thread Cert.WgUKernelIdeal.nD Cert.WgUKernelIdeal.τ).loc Cert.WgUKernelIdeal.main_arg2))
      ∧ θ_run (Cert.WgUReferenceIdeal.defs (F := Ideal)) (onTc (τ := Cert.WgUReferenceIdeal.τ) (Cert.WgUReferenceIdeal.main (F := Ideal))) ⟨m', fun _ => 0, g'⟩ (fun r => ∀ c : Dev Cert.WgUReferenceIdeal.nD,
          r.2.mem ((c.tc : Thread Cert.WgUReferenceIdeal.nD Cert.WgUReferenceIdeal.τ).loc Cert.WgUReferenceIdeal.main_v15) = v0 c
          ∧ r.2.mem ((c.tc : Thread Cert.WgUReferenceIdeal.nD Cert.WgUReferenceIdeal.τ).loc Cert.WgUReferenceIdeal.main_arg0) = m' ((c.tc : Thread Cert.WgUReferenceIdeal.nD Cert.WgUReferenceIdeal.τ).loc Cert.WgUReferenceIdeal.main_arg0)
          ∧ r.2.mem ((c.tc : Thread Cert.WgUReferenceIdeal.nD Cert.WgUReferenceIdeal.τ).loc Cert.WgUReferenceIdeal.main_arg1) = m' ((c.tc : Thread Cert.WgUReferenceIdeal.nD Cert.WgUReferenceIdeal.τ).loc Cert.WgUReferenceIdeal.main_arg1)
          ∧ r.2.mem ((c.tc : Thread Cert.WgUReferenceIdeal.nD Cert.WgUReferenceIdeal.τ).loc Cert.WgUReferenceIdeal.main_arg2) = m' ((c.tc : Thread Cert.WgUReferenceIdeal.nD Cert.WgUReferenceIdeal.τ).loc Cert.WgUReferenceIdeal.main_arg2))

def preserves_WgUpKernel_WgUpKernelIdeal : Prop :=
  True

def algebraic_WgUpKernelIdeal_WgUpReferenceIdeal [hWgUpKernelIdeal : Cert.WgUpKernelIdeal.Facts] [hWgUpReferenceIdeal : Cert.WgUpReferenceIdeal.Facts] : Prop :=
  ∀ (m : (ℓ : Loc Cert.WgUpKernelIdeal.nD Cert.WgUpKernelIdeal.τ Cert.WgUpKernelIdeal.sig) → Buf (Elt Ideal) ℓ) (g : Dev Cert.WgUpKernelIdeal.nD → PrngReg)
    (m' : (ℓ : Loc Cert.WgUpReferenceIdeal.nD Cert.WgUpReferenceIdeal.τ Cert.WgUpReferenceIdeal.sig) → Buf (Elt Ideal) ℓ) (g' : Dev Cert.WgUpReferenceIdeal.nD → PrngReg), Pre_WgUpKernelIdeal m →
    (∀ c : Dev Cert.WgUpKernelIdeal.nD,
      m' ((c.tc : Thread Cert.WgUpReferenceIdeal.nD Cert.WgUpReferenceIdeal.τ).loc Cert.WgUpReferenceIdeal.main_arg0) = m ((c.tc : Thread Cert.WgUpKernelIdeal.nD Cert.WgUpKernelIdeal.τ).loc Cert.WgUpKernelIdeal.main_arg0)
      ∧ m' ((c.tc : Thread Cert.WgUpReferenceIdeal.nD Cert.WgUpReferenceIdeal.τ).loc Cert.WgUpReferenceIdeal.main_arg1) = m ((c.tc : Thread Cert.WgUpKernelIdeal.nD Cert.WgUpKernelIdeal.τ).loc Cert.WgUpKernelIdeal.main_arg1)
      ∧ m' ((c.tc : Thread Cert.WgUpReferenceIdeal.nD Cert.WgUpReferenceIdeal.τ).loc Cert.WgUpReferenceIdeal.main_arg2) = m ((c.tc : Thread Cert.WgUpKernelIdeal.nD Cert.WgUpKernelIdeal.τ).loc Cert.WgUpKernelIdeal.main_arg2)) →
    ∃ (v0 : (c : Dev Cert.WgUpKernelIdeal.nD) → Buf (Elt Ideal) ((c.tc : Thread Cert.WgUpKernelIdeal.nD Cert.WgUpKernelIdeal.τ).loc Cert.WgUpKernelIdeal.main_v13)),
      θ_run (Cert.WgUpKernelIdeal.defs (F := Ideal)) (onTc (τ := Cert.WgUpKernelIdeal.τ) (Cert.WgUpKernelIdeal.main (F := Ideal))) ⟨m, fun _ => 0, g⟩ (fun r => ∀ c : Dev Cert.WgUpKernelIdeal.nD,
          r.2.mem ((c.tc : Thread Cert.WgUpKernelIdeal.nD Cert.WgUpKernelIdeal.τ).loc Cert.WgUpKernelIdeal.main_v13) = v0 c
          ∧ r.2.mem ((c.tc : Thread Cert.WgUpKernelIdeal.nD Cert.WgUpKernelIdeal.τ).loc Cert.WgUpKernelIdeal.main_arg0) = m ((c.tc : Thread Cert.WgUpKernelIdeal.nD Cert.WgUpKernelIdeal.τ).loc Cert.WgUpKernelIdeal.main_arg0)
          ∧ r.2.mem ((c.tc : Thread Cert.WgUpKernelIdeal.nD Cert.WgUpKernelIdeal.τ).loc Cert.WgUpKernelIdeal.main_arg1) = m ((c.tc : Thread Cert.WgUpKernelIdeal.nD Cert.WgUpKernelIdeal.τ).loc Cert.WgUpKernelIdeal.main_arg1)
          ∧ r.2.mem ((c.tc : Thread Cert.WgUpKernelIdeal.nD Cert.WgUpKernelIdeal.τ).loc Cert.WgUpKernelIdeal.main_arg2) = m ((c.tc : Thread Cert.WgUpKernelIdeal.nD Cert.WgUpKernelIdeal.τ).loc Cert.WgUpKernelIdeal.main_arg2))
      ∧ θ_run (Cert.WgUpReferenceIdeal.defs (F := Ideal)) (onTc (τ := Cert.WgUpReferenceIdeal.τ) (Cert.WgUpReferenceIdeal.main (F := Ideal))) ⟨m', fun _ => 0, g'⟩ (fun r => ∀ c : Dev Cert.WgUpReferenceIdeal.nD,
          r.2.mem ((c.tc : Thread Cert.WgUpReferenceIdeal.nD Cert.WgUpReferenceIdeal.τ).loc Cert.WgUpReferenceIdeal.main_v16) = v0 c
          ∧ r.2.mem ((c.tc : Thread Cert.WgUpReferenceIdeal.nD Cert.WgUpReferenceIdeal.τ).loc Cert.WgUpReferenceIdeal.main_arg0) = m' ((c.tc : Thread Cert.WgUpReferenceIdeal.nD Cert.WgUpReferenceIdeal.τ).loc Cert.WgUpReferenceIdeal.main_arg0)
          ∧ r.2.mem ((c.tc : Thread Cert.WgUpReferenceIdeal.nD Cert.WgUpReferenceIdeal.τ).loc Cert.WgUpReferenceIdeal.main_arg1) = m' ((c.tc : Thread Cert.WgUpReferenceIdeal.nD Cert.WgUpReferenceIdeal.τ).loc Cert.WgUpReferenceIdeal.main_arg1)
          ∧ r.2.mem ((c.tc : Thread Cert.WgUpReferenceIdeal.nD Cert.WgUpReferenceIdeal.τ).loc Cert.WgUpReferenceIdeal.main_arg2) = m' ((c.tc : Thread Cert.WgUpReferenceIdeal.nD Cert.WgUpReferenceIdeal.τ).loc Cert.WgUpReferenceIdeal.main_arg2))

def preserves_WgDownKernel_WgDownKernelIdeal : Prop :=
  True

def algebraic_WgDownKernelIdeal_WgDownReferenceIdeal [hWgDownKernelIdeal : Cert.WgDownKernelIdeal.Facts] [hWgDownReferenceIdeal : Cert.WgDownReferenceIdeal.Facts] : Prop :=
  ∀ (m : (ℓ : Loc Cert.WgDownKernelIdeal.nD Cert.WgDownKernelIdeal.τ Cert.WgDownKernelIdeal.sig) → Buf (Elt Ideal) ℓ) (g : Dev Cert.WgDownKernelIdeal.nD → PrngReg)
    (m' : (ℓ : Loc Cert.WgDownReferenceIdeal.nD Cert.WgDownReferenceIdeal.τ Cert.WgDownReferenceIdeal.sig) → Buf (Elt Ideal) ℓ) (g' : Dev Cert.WgDownReferenceIdeal.nD → PrngReg), Pre_WgDownKernelIdeal m →
    (∀ c : Dev Cert.WgDownKernelIdeal.nD,
      m' ((c.tc : Thread Cert.WgDownReferenceIdeal.nD Cert.WgDownReferenceIdeal.τ).loc Cert.WgDownReferenceIdeal.main_arg0) = m ((c.tc : Thread Cert.WgDownKernelIdeal.nD Cert.WgDownKernelIdeal.τ).loc Cert.WgDownKernelIdeal.main_arg0)
      ∧ m' ((c.tc : Thread Cert.WgDownReferenceIdeal.nD Cert.WgDownReferenceIdeal.τ).loc Cert.WgDownReferenceIdeal.main_arg1) = m ((c.tc : Thread Cert.WgDownKernelIdeal.nD Cert.WgDownKernelIdeal.τ).loc Cert.WgDownKernelIdeal.main_arg1)
      ∧ m' ((c.tc : Thread Cert.WgDownReferenceIdeal.nD Cert.WgDownReferenceIdeal.τ).loc Cert.WgDownReferenceIdeal.main_arg2) = m ((c.tc : Thread Cert.WgDownKernelIdeal.nD Cert.WgDownKernelIdeal.τ).loc Cert.WgDownKernelIdeal.main_arg2)
      ∧ m' ((c.tc : Thread Cert.WgDownReferenceIdeal.nD Cert.WgDownReferenceIdeal.τ).loc Cert.WgDownReferenceIdeal.main_arg3) = m ((c.tc : Thread Cert.WgDownKernelIdeal.nD Cert.WgDownKernelIdeal.τ).loc Cert.WgDownKernelIdeal.main_arg3)) →
    ∃ (v0 : (c : Dev Cert.WgDownKernelIdeal.nD) → Buf (Elt Ideal) ((c.tc : Thread Cert.WgDownKernelIdeal.nD Cert.WgDownKernelIdeal.τ).loc Cert.WgDownKernelIdeal.main_v41)),
      θ_run (Cert.WgDownKernelIdeal.defs (F := Ideal)) (onTc (τ := Cert.WgDownKernelIdeal.τ) (Cert.WgDownKernelIdeal.main (F := Ideal))) ⟨m, fun _ => 0, g⟩ (fun r => ∀ c : Dev Cert.WgDownKernelIdeal.nD,
          r.2.mem ((c.tc : Thread Cert.WgDownKernelIdeal.nD Cert.WgDownKernelIdeal.τ).loc Cert.WgDownKernelIdeal.main_v41) = v0 c
          ∧ r.2.mem ((c.tc : Thread Cert.WgDownKernelIdeal.nD Cert.WgDownKernelIdeal.τ).loc Cert.WgDownKernelIdeal.main_arg0) = m ((c.tc : Thread Cert.WgDownKernelIdeal.nD Cert.WgDownKernelIdeal.τ).loc Cert.WgDownKernelIdeal.main_arg0)
          ∧ r.2.mem ((c.tc : Thread Cert.WgDownKernelIdeal.nD Cert.WgDownKernelIdeal.τ).loc Cert.WgDownKernelIdeal.main_arg1) = m ((c.tc : Thread Cert.WgDownKernelIdeal.nD Cert.WgDownKernelIdeal.τ).loc Cert.WgDownKernelIdeal.main_arg1)
          ∧ r.2.mem ((c.tc : Thread Cert.WgDownKernelIdeal.nD Cert.WgDownKernelIdeal.τ).loc Cert.WgDownKernelIdeal.main_arg2) = m ((c.tc : Thread Cert.WgDownKernelIdeal.nD Cert.WgDownKernelIdeal.τ).loc Cert.WgDownKernelIdeal.main_arg2)
          ∧ r.2.mem ((c.tc : Thread Cert.WgDownKernelIdeal.nD Cert.WgDownKernelIdeal.τ).loc Cert.WgDownKernelIdeal.main_arg3) = m ((c.tc : Thread Cert.WgDownKernelIdeal.nD Cert.WgDownKernelIdeal.τ).loc Cert.WgDownKernelIdeal.main_arg3))
      ∧ θ_run (Cert.WgDownReferenceIdeal.defs (F := Ideal)) (onTc (τ := Cert.WgDownReferenceIdeal.τ) (Cert.WgDownReferenceIdeal.main (F := Ideal))) ⟨m', fun _ => 0, g'⟩ (fun r => ∀ c : Dev Cert.WgDownReferenceIdeal.nD,
          r.2.mem ((c.tc : Thread Cert.WgDownReferenceIdeal.nD Cert.WgDownReferenceIdeal.τ).loc Cert.WgDownReferenceIdeal.main_v43) = v0 c
          ∧ r.2.mem ((c.tc : Thread Cert.WgDownReferenceIdeal.nD Cert.WgDownReferenceIdeal.τ).loc Cert.WgDownReferenceIdeal.main_arg0) = m' ((c.tc : Thread Cert.WgDownReferenceIdeal.nD Cert.WgDownReferenceIdeal.τ).loc Cert.WgDownReferenceIdeal.main_arg0)
          ∧ r.2.mem ((c.tc : Thread Cert.WgDownReferenceIdeal.nD Cert.WgDownReferenceIdeal.τ).loc Cert.WgDownReferenceIdeal.main_arg1) = m' ((c.tc : Thread Cert.WgDownReferenceIdeal.nD Cert.WgDownReferenceIdeal.τ).loc Cert.WgDownReferenceIdeal.main_arg1)
          ∧ r.2.mem ((c.tc : Thread Cert.WgDownReferenceIdeal.nD Cert.WgDownReferenceIdeal.τ).loc Cert.WgDownReferenceIdeal.main_arg2) = m' ((c.tc : Thread Cert.WgDownReferenceIdeal.nD Cert.WgDownReferenceIdeal.τ).loc Cert.WgDownReferenceIdeal.main_arg2)
          ∧ r.2.mem ((c.tc : Thread Cert.WgDownReferenceIdeal.nD Cert.WgDownReferenceIdeal.τ).loc Cert.WgDownReferenceIdeal.main_arg3) = m' ((c.tc : Thread Cert.WgDownReferenceIdeal.nD Cert.WgDownReferenceIdeal.τ).loc Cert.WgDownReferenceIdeal.main_arg3))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m' ((c.tc : Thread Cert.UpReferenceIdeal.nD Cert.UpReferenceIdeal.τ).loc Cert.UpReferenceIdeal.main_arg0) = m ((c.tc : Thread Cert.UpKernelIdeal.nD Cert.UpKernelIdeal.τ).loc Cert.UpKernelIdeal.main_arg0)
      ∧ m' ((c.tc : Thread Cert.UpReferenceIdeal.nD Cert.UpReferenceIdeal.τ).loc Cert.UpReferenceIdeal.main_arg1) = m ((c.tc : Thread Cert.UpKernelIdeal.nD Cert.UpKernelIdeal.τ).loc Cert.UpKernelIdeal.main_arg1)
      ∧ m' ((c.tc : Thread Cert.UpReferenceIdeal.nD Cert.UpReferenceIdeal.τ).loc Cert.UpReferenceIdeal.main_arg2) = m ((c.tc : Thread Cert.UpKernelIdeal.nD Cert.UpKernelIdeal.τ).loc Cert.UpKernelIdeal.main_arg2)
      ∧ m' ((c.tc : Thread Cert.UpReferenceIdeal.nD Cert.UpReferenceIdeal.τ).loc Cert.UpReferenceIdeal.main_arg3) = m ((c.tc : Thread Cert.UpKernelIdeal.nD Cert.UpKernelIdeal.τ).loc Cert.UpKernelIdeal.main_arg3)
      ∧ m' ((c.tc : Thread Cert.UpReferenceIdeal.nD Cert.UpReferenceIdeal.τ).loc Cert.UpReferenceIdeal.main_arg4) = m ((c.tc : Thread Cert.UpKernelIdeal.nD Cert.UpKernelIdeal.τ).loc Cert.UpKernelIdeal.main_arg4)
      ∧ m' ((c.tc : Thread Cert.UpReferenceIdeal.nD Cert.UpReferenceIdeal.τ).loc Cert.UpReferenceIdeal.main_arg5) = m ((c.tc : Thread Cert.UpKernelIdeal.nD Cert.UpKernelIdeal.τ).loc Cert.UpKernelIdeal.main_arg5)
      ∧ m' ((c.tc : Thread Cert.UpReferenceIdeal.nD Cert.UpReferenceIdeal.τ).loc Cert.UpReferenceIdeal.main_arg6) = m ((c.tc : Thread Cert.UpKernelIdeal.nD Cert.UpKernelIdeal.τ).loc Cert.UpKernelIdeal.main_arg6)
      ∧ m' ((c.tc : Thread Cert.UpReferenceIdeal.nD Cert.UpReferenceIdeal.τ).loc Cert.UpReferenceIdeal.main_arg7) = m ((c.tc : Thread Cert.UpKernelIdeal.nD Cert.UpKernelIdeal.τ).loc Cert.UpKernelIdeal.main_arg7)
      ∧ m' ((c.tc : Thread Cert.UpReferenceIdeal.nD Cert.UpReferenceIdeal.τ).loc Cert.UpReferenceIdeal.main_arg8) = m ((c.tc : Thread Cert.UpKernelIdeal.nD Cert.UpKernelIdeal.τ).loc Cert.UpKernelIdeal.main_arg8)) →
    ∃ (v0 : (c : Dev Cert.UpKernelIdeal.nD) → Buf (Elt Ideal) ((c.tc : Thread Cert.UpKernelIdeal.nD Cert.UpKernelIdeal.τ).loc Cert.UpKernelIdeal.main_v0_0)) (v1 : (c : Dev Cert.UpKernelIdeal.nD) → Buf (Elt Ideal) ((c.tc : Thread Cert.UpKernelIdeal.nD Cert.UpKernelIdeal.τ).loc Cert.UpKernelIdeal.main_v0_1)) (v2 : (c : Dev Cert.UpKernelIdeal.nD) → Buf (Elt Ideal) ((c.tc : Thread Cert.UpKernelIdeal.nD Cert.UpKernelIdeal.τ).loc Cert.UpKernelIdeal.main_v0_2)) (v3 : (c : Dev Cert.UpKernelIdeal.nD) → Buf (Elt Ideal) ((c.tc : Thread Cert.UpKernelIdeal.nD Cert.UpKernelIdeal.τ).loc Cert.UpKernelIdeal.main_v0_3)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v0_0) = v0 c
          ∧ r.2.mem ((c.tc : Thread Cert.UpKernelIdeal.nD Cert.UpKernelIdeal.τ).loc Cert.UpKernelIdeal.main_v0_1) = v1 c
          ∧ r.2.mem ((c.tc : Thread Cert.UpKernelIdeal.nD Cert.UpKernelIdeal.τ).loc Cert.UpKernelIdeal.main_v0_2) = v2 c
          ∧ r.2.mem ((c.tc : Thread Cert.UpKernelIdeal.nD Cert.UpKernelIdeal.τ).loc Cert.UpKernelIdeal.main_v0_3) = v3 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
          ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
          ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
          ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
          ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v26) = v0 c
          ∧ r.2.mem ((c.tc : Thread Cert.UpReferenceIdeal.nD Cert.UpReferenceIdeal.τ).loc Cert.UpReferenceIdeal.main_v39) = v1 c
          ∧ r.2.mem ((c.tc : Thread Cert.UpReferenceIdeal.nD Cert.UpReferenceIdeal.τ).loc Cert.UpReferenceIdeal.main_v40) = v2 c
          ∧ r.2.mem ((c.tc : Thread Cert.UpReferenceIdeal.nD Cert.UpReferenceIdeal.τ).loc Cert.UpReferenceIdeal.main_v41) = v3 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6)
          ∧ r.2.mem ((c.tc : Thread Cert.UpReferenceIdeal.nD Cert.UpReferenceIdeal.τ).loc Cert.UpReferenceIdeal.main_arg7) = m' ((c.tc : Thread Cert.UpReferenceIdeal.nD Cert.UpReferenceIdeal.τ).loc Cert.UpReferenceIdeal.main_arg7)
          ∧ r.2.mem ((c.tc : Thread Cert.UpReferenceIdeal.nD Cert.UpReferenceIdeal.τ).loc Cert.UpReferenceIdeal.main_arg8) = m' ((c.tc : Thread Cert.UpReferenceIdeal.nD Cert.UpReferenceIdeal.τ).loc Cert.UpReferenceIdeal.main_arg8))

def preserves_FfnKernel_FfnKernelIdeal : Prop :=
  True

def algebraic_FfnKernelIdeal_FfnReferenceIdeal_pre_finite [hFfnKernelIdeal : Cert.FfnKernelIdeal.Facts] [hFfnReferenceIdeal : Cert.FfnReferenceIdeal.Facts] [hPre_finite : Cert.Pre_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)
      ∧ m' ((c.tc : Thread Cert.FfnReferenceIdeal.nD Cert.FfnReferenceIdeal.τ).loc Cert.FfnReferenceIdeal.main_arg7) = m ((c.tc : Thread Cert.FfnKernelIdeal.nD Cert.FfnKernelIdeal.τ).loc Cert.FfnKernelIdeal.main_arg7)) →
    ∃ (v0 : (c : Dev Cert.FfnKernelIdeal.nD) → Buf (Elt Ideal) ((c.tc : Thread Cert.FfnKernelIdeal.nD Cert.FfnKernelIdeal.τ).loc Cert.FfnKernelIdeal.main_v59_0)) (v1 : (c : Dev Cert.FfnKernelIdeal.nD) → Buf (Elt Ideal) ((c.tc : Thread Cert.FfnKernelIdeal.nD Cert.FfnKernelIdeal.τ).loc Cert.FfnKernelIdeal.main_v59_1)) (v2 : (c : Dev Cert.FfnKernelIdeal.nD) → Buf (Elt Ideal) ((c.tc : Thread Cert.FfnKernelIdeal.nD Cert.FfnKernelIdeal.τ).loc Cert.FfnKernelIdeal.main_v59_2)) (v3 : (c : Dev Cert.FfnKernelIdeal.nD) → Buf (Elt Ideal) ((c.tc : Thread Cert.FfnKernelIdeal.nD Cert.FfnKernelIdeal.τ).loc Cert.FfnKernelIdeal.main_v59_3)) (v4 : (c : Dev Cert.FfnKernelIdeal.nD) → Buf (Elt Ideal) ((c.tc : Thread Cert.FfnKernelIdeal.nD Cert.FfnKernelIdeal.τ).loc Cert.FfnKernelIdeal.main_v59_4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v59_0) = v0 c
          ∧ r.2.mem ((c.tc : Thread Cert.FfnKernelIdeal.nD Cert.FfnKernelIdeal.τ).loc Cert.FfnKernelIdeal.main_v59_1) = v1 c
          ∧ r.2.mem ((c.tc : Thread Cert.FfnKernelIdeal.nD Cert.FfnKernelIdeal.τ).loc Cert.FfnKernelIdeal.main_v59_2) = v2 c
          ∧ r.2.mem ((c.tc : Thread Cert.FfnKernelIdeal.nD Cert.FfnKernelIdeal.τ).loc Cert.FfnKernelIdeal.main_v59_3) = v3 c
          ∧ r.2.mem ((c.tc : Thread Cert.FfnKernelIdeal.nD Cert.FfnKernelIdeal.τ).loc Cert.FfnKernelIdeal.main_v59_4) = v4 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
          ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v139) = v0 c
          ∧ r.2.mem ((c.tc : Thread Cert.FfnReferenceIdeal.nD Cert.FfnReferenceIdeal.τ).loc Cert.FfnReferenceIdeal.main_v140) = v1 c
          ∧ r.2.mem ((c.tc : Thread Cert.FfnReferenceIdeal.nD Cert.FfnReferenceIdeal.τ).loc Cert.FfnReferenceIdeal.main_v100) = v2 c
          ∧ r.2.mem ((c.tc : Thread Cert.FfnReferenceIdeal.nD Cert.FfnReferenceIdeal.τ).loc Cert.FfnReferenceIdeal.main_v89) = v3 c
          ∧ r.2.mem ((c.tc : Thread Cert.FfnReferenceIdeal.nD Cert.FfnReferenceIdeal.τ).loc Cert.FfnReferenceIdeal.main_v122) = v4 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_TailKernel_TailKernelIdeal : Prop :=
  True

def algebraic_TailKernelIdeal_TailReferenceIdeal [hTailKernelIdeal : Cert.TailKernelIdeal.Facts] [hTailReferenceIdeal : Cert.TailReferenceIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)
      ∧ m' ((c.tc : Thread Cert.TailReferenceIdeal.nD Cert.TailReferenceIdeal.τ).loc Cert.TailReferenceIdeal.main_arg9) = m ((c.tc : Thread Cert.TailKernelIdeal.nD Cert.TailKernelIdeal.τ).loc Cert.TailKernelIdeal.main_arg9)
      ∧ m' ((c.tc : Thread Cert.TailReferenceIdeal.nD Cert.TailReferenceIdeal.τ).loc Cert.TailReferenceIdeal.main_arg10) = m ((c.tc : Thread Cert.TailKernelIdeal.nD Cert.TailKernelIdeal.τ).loc Cert.TailKernelIdeal.main_arg10)) →
    ∃ (v0 : (c : Dev Cert.TailKernelIdeal.nD) → Buf (Elt Ideal) ((c.tc : Thread Cert.TailKernelIdeal.nD Cert.TailKernelIdeal.τ).loc Cert.TailKernelIdeal.main_v0_7)) (v1 : (c : Dev Cert.TailKernelIdeal.nD) → Buf (Elt Ideal) ((c.tc : Thread Cert.TailKernelIdeal.nD Cert.TailKernelIdeal.τ).loc Cert.TailKernelIdeal.main_v0_0)) (v2 : (c : Dev Cert.TailKernelIdeal.nD) → Buf (Elt Ideal) ((c.tc : Thread Cert.TailKernelIdeal.nD Cert.TailKernelIdeal.τ).loc Cert.TailKernelIdeal.main_v0_1)) (v3 : (c : Dev Cert.TailKernelIdeal.nD) → Buf (Elt Ideal) ((c.tc : Thread Cert.TailKernelIdeal.nD Cert.TailKernelIdeal.τ).loc Cert.TailKernelIdeal.main_v0_3)) (v4 : (c : Dev Cert.TailKernelIdeal.nD) → Buf (Elt Ideal) ((c.tc : Thread Cert.TailKernelIdeal.nD Cert.TailKernelIdeal.τ).loc Cert.TailKernelIdeal.main_v0_4)) (v5 : (c : Dev Cert.TailKernelIdeal.nD) → Buf (Elt Ideal) ((c.tc : Thread Cert.TailKernelIdeal.nD Cert.TailKernelIdeal.τ).loc Cert.TailKernelIdeal.main_v0_5)) (v6 : (c : Dev Cert.TailKernelIdeal.nD) → Buf (Elt Ideal) ((c.tc : Thread Cert.TailKernelIdeal.nD Cert.TailKernelIdeal.τ).loc Cert.TailKernelIdeal.main_v0_6)) (v7 : (c : Dev Cert.TailKernelIdeal.nD) → Buf (Elt Ideal) ((c.tc : Thread Cert.TailKernelIdeal.nD Cert.TailKernelIdeal.τ).loc Cert.TailKernelIdeal.main_v0_8)) (v8 : (c : Dev Cert.TailKernelIdeal.nD) → Buf (Elt Ideal) ((c.tc : Thread Cert.TailKernelIdeal.nD Cert.TailKernelIdeal.τ).loc Cert.TailKernelIdeal.main_v0_9)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v0_7) = v0 c
          ∧ r.2.mem ((c.tc : Thread Cert.TailKernelIdeal.nD Cert.TailKernelIdeal.τ).loc Cert.TailKernelIdeal.main_v0_0) = v1 c
          ∧ r.2.mem ((c.tc : Thread Cert.TailKernelIdeal.nD Cert.TailKernelIdeal.τ).loc Cert.TailKernelIdeal.main_v0_1) = v2 c
          ∧ r.2.mem ((c.tc : Thread Cert.TailKernelIdeal.nD Cert.TailKernelIdeal.τ).loc Cert.TailKernelIdeal.main_v0_3) = v3 c
          ∧ r.2.mem ((c.tc : Thread Cert.TailKernelIdeal.nD Cert.TailKernelIdeal.τ).loc Cert.TailKernelIdeal.main_v0_4) = v4 c
          ∧ r.2.mem ((c.tc : Thread Cert.TailKernelIdeal.nD Cert.TailKernelIdeal.τ).loc Cert.TailKernelIdeal.main_v0_5) = v5 c
          ∧ r.2.mem ((c.tc : Thread Cert.TailKernelIdeal.nD Cert.TailKernelIdeal.τ).loc Cert.TailKernelIdeal.main_v0_6) = v6 c
          ∧ r.2.mem ((c.tc : Thread Cert.TailKernelIdeal.nD Cert.TailKernelIdeal.τ).loc Cert.TailKernelIdeal.main_v0_8) = v7 c
          ∧ r.2.mem ((c.tc : Thread Cert.TailKernelIdeal.nD Cert.TailKernelIdeal.τ).loc Cert.TailKernelIdeal.main_v0_9) = v8 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
          ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
          ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
          ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v158) = v0 c
          ∧ r.2.mem ((c.tc : Thread Cert.TailReferenceIdeal.nD Cert.TailReferenceIdeal.τ).loc Cert.TailReferenceIdeal.main_v159) = v1 c
          ∧ r.2.mem ((c.tc : Thread Cert.TailReferenceIdeal.nD Cert.TailReferenceIdeal.τ).loc Cert.TailReferenceIdeal.main_v160) = v2 c
          ∧ r.2.mem ((c.tc : Thread Cert.TailReferenceIdeal.nD Cert.TailReferenceIdeal.τ).loc Cert.TailReferenceIdeal.main_v41) = v3 c
          ∧ r.2.mem ((c.tc : Thread Cert.TailReferenceIdeal.nD Cert.TailReferenceIdeal.τ).loc Cert.TailReferenceIdeal.main_v161) = v4 c
          ∧ r.2.mem ((c.tc : Thread Cert.TailReferenceIdeal.nD Cert.TailReferenceIdeal.τ).loc Cert.TailReferenceIdeal.main_v162) = v5 c
          ∧ r.2.mem ((c.tc : Thread Cert.TailReferenceIdeal.nD Cert.TailReferenceIdeal.τ).loc Cert.TailReferenceIdeal.main_v163) = v6 c
          ∧ r.2.mem ((c.tc : Thread Cert.TailReferenceIdeal.nD Cert.TailReferenceIdeal.τ).loc Cert.TailReferenceIdeal.main_v102) = v7 c
          ∧ r.2.mem ((c.tc : Thread Cert.TailReferenceIdeal.nD Cert.TailReferenceIdeal.τ).loc Cert.TailReferenceIdeal.main_v141) = v8 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10))

def preserves_InProjKernel_InProjKernelIdeal : Prop :=
  True

def algebraic_InProjKernelIdeal_InProjReferenceIdeal [hInProjKernelIdeal : Cert.InProjKernelIdeal.Facts] [hInProjReferenceIdeal : Cert.InProjReferenceIdeal.Facts] : Prop :=
  ∀ (m : (ℓ : Loc Cert.InProjKernelIdeal.nD Cert.InProjKernelIdeal.τ Cert.InProjKernelIdeal.sig) → Buf (Elt Ideal) ℓ) (g : Dev Cert.InProjKernelIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjKernelIdeal m →
    (∀ c : Dev Cert.InProjKernelIdeal.nD,
      m' ((c.tc : Thread Cert.InProjReferenceIdeal.nD Cert.InProjReferenceIdeal.τ).loc Cert.InProjReferenceIdeal.main_arg0) = m ((c.tc : Thread Cert.InProjKernelIdeal.nD Cert.InProjKernelIdeal.τ).loc Cert.InProjKernelIdeal.main_arg0)
      ∧ m' ((c.tc : Thread Cert.InProjReferenceIdeal.nD Cert.InProjReferenceIdeal.τ).loc Cert.InProjReferenceIdeal.main_arg1) = m ((c.tc : Thread Cert.InProjKernelIdeal.nD Cert.InProjKernelIdeal.τ).loc Cert.InProjKernelIdeal.main_arg1)
      ∧ m' ((c.tc : Thread Cert.InProjReferenceIdeal.nD Cert.InProjReferenceIdeal.τ).loc Cert.InProjReferenceIdeal.main_arg2) = m ((c.tc : Thread Cert.InProjKernelIdeal.nD Cert.InProjKernelIdeal.τ).loc Cert.InProjKernelIdeal.main_arg2)) →
    ∃ (v0 : (c : Dev Cert.InProjKernelIdeal.nD) → Buf (Elt Ideal) ((c.tc : Thread Cert.InProjKernelIdeal.nD Cert.InProjKernelIdeal.τ).loc Cert.InProjKernelIdeal.main_v0_0)) (v1 : (c : Dev Cert.InProjKernelIdeal.nD) → Buf (Elt Ideal) ((c.tc : Thread Cert.InProjKernelIdeal.nD Cert.InProjKernelIdeal.τ).loc Cert.InProjKernelIdeal.main_v0_1)) (v2 : (c : Dev Cert.InProjKernelIdeal.nD) → Buf (Elt Ideal) ((c.tc : Thread Cert.InProjKernelIdeal.nD Cert.InProjKernelIdeal.τ).loc Cert.InProjKernelIdeal.main_v0_2)) (v3 : (c : Dev Cert.InProjKernelIdeal.nD) → Buf (Elt Ideal) ((c.tc : Thread Cert.InProjKernelIdeal.nD Cert.InProjKernelIdeal.τ).loc Cert.InProjKernelIdeal.main_v0_3)),
      θ_run (Cert.InProjKernelIdeal.defs (F := Ideal)) (onTc (τ := Cert.InProjKernelIdeal.τ) (Cert.InProjKernelIdeal.main (F := Ideal))) ⟨m, fun _ => 0, g⟩ (fun r => ∀ c : Dev Cert.InProjKernelIdeal.nD,
          r.2.mem ((c.tc : Thread Cert.InProjKernelIdeal.nD Cert.InProjKernelIdeal.τ).loc Cert.InProjKernelIdeal.main_v0_0) = v0 c
          ∧ r.2.mem ((c.tc : Thread Cert.InProjKernelIdeal.nD Cert.InProjKernelIdeal.τ).loc Cert.InProjKernelIdeal.main_v0_1) = v1 c
          ∧ r.2.mem ((c.tc : Thread Cert.InProjKernelIdeal.nD Cert.InProjKernelIdeal.τ).loc Cert.InProjKernelIdeal.main_v0_2) = v2 c
          ∧ r.2.mem ((c.tc : Thread Cert.InProjKernelIdeal.nD Cert.InProjKernelIdeal.τ).loc Cert.InProjKernelIdeal.main_v0_3) = v3 c
          ∧ r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
          ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
          ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v14) = v0 c
          ∧ r.2.mem ((c.tc : Thread Cert.InProjReferenceIdeal.nD Cert.InProjReferenceIdeal.τ).loc Cert.InProjReferenceIdeal.main_v15) = v1 c
          ∧ r.2.mem ((c.tc : Thread Cert.InProjReferenceIdeal.nD Cert.InProjReferenceIdeal.τ).loc Cert.InProjReferenceIdeal.main_v16) = v2 c
          ∧ r.2.mem ((c.tc : Thread Cert.InProjReferenceIdeal.nD Cert.InProjReferenceIdeal.τ).loc Cert.InProjReferenceIdeal.main_v17) = v3 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_WgPgKernel_WgPgKernelIdeal : Prop :=
  True

def algebraic_WgPgKernelIdeal_WgPgReferenceIdeal [hWgPgKernelIdeal : Cert.WgPgKernelIdeal.Facts] [hWgPgReferenceIdeal : Cert.WgPgReferenceIdeal.Facts] : Prop :=
  ∀ (m : (ℓ : Loc Cert.WgPgKernelIdeal.nD Cert.WgPgKernelIdeal.τ Cert.WgPgKernelIdeal.sig) → Buf (Elt Ideal) ℓ) (g : Dev Cert.WgPgKernelIdeal.nD → PrngReg)
    (m' : (ℓ : Loc Cert.WgPgReferenceIdeal.nD Cert.WgPgReferenceIdeal.τ Cert.WgPgReferenceIdeal.sig) → Buf (Elt Ideal) ℓ) (g' : Dev Cert.WgPgReferenceIdeal.nD → PrngReg), Pre_WgPgKernelIdeal m →
    (∀ c : Dev Cert.WgPgKernelIdeal.nD,
      m' ((c.tc : Thread Cert.WgPgReferenceIdeal.nD Cert.WgPgReferenceIdeal.τ).loc Cert.WgPgReferenceIdeal.main_arg0) = m ((c.tc : Thread Cert.WgPgKernelIdeal.nD Cert.WgPgKernelIdeal.τ).loc Cert.WgPgKernelIdeal.main_arg0)
      ∧ m' ((c.tc : Thread Cert.WgPgReferenceIdeal.nD Cert.WgPgReferenceIdeal.τ).loc Cert.WgPgReferenceIdeal.main_arg1) = m ((c.tc : Thread Cert.WgPgKernelIdeal.nD Cert.WgPgKernelIdeal.τ).loc Cert.WgPgKernelIdeal.main_arg1)
      ∧ m' ((c.tc : Thread Cert.WgPgReferenceIdeal.nD Cert.WgPgReferenceIdeal.τ).loc Cert.WgPgReferenceIdeal.main_arg2) = m ((c.tc : Thread Cert.WgPgKernelIdeal.nD Cert.WgPgKernelIdeal.τ).loc Cert.WgPgKernelIdeal.main_arg2)) →
    ∃ (v0 : (c : Dev Cert.WgPgKernelIdeal.nD) → Buf (Elt Ideal) ((c.tc : Thread Cert.WgPgKernelIdeal.nD Cert.WgPgKernelIdeal.τ).loc Cert.WgPgKernelIdeal.main_v13)),
      θ_run (Cert.WgPgKernelIdeal.defs (F := Ideal)) (onTc (τ := Cert.WgPgKernelIdeal.τ) (Cert.WgPgKernelIdeal.main (F := Ideal))) ⟨m, fun _ => 0, g⟩ (fun r => ∀ c : Dev Cert.WgPgKernelIdeal.nD,
          r.2.mem ((c.tc : Thread Cert.WgPgKernelIdeal.nD Cert.WgPgKernelIdeal.τ).loc Cert.WgPgKernelIdeal.main_v13) = v0 c
          ∧ r.2.mem ((c.tc : Thread Cert.WgPgKernelIdeal.nD Cert.WgPgKernelIdeal.τ).loc Cert.WgPgKernelIdeal.main_arg0) = m ((c.tc : Thread Cert.WgPgKernelIdeal.nD Cert.WgPgKernelIdeal.τ).loc Cert.WgPgKernelIdeal.main_arg0)
          ∧ r.2.mem ((c.tc : Thread Cert.WgPgKernelIdeal.nD Cert.WgPgKernelIdeal.τ).loc Cert.WgPgKernelIdeal.main_arg1) = m ((c.tc : Thread Cert.WgPgKernelIdeal.nD Cert.WgPgKernelIdeal.τ).loc Cert.WgPgKernelIdeal.main_arg1)
          ∧ r.2.mem ((c.tc : Thread Cert.WgPgKernelIdeal.nD Cert.WgPgKernelIdeal.τ).loc Cert.WgPgKernelIdeal.main_arg2) = m ((c.tc : Thread Cert.WgPgKernelIdeal.nD Cert.WgPgKernelIdeal.τ).loc Cert.WgPgKernelIdeal.main_arg2))
      ∧ θ_run (Cert.WgPgReferenceIdeal.defs (F := Ideal)) (onTc (τ := Cert.WgPgReferenceIdeal.τ) (Cert.WgPgReferenceIdeal.main (F := Ideal))) ⟨m', fun _ => 0, g'⟩ (fun r => ∀ c : Dev Cert.WgPgReferenceIdeal.nD,
          r.2.mem ((c.tc : Thread Cert.WgPgReferenceIdeal.nD Cert.WgPgReferenceIdeal.τ).loc Cert.WgPgReferenceIdeal.main_v17) = v0 c
          ∧ r.2.mem ((c.tc : Thread Cert.WgPgReferenceIdeal.nD Cert.WgPgReferenceIdeal.τ).loc Cert.WgPgReferenceIdeal.main_arg0) = m' ((c.tc : Thread Cert.WgPgReferenceIdeal.nD Cert.WgPgReferenceIdeal.τ).loc Cert.WgPgReferenceIdeal.main_arg0)
          ∧ r.2.mem ((c.tc : Thread Cert.WgPgReferenceIdeal.nD Cert.WgPgReferenceIdeal.τ).loc Cert.WgPgReferenceIdeal.main_arg1) = m' ((c.tc : Thread Cert.WgPgReferenceIdeal.nD Cert.WgPgReferenceIdeal.τ).loc Cert.WgPgReferenceIdeal.main_arg1)
          ∧ r.2.mem ((c.tc : Thread Cert.WgPgReferenceIdeal.nD Cert.WgPgReferenceIdeal.τ).loc Cert.WgPgReferenceIdeal.main_arg2) = m' ((c.tc : Thread Cert.WgPgReferenceIdeal.nD Cert.WgPgReferenceIdeal.τ).loc Cert.WgPgReferenceIdeal.main_arg2))

def preserves_WgPpKernel_WgPpKernelIdeal : Prop :=
  True

def algebraic_WgPpKernelIdeal_WgPpReferenceIdeal [hWgPpKernelIdeal : Cert.WgPpKernelIdeal.Facts] [hWgPpReferenceIdeal : Cert.WgPpReferenceIdeal.Facts] : Prop :=
  ∀ (m : (ℓ : Loc Cert.WgPpKernelIdeal.nD Cert.WgPpKernelIdeal.τ Cert.WgPpKernelIdeal.sig) → Buf (Elt Ideal) ℓ) (g : Dev Cert.WgPpKernelIdeal.nD → PrngReg)
    (m' : (ℓ : Loc Cert.WgPpReferenceIdeal.nD Cert.WgPpReferenceIdeal.τ Cert.WgPpReferenceIdeal.sig) → Buf (Elt Ideal) ℓ) (g' : Dev Cert.WgPpReferenceIdeal.nD → PrngReg), Pre_WgPpKernelIdeal m →
    (∀ c : Dev Cert.WgPpKernelIdeal.nD,
      m' ((c.tc : Thread Cert.WgPpReferenceIdeal.nD Cert.WgPpReferenceIdeal.τ).loc Cert.WgPpReferenceIdeal.main_arg0) = m ((c.tc : Thread Cert.WgPpKernelIdeal.nD Cert.WgPpKernelIdeal.τ).loc Cert.WgPpKernelIdeal.main_arg0)
      ∧ m' ((c.tc : Thread Cert.WgPpReferenceIdeal.nD Cert.WgPpReferenceIdeal.τ).loc Cert.WgPpReferenceIdeal.main_arg1) = m ((c.tc : Thread Cert.WgPpKernelIdeal.nD Cert.WgPpKernelIdeal.τ).loc Cert.WgPpKernelIdeal.main_arg1)) →
    ∃ (v0 : (c : Dev Cert.WgPpKernelIdeal.nD) → Buf (Elt Ideal) ((c.tc : Thread Cert.WgPpKernelIdeal.nD Cert.WgPpKernelIdeal.τ).loc Cert.WgPpKernelIdeal.main_v0)),
      θ_run (Cert.WgPpKernelIdeal.defs (F := Ideal)) (onTc (τ := Cert.WgPpKernelIdeal.τ) (Cert.WgPpKernelIdeal.main (F := Ideal))) ⟨m, fun _ => 0, g⟩ (fun r => ∀ c : Dev Cert.WgPpKernelIdeal.nD,
          r.2.mem ((c.tc : Thread Cert.WgPpKernelIdeal.nD Cert.WgPpKernelIdeal.τ).loc Cert.WgPpKernelIdeal.main_v0) = v0 c
          ∧ r.2.mem ((c.tc : Thread Cert.WgPpKernelIdeal.nD Cert.WgPpKernelIdeal.τ).loc Cert.WgPpKernelIdeal.main_arg0) = m ((c.tc : Thread Cert.WgPpKernelIdeal.nD Cert.WgPpKernelIdeal.τ).loc Cert.WgPpKernelIdeal.main_arg0)
          ∧ r.2.mem ((c.tc : Thread Cert.WgPpKernelIdeal.nD Cert.WgPpKernelIdeal.τ).loc Cert.WgPpKernelIdeal.main_arg1) = m ((c.tc : Thread Cert.WgPpKernelIdeal.nD Cert.WgPpKernelIdeal.τ).loc Cert.WgPpKernelIdeal.main_arg1))
      ∧ θ_run (Cert.WgPpReferenceIdeal.defs (F := Ideal)) (onTc (τ := Cert.WgPpReferenceIdeal.τ) (Cert.WgPpReferenceIdeal.main (F := Ideal))) ⟨m', fun _ => 0, g'⟩ (fun r => ∀ c : Dev Cert.WgPpReferenceIdeal.nD,
          r.2.mem ((c.tc : Thread Cert.WgPpReferenceIdeal.nD Cert.WgPpReferenceIdeal.τ).loc Cert.WgPpReferenceIdeal.main_v5) = v0 c
          ∧ r.2.mem ((c.tc : Thread Cert.WgPpReferenceIdeal.nD Cert.WgPpReferenceIdeal.τ).loc Cert.WgPpReferenceIdeal.main_arg0) = m' ((c.tc : Thread Cert.WgPpReferenceIdeal.nD Cert.WgPpReferenceIdeal.τ).loc Cert.WgPpReferenceIdeal.main_arg0)
          ∧ r.2.mem ((c.tc : Thread Cert.WgPpReferenceIdeal.nD Cert.WgPpReferenceIdeal.τ).loc Cert.WgPpReferenceIdeal.main_arg1) = m' ((c.tc : Thread Cert.WgPpReferenceIdeal.nD Cert.WgPpReferenceIdeal.τ).loc Cert.WgPpReferenceIdeal.main_arg1))

def preserves_AdamInKernel_AdamInKernelIdeal : Prop :=
  True

def algebraic_AdamInKernelIdeal_AdamInReferenceIdeal [hAdamInKernelIdeal : Cert.AdamInKernelIdeal.Facts] [hAdamInReferenceIdeal : Cert.AdamInReferenceIdeal.Facts] : Prop :=
  ∀ (m : (ℓ : Loc Cert.AdamInKernelIdeal.nD Cert.AdamInKernelIdeal.τ Cert.AdamInKernelIdeal.sig) → Buf (Elt Ideal) ℓ) (g : Dev Cert.AdamInKernelIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInKernelIdeal m →
    (∀ c : Dev Cert.AdamInKernelIdeal.nD,
      m' ((c.tc : Thread Cert.AdamInReferenceIdeal.nD Cert.AdamInReferenceIdeal.τ).loc Cert.AdamInReferenceIdeal.main_arg0) = m ((c.tc : Thread Cert.AdamInKernelIdeal.nD Cert.AdamInKernelIdeal.τ).loc Cert.AdamInKernelIdeal.main_arg0)
      ∧ m' ((c.tc : Thread Cert.AdamInReferenceIdeal.nD Cert.AdamInReferenceIdeal.τ).loc Cert.AdamInReferenceIdeal.main_arg1) = m ((c.tc : Thread Cert.AdamInKernelIdeal.nD Cert.AdamInKernelIdeal.τ).loc Cert.AdamInKernelIdeal.main_arg1)
      ∧ m' ((c.tc : Thread Cert.AdamInReferenceIdeal.nD Cert.AdamInReferenceIdeal.τ).loc Cert.AdamInReferenceIdeal.main_arg2) = m ((c.tc : Thread Cert.AdamInKernelIdeal.nD Cert.AdamInKernelIdeal.τ).loc Cert.AdamInKernelIdeal.main_arg2)
      ∧ m' ((c.tc : Thread Cert.AdamInReferenceIdeal.nD Cert.AdamInReferenceIdeal.τ).loc Cert.AdamInReferenceIdeal.main_arg3) = m ((c.tc : Thread Cert.AdamInKernelIdeal.nD Cert.AdamInKernelIdeal.τ).loc Cert.AdamInKernelIdeal.main_arg3)
      ∧ m' ((c.tc : Thread Cert.AdamInReferenceIdeal.nD Cert.AdamInReferenceIdeal.τ).loc Cert.AdamInReferenceIdeal.main_arg4) = m ((c.tc : Thread Cert.AdamInKernelIdeal.nD Cert.AdamInKernelIdeal.τ).loc Cert.AdamInKernelIdeal.main_arg4)) →
    ∃ (v0 : (c : Dev Cert.AdamInKernelIdeal.nD) → Buf (Elt Ideal) ((c.tc : Thread Cert.AdamInKernelIdeal.nD Cert.AdamInKernelIdeal.τ).loc Cert.AdamInKernelIdeal.main_v0_0)) (v1 : (c : Dev Cert.AdamInKernelIdeal.nD) → Buf (Elt Ideal) ((c.tc : Thread Cert.AdamInKernelIdeal.nD Cert.AdamInKernelIdeal.τ).loc Cert.AdamInKernelIdeal.main_v0_1)) (v2 : (c : Dev Cert.AdamInKernelIdeal.nD) → Buf (Elt Ideal) ((c.tc : Thread Cert.AdamInKernelIdeal.nD Cert.AdamInKernelIdeal.τ).loc Cert.AdamInKernelIdeal.main_v0_2)) (v3 : (c : Dev Cert.AdamInKernelIdeal.nD) → Buf (Elt Ideal) ((c.tc : Thread Cert.AdamInKernelIdeal.nD Cert.AdamInKernelIdeal.τ).loc Cert.AdamInKernelIdeal.main_v0_3)),
      θ_run (Cert.AdamInKernelIdeal.defs (F := Ideal)) (onTc (τ := Cert.AdamInKernelIdeal.τ) (Cert.AdamInKernelIdeal.main (F := Ideal))) ⟨m, fun _ => 0, g⟩ (fun r => ∀ c : Dev Cert.AdamInKernelIdeal.nD,
          r.2.mem ((c.tc : Thread Cert.AdamInKernelIdeal.nD Cert.AdamInKernelIdeal.τ).loc Cert.AdamInKernelIdeal.main_v0_0) = v0 c
          ∧ r.2.mem ((c.tc : Thread Cert.AdamInKernelIdeal.nD Cert.AdamInKernelIdeal.τ).loc Cert.AdamInKernelIdeal.main_v0_1) = v1 c
          ∧ r.2.mem ((c.tc : Thread Cert.AdamInKernelIdeal.nD Cert.AdamInKernelIdeal.τ).loc Cert.AdamInKernelIdeal.main_v0_2) = v2 c
          ∧ r.2.mem ((c.tc : Thread Cert.AdamInKernelIdeal.nD Cert.AdamInKernelIdeal.τ).loc Cert.AdamInKernelIdeal.main_v0_3) = v3 c
          ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
          ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
          ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
          ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
          ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v3) = v0 c
          ∧ r.2.mem ((c.tc : Thread Cert.AdamInReferenceIdeal.nD Cert.AdamInReferenceIdeal.τ).loc Cert.AdamInReferenceIdeal.main_v27) = v1 c
          ∧ r.2.mem ((c.tc : Thread Cert.AdamInReferenceIdeal.nD Cert.AdamInReferenceIdeal.τ).loc Cert.AdamInReferenceIdeal.main_v8) = v2 c
          ∧ r.2.mem ((c.tc : Thread Cert.AdamInReferenceIdeal.nD Cert.AdamInReferenceIdeal.τ).loc Cert.AdamInReferenceIdeal.main_v14) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamGluKernel_AdamGluKernelIdeal : Prop :=
  True

def algebraic_AdamGluKernelIdeal_AdamGluReferenceIdeal [hAdamGluKernelIdeal : Cert.AdamGluKernelIdeal.Facts] [hAdamGluReferenceIdeal : Cert.AdamGluReferenceIdeal.Facts] : Prop :=
  ∀ (m : (ℓ : Loc Cert.AdamGluKernelIdeal.nD Cert.AdamGluKernelIdeal.τ Cert.AdamGluKernelIdeal.sig) → Buf (Elt Ideal) ℓ) (g : Dev Cert.AdamGluKernelIdeal.nD → PrngReg)
    (m' : (ℓ : Loc Cert.AdamGluReferenceIdeal.nD Cert.AdamGluReferenceIdeal.τ Cert.AdamGluReferenceIdeal.sig) → Buf (Elt Ideal) ℓ) (g' : Dev Cert.AdamGluReferenceIdeal.nD → PrngReg), Pre_AdamGluKernelIdeal m →
    (∀ c : Dev Cert.AdamGluKernelIdeal.nD,
      m' ((c.tc : Thread Cert.AdamGluReferenceIdeal.nD Cert.AdamGluReferenceIdeal.τ).loc Cert.AdamGluReferenceIdeal.main_arg0) = m ((c.tc : Thread Cert.AdamGluKernelIdeal.nD Cert.AdamGluKernelIdeal.τ).loc Cert.AdamGluKernelIdeal.main_arg0)
      ∧ m' ((c.tc : Thread Cert.AdamGluReferenceIdeal.nD Cert.AdamGluReferenceIdeal.τ).loc Cert.AdamGluReferenceIdeal.main_arg1) = m ((c.tc : Thread Cert.AdamGluKernelIdeal.nD Cert.AdamGluKernelIdeal.τ).loc Cert.AdamGluKernelIdeal.main_arg1)
      ∧ m' ((c.tc : Thread Cert.AdamGluReferenceIdeal.nD Cert.AdamGluReferenceIdeal.τ).loc Cert.AdamGluReferenceIdeal.main_arg2) = m ((c.tc : Thread Cert.AdamGluKernelIdeal.nD Cert.AdamGluKernelIdeal.τ).loc Cert.AdamGluKernelIdeal.main_arg2)
      ∧ m' ((c.tc : Thread Cert.AdamGluReferenceIdeal.nD Cert.AdamGluReferenceIdeal.τ).loc Cert.AdamGluReferenceIdeal.main_arg3) = m ((c.tc : Thread Cert.AdamGluKernelIdeal.nD Cert.AdamGluKernelIdeal.τ).loc Cert.AdamGluKernelIdeal.main_arg3)
      ∧ m' ((c.tc : Thread Cert.AdamGluReferenceIdeal.nD Cert.AdamGluReferenceIdeal.τ).loc Cert.AdamGluReferenceIdeal.main_arg4) = m ((c.tc : Thread Cert.AdamGluKernelIdeal.nD Cert.AdamGluKernelIdeal.τ).loc Cert.AdamGluKernelIdeal.main_arg4)) →
    ∃ (v0 : (c : Dev Cert.AdamGluKernelIdeal.nD) → Buf (Elt Ideal) ((c.tc : Thread Cert.AdamGluKernelIdeal.nD Cert.AdamGluKernelIdeal.τ).loc Cert.AdamGluKernelIdeal.main_v0_0)) (v1 : (c : Dev Cert.AdamGluKernelIdeal.nD) → Buf (Elt Ideal) ((c.tc : Thread Cert.AdamGluKernelIdeal.nD Cert.AdamGluKernelIdeal.τ).loc Cert.AdamGluKernelIdeal.main_v0_1)) (v2 : (c : Dev Cert.AdamGluKernelIdeal.nD) → Buf (Elt Ideal) ((c.tc : Thread Cert.AdamGluKernelIdeal.nD Cert.AdamGluKernelIdeal.τ).loc Cert.AdamGluKernelIdeal.main_v0_2)) (v3 : (c : Dev Cert.AdamGluKernelIdeal.nD) → Buf (Elt Ideal) ((c.tc : Thread Cert.AdamGluKernelIdeal.nD Cert.AdamGluKernelIdeal.τ).loc Cert.AdamGluKernelIdeal.main_v0_3)),
      θ_run (Cert.AdamGluKernelIdeal.defs (F := Ideal)) (onTc (τ := Cert.AdamGluKernelIdeal.τ) (Cert.AdamGluKernelIdeal.main (F := Ideal))) ⟨m, fun _ => 0, g⟩ (fun r => ∀ c : Dev Cert.AdamGluKernelIdeal.nD,
          r.2.mem ((c.tc : Thread Cert.AdamGluKernelIdeal.nD Cert.AdamGluKernelIdeal.τ).loc Cert.AdamGluKernelIdeal.main_v0_0) = v0 c
          ∧ r.2.mem ((c.tc : Thread Cert.AdamGluKernelIdeal.nD Cert.AdamGluKernelIdeal.τ).loc Cert.AdamGluKernelIdeal.main_v0_1) = v1 c
          ∧ r.2.mem ((c.tc : Thread Cert.AdamGluKernelIdeal.nD Cert.AdamGluKernelIdeal.τ).loc Cert.AdamGluKernelIdeal.main_v0_2) = v2 c
          ∧ r.2.mem ((c.tc : Thread Cert.AdamGluKernelIdeal.nD Cert.AdamGluKernelIdeal.τ).loc Cert.AdamGluKernelIdeal.main_v0_3) = v3 c
          ∧ r.2.mem ((c.tc : Thread Cert.AdamGluKernelIdeal.nD Cert.AdamGluKernelIdeal.τ).loc Cert.AdamGluKernelIdeal.main_arg0) = m ((c.tc : Thread Cert.AdamGluKernelIdeal.nD Cert.AdamGluKernelIdeal.τ).loc Cert.AdamGluKernelIdeal.main_arg0)
          ∧ r.2.mem ((c.tc : Thread Cert.AdamGluKernelIdeal.nD Cert.AdamGluKernelIdeal.τ).loc Cert.AdamGluKernelIdeal.main_arg1) = m ((c.tc : Thread Cert.AdamGluKernelIdeal.nD Cert.AdamGluKernelIdeal.τ).loc Cert.AdamGluKernelIdeal.main_arg1)
          ∧ r.2.mem ((c.tc : Thread Cert.AdamGluKernelIdeal.nD Cert.AdamGluKernelIdeal.τ).loc Cert.AdamGluKernelIdeal.main_arg2) = m ((c.tc : Thread Cert.AdamGluKernelIdeal.nD Cert.AdamGluKernelIdeal.τ).loc Cert.AdamGluKernelIdeal.main_arg2)
          ∧ r.2.mem ((c.tc : Thread Cert.AdamGluKernelIdeal.nD Cert.AdamGluKernelIdeal.τ).loc Cert.AdamGluKernelIdeal.main_arg3) = m ((c.tc : Thread Cert.AdamGluKernelIdeal.nD Cert.AdamGluKernelIdeal.τ).loc Cert.AdamGluKernelIdeal.main_arg3)
          ∧ r.2.mem ((c.tc : Thread Cert.AdamGluKernelIdeal.nD Cert.AdamGluKernelIdeal.τ).loc Cert.AdamGluKernelIdeal.main_arg4) = m ((c.tc : Thread Cert.AdamGluKernelIdeal.nD Cert.AdamGluKernelIdeal.τ).loc Cert.AdamGluKernelIdeal.main_arg4))
      ∧ θ_run (Cert.AdamGluReferenceIdeal.defs (F := Ideal)) (onTc (τ := Cert.AdamGluReferenceIdeal.τ) (Cert.AdamGluReferenceIdeal.main (F := Ideal))) ⟨m', fun _ => 0, g'⟩ (fun r => ∀ c : Dev Cert.AdamGluReferenceIdeal.nD,
          r.2.mem ((c.tc : Thread Cert.AdamGluReferenceIdeal.nD Cert.AdamGluReferenceIdeal.τ).loc Cert.AdamGluReferenceIdeal.main_v3) = v0 c
          ∧ r.2.mem ((c.tc : Thread Cert.AdamGluReferenceIdeal.nD Cert.AdamGluReferenceIdeal.τ).loc Cert.AdamGluReferenceIdeal.main_v27) = v1 c
          ∧ r.2.mem ((c.tc : Thread Cert.AdamGluReferenceIdeal.nD Cert.AdamGluReferenceIdeal.τ).loc Cert.AdamGluReferenceIdeal.main_v8) = v2 c
          ∧ r.2.mem ((c.tc : Thread Cert.AdamGluReferenceIdeal.nD Cert.AdamGluReferenceIdeal.τ).loc Cert.AdamGluReferenceIdeal.main_v14) = v3 c
          ∧ r.2.mem ((c.tc : Thread Cert.AdamGluReferenceIdeal.nD Cert.AdamGluReferenceIdeal.τ).loc Cert.AdamGluReferenceIdeal.main_arg0) = m' ((c.tc : Thread Cert.AdamGluReferenceIdeal.nD Cert.AdamGluReferenceIdeal.τ).loc Cert.AdamGluReferenceIdeal.main_arg0)
          ∧ r.2.mem ((c.tc : Thread Cert.AdamGluReferenceIdeal.nD Cert.AdamGluReferenceIdeal.τ).loc Cert.AdamGluReferenceIdeal.main_arg1) = m' ((c.tc : Thread Cert.AdamGluReferenceIdeal.nD Cert.AdamGluReferenceIdeal.τ).loc Cert.AdamGluReferenceIdeal.main_arg1)
          ∧ r.2.mem ((c.tc : Thread Cert.AdamGluReferenceIdeal.nD Cert.AdamGluReferenceIdeal.τ).loc Cert.AdamGluReferenceIdeal.main_arg2) = m' ((c.tc : Thread Cert.AdamGluReferenceIdeal.nD Cert.AdamGluReferenceIdeal.τ).loc Cert.AdamGluReferenceIdeal.main_arg2)
          ∧ r.2.mem ((c.tc : Thread Cert.AdamGluReferenceIdeal.nD Cert.AdamGluReferenceIdeal.τ).loc Cert.AdamGluReferenceIdeal.main_arg3) = m' ((c.tc : Thread Cert.AdamGluReferenceIdeal.nD Cert.AdamGluReferenceIdeal.τ).loc Cert.AdamGluReferenceIdeal.main_arg3)
          ∧ r.2.mem ((c.tc : Thread Cert.AdamGluReferenceIdeal.nD Cert.AdamGluReferenceIdeal.τ).loc Cert.AdamGluReferenceIdeal.main_arg4) = m' ((c.tc : Thread Cert.AdamGluReferenceIdeal.nD Cert.AdamGluReferenceIdeal.τ).loc Cert.AdamGluReferenceIdeal.main_arg4))

def preserves_AdamBranchKernel_AdamBranchKernelIdeal : Prop :=
  True

def algebraic_AdamBranchKernelIdeal_AdamBranchReferenceIdeal [hAdamBranchKernelIdeal : Cert.AdamBranchKernelIdeal.Facts] [hAdamBranchReferenceIdeal : Cert.AdamBranchReferenceIdeal.Facts] : Prop :=
  ∀ (m : (ℓ : Loc Cert.AdamBranchKernelIdeal.nD Cert.AdamBranchKernelIdeal.τ Cert.AdamBranchKernelIdeal.sig) → Buf (Elt Ideal) ℓ) (g : Dev Cert.AdamBranchKernelIdeal.nD → PrngReg)
    (m' : (ℓ : Loc Cert.AdamBranchReferenceIdeal.nD Cert.AdamBranchReferenceIdeal.τ Cert.AdamBranchReferenceIdeal.sig) → Buf (Elt Ideal) ℓ) (g' : Dev Cert.AdamBranchReferenceIdeal.nD → PrngReg), Pre_AdamBranchKernelIdeal m →
    (∀ c : Dev Cert.AdamBranchKernelIdeal.nD,
      m' ((c.tc : Thread Cert.AdamBranchReferenceIdeal.nD Cert.AdamBranchReferenceIdeal.τ).loc Cert.AdamBranchReferenceIdeal.main_arg0) = m ((c.tc : Thread Cert.AdamBranchKernelIdeal.nD Cert.AdamBranchKernelIdeal.τ).loc Cert.AdamBranchKernelIdeal.main_arg0)
      ∧ m' ((c.tc : Thread Cert.AdamBranchReferenceIdeal.nD Cert.AdamBranchReferenceIdeal.τ).loc Cert.AdamBranchReferenceIdeal.main_arg1) = m ((c.tc : Thread Cert.AdamBranchKernelIdeal.nD Cert.AdamBranchKernelIdeal.τ).loc Cert.AdamBranchKernelIdeal.main_arg1)
      ∧ m' ((c.tc : Thread Cert.AdamBranchReferenceIdeal.nD Cert.AdamBranchReferenceIdeal.τ).loc Cert.AdamBranchReferenceIdeal.main_arg2) = m ((c.tc : Thread Cert.AdamBranchKernelIdeal.nD Cert.AdamBranchKernelIdeal.τ).loc Cert.AdamBranchKernelIdeal.main_arg2)
      ∧ m' ((c.tc : Thread Cert.AdamBranchReferenceIdeal.nD Cert.AdamBranchReferenceIdeal.τ).loc Cert.AdamBranchReferenceIdeal.main_arg3) = m ((c.tc : Thread Cert.AdamBranchKernelIdeal.nD Cert.AdamBranchKernelIdeal.τ).loc Cert.AdamBranchKernelIdeal.main_arg3)
      ∧ m' ((c.tc : Thread Cert.AdamBranchReferenceIdeal.nD Cert.AdamBranchReferenceIdeal.τ).loc Cert.AdamBranchReferenceIdeal.main_arg4) = m ((c.tc : Thread Cert.AdamBranchKernelIdeal.nD Cert.AdamBranchKernelIdeal.τ).loc Cert.AdamBranchKernelIdeal.main_arg4)) →
    ∃ (v0 : (c : Dev Cert.AdamBranchKernelIdeal.nD) → Buf (Elt Ideal) ((c.tc : Thread Cert.AdamBranchKernelIdeal.nD Cert.AdamBranchKernelIdeal.τ).loc Cert.AdamBranchKernelIdeal.main_v0_0)) (v1 : (c : Dev Cert.AdamBranchKernelIdeal.nD) → Buf (Elt Ideal) ((c.tc : Thread Cert.AdamBranchKernelIdeal.nD Cert.AdamBranchKernelIdeal.τ).loc Cert.AdamBranchKernelIdeal.main_v0_1)) (v2 : (c : Dev Cert.AdamBranchKernelIdeal.nD) → Buf (Elt Ideal) ((c.tc : Thread Cert.AdamBranchKernelIdeal.nD Cert.AdamBranchKernelIdeal.τ).loc Cert.AdamBranchKernelIdeal.main_v0_2)) (v3 : (c : Dev Cert.AdamBranchKernelIdeal.nD) → Buf (Elt Ideal) ((c.tc : Thread Cert.AdamBranchKernelIdeal.nD Cert.AdamBranchKernelIdeal.τ).loc Cert.AdamBranchKernelIdeal.main_v0_3)),
      θ_run (Cert.AdamBranchKernelIdeal.defs (F := Ideal)) (onTc (τ := Cert.AdamBranchKernelIdeal.τ) (Cert.AdamBranchKernelIdeal.main (F := Ideal))) ⟨m, fun _ => 0, g⟩ (fun r => ∀ c : Dev Cert.AdamBranchKernelIdeal.nD,
          r.2.mem ((c.tc : Thread Cert.AdamBranchKernelIdeal.nD Cert.AdamBranchKernelIdeal.τ).loc Cert.AdamBranchKernelIdeal.main_v0_0) = v0 c
          ∧ r.2.mem ((c.tc : Thread Cert.AdamBranchKernelIdeal.nD Cert.AdamBranchKernelIdeal.τ).loc Cert.AdamBranchKernelIdeal.main_v0_1) = v1 c
          ∧ r.2.mem ((c.tc : Thread Cert.AdamBranchKernelIdeal.nD Cert.AdamBranchKernelIdeal.τ).loc Cert.AdamBranchKernelIdeal.main_v0_2) = v2 c
          ∧ r.2.mem ((c.tc : Thread Cert.AdamBranchKernelIdeal.nD Cert.AdamBranchKernelIdeal.τ).loc Cert.AdamBranchKernelIdeal.main_v0_3) = v3 c
          ∧ r.2.mem ((c.tc : Thread Cert.AdamBranchKernelIdeal.nD Cert.AdamBranchKernelIdeal.τ).loc Cert.AdamBranchKernelIdeal.main_arg0) = m ((c.tc : Thread Cert.AdamBranchKernelIdeal.nD Cert.AdamBranchKernelIdeal.τ).loc Cert.AdamBranchKernelIdeal.main_arg0)
          ∧ r.2.mem ((c.tc : Thread Cert.AdamBranchKernelIdeal.nD Cert.AdamBranchKernelIdeal.τ).loc Cert.AdamBranchKernelIdeal.main_arg1) = m ((c.tc : Thread Cert.AdamBranchKernelIdeal.nD Cert.AdamBranchKernelIdeal.τ).loc Cert.AdamBranchKernelIdeal.main_arg1)
          ∧ r.2.mem ((c.tc : Thread Cert.AdamBranchKernelIdeal.nD Cert.AdamBranchKernelIdeal.τ).loc Cert.AdamBranchKernelIdeal.main_arg2) = m ((c.tc : Thread Cert.AdamBranchKernelIdeal.nD Cert.AdamBranchKernelIdeal.τ).loc Cert.AdamBranchKernelIdeal.main_arg2)
          ∧ r.2.mem ((c.tc : Thread Cert.AdamBranchKernelIdeal.nD Cert.AdamBranchKernelIdeal.τ).loc Cert.AdamBranchKernelIdeal.main_arg3) = m ((c.tc : Thread Cert.AdamBranchKernelIdeal.nD Cert.AdamBranchKernelIdeal.τ).loc Cert.AdamBranchKernelIdeal.main_arg3)
          ∧ r.2.mem ((c.tc : Thread Cert.AdamBranchKernelIdeal.nD Cert.AdamBranchKernelIdeal.τ).loc Cert.AdamBranchKernelIdeal.main_arg4) = m ((c.tc : Thread Cert.AdamBranchKernelIdeal.nD Cert.AdamBranchKernelIdeal.τ).loc Cert.AdamBranchKernelIdeal.main_arg4))
      ∧ θ_run (Cert.AdamBranchReferenceIdeal.defs (F := Ideal)) (onTc (τ := Cert.AdamBranchReferenceIdeal.τ) (Cert.AdamBranchReferenceIdeal.main (F := Ideal))) ⟨m', fun _ => 0, g'⟩ (fun r => ∀ c : Dev Cert.AdamBranchReferenceIdeal.nD,
          r.2.mem ((c.tc : Thread Cert.AdamBranchReferenceIdeal.nD Cert.AdamBranchReferenceIdeal.τ).loc Cert.AdamBranchReferenceIdeal.main_v3) = v0 c
          ∧ r.2.mem ((c.tc : Thread Cert.AdamBranchReferenceIdeal.nD Cert.AdamBranchReferenceIdeal.τ).loc Cert.AdamBranchReferenceIdeal.main_v27) = v1 c
          ∧ r.2.mem ((c.tc : Thread Cert.AdamBranchReferenceIdeal.nD Cert.AdamBranchReferenceIdeal.τ).loc Cert.AdamBranchReferenceIdeal.main_v8) = v2 c
          ∧ r.2.mem ((c.tc : Thread Cert.AdamBranchReferenceIdeal.nD Cert.AdamBranchReferenceIdeal.τ).loc Cert.AdamBranchReferenceIdeal.main_v14) = v3 c
          ∧ r.2.mem ((c.tc : Thread Cert.AdamBranchReferenceIdeal.nD Cert.AdamBranchReferenceIdeal.τ).loc Cert.AdamBranchReferenceIdeal.main_arg0) = m' ((c.tc : Thread Cert.AdamBranchReferenceIdeal.nD Cert.AdamBranchReferenceIdeal.τ).loc Cert.AdamBranchReferenceIdeal.main_arg0)
          ∧ r.2.mem ((c.tc : Thread Cert.AdamBranchReferenceIdeal.nD Cert.AdamBranchReferenceIdeal.τ).loc Cert.AdamBranchReferenceIdeal.main_arg1) = m' ((c.tc : Thread Cert.AdamBranchReferenceIdeal.nD Cert.AdamBranchReferenceIdeal.τ).loc Cert.AdamBranchReferenceIdeal.main_arg1)
          ∧ r.2.mem ((c.tc : Thread Cert.AdamBranchReferenceIdeal.nD Cert.AdamBranchReferenceIdeal.τ).loc Cert.AdamBranchReferenceIdeal.main_arg2) = m' ((c.tc : Thread Cert.AdamBranchReferenceIdeal.nD Cert.AdamBranchReferenceIdeal.τ).loc Cert.AdamBranchReferenceIdeal.main_arg2)
          ∧ r.2.mem ((c.tc : Thread Cert.AdamBranchReferenceIdeal.nD Cert.AdamBranchReferenceIdeal.τ).loc Cert.AdamBranchReferenceIdeal.main_arg3) = m' ((c.tc : Thread Cert.AdamBranchReferenceIdeal.nD Cert.AdamBranchReferenceIdeal.τ).loc Cert.AdamBranchReferenceIdeal.main_arg3)
          ∧ r.2.mem ((c.tc : Thread Cert.AdamBranchReferenceIdeal.nD Cert.AdamBranchReferenceIdeal.τ).loc Cert.AdamBranchReferenceIdeal.main_arg4) = m' ((c.tc : Thread Cert.AdamBranchReferenceIdeal.nD Cert.AdamBranchReferenceIdeal.τ).loc Cert.AdamBranchReferenceIdeal.main_arg4))

def preserves_AdamOutKernel_AdamOutKernelIdeal : Prop :=
  True

def algebraic_AdamOutKernelIdeal_AdamOutReferenceIdeal [hAdamOutKernelIdeal : Cert.AdamOutKernelIdeal.Facts] [hAdamOutReferenceIdeal : Cert.AdamOutReferenceIdeal.Facts] : Prop :=
  ∀ (m : (ℓ : Loc Cert.AdamOutKernelIdeal.nD Cert.AdamOutKernelIdeal.τ Cert.AdamOutKernelIdeal.sig) → Buf (Elt Ideal) ℓ) (g : Dev Cert.AdamOutKernelIdeal.nD → PrngReg)
    (m' : (ℓ : Loc Cert.AdamOutReferenceIdeal.nD Cert.AdamOutReferenceIdeal.τ Cert.AdamOutReferenceIdeal.sig) → Buf (Elt Ideal) ℓ) (g' : Dev Cert.AdamOutReferenceIdeal.nD → PrngReg), Pre_AdamOutKernelIdeal m →
    (∀ c : Dev Cert.AdamOutKernelIdeal.nD,
      m' ((c.tc : Thread Cert.AdamOutReferenceIdeal.nD Cert.AdamOutReferenceIdeal.τ).loc Cert.AdamOutReferenceIdeal.main_arg0) = m ((c.tc : Thread Cert.AdamOutKernelIdeal.nD Cert.AdamOutKernelIdeal.τ).loc Cert.AdamOutKernelIdeal.main_arg0)
      ∧ m' ((c.tc : Thread Cert.AdamOutReferenceIdeal.nD Cert.AdamOutReferenceIdeal.τ).loc Cert.AdamOutReferenceIdeal.main_arg1) = m ((c.tc : Thread Cert.AdamOutKernelIdeal.nD Cert.AdamOutKernelIdeal.τ).loc Cert.AdamOutKernelIdeal.main_arg1)
      ∧ m' ((c.tc : Thread Cert.AdamOutReferenceIdeal.nD Cert.AdamOutReferenceIdeal.τ).loc Cert.AdamOutReferenceIdeal.main_arg2) = m ((c.tc : Thread Cert.AdamOutKernelIdeal.nD Cert.AdamOutKernelIdeal.τ).loc Cert.AdamOutKernelIdeal.main_arg2)
      ∧ m' ((c.tc : Thread Cert.AdamOutReferenceIdeal.nD Cert.AdamOutReferenceIdeal.τ).loc Cert.AdamOutReferenceIdeal.main_arg3) = m ((c.tc : Thread Cert.AdamOutKernelIdeal.nD Cert.AdamOutKernelIdeal.τ).loc Cert.AdamOutKernelIdeal.main_arg3)
      ∧ m' ((c.tc : Thread Cert.AdamOutReferenceIdeal.nD Cert.AdamOutReferenceIdeal.τ).loc Cert.AdamOutReferenceIdeal.main_arg4) = m ((c.tc : Thread Cert.AdamOutKernelIdeal.nD Cert.AdamOutKernelIdeal.τ).loc Cert.AdamOutKernelIdeal.main_arg4)) →
    ∃ (v0 : (c : Dev Cert.AdamOutKernelIdeal.nD) → Buf (Elt Ideal) ((c.tc : Thread Cert.AdamOutKernelIdeal.nD Cert.AdamOutKernelIdeal.τ).loc Cert.AdamOutKernelIdeal.main_v0_0)) (v1 : (c : Dev Cert.AdamOutKernelIdeal.nD) → Buf (Elt Ideal) ((c.tc : Thread Cert.AdamOutKernelIdeal.nD Cert.AdamOutKernelIdeal.τ).loc Cert.AdamOutKernelIdeal.main_v0_1)) (v2 : (c : Dev Cert.AdamOutKernelIdeal.nD) → Buf (Elt Ideal) ((c.tc : Thread Cert.AdamOutKernelIdeal.nD Cert.AdamOutKernelIdeal.τ).loc Cert.AdamOutKernelIdeal.main_v0_2)) (v3 : (c : Dev Cert.AdamOutKernelIdeal.nD) → Buf (Elt Ideal) ((c.tc : Thread Cert.AdamOutKernelIdeal.nD Cert.AdamOutKernelIdeal.τ).loc Cert.AdamOutKernelIdeal.main_v0_3)),
      θ_run (Cert.AdamOutKernelIdeal.defs (F := Ideal)) (onTc (τ := Cert.AdamOutKernelIdeal.τ) (Cert.AdamOutKernelIdeal.main (F := Ideal))) ⟨m, fun _ => 0, g⟩ (fun r => ∀ c : Dev Cert.AdamOutKernelIdeal.nD,
          r.2.mem ((c.tc : Thread Cert.AdamOutKernelIdeal.nD Cert.AdamOutKernelIdeal.τ).loc Cert.AdamOutKernelIdeal.main_v0_0) = v0 c
          ∧ r.2.mem ((c.tc : Thread Cert.AdamOutKernelIdeal.nD Cert.AdamOutKernelIdeal.τ).loc Cert.AdamOutKernelIdeal.main_v0_1) = v1 c
          ∧ r.2.mem ((c.tc : Thread Cert.AdamOutKernelIdeal.nD Cert.AdamOutKernelIdeal.τ).loc Cert.AdamOutKernelIdeal.main_v0_2) = v2 c
          ∧ r.2.mem ((c.tc : Thread Cert.AdamOutKernelIdeal.nD Cert.AdamOutKernelIdeal.τ).loc Cert.AdamOutKernelIdeal.main_v0_3) = v3 c
          ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
          ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
          ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
          ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
          ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4))
      ∧ θ_run (Cert.AdamOutReferenceIdeal.defs (F := Ideal)) (onTc (τ := Cert.AdamOutReferenceIdeal.τ) (Cert.AdamOutReferenceIdeal.main (F := Ideal))) ⟨m', fun _ => 0, g'⟩ (fun r => ∀ c : Dev Cert.AdamOutReferenceIdeal.nD,
          r.2.mem ((c.tc : Thread Cert.AdamOutReferenceIdeal.nD Cert.AdamOutReferenceIdeal.τ).loc Cert.AdamOutReferenceIdeal.main_v3) = v0 c
          ∧ r.2.mem ((c.tc : Thread Cert.AdamOutReferenceIdeal.nD Cert.AdamOutReferenceIdeal.τ).loc Cert.AdamOutReferenceIdeal.main_v27) = v1 c
          ∧ r.2.mem ((c.tc : Thread Cert.AdamOutReferenceIdeal.nD Cert.AdamOutReferenceIdeal.τ).loc Cert.AdamOutReferenceIdeal.main_v8) = v2 c
          ∧ r.2.mem ((c.tc : Thread Cert.AdamOutReferenceIdeal.nD Cert.AdamOutReferenceIdeal.τ).loc Cert.AdamOutReferenceIdeal.main_v14) = v3 c
          ∧ r.2.mem ((c.tc : Thread Cert.AdamOutReferenceIdeal.nD Cert.AdamOutReferenceIdeal.τ).loc Cert.AdamOutReferenceIdeal.main_arg0) = m' ((c.tc : Thread Cert.AdamOutReferenceIdeal.nD Cert.AdamOutReferenceIdeal.τ).loc Cert.AdamOutReferenceIdeal.main_arg0)
          ∧ r.2.mem ((c.tc : Thread Cert.AdamOutReferenceIdeal.nD Cert.AdamOutReferenceIdeal.τ).loc Cert.AdamOutReferenceIdeal.main_arg1) = m' ((c.tc : Thread Cert.AdamOutReferenceIdeal.nD Cert.AdamOutReferenceIdeal.τ).loc Cert.AdamOutReferenceIdeal.main_arg1)
          ∧ r.2.mem ((c.tc : Thread Cert.AdamOutReferenceIdeal.nD Cert.AdamOutReferenceIdeal.τ).loc Cert.AdamOutReferenceIdeal.main_arg2) = m' ((c.tc : Thread Cert.AdamOutReferenceIdeal.nD Cert.AdamOutReferenceIdeal.τ).loc Cert.AdamOutReferenceIdeal.main_arg2)
          ∧ r.2.mem ((c.tc : Thread Cert.AdamOutReferenceIdeal.nD Cert.AdamOutReferenceIdeal.τ).loc Cert.AdamOutReferenceIdeal.main_arg3) = m' ((c.tc : Thread Cert.AdamOutReferenceIdeal.nD Cert.AdamOutReferenceIdeal.τ).loc Cert.AdamOutReferenceIdeal.main_arg3)
          ∧ r.2.mem ((c.tc : Thread Cert.AdamOutReferenceIdeal.nD Cert.AdamOutReferenceIdeal.τ).loc Cert.AdamOutReferenceIdeal.main_arg4) = m' ((c.tc : Thread Cert.AdamOutReferenceIdeal.nD Cert.AdamOutReferenceIdeal.τ).loc Cert.AdamOutReferenceIdeal.main_arg4))

def preserves_AdamUpKernel_AdamUpKernelIdeal : Prop :=
  True

def algebraic_AdamUpKernelIdeal_AdamUpReferenceIdeal [hAdamUpKernelIdeal : Cert.AdamUpKernelIdeal.Facts] [hAdamUpReferenceIdeal : Cert.AdamUpReferenceIdeal.Facts] : Prop :=
  ∀ (m : (ℓ : Loc Cert.AdamUpKernelIdeal.nD Cert.AdamUpKernelIdeal.τ Cert.AdamUpKernelIdeal.sig) → Buf (Elt Ideal) ℓ) (g : Dev Cert.AdamUpKernelIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpKernelIdeal m →
    (∀ c : Dev Cert.AdamUpKernelIdeal.nD,
      m' ((c.tc : Thread Cert.AdamUpReferenceIdeal.nD Cert.AdamUpReferenceIdeal.τ).loc Cert.AdamUpReferenceIdeal.main_arg0) = m ((c.tc : Thread Cert.AdamUpKernelIdeal.nD Cert.AdamUpKernelIdeal.τ).loc Cert.AdamUpKernelIdeal.main_arg0)
      ∧ m' ((c.tc : Thread Cert.AdamUpReferenceIdeal.nD Cert.AdamUpReferenceIdeal.τ).loc Cert.AdamUpReferenceIdeal.main_arg1) = m ((c.tc : Thread Cert.AdamUpKernelIdeal.nD Cert.AdamUpKernelIdeal.τ).loc Cert.AdamUpKernelIdeal.main_arg1)
      ∧ m' ((c.tc : Thread Cert.AdamUpReferenceIdeal.nD Cert.AdamUpReferenceIdeal.τ).loc Cert.AdamUpReferenceIdeal.main_arg2) = m ((c.tc : Thread Cert.AdamUpKernelIdeal.nD Cert.AdamUpKernelIdeal.τ).loc Cert.AdamUpKernelIdeal.main_arg2)
      ∧ m' ((c.tc : Thread Cert.AdamUpReferenceIdeal.nD Cert.AdamUpReferenceIdeal.τ).loc Cert.AdamUpReferenceIdeal.main_arg3) = m ((c.tc : Thread Cert.AdamUpKernelIdeal.nD Cert.AdamUpKernelIdeal.τ).loc Cert.AdamUpKernelIdeal.main_arg3)
      ∧ m' ((c.tc : Thread Cert.AdamUpReferenceIdeal.nD Cert.AdamUpReferenceIdeal.τ).loc Cert.AdamUpReferenceIdeal.main_arg4) = m ((c.tc : Thread Cert.AdamUpKernelIdeal.nD Cert.AdamUpKernelIdeal.τ).loc Cert.AdamUpKernelIdeal.main_arg4)) →
    ∃ (v0 : (c : Dev Cert.AdamUpKernelIdeal.nD) → Buf (Elt Ideal) ((c.tc : Thread Cert.AdamUpKernelIdeal.nD Cert.AdamUpKernelIdeal.τ).loc Cert.AdamUpKernelIdeal.main_v0_0)) (v1 : (c : Dev Cert.AdamUpKernelIdeal.nD) → Buf (Elt Ideal) ((c.tc : Thread Cert.AdamUpKernelIdeal.nD Cert.AdamUpKernelIdeal.τ).loc Cert.AdamUpKernelIdeal.main_v0_1)) (v2 : (c : Dev Cert.AdamUpKernelIdeal.nD) → Buf (Elt Ideal) ((c.tc : Thread Cert.AdamUpKernelIdeal.nD Cert.AdamUpKernelIdeal.τ).loc Cert.AdamUpKernelIdeal.main_v0_2)) (v3 : (c : Dev Cert.AdamUpKernelIdeal.nD) → Buf (Elt Ideal) ((c.tc : Thread Cert.AdamUpKernelIdeal.nD Cert.AdamUpKernelIdeal.τ).loc Cert.AdamUpKernelIdeal.main_v0_3)),
      θ_run (Cert.AdamUpKernelIdeal.defs (F := Ideal)) (onTc (τ := Cert.AdamUpKernelIdeal.τ) (Cert.AdamUpKernelIdeal.main (F := Ideal))) ⟨m, fun _ => 0, g⟩ (fun r => ∀ c : Dev Cert.AdamUpKernelIdeal.nD,
          r.2.mem ((c.tc : Thread Cert.AdamUpKernelIdeal.nD Cert.AdamUpKernelIdeal.τ).loc Cert.AdamUpKernelIdeal.main_v0_0) = v0 c
          ∧ r.2.mem ((c.tc : Thread Cert.AdamUpKernelIdeal.nD Cert.AdamUpKernelIdeal.τ).loc Cert.AdamUpKernelIdeal.main_v0_1) = v1 c
          ∧ r.2.mem ((c.tc : Thread Cert.AdamUpKernelIdeal.nD Cert.AdamUpKernelIdeal.τ).loc Cert.AdamUpKernelIdeal.main_v0_2) = v2 c
          ∧ r.2.mem ((c.tc : Thread Cert.AdamUpKernelIdeal.nD Cert.AdamUpKernelIdeal.τ).loc Cert.AdamUpKernelIdeal.main_v0_3) = v3 c
          ∧ r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
          ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
          ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
          ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3)
          ∧ r.2.mem ((c.tc : Thread Cert.AdamUpKernelIdeal.nD Cert.AdamUpKernelIdeal.τ).loc Cert.AdamUpKernelIdeal.main_arg4) = m ((c.tc : Thread Cert.AdamUpKernelIdeal.nD Cert.AdamUpKernelIdeal.τ).loc Cert.AdamUpKernelIdeal.main_arg4))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v3) = v0 c
          ∧ r.2.mem ((c.tc : Thread Cert.AdamUpReferenceIdeal.nD Cert.AdamUpReferenceIdeal.τ).loc Cert.AdamUpReferenceIdeal.main_v27) = v1 c
          ∧ r.2.mem ((c.tc : Thread Cert.AdamUpReferenceIdeal.nD Cert.AdamUpReferenceIdeal.τ).loc Cert.AdamUpReferenceIdeal.main_v8) = v2 c
          ∧ r.2.mem ((c.tc : Thread Cert.AdamUpReferenceIdeal.nD Cert.AdamUpReferenceIdeal.τ).loc Cert.AdamUpReferenceIdeal.main_v14) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3)
          ∧ r.2.mem ((c.tc : Thread Cert.AdamUpReferenceIdeal.nD Cert.AdamUpReferenceIdeal.τ).loc Cert.AdamUpReferenceIdeal.main_arg4) = m' ((c.tc : Thread Cert.AdamUpReferenceIdeal.nD Cert.AdamUpReferenceIdeal.τ).loc Cert.AdamUpReferenceIdeal.main_arg4))

def preserves_AdamDownKernel_AdamDownKernelIdeal : Prop :=
  True

def algebraic_AdamDownKernelIdeal_AdamDownReferenceIdeal [hAdamDownKernelIdeal : Cert.AdamDownKernelIdeal.Facts] [hAdamDownReferenceIdeal : Cert.AdamDownReferenceIdeal.Facts] : Prop :=
  ∀ (m : (ℓ : Loc Cert.AdamDownKernelIdeal.nD Cert.AdamDownKernelIdeal.τ Cert.AdamDownKernelIdeal.sig) → Buf (Elt Ideal) ℓ) (g : Dev Cert.AdamDownKernelIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownKernelIdeal m →
    (∀ c : Dev Cert.AdamDownKernelIdeal.nD,
      m' ((c.tc : Thread Cert.AdamDownReferenceIdeal.nD Cert.AdamDownReferenceIdeal.τ).loc Cert.AdamDownReferenceIdeal.main_arg0) = m ((c.tc : Thread Cert.AdamDownKernelIdeal.nD Cert.AdamDownKernelIdeal.τ).loc Cert.AdamDownKernelIdeal.main_arg0)
      ∧ m' ((c.tc : Thread Cert.AdamDownReferenceIdeal.nD Cert.AdamDownReferenceIdeal.τ).loc Cert.AdamDownReferenceIdeal.main_arg1) = m ((c.tc : Thread Cert.AdamDownKernelIdeal.nD Cert.AdamDownKernelIdeal.τ).loc Cert.AdamDownKernelIdeal.main_arg1)
      ∧ m' ((c.tc : Thread Cert.AdamDownReferenceIdeal.nD Cert.AdamDownReferenceIdeal.τ).loc Cert.AdamDownReferenceIdeal.main_arg2) = m ((c.tc : Thread Cert.AdamDownKernelIdeal.nD Cert.AdamDownKernelIdeal.τ).loc Cert.AdamDownKernelIdeal.main_arg2)
      ∧ m' ((c.tc : Thread Cert.AdamDownReferenceIdeal.nD Cert.AdamDownReferenceIdeal.τ).loc Cert.AdamDownReferenceIdeal.main_arg3) = m ((c.tc : Thread Cert.AdamDownKernelIdeal.nD Cert.AdamDownKernelIdeal.τ).loc Cert.AdamDownKernelIdeal.main_arg3)
      ∧ m' ((c.tc : Thread Cert.AdamDownReferenceIdeal.nD Cert.AdamDownReferenceIdeal.τ).loc Cert.AdamDownReferenceIdeal.main_arg4) = m ((c.tc : Thread Cert.AdamDownKernelIdeal.nD Cert.AdamDownKernelIdeal.τ).loc Cert.AdamDownKernelIdeal.main_arg4)) →
    ∃ (v0 : (c : Dev Cert.AdamDownKernelIdeal.nD) → Buf (Elt Ideal) ((c.tc : Thread Cert.AdamDownKernelIdeal.nD Cert.AdamDownKernelIdeal.τ).loc Cert.AdamDownKernelIdeal.main_v0_0)) (v1 : (c : Dev Cert.AdamDownKernelIdeal.nD) → Buf (Elt Ideal) ((c.tc : Thread Cert.AdamDownKernelIdeal.nD Cert.AdamDownKernelIdeal.τ).loc Cert.AdamDownKernelIdeal.main_v0_1)) (v2 : (c : Dev Cert.AdamDownKernelIdeal.nD) → Buf (Elt Ideal) ((c.tc : Thread Cert.AdamDownKernelIdeal.nD Cert.AdamDownKernelIdeal.τ).loc Cert.AdamDownKernelIdeal.main_v0_2)) (v3 : (c : Dev Cert.AdamDownKernelIdeal.nD) → Buf (Elt Ideal) ((c.tc : Thread Cert.AdamDownKernelIdeal.nD Cert.AdamDownKernelIdeal.τ).loc Cert.AdamDownKernelIdeal.main_v0_3)),
      θ_run (Cert.AdamDownKernelIdeal.defs (F := Ideal)) (onTc (τ := Cert.AdamDownKernelIdeal.τ) (Cert.AdamDownKernelIdeal.main (F := Ideal))) ⟨m, fun _ => 0, g⟩ (fun r => ∀ c : Dev Cert.AdamDownKernelIdeal.nD,
          r.2.mem ((c.tc : Thread Cert.AdamDownKernelIdeal.nD Cert.AdamDownKernelIdeal.τ).loc Cert.AdamDownKernelIdeal.main_v0_0) = v0 c
          ∧ r.2.mem ((c.tc : Thread Cert.AdamDownKernelIdeal.nD Cert.AdamDownKernelIdeal.τ).loc Cert.AdamDownKernelIdeal.main_v0_1) = v1 c
          ∧ r.2.mem ((c.tc : Thread Cert.AdamDownKernelIdeal.nD Cert.AdamDownKernelIdeal.τ).loc Cert.AdamDownKernelIdeal.main_v0_2) = v2 c
          ∧ r.2.mem ((c.tc : Thread Cert.AdamDownKernelIdeal.nD Cert.AdamDownKernelIdeal.τ).loc Cert.AdamDownKernelIdeal.main_v0_3) = v3 c
          ∧ r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
          ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
          ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
          ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3)
          ∧ r.2.mem ((c.tc : Thread Cert.AdamDownKernelIdeal.nD Cert.AdamDownKernelIdeal.τ).loc Cert.AdamDownKernelIdeal.main_arg4) = m ((c.tc : Thread Cert.AdamDownKernelIdeal.nD Cert.AdamDownKernelIdeal.τ).loc Cert.AdamDownKernelIdeal.main_arg4))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v3) = v0 c
          ∧ r.2.mem ((c.tc : Thread Cert.AdamDownReferenceIdeal.nD Cert.AdamDownReferenceIdeal.τ).loc Cert.AdamDownReferenceIdeal.main_v27) = v1 c
          ∧ r.2.mem ((c.tc : Thread Cert.AdamDownReferenceIdeal.nD Cert.AdamDownReferenceIdeal.τ).loc Cert.AdamDownReferenceIdeal.main_v8) = v2 c
          ∧ r.2.mem ((c.tc : Thread Cert.AdamDownReferenceIdeal.nD Cert.AdamDownReferenceIdeal.τ).loc Cert.AdamDownReferenceIdeal.main_v14) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4))

def preserves_AdamProjKernel_AdamProjKernelIdeal : Prop :=
  True

def algebraic_AdamProjKernelIdeal_AdamProjReferenceIdeal [hAdamProjKernelIdeal : Cert.AdamProjKernelIdeal.Facts] [hAdamProjReferenceIdeal : Cert.AdamProjReferenceIdeal.Facts] : Prop :=
  ∀ (m : (ℓ : Loc Cert.AdamProjKernelIdeal.nD Cert.AdamProjKernelIdeal.τ Cert.AdamProjKernelIdeal.sig) → Buf (Elt Ideal) ℓ) (g : Dev Cert.AdamProjKernelIdeal.nD → PrngReg)
    (m' : (ℓ : Loc Cert.AdamProjReferenceIdeal.nD Cert.AdamProjReferenceIdeal.τ Cert.AdamProjReferenceIdeal.sig) → Buf (Elt Ideal) ℓ) (g' : Dev Cert.AdamProjReferenceIdeal.nD → PrngReg), Pre_AdamProjKernelIdeal m →
    (∀ c : Dev Cert.AdamProjKernelIdeal.nD,
      m' ((c.tc : Thread Cert.AdamProjReferenceIdeal.nD Cert.AdamProjReferenceIdeal.τ).loc Cert.AdamProjReferenceIdeal.main_arg0) = m ((c.tc : Thread Cert.AdamProjKernelIdeal.nD Cert.AdamProjKernelIdeal.τ).loc Cert.AdamProjKernelIdeal.main_arg0)
      ∧ m' ((c.tc : Thread Cert.AdamProjReferenceIdeal.nD Cert.AdamProjReferenceIdeal.τ).loc Cert.AdamProjReferenceIdeal.main_arg1) = m ((c.tc : Thread Cert.AdamProjKernelIdeal.nD Cert.AdamProjKernelIdeal.τ).loc Cert.AdamProjKernelIdeal.main_arg1)
      ∧ m' ((c.tc : Thread Cert.AdamProjReferenceIdeal.nD Cert.AdamProjReferenceIdeal.τ).loc Cert.AdamProjReferenceIdeal.main_arg2) = m ((c.tc : Thread Cert.AdamProjKernelIdeal.nD Cert.AdamProjKernelIdeal.τ).loc Cert.AdamProjKernelIdeal.main_arg2)
      ∧ m' ((c.tc : Thread Cert.AdamProjReferenceIdeal.nD Cert.AdamProjReferenceIdeal.τ).loc Cert.AdamProjReferenceIdeal.main_arg3) = m ((c.tc : Thread Cert.AdamProjKernelIdeal.nD Cert.AdamProjKernelIdeal.τ).loc Cert.AdamProjKernelIdeal.main_arg3)
      ∧ m' ((c.tc : Thread Cert.AdamProjReferenceIdeal.nD Cert.AdamProjReferenceIdeal.τ).loc Cert.AdamProjReferenceIdeal.main_arg4) = m ((c.tc : Thread Cert.AdamProjKernelIdeal.nD Cert.AdamProjKernelIdeal.τ).loc Cert.AdamProjKernelIdeal.main_arg4)) →
    ∃ (v0 : (c : Dev Cert.AdamProjKernelIdeal.nD) → Buf (Elt Ideal) ((c.tc : Thread Cert.AdamProjKernelIdeal.nD Cert.AdamProjKernelIdeal.τ).loc Cert.AdamProjKernelIdeal.main_v0_0)) (v1 : (c : Dev Cert.AdamProjKernelIdeal.nD) → Buf (Elt Ideal) ((c.tc : Thread Cert.AdamProjKernelIdeal.nD Cert.AdamProjKernelIdeal.τ).loc Cert.AdamProjKernelIdeal.main_v0_1)) (v2 : (c : Dev Cert.AdamProjKernelIdeal.nD) → Buf (Elt Ideal) ((c.tc : Thread Cert.AdamProjKernelIdeal.nD Cert.AdamProjKernelIdeal.τ).loc Cert.AdamProjKernelIdeal.main_v0_2)) (v3 : (c : Dev Cert.AdamProjKernelIdeal.nD) → Buf (Elt Ideal) ((c.tc : Thread Cert.AdamProjKernelIdeal.nD Cert.AdamProjKernelIdeal.τ).loc Cert.AdamProjKernelIdeal.main_v0_3)),
      θ_run (Cert.AdamProjKernelIdeal.defs (F := Ideal)) (onTc (τ := Cert.AdamProjKernelIdeal.τ) (Cert.AdamProjKernelIdeal.main (F := Ideal))) ⟨m, fun _ => 0, g⟩ (fun r => ∀ c : Dev Cert.AdamProjKernelIdeal.nD,
          r.2.mem ((c.tc : Thread Cert.AdamProjKernelIdeal.nD Cert.AdamProjKernelIdeal.τ).loc Cert.AdamProjKernelIdeal.main_v0_0) = v0 c
          ∧ r.2.mem ((c.tc : Thread Cert.AdamProjKernelIdeal.nD Cert.AdamProjKernelIdeal.τ).loc Cert.AdamProjKernelIdeal.main_v0_1) = v1 c
          ∧ r.2.mem ((c.tc : Thread Cert.AdamProjKernelIdeal.nD Cert.AdamProjKernelIdeal.τ).loc Cert.AdamProjKernelIdeal.main_v0_2) = v2 c
          ∧ r.2.mem ((c.tc : Thread Cert.AdamProjKernelIdeal.nD Cert.AdamProjKernelIdeal.τ).loc Cert.AdamProjKernelIdeal.main_v0_3) = v3 c
          ∧ r.2.mem ((c.tc : Thread Cert.AdamProjKernelIdeal.nD Cert.AdamProjKernelIdeal.τ).loc Cert.AdamProjKernelIdeal.main_arg0) = m ((c.tc : Thread Cert.AdamProjKernelIdeal.nD Cert.AdamProjKernelIdeal.τ).loc Cert.AdamProjKernelIdeal.main_arg0)
          ∧ r.2.mem ((c.tc : Thread Cert.AdamProjKernelIdeal.nD Cert.AdamProjKernelIdeal.τ).loc Cert.AdamProjKernelIdeal.main_arg1) = m ((c.tc : Thread Cert.AdamProjKernelIdeal.nD Cert.AdamProjKernelIdeal.τ).loc Cert.AdamProjKernelIdeal.main_arg1)
          ∧ r.2.mem ((c.tc : Thread Cert.AdamProjKernelIdeal.nD Cert.AdamProjKernelIdeal.τ).loc Cert.AdamProjKernelIdeal.main_arg2) = m ((c.tc : Thread Cert.AdamProjKernelIdeal.nD Cert.AdamProjKernelIdeal.τ).loc Cert.AdamProjKernelIdeal.main_arg2)
          ∧ r.2.mem ((c.tc : Thread Cert.AdamProjKernelIdeal.nD Cert.AdamProjKernelIdeal.τ).loc Cert.AdamProjKernelIdeal.main_arg3) = m ((c.tc : Thread Cert.AdamProjKernelIdeal.nD Cert.AdamProjKernelIdeal.τ).loc Cert.AdamProjKernelIdeal.main_arg3)
          ∧ r.2.mem ((c.tc : Thread Cert.AdamProjKernelIdeal.nD Cert.AdamProjKernelIdeal.τ).loc Cert.AdamProjKernelIdeal.main_arg4) = m ((c.tc : Thread Cert.AdamProjKernelIdeal.nD Cert.AdamProjKernelIdeal.τ).loc Cert.AdamProjKernelIdeal.main_arg4))
      ∧ θ_run (Cert.AdamProjReferenceIdeal.defs (F := Ideal)) (onTc (τ := Cert.AdamProjReferenceIdeal.τ) (Cert.AdamProjReferenceIdeal.main (F := Ideal))) ⟨m', fun _ => 0, g'⟩ (fun r => ∀ c : Dev Cert.AdamProjReferenceIdeal.nD,
          r.2.mem ((c.tc : Thread Cert.AdamProjReferenceIdeal.nD Cert.AdamProjReferenceIdeal.τ).loc Cert.AdamProjReferenceIdeal.main_v3) = v0 c
          ∧ r.2.mem ((c.tc : Thread Cert.AdamProjReferenceIdeal.nD Cert.AdamProjReferenceIdeal.τ).loc Cert.AdamProjReferenceIdeal.main_v27) = v1 c
          ∧ r.2.mem ((c.tc : Thread Cert.AdamProjReferenceIdeal.nD Cert.AdamProjReferenceIdeal.τ).loc Cert.AdamProjReferenceIdeal.main_v8) = v2 c
          ∧ r.2.mem ((c.tc : Thread Cert.AdamProjReferenceIdeal.nD Cert.AdamProjReferenceIdeal.τ).loc Cert.AdamProjReferenceIdeal.main_v14) = v3 c
          ∧ r.2.mem ((c.tc : Thread Cert.AdamProjReferenceIdeal.nD Cert.AdamProjReferenceIdeal.τ).loc Cert.AdamProjReferenceIdeal.main_arg0) = m' ((c.tc : Thread Cert.AdamProjReferenceIdeal.nD Cert.AdamProjReferenceIdeal.τ).loc Cert.AdamProjReferenceIdeal.main_arg0)
          ∧ r.2.mem ((c.tc : Thread Cert.AdamProjReferenceIdeal.nD Cert.AdamProjReferenceIdeal.τ).loc Cert.AdamProjReferenceIdeal.main_arg1) = m' ((c.tc : Thread Cert.AdamProjReferenceIdeal.nD Cert.AdamProjReferenceIdeal.τ).loc Cert.AdamProjReferenceIdeal.main_arg1)
          ∧ r.2.mem ((c.tc : Thread Cert.AdamProjReferenceIdeal.nD Cert.AdamProjReferenceIdeal.τ).loc Cert.AdamProjReferenceIdeal.main_arg2) = m' ((c.tc : Thread Cert.AdamProjReferenceIdeal.nD Cert.AdamProjReferenceIdeal.τ).loc Cert.AdamProjReferenceIdeal.main_arg2)
          ∧ r.2.mem ((c.tc : Thread Cert.AdamProjReferenceIdeal.nD Cert.AdamProjReferenceIdeal.τ).loc Cert.AdamProjReferenceIdeal.main_arg3) = m' ((c.tc : Thread Cert.AdamProjReferenceIdeal.nD Cert.AdamProjReferenceIdeal.τ).loc Cert.AdamProjReferenceIdeal.main_arg3)
          ∧ r.2.mem ((c.tc : Thread Cert.AdamProjReferenceIdeal.nD Cert.AdamProjReferenceIdeal.τ).loc Cert.AdamProjReferenceIdeal.main_arg4) = m' ((c.tc : Thread Cert.AdamProjReferenceIdeal.nD Cert.AdamProjReferenceIdeal.τ).loc Cert.AdamProjReferenceIdeal.main_arg4))

def preserves_AdamConvKernel_AdamConvKernelIdeal : Prop :=
  True

def algebraic_AdamConvKernelIdeal_AdamConvReferenceIdeal [hAdamConvKernelIdeal : Cert.AdamConvKernelIdeal.Facts] [hAdamConvReferenceIdeal : Cert.AdamConvReferenceIdeal.Facts] : Prop :=
  ∀ (m : (ℓ : Loc Cert.AdamConvKernelIdeal.nD Cert.AdamConvKernelIdeal.τ Cert.AdamConvKernelIdeal.sig) → Buf (Elt Ideal) ℓ) (g : Dev Cert.AdamConvKernelIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvKernelIdeal m →
    (∀ c : Dev Cert.AdamConvKernelIdeal.nD,
      m' ((c.tc : Thread Cert.AdamConvReferenceIdeal.nD Cert.AdamConvReferenceIdeal.τ).loc Cert.AdamConvReferenceIdeal.main_arg0) = m ((c.tc : Thread Cert.AdamConvKernelIdeal.nD Cert.AdamConvKernelIdeal.τ).loc Cert.AdamConvKernelIdeal.main_arg0)
      ∧ m' ((c.tc : Thread Cert.AdamConvReferenceIdeal.nD Cert.AdamConvReferenceIdeal.τ).loc Cert.AdamConvReferenceIdeal.main_arg1) = m ((c.tc : Thread Cert.AdamConvKernelIdeal.nD Cert.AdamConvKernelIdeal.τ).loc Cert.AdamConvKernelIdeal.main_arg1)
      ∧ m' ((c.tc : Thread Cert.AdamConvReferenceIdeal.nD Cert.AdamConvReferenceIdeal.τ).loc Cert.AdamConvReferenceIdeal.main_arg2) = m ((c.tc : Thread Cert.AdamConvKernelIdeal.nD Cert.AdamConvKernelIdeal.τ).loc Cert.AdamConvKernelIdeal.main_arg2)
      ∧ m' ((c.tc : Thread Cert.AdamConvReferenceIdeal.nD Cert.AdamConvReferenceIdeal.τ).loc Cert.AdamConvReferenceIdeal.main_arg3) = m ((c.tc : Thread Cert.AdamConvKernelIdeal.nD Cert.AdamConvKernelIdeal.τ).loc Cert.AdamConvKernelIdeal.main_arg3)
      ∧ m' ((c.tc : Thread Cert.AdamConvReferenceIdeal.nD Cert.AdamConvReferenceIdeal.τ).loc Cert.AdamConvReferenceIdeal.main_arg4) = m ((c.tc : Thread Cert.AdamConvKernelIdeal.nD Cert.AdamConvKernelIdeal.τ).loc Cert.AdamConvKernelIdeal.main_arg4)) →
    ∃ (v0 : (c : Dev Cert.AdamConvKernelIdeal.nD) → Buf (Elt Ideal) ((c.tc : Thread Cert.AdamConvKernelIdeal.nD Cert.AdamConvKernelIdeal.τ).loc Cert.AdamConvKernelIdeal.main_v0_0)) (v1 : (c : Dev Cert.AdamConvKernelIdeal.nD) → Buf (Elt Ideal) ((c.tc : Thread Cert.AdamConvKernelIdeal.nD Cert.AdamConvKernelIdeal.τ).loc Cert.AdamConvKernelIdeal.main_v0_1)) (v2 : (c : Dev Cert.AdamConvKernelIdeal.nD) → Buf (Elt Ideal) ((c.tc : Thread Cert.AdamConvKernelIdeal.nD Cert.AdamConvKernelIdeal.τ).loc Cert.AdamConvKernelIdeal.main_v0_2)) (v3 : (c : Dev Cert.AdamConvKernelIdeal.nD) → Buf (Elt Ideal) ((c.tc : Thread Cert.AdamConvKernelIdeal.nD Cert.AdamConvKernelIdeal.τ).loc Cert.AdamConvKernelIdeal.main_v0_3)),
      θ_run (Cert.AdamConvKernelIdeal.defs (F := Ideal)) (onTc (τ := Cert.AdamConvKernelIdeal.τ) (Cert.AdamConvKernelIdeal.main (F := Ideal))) ⟨m, fun _ => 0, g⟩ (fun r => ∀ c : Dev Cert.AdamConvKernelIdeal.nD,
          r.2.mem ((c.tc : Thread Cert.AdamConvKernelIdeal.nD Cert.AdamConvKernelIdeal.τ).loc Cert.AdamConvKernelIdeal.main_v0_0) = v0 c
          ∧ r.2.mem ((c.tc : Thread Cert.AdamConvKernelIdeal.nD Cert.AdamConvKernelIdeal.τ).loc Cert.AdamConvKernelIdeal.main_v0_1) = v1 c
          ∧ r.2.mem ((c.tc : Thread Cert.AdamConvKernelIdeal.nD Cert.AdamConvKernelIdeal.τ).loc Cert.AdamConvKernelIdeal.main_v0_2) = v2 c
          ∧ r.2.mem ((c.tc : Thread Cert.AdamConvKernelIdeal.nD Cert.AdamConvKernelIdeal.τ).loc Cert.AdamConvKernelIdeal.main_v0_3) = v3 c
          ∧ r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
          ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
          ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
          ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3)
          ∧ r.2.mem ((c.tc : Thread Cert.AdamConvKernelIdeal.nD Cert.AdamConvKernelIdeal.τ).loc Cert.AdamConvKernelIdeal.main_arg4) = m ((c.tc : Thread Cert.AdamConvKernelIdeal.nD Cert.AdamConvKernelIdeal.τ).loc Cert.AdamConvKernelIdeal.main_arg4))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v3) = v0 c
          ∧ r.2.mem ((c.tc : Thread Cert.AdamConvReferenceIdeal.nD Cert.AdamConvReferenceIdeal.τ).loc Cert.AdamConvReferenceIdeal.main_v27) = v1 c
          ∧ r.2.mem ((c.tc : Thread Cert.AdamConvReferenceIdeal.nD Cert.AdamConvReferenceIdeal.τ).loc Cert.AdamConvReferenceIdeal.main_v8) = v2 c
          ∧ r.2.mem ((c.tc : Thread Cert.AdamConvReferenceIdeal.nD Cert.AdamConvReferenceIdeal.τ).loc Cert.AdamConvReferenceIdeal.main_v14) = v3 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3)
          ∧ r.2.mem ((c.tc : Thread Cert.AdamConvReferenceIdeal.nD Cert.AdamConvReferenceIdeal.τ).loc Cert.AdamConvReferenceIdeal.main_arg4) = m' ((c.tc : Thread Cert.AdamConvReferenceIdeal.nD Cert.AdamConvReferenceIdeal.τ).loc Cert.AdamConvReferenceIdeal.main_arg4))

def preserves_AdamSumKernel_AdamSumKernelIdeal : Prop :=
  True

def algebraic_AdamSumKernelIdeal_AdamSumReferenceIdeal [hAdamSumKernelIdeal : Cert.AdamSumKernelIdeal.Facts] [hAdamSumReferenceIdeal : Cert.AdamSumReferenceIdeal.Facts] : Prop :=
  ∀ (m : (ℓ : Loc Cert.AdamSumKernelIdeal.nD Cert.AdamSumKernelIdeal.τ Cert.AdamSumKernelIdeal.sig) → Buf (Elt Ideal) ℓ) (g : Dev Cert.AdamSumKernelIdeal.nD → PrngReg)
    (m' : (ℓ : Loc Cert.AdamSumReferenceIdeal.nD Cert.AdamSumReferenceIdeal.τ Cert.AdamSumReferenceIdeal.sig) → Buf (Elt Ideal) ℓ) (g' : Dev Cert.AdamSumReferenceIdeal.nD → PrngReg), Pre_AdamSumKernelIdeal m →
    (∀ c : Dev Cert.AdamSumKernelIdeal.nD,
      m' ((c.tc : Thread Cert.AdamSumReferenceIdeal.nD Cert.AdamSumReferenceIdeal.τ).loc Cert.AdamSumReferenceIdeal.main_arg0) = m ((c.tc : Thread Cert.AdamSumKernelIdeal.nD Cert.AdamSumKernelIdeal.τ).loc Cert.AdamSumKernelIdeal.main_arg0)
      ∧ m' ((c.tc : Thread Cert.AdamSumReferenceIdeal.nD Cert.AdamSumReferenceIdeal.τ).loc Cert.AdamSumReferenceIdeal.main_arg1) = m ((c.tc : Thread Cert.AdamSumKernelIdeal.nD Cert.AdamSumKernelIdeal.τ).loc Cert.AdamSumKernelIdeal.main_arg1)
      ∧ m' ((c.tc : Thread Cert.AdamSumReferenceIdeal.nD Cert.AdamSumReferenceIdeal.τ).loc Cert.AdamSumReferenceIdeal.main_arg2) = m ((c.tc : Thread Cert.AdamSumKernelIdeal.nD Cert.AdamSumKernelIdeal.τ).loc Cert.AdamSumKernelIdeal.main_arg2)
      ∧ m' ((c.tc : Thread Cert.AdamSumReferenceIdeal.nD Cert.AdamSumReferenceIdeal.τ).loc Cert.AdamSumReferenceIdeal.main_arg3) = m ((c.tc : Thread Cert.AdamSumKernelIdeal.nD Cert.AdamSumKernelIdeal.τ).loc Cert.AdamSumKernelIdeal.main_arg3)) →
    ∃ (v0 : (c : Dev Cert.AdamSumKernelIdeal.nD) → Buf (Elt Ideal) ((c.tc : Thread Cert.AdamSumKernelIdeal.nD Cert.AdamSumKernelIdeal.τ).loc Cert.AdamSumKernelIdeal.main_v0_0)) (v1 : (c : Dev Cert.AdamSumKernelIdeal.nD) → Buf (Elt Ideal) ((c.tc : Thread Cert.AdamSumKernelIdeal.nD Cert.AdamSumKernelIdeal.τ).loc Cert.AdamSumKernelIdeal.main_v0_1)) (v2 : (c : Dev Cert.AdamSumKernelIdeal.nD) → Buf (Elt Ideal) ((c.tc : Thread Cert.AdamSumKernelIdeal.nD Cert.AdamSumKernelIdeal.τ).loc Cert.AdamSumKernelIdeal.main_v0_2)) (v3 : (c : Dev Cert.AdamSumKernelIdeal.nD) → Buf (Elt Ideal) ((c.tc : Thread Cert.AdamSumKernelIdeal.nD Cert.AdamSumKernelIdeal.τ).loc Cert.AdamSumKernelIdeal.main_v0_3)),
      θ_run (Cert.AdamSumKernelIdeal.defs (F := Ideal)) (onTc (τ := Cert.AdamSumKernelIdeal.τ) (Cert.AdamSumKernelIdeal.main (F := Ideal))) ⟨m, fun _ => 0, g⟩ (fun r => ∀ c : Dev Cert.AdamSumKernelIdeal.nD,
          r.2.mem ((c.tc : Thread Cert.AdamSumKernelIdeal.nD Cert.AdamSumKernelIdeal.τ).loc Cert.AdamSumKernelIdeal.main_v0_0) = v0 c
          ∧ r.2.mem ((c.tc : Thread Cert.AdamSumKernelIdeal.nD Cert.AdamSumKernelIdeal.τ).loc Cert.AdamSumKernelIdeal.main_v0_1) = v1 c
          ∧ r.2.mem ((c.tc : Thread Cert.AdamSumKernelIdeal.nD Cert.AdamSumKernelIdeal.τ).loc Cert.AdamSumKernelIdeal.main_v0_2) = v2 c
          ∧ r.2.mem ((c.tc : Thread Cert.AdamSumKernelIdeal.nD Cert.AdamSumKernelIdeal.τ).loc Cert.AdamSumKernelIdeal.main_v0_3) = v3 c
          ∧ r.2.mem ((c.tc : Thread Cert.AdamSumKernelIdeal.nD Cert.AdamSumKernelIdeal.τ).loc Cert.AdamSumKernelIdeal.main_arg0) = m ((c.tc : Thread Cert.AdamSumKernelIdeal.nD Cert.AdamSumKernelIdeal.τ).loc Cert.AdamSumKernelIdeal.main_arg0)
          ∧ r.2.mem ((c.tc : Thread Cert.AdamSumKernelIdeal.nD Cert.AdamSumKernelIdeal.τ).loc Cert.AdamSumKernelIdeal.main_arg1) = m ((c.tc : Thread Cert.AdamSumKernelIdeal.nD Cert.AdamSumKernelIdeal.τ).loc Cert.AdamSumKernelIdeal.main_arg1)
          ∧ r.2.mem ((c.tc : Thread Cert.AdamSumKernelIdeal.nD Cert.AdamSumKernelIdeal.τ).loc Cert.AdamSumKernelIdeal.main_arg2) = m ((c.tc : Thread Cert.AdamSumKernelIdeal.nD Cert.AdamSumKernelIdeal.τ).loc Cert.AdamSumKernelIdeal.main_arg2)
          ∧ r.2.mem ((c.tc : Thread Cert.AdamSumKernelIdeal.nD Cert.AdamSumKernelIdeal.τ).loc Cert.AdamSumKernelIdeal.main_arg3) = m ((c.tc : Thread Cert.AdamSumKernelIdeal.nD Cert.AdamSumKernelIdeal.τ).loc Cert.AdamSumKernelIdeal.main_arg3))
      ∧ θ_run (Cert.AdamSumReferenceIdeal.defs (F := Ideal)) (onTc (τ := Cert.AdamSumReferenceIdeal.τ) (Cert.AdamSumReferenceIdeal.main (F := Ideal))) ⟨m', fun _ => 0, g'⟩ (fun r => ∀ c : Dev Cert.AdamSumReferenceIdeal.nD,
          r.2.mem ((c.tc : Thread Cert.AdamSumReferenceIdeal.nD Cert.AdamSumReferenceIdeal.τ).loc Cert.AdamSumReferenceIdeal.main_v0) = v0 c
          ∧ r.2.mem ((c.tc : Thread Cert.AdamSumReferenceIdeal.nD Cert.AdamSumReferenceIdeal.τ).loc Cert.AdamSumReferenceIdeal.main_v24) = v1 c
          ∧ r.2.mem ((c.tc : Thread Cert.AdamSumReferenceIdeal.nD Cert.AdamSumReferenceIdeal.τ).loc Cert.AdamSumReferenceIdeal.main_v5) = v2 c
          ∧ r.2.mem ((c.tc : Thread Cert.AdamSumReferenceIdeal.nD Cert.AdamSumReferenceIdeal.τ).loc Cert.AdamSumReferenceIdeal.main_v11) = v3 c
          ∧ r.2.mem ((c.tc : Thread Cert.AdamSumReferenceIdeal.nD Cert.AdamSumReferenceIdeal.τ).loc Cert.AdamSumReferenceIdeal.main_arg0) = m' ((c.tc : Thread Cert.AdamSumReferenceIdeal.nD Cert.AdamSumReferenceIdeal.τ).loc Cert.AdamSumReferenceIdeal.main_arg0)
          ∧ r.2.mem ((c.tc : Thread Cert.AdamSumReferenceIdeal.nD Cert.AdamSumReferenceIdeal.τ).loc Cert.AdamSumReferenceIdeal.main_arg1) = m' ((c.tc : Thread Cert.AdamSumReferenceIdeal.nD Cert.AdamSumReferenceIdeal.τ).loc Cert.AdamSumReferenceIdeal.main_arg1)
          ∧ r.2.mem ((c.tc : Thread Cert.AdamSumReferenceIdeal.nD Cert.AdamSumReferenceIdeal.τ).loc Cert.AdamSumReferenceIdeal.main_arg2) = m' ((c.tc : Thread Cert.AdamSumReferenceIdeal.nD Cert.AdamSumReferenceIdeal.τ).loc Cert.AdamSumReferenceIdeal.main_arg2)
          ∧ r.2.mem ((c.tc : Thread Cert.AdamSumReferenceIdeal.nD Cert.AdamSumReferenceIdeal.τ).loc Cert.AdamSumReferenceIdeal.main_arg3) = m' ((c.tc : Thread Cert.AdamSumReferenceIdeal.nD Cert.AdamSumReferenceIdeal.τ).loc Cert.AdamSumReferenceIdeal.main_arg3))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hWgHgKernel : Cert.WgHgKernel.Facts) (hWgHgKernelIdeal : Cert.WgHgKernelIdeal.Facts) (hWgHgReferenceIdeal : Cert.WgHgReferenceIdeal.Facts) (hWgUKernel : Cert.WgUKernel.Facts) (hWgUKernelIdeal : Cert.WgUKernelIdeal.Facts) (hWgUReferenceIdeal : Cert.WgUReferenceIdeal.Facts) (hWgUpKernel : Cert.WgUpKernel.Facts) (hWgUpKernelIdeal : Cert.WgUpKernelIdeal.Facts) (hWgUpReferenceIdeal : Cert.WgUpReferenceIdeal.Facts) (hWgDownKernel : Cert.WgDownKernel.Facts) (hWgDownKernelIdeal : Cert.WgDownKernelIdeal.Facts) (hWgDownReferenceIdeal : Cert.WgDownReferenceIdeal.Facts) (hUpKernel : Cert.UpKernel.Facts) (hUpKernelIdeal : Cert.UpKernelIdeal.Facts) (hUpReferenceIdeal : Cert.UpReferenceIdeal.Facts) (hFfnKernel : Cert.FfnKernel.Facts) (hFfnKernelIdeal : Cert.FfnKernelIdeal.Facts) (hFfnReferenceIdeal : Cert.FfnReferenceIdeal.Facts) (hTailKernel : Cert.TailKernel.Facts) (hTailKernelIdeal : Cert.TailKernelIdeal.Facts) (hTailReferenceIdeal : Cert.TailReferenceIdeal.Facts) (hInProjKernel : Cert.InProjKernel.Facts) (hInProjKernelIdeal : Cert.InProjKernelIdeal.Facts) (hInProjReferenceIdeal : Cert.InProjReferenceIdeal.Facts) (hWgPgKernel : Cert.WgPgKernel.Facts) (hWgPgKernelIdeal : Cert.WgPgKernelIdeal.Facts) (hWgPgReferenceIdeal : Cert.WgPgReferenceIdeal.Facts) (hWgPpKernel : Cert.WgPpKernel.Facts) (hWgPpKernelIdeal : Cert.WgPpKernelIdeal.Facts) (hWgPpReferenceIdeal : Cert.WgPpReferenceIdeal.Facts) (hAdamInKernel : Cert.AdamInKernel.Facts) (hAdamInKernelIdeal : Cert.AdamInKernelIdeal.Facts) (hAdamInReferenceIdeal : Cert.AdamInReferenceIdeal.Facts) (hAdamGluKernel : Cert.AdamGluKernel.Facts) (hAdamGluKernelIdeal : Cert.AdamGluKernelIdeal.Facts) (hAdamGluReferenceIdeal : Cert.AdamGluReferenceIdeal.Facts) (hAdamBranchKernel : Cert.AdamBranchKernel.Facts) (hAdamBranchKernelIdeal : Cert.AdamBranchKernelIdeal.Facts) (hAdamBranchReferenceIdeal : Cert.AdamBranchReferenceIdeal.Facts) (hAdamOutKernel : Cert.AdamOutKernel.Facts) (hAdamOutKernelIdeal : Cert.AdamOutKernelIdeal.Facts) (hAdamOutReferenceIdeal : Cert.AdamOutReferenceIdeal.Facts) (hAdamUpKernel : Cert.AdamUpKernel.Facts) (hAdamUpKernelIdeal : Cert.AdamUpKernelIdeal.Facts) (hAdamUpReferenceIdeal : Cert.AdamUpReferenceIdeal.Facts) (hAdamDownKernel : Cert.AdamDownKernel.Facts) (hAdamDownKernelIdeal : Cert.AdamDownKernelIdeal.Facts) (hAdamDownReferenceIdeal : Cert.AdamDownReferenceIdeal.Facts) (hAdamProjKernel : Cert.AdamProjKernel.Facts) (hAdamProjKernelIdeal : Cert.AdamProjKernelIdeal.Facts) (hAdamProjReferenceIdeal : Cert.AdamProjReferenceIdeal.Facts) (hAdamConvKernel : Cert.AdamConvKernel.Facts) (hAdamConvKernelIdeal : Cert.AdamConvKernelIdeal.Facts) (hAdamConvReferenceIdeal : Cert.AdamConvReferenceIdeal.Facts) (hAdamSumKernel : Cert.AdamSumKernel.Facts) (hAdamSumKernelIdeal : Cert.AdamSumKernelIdeal.Facts) (hAdamSumReferenceIdeal : Cert.AdamSumReferenceIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_InKernel (hInKernel := hInKernel)
    ∧ quiescent_InKernelIdeal (hInKernelIdeal := hInKernelIdeal)
    ∧ quiescent_InReferenceIdeal (hInReferenceIdeal := hInReferenceIdeal)
    ∧ quiescent_WgHgKernel (hWgHgKernel := hWgHgKernel)
    ∧ quiescent_WgHgKernelIdeal (hWgHgKernelIdeal := hWgHgKernelIdeal)
    ∧ quiescent_WgHgReferenceIdeal (hWgHgReferenceIdeal := hWgHgReferenceIdeal)
    ∧ quiescent_WgUKernel (hWgUKernel := hWgUKernel)
    ∧ quiescent_WgUKernelIdeal (hWgUKernelIdeal := hWgUKernelIdeal)
    ∧ quiescent_WgUReferenceIdeal (hWgUReferenceIdeal := hWgUReferenceIdeal)
    ∧ quiescent_WgUpKernel (hWgUpKernel := hWgUpKernel)
    ∧ quiescent_WgUpKernelIdeal (hWgUpKernelIdeal := hWgUpKernelIdeal)
    ∧ quiescent_WgUpReferenceIdeal (hWgUpReferenceIdeal := hWgUpReferenceIdeal)
    ∧ quiescent_WgDownKernel (hWgDownKernel := hWgDownKernel)
    ∧ quiescent_WgDownKernelIdeal (hWgDownKernelIdeal := hWgDownKernelIdeal)
    ∧ quiescent_WgDownReferenceIdeal (hWgDownReferenceIdeal := hWgDownReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_FfnKernel (hFfnKernel := hFfnKernel)
    ∧ quiescent_FfnKernelIdeal (hFfnKernelIdeal := hFfnKernelIdeal)
    ∧ quiescent_FfnKernelIdeal_pre_finite (hFfnKernelIdeal := hFfnKernelIdeal) (hPre_finite := hPre_finite)
    ∧ quiescent_FfnReferenceIdeal (hFfnReferenceIdeal := hFfnReferenceIdeal)
    ∧ quiescent_FfnReferenceIdeal_pre_finite (hFfnReferenceIdeal := hFfnReferenceIdeal) (hPre_finite := hPre_finite)
    ∧ quiescent_TailKernel (hTailKernel := hTailKernel)
    ∧ quiescent_TailKernelIdeal (hTailKernelIdeal := hTailKernelIdeal)
    ∧ quiescent_TailReferenceIdeal (hTailReferenceIdeal := hTailReferenceIdeal)
    ∧ quiescent_InProjKernel (hInProjKernel := hInProjKernel)
    ∧ quiescent_InProjKernelIdeal (hInProjKernelIdeal := hInProjKernelIdeal)
    ∧ quiescent_InProjReferenceIdeal (hInProjReferenceIdeal := hInProjReferenceIdeal)
    ∧ quiescent_WgPgKernel (hWgPgKernel := hWgPgKernel)
    ∧ quiescent_WgPgKernelIdeal (hWgPgKernelIdeal := hWgPgKernelIdeal)
    ∧ quiescent_WgPgReferenceIdeal (hWgPgReferenceIdeal := hWgPgReferenceIdeal)
    ∧ quiescent_WgPpKernel (hWgPpKernel := hWgPpKernel)
    ∧ quiescent_WgPpKernelIdeal (hWgPpKernelIdeal := hWgPpKernelIdeal)
    ∧ quiescent_WgPpReferenceIdeal (hWgPpReferenceIdeal := hWgPpReferenceIdeal)
    ∧ quiescent_AdamInKernel (hAdamInKernel := hAdamInKernel)
    ∧ quiescent_AdamInKernelIdeal (hAdamInKernelIdeal := hAdamInKernelIdeal)
    ∧ quiescent_AdamInReferenceIdeal (hAdamInReferenceIdeal := hAdamInReferenceIdeal)
    ∧ quiescent_AdamGluKernel (hAdamGluKernel := hAdamGluKernel)
    ∧ quiescent_AdamGluKernelIdeal (hAdamGluKernelIdeal := hAdamGluKernelIdeal)
    ∧ quiescent_AdamGluReferenceIdeal (hAdamGluReferenceIdeal := hAdamGluReferenceIdeal)
    ∧ quiescent_AdamBranchKernel (hAdamBranchKernel := hAdamBranchKernel)
    ∧ quiescent_AdamBranchKernelIdeal (hAdamBranchKernelIdeal := hAdamBranchKernelIdeal)
    ∧ quiescent_AdamBranchReferenceIdeal (hAdamBranchReferenceIdeal := hAdamBranchReferenceIdeal)
    ∧ quiescent_AdamOutKernel (hAdamOutKernel := hAdamOutKernel)
    ∧ quiescent_AdamOutKernelIdeal (hAdamOutKernelIdeal := hAdamOutKernelIdeal)
    ∧ quiescent_AdamOutReferenceIdeal (hAdamOutReferenceIdeal := hAdamOutReferenceIdeal)
    ∧ quiescent_AdamUpKernel (hAdamUpKernel := hAdamUpKernel)
    ∧ quiescent_AdamUpKernelIdeal (hAdamUpKernelIdeal := hAdamUpKernelIdeal)
    ∧ quiescent_AdamUpReferenceIdeal (hAdamUpReferenceIdeal := hAdamUpReferenceIdeal)
    ∧ quiescent_AdamDownKernel (hAdamDownKernel := hAdamDownKernel)
    ∧ quiescent_AdamDownKernelIdeal (hAdamDownKernelIdeal := hAdamDownKernelIdeal)
    ∧ quiescent_AdamDownReferenceIdeal (hAdamDownReferenceIdeal := hAdamDownReferenceIdeal)
    ∧ quiescent_AdamProjKernel (hAdamProjKernel := hAdamProjKernel)
    ∧ quiescent_AdamProjKernelIdeal (hAdamProjKernelIdeal := hAdamProjKernelIdeal)
    ∧ quiescent_AdamProjReferenceIdeal (hAdamProjReferenceIdeal := hAdamProjReferenceIdeal)
    ∧ quiescent_AdamConvKernel (hAdamConvKernel := hAdamConvKernel)
    ∧ quiescent_AdamConvKernelIdeal (hAdamConvKernelIdeal := hAdamConvKernelIdeal)
    ∧ quiescent_AdamConvReferenceIdeal (hAdamConvReferenceIdeal := hAdamConvReferenceIdeal)
    ∧ quiescent_AdamSumKernel (hAdamSumKernel := hAdamSumKernel)
    ∧ quiescent_AdamSumKernelIdeal (hAdamSumKernelIdeal := hAdamSumKernelIdeal)
    ∧ quiescent_AdamSumReferenceIdeal (hAdamSumReferenceIdeal := hAdamSumReferenceIdeal)
    ∧ preserves_Kernel_KernelIdeal
    ∧ algebraic_KernelIdeal_ReferenceIdeal (hKernelIdeal := hKernelIdeal) (hReferenceIdeal := hReferenceIdeal)
    ∧ preserves_InKernel_InKernelIdeal
    ∧ algebraic_InKernelIdeal_InReferenceIdeal (hInKernelIdeal := hInKernelIdeal) (hInReferenceIdeal := hInReferenceIdeal)
    ∧ preserves_WgHgKernel_WgHgKernelIdeal
    ∧ algebraic_WgHgKernelIdeal_WgHgReferenceIdeal (hWgHgKernelIdeal := hWgHgKernelIdeal) (hWgHgReferenceIdeal := hWgHgReferenceIdeal)
    ∧ preserves_WgUKernel_WgUKernelIdeal
    ∧ algebraic_WgUKernelIdeal_WgUReferenceIdeal (hWgUKernelIdeal := hWgUKernelIdeal) (hWgUReferenceIdeal := hWgUReferenceIdeal)
    ∧ preserves_WgUpKernel_WgUpKernelIdeal
    ∧ algebraic_WgUpKernelIdeal_WgUpReferenceIdeal (hWgUpKernelIdeal := hWgUpKernelIdeal) (hWgUpReferenceIdeal := hWgUpReferenceIdeal)
    ∧ preserves_WgDownKernel_WgDownKernelIdeal
    ∧ algebraic_WgDownKernelIdeal_WgDownReferenceIdeal (hWgDownKernelIdeal := hWgDownKernelIdeal) (hWgDownReferenceIdeal := hWgDownReferenceIdeal)
    ∧ preserves_UpKernel_UpKernelIdeal
    ∧ algebraic_UpKernelIdeal_UpReferenceIdeal (hUpKernelIdeal := hUpKernelIdeal) (hUpReferenceIdeal := hUpReferenceIdeal)
    ∧ preserves_FfnKernel_FfnKernelIdeal
    ∧ algebraic_FfnKernelIdeal_FfnReferenceIdeal_pre_finite (hFfnKernelIdeal := hFfnKernelIdeal) (hFfnReferenceIdeal := hFfnReferenceIdeal) (hPre_finite := hPre_finite)
    ∧ preserves_TailKernel_TailKernelIdeal
    ∧ algebraic_TailKernelIdeal_TailReferenceIdeal (hTailKernelIdeal := hTailKernelIdeal) (hTailReferenceIdeal := hTailReferenceIdeal)
    ∧ preserves_InProjKernel_InProjKernelIdeal
    ∧ algebraic_InProjKernelIdeal_InProjReferenceIdeal (hInProjKernelIdeal := hInProjKernelIdeal) (hInProjReferenceIdeal := hInProjReferenceIdeal)
    ∧ preserves_WgPgKernel_WgPgKernelIdeal
    ∧ algebraic_WgPgKernelIdeal_WgPgReferenceIdeal (hWgPgKernelIdeal := hWgPgKernelIdeal) (hWgPgReferenceIdeal := hWgPgReferenceIdeal)
    ∧ preserves_WgPpKernel_WgPpKernelIdeal
    ∧ algebraic_WgPpKernelIdeal_WgPpReferenceIdeal (hWgPpKernelIdeal := hWgPpKernelIdeal) (hWgPpReferenceIdeal := hWgPpReferenceIdeal)
    ∧ preserves_AdamInKernel_AdamInKernelIdeal
    ∧ algebraic_AdamInKernelIdeal_AdamInReferenceIdeal (hAdamInKernelIdeal := hAdamInKernelIdeal) (hAdamInReferenceIdeal := hAdamInReferenceIdeal)
    ∧ preserves_AdamGluKernel_AdamGluKernelIdeal
    ∧ algebraic_AdamGluKernelIdeal_AdamGluReferenceIdeal (hAdamGluKernelIdeal := hAdamGluKernelIdeal) (hAdamGluReferenceIdeal := hAdamGluReferenceIdeal)
    ∧ preserves_AdamBranchKernel_AdamBranchKernelIdeal
    ∧ algebraic_AdamBranchKernelIdeal_AdamBranchReferenceIdeal (hAdamBranchKernelIdeal := hAdamBranchKernelIdeal) (hAdamBranchReferenceIdeal := hAdamBranchReferenceIdeal)
    ∧ preserves_AdamOutKernel_AdamOutKernelIdeal
    ∧ algebraic_AdamOutKernelIdeal_AdamOutReferenceIdeal (hAdamOutKernelIdeal := hAdamOutKernelIdeal) (hAdamOutReferenceIdeal := hAdamOutReferenceIdeal)
    ∧ preserves_AdamUpKernel_AdamUpKernelIdeal
    ∧ algebraic_AdamUpKernelIdeal_AdamUpReferenceIdeal (hAdamUpKernelIdeal := hAdamUpKernelIdeal) (hAdamUpReferenceIdeal := hAdamUpReferenceIdeal)
    ∧ preserves_AdamDownKernel_AdamDownKernelIdeal
    ∧ algebraic_AdamDownKernelIdeal_AdamDownReferenceIdeal (hAdamDownKernelIdeal := hAdamDownKernelIdeal) (hAdamDownReferenceIdeal := hAdamDownReferenceIdeal)
    ∧ preserves_AdamProjKernel_AdamProjKernelIdeal
    ∧ algebraic_AdamProjKernelIdeal_AdamProjReferenceIdeal (hAdamProjKernelIdeal := hAdamProjKernelIdeal) (hAdamProjReferenceIdeal := hAdamProjReferenceIdeal)
    ∧ preserves_AdamConvKernel_AdamConvKernelIdeal
    ∧ algebraic_AdamConvKernelIdeal_AdamConvReferenceIdeal (hAdamConvKernelIdeal := hAdamConvKernelIdeal) (hAdamConvReferenceIdeal := hAdamConvReferenceIdeal)
    ∧ preserves_AdamSumKernel_AdamSumKernelIdeal
    ∧ algebraic_AdamSumKernelIdeal_AdamSumReferenceIdeal (hAdamSumKernelIdeal := hAdamSumKernelIdeal) (hAdamSumReferenceIdeal := hAdamSumReferenceIdeal)
-- ==== Pre_finite.lean ====
abbrev S8192x1024 : Shape := ⟨2, ![8192, 1024]⟩
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S1024x5632 : Shape := ⟨2, ![1024, 5632]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S3x5632 : S_.BroadcastsInDim S3x5632 (![] : Fin 0 → Fin S3x5632.rank)
  bcast_S_S1x5632 : S_.BroadcastsInDim S1x5632 (![] : Fin 0 → Fin S1x5632.rank)
  bitsLt_bf16_f32 : FTy.bits .bf16 < FTy.bits .f32
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x5632 .f32) (main_arg2 : FVec F S8192x1024 .f32) (main_arg3 : FVec F S3x5632 .f32) (main_arg4 : FVec F S1x5632 .f32) (main_arg5 : FVec F S2816x1024 .bf16) (main_arg6 : FVec F S1024x5632 .bf16) (main_arg7 : FVec F S1x1024 .f32) : IVec S8192x1024 1 × IVec S8192x5632 1 × IVec S3x5632 1 × IVec S1x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x5632 .f32 := Host.absf main_arg1
  let main_cst_0 : FVec F S_ .f32 := constant S_ .f32 0x7F800000#32
  let main_v4 : FVec F S8192x5632 .f32 := broadcastInDim S8192x5632 ![] bcast_S_S8192x5632 main_cst_0
  let main_v5 : IVec S8192x5632 1 := cmpf .olt main_v3 main_v4
  let main_v6 : FVec F S3x5632 .f32 := Host.absf main_arg3
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg4
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  let main_v12 : FVec F S2816x1024 .f32 := (extf .f32 · bitsLt_bf16_f32) main_arg5
  let main_v13 : FVec F S2816x1024 .f32 := Host.absf main_v12
  let main_cst_3 : FVec F S_ .f32 := constant S_ .f32 0x7F800000#32
  let main_v14 : FVec F S2816x1024 .f32 := broadcastInDim S2816x1024 ![] bcast_S_S2816x1024 main_cst_3
  let main_v15 : IVec S2816x1024 1 := cmpf .olt main_v13 main_v14
  (main_v2, main_v5, main_v8, main_v11, main_v15)
-- ==== Kernel.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S_ : Shape := ⟨0, ![]⟩
abbrev S256x1024 : Shape := ⟨2, ![256, 1024]⟩
abbrev S256x512 : Shape := ⟨2, ![256, 512]⟩
abbrev S256x2048 : Shape := ⟨2, ![256, 2048]⟩

abbrev nBuf : Space → Nat
  | .hbm => 37
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x2048, .f32⟩
  | .hbm, ⟨32, _⟩ => ⟨S8192x512, .f32⟩
  | .hbm, ⟨33, _⟩ => ⟨S8192x512, .f32⟩
  | .hbm, ⟨34, _⟩ => ⟨S512x1024, .f32⟩
  | .hbm, ⟨35, _⟩ => ⟨S512x1024, .f32⟩
  | .hbm, ⟨36, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .f32⟩
  | .local _ .vmem, ⟨9, _⟩ => ⟨S256x2048, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S256x2048, .f32⟩
  | .local _ .vmem, ⟨14, _⟩ => ⟨S256x2048, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S512x1024, .f32⟩
  | .local _ .vmem, ⟨20, _⟩ => ⟨S512x1024, .f32⟩
  | .local _ .vmem, ⟨21, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev main_v20_4 : Ref sig .tc := ⟨.hbm, 35, rfl⟩
abbrev main_v20_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S_ : Shape := ⟨0, ![]⟩
abbrev S1024x512 : Shape := ⟨2, ![1024, 512]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S8192x512, .f32⟩
  | .hbm, ⟨8, _⟩ => ⟨S8192x512, .f32⟩
  | .hbm, ⟨9, _⟩ => ⟨S512x1024, .f32⟩
  | .hbm, ⟨10, _⟩ => ⟨S512x1024, .f32⟩
  | .hbm, ⟨11, _⟩ => ⟨S1024x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S1024x1024, .f32⟩
  | .hbm, ⟨45, _⟩ => ⟨S1024x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1024x512, .f32⟩
  | .hbm, ⟨54, _⟩ => ⟨S512x1024, .f32⟩
  | .hbm, ⟨55, _⟩ => ⟨S8192x512, .f32⟩
  | .hbm, ⟨56, _⟩ => ⟨S1024x512, .f32⟩
  | .hbm, ⟨57, _⟩ => ⟨S512x1024, .f32⟩
  | .hbm, ⟨58, _⟩ => ⟨S8192x512, .f32⟩
  | .hbm, ⟨59, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== InKernel.lean ====
abbrev S8192x2048 : Shape := ⟨2, ![8192, 2048]⟩
abbrev S8192x512 : Shape := ⟨2, ![8192, 512]⟩
abbrev S8192x1024 : Shape := ⟨2, ![8192, 1024]⟩
abbrev S1024x4608 : Shape := ⟨2, ![1024, 4608]⟩
abbrev S1x1024 : Shape := ⟨2, ![1, 1024]⟩
abbrev S256x2048 : Shape := ⟨2, ![256, 2048]⟩
abbrev S256x512 : Shape := ⟨2, ![256, 512]⟩
abbrev S256x1024 : Shape := ⟨2, ![256, 1024]⟩
abbrev S1024x2048 : Shape := ⟨2, ![1024, 2048]⟩
abbrev S1024x512 : Shape := ⟨2, ![1024, 512]⟩
abbrev S256 : Shape := ⟨1, ![256]⟩
abbrev S256x1 : Shape := ⟨2, ![256, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S1024x4608, .bf16⟩
  | .hbm, ⟨6, _⟩ => ⟨S1x1024, .f32⟩
  | .hbm, ⟨7, _⟩ => ⟨S8192x1024, .f32⟩
  | .hbm, ⟨8, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x4608, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x4608 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== InReferenceIdeal.lean ====
abbrev S8192x2048 : Shape := ⟨2, ![8192, 2048]⟩
abbrev S8192x512 : Shape := ⟨2, ![8192, 512]⟩
abbrev S8192x1024 : Shape := ⟨2, ![8192, 1024]⟩
abbrev S1024x4608 : Shape := ⟨2, ![1024, 4608]⟩
abbrev S1x1024 : Shape := ⟨2, ![1, 1024]⟩
abbrev S8192x4608 : Shape := ⟨2, ![8192, 4608]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S1024x4608, .bf16⟩
  | .hbm, ⟨6, _⟩ => ⟨S1x1024, .f32⟩
  | .hbm, ⟨7, _⟩ => ⟨S8192x4608, .f32⟩
  | .hbm, ⟨8, _⟩ => ⟨S1024x4608, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x4608, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== WgHgKernel.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 20
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgHgKernelIdeal.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 20
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | .local _ .vmem, ⟨5, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgHgReferenceIdeal.lean ====
abbrev S8192x2048 : Shape := ⟨2, ![8192, 2048]⟩
abbrev S8192x1024 : Shape := ⟨2, ![8192, 1024]⟩
abbrev S1x1024 : Shape := ⟨2, ![1, 1024]⟩
abbrev S_ : Shape := ⟨0, ![]⟩
abbrev S1024x2048 : Shape := ⟨2, ![1024, 2048]⟩
abbrev S8192 : Shape := ⟨1, ![8192]⟩
abbrev S8192x1 : Shape := ⟨2, ![8192, 1]⟩
abbrev S2048x1024 : Shape := ⟨2, ![2048, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1024x2048, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x2048, .f32⟩
  | .hbm, ⟨21, _⟩ => ⟨S2048x1024, .f32⟩
  | .hbm, ⟨22, _⟩ => ⟨S1024x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== WgUKernel.lean ====
abbrev S8192x512 : Shape := ⟨2, ![8192, 512]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 20
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgUReferenceIdeal.lean ====
abbrev S8192x512 : Shape := ⟨2, ![8192, 512]⟩
abbrev S8192x1024 : Shape := ⟨2, ![8192, 1024]⟩
abbrev S1x1024 : Shape := ⟨2, ![1, 1024]⟩
abbrev S_ : Shape := ⟨0, ![]⟩
abbrev S1024x512 : Shape := ⟨2, ![1024, 512]⟩
abbrev S8192 : Shape := ⟨1, ![8192]⟩
abbrev S8192x1 : Shape := ⟨2, ![8192, 1]⟩
abbrev S512x1024 : Shape := ⟨2, ![512, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1024x512, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x512, .f32⟩
  | .hbm, ⟨21, _⟩ => ⟨S512x1024, .f32⟩
  | .hbm, ⟨22, _⟩ => ⟨S1024x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== WgUpKernel.lean ====
abbrev S8192x5632 : Shape := ⟨2, ![8192, 5632]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S512x1024 : Shape := ⟨2, ![512, 1024]⟩
abbrev S512x1408 : Shape := ⟨2, ![512, 1408]⟩
abbrev S1024x1408 : Shape := ⟨2, ![1024, 1408]⟩

abbrev nBuf : Space → Nat
  | .hbm => 20
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S1024x1408, .f32⟩
  | .local _ .vmem, ⟨5, _⟩ => ⟨S1024x1408, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgUpReferenceIdeal.lean ====
abbrev S8192x5632 : Shape := ⟨2, ![8192, 5632]⟩
abbrev S8192x1024 : Shape := ⟨2, ![8192, 1024]⟩
abbrev S1x1024 : Shape := ⟨2, ![1, 1024]⟩
abbrev S_ : Shape := ⟨0, ![]⟩
abbrev S1024x5632 : Shape := ⟨2, ![1024, 5632]⟩
abbrev S8192 : Shape := ⟨1, ![8192]⟩
abbrev S8192x1 : Shape := ⟨2, ![8192, 1]⟩
abbrev S5632x1024 : Shape := ⟨2, ![5632, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x5632, .f32⟩
  | .hbm, ⟨22, _⟩ => ⟨S5632x1024, .f32⟩
  | .hbm, ⟨23, _⟩ => ⟨S1024x5632, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== WgDownKernel.lean ====
abbrev S8192x1024 : Shape := ⟨2, ![8192, 1024]⟩
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S2816x1024 : Shape := ⟨2, ![2816, 1024]⟩
abbrev S512x2816 : Shape := ⟨2, ![512, 2816]⟩
abbrev S512x512 : Shape := ⟨2, ![512, 512]⟩
abbrev S2816x512 : Shape := ⟨2, ![2816, 512]⟩

abbrev nBuf : Space → Nat
  | .hbm => 51
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S3x5632, .f32⟩
  | .hbm, ⟨3, _⟩ => ⟨S1x5632, .f32⟩
  | .hbm, ⟨4, _⟩ => ⟨S_, .f32⟩
  | .hbm, ⟨5, _⟩ => ⟨S2x5632, .f32⟩
  | .hbm, ⟨6, _⟩ => ⟨S8194x5632, .f32⟩
  | .hbm, ⟨7, _⟩ => ⟨S1x5632, .f32⟩
  | .hbm, ⟨8, _⟩ => ⟨S5632, .f32⟩
  | .hbm, ⟨9, _⟩ => ⟨S8192x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S1x5632, .f32⟩
  | .hbm, ⟨16, _⟩ => ⟨S5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S8192x5632, .f32⟩
  | .hbm, ⟨25, _⟩ => ⟨S1x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S_, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .bf16⟩
  | .hbm, ⟨50, _⟩ => ⟨S2816x1024, .f32⟩
  | .local _ .vmem, ⟨0, _⟩ => ⟨S512x2816, .bf16⟩
  | .local _ .vmem, ⟨1, _⟩ => ⟨S512x2816, .bf16⟩
  | .local _ .vmem, ⟨2, _⟩ => ⟨S512x512, .f32⟩
  | .local _ .vmem, ⟨3, _⟩ => ⟨S512x512, .f32⟩
  | .local _ .vmem, ⟨4, _⟩ => ⟨S2816x512, .f32⟩
  | .local _ .vmem, ⟨5, _⟩ => ⟨S2816x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_1 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgDownReferenceIdeal.lean ====
abbrev S8192x1024 : Shape := ⟨2, ![8192, 1024]⟩
abbrev S8192x5632 : Shape := ⟨2, ![8192, 5632]⟩
abbrev S3x5632 : Shape := ⟨2, ![3, 5632]⟩
abbrev S1x5632 : Shape := ⟨2, ![1, 5632]⟩
abbrev S_ : Shape := ⟨0, ![]⟩
abbrev S2816x1024 : Shape := ⟨2, ![2816, 1024]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S1024x2816 : Shape := ⟨2, ![1024, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S3x5632, .f32⟩
  | .hbm, ⟨3, _⟩ => ⟨S1x5632, .f32⟩
  | .hbm, ⟨4, _⟩ => ⟨S_, .f32⟩
  | .hbm, ⟨5, _⟩ => ⟨S2816x1024, .f32⟩
  | .hbm, ⟨6, _⟩ => ⟨S_, .f32⟩
  | .hbm, ⟨7, _⟩ => ⟨S2x5632, .f32⟩
  | .hbm, ⟨8, _⟩ => ⟨S8194x5632, .f32⟩
  | .hbm, ⟨9, _⟩ => ⟨S1x5632, .f32⟩
  | .hbm, ⟨10, _⟩ => ⟨S5632, .f32⟩
  | .hbm, ⟨11, _⟩ => ⟨S8192x5632, .f32⟩
  | .hbm, ⟨12, _⟩ => ⟨S1x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S5632, .f32⟩
  | .hbm, ⟨19, _⟩ => ⟨S8192x5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S1x5632, .f32⟩
  | .hbm, ⟨25, _⟩ => ⟨S5632, .f32⟩
  | .hbm, ⟨26, _⟩ => ⟨S8192x5632, .f32⟩
  | .hbm, ⟨27, _⟩ => ⟨S1x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S1024x2816, .f32⟩
  | .hbm, ⟨53, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_2 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== UpKernel.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S1x1024 : Shape := ⟨2, ![1, 1024]⟩
abbrev S1024x5632 : Shape := ⟨2, ![1024, 5632]⟩
abbrev S8192x5632 : Shape := ⟨2, ![8192, 5632]⟩
abbrev S256x1024 : Shape := ⟨2, ![256, 1024]⟩
abbrev S256x512 : Shape := ⟨2, ![256, 512]⟩
abbrev S256x2048 : Shape := ⟨2, ![256, 2048]⟩
abbrev S256x5632 : Shape := ⟨2, ![256, 5632]⟩
abbrev S256 : Shape := ⟨1, ![256]⟩
abbrev S256x1 : Shape := ⟨2, ![256, 1]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1024x5632, .bf16⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S8192x5632, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x2048, .f32⟩
  | .local _ .vmem, ⟨7, _⟩ => ⟨S256x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x5632, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x5632, .f32⟩
  | .local _ .vmem, ⟨20, _⟩ => ⟨S256x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== UpReferenceIdeal.lean ====
abbrev S8192x1024 : Shape := ⟨2, ![8192, 1024]⟩
abbrev S8192x512 : Shape := ⟨2, ![8192, 512]⟩
abbrev S8192x2048 : Shape := ⟨2, ![8192, 2048]⟩
abbrev S512x1024 : Shape := ⟨2, ![512, 1024]⟩
abbrev S1024x1024 : Shape := ⟨2, ![1024, 1024]⟩
abbrev S1x1024 : Shape := ⟨2, ![1, 1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x512, .bf16⟩
  | .hbm, ⟨3, _⟩ => ⟨S8192x2048, .f32⟩
  | .hbm, ⟨4, _⟩ => ⟨S512x1024, .bf16⟩
  | .hbm, ⟨5, _⟩ => ⟨S512x1024, .bf16⟩
  | .hbm, ⟨6, _⟩ => ⟨S1024x1024, .bf16⟩
  | .hbm, ⟨7, _⟩ => ⟨S1x1024, .f32⟩
  | .hbm, ⟨8, _⟩ => ⟨S1024x5632, .bf16⟩
  | .hbm, ⟨9, _⟩ => ⟨S8192x512, .f32⟩
  | .hbm, ⟨10, _⟩ => ⟨S8192x512, .f32⟩
  | .hbm, ⟨11, _⟩ => ⟨S512x1024, .f32⟩
  | .hbm, ⟨12, _⟩ => ⟨S512x1024, .f32⟩
  | .hbm, ⟨13, _⟩ => ⟨S1024x1024, .f32⟩
  | .hbm, ⟨14, _⟩ => ⟨S1024x5632, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S8192x1024, .bf16⟩
  | .hbm, ⟨57, _⟩ => ⟨S8192x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== FfnKernel.lean ====
abbrev S8192x1024 : Shape := ⟨2, ![8192, 1024]⟩
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S1024x5632 : Shape := ⟨2, ![1024, 5632]⟩
abbrev S1x1024 : Shape := ⟨2, ![1, 1024]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S128x1024 : Shape := ⟨2, ![128, 1024]⟩
abbrev S128x5632 : Shape := ⟨2, ![128, 5632]⟩
abbrev S128x2816 : Shape := ⟨2, ![128, 2816]⟩
abbrev S8x5632 : Shape := ⟨2, ![8, 5632]⟩
abbrev S128x1 : Shape := ⟨2, ![128, 1]⟩
abbrev S128 : Shape := ⟨1, ![128]⟩
abbrev S1024 : Shape := ⟨1, ![1024]⟩

abbrev nBuf : Space → Nat
  | .hbm => 83
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .f32⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1024x5632, .bf16⟩
  | .hbm, ⟨7, _⟩ => ⟨S1x1024, .f32⟩
  | .hbm, ⟨8, _⟩ => ⟨S_, .f32⟩
  | .hbm, ⟨9, _⟩ => ⟨S2x5632, .f32⟩
  | .hbm, ⟨10, _⟩ => ⟨S8194x5632, .f32⟩
  | .hbm, ⟨11, _⟩ => ⟨S1x5632, .f32⟩
  | .hbm, ⟨12, _⟩ => ⟨S5632, .f32⟩
  | .hbm, ⟨13, _⟩ => ⟨S8192x5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S1x5632, .f32⟩
  | .hbm, ⟨20, _⟩ => ⟨S5632, .f32⟩
  | .hbm, ⟨21, _⟩ => ⟨S8192x5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x5632, .f32⟩
  | .hbm, ⟨27, _⟩ => ⟨S5632, .f32⟩
  | .hbm, ⟨28, _⟩ => ⟨S8192x5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S_, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S_, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S_, .f32⟩
  | .hbm, ⟨66, _⟩ => ⟨S8192x2816, .f32⟩
  | .hbm, ⟨67, _⟩ => ⟨S8192x2816, .f32⟩
  | .hbm, ⟨68, _⟩ => ⟨S8192x2816, .f32⟩
  | .hbm, ⟨69, _⟩ => ⟨S_, .f32⟩
  | .hbm, ⟨70, _⟩ => ⟨S8192x2816, .f32⟩
  | .hbm, ⟨71, _⟩ => ⟨S8192x2816, .f32⟩
  | .hbm, ⟨72, _⟩ => ⟨S8192x2816, .f32⟩
  | .hbm, ⟨73, _⟩ => ⟨S_, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x5632, .bf16⟩
  | .hbm, ⟨79, _⟩ => ⟨S8192x1024, .f32⟩
  | .hbm, ⟨80, _⟩ => ⟨S3x5632, .f32⟩
  | .hbm, ⟨81, _⟩ => ⟨S1x5632, .f32⟩
  | .hbm, ⟨82, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S128x5632, .f32⟩
  | .local _ .vmem, ⟨3, _⟩ => ⟨S128x5632, .f32⟩
  | .local _ .vmem, ⟨4, _⟩ => ⟨S128x2816, .f32⟩
  | .local _ .vmem, ⟨5, _⟩ => ⟨S128x2816, .f32⟩
  | .local _ .vmem, ⟨6, _⟩ => ⟨S128x2816, .f32⟩
  | .local _ .vmem, ⟨7, _⟩ => ⟨S128x2816, .f32⟩
  | .local _ .vmem, ⟨8, _⟩ => ⟨S3x5632, .f32⟩
  | .local _ .vmem, ⟨9, _⟩ => ⟨S2816x1024, .bf16⟩
  | .local _ .vmem, ⟨10, _⟩ => ⟨S1024x5632, .bf16⟩
  | .local _ .vmem, ⟨11, _⟩ => ⟨S128x1024, .f32⟩
  | .local _ .vmem, ⟨12, _⟩ => ⟨S128x1024, .f32⟩
  | .local _ .vmem, ⟨13, _⟩ => ⟨S1x1024, .f32⟩
  | .local _ .vmem, ⟨14, _⟩ => ⟨S128x5632, .bf16⟩
  | .local _ .vmem, ⟨15, _⟩ => ⟨S128x5632, .bf16⟩
  | .local _ .vmem, ⟨16, _⟩ => ⟨S128x1024, .f32⟩
  | .local _ .vmem, ⟨17, _⟩ => ⟨S128x1024, .f32⟩
  | .local _ .vmem, ⟨18, _⟩ => ⟨S3x5632, .f32⟩
  | .local _ .vmem, ⟨19, _⟩ => ⟨S1x5632, .f32⟩
  | .local _ .vmem, ⟨20, _⟩ => ⟨S1x1024, .f32⟩
  | .local _ .vmem, ⟨21, _⟩ => ⟨S8x5632, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59_0 : Ref sig .tc := ⟨.hbm, 78, rfl⟩
abbrev main_v59_1 : Ref sig .tc := ⟨.hbm, 79, rfl⟩
abbrev main_v59_2 : Ref sig .tc := ⟨.hbm, 80, rfl⟩
abbrev main_v59_3 : Ref sig .tc := ⟨.hbm, 81, rfl⟩
abbrev main_v59_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnReferenceIdeal.lean ====
abbrev S8192x1024 : Shape := ⟨2, ![8192, 1024]⟩
abbrev S8192x5632 : Shape := ⟨2, ![8192, 5632]⟩
abbrev S3x5632 : Shape := ⟨2, ![3, 5632]⟩
abbrev S1x5632 : Shape := ⟨2, ![1, 5632]⟩
abbrev S2816x1024 : Shape := ⟨2, ![2816, 1024]⟩
abbrev S1024x5632 : Shape := ⟨2, ![1024, 5632]⟩
abbrev S1x1024 : Shape := ⟨2, ![1, 1024]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩

abbrev nBuf : Space → Nat
  | .hbm => 182
  | .vmem => 0
  | .smem => 0
  | _ => 0

abbrev hbmTy0_0 (i : Nat) : BufTy := match i % 128 with
  | 0 => ⟨S8192x1024, .f32⟩
  | 1 => ⟨S8192x5632, .f32⟩
  | 2 => ⟨S8192x1024, .f32⟩
  | 3 => ⟨S3x5632, .f32⟩
  | 4 => ⟨S1x5632, .f32⟩
  | 5 => ⟨S2816x1024, .bf16⟩
  | 6 => ⟨S1024x5632, .bf16⟩
  | 7 => ⟨S1x1024, .f32⟩
  | 8 => ⟨S2816x1024, .f32⟩
  | 9 => ⟨S1024x5632, .f32⟩
  | 10 => ⟨S_, .f32⟩
  | 11 => ⟨S2x5632, .f32⟩
  | 12 => ⟨S8194x5632, .f32⟩
  | 13 => ⟨S_, .f32⟩
  | 14 => ⟨S2x5632, .f32⟩
  | 15 => ⟨S1x5632, .f32⟩
  | 16 => ⟨S5632, .f32⟩
  | 17 => ⟨S8192x5632, .f32⟩
  | 18 => ⟨S1x5632, .f32⟩
  | 19 => ⟨S8192x5632, .f32⟩
  | 20 => ⟨S8192x5632, .f32⟩
  | 21 => ⟨S8192x5632, .f32⟩
  | 22 => ⟨S8192x5632, .f32⟩
  | 23 => ⟨S1x5632, .f32⟩
  | 24 => ⟨S5632, .f32⟩
  | 25 => ⟨S8192x5632, .f32⟩
  | 26 => ⟨S1x5632, .f32⟩
  | 27 => ⟨S8192x5632, .f32⟩
  | 28 => ⟨S8192x5632, .f32⟩
  | 29 => ⟨S8192x5632, .f32⟩
  | 30 => ⟨S1x5632, .f32⟩
  | 31 => ⟨S5632, .f32⟩
  | 32 => ⟨S8192x5632, .f32⟩
  | 33 => ⟨S1x5632, .f32⟩
  | 34 => ⟨S8192x5632, .f32⟩
  | 35 => ⟨S8192x5632, .f32⟩
  | 36 => ⟨S8192x5632, .f32⟩
  | 37 => ⟨S8192x2816, .f32⟩
  | 38 => ⟨S8192x2816, .f32⟩
  | 39 => ⟨S8192x2816, .f32⟩
  | 40 => ⟨S8192x2816, .f32⟩
  | 41 => ⟨S8192x2816, .f32⟩
  | 42 => ⟨S_, .f32⟩
  | 43 => ⟨S8192x2816, .f32⟩
  | 44 => ⟨S8192x2816, .f32⟩
  | 45 => ⟨S_, .f32⟩
  | 46 => ⟨S8192x2816, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S8192x2816, .f32⟩
  | 53 => ⟨S_, .f32⟩
  | 54 => ⟨S8192x2816, .f32⟩
  | 55 => ⟨S8192x2816, .f32⟩
  | 56 => ⟨S_, .f32⟩
  | 57 => ⟨S8192x2816, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S8192x2816, .f32⟩
  | 67 => ⟨S8192x2816, .f32⟩
  | 68 => ⟨S8192x1024, .f32⟩
  | 69 => ⟨S8192x2816, .f32⟩
  | 70 => ⟨S8192x2816, .f32⟩
  | 71 => ⟨S8192x2816, .f32⟩
  | 72 => ⟨S8192x2816, .f32⟩
  | 73 => ⟨S8192x2816, .f32⟩
  | 74 => ⟨S_, .f32⟩
  | 75 => ⟨S8192x2816, .f32⟩
  | 76 => ⟨S8192x2816, .f32⟩
  | 77 => ⟨S8192x2816, .f32⟩
  | 78 => ⟨S_, .f32⟩
  | 79 => ⟨S8192x2816, .f32⟩
  | 80 => ⟨S8192x2816, .f32⟩
  | 81 => ⟨S8192x2816, .f32⟩
  | 82 => ⟨S_, .f32⟩
  | 83 => ⟨S8192x2816, .f32⟩
  | 84 => ⟨S8192x2816, .f32⟩
  | 85 => ⟨S8192x2816, .f32⟩
  | 86 => ⟨S8192x2816, .f32⟩
  | 87 => ⟨S8192x5632, .f32⟩
  | 88 => ⟨S8192x5632, .f32⟩
  | 89 => ⟨S8192x5632, .f32⟩
  | 90 => ⟨S8192x5632, .f32⟩
  | 91 => ⟨S_, .f32⟩
  | 92 => ⟨S5632, .f32⟩
  | 93 => ⟨S1x5632, .f32⟩
  | 94 => ⟨S_, .f32⟩
  | 95 => ⟨S5632, .f32⟩
  | 96 => ⟨S_, .f32⟩
  | 97 => ⟨S8194x5632, .f32⟩
  | 98 => ⟨S1x5632, .f32⟩
  | 99 => ⟨S_, .f32⟩
  | 100 => ⟨S3x5632, .f32⟩
  | 101 => ⟨S8192x5632, .f32⟩
  | 102 => ⟨S8192x5632, .f32⟩
  | 103 => ⟨S8192x5632, .f32⟩
  | 104 => ⟨S_, .f32⟩
  | 105 => ⟨S5632, .f32⟩
  | 106 => ⟨S1x5632, .f32⟩
  | 107 => ⟨S_, .f32⟩
  | 108 => ⟨S5632, .f32⟩
  | 109 => ⟨S_, .f32⟩
  | 110 => ⟨S8194x5632, .f32⟩
  | 111 => ⟨S8194x5632, .f32⟩
  | 112 => ⟨S1x5632, .f32⟩
  | 113 => ⟨S_, .f32⟩
  | 114 => ⟨S3x5632, .f32⟩
  | 115 => ⟨S3x5632, .f32⟩
  | 116 => ⟨S_, .f32⟩
  | 117 => ⟨S5632, .f32⟩
  | 118 => ⟨S1x5632, .f32⟩
  | 119 => ⟨S8192x5632, .f32⟩
  | 120 => ⟨S8192x5632, .f32⟩
  | 121 => ⟨S8192x5632, .f32⟩
  | 122 => ⟨S_, .f32⟩
  | 123 => ⟨S5632, .f32⟩
  | 124 => ⟨S1x5632, .f32⟩
  | 125 => ⟨S_, .f32⟩
  | 126 => ⟨S5632, .f32⟩
  | 127 => ⟨S_, .f32⟩
  | _ => ⟨S8192x1024, .f32⟩

abbrev hbmTy0_1 (i : Nat) : BufTy := match i % 128 with
  | 0 => ⟨S8194x5632, .f32⟩
  | 1 => ⟨S8194x5632, .f32⟩
  | 2 => ⟨S1x5632, .f32⟩
  | 3 => ⟨S_, .f32⟩
  | 4 => ⟨S3x5632, .f32⟩
  | 5 => ⟨S3x5632, .f32⟩
  | 6 => ⟨S2x5632, .f32⟩
  | 7 => ⟨S8192x5632, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S8192x1024, .f32⟩
  | 26 => ⟨S8192x1024, .f32⟩
  | 27 => ⟨S8192x5632, .f32⟩
  | 28 => ⟨S8192x1024, .f32⟩
  | 29 => ⟨S8192x1024, .f32⟩
  | 30 => ⟨S_, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S8192x1024, .f32⟩
  | 40 => ⟨S8192x1024, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x5632, .bf16⟩
  | 53 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_1 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_10 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_v72 : Ref sig .tc := ⟨.hbm, 93, rfl⟩
abbrev main_cst_12 : Ref sig .tc := ⟨.hbm, 94, rfl⟩
abbrev main_v73 : Ref sig .tc := ⟨.hbm, 95, rfl⟩
abbrev main_cst_13 : Ref sig .tc := ⟨.hbm, 96, rfl⟩
abbrev main_v74 : Ref sig .tc := ⟨.hbm, 97, rfl⟩
abbrev main_v75 : Ref sig .tc := ⟨.hbm, 98, rfl⟩
abbrev main_cst_14 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_cst_16 : Ref sig .tc := ⟨.hbm, 107, rfl⟩
abbrev main_v82 : Ref sig .tc := ⟨.hbm, 108, rfl⟩
abbrev main_cst_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_18 : Ref sig .tc := ⟨.hbm, 113, rfl⟩
abbrev main_v86 : Ref sig .tc := ⟨.hbm, 114, rfl⟩
abbrev main_v87 : Ref sig .tc := ⟨.hbm, 115, rfl⟩
abbrev main_cst_19 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_20 : Ref sig .tc := ⟨.hbm, 122, rfl⟩
abbrev main_v93 : Ref sig .tc := ⟨.hbm, 123, rfl⟩
abbrev main_v94 : Ref sig .tc := ⟨.hbm, 124, rfl⟩
abbrev main_cst_21 : Ref sig .tc := ⟨.hbm, 125, rfl⟩
abbrev main_v95 : Ref sig .tc := ⟨.hbm, 126, rfl⟩
abbrev main_cst_22 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_23 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_24 : Ref sig .tc := ⟨.hbm, 137, rfl⟩
abbrev main_v104 : Ref sig .tc := ⟨.hbm, 138, rfl⟩
abbrev main_v105 : Ref sig .tc := ⟨.hbm, 139, rfl⟩
abbrev main_cst_25 : Ref sig .tc := ⟨.hbm, 140, rfl⟩
abbrev main_v106 : Ref sig .tc := ⟨.hbm, 141, rfl⟩
abbrev main_v107 : Ref sig .tc := ⟨.hbm, 142, rfl⟩
abbrev main_cst_26 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_27 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_28 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_cst_29 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_30 : Ref sig .tc := ⟨.hbm, 170, rfl⟩
abbrev main_v131 : Ref sig .tc := ⟨.hbm, 171, rfl⟩
abbrev main_v132 : Ref sig .tc := ⟨.hbm, 172, rfl⟩
abbrev main_cst_31 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩

abbrev nD : Nat := 1
abbrev τ : Topo := Topo.v7x

variable {F : FTy → Type} [FloatOps F]
-- ==== TailKernel.lean ====
abbrev S8192x5632 : Shape := ⟨2, ![8192, 5632]⟩
abbrev S8192x1024 : Shape := ⟨2, ![8192, 1024]⟩
abbrev S8192x256 : Shape := ⟨2, ![8192, 256]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S1024x1024 : Shape := ⟨2, ![1024, 1024]⟩
abbrev S256x1024 : Shape := ⟨2, ![256, 1024]⟩
abbrev S8192x2816 : Shape := ⟨2, ![8192, 2816]⟩
abbrev S1x128 : Shape := ⟨2, ![1, 128]⟩
abbrev S128x5632 : Shape := ⟨2, ![128, 5632]⟩
abbrev S8x5632 : Shape := ⟨2, ![8, 5632]⟩
abbrev S128x1024 : Shape := ⟨2, ![128, 1024]⟩
abbrev S128x256 : Shape := ⟨2, ![128, 256]⟩
abbrev S128x2816 : Shape := ⟨2, ![128, 2816]⟩
abbrev S128x1 : Shape := ⟨2, ![128, 1]⟩
abbrev S128 : Shape := ⟨1, ![128]⟩
abbrev S1 : Shape := ⟨1, ![1]⟩
abbrev S1x1 : Shape := ⟨2, ![1, 1]⟩
abbrev S1024 : Shape := ⟨1, ![1024]⟩

abbrev nBuf : Space → Nat
  | .hbm => 21
  | .vmem => 34
  | .smem => 0
  | _ => 0

abbrev bufTy : (tb : Table) → Fin (tcTables nBuf tb) → BufTy
  | .hbm, ⟨0, _⟩ => ⟨S8192x5632, .f32⟩
  | .hbm, ⟨1, _⟩ => ⟨S8192x1024, .f32⟩
  | .hbm, ⟨2, _⟩ => ⟨S8192x256, .f32⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x2816, .bf16⟩
  | .hbm, ⟨13, _⟩ => ⟨S8192x2816, .f32⟩
  | .hbm, ⟨14, _⟩ => ⟨S8192x2816, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S1x128, .f32⟩
  | .hbm, ⟨19, _⟩ => ⟨S1x1024, .f32⟩
  | .hbm, ⟨20, _⟩ => ⟨S1x1024, .f32⟩
  | .local _ .vmem, ⟨0, _⟩ => ⟨S128x5632, .f32⟩
  | .local _ .vmem, ⟨1, _⟩ => ⟨S128x5632, .f32⟩
  | .local _ .vmem, ⟨2, _⟩ => ⟨S8x5632, .f32⟩
  | .local _ .vmem, ⟨3, _⟩ => ⟨S8x5632, .f32⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S128x1024, .f32⟩
  | .local _ .vmem, ⟨8, _⟩ => ⟨S128x1024, .f32⟩
  | .local _ .vmem, ⟨9, _⟩ => ⟨S128x256, .f32⟩
  | .local _ .vmem, ⟨10, _⟩ => ⟨S128x256, .f32⟩
  | .local _ .vmem, ⟨11, _⟩ => ⟨S1x1024, .f32⟩
  | .local _ .vmem, ⟨12, _⟩ => ⟨S1024x1024, .bf16⟩
  | .local _ .vmem, ⟨13, _⟩ => ⟨S256x1024, .bf16⟩
  | .local _ .vmem, ⟨14, _⟩ => ⟨S1x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x2816, .bf16⟩
  | .local _ .vmem, ⟨20, _⟩ => ⟨S128x2816, .bf16⟩
  | .local _ .vmem, ⟨21, _⟩ => ⟨S128x2816, .f32⟩
  | .local _ .vmem, ⟨22, _⟩ => ⟨S128x2816, .f32⟩
  | .local _ .vmem, ⟨23, _⟩ => ⟨S128x2816, .f32⟩
  | .local _ .vmem, ⟨24, _⟩ => ⟨S128x2816, .f32⟩
  | .local _ .vmem, ⟨25, _⟩ => ⟨S128x1024, .bf16⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S128x1024, .bf16⟩
  | .local _ .vmem, ⟨30, _⟩ => ⟨S128x1024, .bf16⟩
  | .local _ .vmem, ⟨31, _⟩ => ⟨S1x128, .f32⟩
  | .local _ .vmem, ⟨32, _⟩ => ⟨S1x1024, .f32⟩
  | .local _ .vmem, ⟨33, _⟩ => ⟨S1x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg20_0 : Ref sig .tc := ⟨.vmem, 32, rfl⟩
abbrev cc0_stg21_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem20_0 : DmaSem sig := 32
abbrev cc0_sem21_0 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x2816 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2816 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== TailReferenceIdeal.lean ====
abbrev S8192x5632 : Shape := ⟨2, ![8192, 5632]⟩
abbrev S8192x1024 : Shape := ⟨2, ![8192, 1024]⟩
abbrev S8192x256 : Shape := ⟨2, ![8192, 256]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S1024x1024 : Shape := ⟨2, ![1024, 1024]⟩
abbrev S256x1024 : Shape := ⟨2, ![256, 1024]⟩
abbrev S_ : Shape := ⟨0, ![]⟩
abbrev S2x5632 : Shape := ⟨2, ![2, 5632]⟩
abbrev S8194x5632 : Shape := ⟨2, ![8194, 5632]⟩
abbrev S5632 : Shape := ⟨1, ![5632]⟩
abbrev S8192x2816 : Shape := ⟨2, ![8192, 2816]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 210
  | .vmem => 0
  | .smem => 0
  | _ => 0

abbrev hbmTy0_0 (i : Nat) : BufTy := match i % 128 with
  | 0 => ⟨S8192x5632, .f32⟩
  | 1 => ⟨S8192x1024, .f32⟩
  | 2 => ⟨S8192x256, .f32⟩
  | 3 => ⟨S3x5632, .f32⟩
  | 4 => ⟨S1x5632, .f32⟩
  | 5 => ⟨S2816x1024, .bf16⟩
  | 6 => ⟨S1x1024, .f32⟩
  | 7 => ⟨S1024x1024, .bf16⟩
  | 8 => ⟨S256x1024, .bf16⟩
  | 9 => ⟨S1x1024, .f32⟩
  | 10 => ⟨S8192x1024, .f32⟩
  | 11 => ⟨S2816x1024, .f32⟩
  | 12 => ⟨S1024x1024, .f32⟩
  | 13 => ⟨S256x1024, .f32⟩
  | 14 => ⟨S_, .f32⟩
  | 15 => ⟨S2x5632, .f32⟩
  | 16 => ⟨S8194x5632, .f32⟩
  | 17 => ⟨S1x5632, .f32⟩
  | 18 => ⟨S5632, .f32⟩
  | 19 => ⟨S8192x5632, .f32⟩
  | 20 => ⟨S1x5632, .f32⟩
  | 21 => ⟨S8192x5632, .f32⟩
  | 22 => ⟨S8192x5632, .f32⟩
  | 23 => ⟨S8192x5632, .f32⟩
  | 24 => ⟨S8192x5632, .f32⟩
  | 25 => ⟨S1x5632, .f32⟩
  | 26 => ⟨S5632, .f32⟩
  | 27 => ⟨S8192x5632, .f32⟩
  | 28 => ⟨S1x5632, .f32⟩
  | 29 => ⟨S8192x5632, .f32⟩
  | 30 => ⟨S8192x5632, .f32⟩
  | 31 => ⟨S8192x5632, .f32⟩
  | 32 => ⟨S1x5632, .f32⟩
  | 33 => ⟨S5632, .f32⟩
  | 34 => ⟨S8192x5632, .f32⟩
  | 35 => ⟨S1x5632, .f32⟩
  | 36 => ⟨S8192x5632, .f32⟩
  | 37 => ⟨S8192x5632, .f32⟩
  | 38 => ⟨S8192x5632, .f32⟩
  | 39 => ⟨S8192x2816, .f32⟩
  | 40 => ⟨S8192x2816, .f32⟩
  | 41 => ⟨S8192x2816, .f32⟩
  | 42 => ⟨S8192x2816, .f32⟩
  | 43 => ⟨S_, .f32⟩
  | 44 => ⟨S8192x2816, .f32⟩
  | 45 => ⟨S8192x2816, .f32⟩
  | 46 => ⟨S8192x2816, .f32⟩
  | 47 => ⟨S_, .f32⟩
  | 48 => ⟨S8192x2816, .f32⟩
  | 49 => ⟨S8192x2816, .f32⟩
  | 50 => ⟨S8192x2816, .f32⟩
  | 51 => ⟨S_, .f32⟩
  | 52 => ⟨S8192x2816, .f32⟩
  | 53 => ⟨S8192x2816, .f32⟩
  | 54 => ⟨S_, .f32⟩
  | 55 => ⟨S8192x2816, .f32⟩
  | 56 => ⟨S8192x2816, .f32⟩
  | 57 => ⟨S8192x2816, .f32⟩
  | 58 => ⟨S8192x2816, .f32⟩
  | 59 => ⟨S8192x1024, .f32⟩
  | 60 => ⟨S8192x1024, .f32⟩
  | 61 => ⟨S8192x1024, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S_, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192x1, .f32⟩
  | 101 => ⟨S8192x1, .f32⟩
  | 102 => ⟨S8192x1, .f32⟩
  | 103 => ⟨S8192x1, .f32⟩
  | 104 => ⟨S_, .f32⟩
  | 105 => ⟨S8192x1, .f32⟩
  | 106 => ⟨S8192x1, .f32⟩
  | 107 => ⟨S8192x1024, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S_, .f32⟩
  | 114 => ⟨S8192x1024, .f32⟩
  | 115 => ⟨S8192x1024, .f32⟩
  | 116 => ⟨S_, .f32⟩
  | 117 => ⟨S8192, .f32⟩
  | 118 => ⟨S_, .f32⟩
  | 119 => ⟨S8192, .f32⟩
  | 120 => ⟨S8192, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x5632, .f32⟩

abbrev hbmTy0_1 (i : Nat) : BufTy := match i % 128 with
  | 0 => ⟨S8192, .f32⟩
  | 1 => ⟨S_, .f32⟩
  | 2 => ⟨S8192, .f32⟩
  | 3 => ⟨S8192, .f32⟩
  | 4 => ⟨S8192x1024, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1024, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S8192x1024, .f32⟩
  | 33 => ⟨S_, .f32⟩
  | 34 => ⟨S8192, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192x1, .f32⟩
  | 41 => ⟨S8192x1, .f32⟩
  | 42 => ⟨S8192x1, .f32⟩
  | 43 => ⟨S8192x1, .f32⟩
  | 44 => ⟨S_, .f32⟩
  | 45 => ⟨S8192x1, .f32⟩
  | 46 => ⟨S8192x1, .f32⟩
  | 47 => ⟨S8192x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S_, .f32⟩
  | 55 => ⟨S1024, .f32⟩
  | 56 => ⟨S1x1024, .f32⟩
  | 57 => ⟨S8192x1024, .f32⟩
  | 58 => ⟨S8192x1024, .f32⟩
  | 59 => ⟨S8192x1024, .f32⟩
  | 60 => ⟨S_, .f32⟩
  | 61 => ⟨S8192, .f32⟩
  | 62 => ⟨S8192x1, .f32⟩
  | 63 => ⟨S8192x1024, .f32⟩
  | 64 => ⟨S8192x1024, .f32⟩
  | 65 => ⟨S8192x1, .f32⟩
  | 66 => ⟨S_, .f32⟩
  | 67 => ⟨S8192x1, .f32⟩
  | 68 => ⟨S8192x1, .f32⟩
  | 69 => ⟨S_, .f32⟩
  | 70 => ⟨S8192, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S1x128, .f32⟩
  | 77 => ⟨S8192x1024, .f32⟩
  | 78 => ⟨S8192x2816, .bf16⟩
  | 79 => ⟨S8192x1024, .bf16⟩
  | 80 => ⟨S8192x1024, .bf16⟩
  | 81 => ⟨S8192x1024, .bf16⟩
  | _ => ⟨S8192x5632, .f32⟩

abbrev hbmTy (i : Nat) : BufTy := match i / 128 with
  | 0 => hbmTy0_0 i
  | 1 => hbmTy0_1 i
  | _ => ⟨S8192x5632, .f32⟩

abbrev bufTy : (tb : Table) → Fin (tcTables nBuf tb) → BufTy
  | .hbm, ⟨i, _⟩ => hbmTy i
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_1 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_v37 : Ref sig .tc := ⟨.hbm, 52, rfl⟩
abbrev main_v38 : Ref sig .tc := ⟨.hbm, 53, rfl⟩
abbrev main_cst_3 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_4 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_cst_8 : Ref sig .tc := ⟨.hbm, 83, rfl⟩
abbrev main_v63 : Ref sig .tc := ⟨.hbm, 84, rfl⟩
abbrev main_v64 : Ref sig .tc := ⟨.hbm, 85, rfl⟩
abbrev main_cst_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_10 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_cst_12 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_14 : Ref sig .tc := ⟨.hbm, 113, rfl⟩
abbrev main_v87 : Ref sig .tc := ⟨.hbm, 114, rfl⟩
abbrev main_v88 : Ref sig .tc := ⟨.hbm, 115, rfl⟩
abbrev main_cst_15 : Ref sig .tc := ⟨.hbm, 116, rfl⟩
abbrev main_v89 : Ref sig .tc := ⟨.hbm, 117, rfl⟩
abbrev main_cst_16 : Ref sig .tc := ⟨.hbm, 118, rfl⟩
abbrev main_v90 : Ref sig .tc := ⟨.hbm, 119, rfl⟩
abbrev main_v91 : Ref sig .tc := ⟨.hbm, 120, rfl⟩
abbrev main_cst_17 : Ref sig .tc := ⟨.hbm, 121, rfl⟩
abbrev main_v92 : Ref sig .tc := ⟨.hbm, 122, rfl⟩
abbrev main_cst_18 : Ref sig .tc := ⟨.hbm, 123, rfl⟩
abbrev main_v93 : Ref sig .tc := ⟨.hbm, 124, rfl⟩
abbrev main_cst_19 : Ref sig .tc := ⟨.hbm, 125, rfl⟩
abbrev main_cst_20 : Ref sig .tc := ⟨.hbm, 126, rfl⟩
abbrev main_v94 : Ref sig .tc := ⟨.hbm, 127, rfl⟩
abbrev main_v95 : Ref sig .tc := ⟨.hbm, 128, rfl⟩
abbrev main_cst_21 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_22 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_23 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_24 : Ref sig .tc := ⟨.hbm, 147, rfl⟩
abbrev main_v111 : Ref sig .tc := ⟨.hbm, 148, rfl⟩
abbrev main_v112 : Ref sig .tc := ⟨.hbm, 149, rfl⟩
abbrev main_cst_25 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_26 : Ref sig .tc := ⟨.hbm, 161, rfl⟩
abbrev main_v123 : Ref sig .tc := ⟨.hbm, 162, rfl⟩
abbrev main_v124 : Ref sig .tc := ⟨.hbm, 163, rfl⟩
abbrev main_cst_27 : Ref sig .tc := ⟨.hbm, 164, rfl⟩
abbrev main_v125 : Ref sig .tc := ⟨.hbm, 165, rfl⟩
abbrev main_v126 : Ref sig .tc := ⟨.hbm, 166, rfl⟩
abbrev main_cst_28 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_29 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_cst_30 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_cst_31 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_cst_32 : Ref sig .tc := ⟨.hbm, 194, rfl⟩
abbrev main_v150 : Ref sig .tc := ⟨.hbm, 195, rfl⟩
abbrev main_v151 : Ref sig .tc := ⟨.hbm, 196, rfl⟩
abbrev main_cst_33 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩

abbrev nD : Nat := 1
abbrev τ : Topo := Topo.v7x

variable {F : FTy → Type} [FloatOps F]
-- ==== InProjKernel.lean ====
abbrev S8192x1024 : Shape := ⟨2, ![8192, 1024]⟩
abbrev S1x1024 : Shape := ⟨2, ![1, 1024]⟩
abbrev S1024x4608 : Shape := ⟨2, ![1024, 4608]⟩
abbrev S8192x2048 : Shape := ⟨2, ![8192, 2048]⟩
abbrev S8192x512 : Shape := ⟨2, ![8192, 512]⟩
abbrev S256x1024 : Shape := ⟨2, ![256, 1024]⟩
abbrev S256x2048 : Shape := ⟨2, ![256, 2048]⟩
abbrev S256x512 : Shape := ⟨2, ![256, 512]⟩
abbrev S256 : Shape := ⟨1, ![256]⟩
abbrev S256x1 : Shape := ⟨2, ![256, 1]⟩
abbrev S1024x2048 : Shape := ⟨2, ![1024, 2048]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4608, .bf16⟩
  | .hbm, ⟨3, _⟩ => ⟨S8192x1024, .bf16⟩
  | .hbm, ⟨4, _⟩ => ⟨S8192x2048, .f32⟩
  | .hbm, ⟨5, _⟩ => ⟨S8192x512, .f32⟩
  | .hbm, ⟨6, _⟩ => ⟨S8192x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4608, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjReferenceIdeal.lean ====
abbrev S8192x1024 : Shape := ⟨2, ![8192, 1024]⟩
abbrev S1x1024 : Shape := ⟨2, ![1, 1024]⟩
abbrev S1024x4608 : Shape := ⟨2, ![1024, 4608]⟩
abbrev S_ : Shape := ⟨0, ![]⟩
abbrev S8192 : Shape := ⟨1, ![8192]⟩
abbrev S8192x1 : Shape := ⟨2, ![8192, 1]⟩
abbrev S8192x4608 : Shape := ⟨2, ![8192, 4608]⟩
abbrev S8192x2048 : Shape := ⟨2, ![8192, 2048]⟩
abbrev S8192x512 : Shape := ⟨2, ![8192, 512]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4608, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1024x4608, .f32⟩
  | .hbm, ⟨19, _⟩ => ⟨S8192x4608, .f32⟩
  | .hbm, ⟨20, _⟩ => ⟨S8192x1024, .bf16⟩
  | .hbm, ⟨21, _⟩ => ⟨S8192x2048, .f32⟩
  | .hbm, ⟨22, _⟩ => ⟨S8192x512, .f32⟩
  | .hbm, ⟨23, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== WgPgKernel.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 20
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | .hbm, ⟨19, _⟩ => ⟨S1x1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgPgReferenceIdeal.lean ====
abbrev S8192x1024 : Shape := ⟨2, ![8192, 1024]⟩
abbrev S1x1024 : Shape := ⟨2, ![1, 1024]⟩
abbrev S_ : Shape := ⟨0, ![]⟩
abbrev S1024x1024 : Shape := ⟨2, ![1024, 1024]⟩
abbrev S8192 : Shape := ⟨1, ![8192]⟩
abbrev S8192x1 : Shape := ⟨2, ![8192, 1]⟩
abbrev S1x1024x1024 : Shape := ⟨3, ![1, 1024, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S1024x1024, .f32⟩
  | .hbm, ⟨24, _⟩ => ⟨S1x1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== WgPpKernel.lean ====
abbrev S8192x1024 : Shape := ⟨2, ![8192, 1024]⟩
abbrev S8192x256 : Shape := ⟨2, ![8192, 256]⟩
abbrev S1x256x1024 : Shape := ⟨3, ![1, 256, 1024]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S1x256x1024, .f32⟩
  | .local _ .vmem, ⟨0, _⟩ => ⟨S512x256, .f32⟩
  | .local _ .vmem, ⟨1, _⟩ => ⟨S512x256, .f32⟩
  | .local _ .vmem, ⟨2, _⟩ => ⟨S512x1024, .bf16⟩
  | .local _ .vmem, ⟨3, _⟩ => ⟨S512x1024, .bf16⟩
  | .local _ .vmem, ⟨4, _⟩ => ⟨S1x256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgPpReferenceIdeal.lean ====
abbrev S8192x1024 : Shape := ⟨2, ![8192, 1024]⟩
abbrev S8192x256 : Shape := ⟨2, ![8192, 256]⟩
abbrev S_ : Shape := ⟨0, ![]⟩
abbrev S256x1024 : Shape := ⟨2, ![256, 1024]⟩
abbrev S1024x256 : Shape := ⟨2, ![1024, 256]⟩
abbrev S1x256x1024 : Shape := ⟨3, ![1, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .f32⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S1x256x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamInKernel.lean ====
abbrev S1024x576 : Shape := ⟨2, ![1024, 576]⟩
abbrev S3x1024x576 : Shape := ⟨3, ![3, 1024, 576]⟩
abbrev S1x1024x576 : Shape := ⟨3, ![1, 1024, 576]⟩
abbrev S256x576 : Shape := ⟨2, ![256, 576]⟩
abbrev S3x256x576 : Shape := ⟨3, ![3, 256, 576]⟩
abbrev S1x256x576 : Shape := ⟨3, ![1, 256, 576]⟩

abbrev nBuf : Space → Nat
  | .hbm => 9
  | .vmem => 18
  | .smem => 0
  | _ => 0

abbrev bufTy : (tb : Table) → Fin (tcTables nBuf tb) → BufTy
  | .hbm, ⟨0, _⟩ => ⟨S1024x576, .f32⟩
  | .hbm, ⟨1, _⟩ => ⟨S3x1024x576, .bf16⟩
  | .hbm, ⟨2, _⟩ => ⟨S1x1024x576, .f32⟩
  | .hbm, ⟨3, _⟩ => ⟨S1x1024x576, .f32⟩
  | .hbm, ⟨4, _⟩ => ⟨S1x1024x576, .f32⟩
  | .hbm, ⟨5, _⟩ => ⟨S1x1024x576, .f32⟩
  | .hbm, ⟨6, _⟩ => ⟨S1x1024x576, .f32⟩
  | .hbm, ⟨7, _⟩ => ⟨S1x1024x576, .f32⟩
  | .hbm, ⟨8, _⟩ => ⟨S1x1024x576, .f32⟩
  | .local _ .vmem, ⟨0, _⟩ => ⟨S256x576, .f32⟩
  | .local _ .vmem, ⟨1, _⟩ => ⟨S256x576, .f32⟩
  | .local _ .vmem, ⟨2, _⟩ => ⟨S3x256x576, .bf16⟩
  | .local _ .vmem, ⟨3, _⟩ => ⟨S3x256x576, .bf16⟩
  | .local _ .vmem, ⟨4, _⟩ => ⟨S1x256x576, .f32⟩
  | .local _ .vmem, ⟨5, _⟩ => ⟨S1x256x576, .f32⟩
  | .local _ .vmem, ⟨6, _⟩ => ⟨S1x256x576, .f32⟩
  | .local _ .vmem, ⟨7, _⟩ => ⟨S1x256x576, .f32⟩
  | .local _ .vmem, ⟨8, _⟩ => ⟨S1x256x576, .f32⟩
  | .local _ .vmem, ⟨9, _⟩ => ⟨S1x256x576, .f32⟩
  | .local _ .vmem, ⟨10, _⟩ => ⟨S1x256x576, .f32⟩
  | .local _ .vmem, ⟨11, _⟩ => ⟨S1x256x576, .f32⟩
  | .local _ .vmem, ⟨12, _⟩ => ⟨S1x256x576, .f32⟩
  | .local _ .vmem, ⟨13, _⟩ => ⟨S1x256x576, .f32⟩
  | .local _ .vmem, ⟨14, _⟩ => ⟨S1x256x576, .f32⟩
  | .local _ .vmem, ⟨15, _⟩ => ⟨S1x256x576, .f32⟩
  | .local _ .vmem, ⟨16, _⟩ => ⟨S1x256x576, .f32⟩
  | .local _ .vmem, ⟨17, _⟩ => ⟨S1x256x576, .f32⟩
  | _, _ => ⟨S1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInKernelIdeal.lean ====
abbrev S1024x576 : Shape := ⟨2, ![1024, 576]⟩
abbrev S3x1024x576 : Shape := ⟨3, ![3, 1024, 576]⟩
abbrev S1x1024x576 : Shape := ⟨3, ![1, 1024, 576]⟩
abbrev S256x576 : Shape := ⟨2, ![256, 576]⟩
abbrev S3x256x576 : Shape := ⟨3, ![3, 256, 576]⟩
abbrev S1x256x576 : Shape := ⟨3, ![1, 256, 576]⟩

abbrev nBuf : Space → Nat
  | .hbm => 9
  | .vmem => 18
  | .smem => 0
  | _ => 0

abbrev bufTy : (tb : Table) → Fin (tcTables nBuf tb) → BufTy
  | .hbm, ⟨0, _⟩ => ⟨S1024x576, .f32⟩
  | .hbm, ⟨1, _⟩ => ⟨S3x1024x576, .bf16⟩
  | .hbm, ⟨2, _⟩ => ⟨S1x1024x576, .f32⟩
  | .hbm, ⟨3, _⟩ => ⟨S1x1024x576, .f32⟩
  | .hbm, ⟨4, _⟩ => ⟨S1x1024x576, .f32⟩
  | .hbm, ⟨5, _⟩ => ⟨S1x1024x576, .f32⟩
  | .hbm, ⟨6, _⟩ => ⟨S1x1024x576, .f32⟩
  | .hbm, ⟨7, _⟩ => ⟨S1x1024x576, .f32⟩
  | .hbm, ⟨8, _⟩ => ⟨S1x1024x576, .f32⟩
  | .local _ .vmem, ⟨0, _⟩ => ⟨S256x576, .f32⟩
  | .local _ .vmem, ⟨1, _⟩ => ⟨S256x576, .f32⟩
  | .local _ .vmem, ⟨2, _⟩ => ⟨S3x256x576, .bf16⟩
  | .local _ .vmem, ⟨3, _⟩ => ⟨S3x256x576, .bf16⟩
  | .local _ .vmem, ⟨4, _⟩ => ⟨S1x256x576, .f32⟩
  | .local _ .vmem, ⟨5, _⟩ => ⟨S1x256x576, .f32⟩
  | .local _ .vmem, ⟨6, _⟩ => ⟨S1x256x576, .f32⟩
  | .local _ .vmem, ⟨7, _⟩ => ⟨S1x256x576, .f32⟩
  | .local _ .vmem, ⟨8, _⟩ => ⟨S1x256x576, .f32⟩
  | .local _ .vmem, ⟨9, _⟩ => ⟨S1x256x576, .f32⟩
  | .local _ .vmem, ⟨10, _⟩ => ⟨S1x256x576, .f32⟩
  | .local _ .vmem, ⟨11, _⟩ => ⟨S1x256x576, .f32⟩
  | .local _ .vmem, ⟨12, _⟩ => ⟨S1x256x576, .f32⟩
  | .local _ .vmem, ⟨13, _⟩ => ⟨S1x256x576, .f32⟩
  | .local _ .vmem, ⟨14, _⟩ => ⟨S1x256x576, .f32⟩
  | .local _ .vmem, ⟨15, _⟩ => ⟨S1x256x576, .f32⟩
  | .local _ .vmem, ⟨16, _⟩ => ⟨S1x256x576, .f32⟩
  | .local _ .vmem, ⟨17, _⟩ => ⟨S1x256x576, .f32⟩
  | _, _ => ⟨S1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x576 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x576 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x576 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x576 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x576 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S1024x576 : Shape := ⟨2, ![1024, 576]⟩
abbrev S3x1024x576 : Shape := ⟨3, ![3, 1024, 576]⟩
abbrev S1x1024x576 : Shape := ⟨3, ![1, 1024, 576]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x576, .f32⟩
  | .hbm, ⟨1, _⟩ => ⟨S3x1024x576, .bf16⟩
  | .hbm, ⟨2, _⟩ => ⟨S1x1024x576, .f32⟩
  | .hbm, ⟨3, _⟩ => ⟨S1x1024x576, .f32⟩
  | .hbm, ⟨4, _⟩ => ⟨S1x1024x576, .f32⟩
  | .hbm, ⟨5, _⟩ => ⟨S3x1024x576, .f32⟩
  | .hbm, ⟨6, _⟩ => ⟨S_, .f32⟩
  | .hbm, ⟨7, _⟩ => ⟨S1024x576, .f32⟩
  | .hbm, ⟨8, _⟩ => ⟨S1024x576, .f32⟩
  | .hbm, ⟨9, _⟩ => ⟨S1x1024x576, .f32⟩
  | .hbm, ⟨10, _⟩ => ⟨S_, .f32⟩
  | .hbm, ⟨11, _⟩ => ⟨S1x1024x576, .f32⟩
  | .hbm, ⟨12, _⟩ => ⟨S1x1024x576, .f32⟩
  | .hbm, ⟨13, _⟩ => ⟨S_, .f32⟩
  | .hbm, ⟨14, _⟩ => ⟨S1x1024x576, .f32⟩
  | .hbm, ⟨15, _⟩ => ⟨S1x1024x576, .f32⟩
  | .hbm, ⟨16, _⟩ => ⟨S1x1024x576, .f32⟩
  | .hbm, ⟨17, _⟩ => ⟨S_, .f32⟩
  | .hbm, ⟨18, _⟩ => ⟨S1x1024x576, .f32⟩
  | .hbm, ⟨19, _⟩ => ⟨S1x1024x576, .f32⟩
  | .hbm, ⟨20, _⟩ => ⟨S1x1024x576, .f32⟩
  | .hbm, ⟨21, _⟩ => ⟨S_, .f32⟩
  | .hbm, ⟨22, _⟩ => ⟨S1x1024x576, .f32⟩
  | .hbm, ⟨23, _⟩ => ⟨S1x1024x576, .f32⟩
  | .hbm, ⟨24, _⟩ => ⟨S1x1024x576, .f32⟩
  | .hbm, ⟨25, _⟩ => ⟨S_, .f32⟩
  | .hbm, ⟨26, _⟩ => ⟨S1x1024x576, .f32⟩
  | .hbm, ⟨27, _⟩ => ⟨S1x1024x576, .f32⟩
  | .hbm, ⟨28, _⟩ => ⟨S_, .f32⟩
  | .hbm, ⟨29, _⟩ => ⟨S1x1024x576, .f32⟩
  | .hbm, ⟨30, _⟩ => ⟨S1x1024x576, .f32⟩
  | .hbm, ⟨31, _⟩ => ⟨S1x1024x576, .f32⟩
  | .hbm, ⟨32, _⟩ => ⟨S_, .f32⟩
  | .hbm, ⟨33, _⟩ => ⟨S1x1024x576, .f32⟩
  | .hbm, ⟨34, _⟩ => ⟨S1x1024x576, .f32⟩
  | .hbm, ⟨35, _⟩ => ⟨S1x1024x576, .f32⟩
  | .hbm, ⟨36, _⟩ => ⟨S_, .f32⟩
  | .hbm, ⟨37, _⟩ => ⟨S1x1024x576, .f32⟩
  | .hbm, ⟨38, _⟩ => ⟨S1x1024x576, .f32⟩
  | .hbm, ⟨39, _⟩ => ⟨S1x1024x576, .f32⟩
  | .hbm, ⟨40, _⟩ => ⟨S_, .f32⟩
  | .hbm, ⟨41, _⟩ => ⟨S1x1024x576, .f32⟩
  | .hbm, ⟨42, _⟩ => ⟨S1x1024x576, .f32⟩
  | _, _ => ⟨S1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamGluKernel.lean ====
abbrev S64x512 : Shape := ⟨2, ![64, 512]⟩
abbrev S3x64x512 : Shape := ⟨3, ![3, 64, 512]⟩
abbrev S1x64x512 : Shape := ⟨3, ![1, 64, 512]⟩

abbrev nBuf : Space → Nat
  | .hbm => 9
  | .vmem => 9
  | .smem => 0
  | _ => 0

abbrev bufTy : (tb : Table) → Fin (tcTables nBuf tb) → BufTy
  | .hbm, ⟨0, _⟩ => ⟨S64x512, .f32⟩
  | .hbm, ⟨1, _⟩ => ⟨S3x64x512, .bf16⟩
  | .hbm, ⟨2, _⟩ => ⟨S1x64x512, .f32⟩
  | .hbm, ⟨3, _⟩ => ⟨S1x64x512, .f32⟩
  | .hbm, ⟨4, _⟩ => ⟨S1x64x512, .f32⟩
  | .hbm, ⟨5, _⟩ => ⟨S1x64x512, .f32⟩
  | .hbm, ⟨6, _⟩ => ⟨S1x64x512, .f32⟩
  | .hbm, ⟨7, _⟩ => ⟨S1x64x512, .f32⟩
  | .hbm, ⟨8, _⟩ => ⟨S1x64x512, .f32⟩
  | .local _ .vmem, ⟨0, _⟩ => ⟨S64x512, .f32⟩
  | .local _ .vmem, ⟨1, _⟩ => ⟨S3x64x512, .bf16⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamGluKernelIdeal.lean ====
abbrev S64x512 : Shape := ⟨2, ![64, 512]⟩
abbrev S3x64x512 : Shape := ⟨3, ![3, 64, 512]⟩
abbrev S1x64x512 : Shape := ⟨3, ![1, 64, 512]⟩

abbrev nBuf : Space → Nat
  | .hbm => 9
  | .vmem => 9
  | .smem => 0
  | _ => 0

abbrev bufTy : (tb : Table) → Fin (tcTables nBuf tb) → BufTy
  | .hbm, ⟨0, _⟩ => ⟨S64x512, .f32⟩
  | .hbm, ⟨1, _⟩ => ⟨S3x64x512, .bf16⟩
  | .hbm, ⟨2, _⟩ => ⟨S1x64x512, .f32⟩
  | .hbm, ⟨3, _⟩ => ⟨S1x64x512, .f32⟩
  | .hbm, ⟨4, _⟩ => ⟨S1x64x512, .f32⟩
  | .hbm, ⟨5, _⟩ => ⟨S1x64x512, .f32⟩
  | .hbm, ⟨6, _⟩ => ⟨S1x64x512, .f32⟩
  | .hbm, ⟨7, _⟩ => ⟨S1x64x512, .f32⟩
  | .hbm, ⟨8, _⟩ => ⟨S1x64x512, .f32⟩
  | .local _ .vmem, ⟨0, _⟩ => ⟨S64x512, .f32⟩
  | .local _ .vmem, ⟨1, _⟩ => ⟨S3x64x512, .bf16⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | .local _ .vmem, ⟨8, _⟩ => ⟨S1x64x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x64x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamGluReferenceIdeal.lean ====
abbrev S64x512 : Shape := ⟨2, ![64, 512]⟩
abbrev S3x64x512 : Shape := ⟨3, ![3, 64, 512]⟩
abbrev S1x64x512 : Shape := ⟨3, ![1, 64, 512]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S3x64x512, .bf16⟩
  | .hbm, ⟨2, _⟩ => ⟨S1x64x512, .f32⟩
  | .hbm, ⟨3, _⟩ => ⟨S1x64x512, .f32⟩
  | .hbm, ⟨4, _⟩ => ⟨S1x64x512, .f32⟩
  | .hbm, ⟨5, _⟩ => ⟨S3x64x512, .f32⟩
  | .hbm, ⟨6, _⟩ => ⟨S_, .f32⟩
  | .hbm, ⟨7, _⟩ => ⟨S64x512, .f32⟩
  | .hbm, ⟨8, _⟩ => ⟨S64x512, .f32⟩
  | .hbm, ⟨9, _⟩ => ⟨S1x64x512, .f32⟩
  | .hbm, ⟨10, _⟩ => ⟨S_, .f32⟩
  | .hbm, ⟨11, _⟩ => ⟨S1x64x512, .f32⟩
  | .hbm, ⟨12, _⟩ => ⟨S1x64x512, .f32⟩
  | .hbm, ⟨13, _⟩ => ⟨S_, .f32⟩
  | .hbm, ⟨14, _⟩ => ⟨S1x64x512, .f32⟩
  | .hbm, ⟨15, _⟩ => ⟨S1x64x512, .f32⟩
  | .hbm, ⟨16, _⟩ => ⟨S1x64x512, .f32⟩
  | .hbm, ⟨17, _⟩ => ⟨S_, .f32⟩
  | .hbm, ⟨18, _⟩ => ⟨S1x64x512, .f32⟩
  | .hbm, ⟨19, _⟩ => ⟨S1x64x512, .f32⟩
  | .hbm, ⟨20, _⟩ => ⟨S1x64x512, .f32⟩
  | .hbm, ⟨21, _⟩ => ⟨S_, .f32⟩
  | .hbm, ⟨22, _⟩ => ⟨S1x64x512, .f32⟩
  | .hbm, ⟨23, _⟩ => ⟨S1x64x512, .f32⟩
  | .hbm, ⟨24, _⟩ => ⟨S1x64x512, .f32⟩
  | .hbm, ⟨25, _⟩ => ⟨S_, .f32⟩
  | .hbm, ⟨26, _⟩ => ⟨S1x64x512, .f32⟩
  | .hbm, ⟨27, _⟩ => ⟨S1x64x512, .f32⟩
  | .hbm, ⟨28, _⟩ => ⟨S_, .f32⟩
  | .hbm, ⟨29, _⟩ => ⟨S1x64x512, .f32⟩
  | .hbm, ⟨30, _⟩ => ⟨S1x64x512, .f32⟩
  | .hbm, ⟨31, _⟩ => ⟨S1x64x512, .f32⟩
  | .hbm, ⟨32, _⟩ => ⟨S_, .f32⟩
  | .hbm, ⟨33, _⟩ => ⟨S1x64x512, .f32⟩
  | .hbm, ⟨34, _⟩ => ⟨S1x64x512, .f32⟩
  | .hbm, ⟨35, _⟩ => ⟨S1x64x512, .f32⟩
  | .hbm, ⟨36, _⟩ => ⟨S_, .f32⟩
  | .hbm, ⟨37, _⟩ => ⟨S1x64x512, .f32⟩
  | .hbm, ⟨38, _⟩ => ⟨S1x64x512, .f32⟩
  | .hbm, ⟨39, _⟩ => ⟨S1x64x512, .f32⟩
  | .hbm, ⟨40, _⟩ => ⟨S_, .f32⟩
  | .hbm, ⟨41, _⟩ => ⟨S1x64x512, .f32⟩
  | .hbm, ⟨42, _⟩ => ⟨S1x64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamBranchKernel.lean ====
abbrev S512x128 : Shape := ⟨2, ![512, 128]⟩
abbrev S3x512x128 : Shape := ⟨3, ![3, 512, 128]⟩
abbrev S1x512x128 : Shape := ⟨3, ![1, 512, 128]⟩
abbrev S256x128 : Shape := ⟨2, ![256, 128]⟩
abbrev S3x256x128 : Shape := ⟨3, ![3, 256, 128]⟩
abbrev S1x256x128 : Shape := ⟨3, ![1, 256, 128]⟩

abbrev nBuf : Space → Nat
  | .hbm => 9
  | .vmem => 18
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .hbm, ⟨8, _⟩ => ⟨S1x512x128, .f32⟩
  | .local _ .vmem, ⟨0, _⟩ => ⟨S256x128, .f32⟩
  | .local _ .vmem, ⟨1, _⟩ => ⟨S256x128, .f32⟩
  | .local _ .vmem, ⟨2, _⟩ => ⟨S3x256x128, .bf16⟩
  | .local _ .vmem, ⟨3, _⟩ => ⟨S3x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBranchKernelIdeal.lean ====
abbrev S512x128 : Shape := ⟨2, ![512, 128]⟩
abbrev S3x512x128 : Shape := ⟨3, ![3, 512, 128]⟩
abbrev S1x512x128 : Shape := ⟨3, ![1, 512, 128]⟩
abbrev S256x128 : Shape := ⟨2, ![256, 128]⟩
abbrev S3x256x128 : Shape := ⟨3, ![3, 256, 128]⟩
abbrev S1x256x128 : Shape := ⟨3, ![1, 256, 128]⟩

abbrev nBuf : Space → Nat
  | .hbm => 9
  | .vmem => 18
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .hbm, ⟨8, _⟩ => ⟨S1x512x128, .f32⟩
  | .local _ .vmem, ⟨0, _⟩ => ⟨S256x128, .f32⟩
  | .local _ .vmem, ⟨1, _⟩ => ⟨S256x128, .f32⟩
  | .local _ .vmem, ⟨2, _⟩ => ⟨S3x256x128, .bf16⟩
  | .local _ .vmem, ⟨3, _⟩ => ⟨S3x256x128, .bf16⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamBranchReferenceIdeal.lean ====
abbrev S512x128 : Shape := ⟨2, ![512, 128]⟩
abbrev S3x512x128 : Shape := ⟨3, ![3, 512, 128]⟩
abbrev S1x512x128 : Shape := ⟨3, ![1, 512, 128]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S3x512x128, .bf16⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S3x512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S1x512x128, .f32⟩
  | .hbm, ⟨10, _⟩ => ⟨S_, .f32⟩
  | .hbm, ⟨11, _⟩ => ⟨S1x512x128, .f32⟩
  | .hbm, ⟨12, _⟩ => ⟨S1x512x128, .f32⟩
  | .hbm, ⟨13, _⟩ => ⟨S_, .f32⟩
  | .hbm, ⟨14, _⟩ => ⟨S1x512x128, .f32⟩
  | .hbm, ⟨15, _⟩ => ⟨S1x512x128, .f32⟩
  | .hbm, ⟨16, _⟩ => ⟨S1x512x128, .f32⟩
  | .hbm, ⟨17, _⟩ => ⟨S_, .f32⟩
  | .hbm, ⟨18, _⟩ => ⟨S1x512x128, .f32⟩
  | .hbm, ⟨19, _⟩ => ⟨S1x512x128, .f32⟩
  | .hbm, ⟨20, _⟩ => ⟨S1x512x128, .f32⟩
  | .hbm, ⟨21, _⟩ => ⟨S_, .f32⟩
  | .hbm, ⟨22, _⟩ => ⟨S1x512x128, .f32⟩
  | .hbm, ⟨23, _⟩ => ⟨S1x512x128, .f32⟩
  | .hbm, ⟨24, _⟩ => ⟨S1x512x128, .f32⟩
  | .hbm, ⟨25, _⟩ => ⟨S_, .f32⟩
  | .hbm, ⟨26, _⟩ => ⟨S1x512x128, .f32⟩
  | .hbm, ⟨27, _⟩ => ⟨S1x512x128, .f32⟩
  | .hbm, ⟨28, _⟩ => ⟨S_, .f32⟩
  | .hbm, ⟨29, _⟩ => ⟨S1x512x128, .f32⟩
  | .hbm, ⟨30, _⟩ => ⟨S1x512x128, .f32⟩
  | .hbm, ⟨31, _⟩ => ⟨S1x512x128, .f32⟩
  | .hbm, ⟨32, _⟩ => ⟨S_, .f32⟩
  | .hbm, ⟨33, _⟩ => ⟨S1x512x128, .f32⟩
  | .hbm, ⟨34, _⟩ => ⟨S1x512x128, .f32⟩
  | .hbm, ⟨35, _⟩ => ⟨S1x512x128, .f32⟩
  | .hbm, ⟨36, _⟩ => ⟨S_, .f32⟩
  | .hbm, ⟨37, _⟩ => ⟨S1x512x128, .f32⟩
  | .hbm, ⟨38, _⟩ => ⟨S1x512x128, .f32⟩
  | .hbm, ⟨39, _⟩ => ⟨S1x512x128, .f32⟩
  | .hbm, ⟨40, _⟩ => ⟨S_, .f32⟩
  | .hbm, ⟨41, _⟩ => ⟨S1x512x128, .f32⟩
  | .hbm, ⟨42, _⟩ => ⟨S1x512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamOutKernel.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S128x1024, .f32⟩
  | .local _ .vmem, ⟨1, _⟩ => ⟨S3x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutKernelIdeal.lean ====
abbrev S128x1024 : Shape := ⟨2, ![128, 1024]⟩
abbrev S3x128x1024 : Shape := ⟨3, ![3, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S128x1024, .f32⟩
  | .local _ .vmem, ⟨1, _⟩ => ⟨S3x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutReferenceIdeal.lean ====
abbrev S128x1024 : Shape := ⟨2, ![128, 1024]⟩
abbrev S3x128x1024 : Shape := ⟨3, ![3, 128, 1024]⟩
abbrev S1x128x1024 : Shape := ⟨3, ![1, 128, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S3x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S1x128x1024, .f32⟩
  | .hbm, ⟨10, _⟩ => ⟨S_, .f32⟩
  | .hbm, ⟨11, _⟩ => ⟨S1x128x1024, .f32⟩
  | .hbm, ⟨12, _⟩ => ⟨S1x128x1024, .f32⟩
  | .hbm, ⟨13, _⟩ => ⟨S_, .f32⟩
  | .hbm, ⟨14, _⟩ => ⟨S1x128x1024, .f32⟩
  | .hbm, ⟨15, _⟩ => ⟨S1x128x1024, .f32⟩
  | .hbm, ⟨16, _⟩ => ⟨S1x128x1024, .f32⟩
  | .hbm, ⟨17, _⟩ => ⟨S_, .f32⟩
  | .hbm, ⟨18, _⟩ => ⟨S1x128x1024, .f32⟩
  | .hbm, ⟨19, _⟩ => ⟨S1x128x1024, .f32⟩
  | .hbm, ⟨20, _⟩ => ⟨S1x128x1024, .f32⟩
  | .hbm, ⟨21, _⟩ => ⟨S_, .f32⟩
  | .hbm, ⟨22, _⟩ => ⟨S1x128x1024, .f32⟩
  | .hbm, ⟨23, _⟩ => ⟨S1x128x1024, .f32⟩
  | .hbm, ⟨24, _⟩ => ⟨S1x128x1024, .f32⟩
  | .hbm, ⟨25, _⟩ => ⟨S_, .f32⟩
  | .hbm, ⟨26, _⟩ => ⟨S1x128x1024, .f32⟩
  | .hbm, ⟨27, _⟩ => ⟨S1x128x1024, .f32⟩
  | .hbm, ⟨28, _⟩ => ⟨S_, .f32⟩
  | .hbm, ⟨29, _⟩ => ⟨S1x128x1024, .f32⟩
  | .hbm, ⟨30, _⟩ => ⟨S1x128x1024, .f32⟩
  | .hbm, ⟨31, _⟩ => ⟨S1x128x1024, .f32⟩
  | .hbm, ⟨32, _⟩ => ⟨S_, .f32⟩
  | .hbm, ⟨33, _⟩ => ⟨S1x128x1024, .f32⟩
  | .hbm, ⟨34, _⟩ => ⟨S1x128x1024, .f32⟩
  | .hbm, ⟨35, _⟩ => ⟨S1x128x1024, .f32⟩
  | .hbm, ⟨36, _⟩ => ⟨S_, .f32⟩
  | .hbm, ⟨37, _⟩ => ⟨S1x128x1024, .f32⟩
  | .hbm, ⟨38, _⟩ => ⟨S1x128x1024, .f32⟩
  | .hbm, ⟨39, _⟩ => ⟨S1x128x1024, .f32⟩
  | .hbm, ⟨40, _⟩ => ⟨S_, .f32⟩
  | .hbm, ⟨41, _⟩ => ⟨S1x128x1024, .f32⟩
  | .hbm, ⟨42, _⟩ => ⟨S1x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamUpKernel.lean ====
abbrev S1024x704 : Shape := ⟨2, ![1024, 704]⟩
abbrev S3x1024x704 : Shape := ⟨3, ![3, 1024, 704]⟩
abbrev S1x1024x704 : Shape := ⟨3, ![1, 1024, 704]⟩
abbrev S256x704 : Shape := ⟨2, ![256, 704]⟩
abbrev S3x256x704 : Shape := ⟨3, ![3, 256, 704]⟩
abbrev S1x256x704 : Shape := ⟨3, ![1, 256, 704]⟩

abbrev nBuf : Space → Nat
  | .hbm => 9
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S3x1024x704, .bf16⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .hbm, ⟨8, _⟩ => ⟨S1x1024x704, .f32⟩
  | .local _ .vmem, ⟨0, _⟩ => ⟨S256x704, .f32⟩
  | .local _ .vmem, ⟨1, _⟩ => ⟨S256x704, .f32⟩
  | .local _ .vmem, ⟨2, _⟩ => ⟨S3x256x704, .bf16⟩
  | .local _ .vmem, ⟨3, _⟩ => ⟨S3x256x704, .bf16⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpKernelIdeal.lean ====
abbrev S1024x704 : Shape := ⟨2, ![1024, 704]⟩
abbrev S3x1024x704 : Shape := ⟨3, ![3, 1024, 704]⟩
abbrev S1x1024x704 : Shape := ⟨3, ![1, 1024, 704]⟩
abbrev S256x704 : Shape := ⟨2, ![256, 704]⟩
abbrev S3x256x704 : Shape := ⟨3, ![3, 256, 704]⟩
abbrev S1x256x704 : Shape := ⟨3, ![1, 256, 704]⟩

abbrev nBuf : Space → Nat
  | .hbm => 9
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S3x1024x704, .bf16⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S1x1024x704, .f32⟩
  | .hbm, ⟨6, _⟩ => ⟨S1x1024x704, .f32⟩
  | .hbm, ⟨7, _⟩ => ⟨S1x1024x704, .f32⟩
  | .hbm, ⟨8, _⟩ => ⟨S1x1024x704, .f32⟩
  | .local _ .vmem, ⟨0, _⟩ => ⟨S256x704, .f32⟩
  | .local _ .vmem, ⟨1, _⟩ => ⟨S256x704, .f32⟩
  | .local _ .vmem, ⟨2, _⟩ => ⟨S3x256x704, .bf16⟩
  | .local _ .vmem, ⟨3, _⟩ => ⟨S3x256x704, .bf16⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | .local _ .vmem, ⟨16, _⟩ => ⟨S1x256x704, .f32⟩
  | .local _ .vmem, ⟨17, _⟩ => ⟨S1x256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamUpReferenceIdeal.lean ====
abbrev S1024x704 : Shape := ⟨2, ![1024, 704]⟩
abbrev S3x1024x704 : Shape := ⟨3, ![3, 1024, 704]⟩
abbrev S1x1024x704 : Shape := ⟨3, ![1, 1024, 704]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S3x1024x704, .bf16⟩
  | .hbm, ⟨2, _⟩ => ⟨S1x1024x704, .f32⟩
  | .hbm, ⟨3, _⟩ => ⟨S1x1024x704, .f32⟩
  | .hbm, ⟨4, _⟩ => ⟨S1x1024x704, .f32⟩
  | .hbm, ⟨5, _⟩ => ⟨S3x1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S1x1024x704, .f32⟩
  | .hbm, ⟨10, _⟩ => ⟨S_, .f32⟩
  | .hbm, ⟨11, _⟩ => ⟨S1x1024x704, .f32⟩
  | .hbm, ⟨12, _⟩ => ⟨S1x1024x704, .f32⟩
  | .hbm, ⟨13, _⟩ => ⟨S_, .f32⟩
  | .hbm, ⟨14, _⟩ => ⟨S1x1024x704, .f32⟩
  | .hbm, ⟨15, _⟩ => ⟨S1x1024x704, .f32⟩
  | .hbm, ⟨16, _⟩ => ⟨S1x1024x704, .f32⟩
  | .hbm, ⟨17, _⟩ => ⟨S_, .f32⟩
  | .hbm, ⟨18, _⟩ => ⟨S1x1024x704, .f32⟩
  | .hbm, ⟨19, _⟩ => ⟨S1x1024x704, .f32⟩
  | .hbm, ⟨20, _⟩ => ⟨S1x1024x704, .f32⟩
  | .hbm, ⟨21, _⟩ => ⟨S_, .f32⟩
  | .hbm, ⟨22, _⟩ => ⟨S1x1024x704, .f32⟩
  | .hbm, ⟨23, _⟩ => ⟨S1x1024x704, .f32⟩
  | .hbm, ⟨24, _⟩ => ⟨S1x1024x704, .f32⟩
  | .hbm, ⟨25, _⟩ => ⟨S_, .f32⟩
  | .hbm, ⟨26, _⟩ => ⟨S1x1024x704, .f32⟩
  | .hbm, ⟨27, _⟩ => ⟨S1x1024x704, .f32⟩
  | .hbm, ⟨28, _⟩ => ⟨S_, .f32⟩
  | .hbm, ⟨29, _⟩ => ⟨S1x1024x704, .f32⟩
  | .hbm, ⟨30, _⟩ => ⟨S1x1024x704, .f32⟩
  | .hbm, ⟨31, _⟩ => ⟨S1x1024x704, .f32⟩
  | .hbm, ⟨32, _⟩ => ⟨S_, .f32⟩
  | .hbm, ⟨33, _⟩ => ⟨S1x1024x704, .f32⟩
  | .hbm, ⟨34, _⟩ => ⟨S1x1024x704, .f32⟩
  | .hbm, ⟨35, _⟩ => ⟨S1x1024x704, .f32⟩
  | .hbm, ⟨36, _⟩ => ⟨S_, .f32⟩
  | .hbm, ⟨37, _⟩ => ⟨S1x1024x704, .f32⟩
  | .hbm, ⟨38, _⟩ => ⟨S1x1024x704, .f32⟩
  | .hbm, ⟨39, _⟩ => ⟨S1x1024x704, .f32⟩
  | .hbm, ⟨40, _⟩ => ⟨S_, .f32⟩
  | .hbm, ⟨41, _⟩ => ⟨S1x1024x704, .f32⟩
  | .hbm, ⟨42, _⟩ => ⟨S1x1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamDownKernel.lean ====
abbrev S352x1024 : Shape := ⟨2, ![352, 1024]⟩
abbrev S3x352x1024 : Shape := ⟨3, ![3, 352, 1024]⟩
abbrev S1x352x1024 : Shape := ⟨3, ![1, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S1x352x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownKernelIdeal.lean ====
abbrev S352x1024 : Shape := ⟨2, ![352, 1024]⟩
abbrev S3x352x1024 : Shape := ⟨3, ![3, 352, 1024]⟩
abbrev S1x352x1024 : Shape := ⟨3, ![1, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .hbm, ⟨8, _⟩ => ⟨S1x352x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownReferenceIdeal.lean ====
abbrev S352x1024 : Shape := ⟨2, ![352, 1024]⟩
abbrev S3x352x1024 : Shape := ⟨3, ![3, 352, 1024]⟩
abbrev S1x352x1024 : Shape := ⟨3, ![1, 352, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S1x352x1024, .f32⟩
  | .hbm, ⟨10, _⟩ => ⟨S_, .f32⟩
  | .hbm, ⟨11, _⟩ => ⟨S1x352x1024, .f32⟩
  | .hbm, ⟨12, _⟩ => ⟨S1x352x1024, .f32⟩
  | .hbm, ⟨13, _⟩ => ⟨S_, .f32⟩
  | .hbm, ⟨14, _⟩ => ⟨S1x352x1024, .f32⟩
  | .hbm, ⟨15, _⟩ => ⟨S1x352x1024, .f32⟩
  | .hbm, ⟨16, _⟩ => ⟨S1x352x1024, .f32⟩
  | .hbm, ⟨17, _⟩ => ⟨S_, .f32⟩
  | .hbm, ⟨18, _⟩ => ⟨S1x352x1024, .f32⟩
  | .hbm, ⟨19, _⟩ => ⟨S1x352x1024, .f32⟩
  | .hbm, ⟨20, _⟩ => ⟨S1x352x1024, .f32⟩
  | .hbm, ⟨21, _⟩ => ⟨S_, .f32⟩
  | .hbm, ⟨22, _⟩ => ⟨S1x352x1024, .f32⟩
  | .hbm, ⟨23, _⟩ => ⟨S1x352x1024, .f32⟩
  | .hbm, ⟨24, _⟩ => ⟨S1x352x1024, .f32⟩
  | .hbm, ⟨25, _⟩ => ⟨S_, .f32⟩
  | .hbm, ⟨26, _⟩ => ⟨S1x352x1024, .f32⟩
  | .hbm, ⟨27, _⟩ => ⟨S1x352x1024, .f32⟩
  | .hbm, ⟨28, _⟩ => ⟨S_, .f32⟩
  | .hbm, ⟨29, _⟩ => ⟨S1x352x1024, .f32⟩
  | .hbm, ⟨30, _⟩ => ⟨S1x352x1024, .f32⟩
  | .hbm, ⟨31, _⟩ => ⟨S1x352x1024, .f32⟩
  | .hbm, ⟨32, _⟩ => ⟨S_, .f32⟩
  | .hbm, ⟨33, _⟩ => ⟨S1x352x1024, .f32⟩
  | .hbm, ⟨34, _⟩ => ⟨S1x352x1024, .f32⟩
  | .hbm, ⟨35, _⟩ => ⟨S1x352x1024, .f32⟩
  | .hbm, ⟨36, _⟩ => ⟨S_, .f32⟩
  | .hbm, ⟨37, _⟩ => ⟨S1x352x1024, .f32⟩
  | .hbm, ⟨38, _⟩ => ⟨S1x352x1024, .f32⟩
  | .hbm, ⟨39, _⟩ => ⟨S1x352x1024, .f32⟩
  | .hbm, ⟨40, _⟩ => ⟨S_, .f32⟩
  | .hbm, ⟨41, _⟩ => ⟨S1x352x1024, .f32⟩
  | .hbm, ⟨42, _⟩ => ⟨S1x352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamProjKernel.lean ====
abbrev S256x128 : Shape := ⟨2, ![256, 128]⟩
abbrev S3x256x128 : Shape := ⟨3, ![3, 256, 128]⟩
abbrev S1x256x128 : Shape := ⟨3, ![1, 256, 128]⟩

abbrev nBuf : Space → Nat
  | .hbm => 9
  | .vmem => 9
  | .smem => 0
  | _ => 0

abbrev bufTy : (tb : Table) → Fin (tcTables nBuf tb) → BufTy
  | .hbm, ⟨0, _⟩ => ⟨S256x128, .f32⟩
  | .hbm, ⟨1, _⟩ => ⟨S3x256x128, .bf16⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S1x256x128, .f32⟩
  | .hbm, ⟨6, _⟩ => ⟨S1x256x128, .f32⟩
  | .hbm, ⟨7, _⟩ => ⟨S1x256x128, .f32⟩
  | .hbm, ⟨8, _⟩ => ⟨S1x256x128, .f32⟩
  | .local _ .vmem, ⟨0, _⟩ => ⟨S256x128, .f32⟩
  | .local _ .vmem, ⟨1, _⟩ => ⟨S3x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamProjKernelIdeal.lean ====
abbrev S256x128 : Shape := ⟨2, ![256, 128]⟩
abbrev S3x256x128 : Shape := ⟨3, ![3, 256, 128]⟩
abbrev S1x256x128 : Shape := ⟨3, ![1, 256, 128]⟩

abbrev nBuf : Space → Nat
  | .hbm => 9
  | .vmem => 9
  | .smem => 0
  | _ => 0

abbrev bufTy : (tb : Table) → Fin (tcTables nBuf tb) → BufTy
  | .hbm, ⟨0, _⟩ => ⟨S256x128, .f32⟩
  | .hbm, ⟨1, _⟩ => ⟨S3x256x128, .bf16⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S1x256x128, .f32⟩
  | .hbm, ⟨6, _⟩ => ⟨S1x256x128, .f32⟩
  | .hbm, ⟨7, _⟩ => ⟨S1x256x128, .f32⟩
  | .hbm, ⟨8, _⟩ => ⟨S1x256x128, .f32⟩
  | .local _ .vmem, ⟨0, _⟩ => ⟨S256x128, .f32⟩
  | .local _ .vmem, ⟨1, _⟩ => ⟨S3x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamProjReferenceIdeal.lean ====
abbrev S256x128 : Shape := ⟨2, ![256, 128]⟩
abbrev S3x256x128 : Shape := ⟨3, ![3, 256, 128]⟩
abbrev S1x256x128 : Shape := ⟨3, ![1, 256, 128]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S3x256x128, .bf16⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S3x256x128, .f32⟩
  | .hbm, ⟨6, _⟩ => ⟨S_, .f32⟩
  | .hbm, ⟨7, _⟩ => ⟨S256x128, .f32⟩
  | .hbm, ⟨8, _⟩ => ⟨S256x128, .f32⟩
  | .hbm, ⟨9, _⟩ => ⟨S1x256x128, .f32⟩
  | .hbm, ⟨10, _⟩ => ⟨S_, .f32⟩
  | .hbm, ⟨11, _⟩ => ⟨S1x256x128, .f32⟩
  | .hbm, ⟨12, _⟩ => ⟨S1x256x128, .f32⟩
  | .hbm, ⟨13, _⟩ => ⟨S_, .f32⟩
  | .hbm, ⟨14, _⟩ => ⟨S1x256x128, .f32⟩
  | .hbm, ⟨15, _⟩ => ⟨S1x256x128, .f32⟩
  | .hbm, ⟨16, _⟩ => ⟨S1x256x128, .f32⟩
  | .hbm, ⟨17, _⟩ => ⟨S_, .f32⟩
  | .hbm, ⟨18, _⟩ => ⟨S1x256x128, .f32⟩
  | .hbm, ⟨19, _⟩ => ⟨S1x256x128, .f32⟩
  | .hbm, ⟨20, _⟩ => ⟨S1x256x128, .f32⟩
  | .hbm, ⟨21, _⟩ => ⟨S_, .f32⟩
  | .hbm, ⟨22, _⟩ => ⟨S1x256x128, .f32⟩
  | .hbm, ⟨23, _⟩ => ⟨S1x256x128, .f32⟩
  | .hbm, ⟨24, _⟩ => ⟨S1x256x128, .f32⟩
  | .hbm, ⟨25, _⟩ => ⟨S_, .f32⟩
  | .hbm, ⟨26, _⟩ => ⟨S1x256x128, .f32⟩
  | .hbm, ⟨27, _⟩ => ⟨S1x256x128, .f32⟩
  | .hbm, ⟨28, _⟩ => ⟨S_, .f32⟩
  | .hbm, ⟨29, _⟩ => ⟨S1x256x128, .f32⟩
  | .hbm, ⟨30, _⟩ => ⟨S1x256x128, .f32⟩
  | .hbm, ⟨31, _⟩ => ⟨S1x256x128, .f32⟩
  | .hbm, ⟨32, _⟩ => ⟨S_, .f32⟩
  | .hbm, ⟨33, _⟩ => ⟨S1x256x128, .f32⟩
  | .hbm, ⟨34, _⟩ => ⟨S1x256x128, .f32⟩
  | .hbm, ⟨35, _⟩ => ⟨S1x256x128, .f32⟩
  | .hbm, ⟨36, _⟩ => ⟨S_, .f32⟩
  | .hbm, ⟨37, _⟩ => ⟨S1x256x128, .f32⟩
  | .hbm, ⟨38, _⟩ => ⟨S1x256x128, .f32⟩
  | .hbm, ⟨39, _⟩ => ⟨S1x256x128, .f32⟩
  | .hbm, ⟨40, _⟩ => ⟨S_, .f32⟩
  | .hbm, ⟨41, _⟩ => ⟨S1x256x128, .f32⟩
  | .hbm, ⟨42, _⟩ => ⟨S1x256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamConvKernel.lean ====
abbrev S3x704 : Shape := ⟨2, ![3, 704]⟩
abbrev S3x3x704 : Shape := ⟨3, ![3, 3, 704]⟩
abbrev S1x3x704 : Shape := ⟨3, ![1, 3, 704]⟩

abbrev nBuf : Space → Nat
  | .hbm => 9
  | .vmem => 9
  | .smem => 0
  | _ => 0

abbrev bufTy : (tb : Table) → Fin (tcTables nBuf tb) → BufTy
  | .hbm, ⟨0, _⟩ => ⟨S3x704, .f32⟩
  | .hbm, ⟨1, _⟩ => ⟨S3x3x704, .bf16⟩
  | .hbm, ⟨2, _⟩ => ⟨S1x3x704, .f32⟩
  | .hbm, ⟨3, _⟩ => ⟨S1x3x704, .f32⟩
  | .hbm, ⟨4, _⟩ => ⟨S1x3x704, .f32⟩
  | .hbm, ⟨5, _⟩ => ⟨S1x3x704, .f32⟩
  | .hbm, ⟨6, _⟩ => ⟨S1x3x704, .f32⟩
  | .hbm, ⟨7, _⟩ => ⟨S1x3x704, .f32⟩
  | .hbm, ⟨8, _⟩ => ⟨S1x3x704, .f32⟩
  | .local _ .vmem, ⟨0, _⟩ => ⟨S3x704, .f32⟩
  | .local _ .vmem, ⟨1, _⟩ => ⟨S3x3x704, .bf16⟩
  | .local _ .vmem, ⟨2, _⟩ => ⟨S1x3x704, .f32⟩
  | .local _ .vmem, ⟨3, _⟩ => ⟨S1x3x704, .f32⟩
  | .local _ .vmem, ⟨4, _⟩ => ⟨S1x3x704, .f32⟩
  | .local _ .vmem, ⟨5, _⟩ => ⟨S1x3x704, .f32⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | _, _ => ⟨S3x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S3x704 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x3x704 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x3x704 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x3x704 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x3x704 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x3x704 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x3x704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x3x704 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x3x704 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamConvReferenceIdeal.lean ====
abbrev S3x704 : Shape := ⟨2, ![3, 704]⟩
abbrev S3x3x704 : Shape := ⟨3, ![3, 3, 704]⟩
abbrev S1x3x704 : Shape := ⟨3, ![1, 3, 704]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S3x704, .f32⟩
  | .hbm, ⟨1, _⟩ => ⟨S3x3x704, .bf16⟩
  | .hbm, ⟨2, _⟩ => ⟨S1x3x704, .f32⟩
  | .hbm, ⟨3, _⟩ => ⟨S1x3x704, .f32⟩
  | .hbm, ⟨4, _⟩ => ⟨S1x3x704, .f32⟩
  | .hbm, ⟨5, _⟩ => ⟨S3x3x704, .f32⟩
  | .hbm, ⟨6, _⟩ => ⟨S_, .f32⟩
  | .hbm, ⟨7, _⟩ => ⟨S3x704, .f32⟩
  | .hbm, ⟨8, _⟩ => ⟨S3x704, .f32⟩
  | .hbm, ⟨9, _⟩ => ⟨S1x3x704, .f32⟩
  | .hbm, ⟨10, _⟩ => ⟨S_, .f32⟩
  | .hbm, ⟨11, _⟩ => ⟨S1x3x704, .f32⟩
  | .hbm, ⟨12, _⟩ => ⟨S1x3x704, .f32⟩
  | .hbm, ⟨13, _⟩ => ⟨S_, .f32⟩
  | .hbm, ⟨14, _⟩ => ⟨S1x3x704, .f32⟩
  | .hbm, ⟨15, _⟩ => ⟨S1x3x704, .f32⟩
  | .hbm, ⟨16, _⟩ => ⟨S1x3x704, .f32⟩
  | .hbm, ⟨17, _⟩ => ⟨S_, .f32⟩
  | .hbm, ⟨18, _⟩ => ⟨S1x3x704, .f32⟩
  | .hbm, ⟨19, _⟩ => ⟨S1x3x704, .f32⟩
  | .hbm, ⟨20, _⟩ => ⟨S1x3x704, .f32⟩
  | .hbm, ⟨21, _⟩ => ⟨S_, .f32⟩
  | .hbm, ⟨22, _⟩ => ⟨S1x3x704, .f32⟩
  | .hbm, ⟨23, _⟩ => ⟨S1x3x704, .f32⟩
  | .hbm, ⟨24, _⟩ => ⟨S1x3x704, .f32⟩
  | .hbm, ⟨25, _⟩ => ⟨S_, .f32⟩
  | .hbm, ⟨26, _⟩ => ⟨S1x3x704, .f32⟩
  | .hbm, ⟨27, _⟩ => ⟨S1x3x704, .f32⟩
  | .hbm, ⟨28, _⟩ => ⟨S_, .f32⟩
  | .hbm, ⟨29, _⟩ => ⟨S1x3x704, .f32⟩
  | .hbm, ⟨30, _⟩ => ⟨S1x3x704, .f32⟩
  | .hbm, ⟨31, _⟩ => ⟨S1x3x704, .f32⟩
  | .hbm, ⟨32, _⟩ => ⟨S_, .f32⟩
  | .hbm, ⟨33, _⟩ => ⟨S1x3x704, .f32⟩
  | .hbm, ⟨34, _⟩ => ⟨S1x3x704, .f32⟩
  | .hbm, ⟨35, _⟩ => ⟨S1x3x704, .f32⟩
  | .hbm, ⟨36, _⟩ => ⟨S_, .f32⟩
  | .hbm, ⟨37, _⟩ => ⟨S1x3x704, .f32⟩
  | .hbm, ⟨38, _⟩ => ⟨S1x3x704, .f32⟩
  | .hbm, ⟨39, _⟩ => ⟨S1x3x704, .f32⟩
  | .hbm, ⟨40, _⟩ => ⟨S_, .f32⟩
  | .hbm, ⟨41, _⟩ => ⟨S1x3x704, .f32⟩
  | .hbm, ⟨42, _⟩ => ⟨S1x3x704, .f32⟩
  | _, _ => ⟨S3x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== AdamSumKernel.lean ====
abbrev S8x1152x128 : Shape := ⟨3, ![8, 1152, 128]⟩
abbrev S1152x128 : Shape := ⟨2, ![1152, 128]⟩
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1152x128, .f32⟩
  | .hbm, ⟨1, _⟩ => ⟨S1152x128, .f32⟩
  | .hbm, ⟨2, _⟩ => ⟨S1152x128, .f32⟩
  | .hbm, ⟨3, _⟩ => ⟨S1152x128, .f32⟩
  | .hbm, ⟨4, _⟩ => ⟨S1152x128, .f32⟩
  | .hbm, ⟨5, _⟩ => ⟨S1152x128, .f32⟩
  | .hbm, ⟨6, _⟩ => ⟨S1152x128, .f32⟩
  | .hbm, ⟨7, _⟩ => ⟨S1152x128, .f32⟩
  | .local _ .vmem, ⟨0, _⟩ => ⟨S8x128x128, .f32⟩
  | .local _ .vmem, ⟨1, _⟩ => ⟨S8x128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S8x1152x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamSumReferenceIdeal.lean ====
abbrev S8x1152x128 : Shape := ⟨3, ![8, 1152, 128]⟩
abbrev S1152x128 : Shape := ⟨2, ![1152, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1152x128, .f32⟩
  | .hbm, ⟨1, _⟩ => ⟨S1152x128, .f32⟩
  | .hbm, ⟨2, _⟩ => ⟨S1152x128, .f32⟩
  | .hbm, ⟨3, _⟩ => ⟨S1152x128, .f32⟩
  | .hbm, ⟨4, _⟩ => ⟨S_, .f32⟩
  | .hbm, ⟨5, _⟩ => ⟨S1152x128, .f32⟩
  | .hbm, ⟨6, _⟩ => ⟨S_, .f32⟩
  | .hbm, ⟨7, _⟩ => ⟨S1152x128, .f32⟩
  | .hbm, ⟨8, _⟩ => ⟨S1152x128, .f32⟩
  | .hbm, ⟨9, _⟩ => ⟨S_, .f32⟩
  | .hbm, ⟨10, _⟩ => ⟨S1152x128, .f32⟩
  | .hbm, ⟨11, _⟩ => ⟨S1152x128, .f32⟩
  | .hbm, ⟨12, _⟩ => ⟨S1152x128, .f32⟩
  | .hbm, ⟨13, _⟩ => ⟨S_, .f32⟩
  | .hbm, ⟨14, _⟩ => ⟨S1152x128, .f32⟩
  | .hbm, ⟨15, _⟩ => ⟨S1152x128, .f32⟩
  | .hbm, ⟨16, _⟩ => ⟨S1152x128, .f32⟩
  | .hbm, ⟨17, _⟩ => ⟨S_, .f32⟩
  | .hbm, ⟨18, _⟩ => ⟨S1152x128, .f32⟩
  | .hbm, ⟨19, _⟩ => ⟨S1152x128, .f32⟩
  | .hbm, ⟨20, _⟩ => ⟨S1152x128, .f32⟩
  | .hbm, ⟨21, _⟩ => ⟨S_, .f32⟩
  | .hbm, ⟨22, _⟩ => ⟨S1152x128, .f32⟩
  | .hbm, ⟨23, _⟩ => ⟨S1152x128, .f32⟩
  | .hbm, ⟨24, _⟩ => ⟨S_, .f32⟩
  | .hbm, ⟨25, _⟩ => ⟨S1152x128, .f32⟩
  | .hbm, ⟨26, _⟩ => ⟨S1152x128, .f32⟩
  | .hbm, ⟨27, _⟩ => ⟨S1152x128, .f32⟩
  | .hbm, ⟨28, _⟩ => ⟨S_, .f32⟩
  | .hbm, ⟨29, _⟩ => ⟨S1152x128, .f32⟩
  | .hbm, ⟨30, _⟩ => ⟨S1152x128, .f32⟩
  | .hbm, ⟨31, _⟩ => ⟨S1152x128, .f32⟩
  | .hbm, ⟨32, _⟩ => ⟨S_, .f32⟩
  | .hbm, ⟨33, _⟩ => ⟨S1152x128, .f32⟩
  | .hbm, ⟨34, _⟩ => ⟨S1152x128, .f32⟩
  | .hbm, ⟨35, _⟩ => ⟨S1152x128, .f32⟩
  | .hbm, ⟨36, _⟩ => ⟨S_, .f32⟩
  | .hbm, ⟨37, _⟩ => ⟨S1152x128, .f32⟩
  | .hbm, ⟨38, _⟩ => ⟨S1152x128, .f32⟩
  | _, _ => ⟨S8x1152x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.MixRows.lean ====
/-
  The gradient of the gated merge, the three results written row block by row block: the gates' gradient (two halves
  side by side) and the gradients of the two branch outputs. Each point of the grid writes 256 rows; at an index its
  rows are the host program's value there.
-/
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

variable (m : (ℓ : Loc nD τ sig) → Buf (Elt Ideal) ℓ)

/-- The block of each window at a point: the point's own rows, or the whole array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0] :=
  (by decide +kernel : ∀ t : Fin grid0.N, _)

/-- The gradient of the first branch's output: its rows at a point are the host program's rows there. -/
theorem point9 (c : Dev nD) (t : Fin cfg0.N) (y) : k0_pay17 (k0_pay6 (iblk m c 0 t) (iblk m c 7 t))
      (k0_pay8 (View.ld (iblk m c 4 t) (Rect.unit ![0, 0] ![256, 1024] inb_S256x2048_S256x1024_0_0))) (iblk m c 5 t) y
    = Cert.ReferenceIdeal.Read.val_main_v45 (F := Ideal) (m ((c : Thread nD τ).loc main_arg0)) (m ((c : Thread nD τ).loc main_arg3)) (m ((c : Thread nD τ).loc main_arg4)) (m ((c : Thread nD τ).loc main_arg6)) (((cfg0.win 9).blk t).view.emb y) := by
  open ReferenceIdeal.Read in
  pointwise [k0_pay17, k0_pay13, k0_pay6, k0_pay8, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  simp only [Ideal.logistic]
  refine Finset.sum_congr rfl fun x _ => ?_
  rw [mul_comm (Ideal.div _ _)]
  blk_point [iblk, V, idx t]

theorem final9 (c : Dev nD) : (dats m 0 c).arrAt 9 cfg0.N
    = Cert.ReferenceIdeal.Read.val_main_v45 (F := Ideal) (m ((c : Thread nD τ).loc main_arg0)) (m ((c : Thread nD τ).loc main_arg3)) (m ((c : Thread nD τ).loc main_arg4)) (m ((c : Thread nD τ).loc main_arg6)) := by
  refine (dats m 0 c).arrAt_eq_of_covers 9 _ (by decide +kernel) fun t _ y => ?_
  blk_simp
  rw [after0_9]
  by_cases h0 : t.val % 32 = 0
  · rw [outsAt0_A m c t h0]; frame_out; exact point9 m c t y
  · rw [outsAt0_B m c t h0]; frame_out; exact point9 m c t y

/-- The gradient of the second branch's output: its rows at a point are the host program's rows there. -/
theorem point10 (c : Dev nD) (t : Fin cfg0.N) (y) : k0_pay1 (k0_pay14 (k0_pay6 (iblk m c 0 t) (iblk m c 7 t))
      (k0_pay9 (View.ld (iblk m c 4 t) (Rect.unit ![0, 1024] ![256, 1024] inb_S256x2048_S256x1024_0_1024)))) (iblk m c 6 t) y
    = Cert.ReferenceIdeal.Read.val_main_v42 (F := Ideal) (m ((c : Thread nD τ).loc main_arg0)) (m ((c : Thread nD τ).loc main_arg3)) (m ((c : Thread nD τ).loc main_arg5)) (m ((c : Thread nD τ).loc main_arg6)) (((cfg0.win 10).blk t).view.emb y) := by
  open ReferenceIdeal.Read in
  pointwise [k0_pay1, k0_pay14, k0_pay6, k0_pay9, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  simp only [Ideal.logistic]
  refine Finset.sum_congr rfl fun x _ => ?_
  rw [mul_comm (Ideal.div _ _)]
  blk_point [iblk, V, idx t]

theorem final10 (c : Dev nD) : (dats m 0 c).arrAt 10 cfg0.N
    = Cert.ReferenceIdeal.Read.val_main_v42 (F := Ideal) (m ((c : Thread nD τ).loc main_arg0)) (m ((c : Thread nD τ).loc main_arg3)) (m ((c : Thread nD τ).loc main_arg5)) (m ((c : Thread nD τ).loc main_arg6)) := by
  refine (dats m 0 c).arrAt_eq_of_covers 10 _ (by decide +kernel) fun t _ y => ?_
  blk_simp
  rw [after0_10]
  by_cases h0 : t.val % 32 = 0
  · rw [outsAt0_A m c t h0]; frame_out; exact point10 m c t y
  · rw [outsAt0_B m c t h0]; frame_out; exact point10 m c t y

/-- The left half of the gates' gradient. -/
theorem point8_left (c : Dev nD) (t : Fin cfg0.N) (x : S256x1024.Idx) (r : Fin 8192) (q : Fin 2048)
    (hr : r.val = t.val * 256 + (x 0).val) (hq : q.val = (x 1).val) :
    k0_pay11 (k0_pay8 (View.ld (iblk m c 4 t) (Rect.unit ![0, 0] ![256, 1024] inb_S256x2048_S256x1024_0_0)))
        (k0_pay10 (iblk m c 0 t) (iblk m c 7 t) (iblk m c 1 t) (iblk m c 5 t)) x
    = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q) := by
  idx_vars x
  have hq' : q.val < 1024 := by rw [hq]; exact x1.isLt
  open ReferenceIdeal.Read in
  pointwise [k0_pay11, k0_pay10, k0_pay6, k0_pay8, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v46]
  simp only [Ideal.logistic]
  rw [dif_pos hq', mul_assoc]
  blk_point [iblk, V, idx t]

/-- The right half of the gates' gradient. -/
theorem point8_right (c : Dev nD) (t : Fin cfg0.N) (x : S256x1024.Idx) (r : Fin 8192) (q : Fin 2048)
    (hr : r.val = t.val * 256 + (x 0).val) (hq : q.val = 1024 + (x 1).val) :
    k0_pay12 (k0_pay6 (iblk m c 0 t) (iblk m c 7 t)) (k0_pay7 (iblk m c 2 t) (iblk m c 6 t))
        (k0_pay9 (View.ld (iblk m c 4 t) (Rect.unit ![0, 1024] ![256, 1024] inb_S256x2048_S256x1024_0_1024))) x
    = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r q) := by
  idx_vars x
  have hq' : ¬ q.val < 1024 := by rw [hq]; exact Nat.not_lt.mpr (Nat.le_add_right _ _)
  open ReferenceIdeal.Read in
  pointwise [k0_pay12, k0_pay6, k0_pay7, k0_pay9, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v46]
  simp only [Ideal.logistic]
  rw [dif_neg hq', mul_assoc]
  blk_point [iblk, V, idx t]

theorem final8 (c : Dev nD) : (dats m 0 c).arrAt 8 cfg0.N
    = Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  have e : ((cfg0.win 8).blk t).view.emb y = ix2 (((cfg0.win 8).blk t).view.emb y 0) (((cfg0.win 8).blk t).view.emb y 1) := by
    funext a; fin_cases a <;> rfl
  have e0 : ((((cfg0.win 8).blk t).view.emb y 0 : Fin _) : ℕ) = t.val * 256 + (y 0).val := by blk_simp [idx t]
  have e1 : ((((cfg0.win 8).blk t).view.emb y 1 : Fin _) : ℕ) = (y 1).val := by blk_simp [idx t]
  by_cases h0 : t.val % 32 = 0
  · rw [outsAt0_A m c t h0]; frame_out
    canon_tiles x h
    · exact (point8_right m c t x _ _ (e0.trans (by rw [h0])) (e1.trans h1)).trans (congrArg _ e.symm)
    · exact (point8_left m c t x _ _ (e0.trans (by rw [h0])) (e1.trans h1)).trans (congrArg _ e.symm)
  · rw [outsAt0_B m c t h0]; frame_out
    canon_tiles x h
    · exact (point8_right m c t x _ _ (e0.trans (by rw [h0])) (e1.trans h1)).trans (congrArg _ e.symm)
    · exact (point8_left m c t x _ _ (e0.trans (by rw [h0])) (e1.trans h1)).trans (congrArg _ e.symm)

end Cert.KernelIdeal.Value

end
-- ==== Proof.MixSums.lean ====
/-
  The gradient of the gated merge, the three weight gradients: each is added up over the grid's 32 points, 256 rows at a
  point, and the sum over the points and their rows is the host program's sum over the 8192 rows.
-/
module

public import proofs.«01_k».proof.Proof.MixRows
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.KernelIdeal.Value

open Cert.KernelIdeal Cert.KernelIdeal.Gen

variable (m : (ℓ : Loc nD τ sig) → Buf (Elt Ideal) ℓ)

theorem zero11 (j) : k0_pay2 (F := Ideal) j = 0 := by pointwise [k0_pay2]
theorem zero12 (j) : k0_pay3 (F := Ideal) j = 0 := by pointwise [k0_pay3]
theorem zero13 (j) : k0_pay4 (F := Ideal) j = 0 := by pointwise [k0_pay4]

/-- The update of the output product's weight gradient: one block of rows more. -/
theorem step13 (acc : FVec Ideal S1024x1024 .f32) (x : FVec Ideal S256x1024 .bf16) (d : FVec Ideal S256x1024 .f32) (j) :
    k0_pay5 acc x d j = acc j + ∑ k : Fin 256, x (ix2 k (j 0)) * d (ix2 k (j 1)) := by pointwise [k0_pay5]

theorem step11 (dm s : FVec Ideal S256x1024 .f32) (acc : FVec Ideal S512x1024 .f32) (x : FVec Ideal S256x512 .bf16) (j) :
    k0_pay15 dm s acc x j = acc j + ∑ k : Fin 256, x (ix2 k (j 0)) * (dm (ix2 k (j 1)) * s (ix2 k (j 1))) := by
  pointwise [k0_pay15, k0_pay13]

theorem step12 (dm s : FVec Ideal S256x1024 .f32) (acc : FVec Ideal S512x1024 .f32) (x : FVec Ideal S256x512 .bf16) (j) :
    k0_pay16 dm s acc x j = acc j + ∑ k : Fin 256, x (ix2 k (j 0)) * (dm (ix2 k (j 1)) * s (ix2 k (j 1))) := by
  pointwise [k0_pay16, k0_pay14]

/-- What the region finds in the merged array: the host program's gated merge. -/
theorem merged (c : Dev nD) : (V m c main_v19 : FVec Ideal S8192x1024 .bf16)
    = Cert.ReferenceIdeal.Read.val_main_v29 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  entry_read
  funext i
  open ReferenceIdeal.Read in
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]

theorem final11 (c : Dev nD) : (dats m 0 c).arrAt 11 cfg0.N
    = Cert.ReferenceIdeal.Read.val_main_v44 (F := Ideal) (m ((c : Thread nD τ).loc main_arg0)) (m ((c : Thread nD τ).loc main_arg1)) (m ((c : Thread nD τ).loc main_arg3)) (m ((c : Thread nD τ).loc main_arg6)) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 32 (fun _ => 0) _
    (fun t h j => by rw [outsAt0_A m c t h]; frame_out; rw [step11, zero11]) (fun t h j => by rw [outsAt0_B m c t h]; frame_out; rw [step11])
    t ((flush0_11 t).mp hf) _, zero_add]
  open ReferenceIdeal.Read in
  pointwise [k0_pay6, k0_pay8, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  simp only [Ideal.logistic]
  refine Fin.sum_mul_add_congr fun s k hl => ?_
  blk_point [iblk, V, idx t, idx ⟨_, Pipeline.run_point_lt_of_flush t ((flush0_11 t).mp hf) s⟩]

theorem final12 (c : Dev nD) : (dats m 0 c).arrAt 12 cfg0.N
    = Cert.ReferenceIdeal.Read.val_main_v41 (F := Ideal) (m ((c : Thread nD τ).loc main_arg0)) (m ((c : Thread nD τ).loc main_arg2)) (m ((c : Thread nD τ).loc main_arg3)) (m ((c : Thread nD τ).loc main_arg6)) := by
  refine (dats m 0 c).arrAt_eq_of_covers 12 _ (by decide +kernel) fun t hf y => ?_
  blk_simp
  rw [after0_12, Pipeline.eq_sum_fin_of_reset_step_apply_of_flush (fun n h => (outsAt0 m c n h).2.2.2.2.1) 32 (fun _ => 0) _
    (fun t h j => by rw [outsAt0_A m c t h]; frame_out; rw [step12, zero12]) (fun t h j => by rw [outsAt0_B m c t h]; frame_out; rw [step12])
    t ((flush0_12 t).mp hf) _, zero_add]
  open ReferenceIdeal.Read in
  pointwise [k0_pay6, k0_pay9, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_cst_2, val_main_v21, val_main_v22, val_main_cst_3, val_main_v23, val_main_v24, val_main_cst_4, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46]
  simp only [Ideal.logistic]
  refine Fin.sum_mul_add_congr fun s k hl => ?_
  blk_point [iblk, V, idx t, idx ⟨_, Pipeline.run_point_lt_of_flush t ((flush0_12 t).mp hf) s⟩]

theorem final13 (c : Dev nD) : (dats m 0 c).arrAt 13 cfg0.N
    = Cert.ReferenceIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2) 32 (fun _ => 0) _
    (fun t h j => by rw [outsAt0_A m c t h]; frame_out; rw [step13, zero13]) (fun t h j => by rw [outsAt0_B m c t h]; frame_out; rw [step13])
    t ((flush0_13 t).mp hf) _, zero_add]
  open ReferenceIdeal.Read in
  pointwise [val_main_v32, val_main_v31]

  refine Fin.sum_mul_add_congr fun s k hl => ?_
  rw [mul_comm]
  refine congrArg₂ (· * ·) ?_ ?_
  · blk_ext [iblk, V, idx t, idx ⟨_, Pipeline.run_point_lt_of_flush t ((flush0_13 t).mp hf) s⟩]
  · blk_simp [iblk]
    rw [merged m c]
    blk_ext [idx t, idx ⟨_, Pipeline.run_point_lt_of_flush t ((flush0_13 t).mp hf) s⟩]

end Cert.KernelIdeal.Value

end
-- ==== Proof.Claims.lean ====
/- The equation of the gated merge's gradient: the kernel's run and the reference's at the same stages, and the claim from the two. -/
module

public import proofs.«01_k».proof.Defs
public import proofs.«01_k».proof.Proof.Gen.Kernel.Frame
public import proofs.«01_k».proof.Proof.Gen.ReferenceIdeal.Run
public import proofs.«01_k».proof.Proof.MixRows
public import proofs.«01_k».proof.Proof.MixSums
public import Idealize.ShloMosaic.Lib.Quiescent

@[expose] public section

noncomputable section

open Idealize.ShloMosaic Idealize.ShloMosaic.TcCoe Idealize.SL.Sem

namespace Cert.Claims

/-- The reference's run, each result at its stage, the arguments kept. -/
theorem stages (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v46) = Cert.ReferenceIdeal.Read.val_main_v46 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v45) = Cert.ReferenceIdeal.Read.val_main_v45 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v42) = Cert.ReferenceIdeal.Read.val_main_v42 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v44) = Cert.ReferenceIdeal.Read.val_main_v44 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v41) = Cert.ReferenceIdeal.Read.val_main_v41 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_v32) = Cert.ReferenceIdeal.Read.val_main_v32 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) :=
  (θ_run _ _ _).mono (fun r h c => ⟨(h c).1.trans (Cert.ReferenceIdeal.Read.val_main_v46_eq ..), (h c).2.1.trans (Cert.ReferenceIdeal.Read.val_main_v45_eq ..), (h c).2.2.1.trans (Cert.ReferenceIdeal.Read.val_main_v42_eq ..), (h c).2.2.2.1.trans (Cert.ReferenceIdeal.Read.val_main_v44_eq ..), (h c).2.2.2.2.1.trans (Cert.ReferenceIdeal.Read.val_main_v41_eq ..), (h c).2.2.2.2.2.1.trans (Cert.ReferenceIdeal.Read.val_main_v32_eq ..), (h c).2.2.2.2.2.2⟩)
    (Cert.ReferenceIdeal.Value.run m ρ)

/-- The kernel's run, each result at the reference's stage over the kernel's own arguments, the arguments kept. -/
theorem results (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem ((c.tc : Thread Cert.KernelIdeal.nD Cert.KernelIdeal.τ).loc Cert.KernelIdeal.main_v20_0) = Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v20_1) = Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v20_2) = Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v20_3) = Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v20_4) = Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6))
      ∧ r.2.mem ((c.tc : Thread Cert.KernelIdeal.nD Cert.KernelIdeal.τ).loc Cert.KernelIdeal.main_v20_5) = Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6) :=
  (θ_run _ _ _).mono (fun r h c => ⟨(h c).1.trans (Cert.KernelIdeal.Value.final8 m c), (h c).2.1.trans (Cert.KernelIdeal.Value.final9 m c), (h c).2.2.1.trans (Cert.KernelIdeal.Value.final10 m c), (h c).2.2.2.1.trans (Cert.KernelIdeal.Value.final11 m c), (h c).2.2.2.2.1.trans (Cert.KernelIdeal.Value.final12 m c), (h c).2.2.2.2.2.1.trans (Cert.KernelIdeal.Value.final13 m c), (h c).2.2.2.2.2.2⟩)
    (Cert.KernelIdeal.Value.run_blocks m ρ)

theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.ReferenceIdeal.Read.val_main_v46 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Read.val_main_v45 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)), fun c => Cert.ReferenceIdeal.Read.val_main_v42 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)), fun c => Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)), fun c => Cert.ReferenceIdeal.Read.val_main_v32 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), results m g, ?_⟩
  refine (θ_run _ _ _).mono (fun r h c => ?_) (stages m' g')
  obtain ⟨a0, a1, a2, a3, a4, a5, a6⟩ := hagree c
  obtain ⟨h0, h1, h2, h3, h4, h5, hk⟩ := h c
  rw [a0, a1, a2, a3, a4, a5, a6] at h0
  rw [a0, a3, a4, a6] at h1
  rw [a0, a3, a5, a6] at h2
  rw [a0, a1, a3, a6] at h3
  rw [a0, a2, a3, a6] at h4
  rw [a0, a1, a2, a3, a4, a5] at h5
  exact ⟨h0, h1, h2, h3, h4, h5, hk⟩

theorem quiet : Cert.quiescent_ReferenceIdeal (hReferenceIdeal := Cert.ReferenceIdeal.Gen.facts) := fun m ρ _ =>
  (θ_run _ _ _).mono (fun r h => ⟨fun c => (h c).2.2.2.2.2.2, sem_eq_zero_of_no_sems (by decide) _⟩) (Cert.ReferenceIdeal.Value.run m ρ)

end Cert.Claims

end
-- ==== Proof.Norm.lean ====
/-
  Extended reals, what the gradient of a root-mean-square norm needs. The norm's factor is a nonnegative finite number
  (it is zero where the mean of squares is infinite), and a nonnegative finite factor distributes over every sum of
  extended reals, so the two ways of writing the gradient agree at every argument, infinite ones among them.
-/
module

public import Idealize.ShloMosaic.Lib.Pipeline.ValueKit
public import Idealize.ShloMosaic.Lib.Pointwise

@[expose] public section

open Idealize.ShloMosaic
open scoped BigOperators

namespace Cert.Norm

/-- The square of an extended real is not negative. -/
theorem sq_nonneg (x : EReal) : 0 ≤ x * x := by
  rcases le_total 0 x with h | h
  · exact mul_nonneg h h
  · exact EReal.mul_nonneg_iff.mpr (Or.inr ⟨h, h⟩)

/-- The square root's reciprocal of a positive extended real is a nonnegative real. -/
theorem rsqrt_real (s : EReal) (hs : 0 < s) : ∃ ρ : ℝ, 0 ≤ ρ ∧ Ideal.rsqrt s = (ρ : EReal)
    ∧ Ideal.div (Ideal.rsqrt s) s = ((ρ * ρ * ρ : ℝ) : EReal) := by
  induction s with
  | bot => exact absurd hs (by simp)
  | top =>
    have e : Ideal.rsqrt (⊤ : EReal) = ((0 : ℝ) : EReal) := rfl
    exact ⟨0, le_rfl, e, by rw [e, Ideal.div, if_neg (by simp)]; simp⟩
  | coe r =>
    have hr : 0 < r := EReal.coe_pos.mp hs
    have h0 : ¬r < 0 := not_lt.mpr hr.le
    have e : Ideal.rsqrt (r : EReal) = (((Real.sqrt r)⁻¹ : ℝ) : EReal) := by
      show (if r < 0 then (⊥ : EReal) else if r = 0 then ⊤ else (((Real.sqrt r)⁻¹ : ℝ) : EReal)) = _
      rw [if_neg h0, if_neg hr.ne']
    refine ⟨(Real.sqrt r)⁻¹, inv_nonneg.mpr (Real.sqrt_nonneg r), e, ?_⟩
    rw [e, Ideal.div, if_neg (by exact_mod_cast hr.ne'), ← EReal.coe_inv, ← EReal.coe_mul]
    congr 1
    conv_lhs => rw [← Real.mul_self_sqrt hr.le, Real.sqrt_mul_self (Real.sqrt_nonneg r), mul_inv]
    ring

/-- A nonnegative real factor goes into a finite sum. -/
theorem coe_mul_sum {ι : Type*} (t : Finset ι) (ρ : ℝ) (h : 0 ≤ ρ) (f : ι → EReal) :
    (ρ : EReal) * ∑ i ∈ t, f i = ∑ i ∈ t, (ρ : EReal) * f i := by
  classical
  induction t using Finset.induction_on with
  | empty => simp
  | insert a t ha ih =>
    rw [Finset.sum_insert ha, Finset.sum_insert ha,
      EReal.left_distrib_of_nonneg_of_ne_top (EReal.coe_nonneg.mpr h) (EReal.coe_ne_top ρ), ih]

/-- The gradient of the norm at one lane: the form with the normed row against the form with the squares' gradient. -/
theorem grad (s d x y T : EReal) (hs : 0 < s) :
    y + Ideal.rsqrt s * (d - x * Ideal.rsqrt s * Ideal.div (Ideal.rsqrt s * T) ((1024 : ℝ) : EReal))
      = y + (d * Ideal.rsqrt s
          + x * Ideal.div (T * (((-(1 / 2) : ℝ) : EReal) * Ideal.div (Ideal.rsqrt s) s)) ((1024 : ℝ) : EReal)
          + Ideal.div (T * (((-(1 / 2) : ℝ) : EReal) * Ideal.div (Ideal.rsqrt s) s)) ((1024 : ℝ) : EReal) * x) := by
  obtain ⟨ρ, h0, e, e3⟩ := rsqrt_real s hs
  rw [e3, e]
  have hd : ∀ z : EReal, Ideal.div z ((1024 : ℝ) : EReal) = z * (((1 / 1024 : ℝ)) : EReal) := fun z => by
    rw [Ideal.div, if_neg (by norm_num), ← EReal.coe_inv]; norm_num
  rw [hd, hd, sub_eq_add_neg, EReal.left_distrib_of_nonneg_of_ne_top (EReal.coe_nonneg.mpr h0) (EReal.coe_ne_top ρ),
    mul_comm (ρ : EReal) d, add_assoc]
  congr 2
  have hw : x * (T * (((-(1 / 2) : ℝ) : EReal) * ((ρ * ρ * ρ : ℝ) : EReal)) * ((1 / 1024 : ℝ) : EReal))
      = ((1 / 2 * (ρ * ρ * ρ) * (1 / 1024) : ℝ) : EReal) * -(x * T) := by
    push_cast
    simp only [neg_mul, mul_neg]
    congr 1
    ac_rfl
  have hl : (ρ : EReal) * -(x * ρ * (ρ * T * ((1 / 1024 : ℝ) : EReal)))
      = ((ρ * ρ * ρ * (1 / 1024) : ℝ) : EReal) * -(x * T) := by
    push_cast
    simp only [mul_neg]
    congr 1
    ac_rfl
  have hn : (0 : ℝ) ≤ 1 / 2 * (ρ * ρ * ρ) * (1 / 1024) := by
    have := mul_nonneg (mul_nonneg h0 h0) h0
    positivity
  rw [mul_comm _ x, hw, hl, ← EReal.right_distrib_of_nonneg (EReal.coe_nonneg.mpr hn) (EReal.coe_nonneg.mpr hn),
    ← EReal.coe_add]
  congr 2
  ring

/-- The literals of the norm: the number of lanes, the small positive constant, minus one half. -/
theorem lanes : Ideal.ofBits .f32 0x44800000#32 = ((1024 : ℝ) : EReal) := by
  simp [Ideal.ofBits, Ideal.ieee, -EReal.coe_mul]
  norm_num
theorem half : Ideal.ofBits .f32 0xBF000000#32 = ((-(1 / 2) : ℝ) : EReal) := by
  simp [Ideal.ofBits, Ideal.ieee, -EReal.coe_mul, -EReal.coe_neg]
  norm_num
theorem eps_pos : 0 < Ideal.ofBits .f32 0x358637BD#32 := by
  simp [Ideal.ofBits, Ideal.ieee, -EReal.coe_mul]

/-- The mean of squares with the small constant added is positive. -/
theorem mean_pos (X : Fin 1024 → EReal) : 0 < Ideal.div (∑ k, X k * X k) (Ideal.ofBits .f32 0x44800000#32) + Ideal.ofBits .f32 0x358637BD#32 := by
  refine lt_of_lt_of_le eps_pos (le_add_of_nonneg_left ?_)
  rw [lanes, Ideal.div, if_neg (by norm_num), ← EReal.coe_inv]
  exact mul_nonneg (Finset.sum_nonneg fun k _ => sq_nonneg (X k)) (EReal.coe_nonneg.mpr (by norm_num))

/-- The gradient of the norm at one lane of a row, the two ways of writing it, the literals as the programs hold them. -/
theorem grad_row (X D : Fin 1024 → EReal) (s y : EReal) (hs : 0 < s) (q : Fin 1024) :
    y + Ideal.rsqrt s * (D q - X q * Ideal.rsqrt s
          * Ideal.div (∑ k, D k * (X k * Ideal.rsqrt s)) (Ideal.ofBits .f32 0x44800000#32))
      = y + (D q * Ideal.rsqrt s
          + X q * Ideal.div ((∑ k, X k * D k) * (Ideal.ofBits .f32 0xBF000000#32 * Ideal.div (Ideal.rsqrt s) s)) (Ideal.ofBits .f32 0x44800000#32)
          + Ideal.div ((∑ k, X k * D k) * (Ideal.ofBits .f32 0xBF000000#32 * Ideal.div (Ideal.rsqrt s) s)) (Ideal.ofBits .f32 0x44800000#32) * X q) := by
  have e : ∑ k, D k * (X k * Ideal.rsqrt s) = Ideal.rsqrt s * ∑ k, X k * D k := by
    obtain ⟨ρ, h0, e, -⟩ := rsqrt_real s hs
    rw [e, coe_mul_sum _ ρ h0]
    exact Finset.sum_congr rfl fun k _ => by ac_rfl
  rw [e, lanes, half]
  exact grad s (D q) (X q) y _ hs

/-- A sum over the 4608 columns of three arrays side by side is the sum of the three arrays' sums. -/
theorem sum_split (f : Fin 4608 → EReal) : ∑ k, f k
    = (∑ k : Fin 2048, f ⟨k.val, by omega⟩) + (∑ k : Fin 512, f ⟨2048 + k.val, by omega⟩)
      + ∑ k : Fin 2048, f ⟨2560 + k.val, by omega⟩ :=
  (Fin.sum_univ_add (a := 2560) (b := 2048) f).trans
    (congrArg₂ (· + ·) (Fin.sum_univ_add (a := 2048) (b := 512) fun i => f (Fin.castAdd 2048 i)) rfl)

end Cert.Norm

end
-- ==== Proof.InRows.lean ====
/-
  The gradient of the norm before the three in-projections: each point of the grid makes 256 rows of the gradient of the
  normed rows (three products, one for each projection, where the host program has one product over the three side by
  side), turns them into rows of the residual stream's gradient, and adds its rows' part of the gain's gradient.
-/
module

public import proofs.«01_k».proof.Proof.Gen.InKernelIdeal.Value
public import proofs.«01_k».proof.Proof.Gen.InReferenceIdeal.Read
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InKernelIdeal.Value

open Cert.InKernelIdeal Cert.InKernelIdeal.Gen

variable (m : (ℓ : Loc nD τ sig) → Buf (Elt Ideal) ℓ)

/-- The block of each window at a point: the point's own rows, or the whole array. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] :=
  (by decide +kernel : ∀ t : Fin grid0.N, _)

/-- The row of the whole array a row of a point's block is. -/
def row (t : Fin cfg0.N) (x : Fin 256) : Fin 8192 :=
  ⟨t.val * 256 + x.val, by have h : t.val < 32 := lt_of_lt_of_eq t.isLt N_0; have := x.isLt; omega⟩

/-- The gradient of the normed rows at a point is the host program's at its rows. -/
theorem hidden (c : Dev nD) (t : Fin cfg0.N) (x : Fin 256) (q : Fin 1024) :
    k0_pay4 (iblk m c 0 t) (View.ld (iblk m c 5 t) (Rect.unit ![0, 0] ![1024, 2048] inb_S1024x4608_S1024x2048_0_0)) (iblk m c 1 t) (View.ld (iblk m c 5 t) (Rect.unit ![0, 2048] ![1024, 512] inb_S1024x4608_S1024x512_0_2048)) (iblk m c 2 t) (View.ld (iblk m c 5 t) (Rect.unit ![0, 2560] ![1024, 2048] inb_S1024x4608_S1024x2048_0_2560)) (ix2 x q)
      = Cert.InReferenceIdeal.Read.val_main_v18 (F := Ideal) (m ((c : Thread nD τ).loc main_arg0)) (m ((c : Thread nD τ).loc main_arg1)) (m ((c : Thread nD τ).loc main_arg2)) (m ((c : Thread nD τ).loc main_arg5)) (ix2 (row t x) q) := by
  open InReferenceIdeal.Read in
  pointwise [k0_pay4, val_main_v18, val_main_v1]
  rw [Norm.sum_split]
  open InReferenceIdeal.Read in
  pointwise [val_main_v0]
  have h1 : ∀ k : Fin 2048, ¬2560 + k.val < 2048 := fun k => by omega
  have h2 : ∀ k : Fin 2048, ¬2560 + k.val - 2048 < 512 := fun k => by omega
  have h3 : ∀ k : Fin 2048, 2560 + k.val - 2048 - 512 = k.val := fun k => by omega
  simp only [h1, h2, h3, dite_false, row]
  blk_point [iblk, V, idx t]

/-- The rows of the residual stream, of the gradient before this call's part, and the gain, as a point holds them. -/
theorem in3 (c : Dev nD) (t : Fin cfg0.N) (x : Fin 256) (q : Fin 1024) :
    iblk m c 3 t (ix2 x q) = m ((c : Thread nD τ).loc main_arg3) (ix2 (row t x) q) := by
  simp only [row]; blk_point [iblk, V, idx t]
theorem in4 (c : Dev nD) (t : Fin cfg0.N) (x : Fin 256) (q : Fin 1024) :
    iblk m c 4 t (ix2 x q) = m ((c : Thread nD τ).loc main_arg4) (ix2 (row t x) q) := by
  simp only [row]; blk_point [iblk, V, idx t]
theorem in6 (c : Dev nD) (t : Fin cfg0.N) (q : Fin 1024) :
    iblk m c 6 t (ix2 (0 : Fin 1) q) = m ((c : Thread nD τ).loc main_arg6) (ix2 (0 : Fin 1) q) := by
  blk_point [iblk, V, idx t]

/-- The gradient of the residual stream: its rows at a point are the host program's rows there. -/
theorem point7 (c : Dev nD) (t : Fin cfg0.N) (x : Fin 256) (q : Fin 1024) :
    k0_pay2 (k0_pay5 (iblk m c 3 t)) (k0_pay6 (iblk m c 3 t)) (k0_pay7 (iblk m c 0 t) (View.ld (iblk m c 5 t) (Rect.unit ![0, 0] ![1024, 2048] inb_S1024x4608_S1024x2048_0_0)) (iblk m c 1 t) (View.ld (iblk m c 5 t) (Rect.unit ![0, 2048] ![1024, 512] inb_S1024x4608_S1024x512_0_2048)) (iblk m c 2 t) (View.ld (iblk m c 5 t) (Rect.unit ![0, 2560] ![1024, 2048] inb_S1024x4608_S1024x2048_0_2560)) (iblk m c 6 t)) (k0_pay8 (iblk m c 0 t) (View.ld (iblk m c 5 t) (Rect.unit ![0, 0] ![1024, 2048] inb_S1024x4608_S1024x2048_0_0)) (iblk m c 1 t) (View.ld (iblk m c 5 t) (Rect.unit ![0, 2048] ![1024, 512] inb_S1024x4608_S1024x512_0_2048)) (iblk m c 2 t) (View.ld (iblk m c 5 t) (Rect.unit ![0, 2560] ![1024, 2048] inb_S1024x4608_S1024x2048_0_2560)) (iblk m c 3 t) (iblk m c 6 t)) (iblk m c 4 t) (ix2 x q)
      = Cert.InReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t x) q) := by
  open InReferenceIdeal.Read in
  pointwise [k0_pay2, k0_pay5, k0_pay6, k0_pay7, k0_pay8, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v15, val_main_v22, val_main_v23, val_main_v24, val_main_cst_4, val_main_v25, val_main_v26, val_main_v27, val_main_v28, val_main_v29, val_main_cst_5, val_main_v30, val_main_v31, val_main_cst_6, val_main_v32, val_main_v33, val_main_v34, val_main_v35, val_main_v36, val_main_v37, val_main_v38]
  simp only [hidden m c t, in3 m c t, in4 m c t, in6 m c t, Finset.univ_unique, Finset.sum_singleton]
  exact Norm.grad_row (fun k => m ((c : Thread nD τ).loc main_arg3) (ix2 (row t x) k)) (fun k => Cert.InReferenceIdeal.Read.val_main_v18 (F := Ideal) (m ((c : Thread nD τ).loc main_arg0)) (m ((c : Thread nD τ).loc main_arg1)) (m ((c : Thread nD τ).loc main_arg2)) (m ((c : Thread nD τ).loc main_arg5)) (ix2 (row t x) k)
    * m ((c : Thread nD τ).loc main_arg6) (ix2 (0 : Fin 1) k)) _ _ (Norm.mean_pos _) q

theorem emb7 (t : Fin cfg0.N) (x : Fin 256) (q : Fin 1024) : ((cfg0.win 7).blk t).view.emb (ix2 x q) = ix2 (row t x) q := by
  blk_ext [row, idx t]

theorem final7 (c : Dev nD) : (dats m 0 c).arrAt 7 cfg0.N
    = Cert.InReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  idx_vars y
  blk_simp
  rw [after0_7, emb7]
  by_cases h0 : t.val % 32 = 0
  · rw [outsAt0_A m c t h0]; frame_out; exact point7 m c t _ _
  · rw [outsAt0_B m c t h0]; frame_out; exact point7 m c t _ _

/-- The gain's gradient: zero at the start, a point's rows' part added at each point. -/
theorem zero8 (j : S1x1024.Idx) : k0_pay3 (F := Ideal) j = 0 := by pointwise! [k0_pay3]
theorem step8 (v16 : FVec Ideal S256x1024 .f32) (v27 : FVec Ideal S256x1024 .f32) (v42 : Vec Ideal S1x1024 .f32) (j : S1x1024.Idx) :
    k0_pay1 v16 v27 v42 j = v42 j + k0_pay1 v16 v27 (fun _ => 0) j := by pointwise [k0_pay1]

theorem final8 (c : Dev nD) : (dats m 0 c).arrAt 8 cfg0.N
    = Cert.InReferenceIdeal.Read.val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 8 _ (by decide +kernel) fun t hf y => ?_
  idx_vars y
  blk_simp
  rw [after0_8, Pipeline.eq_sum_fin_of_reset_step_apply_of_flush (fun n h => (outsAt0 m c n h).2) 32 (fun _ => 0) _
    (fun t h j => by rw [outsAt0_A m c t h]; frame_out; rw [step8, zero8]) (fun t h j => by rw [outsAt0_B m c t h]; frame_out; rw [step8])
    t ((flush0_8 t).mp hf) _, zero_add]
  open InReferenceIdeal.Read in
  pointwise [k0_pay1, k0_pay5, k0_pay6, val_main_v2, val_main_cst, val_main_v3, val_main_v4, val_main_cst_0, val_main_v5, val_main_v6, val_main_cst_1, val_main_v7, val_main_v8, val_main_v9, val_main_v10, val_main_cst_2, val_main_v11, val_main_v12, val_main_v13, val_main_v14, val_main_v19, val_main_cst_3, val_main_v20, val_main_v21]
  simp only [in3 m c]
  refine Fin.sum_mul_add_congr fun s k hl => ?_
  have er : row ⟨_, Pipeline.run_point_lt_of_flush t ((flush0_8 t).mp hf) s⟩ k = ⟨s.val * 256 + k.val, hl⟩ := by
    refine Fin.ext ?_
    have h : t.val < 32 := lt_of_lt_of_eq t.isLt N_0
    have h' := s.isLt
    simp only [row]
    omega
  have e1 : ((cfg0.win 8).blk t).view.emb (ix2 y0 y1) 1 = y1 := Fin.ext (by blk_simp [idx t])
  rw [mul_comm]
  refine congrArg₂ (· * ·) ?_ ((hidden m c _ k y1).trans ?_)
  · rw [er]
    exact congrArg₂ (fun a b : EReal => a * b)
      (congrArg (fun z : Fin 1024 => m ((c : Thread nD τ).loc main_arg3) (ix2 (⟨s.val * 256 + k.val, hl⟩ : Fin 8192) z)) e1.symm) rfl
  · rw [er]
    exact congrArg (fun z : Fin 1024 => Cert.InReferenceIdeal.Read.val_main_v18 (F := Ideal) (m ((c : Thread nD τ).loc main_arg0)) (m ((c : Thread nD τ).loc main_arg1)) (m ((c : Thread nD τ).loc main_arg2)) (m ((c : Thread nD τ).loc main_arg5)) (ix2 (⟨s.val * 256 + k.val, hl⟩ : Fin 8192) z)) e1.symm

end Cert.InKernelIdeal.Value

end
-- ==== Proof.InClaims.lean ====
/- The equation of the gradient of the norm before the in-projections: the kernel's run and the reference's at the same stages, and the claim from the two. -/
module

public import proofs.«01_k».proof.Defs
public import proofs.«01_k».proof.Proof.Gen.InKernel.Frame
public import proofs.«01_k».proof.Proof.Gen.InReferenceIdeal.Run
public import proofs.«01_k».proof.Proof.InRows
public import Idealize.ShloMosaic.Lib.Quiescent

@[expose] public section

noncomputable section

open Idealize.ShloMosaic Idealize.ShloMosaic.TcCoe Idealize.SL.Sem

namespace Cert.InClaims

/-- The reference's run, each result at its stage, the arguments kept. -/
theorem stages (m : (ℓ : Loc Cert.InReferenceIdeal.nD Cert.InReferenceIdeal.τ Cert.InReferenceIdeal.sig) → Buf (Elt Ideal) ℓ) (ρ : Dev Cert.InReferenceIdeal.nD → PrngReg) :
    θ_run (Cert.InReferenceIdeal.defs (F := Ideal)) (onTc (τ := Cert.InReferenceIdeal.τ) (Cert.InReferenceIdeal.main (F := Ideal))) ⟨m, fun _ => 0, ρ⟩ fun r => ∀ c : Dev Cert.InReferenceIdeal.nD,
      r.2.mem ((c.tc : Thread Cert.InReferenceIdeal.nD Cert.InReferenceIdeal.τ).loc Cert.InReferenceIdeal.main_v38) = Cert.InReferenceIdeal.Read.val_main_v38 (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg4)) (m ((c.tc : Thread Cert.InReferenceIdeal.nD Cert.InReferenceIdeal.τ).loc Cert.InReferenceIdeal.main_arg5)) (m ((c.tc : Thread Cert.InReferenceIdeal.nD Cert.InReferenceIdeal.τ).loc Cert.InReferenceIdeal.main_arg6))
      ∧ r.2.mem ((c.tc : Thread Cert.InReferenceIdeal.nD Cert.InReferenceIdeal.τ).loc Cert.InReferenceIdeal.main_v21) = Cert.InReferenceIdeal.Read.val_main_v21 (F := Ideal) (m ((c.tc : Thread Cert.InReferenceIdeal.nD Cert.InReferenceIdeal.τ).loc Cert.InReferenceIdeal.main_arg0)) (m ((c.tc : Thread Cert.InReferenceIdeal.nD Cert.InReferenceIdeal.τ).loc Cert.InReferenceIdeal.main_arg1)) (m ((c.tc : Thread Cert.InReferenceIdeal.nD Cert.InReferenceIdeal.τ).loc Cert.InReferenceIdeal.main_arg2)) (m ((c.tc : Thread Cert.InReferenceIdeal.nD Cert.InReferenceIdeal.τ).loc Cert.InReferenceIdeal.main_arg3)) (m ((c.tc : Thread Cert.InReferenceIdeal.nD Cert.InReferenceIdeal.τ).loc Cert.InReferenceIdeal.main_arg5))
      ∧ r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2)
      ∧ r.2.mem ((c.tc : Thread Cert.InReferenceIdeal.nD Cert.InReferenceIdeal.τ).loc Cert.InReferenceIdeal.main_arg3) = m ((c.tc : Thread Cert.InReferenceIdeal.nD Cert.InReferenceIdeal.τ).loc Cert.InReferenceIdeal.main_arg3)
      ∧ r.2.mem ((c.tc : Thread Cert.InReferenceIdeal.nD Cert.InReferenceIdeal.τ).loc Cert.InReferenceIdeal.main_arg4) = m ((c.tc : Thread Cert.InReferenceIdeal.nD Cert.InReferenceIdeal.τ).loc Cert.InReferenceIdeal.main_arg4)
      ∧ r.2.mem ((c.tc : Thread Cert.InReferenceIdeal.nD Cert.InReferenceIdeal.τ).loc Cert.InReferenceIdeal.main_arg5) = m ((c.tc : Thread Cert.InReferenceIdeal.nD Cert.InReferenceIdeal.τ).loc Cert.InReferenceIdeal.main_arg5)
      ∧ r.2.mem ((c.tc : Thread Cert.InReferenceIdeal.nD Cert.InReferenceIdeal.τ).loc Cert.InReferenceIdeal.main_arg6) = m ((c.tc : Thread Cert.InReferenceIdeal.nD Cert.InReferenceIdeal.τ).loc Cert.InReferenceIdeal.main_arg6) :=
  (θ_run _ _ _).mono (fun r h c => ⟨(h c).1.trans (Cert.InReferenceIdeal.Read.val_main_v38_eq ..), (h c).2.1.trans (Cert.InReferenceIdeal.Read.val_main_v21_eq ..), (h c).2.2⟩)
    (Cert.InReferenceIdeal.Value.run m ρ)

/-- The kernel's run, each result at the reference's stage over the kernel's own arguments, the arguments kept. -/
theorem results (m : (ℓ : Loc Cert.InKernelIdeal.nD Cert.InKernelIdeal.τ Cert.InKernelIdeal.sig) → Buf (Elt Ideal) ℓ) (ρ : Dev Cert.InKernelIdeal.nD → PrngReg) :
    θ_run (Cert.InKernelIdeal.defs (F := Ideal)) (onTc (τ := Cert.InKernelIdeal.τ) (Cert.InKernelIdeal.main (F := Ideal))) ⟨m, fun _ => 0, ρ⟩ fun r => ∀ c : Dev Cert.InKernelIdeal.nD,
      r.2.mem ((c.tc : Thread Cert.InKernelIdeal.nD Cert.InKernelIdeal.τ).loc Cert.InKernelIdeal.main_v0_0) = Cert.InReferenceIdeal.Read.val_main_v38 (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6))
      ∧ r.2.mem ((c.tc : Thread Cert.InKernelIdeal.nD Cert.InKernelIdeal.τ).loc Cert.InKernelIdeal.main_v0_1) = Cert.InReferenceIdeal.Read.val_main_v21 (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg5))
      ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4)
      ∧ r.2.mem ((c.tc : Thread Cert.InKernelIdeal.nD Cert.InKernelIdeal.τ).loc Cert.InKernelIdeal.main_arg5) = m ((c.tc : Thread Cert.InKernelIdeal.nD Cert.InKernelIdeal.τ).loc Cert.InKernelIdeal.main_arg5)
      ∧ r.2.mem ((c.tc : Thread Cert.InKernelIdeal.nD Cert.InKernelIdeal.τ).loc Cert.InKernelIdeal.main_arg6) = m ((c.tc : Thread Cert.InKernelIdeal.nD Cert.InKernelIdeal.τ).loc Cert.InKernelIdeal.main_arg6) :=
  (θ_run _ _ _).mono (fun r h c => ⟨(h c).1.trans (Cert.InKernelIdeal.Value.final7 m c), (h c).2.1.trans (Cert.InKernelIdeal.Value.final8 m c), (h c).2.2⟩)
    (Cert.InKernelIdeal.Value.run_blocks m ρ)

theorem algebraic : Cert.algebraic_InKernelIdeal_InReferenceIdeal (hInKernelIdeal := Cert.InKernelIdeal.Gen.facts) (hInReferenceIdeal := Cert.InReferenceIdeal.Gen.facts) := by
  intro m g m' g' _ hagree
  refine ⟨fun c => Cert.InReferenceIdeal.Read.val_main_v38 (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4)) (m ((c.tc : Thread Cert.InKernelIdeal.nD Cert.InKernelIdeal.τ).loc Cert.InKernelIdeal.main_arg5)) (m ((c.tc : Thread Cert.InKernelIdeal.nD Cert.InKernelIdeal.τ).loc Cert.InKernelIdeal.main_arg6)), fun c => Cert.InReferenceIdeal.Read.val_main_v21 (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg5)), results m g, ?_⟩
  refine (θ_run _ _ _).mono (fun r h c => ?_) (stages m' g')
  obtain ⟨a0, a1, a2, a3, a4, a5, a6⟩ := hagree c
  obtain ⟨h0, h1, hk⟩ := h c
  rw [a0, a1, a2, a3, a4, a5, a6] at h0
  rw [a0, a1, a2, a3, a5] at h1
  exact ⟨h0, h1, hk⟩

theorem quiet : Cert.quiescent_InReferenceIdeal (hInReferenceIdeal := Cert.InReferenceIdeal.Gen.facts) := fun m ρ _ =>
  (θ_run _ _ _).mono (fun r h => ⟨fun c => (h c).2.2, sem_eq_zero_of_no_sems (by decide) _⟩) (Cert.InReferenceIdeal.Value.run m ρ)

end Cert.InClaims

end
-- ==== Proof.WgHg.lean ====
/-
  The input weight's gradient, the part of the recurrence's (or of the gates') columns: each block of its columns is added up over 16 points of the grid, 512
  rows at a point; the sum over the points and their rows is the host program's sum over the 8192 rows.
-/
module

public import proofs.«01_k».proof.Proof.Gen.WgHgKernelIdeal.Value
public import proofs.«01_k».proof.Proof.Gen.WgHgReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.WgHgKernelIdeal.Value

open Cert.WgHgKernelIdeal Cert.WgHgKernelIdeal.Gen

variable (m : (ℓ : Loc nD τ sig) → Buf (Elt Ideal) ℓ)

/-- The block of each window at a point: the point's rows, and the columns of its pass. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- A pass starts from zero. -/
theorem zero (j) : k0_pay1 (F := Ideal) j = 0 := by pointwise [k0_pay1]

/-- The update at a point: 512 rows more. -/
theorem step (acc : FVec Ideal S1024x1024 .f32) (x : FVec Ideal S512x1024 .bf16) (d : FVec Ideal S512x1024 .f32) (j) :
    k0_pay2 acc x d j = acc j + ∑ k : Fin 512, x (ix2 k (j 0)) * d (ix2 k (j 1)) := by pointwise [k0_pay2]

/-- What the region finds in the saved array: the host program's. -/
theorem saved (c : Dev nD) : (V m c main_v12 : FVec Ideal S8192x1024 .bf16)
    = Cert.WgHgReferenceIdeal.Read.val_main_v12 (F := Ideal) (m ((c : Thread nD τ).loc main_arg1)) (m ((c : Thread nD τ).loc main_arg2)) := by
  entry_read
  funext i
  open WgHgReferenceIdeal.Read in
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15]

/-- The weight gradient after the run is the host program's. -/
theorem final (c : Dev nD) : (dats m 0 c).arrAt 2 cfg0.N
    = Cert.WgHgReferenceIdeal.Read.val_main_v15 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => (outsAt0 m c n h)) 16 (fun _ => 0) _
    (fun t h j => by rw [outsAt0_A m c t h]; frame_out; rw [step, zero])
    (fun t h j => by rw [outsAt0_B m c t h]; frame_out; rw [step])
    t ((flush0_2 t).mp hf) _, zero_add]
  open WgHgReferenceIdeal.Read in
  pointwise [val_main_v15, val_main_v14]
  refine Fin.sum_mul_add_congr fun s k hl => ?_
  rw [mul_comm]
  refine congrArg₂ (· * ·) ?_ ?_
  · blk_ext [iblk, V, idx t, idx ⟨_, Pipeline.run_point_lt_of_flush t ((flush0_2 t).mp hf) s⟩]
  · blk_simp [iblk]
    rw [saved m c]
    blk_ext [idx t, idx ⟨_, Pipeline.run_point_lt_of_flush t ((flush0_2 t).mp hf) s⟩]

end Cert.WgHgKernelIdeal.Value

end
-- ==== Proof.WgHgClaims.lean ====
/- The equation of the in-projection's weight gradient, the 2048-column parts: the kernel's run and the reference's at the same stages, and the claim from the two. -/
module

public import proofs.«01_k».proof.Defs
public import proofs.«01_k».proof.Proof.Gen.WgHgKernel.Frame
public import proofs.«01_k».proof.Proof.Gen.WgHgReferenceIdeal.Run
public import proofs.«01_k».proof.Proof.WgHg
public import Idealize.ShloMosaic.Lib.Quiescent

@[expose] public section

noncomputable section

open Idealize.ShloMosaic Idealize.ShloMosaic.TcCoe Idealize.SL.Sem

namespace Cert.WgHgClaims

/-- The reference's run, each result at its stage, the arguments kept. -/
theorem stages (m : (ℓ : Loc Cert.WgHgReferenceIdeal.nD Cert.WgHgReferenceIdeal.τ Cert.WgHgReferenceIdeal.sig) → Buf (Elt Ideal) ℓ) (ρ : Dev Cert.WgHgReferenceIdeal.nD → PrngReg) :
    θ_run (Cert.WgHgReferenceIdeal.defs (F := Ideal)) (onTc (τ := Cert.WgHgReferenceIdeal.τ) (Cert.WgHgReferenceIdeal.main (F := Ideal))) ⟨m, fun _ => 0, ρ⟩ fun r => ∀ c : Dev Cert.WgHgReferenceIdeal.nD,
      r.2.mem ((c.tc : Thread Cert.WgHgReferenceIdeal.nD Cert.WgHgReferenceIdeal.τ).loc Cert.WgHgReferenceIdeal.main_v15) = Cert.WgHgReferenceIdeal.Read.val_main_v15 (F := Ideal) (m ((c.tc : Thread Cert.WgHgReferenceIdeal.nD Cert.WgHgReferenceIdeal.τ).loc Cert.WgHgReferenceIdeal.main_arg0)) (m ((c.tc : Thread Cert.WgHgReferenceIdeal.nD Cert.WgHgReferenceIdeal.τ).loc Cert.WgHgReferenceIdeal.main_arg1)) (m ((c.tc : Thread Cert.WgHgReferenceIdeal.nD Cert.WgHgReferenceIdeal.τ).loc Cert.WgHgReferenceIdeal.main_arg2))
      ∧ r.2.mem ((c.tc : Thread Cert.WgHgReferenceIdeal.nD Cert.WgHgReferenceIdeal.τ).loc Cert.WgHgReferenceIdeal.main_arg0) = m ((c.tc : Thread Cert.WgHgReferenceIdeal.nD Cert.WgHgReferenceIdeal.τ).loc Cert.WgHgReferenceIdeal.main_arg0)
      ∧ r.2.mem ((c.tc : Thread Cert.WgHgReferenceIdeal.nD Cert.WgHgReferenceIdeal.τ).loc Cert.WgHgReferenceIdeal.main_arg1) = m ((c.tc : Thread Cert.WgHgReferenceIdeal.nD Cert.WgHgReferenceIdeal.τ).loc Cert.WgHgReferenceIdeal.main_arg1)
      ∧ r.2.mem ((c.tc : Thread Cert.WgHgReferenceIdeal.nD Cert.WgHgReferenceIdeal.τ).loc Cert.WgHgReferenceIdeal.main_arg2) = m ((c.tc : Thread Cert.WgHgReferenceIdeal.nD Cert.WgHgReferenceIdeal.τ).loc Cert.WgHgReferenceIdeal.main_arg2) :=
  (θ_run _ _ _).mono (fun r h c => ⟨(h c).1.trans (Cert.WgHgReferenceIdeal.Read.val_main_v15_eq ..), (h c).2⟩)
    (Cert.WgHgReferenceIdeal.Value.run m ρ)

/-- The kernel's run, each result at the reference's stage over the kernel's own arguments, the arguments kept. -/
theorem results (m : (ℓ : Loc Cert.WgHgKernelIdeal.nD Cert.WgHgKernelIdeal.τ Cert.WgHgKernelIdeal.sig) → Buf (Elt Ideal) ℓ) (ρ : Dev Cert.WgHgKernelIdeal.nD → PrngReg) :
    θ_run (Cert.WgHgKernelIdeal.defs (F := Ideal)) (onTc (τ := Cert.WgHgKernelIdeal.τ) (Cert.WgHgKernelIdeal.main (F := Ideal))) ⟨m, fun _ => 0, ρ⟩ fun r => ∀ c : Dev Cert.WgHgKernelIdeal.nD,
      r.2.mem ((c.tc : Thread Cert.WgHgKernelIdeal.nD Cert.WgHgKernelIdeal.τ).loc Cert.WgHgKernelIdeal.main_v13) = Cert.WgHgReferenceIdeal.Read.val_main_v15 (F := Ideal) (m ((c.tc : Thread Cert.WgHgKernelIdeal.nD Cert.WgHgKernelIdeal.τ).loc Cert.WgHgKernelIdeal.main_arg0)) (m ((c.tc : Thread Cert.WgHgKernelIdeal.nD Cert.WgHgKernelIdeal.τ).loc Cert.WgHgKernelIdeal.main_arg1)) (m ((c.tc : Thread Cert.WgHgKernelIdeal.nD Cert.WgHgKernelIdeal.τ).loc Cert.WgHgKernelIdeal.main_arg2))
      ∧ r.2.mem ((c.tc : Thread Cert.WgHgKernelIdeal.nD Cert.WgHgKernelIdeal.τ).loc Cert.WgHgKernelIdeal.main_arg0) = m ((c.tc : Thread Cert.WgHgKernelIdeal.nD Cert.WgHgKernelIdeal.τ).loc Cert.WgHgKernelIdeal.main_arg0)
      ∧ r.2.mem ((c.tc : Thread Cert.WgHgKernelIdeal.nD Cert.WgHgKernelIdeal.τ).loc Cert.WgHgKernelIdeal.main_arg1) = m ((c.tc : Thread Cert.WgHgKernelIdeal.nD Cert.WgHgKernelIdeal.τ).loc Cert.WgHgKernelIdeal.main_arg1)
      ∧ r.2.mem ((c.tc : Thread Cert.WgHgKernelIdeal.nD Cert.WgHgKernelIdeal.τ).loc Cert.WgHgKernelIdeal.main_arg2) = m ((c.tc : Thread Cert.WgHgKernelIdeal.nD Cert.WgHgKernelIdeal.τ).loc Cert.WgHgKernelIdeal.main_arg2) :=
  (θ_run _ _ _).mono (fun r h c => ⟨(h c).1.trans (Cert.WgHgKernelIdeal.Value.final m c), (h c).2⟩)
    (Cert.WgHgKernelIdeal.Value.run_blocks m ρ)

theorem algebraic : Cert.algebraic_WgHgKernelIdeal_WgHgReferenceIdeal (hWgHgKernelIdeal := Cert.WgHgKernelIdeal.Gen.facts) (hWgHgReferenceIdeal := Cert.WgHgReferenceIdeal.Gen.facts) := by
  intro m g m' g' _ hagree
  refine ⟨fun c => Cert.WgHgReferenceIdeal.Read.val_main_v15 (F := Ideal) (m ((c.tc : Thread Cert.WgHgKernelIdeal.nD Cert.WgHgKernelIdeal.τ).loc Cert.WgHgKernelIdeal.main_arg0)) (m ((c.tc : Thread Cert.WgHgKernelIdeal.nD Cert.WgHgKernelIdeal.τ).loc Cert.WgHgKernelIdeal.main_arg1)) (m ((c.tc : Thread Cert.WgHgKernelIdeal.nD Cert.WgHgKernelIdeal.τ).loc Cert.WgHgKernelIdeal.main_arg2)), results m g, ?_⟩
  refine (θ_run _ _ _).mono (fun r h c => ?_) (stages m' g')
  obtain ⟨a0, a1, a2⟩ := hagree c
  obtain ⟨h0, hk⟩ := h c
  rw [a0, a1, a2] at h0
  exact ⟨h0, hk⟩

theorem quiet : Cert.quiescent_WgHgReferenceIdeal (hWgHgReferenceIdeal := Cert.WgHgReferenceIdeal.Gen.facts) := fun m ρ _ =>
  (θ_run _ _ _).mono (fun r h => ⟨fun c => (h c).2, sem_eq_zero_of_no_sems (by decide) _⟩) (Cert.WgHgReferenceIdeal.Value.run m ρ)

end Cert.WgHgClaims

end
-- ==== Proof.WgU.lean ====
/-
  The input weight's gradient, the part of the second branch's columns: each block of its columns is added up over 16 points of the grid, 512
  rows at a point; the sum over the points and their rows is the host program's sum over the 8192 rows.
-/
module

public import proofs.«01_k».proof.Proof.Gen.WgUKernelIdeal.Value
public import proofs.«01_k».proof.Proof.Gen.WgUReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.WgUKernelIdeal.Value

open Cert.WgUKernelIdeal Cert.WgUKernelIdeal.Gen

variable (m : (ℓ : Loc nD τ sig) → Buf (Elt Ideal) ℓ)

/-- The block of each window at a point: the point's rows, and the columns of its pass. -/
theorem idx : ∀ t : Fin cfg0.N, win0_0.index t = ![t.val, 0] ∧ win0_1.index t = ![t.val, 0] ∧ win0_2.index t = ![0, 0] :=
  (by decide +kernel : ∀ t : Fin grid0.N, _)

/-- A pass starts from zero. -/
theorem zero (j) : k0_pay1 (F := Ideal) j = 0 := by pointwise [k0_pay1]

/-- The update at a point: 512 rows more. -/
theorem step (acc : FVec Ideal S1024x512 .f32) (x : FVec Ideal S512x1024 .bf16) (d : FVec Ideal S512x512 .f32) (j) :
    k0_pay2 acc x d j = acc j + ∑ k : Fin 512, x (ix2 k (j 0)) * d (ix2 k (j 1)) := by pointwise [k0_pay2]

/-- What the region finds in the saved array: the host program's. -/
theorem saved (c : Dev nD) : (V m c main_v12 : FVec Ideal S8192x1024 .bf16)
    = Cert.WgUReferenceIdeal.Read.val_main_v12 (F := Ideal) (m ((c : Thread nD τ).loc main_arg1)) (m ((c : Thread nD τ).loc main_arg2)) := by
  entry_read
  funext i
  open WgUReferenceIdeal.Read in
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15]

/-- The weight gradient after the run is the host program's. -/
theorem final (c : Dev nD) : (dats m 0 c).arrAt 2 cfg0.N
    = Cert.WgUReferenceIdeal.Read.val_main_v15 (F := Ideal) (m ((c : Thread nD τ).loc main_arg0)) (m ((c : Thread nD τ).loc main_arg1)) (m ((c : Thread nD τ).loc main_arg2)) := by
  refine (dats m 0 c).arrAt_eq_of_after_last 2 t0_15 (by decide +kernel) _ fun j => ?_
  blk_simp
  rw [after0_2, Pipeline.eq_sum_fin_of_reset_step_apply_last (fun n h => (outsAt0 m c n h)) 16 (fun _ => 0) _
    (fun t h j => by rw [outsAt0_A m c t h]; frame_out; rw [step, zero])
    (fun t h j => by rw [outsAt0_B m c t h]; frame_out; rw [step])
    (le_of_eq N_0) t0_15 rfl j, zero_add]
  open WgUReferenceIdeal.Read in
  pointwise [val_main_v15, val_main_v14]
  refine Fin.sum_mul_add_congr fun s k hl => ?_
  rw [mul_comm]
  refine congrArg₂ (· * ·) ?_ ?_
  · blk_ext [iblk, V, idx s]
  · blk_simp [iblk]
    rw [saved m c]
    blk_ext [idx s]

end Cert.WgUKernelIdeal.Value

end
-- ==== Proof.WgUClaims.lean ====
/- The equation of the in-projection's weight gradient, the 512-column part: the kernel's run and the reference's at the same stages, and the claim from the two. -/
module

public import proofs.«01_k».proof.Defs
public import proofs.«01_k».proof.Proof.Gen.WgUKernel.Frame
public import proofs.«01_k».proof.Proof.Gen.WgUReferenceIdeal.Run
public import proofs.«01_k».proof.Proof.WgU
public import Idealize.ShloMosaic.Lib.Quiescent

@[expose] public section

noncomputable section

open Idealize.ShloMosaic Idealize.ShloMosaic.TcCoe Idealize.SL.Sem

namespace Cert.WgUClaims

/-- The reference's run, each result at its stage, the arguments kept. -/
theorem stages (m : (ℓ : Loc Cert.WgUReferenceIdeal.nD Cert.WgUReferenceIdeal.τ Cert.WgUReferenceIdeal.sig) → Buf (Elt Ideal) ℓ) (ρ : Dev Cert.WgUReferenceIdeal.nD → PrngReg) :
    θ_run (Cert.WgUReferenceIdeal.defs (F := Ideal)) (onTc (τ := Cert.WgUReferenceIdeal.τ) (Cert.WgUReferenceIdeal.main (F := Ideal))) ⟨m, fun _ => 0, ρ⟩ fun r => ∀ c : Dev Cert.WgUReferenceIdeal.nD,
      r.2.mem ((c.tc : Thread Cert.WgUReferenceIdeal.nD Cert.WgUReferenceIdeal.τ).loc Cert.WgUReferenceIdeal.main_v15) = Cert.WgUReferenceIdeal.Read.val_main_v15 (F := Ideal) (m ((c.tc : Thread Cert.WgUReferenceIdeal.nD Cert.WgUReferenceIdeal.τ).loc Cert.WgUReferenceIdeal.main_arg0)) (m ((c.tc : Thread Cert.WgUReferenceIdeal.nD Cert.WgUReferenceIdeal.τ).loc Cert.WgUReferenceIdeal.main_arg1)) (m ((c.tc : Thread Cert.WgUReferenceIdeal.nD Cert.WgUReferenceIdeal.τ).loc Cert.WgUReferenceIdeal.main_arg2))
      ∧ r.2.mem ((c.tc : Thread Cert.WgUReferenceIdeal.nD Cert.WgUReferenceIdeal.τ).loc Cert.WgUReferenceIdeal.main_arg0) = m ((c.tc : Thread Cert.WgUReferenceIdeal.nD Cert.WgUReferenceIdeal.τ).loc Cert.WgUReferenceIdeal.main_arg0)
      ∧ r.2.mem ((c.tc : Thread Cert.WgUReferenceIdeal.nD Cert.WgUReferenceIdeal.τ).loc Cert.WgUReferenceIdeal.main_arg1) = m ((c.tc : Thread Cert.WgUReferenceIdeal.nD Cert.WgUReferenceIdeal.τ).loc Cert.WgUReferenceIdeal.main_arg1)
      ∧ r.2.mem ((c.tc : Thread Cert.WgUReferenceIdeal.nD Cert.WgUReferenceIdeal.τ).loc Cert.WgUReferenceIdeal.main_arg2) = m ((c.tc : Thread Cert.WgUReferenceIdeal.nD Cert.WgUReferenceIdeal.τ).loc Cert.WgUReferenceIdeal.main_arg2) :=
  (θ_run _ _ _).mono (fun r h c => ⟨(h c).1.trans (Cert.WgUReferenceIdeal.Read.val_main_v15_eq ..), (h c).2⟩)
    (Cert.WgUReferenceIdeal.Value.run m ρ)

/-- The kernel's run, each result at the reference's stage over the kernel's own arguments, the arguments kept. -/
theorem results (m : (ℓ : Loc Cert.WgUKernelIdeal.nD Cert.WgUKernelIdeal.τ Cert.WgUKernelIdeal.sig) → Buf (Elt Ideal) ℓ) (ρ : Dev Cert.WgUKernelIdeal.nD → PrngReg) :
    θ_run (Cert.WgUKernelIdeal.defs (F := Ideal)) (onTc (τ := Cert.WgUKernelIdeal.τ) (Cert.WgUKernelIdeal.main (F := Ideal))) ⟨m, fun _ => 0, ρ⟩ fun r => ∀ c : Dev Cert.WgUKernelIdeal.nD,
      r.2.mem ((c.tc : Thread Cert.WgUKernelIdeal.nD Cert.WgUKernelIdeal.τ).loc Cert.WgUKernelIdeal.main_v13) = Cert.WgUReferenceIdeal.Read.val_main_v15 (F := Ideal) (m ((c.tc : Thread Cert.WgUKernelIdeal.nD Cert.WgUKernelIdeal.τ).loc Cert.WgUKernelIdeal.main_arg0)) (m ((c.tc : Thread Cert.WgUKernelIdeal.nD Cert.WgUKernelIdeal.τ).loc Cert.WgUKernelIdeal.main_arg1)) (m ((c.tc : Thread Cert.WgUKernelIdeal.nD Cert.WgUKernelIdeal.τ).loc Cert.WgUKernelIdeal.main_arg2))
      ∧ r.2.mem ((c.tc : Thread Cert.WgUKernelIdeal.nD Cert.WgUKernelIdeal.τ).loc Cert.WgUKernelIdeal.main_arg0) = m ((c.tc : Thread Cert.WgUKernelIdeal.nD Cert.WgUKernelIdeal.τ).loc Cert.WgUKernelIdeal.main_arg0)
      ∧ r.2.mem ((c.tc : Thread Cert.WgUKernelIdeal.nD Cert.WgUKernelIdeal.τ).loc Cert.WgUKernelIdeal.main_arg1) = m ((c.tc : Thread Cert.WgUKernelIdeal.nD Cert.WgUKernelIdeal.τ).loc Cert.WgUKernelIdeal.main_arg1)
      ∧ r.2.mem ((c.tc : Thread Cert.WgUKernelIdeal.nD Cert.WgUKernelIdeal.τ).loc Cert.WgUKernelIdeal.main_arg2) = m ((c.tc : Thread Cert.WgUKernelIdeal.nD Cert.WgUKernelIdeal.τ).loc Cert.WgUKernelIdeal.main_arg2) :=
  (θ_run _ _ _).mono (fun r h c => ⟨(h c).1.trans (Cert.WgUKernelIdeal.Value.final m c), (h c).2⟩)
    (Cert.WgUKernelIdeal.Value.run_blocks m ρ)

theorem algebraic : Cert.algebraic_WgUKernelIdeal_WgUReferenceIdeal (hWgUKernelIdeal := Cert.WgUKernelIdeal.Gen.facts) (hWgUReferenceIdeal := Cert.WgUReferenceIdeal.Gen.facts) := by
  intro m g m' g' _ hagree
  refine ⟨fun c => Cert.WgUReferenceIdeal.Read.val_main_v15 (F := Ideal) (m ((c.tc : Thread Cert.WgUKernelIdeal.nD Cert.WgUKernelIdeal.τ).loc Cert.WgUKernelIdeal.main_arg0)) (m ((c.tc : Thread Cert.WgUKernelIdeal.nD Cert.WgUKernelIdeal.τ).loc Cert.WgUKernelIdeal.main_arg1)) (m ((c.tc : Thread Cert.WgUKernelIdeal.nD Cert.WgUKernelIdeal.τ).loc Cert.WgUKernelIdeal.main_arg2)), results m g, ?_⟩
  refine (θ_run _ _ _).mono (fun r h c => ?_) (stages m' g')
  obtain ⟨a0, a1, a2⟩ := hagree c
  obtain ⟨h0, hk⟩ := h c
  rw [a0, a1, a2] at h0
  exact ⟨h0, hk⟩

theorem quiet : Cert.quiescent_WgUReferenceIdeal (hWgUReferenceIdeal := Cert.WgUReferenceIdeal.Gen.facts) := fun m ρ _ =>
  (θ_run _ _ _).mono (fun r h => ⟨fun c => (h c).2, sem_eq_zero_of_no_sems (by decide) _⟩) (Cert.WgUReferenceIdeal.Value.run m ρ)

end Cert.WgUClaims

end
-- ==== Proof.WgUp.lean ====
/-
  The up-projection's weight gradient: each block of its columns is added up over 16 points of the grid, 512
  rows at a point; the sum over the points and their rows is the host program's sum over the 8192 rows.
-/
module

public import proofs.«01_k».proof.Proof.Gen.WgUpKernelIdeal.Value
public import proofs.«01_k».proof.Proof.Gen.WgUpReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.WgUpKernelIdeal.Value

open Cert.WgUpKernelIdeal Cert.WgUpKernelIdeal.Gen

variable (m : (ℓ : Loc nD τ sig) → Buf (Elt Ideal) ℓ)

/-- The block of each window at a point: the point's rows, and the columns of its pass. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- A pass starts from zero. -/
theorem zero (j) : k0_pay1 (F := Ideal) j = 0 := by pointwise [k0_pay1]

/-- The update at a point: 512 rows more. -/
theorem step (acc : FVec Ideal S1024x1408 .f32) (x : FVec Ideal S512x1024 .bf16) (d : FVec Ideal S512x1408 .bf16) (j) :
    k0_pay2 acc x d j = acc j + ∑ k : Fin 512, x (ix2 k (j 0)) * d (ix2 k (j 1)) := by pointwise [k0_pay2]

/-- What the region finds in the saved array: the host program's. -/
theorem saved (c : Dev nD) : (V m c main_v12 : FVec Ideal S8192x1024 .bf16)
    = Cert.WgUpReferenceIdeal.Read.val_main_v12 (F := Ideal) (m ((c : Thread nD τ).loc main_arg1)) (m ((c : Thread nD τ).loc main_arg2)) := by
  entry_read
  funext i
  open WgUpReferenceIdeal.Read in
  pointwise [val_main_cst, val_main_v0, val_main_v1, val_main_cst_0, val_main_v2, val_main_v3, val_main_cst_1, val_main_v4, val_main_v5, val_main_cst_2, val_main_v6, val_main_v7, val_main_v8, val_main_v9, val_main_v10, val_main_v11, val_main_v12, val_main_v13, val_main_v14, val_main_v15, val_main_v16]

/-- The weight gradient after the run is the host program's. -/
theorem final (c : Dev nD) : (dats m 0 c).arrAt 2 cfg0.N
    = Cert.WgUpReferenceIdeal.Read.val_main_v16 (F := Ideal) (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, Pipeline.eq_sum_fin_of_reset_step_apply_of_flush (fun n h => (outsAt0 m c n h)) 16 (fun _ => 0) _
    (fun t h j => by rw [outsAt0_A m c t h]; frame_out; rw [step, zero])
    (fun t h j => by rw [outsAt0_B m c t h]; frame_out; rw [step])
    t ((flush0_2 t).mp hf) _, zero_add]
  open WgUpReferenceIdeal.Read in
  pointwise [val_main_v16, val_main_v15, val_main_v14]
  refine Fin.sum_mul_add_congr fun s k hl => ?_
  rw [mul_comm]
  refine congrArg₂ (· * ·) ?_ ?_
  · blk_ext [iblk, V, idx t, idx ⟨_, Pipeline.run_point_lt_of_flush t ((flush0_2 t).mp hf) s⟩]
  · blk_simp [iblk]
    rw [saved m c]
    blk_ext [idx t, idx ⟨_, Pipeline.run_point_lt_of_flush t ((flush0_2 t).mp hf) s⟩]

end Cert.WgUpKernelIdeal.Value

end
-- ==== Proof.WgUpClaims.lean ====
/- The equation of the up-projection's weight gradient: the kernel's run and the reference's at the same stages, and the claim from the two. -/
module

public import proofs.«01_k».proof.Defs
public import proofs.«01_k».proof.Proof.Gen.WgUpKernel.Frame
public import proofs.«01_k».proof.Proof.Gen.WgUpReferenceIdeal.Run
public import proofs.«01_k».proof.Proof.WgUp
public import Idealize.ShloMosaic.Lib.Quiescent

@[expose] public section

noncomputable section

open Idealize.ShloMosaic Idealize.ShloMosaic.TcCoe Idealize.SL.Sem

namespace Cert.WgUpClaims

/-- The reference's run, each result at its stage, the arguments kept. -/
theorem stages (m : (ℓ : Loc Cert.WgUpReferenceIdeal.nD Cert.WgUpReferenceIdeal.τ Cert.WgUpReferenceIdeal.sig) → Buf (Elt Ideal) ℓ) (ρ : Dev Cert.WgUpReferenceIdeal.nD → PrngReg) :
    θ_run (Cert.WgUpReferenceIdeal.defs (F := Ideal)) (onTc (τ := Cert.WgUpReferenceIdeal.τ) (Cert.WgUpReferenceIdeal.main (F := Ideal))) ⟨m, fun _ => 0, ρ⟩ fun r => ∀ c : Dev Cert.WgUpReferenceIdeal.nD,
      r.2.mem ((c.tc : Thread Cert.WgUpReferenceIdeal.nD Cert.WgUpReferenceIdeal.τ).loc Cert.WgUpReferenceIdeal.main_v16) = Cert.WgUpReferenceIdeal.Read.val_main_v16 (F := Ideal) (m ((c.tc : Thread Cert.WgUpReferenceIdeal.nD Cert.WgUpReferenceIdeal.τ).loc Cert.WgUpReferenceIdeal.main_arg0)) (m ((c.tc : Thread Cert.WgUpReferenceIdeal.nD Cert.WgUpReferenceIdeal.τ).loc Cert.WgUpReferenceIdeal.main_arg1)) (m ((c.tc : Thread Cert.WgUpReferenceIdeal.nD Cert.WgUpReferenceIdeal.τ).loc Cert.WgUpReferenceIdeal.main_arg2))
      ∧ r.2.mem ((c.tc : Thread Cert.WgUpReferenceIdeal.nD Cert.WgUpReferenceIdeal.τ).loc Cert.WgUpReferenceIdeal.main_arg0) = m ((c.tc : Thread Cert.WgUpReferenceIdeal.nD Cert.WgUpReferenceIdeal.τ).loc Cert.WgUpReferenceIdeal.main_arg0)
      ∧ r.2.mem ((c.tc : Thread Cert.WgUpReferenceIdeal.nD Cert.WgUpReferenceIdeal.τ).loc Cert.WgUpReferenceIdeal.main_arg1) = m ((c.tc : Thread Cert.WgUpReferenceIdeal.nD Cert.WgUpReferenceIdeal.τ).loc Cert.WgUpReferenceIdeal.main_arg1)
      ∧ r.2.mem ((c.tc : Thread Cert.WgUpReferenceIdeal.nD Cert.WgUpReferenceIdeal.τ).loc Cert.WgUpReferenceIdeal.main_arg2) = m ((c.tc : Thread Cert.WgUpReferenceIdeal.nD Cert.WgUpReferenceIdeal.τ).loc Cert.WgUpReferenceIdeal.main_arg2) :=
  (θ_run _ _ _).mono (fun r h c => ⟨(h c).1.trans (Cert.WgUpReferenceIdeal.Read.val_main_v16_eq ..), (h c).2⟩)
    (Cert.WgUpReferenceIdeal.Value.run m ρ)

/-- The kernel's run, each result at the reference's stage over the kernel's own arguments, the arguments kept. -/
theorem results (m : (ℓ : Loc Cert.WgUpKernelIdeal.nD Cert.WgUpKernelIdeal.τ Cert.WgUpKernelIdeal.sig) → Buf (Elt Ideal) ℓ) (ρ : Dev Cert.WgUpKernelIdeal.nD → PrngReg) :
    θ_run (Cert.WgUpKernelIdeal.defs (F := Ideal)) (onTc (τ := Cert.WgUpKernelIdeal.τ) (Cert.WgUpKernelIdeal.main (F := Ideal))) ⟨m, fun _ => 0, ρ⟩ fun r => ∀ c : Dev Cert.WgUpKernelIdeal.nD,
      r.2.mem ((c.tc : Thread Cert.WgUpKernelIdeal.nD Cert.WgUpKernelIdeal.τ).loc Cert.WgUpKernelIdeal.main_v13) = Cert.WgUpReferenceIdeal.Read.val_main_v16 (F := Ideal) (m ((c.tc : Thread Cert.WgUpKernelIdeal.nD Cert.WgUpKernelIdeal.τ).loc Cert.WgUpKernelIdeal.main_arg0)) (m ((c.tc : Thread Cert.WgUpKernelIdeal.nD Cert.WgUpKernelIdeal.τ).loc Cert.WgUpKernelIdeal.main_arg1)) (m ((c.tc : Thread Cert.WgUpKernelIdeal.nD Cert.WgUpKernelIdeal.τ).loc Cert.WgUpKernelIdeal.main_arg2))
      ∧ r.2.mem ((c.tc : Thread Cert.WgUpKernelIdeal.nD Cert.WgUpKernelIdeal.τ).loc Cert.WgUpKernelIdeal.main_arg0) = m ((c.tc : Thread Cert.WgUpKernelIdeal.nD Cert.WgUpKernelIdeal.τ).loc Cert.WgUpKernelIdeal.main_arg0)
      ∧ r.2.mem ((c.tc : Thread Cert.WgUpKernelIdeal.nD Cert.WgUpKernelIdeal.τ).loc Cert.WgUpKernelIdeal.main_arg1) = m ((c.tc : Thread Cert.WgUpKernelIdeal.nD Cert.WgUpKernelIdeal.τ).loc Cert.WgUpKernelIdeal.main_arg1)
      ∧ r.2.mem ((c.tc : Thread Cert.WgUpKernelIdeal.nD Cert.WgUpKernelIdeal.τ).loc Cert.WgUpKernelIdeal.main_arg2) = m ((c.tc : Thread Cert.WgUpKernelIdeal.nD Cert.WgUpKernelIdeal.τ).loc Cert.WgUpKernelIdeal.main_arg2) :=
  (θ_run _ _ _).mono (fun r h c => ⟨(h c).1.trans (Cert.WgUpKernelIdeal.Value.final m c), (h c).2⟩)
    (Cert.WgUpKernelIdeal.Value.run_blocks m ρ)

theorem algebraic : Cert.algebraic_WgUpKernelIdeal_WgUpReferenceIdeal (hWgUpKernelIdeal := Cert.WgUpKernelIdeal.Gen.facts) (hWgUpReferenceIdeal := Cert.WgUpReferenceIdeal.Gen.facts) := by
  intro m g m' g' _ hagree
  refine ⟨fun c => Cert.WgUpReferenceIdeal.Read.val_main_v16 (F := Ideal) (m ((c.tc : Thread Cert.WgUpKernelIdeal.nD Cert.WgUpKernelIdeal.τ).loc Cert.WgUpKernelIdeal.main_arg0)) (m ((c.tc : Thread Cert.WgUpKernelIdeal.nD Cert.WgUpKernelIdeal.τ).loc Cert.WgUpKernelIdeal.main_arg1)) (m ((c.tc : Thread Cert.WgUpKernelIdeal.nD Cert.WgUpKernelIdeal.τ).loc Cert.WgUpKernelIdeal.main_arg2)), results m g, ?_⟩
  refine (θ_run _ _ _).mono (fun r h c => ?_) (stages m' g')
  obtain ⟨a0, a1, a2⟩ := hagree c
  obtain ⟨h0, hk⟩ := h c
  rw [a0, a1, a2] at h0
  exact ⟨h0, hk⟩

theorem quiet : Cert.quiescent_WgUpReferenceIdeal (hWgUpReferenceIdeal := Cert.WgUpReferenceIdeal.Gen.facts) := fun m ρ _ =>
  (θ_run _ _ _).mono (fun r h => ⟨fun c => (h c).2, sem_eq_zero_of_no_sems (by decide) _⟩) (Cert.WgUpReferenceIdeal.Value.run m ρ)

end Cert.WgUpClaims

end
-- ==== Proof.WgDown.lean ====
/-
  The down-projection's weight gradient: each block of its columns is added up over 16 points of the grid, 512
  rows at a point; the sum over the points and their rows is the host program's sum over the 8192 rows.
-/
module

public import proofs.«01_k».proof.Proof.Gen.WgDownKernelIdeal.Value
public import proofs.«01_k».proof.Proof.Gen.WgDownReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.WgDownKernelIdeal.Value

open Cert.WgDownKernelIdeal Cert.WgDownKernelIdeal.Gen

variable (m : (ℓ : Loc nD τ sig) → Buf (Elt Ideal) ℓ)

/-- The block of each window at a point: the point's rows, and the columns of its pass. -/
theorem idx : ∀ t : Fin cfg0.N, win0_0.index t = ![t.val % 16, 0] ∧ win0_1.index t = ![t.val % 16, t.val / 16] ∧ win0_2.index t = ![0, t.val / 16] :=
  (by decide +kernel : ∀ t : Fin grid0.N, _)

/-- A pass starts from zero. -/
theorem zero (j) : k0_pay1 (F := Ideal) j = 0 := by pointwise [k0_pay1]

/-- The update at a point: 512 rows more. -/
theorem step (acc : FVec Ideal S2816x512 .f32) (x : FVec Ideal S512x2816 .bf16) (d : FVec Ideal S512x512 .f32) (j) :
    k0_pay2 acc x d j = acc j + ∑ k : Fin 512, x (ix2 k (j 0)) * d (ix2 k (j 1)) := by pointwise [k0_pay2]

/-- What the region finds in the saved array: the host program's. -/
theorem saved (c : Dev nD) : (V m c main_v40 : FVec Ideal S8192x2816 .bf16)
    = Cert.WgDownReferenceIdeal.Read.val_main_v40 (F := Ideal) (m ((c : Thread nD τ).loc main_arg1)) (m ((c : Thread nD τ).loc main_arg2)) (m ((c : Thread nD τ).loc main_arg3)) := by
  entry_read
  funext i
  open WgDownReferenceIdeal.Read in
  pointwise [val_main_cst, val_main_v0, val_main_cst_0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst_1, val_main_v29, val_main_v30, val_main_v31, val_main_cst_2, val_main_v32, val_main_v33, val_main_v34, val_main_cst_3, val_main_v35, val_main_v36, val_main_cst_4, val_main_v37, val_main_v38, val_main_v39, val_main_v40, val_main_v41, val_main_v42, val_main_v43]

/-- The weight gradient after the run is the host program's. -/
theorem final (c : Dev nD) : (dats m 0 c).arrAt 2 cfg0.N
    = Cert.WgDownReferenceIdeal.Read.val_main_v43 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  rw [after0_2, Pipeline.eq_sum_fin_of_reset_step_apply_of_flush (fun n h => (outsAt0 m c n h)) 16 (fun _ => 0) _
    (fun t h j => by rw [outsAt0_A m c t h]; frame_out; rw [step, zero])
    (fun t h j => by rw [outsAt0_B m c t h]; frame_out; rw [step])
    t ((flush0_2 t).mp hf) _, zero_add]
  open WgDownReferenceIdeal.Read in
  pointwise [val_main_v43, val_main_v42]
  refine Fin.sum_mul_add_congr fun s k hl => ?_
  rw [mul_comm]
  refine congrArg₂ (· * ·) ?_ ?_
  · blk_ext [iblk, V, idx t, idx ⟨_, Pipeline.run_point_lt_of_flush t ((flush0_2 t).mp hf) s⟩]
  · blk_simp [iblk]
    rw [saved m c]
    blk_ext [idx t, idx ⟨_, Pipeline.run_point_lt_of_flush t ((flush0_2 t).mp hf) s⟩]

end Cert.WgDownKernelIdeal.Value

end
-- ==== Proof.WgDownClaims.lean ====
/- The equation of the down-projection's weight gradient: the kernel's run and the reference's at the same stages, and the claim from the two. -/
module

public import proofs.«01_k».proof.Defs
public import proofs.«01_k».proof.Proof.Gen.WgDownKernel.Frame
public import proofs.«01_k».proof.Proof.Gen.WgDownReferenceIdeal.Run
public import proofs.«01_k».proof.Proof.WgDown
public import Idealize.ShloMosaic.Lib.Quiescent

@[expose] public section

noncomputable section

open Idealize.ShloMosaic Idealize.ShloMosaic.TcCoe Idealize.SL.Sem

namespace Cert.WgDownClaims

/-- The reference's run, each result at its stage, the arguments kept. -/
theorem stages (m : (ℓ : Loc Cert.WgDownReferenceIdeal.nD Cert.WgDownReferenceIdeal.τ Cert.WgDownReferenceIdeal.sig) → Buf (Elt Ideal) ℓ) (ρ : Dev Cert.WgDownReferenceIdeal.nD → PrngReg) :
    θ_run (Cert.WgDownReferenceIdeal.defs (F := Ideal)) (onTc (τ := Cert.WgDownReferenceIdeal.τ) (Cert.WgDownReferenceIdeal.main (F := Ideal))) ⟨m, fun _ => 0, ρ⟩ fun r => ∀ c : Dev Cert.WgDownReferenceIdeal.nD,
      r.2.mem ((c.tc : Thread Cert.WgDownReferenceIdeal.nD Cert.WgDownReferenceIdeal.τ).loc Cert.WgDownReferenceIdeal.main_v43) = Cert.WgDownReferenceIdeal.Read.val_main_v43 (F := Ideal) (m ((c.tc : Thread Cert.WgDownReferenceIdeal.nD Cert.WgDownReferenceIdeal.τ).loc Cert.WgDownReferenceIdeal.main_arg0)) (m ((c.tc : Thread Cert.WgDownReferenceIdeal.nD Cert.WgDownReferenceIdeal.τ).loc Cert.WgDownReferenceIdeal.main_arg1)) (m ((c.tc : Thread Cert.WgDownReferenceIdeal.nD Cert.WgDownReferenceIdeal.τ).loc Cert.WgDownReferenceIdeal.main_arg2)) (m ((c.tc : Thread Cert.WgDownReferenceIdeal.nD Cert.WgDownReferenceIdeal.τ).loc Cert.WgDownReferenceIdeal.main_arg3))
      ∧ r.2.mem ((c.tc : Thread Cert.WgDownReferenceIdeal.nD Cert.WgDownReferenceIdeal.τ).loc Cert.WgDownReferenceIdeal.main_arg0) = m ((c.tc : Thread Cert.WgDownReferenceIdeal.nD Cert.WgDownReferenceIdeal.τ).loc Cert.WgDownReferenceIdeal.main_arg0)
      ∧ r.2.mem ((c.tc : Thread Cert.WgDownReferenceIdeal.nD Cert.WgDownReferenceIdeal.τ).loc Cert.WgDownReferenceIdeal.main_arg1) = m ((c.tc : Thread Cert.WgDownReferenceIdeal.nD Cert.WgDownReferenceIdeal.τ).loc Cert.WgDownReferenceIdeal.main_arg1)
      ∧ r.2.mem ((c.tc : Thread Cert.WgDownReferenceIdeal.nD Cert.WgDownReferenceIdeal.τ).loc Cert.WgDownReferenceIdeal.main_arg2) = m ((c.tc : Thread Cert.WgDownReferenceIdeal.nD Cert.WgDownReferenceIdeal.τ).loc Cert.WgDownReferenceIdeal.main_arg2)
      ∧ r.2.mem ((c.tc : Thread Cert.WgDownReferenceIdeal.nD Cert.WgDownReferenceIdeal.τ).loc Cert.WgDownReferenceIdeal.main_arg3) = m ((c.tc : Thread Cert.WgDownReferenceIdeal.nD Cert.WgDownReferenceIdeal.τ).loc Cert.WgDownReferenceIdeal.main_arg3) :=
  (θ_run _ _ _).mono (fun r h c => ⟨(h c).1.trans (Cert.WgDownReferenceIdeal.Read.val_main_v43_eq ..), (h c).2⟩)
    (Cert.WgDownReferenceIdeal.Value.run m ρ)

/-- The kernel's run, each result at the reference's stage over the kernel's own arguments, the arguments kept. -/
theorem results (m : (ℓ : Loc Cert.WgDownKernelIdeal.nD Cert.WgDownKernelIdeal.τ Cert.WgDownKernelIdeal.sig) → Buf (Elt Ideal) ℓ) (ρ : Dev Cert.WgDownKernelIdeal.nD → PrngReg) :
    θ_run (Cert.WgDownKernelIdeal.defs (F := Ideal)) (onTc (τ := Cert.WgDownKernelIdeal.τ) (Cert.WgDownKernelIdeal.main (F := Ideal))) ⟨m, fun _ => 0, ρ⟩ fun r => ∀ c : Dev Cert.WgDownKernelIdeal.nD,
      r.2.mem ((c.tc : Thread Cert.WgDownKernelIdeal.nD Cert.WgDownKernelIdeal.τ).loc Cert.WgDownKernelIdeal.main_v41) = Cert.WgDownReferenceIdeal.Read.val_main_v43 (F := Ideal) (m ((c.tc : Thread Cert.WgDownKernelIdeal.nD Cert.WgDownKernelIdeal.τ).loc Cert.WgDownKernelIdeal.main_arg0)) (m ((c.tc : Thread Cert.WgDownKernelIdeal.nD Cert.WgDownKernelIdeal.τ).loc Cert.WgDownKernelIdeal.main_arg1)) (m ((c.tc : Thread Cert.WgDownKernelIdeal.nD Cert.WgDownKernelIdeal.τ).loc Cert.WgDownKernelIdeal.main_arg2)) (m ((c.tc : Thread Cert.WgDownKernelIdeal.nD Cert.WgDownKernelIdeal.τ).loc Cert.WgDownKernelIdeal.main_arg3))
      ∧ r.2.mem ((c.tc : Thread Cert.WgDownKernelIdeal.nD Cert.WgDownKernelIdeal.τ).loc Cert.WgDownKernelIdeal.main_arg0) = m ((c.tc : Thread Cert.WgDownKernelIdeal.nD Cert.WgDownKernelIdeal.τ).loc Cert.WgDownKernelIdeal.main_arg0)
      ∧ r.2.mem ((c.tc : Thread Cert.WgDownKernelIdeal.nD Cert.WgDownKernelIdeal.τ).loc Cert.WgDownKernelIdeal.main_arg1) = m ((c.tc : Thread Cert.WgDownKernelIdeal.nD Cert.WgDownKernelIdeal.τ).loc Cert.WgDownKernelIdeal.main_arg1)
      ∧ r.2.mem ((c.tc : Thread Cert.WgDownKernelIdeal.nD Cert.WgDownKernelIdeal.τ).loc Cert.WgDownKernelIdeal.main_arg2) = m ((c.tc : Thread Cert.WgDownKernelIdeal.nD Cert.WgDownKernelIdeal.τ).loc Cert.WgDownKernelIdeal.main_arg2)
      ∧ r.2.mem ((c.tc : Thread Cert.WgDownKernelIdeal.nD Cert.WgDownKernelIdeal.τ).loc Cert.WgDownKernelIdeal.main_arg3) = m ((c.tc : Thread Cert.WgDownKernelIdeal.nD Cert.WgDownKernelIdeal.τ).loc Cert.WgDownKernelIdeal.main_arg3) :=
  (θ_run _ _ _).mono (fun r h c => ⟨(h c).1.trans (Cert.WgDownKernelIdeal.Value.final m c), (h c).2⟩)
    (Cert.WgDownKernelIdeal.Value.run_blocks m ρ)

theorem algebraic : Cert.algebraic_WgDownKernelIdeal_WgDownReferenceIdeal (hWgDownKernelIdeal := Cert.WgDownKernelIdeal.Gen.facts) (hWgDownReferenceIdeal := Cert.WgDownReferenceIdeal.Gen.facts) := by
  intro m g m' g' _ hagree
  refine ⟨fun c => Cert.WgDownReferenceIdeal.Read.val_main_v43 (F := Ideal) (m ((c.tc : Thread Cert.WgDownKernelIdeal.nD Cert.WgDownKernelIdeal.τ).loc Cert.WgDownKernelIdeal.main_arg0)) (m ((c.tc : Thread Cert.WgDownKernelIdeal.nD Cert.WgDownKernelIdeal.τ).loc Cert.WgDownKernelIdeal.main_arg1)) (m ((c.tc : Thread Cert.WgDownKernelIdeal.nD Cert.WgDownKernelIdeal.τ).loc Cert.WgDownKernelIdeal.main_arg2)) (m ((c.tc : Thread Cert.WgDownKernelIdeal.nD Cert.WgDownKernelIdeal.τ).loc Cert.WgDownKernelIdeal.main_arg3)), results m g, ?_⟩
  refine (θ_run _ _ _).mono (fun r h c => ?_) (stages m' g')
  obtain ⟨a0, a1, a2, a3⟩ := hagree c
  obtain ⟨h0, hk⟩ := h c
  rw [a0, a1, a2, a3] at h0
  exact ⟨h0, hk⟩

theorem quiet : Cert.quiescent_WgDownReferenceIdeal (hWgDownReferenceIdeal := Cert.WgDownReferenceIdeal.Gen.facts) := fun m ρ _ =>
  (θ_run _ _ _).mono (fun r h => ⟨fun c => (h c).2, sem_eq_zero_of_no_sems (by decide) _⟩) (Cert.WgDownReferenceIdeal.Value.run m ρ)

end Cert.WgDownClaims

end
-- ==== Proof.UpRows.lean ====
/-
  The gated merge, the residual, the norm and the up-projection: each point of the grid makes 256 rows of the merge, of
  the residual stream, of the normed rows and of their product with the up-projection, and they are the host program's
  rows there.
-/
module

public import proofs.«01_k».proof.Proof.Gen.UpKernelIdeal.Value
public import proofs.«01_k».proof.Proof.Gen.UpReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.UpKernelIdeal.Value

open Cert.UpKernelIdeal Cert.UpKernelIdeal.Gen

variable (m : (ℓ : Loc nD τ sig) → Buf (Elt Ideal) ℓ)

/-- The block of each window at a point: the point's own rows, or the whole array. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The row of the whole array a row of a point's block is. -/
def row (t : Fin cfg0.N) (x : Fin 256) : Fin 8192 :=
  ⟨t.val * 256 + x.val, by have h : t.val < 32 := lt_of_lt_of_eq t.isLt N_0; have := x.isLt; omega⟩

/-- The merge at a point of the grid is the host program's at its rows. -/
theorem merge (c : Dev nD) (t : Fin cfg0.N) (x : Fin 256) (q : Fin 1024) :
    k0_pay3 (iblk m c 1 t) (iblk m c 4 t) (iblk m c 2 t) (iblk m c 5 t) (View.ld (iblk m c 3 t) r0_2) (View.ld (iblk m c 3 t) r0_3) (ix2 x q)
      = Cert.UpReferenceIdeal.Read.val_main_v24 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (ix2 (row t x) q) := by
  open UpReferenceIdeal.Read in
  pointwise [k0_pay3, val_main_v0, val_main_v1, val_main_v2, val_main_v3, val_main_v4, val_main_v5, val_main_v6, val_main_v7, val_main_v8, val_main_v9, val_main_cst, val_main_v10, val_main_v11, val_main_cst_0, val_main_v12, val_main_v13, val_main_v14, val_main_v15, val_main_v16, val_main_v17, val_main_cst_1, val_main_v18, val_main_v19, val_main_cst_2, val_main_v20, val_main_v21, val_main_v22, val_main_v23, val_main_v24]
  simp only [Ideal.logistic, row]
  blk_point [iblk, V, idx t]

/-- The residual stream after the merge is the host program's at the point's rows. -/
theorem stream (c : Dev nD) (t : Fin cfg0.N) (x : Fin 256) (q : Fin 1024) :
    k0_pay4 (iblk m c 1 t) (iblk m c 4 t) (iblk m c 2 t) (iblk m c 5 t) (View.ld (iblk m c 3 t) r0_2) (View.ld (iblk m c 3 t) r0_3) (iblk m c 0 t) (iblk m c 6 t) (ix2 x q)
      = Cert.UpReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t x) q) := by
  open UpReferenceIdeal.Read in
  pointwise [k0_pay4, val_main_v26, val_main_v25, val_main_v4]
  simp only [merge m c t]
  simp only [row]
  blk_point [iblk, V, idx t]

/-- The normed rows before the gain are the host program's at the point's rows. -/
theorem normed (c : Dev nD) (t : Fin cfg0.N) (x : Fin 256) (q : Fin 1024) :
    k0_pay5 (iblk m c 1 t) (iblk m c 4 t) (iblk m c 2 t) (iblk m c 5 t) (View.ld (iblk m c 3 t) r0_2) (View.ld (iblk m c 3 t) r0_3) (iblk m c 0 t) (iblk m c 6 t) (ix2 x q)
      = Cert.UpReferenceIdeal.Read.val_main_v36 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 (row t x) q) := by
  open UpReferenceIdeal.Read in
  pointwise [k0_pay5, val_main_v27, val_main_cst_3, val_main_v28, val_main_v29, val_main_cst_4, val_main_v30, val_main_v31, val_main_cst_5, val_main_v32, val_main_v33, val_main_v34, val_main_v35, val_main_v36]
  simp only [stream m c t]

/-- The normed rows as the point holds them, over its whole blocks. -/
theorem held (c : Dev nD) (t : Fin cfg0.N) : k0_pay6 (iblk m c 0 t) (iblk m c 1 t) (iblk m c 2 t) (iblk m c 3 t) (iblk m c 4 t) (iblk m c 5 t) (iblk m c 6 t) (iblk m c 7 t) (iblk m c 8 t)
    = k0_pay5 (iblk m c 1 t) (iblk m c 4 t) (iblk m c 2 t) (iblk m c 5 t) (View.ld (iblk m c 3 t) r0_2) (View.ld (iblk m c 3 t) r0_3) (iblk m c 0 t) (iblk m c 6 t) := by
  unfold k0_pay6
  congr 1 <;> exact View.ld_unit_lit _ _ (fun a => by fin_cases a <;> rfl)

/-- A point's block of each result lies at its own rows. -/
theorem emb9 (t : Fin cfg0.N) (x : Fin 256) (q : Fin 1024) : ((cfg0.win 9).blk t).view.emb (ix2 x q) = ix2 (row t x) q := by
  blk_ext [row, idx t]
theorem emb10 (t : Fin cfg0.N) (x : Fin 256) (q : Fin 1024) : ((cfg0.win 10).blk t).view.emb (ix2 x q) = ix2 (row t x) q := by
  blk_ext [row, idx t]
theorem emb11 (t : Fin cfg0.N) (x : Fin 256) (q : Fin 1024) : ((cfg0.win 11).blk t).view.emb (ix2 x q) = ix2 (row t x) q := by
  blk_ext [row, idx t]
theorem emb12 (t : Fin cfg0.N) (x : Fin 256) (q : Fin 5632) : ((cfg0.win 12).blk t).view.emb (ix2 x q) = ix2 (row t x) q := by
  blk_ext [row, idx t]

/-- The residual stream. -/
theorem final9 (c : Dev nD) : (dats m 0 c).arrAt 9 cfg0.N
    = Cert.UpReferenceIdeal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  idx_vars y
  blk_simp
  rw [after0_9, emb9]
  frame_out
  exact stream m c t _ _

/-- The merge. -/
theorem final10 (c : Dev nD) : (dats m 0 c).arrAt 10 cfg0.N
    = Cert.UpReferenceIdeal.Read.val_main_v39 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  idx_vars y
  blk_simp
  rw [after0_10, emb10]
  frame_out
  exact merge m c t _ _

/-- The normed rows. -/
theorem rows (c : Dev nD) (t : Fin cfg0.N) (x : Fin 256) (q : Fin 1024) :
    k0_pay1 (k0_pay5 (iblk m c 1 t) (iblk m c 4 t) (iblk m c 2 t) (iblk m c 5 t) (View.ld (iblk m c 3 t) r0_2) (View.ld (iblk m c 3 t) r0_3) (iblk m c 0 t) (iblk m c 6 t)) (iblk m c 7 t) (ix2 x q)
      = Cert.UpReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t x) q) := by
  open UpReferenceIdeal.Read in
  pointwise [k0_pay1, val_main_v38, val_main_v37]
  rw [normed m c t]
  simp only [row]
  blk_point [iblk, V, idx t]

theorem final11 (c : Dev nD) : (dats m 0 c).arrAt 11 cfg0.N
    = Cert.UpReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  idx_vars y
  blk_simp
  rw [after0_11, emb11]
  frame_out
  rw [held]
  exact rows m c t _ _

/-- The up-projection. -/
theorem up (c : Dev nD) (t : Fin cfg0.N) (x : Fin 256) (q : Fin 5632) :
    k0_pay2 (k0_pay5 (iblk m c 1 t) (iblk m c 4 t) (iblk m c 2 t) (iblk m c 5 t) (View.ld (iblk m c 3 t) r0_2) (View.ld (iblk m c 3 t) r0_3) (iblk m c 0 t) (iblk m c 6 t)) (iblk m c 7 t) (iblk m c 8 t) (ix2 x q)
      = Cert.UpReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t x) q) := by
  open UpReferenceIdeal.Read in
  pointwise [k0_pay2, val_main_v41, val_main_v5]
  simp only [rows m c t]
  blk_point [iblk, V, idx t]

theorem final12 (c : Dev nD) : (dats m 0 c).arrAt 12 cfg0.N
    = Cert.UpReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t _ y => ?_
  idx_vars y
  blk_simp
  rw [after0_12, emb12]
  frame_out
  rw [held]
  exact up m c t _ _

end Cert.UpKernelIdeal.Value

end
-- ==== Proof.UpClaims.lean ====
/- The equation of the merge, norm and up-projection: the kernel's run and the reference's at the same stages, and the claim from the two. -/
module

public import proofs.«01_k».proof.Defs
public import proofs.«01_k».proof.Proof.Gen.UpKernel.Frame
public import proofs.«01_k».proof.Proof.Gen.UpReferenceIdeal.Run
public import proofs.«01_k».proof.Proof.UpRows
public import Idealize.ShloMosaic.Lib.Quiescent

@[expose] public section

noncomputable section

open Idealize.ShloMosaic Idealize.ShloMosaic.TcCoe Idealize.SL.Sem

namespace Cert.UpClaims

/-- The reference's run, each result at its stage, the arguments kept. -/
theorem stages (m : (ℓ : Loc Cert.UpReferenceIdeal.nD Cert.UpReferenceIdeal.τ Cert.UpReferenceIdeal.sig) → Buf (Elt Ideal) ℓ) (ρ : Dev Cert.UpReferenceIdeal.nD → PrngReg) :
    θ_run (Cert.UpReferenceIdeal.defs (F := Ideal)) (onTc (τ := Cert.UpReferenceIdeal.τ) (Cert.UpReferenceIdeal.main (F := Ideal))) ⟨m, fun _ => 0, ρ⟩ fun r => ∀ c : Dev Cert.UpReferenceIdeal.nD,
      r.2.mem ((c.tc : Thread Cert.UpReferenceIdeal.nD Cert.UpReferenceIdeal.τ).loc Cert.UpReferenceIdeal.main_v26) = Cert.UpReferenceIdeal.Read.val_main_v26 (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6))
      ∧ r.2.mem ((c.tc : Thread Cert.UpReferenceIdeal.nD Cert.UpReferenceIdeal.τ).loc Cert.UpReferenceIdeal.main_v39) = Cert.UpReferenceIdeal.Read.val_main_v39 (F := Ideal) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5))
      ∧ r.2.mem ((c.tc : Thread Cert.UpReferenceIdeal.nD Cert.UpReferenceIdeal.τ).loc Cert.UpReferenceIdeal.main_v40) = Cert.UpReferenceIdeal.Read.val_main_v40 (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7))
      ∧ r.2.mem ((c.tc : Thread Cert.UpReferenceIdeal.nD Cert.UpReferenceIdeal.τ).loc Cert.UpReferenceIdeal.main_v41) = Cert.UpReferenceIdeal.Read.val_main_v41 (F := Ideal) (m ((c.tc : Thread Cert.UpReferenceIdeal.nD Cert.UpReferenceIdeal.τ).loc Cert.UpReferenceIdeal.main_arg0)) (m ((c.tc : Thread Cert.UpReferenceIdeal.nD Cert.UpReferenceIdeal.τ).loc Cert.UpReferenceIdeal.main_arg1)) (m ((c.tc : Thread Cert.UpReferenceIdeal.nD Cert.UpReferenceIdeal.τ).loc Cert.UpReferenceIdeal.main_arg2)) (m ((c.tc : Thread Cert.UpReferenceIdeal.nD Cert.UpReferenceIdeal.τ).loc Cert.UpReferenceIdeal.main_arg3)) (m ((c.tc : Thread Cert.UpReferenceIdeal.nD Cert.UpReferenceIdeal.τ).loc Cert.UpReferenceIdeal.main_arg4)) (m ((c.tc : Thread Cert.UpReferenceIdeal.nD Cert.UpReferenceIdeal.τ).loc Cert.UpReferenceIdeal.main_arg5)) (m ((c.tc : Thread Cert.UpReferenceIdeal.nD Cert.UpReferenceIdeal.τ).loc Cert.UpReferenceIdeal.main_arg6)) (m ((c.tc : Thread Cert.UpReferenceIdeal.nD Cert.UpReferenceIdeal.τ).loc Cert.UpReferenceIdeal.main_arg7)) (m ((c.tc : Thread Cert.UpReferenceIdeal.nD Cert.UpReferenceIdeal.τ).loc Cert.UpReferenceIdeal.main_arg8))
      ∧ r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7)
      ∧ r.2.mem ((c.tc : Thread Cert.UpReferenceIdeal.nD Cert.UpReferenceIdeal.τ).loc Cert.UpReferenceIdeal.main_arg8) = m ((c.tc : Thread Cert.UpReferenceIdeal.nD Cert.UpReferenceIdeal.τ).loc Cert.UpReferenceIdeal.main_arg8) :=
  (θ_run _ _ _).mono (fun r h c => ⟨(h c).1.trans (Cert.UpReferenceIdeal.Read.val_main_v26_eq ..), (h c).2.1.trans (Cert.UpReferenceIdeal.Read.val_main_v39_eq ..), (h c).2.2.1.trans (Cert.UpReferenceIdeal.Read.val_main_v40_eq ..), (h c).2.2.2.1.trans (Cert.UpReferenceIdeal.Read.val_main_v41_eq ..), (h c).2.2.2.2⟩)
    (Cert.UpReferenceIdeal.Value.run m ρ)

/-- The kernel's run, each result at the reference's stage over the kernel's own arguments, the arguments kept. -/
theorem results (m : (ℓ : Loc Cert.UpKernelIdeal.nD Cert.UpKernelIdeal.τ Cert.UpKernelIdeal.sig) → Buf (Elt Ideal) ℓ) (ρ : Dev Cert.UpKernelIdeal.nD → PrngReg) :
    θ_run (Cert.UpKernelIdeal.defs (F := Ideal)) (onTc (τ := Cert.UpKernelIdeal.τ) (Cert.UpKernelIdeal.main (F := Ideal))) ⟨m, fun _ => 0, ρ⟩ fun r => ∀ c : Dev Cert.UpKernelIdeal.nD,
      r.2.mem ((c.tc : Thread Cert.UpKernelIdeal.nD Cert.UpKernelIdeal.τ).loc Cert.UpKernelIdeal.main_v0_0) = Cert.UpReferenceIdeal.Read.val_main_v26 (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6))
      ∧ r.2.mem ((c.tc : Thread Cert.UpKernelIdeal.nD Cert.UpKernelIdeal.τ).loc Cert.UpKernelIdeal.main_v0_1) = Cert.UpReferenceIdeal.Read.val_main_v39 (F := Ideal) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5))
      ∧ r.2.mem ((c.tc : Thread Cert.UpKernelIdeal.nD Cert.UpKernelIdeal.τ).loc Cert.UpKernelIdeal.main_v0_2) = Cert.UpReferenceIdeal.Read.val_main_v40 (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)) (m ((c.tc : Thread Cert.UpKernelIdeal.nD Cert.UpKernelIdeal.τ).loc Cert.UpKernelIdeal.main_arg7))
      ∧ r.2.mem ((c.tc : Thread Cert.UpKernelIdeal.nD Cert.UpKernelIdeal.τ).loc Cert.UpKernelIdeal.main_v0_3) = Cert.UpReferenceIdeal.Read.val_main_v41 (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)) (m ((c.tc : Thread Cert.UpKernelIdeal.nD Cert.UpKernelIdeal.τ).loc Cert.UpKernelIdeal.main_arg7)) (m ((c.tc : Thread Cert.UpKernelIdeal.nD Cert.UpKernelIdeal.τ).loc Cert.UpKernelIdeal.main_arg8))
      ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4)
      ∧ r.2.mem ((c.tc : Thread Cert.UpKernelIdeal.nD Cert.UpKernelIdeal.τ).loc Cert.UpKernelIdeal.main_arg5) = m ((c.tc : Thread Cert.UpKernelIdeal.nD Cert.UpKernelIdeal.τ).loc Cert.UpKernelIdeal.main_arg5)
      ∧ r.2.mem ((c.tc : Thread Cert.UpKernelIdeal.nD Cert.UpKernelIdeal.τ).loc Cert.UpKernelIdeal.main_arg6) = m ((c.tc : Thread Cert.UpKernelIdeal.nD Cert.UpKernelIdeal.τ).loc Cert.UpKernelIdeal.main_arg6)
      ∧ r.2.mem ((c.tc : Thread Cert.UpKernelIdeal.nD Cert.UpKernelIdeal.τ).loc Cert.UpKernelIdeal.main_arg7) = m ((c.tc : Thread Cert.UpKernelIdeal.nD Cert.UpKernelIdeal.τ).loc Cert.UpKernelIdeal.main_arg7)
      ∧ r.2.mem ((c.tc : Thread Cert.UpKernelIdeal.nD Cert.UpKernelIdeal.τ).loc Cert.UpKernelIdeal.main_arg8) = m ((c.tc : Thread Cert.UpKernelIdeal.nD Cert.UpKernelIdeal.τ).loc Cert.UpKernelIdeal.main_arg8) :=
  (θ_run _ _ _).mono (fun r h c => ⟨(h c).1.trans (Cert.UpKernelIdeal.Value.final9 m c), (h c).2.1.trans (Cert.UpKernelIdeal.Value.final10 m c), (h c).2.2.1.trans (Cert.UpKernelIdeal.Value.final11 m c), (h c).2.2.2.1.trans (Cert.UpKernelIdeal.Value.final12 m c), (h c).2.2.2.2⟩)
    (Cert.UpKernelIdeal.Value.run_blocks m ρ)

theorem algebraic : Cert.algebraic_UpKernelIdeal_UpReferenceIdeal (hUpKernelIdeal := Cert.UpKernelIdeal.Gen.facts) (hUpReferenceIdeal := Cert.UpReferenceIdeal.Gen.facts) := by
  intro m g m' g' _ hagree
  refine ⟨fun c => Cert.UpReferenceIdeal.Read.val_main_v26 (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)), fun c => Cert.UpReferenceIdeal.Read.val_main_v39 (F := Ideal) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)), fun c => Cert.UpReferenceIdeal.Read.val_main_v40 (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)) (m ((c.tc : Thread Cert.UpKernelIdeal.nD Cert.UpKernelIdeal.τ).loc Cert.UpKernelIdeal.main_arg7)), fun c => Cert.UpReferenceIdeal.Read.val_main_v41 (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4)) (m ((c.tc : Thread Cert.UpKernelIdeal.nD Cert.UpKernelIdeal.τ).loc Cert.UpKernelIdeal.main_arg5)) (m ((c.tc : Thread Cert.UpKernelIdeal.nD Cert.UpKernelIdeal.τ).loc Cert.UpKernelIdeal.main_arg6)) (m ((c.tc : Thread Cert.UpKernelIdeal.nD Cert.UpKernelIdeal.τ).loc Cert.UpKernelIdeal.main_arg7)) (m ((c.tc : Thread Cert.UpKernelIdeal.nD Cert.UpKernelIdeal.τ).loc Cert.UpKernelIdeal.main_arg8)), results m g, ?_⟩
  refine (θ_run _ _ _).mono (fun r h c => ?_) (stages m' g')
  obtain ⟨a0, a1, a2, a3, a4, a5, a6, a7, a8⟩ := hagree c
  obtain ⟨h0, h1, h2, h3, hk⟩ := h c
  rw [a0, a1, a2, a3, a4, a5, a6] at h0
  rw [a1, a2, a3, a4, a5] at h1
  rw [a0, a1, a2, a3, a4, a5, a6, a7] at h2
  rw [a0, a1, a2, a3, a4, a5, a6, a7, a8] at h3
  exact ⟨h0, h1, h2, h3, hk⟩

theorem quiet : Cert.quiescent_UpReferenceIdeal (hUpReferenceIdeal := Cert.UpReferenceIdeal.Gen.facts) := fun m ρ _ =>
  (θ_run _ _ _).mono (fun r h => ⟨fun c => (h c).2.2.2.2, sem_eq_zero_of_no_sems (by decide) _⟩) (Cert.UpReferenceIdeal.Value.run m ρ)

end Cert.UpClaims

end
-- ==== Proof.Finite.lean ====
/-
  Real numbers among the extended reals, and sums over the rows of a sequence: what the gradient of the convolution and of
  the gate needs. Products distribute over sums of real numbers, which the two ways of writing the gate's gradient differ
  by. A sum over tiles taken from the last to the first is the sum over all rows, and a sum against rows moved down by some
  rows is the sum against the other factor moved up by as many.
-/
module

public import Idealize.ShloMosaic.Lib.Pipeline.ValueKit
public import Idealize.ShloMosaic.Lib.Pointwise

@[expose] public section

open Idealize.ShloMosaic
open scoped BigOperators

namespace Cert.Finite

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.zero : IsReal 0 := ⟨0, rfl⟩

theorem IsReal.one : IsReal 1 := ⟨1, rfl⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.sum {ι : Type*} (s : Finset ι) (f : ι → EReal) (h : ∀ i, IsReal (f i)) : IsReal (∑ i ∈ s, f i) :=
  Finset.sum_induction f IsReal (fun _ _ => IsReal.add) IsReal.zero fun i _ => h i

theorem IsReal.tanh {x : EReal} (hx : IsReal x) : IsReal (Ideal.tanh x) := by
  obtain ⟨a, rfl⟩ := hx
  exact ⟨Real.tanh a, rfl⟩

/-- An extended real whose magnitude is below infinity is a real number. -/
theorem IsReal.of_abs_lt {x : EReal} (h : max x (-x) < ⊤) : IsReal x := by
  induction x with
  | bot => simp at h
  | top => simp at h
  | coe r => exact ⟨r, rfl⟩

/-- The constants of the activation are real. -/
theorem ofBits_c : IsReal (Ideal.ofBits FTy.f32 1061962282#32) :=
  ⟨_, rfl⟩

theorem ofBits_k : IsReal (Ideal.ofBits FTy.f32 1027024659#32) := ⟨_, rfl⟩

theorem ofBits_three : IsReal (Ideal.ofBits FTy.f32 1077936128#32) := ⟨_, rfl⟩

theorem ofBits_h : IsReal (Ideal.ofBits FTy.f32 1056964608#32) := ⟨_, rfl⟩

/-- The gate's gradient of real numbers: the incoming gradient times the derivative against the derivative's terms with the
    incoming gradient inside. -/
theorem gate (d g v s w q : EReal) (h c k : ℝ) (hd : IsReal d) (hg : IsReal g) (hv : IsReal v) (hs : IsReal s)
    (hw : IsReal w) (hq : IsReal q) :
    d * (v * s + c * (h * (g * v) * w) + k * (c * (h * (g * v) * w)) * q)
      = d * v * s + c * (h * (g * (d * v)) * w) + k * (c * (h * (g * (d * v)) * w)) * q := by
  obtain ⟨d, rfl⟩ := hd
  obtain ⟨g, rfl⟩ := hg
  obtain ⟨v, rfl⟩ := hv
  obtain ⟨s, rfl⟩ := hs
  obtain ⟨w, rfl⟩ := hw
  obtain ⟨q, rfl⟩ := hq
  simp only [← EReal.coe_mul, ← EReal.coe_add]
  congr 1
  ring

/-- A sum over tiles of 128 rows taken from the last tile to the first is the sum over the rows. -/
theorem sum_tiles {M : Type*} [AddCommMonoid M] (f : Fin 64 → Fin 128 → M) (g : Fin 8192 → M)
    (h : ∀ (s : Fin 64) (x : Fin 128) (hl : (63 - s.val) * 128 + x.val < 8192), f s x = g ⟨(63 - s.val) * 128 + x.val, hl⟩) :
    ∑ s, ∑ x, f s x = ∑ r, g r := by
  rw [← Equiv.sum_comp Fin.revPerm]
  refine Fin.sum_mul_add_congr fun s k hl => ?_
  have e : 63 - (Fin.revPerm s).val = s.val := by
    simp only [Fin.revPerm_apply, Fin.val_rev]; omega
  rw [h _ k (by rw [e]; exact hl)]
  congr 1
  exact Fin.ext (by simp only [e])

/-- Rows moved up by `k`, zeros past the end, against a factor, summed over the rows: the rows against the factor moved
    down by `k`, zeros before the start. -/
theorem sum_shift (n k : ℕ) (hk : k ≤ n) (D A : ℕ → EReal) :
    ∑ r : Fin n, (if r.val + k < n then D (r.val + k) else 0) * A r.val
      = ∑ r : Fin n, D r.val * (if r.val < k then 0 else A (r.val - k)) := by
  obtain ⟨j, rfl⟩ := Nat.exists_eq_add_of_le hk
  rw [Fin.sum_univ_eq_sum_range (fun r => (if r + k < k + j then D (r + k) else 0) * A r),
    Fin.sum_univ_eq_sum_range (fun r => D r * (if r < k then 0 else A (r - k)))]
  have hl : ∑ r ∈ Finset.range (k + j), (if r + k < k + j then D (r + k) else 0) * A r
      = ∑ r ∈ Finset.range j, D (r + k) * A r := by
    rw [add_comm k j, Finset.sum_range_add, Finset.sum_eq_zero (s := Finset.range k), add_zero]
    · exact Finset.sum_congr rfl fun r hr => by rw [if_pos (by have := Finset.mem_range.mp hr; omega)]
    · intro r _
      rw [if_neg (by omega), zero_mul]
  rw [hl, Finset.sum_range_add, Finset.sum_eq_zero (s := Finset.range k), zero_add]
  · exact Finset.sum_congr rfl fun r _ => by rw [if_neg (by omega), add_comm r k, Nat.add_sub_cancel_left]
  · intro r hr
    rw [if_pos (Finset.mem_range.mp hr), mul_zero]

end Cert.Finite
-- ==== Proof.FfnBase.lean ====
/-
  The MLP's backward call: the blocks its points read, what the host prepares for it, and the gradient of the convolution's
  output, tile by tile from the last rows to the first.
-/
module

public import proofs.«01_k».proof.Proof.Gen.FfnKernelIdeal.Value
public import proofs.«01_k».proof.Proof.Gen.FfnReferenceIdeal.Read
public import proofs.«01_k».proof.Proof.Norm
public import proofs.«01_k».proof.Proof.Finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FfnKernelIdeal.Value

open Cert.FfnKernelIdeal Cert.FfnKernelIdeal.Gen

variable (m : (ℓ : Loc nD τ sig) → Buf (Elt Ideal) ℓ)

/-- The block of each window at a point: the point's own rows, counted from the last, or the whole array. -/
theorem idx : ∀ t : Fin cfg0.N, win0_0.index t = ![63 - t.val, 0] ∧ win0_1.index t = ![63 - t.val, 0] ∧ win0_2.index t = ![63 - t.val, 0]
    ∧ win0_3.index t = ![63 - t.val, 0] ∧ win0_4.index t = ![0, 0] ∧ win0_5.index t = ![0, 0] ∧ win0_6.index t = ![0, 0]
    ∧ win0_7.index t = ![63 - t.val, 0] ∧ win0_8.index t = ![0, 0] ∧ win0_9.index t = ![63 - t.val, 0]
    ∧ win0_10.index t = ![63 - t.val, 0] ∧ win0_11.index t = ![0, 0] ∧ win0_12.index t = ![0, 0] ∧ win0_13.index t = ![0, 0] :=
  (by decide +kernel : ∀ t : Fin grid0.N, _)

/-- The row of the whole array a row of a point's block is. -/
def row (t : Fin cfg0.N) (x : Fin 128) : Fin 8192 :=
  ⟨(63 - t.val) * 128 + x.val, by have := x.isLt; omega⟩

/-- The arrays the call is claimed for are finite: the gradient coming in, the up-projected rows, the convolution, the
    down-projection's weight. -/
structure AllReal (c : Dev nD) : Prop where
  dx : ∀ i, Finite.IsReal (m ((c : Thread nD τ).loc main_arg0) i)
  up : ∀ i, Finite.IsReal (m ((c : Thread nD τ).loc main_arg1) i)
  cw : ∀ i, Finite.IsReal (m ((c : Thread nD τ).loc main_arg3) i)
  cb : ∀ i, Finite.IsReal (m ((c : Thread nD τ).loc main_arg4) i)
  wd : ∀ i, Finite.IsReal (m ((c : Thread nD τ).loc main_arg5) i)

/-- The activated gate, as the host prepares it. -/
theorem host_b (c : Dev nD) : V m c main_v46 = Cert.FfnReferenceIdeal.Read.val_main_v49 (F := Ideal) (m ((c : Thread nD τ).loc main_arg1)) (m ((c : Thread nD τ).loc main_arg3)) (m ((c : Thread nD τ).loc main_arg4)) := by
  entry_read
  rfl

/-- The other half's factor, as the host prepares it. -/
theorem host_a (c : Dev nD) : V m c main_v58 = (addf (addf (mulf (Cert.FfnReferenceIdeal.Read.val_main_v28 (F := Ideal) (m ((c : Thread nD τ).loc main_arg1)) (m ((c : Thread nD τ).loc main_arg3)) (m ((c : Thread nD τ).loc main_arg4))) (Cert.FfnReferenceIdeal.Read.val_main_v48 (F := Ideal) (m ((c : Thread nD τ).loc main_arg1)) (m ((c : Thread nD τ).loc main_arg3)) (m ((c : Thread nD τ).loc main_arg4))))
      (mulf (Cert.FfnReferenceIdeal.Read.val_main_v60 (F := Ideal)) (mulf (mulf (Cert.FfnReferenceIdeal.Read.val_main_v57 (F := Ideal)) (mulf (Cert.FfnReferenceIdeal.Read.val_main_v27 (F := Ideal) (m ((c : Thread nD τ).loc main_arg1)) (m ((c : Thread nD τ).loc main_arg3)) (m ((c : Thread nD τ).loc main_arg4))) (Cert.FfnReferenceIdeal.Read.val_main_v28 (F := Ideal) (m ((c : Thread nD τ).loc main_arg1)) (m ((c : Thread nD τ).loc main_arg3)) (m ((c : Thread nD τ).loc main_arg4))))) (Cert.FfnReferenceIdeal.Read.val_main_v44 (F := Ideal) (m ((c : Thread nD τ).loc main_arg1)) (m ((c : Thread nD τ).loc main_arg3)) (m ((c : Thread nD τ).loc main_arg4))))))
    (mulf (mulf (Cert.FfnReferenceIdeal.Read.val_main_v63 (F := Ideal)) (mulf (Cert.FfnReferenceIdeal.Read.val_main_v60 (F := Ideal)) (mulf (mulf (Cert.FfnReferenceIdeal.Read.val_main_v57 (F := Ideal)) (mulf (Cert.FfnReferenceIdeal.Read.val_main_v27 (F := Ideal) (m ((c : Thread nD τ).loc main_arg1)) (m ((c : Thread nD τ).loc main_arg3)) (m ((c : Thread nD τ).loc main_arg4))) (Cert.FfnReferenceIdeal.Read.val_main_v28 (F := Ideal) (m ((c : Thread nD τ).loc main_arg1)) (m ((c : Thread nD τ).loc main_arg3)) (m ((c : Thread nD τ).loc main_arg4))))) (Cert.FfnReferenceIdeal.Read.val_main_v44 (F := Ideal) (m ((c : Thread nD τ).loc main_arg1)) (m ((c : Thread nD τ).loc main_arg3)) (m ((c : Thread nD τ).loc main_arg4)))))) (Cert.FfnReferenceIdeal.Read.val_main_v33 (F := Ideal) (m ((c : Thread nD τ).loc main_arg1)) (m ((c : Thread nD τ).loc main_arg3)) (m ((c : Thread nD τ).loc main_arg4)))) : FVec Ideal S8192x2816 .f32) := by
  entry_read
  rfl

/-- The convolution's output is real. -/
theorem conv_real (c : Dev nD) (hr : AllReal m c) (i : Cert.FfnReferenceIdeal.S8192x5632.Idx) : Finite.IsReal (Cert.FfnReferenceIdeal.Read.val_main_v26 (F := Ideal) (m ((c : Thread nD τ).loc main_arg1)) (m ((c : Thread nD τ).loc main_arg3)) (m ((c : Thread nD τ).loc main_arg4)) i) := by
  have ha : ∀ i, Finite.IsReal (Cert.FfnReferenceIdeal.Read.val_main_v3 (F := Ideal) (m ((c : Thread nD τ).loc main_arg1)) i) := by
    intro i
    idx_vars i
    open FfnReferenceIdeal.Read in
    pointwise [val_main_v3, val_main_v2, val_main_cst]
    split
    · exact Finite.IsReal.zero
    · exact hr.up _
  idx_vars i
  open FfnReferenceIdeal.Read in
  pointwise [val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  exact (((hr.cb _).add ((hr.cw _).mul (ha _))).add ((hr.cw _).mul (ha _))).add ((hr.cw _).mul (ha _))

/-- The gradient of the gated rows is real. -/
theorem down_real (c : Dev nD) (hr : AllReal m c) (i : Cert.FfnReferenceIdeal.S8192x2816.Idx) : Finite.IsReal (Cert.FfnReferenceIdeal.Read.val_main_v52 (F := Ideal) (m ((c : Thread nD τ).loc main_arg0)) (m ((c : Thread nD τ).loc main_arg5)) i) := by
  idx_vars i
  open FfnReferenceIdeal.Read in
  pointwise [val_main_v52, val_main_v0]
  exact Finite.IsReal.sum _ _ fun k => (hr.dx _).mul (hr.wd _)

/-- The gradient of the gated rows, at a point. -/
theorem down (c : Dev nD) (t : Fin cfg0.N) (x : Fin 128) (q : Fin 2816) :
    ∑ k : Fin 1024, (show EReal from iblk m c 0 t (ix2 x k)) * (show EReal from iblk m c 5 t (ix2 q k)) = Cert.FfnReferenceIdeal.Read.val_main_v52 (F := Ideal) (m ((c : Thread nD τ).loc main_arg0)) (m ((c : Thread nD τ).loc main_arg5)) (ix2 (row t x) q) := by
  open FfnReferenceIdeal.Read in
  pointwise [val_main_v52, val_main_v0]
  simp only [row]
  blk_point [iblk, V, idx t]

/-- The gate's side of the block the host prepares, at a point. -/
theorem in2 (c : Dev nD) (t : Fin cfg0.N) (x : Fin 128) (q : Fin 2816) : iblk m c 2 t (ix2 x q) = V m c main_v58 (ix2 (row t x) q) := by
  simp only [row]
  blk_point [iblk, idx t]

/-- The other side of the block the host prepares, at a point. -/
theorem in3 (c : Dev nD) (t : Fin cfg0.N) (x : Fin 128) (q : Fin 2816) : iblk m c 3 t (ix2 x q) = Cert.FfnReferenceIdeal.Read.val_main_v49 (F := Ideal) (m ((c : Thread nD τ).loc main_arg1)) (m ((c : Thread nD τ).loc main_arg3)) (m ((c : Thread nD τ).loc main_arg4)) (ix2 (row t x) q) := by
  rw [← host_b]
  simp only [row]
  blk_point [iblk, idx t]

/-- The stages of the activation are real. -/
theorem gate_real (c : Dev nD) (hr : AllReal m c) (i : Cert.FfnReferenceIdeal.S8192x2816.Idx) :
    Finite.IsReal (Cert.FfnReferenceIdeal.Read.val_main_v27 (F := Ideal) (m ((c : Thread nD τ).loc main_arg1)) (m ((c : Thread nD τ).loc main_arg3)) (m ((c : Thread nD τ).loc main_arg4)) i) ∧ Finite.IsReal (Cert.FfnReferenceIdeal.Read.val_main_v28 (F := Ideal) (m ((c : Thread nD τ).loc main_arg1)) (m ((c : Thread nD τ).loc main_arg3)) (m ((c : Thread nD τ).loc main_arg4)) i) ∧ Finite.IsReal (Cert.FfnReferenceIdeal.Read.val_main_v48 (F := Ideal) (m ((c : Thread nD τ).loc main_arg1)) (m ((c : Thread nD τ).loc main_arg3)) (m ((c : Thread nD τ).loc main_arg4)) i) ∧ Finite.IsReal (Cert.FfnReferenceIdeal.Read.val_main_v44 (F := Ideal) (m ((c : Thread nD τ).loc main_arg1)) (m ((c : Thread nD τ).loc main_arg3)) (m ((c : Thread nD τ).loc main_arg4)) i) ∧ Finite.IsReal (Cert.FfnReferenceIdeal.Read.val_main_v33 (F := Ideal) (m ((c : Thread nD τ).loc main_arg1)) (m ((c : Thread nD τ).loc main_arg3)) (m ((c : Thread nD τ).loc main_arg4)) i) := by
  have h27 : ∀ i, Finite.IsReal (Cert.FfnReferenceIdeal.Read.val_main_v27 (F := Ideal) (m ((c : Thread nD τ).loc main_arg1)) (m ((c : Thread nD τ).loc main_arg3)) (m ((c : Thread nD τ).loc main_arg4)) i) := fun i => conv_real m c hr _
  have h28 : Finite.IsReal (Cert.FfnReferenceIdeal.Read.val_main_v28 (F := Ideal) (m ((c : Thread nD τ).loc main_arg1)) (m ((c : Thread nD τ).loc main_arg3)) (m ((c : Thread nD τ).loc main_arg4)) i) := conv_real m c hr _
  have h39 : Finite.IsReal (Cert.FfnReferenceIdeal.Read.val_main_v39 (F := Ideal) (m ((c : Thread nD τ).loc main_arg1)) (m ((c : Thread nD τ).loc main_arg3)) (m ((c : Thread nD τ).loc main_arg4)) i) := by
    idx_vars i
    open FfnReferenceIdeal.Read in
    pointwise [val_main_v39, val_main_v38, val_main_v37, val_main_cst_3, val_main_v36, val_main_v35, val_main_v34, val_main_cst_2, val_main_v30, val_main_v29]
    exact Finite.IsReal.tanh (Finite.ofBits_c.mul ((h27 _).add (Finite.ofBits_k.mul (((h27 _).mul (h27 _)).mul (h27 _)))))
  idx_vars i
  refine ⟨h27 _, h28, ?_, ?_, ?_⟩
  · open FfnReferenceIdeal.Read in
    pointwise [val_main_v48, val_main_v47, val_main_cst_7, val_main_v46, val_main_v45, val_main_cst_6]
    exact Finite.ofBits_h.mul (Finite.IsReal.one.add h39)
  · open FfnReferenceIdeal.Read in
    pointwise [val_main_v44, val_main_v43, val_main_v42, val_main_cst_5, val_main_v41, val_main_v40, val_main_cst_4]
    exact (Finite.IsReal.one.add h39).mul (Finite.IsReal.one.sub h39)
  · open FfnReferenceIdeal.Read in
    pointwise [val_main_v33, val_main_v32, val_main_cst_1, val_main_v31]
    exact Finite.ofBits_three.mul ((h27 _).mul (h27 _))

/-- The gradient of the convolution's output, at a point. -/
theorem dc (c : Dev nD) (hr : AllReal m c) (t : Fin cfg0.N) (x : Fin 128) (q : Fin 5632) :
    k0_pay7 (iblk m c 0 t) (iblk m c 5 t) (iblk m c 2 t) (iblk m c 3 t) (ix2 x q) = Cert.FfnReferenceIdeal.Read.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (row t x) q) := by
  open FfnReferenceIdeal.Read in
  pointwise [k0_pay7, val_main_v67, val_main_v66, val_main_v65, val_main_v64, val_main_v63, val_main_cst_10, val_main_v62, val_main_v61, val_main_v60, val_main_cst_9, val_main_v59, val_main_v58, val_main_v57, val_main_cst_8, val_main_v56, val_main_v55, val_main_v54, val_main_v53]
  split
  · rename_i h
    refine (congrArg₂ (fun a b : EReal => a * b) (down m c t x ⟨q.val, h⟩) (in2 m c t x ⟨q.val, h⟩)).trans ?_
    rw [host_a]
    open FfnReferenceIdeal.Read in
    pointwise [val_main_v63, val_main_cst_10, val_main_v60, val_main_cst_9, val_main_v57, val_main_cst_8]
    obtain ⟨hg, hv, hs, hw, hq⟩ := gate_real m c hr (ix2 (row t x) ⟨q.val, h⟩)
    obtain ⟨h1, e1⟩ := Finite.ofBits_h
    obtain ⟨c1, e2⟩ := Finite.ofBits_c
    obtain ⟨k1, e3⟩ := Finite.ofBits_k
    rw [e1, e2, e3]
    exact Finite.gate _ _ _ _ _ _ _ _ _ (down_real m c hr _) hg hv hs hw hq
  · rename_i h
    exact (congrArg₂ (fun a b : EReal => a * b) (down m c t x ⟨q.val - 2816, by have := q.isLt; omega⟩) (in3 m c t x ⟨q.val - 2816, by have := q.isLt; omega⟩)).trans (mul_comm _ _)

end Cert.FfnKernelIdeal.Value

end
-- ==== Proof.FfnRows.lean ====
/-
  The convolution's rows in the gradient of the feed-forward: what a point keeps for the one below it, the gradient of the
  convolution's output one and two rows further on, and the gradient of the convolution's input made of them.
-/
module

public import proofs.«01_k».proof.Proof.Gen.FfnKernelIdeal.Value
public import proofs.«01_k».proof.Proof.Gen.FfnReferenceIdeal.Read
public import proofs.«01_k».proof.Proof.FfnBase
public import proofs.«01_k».proof.Proof.Norm
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FfnKernelIdeal.Value

open Cert.FfnKernelIdeal Cert.FfnKernelIdeal.Gen

variable (m : (ℓ : Loc nD τ sig) → Buf (Elt Ideal) ℓ)

/-- The test for one row of a point, over the rows. -/
theorem mask127 : ∀ x : Fin 128, IntOp.cmpi CmpIPredicate.eq (BitVec.ofNat 32 x.val) 127#32 = if x.val = 127 then 1#1 else 0#1 := by
  decide +kernel
theorem mask126 : ∀ x : Fin 128, IntOp.cmpi CmpIPredicate.eq (BitVec.ofNat 32 x.val) 126#32 = if x.val = 126 then 1#1 else 0#1 := by
  decide +kernel

/-- The rotated rows one further on: the last is the kept one. -/
theorem shift1 (v5 : Vec Ideal S128x1024 .f32) (v6 : Vec Ideal S2816x1024 .bf16) (v9 v12 : Vec Ideal S128x2816 .f32)
    (z : Vec Ideal S1x5632 .f32) (x : Fin 128) (q : Fin 5632) :
    k0_pay8 v5 v6 v9 v12 z (ix2 x q)
      = if h : x.val + 1 < 128 then k0_pay7 v5 v6 v9 v12 (ix2 ⟨x.val + 1, h⟩ q) else z (ix2 (0 : Fin 1) q) := by
  pointwise [k0_pay8]
  rw [mask127]
  by_cases h : x.val + 1 < 128
  · have e : (⟨(x.val + 128 - 127) % 128, Nat.mod_lt _ (by decide)⟩ : Fin 128) = ⟨x.val + 1, h⟩ := Fin.ext (by simp only []; omega)
    rw [if_neg (by omega), dif_pos h, ← e]
    rfl
  · rw [if_pos (by omega), dif_neg h]
    rfl

/-- The rotated rows two further on: the last two are the kept ones. -/
theorem shift2 (v5 : Vec Ideal S128x1024 .f32) (v6 : Vec Ideal S2816x1024 .bf16) (v9 v12 : Vec Ideal S128x2816 .f32)
    (z0 z1 : Vec Ideal S1x5632 .f32) (x : Fin 128) (q : Fin 5632) :
    k0_pay12 z0 z1 k0_pay9 (k0_pay10 v5 v6 v9 v12) k0_pay11 (ix2 x q)
      = if h : x.val + 2 < 128 then k0_pay7 v5 v6 v9 v12 (ix2 ⟨x.val + 2, h⟩ q)
        else if x.val = 126 then z0 (ix2 (0 : Fin 1) q) else z1 (ix2 (0 : Fin 1) q) := by
  pointwise [k0_pay12, k0_pay9, k0_pay10, k0_pay11]
  rw [mask127, mask126]
  by_cases h : x.val + 2 < 128
  · have e : (⟨(x.val + 128 - 126) % 128, Nat.mod_lt _ (by decide)⟩ : Fin 128) = ⟨x.val + 2, h⟩ := Fin.ext (by simp only []; omega)
    rw [if_neg (by omega), if_neg (by omega), dif_pos h, ← e]
    rfl
  · rw [dif_neg h]
    by_cases h' : x.val = 126
    · rw [if_neg (by omega), if_pos h', if_pos h']; rfl
    · have h1 : x.val = 127 := by have := x.isLt; omega
      rw [if_pos h1, if_neg h', if_neg h']; rfl

/-- The gradient of the convolution's output in one column, zero beyond the last row. -/
def dcz (c : Dev nD) (q : Fin 5632) (n : ℕ) : EReal :=
  if h : n < 8192 then Cert.FfnReferenceIdeal.Read.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (⟨n, h⟩ : Fin 8192) q) else 0

theorem dcz_row (c : Dev nD) (q : Fin 5632) (r : Fin 8192) : dcz m c q r.val = Cert.FfnReferenceIdeal.Read.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r q) := dif_pos r.isLt

/-- A point's gradient of the convolution's output, and the same one and two rows further on, given the kept rows. -/
abbrev D (c : Dev nD) (t : Fin cfg0.N) : FVec Ideal S128x5632 .f32 :=
  k0_pay7 (iblk m c 0 t) (iblk m c 5 t) (iblk m c 2 t) (iblk m c 3 t)
abbrev U1 (c : Dev nD) (t : Fin cfg0.N) (z0 : Vec Ideal S1x5632 .f32) : FVec Ideal S128x5632 .f32 :=
  k0_pay8 (iblk m c 0 t) (iblk m c 5 t) (iblk m c 2 t) (iblk m c 3 t) z0
abbrev U2 (c : Dev nD) (t : Fin cfg0.N) (z0 z1 : Vec Ideal S1x5632 .f32) : FVec Ideal S128x5632 .f32 :=
  k0_pay12 z0 z1 k0_pay9 (k0_pay10 (iblk m c 0 t) (iblk m c 5 t) (iblk m c 2 t) (iblk m c 3 t)) k0_pay11

/-- What the kept rows must be at a point: the first two rows of the point above. -/
def Kept (c : Dev nD) (t : Fin cfg0.N) (z0 z1 : Vec Ideal S1x5632 .f32) : Prop :=
  ∀ q : Fin 5632, z0 (ix2 (0 : Fin 1) q) = dcz m c q ((63 - t.val) * 128 + 128)
    ∧ z1 (ix2 (0 : Fin 1) q) = dcz m c q ((63 - t.val) * 128 + 129)

theorem d0 (c : Dev nD) (hr : AllReal m c) (t : Fin cfg0.N) (x : Fin 128) (q : Fin 5632) :
    D m c t (ix2 x q) = dcz m c q ((row t x).val) := (dc m c hr t x q).trans (dcz_row m c q _).symm

theorem d1 (c : Dev nD) (hr : AllReal m c) (t : Fin cfg0.N) (z0 z1 : Vec Ideal S1x5632 .f32) (hz : Kept m c t z0 z1)
    (x : Fin 128) (q : Fin 5632) : U1 m c t z0 (ix2 x q) = dcz m c q ((row t x).val + 1) := by
  refine (shift1 _ _ _ _ _ _ _).trans ?_
  by_cases h : x.val + 1 < 128
  · rw [dif_pos h]
    exact d0 m c hr t ⟨x.val + 1, h⟩ q
  · rw [dif_neg h, (hz q).1]
    exact congrArg (dcz m c q) (by have := x.isLt; simp only [row]; omega)

theorem d2 (c : Dev nD) (hr : AllReal m c) (t : Fin cfg0.N) (z0 z1 : Vec Ideal S1x5632 .f32) (hz : Kept m c t z0 z1)
    (x : Fin 128) (q : Fin 5632) : U2 m c t z0 z1 (ix2 x q) = dcz m c q ((row t x).val + 2) := by
  refine (shift2 _ _ _ _ _ _ _ _).trans ?_
  by_cases h : x.val + 2 < 128
  · rw [dif_pos h]
    exact d0 m c hr t ⟨x.val + 2, h⟩ q
  · rw [dif_neg h]
    by_cases h' : x.val = 126
    · rw [if_pos h', (hz q).1]
      exact congrArg (dcz m c q) (by simp only [row]; omega)
    · rw [if_neg h', (hz q).2]
      exact congrArg (dcz m c q) (by have := x.isLt; simp only [row]; omega)

/-- The host program's gradient of the convolution's input: three taps of the gradient of its output. -/
theorem taps (c : Dev nD) (r : Fin 8192) (q : Fin 5632) : Cert.FfnReferenceIdeal.Read.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r q)
    = (show EReal from (m ((c : Thread nD τ).loc main_arg3)) (ix2 (2 : Fin 3) q)) * dcz m c q r.val + (show EReal from (m ((c : Thread nD τ).loc main_arg3)) (ix2 (1 : Fin 3) q)) * dcz m c q (r.val + 1)
      + (show EReal from (m ((c : Thread nD τ).loc main_arg3)) (ix2 (0 : Fin 3) q)) * dcz m c q (r.val + 2) := by
  open FfnReferenceIdeal.Read in
  pointwise [val_main_v102, val_main_v97, val_main_v84, val_main_v96, val_main_v74, val_main_v83, val_main_v69, val_main_v78, val_main_v91, val_main_v68, val_main_v77, val_main_v90, val_main_v23, val_main_v16, val_main_v8, val_main_v21, val_main_v14, val_main_v6, val_main_v20, val_main_v13, val_main_v5, val_main_cst_13, val_main_cst_17, val_main_cst_22]
  refine congrArg₂ (fun a b : EReal => a + b) (congrArg₂ (fun a b : EReal => a + b) ?_ ?_) ?_
  · rw [dcz_row]
  · by_cases h : r.val + 1 < 8192
    · rw [dif_pos (by omega), dcz, dif_pos h]
      exact congrArg (fun i : Fin 8192 => (show EReal from (m ((c : Thread nD τ).loc main_arg3)) (ix2 (1 : Fin 3) q)) * Cert.FfnReferenceIdeal.Read.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 i q)) (Fin.ext (by simp only []; omega))
    · rw [dif_neg (by omega), dcz, dif_neg h]
      exact (mul_zero _).symm
  · by_cases h : r.val + 2 < 8192
    · rw [dif_pos (by omega), dcz, dif_pos h]
      exact congrArg (fun i : Fin 8192 => (show EReal from (m ((c : Thread nD τ).loc main_arg3)) (ix2 (0 : Fin 3) q)) * Cert.FfnReferenceIdeal.Read.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 i q)) (Fin.ext (by simp only []; omega))
    · rw [dif_neg (by omega), dcz, dif_neg h]
      exact (mul_zero _).symm

theorem in4 (c : Dev nD) (t : Fin cfg0.N) (x : Fin 3) (q : Fin 5632) : iblk m c 4 t (ix2 x q) = (m ((c : Thread nD τ).loc main_arg3)) (ix2 x q) := by
  blk_point [iblk, V, idx t]
theorem in6 (c : Dev nD) (t : Fin cfg0.N) (x : Fin 1024) (q : Fin 5632) : iblk m c 6 t (ix2 x q) = (m ((c : Thread nD τ).loc main_arg6)) (ix2 x q) := by
  blk_point [iblk, V, idx t]
theorem in7 (c : Dev nD) (t : Fin cfg0.N) (x : Fin 128) (q : Fin 1024) : iblk m c 7 t (ix2 x q) = (m ((c : Thread nD τ).loc main_arg2)) (ix2 (row t x) q) := by
  simp only [row]; blk_point [iblk, V, idx t]
theorem in8 (c : Dev nD) (t : Fin cfg0.N) (q : Fin 1024) : iblk m c 8 t (ix2 (0 : Fin 1) q) = (m ((c : Thread nD τ).loc main_arg7)) (ix2 (0 : Fin 1) q) := by
  blk_point [iblk, V, idx t]
theorem in0 (c : Dev nD) (t : Fin cfg0.N) (x : Fin 128) (q : Fin 1024) : iblk m c 0 t (ix2 x q) = (m ((c : Thread nD τ).loc main_arg0)) (ix2 (row t x) q) := by
  simp only [row]; blk_point [iblk, V, idx t]
theorem in1 (c : Dev nD) (t : Fin cfg0.N) (x : Fin 128) (q : Fin 5632) : iblk m c 1 t (ix2 x q) = (m ((c : Thread nD τ).loc main_arg1)) (ix2 (row t x) q) := by
  simp only [row]; blk_point [iblk, V, idx t]

/-- The gradient of the convolution's input at a point is the host program's at its rows. -/
theorem da (c : Dev nD) (hr : AllReal m c) (t : Fin cfg0.N) (z0 z1 : Vec Ideal S1x5632 .f32) (hz : Kept m c t z0 z1)
    (x : Fin 128) (q : Fin 5632) :
    k0_pay18 (iblk m c 4 t) (D m c t) (U1 m c t z0) (U2 m c t z0 z1) (k0_pay17 (iblk m c 4 t)) (ix2 x q) = Cert.FfnReferenceIdeal.Read.val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (row t x) q) := by
  refine Eq.trans ?_ (taps m c _ q).symm
  rw [← d2 m c hr t z0 z1 hz x q, ← d1 m c hr t z0 z1 hz x q, ← d0 m c hr t x q]
  pointwise [k0_pay18, k0_pay17]
  simp only [in4 m c t]

/-- The gradient of the normed rows. -/
theorem dh (c : Dev nD) (hr : AllReal m c) (t : Fin cfg0.N) (z0 z1 : Vec Ideal S1x5632 .f32) (hz : Kept m c t z0 z1)
    (x : Fin 128) (q : Fin 1024) :
    k0_pay20 (iblk m c 4 t) (D m c t) (U1 m c t z0) (U2 m c t z0 z1) (k0_pay17 (iblk m c 4 t)) (iblk m c 6 t) (ix2 x q)
      = Cert.FfnReferenceIdeal.Read.val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 (row t x) q) := by
  open FfnReferenceIdeal.Read in
  pointwise [k0_pay20, val_main_v119, val_main_v1]
  simp only [da m c hr t z0 z1 hz, in6 m c t]

/-- The gradient of the residual stream at a point is the host program's at its rows. -/
theorem dx (c : Dev nD) (hr : AllReal m c) (t : Fin cfg0.N) (z0 z1 : Vec Ideal S1x5632 .f32) (hz : Kept m c t z0 z1)
    (x : Fin 128) (q : Fin 1024) :
    k0_pay2 (iblk m c 0 t) (k0_pay23 (iblk m c 4 t) (D m c t) (U1 m c t z0) (U2 m c t z0 z1) (k0_pay17 (iblk m c 4 t)) (iblk m c 6 t)
      (iblk m c 7 t) (iblk m c 8 t)) (ix2 x q) = Cert.FfnReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t x) q) := by
  open FfnReferenceIdeal.Read in
  pointwise [k0_pay2, k0_pay23, k0_pay22, k0_pay21, val_main_v103, val_main_cst_24, val_main_v104, val_main_v105, val_main_cst_25, val_main_v106, val_main_v107, val_main_cst_26, val_main_v108, val_main_v109, val_main_v110, val_main_v111, val_main_cst_27, val_main_v112, val_main_v113, val_main_v114, val_main_v115, val_main_v123, val_main_v124, val_main_v125, val_main_cst_29, val_main_v126, val_main_v127, val_main_v128, val_main_v129, val_main_v130, val_main_cst_30, val_main_v131, val_main_v132, val_main_cst_31, val_main_v133, val_main_v134, val_main_v135, val_main_v136, val_main_v137, val_main_v138, val_main_v139, val_main_v140]
  simp only [dh m c hr t z0 z1 hz, in7 m c t, in8 m c t, in0 m c t, Finset.univ_unique, Finset.sum_singleton]
  exact Norm.grad_row (fun k => (m ((c : Thread nD τ).loc main_arg2)) (ix2 (row t x) k)) (fun k => Cert.FfnReferenceIdeal.Read.val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 (row t x) k)
    * (m ((c : Thread nD τ).loc main_arg7)) (ix2 (0 : Fin 1) k)) _ _ (Norm.mean_pos _) q

/-- The rows a point keeps are the first eight of its gradient of the convolution's output. -/
theorem carry (c : Dev nD) (hr : AllReal m c) (t : Fin cfg0.N) (a : Fin 8) (q : Fin 5632) :
    (outsAt0 m c t.val t.isLt).2.2.2.2.2 (ix2 a q) = dcz m c q ((63 - t.val) * 128 + a.val) := by
  by_cases h0 : t.val % 64 = 0
  · rw [outsAt0_A m c t h0]
    frame_out
    pointwise [k0_pay19]
    exact d0 m c hr t ⟨a.val, by omega⟩ q
  · rw [outsAt0_B m c t h0]
    frame_out
    pointwise [k0_pay19]
    exact d0 m c hr t ⟨a.val, by omega⟩ q

/-- What a point finds kept: nothing at the last rows, else the first rows of the point above. -/
theorem keptA (c : Dev nD) (t : Fin cfg0.N) (h0 : t.val % 64 = 0) (z0 z1 : Vec Ideal S1x5632 .f32) (e0 : ∀ i, z0 i = (0 : EReal))
    (e1 : ∀ i, z1 i = (0 : EReal)) : Kept m c t z0 z1 := by
  have ht : t.val = 0 := by have h : t.val < 64 := lt_of_lt_of_eq t.isLt N_0; omega
  refine fun q => ⟨(e0 _).trans ?_, (e1 _).trans ?_⟩
  · rw [dcz, dif_neg (by omega)]
  · rw [dcz, dif_neg (by omega)]

theorem pay3 (i : S8x5632.Idx) : k0_pay3 (F := Ideal) i = (0 : EReal) := by pointwise! [k0_pay3]

theorem keptB (c : Dev nD) (hr : AllReal m c) (t s : Fin cfg0.N) (h0 : ¬t.val % 64 = 0) (hs : s.val = t.val - 1) :
    Kept m c t
      (View.ld (outsAt0 m c s.val s.isLt).2.2.2.2.2 (Rect.unit ![0, 0] ![1, 5632] inb_S8x5632_S1x5632_0_0))
      (View.ld (outsAt0 m c s.val s.isLt).2.2.2.2.2 (Rect.unit ![1, 0] ![1, 5632] inb_S8x5632_S1x5632_1_0)) := by
  have h : t.val < 64 := lt_of_lt_of_eq t.isLt N_0
  intro q
  refine ⟨?_, ?_⟩
  · have e : (Rect.unit (s := S8x5632) ![0, 0] ![1, 5632] inb_S8x5632_S1x5632_0_0).emb (ix2 (0 : Fin 1) q) = ix2 (0 : Fin 8) q := by blk_ext []
    refine (congrArg (outsAt0 m c s.val s.isLt).2.2.2.2.2 e).trans ((carry m c hr s 0 q).trans (congrArg (dcz m c q) ?_))
    simp only [Fin.val_zero]
    omega
  · have e : (Rect.unit (s := S8x5632) ![1, 0] ![1, 5632] inb_S8x5632_S1x5632_1_0).emb (ix2 (0 : Fin 1) q) = ix2 (1 : Fin 8) q := by blk_ext []
    refine (congrArg (outsAt0 m c s.val s.isLt).2.2.2.2.2 e).trans ((carry m c hr s 1 q).trans (congrArg (dcz m c q) ?_))
    simp only [Fin.val_one]
    omega

theorem emb9 (t : Fin cfg0.N) (x : Fin 128) (q : Fin 5632) : ((cfg0.win 9).blk t).view.emb (ix2 x q) = ix2 (row t x) q := by
  blk_ext [row, idx t]
theorem emb10 (t : Fin cfg0.N) (x : Fin 128) (q : Fin 1024) : ((cfg0.win 10).blk t).view.emb (ix2 x q) = ix2 (row t x) q := by
  blk_ext [row, idx t]

theorem final9 (c : Dev nD) (hr : AllReal m c) : (dats m 0 c).arrAt 9 cfg0.N
    = Cert.FfnReferenceIdeal.Read.val_main_v139 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 9 _ (by decide +kernel) fun t _ y => ?_
  idx_vars y
  blk_simp
  rw [after0_9, emb9]
  open FfnReferenceIdeal.Read in
  pointwise [val_main_v139]
  by_cases h0 : t.val % 64 = 0
  · rw [outsAt0_A m c t h0]; frame_out
    refine da m c hr t _ _ (keptA m c t h0 _ _ (fun i => ?_) (fun i => ?_)) _ _
    · rw [View.readCov_fill _ _ _ _ _ (fun a => by fin_cases a <;> rfl)]
      exact pay3 _
    · rw [View.readCov_fill _ _ _ _ _ (fun a => by fin_cases a <;> rfl)]
      exact pay3 _
  · rw [outsAt0_B m c t h0]; frame_out
    rw [Idealize.ShloMosaic.read_unread_whole]
    exact da m c hr t _ _ (keptB m c hr t ⟨t.val - 1, lt_of_le_of_lt (Nat.sub_le _ _) t.isLt⟩ h0 rfl) _ _

theorem final10 (c : Dev nD) (hr : AllReal m c) : (dats m 0 c).arrAt 10 cfg0.N
    = Cert.FfnReferenceIdeal.Read.val_main_v140 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  idx_vars y
  blk_simp
  rw [after0_10, emb10]
  by_cases h0 : t.val % 64 = 0
  · rw [outsAt0_A m c t h0]; frame_out
    refine dx m c hr t _ _ (keptA m c t h0 _ _ (fun i => ?_) (fun i => ?_)) _ _
    · rw [View.readCov_fill _ _ _ _ _ (fun a => by fin_cases a <;> rfl)]
      exact pay3 _
    · rw [View.readCov_fill _ _ _ _ _ (fun a => by fin_cases a <;> rfl)]
      exact pay3 _
  · rw [outsAt0_B m c t h0]; frame_out
    rw [Idealize.ShloMosaic.read_unread_whole]
    exact dx m c hr t _ _ (keptB m c hr t ⟨t.val - 1, lt_of_le_of_lt (Nat.sub_le _ _) t.isLt⟩ h0 rfl) _ _

end Cert.FfnKernelIdeal.Value

end
-- ==== Proof.FfnSums.lean ====
/-
  The sums over the rows in the gradient of the feed-forward: the gradients of the gain, of the convolution's bias and of its
  taps. The grid walks the rows from the last to the first; each point adds its own rows' part.
-/
module

public import proofs.«01_k».proof.Proof.Gen.FfnKernelIdeal.Value
public import proofs.«01_k».proof.Proof.Gen.FfnReferenceIdeal.Read
public import proofs.«01_k».proof.Proof.FfnRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.FfnKernelIdeal.Value

open Cert.FfnKernelIdeal Cert.FfnKernelIdeal.Gen

variable (m : (ℓ : Loc nD τ sig) → Buf (Elt Ideal) ℓ)

/-- The part of the gain's gradient a point adds: its rows' products. -/
def part13 (c : Dev nD) (t : Fin cfg0.N) (j : S1x1024.Idx) : EReal :=
  ∑ x : Fin 128, (show EReal from Cert.FfnReferenceIdeal.Read.val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 (row t x) (j 1))) * (show EReal from Cert.FfnReferenceIdeal.Read.val_main_v115 (F := Ideal) (m ((c : Thread nD τ).loc main_arg2)) (ix2 (row t x) (j 1)))

theorem add13 (a b : FVec Ideal S128x1024 .f32) (v : Vec Ideal S1x1024 .f32) (x : Fin 1) (q : Fin 1024) :
    k0_pay1 a b v (ix2 x q) = (show EReal from v (ix2 x q)) + ∑ k : Fin 128, (show EReal from a (ix2 k q)) * (show EReal from b (ix2 k q)) := by
  pointwise [k0_pay1]

theorem pay6 (i : S1x1024.Idx) : k0_pay6 (F := Ideal) i = (0 : EReal) := by pointwise! [k0_pay6]
theorem pay5 (i : S1x5632.Idx) : k0_pay5 (F := Ideal) i = (0 : EReal) := by pointwise! [k0_pay5]
theorem pay4 (i : S3x5632.Idx) : k0_pay4 (F := Ideal) i = (0 : EReal) := by pointwise! [k0_pay4]

/-- The normed rows at a point are the host program's there. -/
theorem normed (c : Dev nD) (t : Fin cfg0.N) (x : Fin 128) (q : Fin 1024) : k0_pay22 (iblk m c 7 t) (ix2 x q) = Cert.FfnReferenceIdeal.Read.val_main_v115 (F := Ideal) (m ((c : Thread nD τ).loc main_arg2)) (ix2 (row t x) q) := by
  open FfnReferenceIdeal.Read in
  pointwise [k0_pay22, k0_pay21, val_main_v103, val_main_cst_24, val_main_v104, val_main_v105, val_main_cst_25, val_main_v106, val_main_v107, val_main_cst_26, val_main_v108, val_main_v109, val_main_v110, val_main_v111, val_main_cst_27, val_main_v112, val_main_v113, val_main_v114, val_main_v115]
  simp only [in7 m c t]

theorem zero13 (c : Dev nD) (hr : AllReal m c) (t : Fin cfg0.N) (h0 : t.val % 64 = 0) (j : S1x1024.Idx) :
    (outsAt0 m c t.val t.isLt).2.2.2.2.1 j = 0 + part13 m c t j := by
  idx_vars j
  rw [outsAt0_A m c t h0]; frame_out
  refine (add13 _ _ _ _ _).trans (congrArg₂ (fun a b : EReal => a + b) (pay6 _) (Finset.sum_congr rfl fun k _ => ?_))
  exact congrArg₂ (fun a b : EReal => a * b) (dh m c hr t _ _ (keptA m c t h0 _ _
    (fun i => by rw [View.readCov_fill _ _ _ _ _ (fun a => by fin_cases a <;> rfl)]; exact pay3 _)
    (fun i => by rw [View.readCov_fill _ _ _ _ _ (fun a => by fin_cases a <;> rfl)]; exact pay3 _)) k j1) (normed m c t k j1)

theorem step13 (c : Dev nD) (hr : AllReal m c) (t : Fin cfg0.N) (h0 : ¬t.val % 64 = 0) (j : S1x1024.Idx) :
    (outsAt0 m c t.val t.isLt).2.2.2.2.1 j = (outsAt0 m c (t.val - 1) (lt_of_le_of_lt (Nat.sub_le _ _) t.isLt)).2.2.2.2.1 j + part13 m c t j := by
  idx_vars j
  rw [outsAt0_B m c t h0]; frame_out
  rw [Idealize.ShloMosaic.read_unread_whole]
  refine (add13 _ _ _ _ _).trans (congrArg₂ (fun a b : EReal => a + b) rfl (Finset.sum_congr rfl fun k _ => ?_))
  exact congrArg₂ (fun a b : EReal => a * b) (dh m c hr t _ _ (keptB m c hr t ⟨t.val - 1, lt_of_le_of_lt (Nat.sub_le _ _) t.isLt⟩ h0 rfl) k j1) (normed m c t k j1)

theorem emb13 (t : Fin cfg0.N) (x : Fin 1) (q : Fin 1024) : ((cfg0.win 13).blk t).view.emb (ix2 x q) = ix2 x q := by
  blk_ext [idx t]
theorem emb12 (t : Fin cfg0.N) (x : Fin 1) (q : Fin 5632) : ((cfg0.win 12).blk t).view.emb (ix2 x q) = ix2 x q := by
  blk_ext [idx t]
theorem emb11 (t : Fin cfg0.N) (x : Fin 3) (q : Fin 5632) : ((cfg0.win 11).blk t).view.emb (ix2 x q) = ix2 x q := by
  blk_ext [idx t]

/-- The row a point's row is, at the point a sum over the grid names. -/
theorem row_at (t : Fin cfg0.N) (h : t.val % 64 = 63) (s : Fin 64) (x : Fin 128) (hl : (63 - s.val) * 128 + x.val < 8192) :
    row ⟨64 * (t.val / 64) + s.val, Pipeline.run_point_lt_of_flush t h s⟩ x = ⟨(63 - s.val) * 128 + x.val, hl⟩ := by
  refine Fin.ext ?_
  have h' : t.val < 64 := lt_of_lt_of_eq t.isLt N_0
  have h'' := s.isLt
  simp only [row]
  omega

theorem final13 (c : Dev nD) (hr : AllReal m c) : (dats m 0 c).arrAt 13 cfg0.N
    = Cert.FfnReferenceIdeal.Read.val_main_v122 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  idx_vars y
  blk_simp
  rw [after0_13, Pipeline.eq_sum_fin_of_reset_step_apply_of_flush (fun n h => (outsAt0 m c n h).2.2.2.2.1) 64 (fun _ => 0) (part13 m c)
    (fun t h j => zero13 m c hr t h j) (fun t h j => step13 m c hr t h j)
    t ((flush0_13 t).mp hf) _, zero_add, emb13]
  open FfnReferenceIdeal.Read in
  pointwise [val_main_v122, val_main_v121, val_main_v120, val_main_cst_28]
  refine Finite.sum_tiles (M := EReal) _ _ fun s x hl => ?_
  rw [row_at t ((flush0_13 t).mp hf) s x hl]
  exact mul_comm _ _

/-- The part of the bias's gradient a point adds. -/
def part12 (c : Dev nD) (t : Fin cfg0.N) (j : S1x5632.Idx) : EReal := ∑ x : Fin 128, Cert.FfnReferenceIdeal.Read.val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (row t x) (j 1))

theorem add12 (a : FVec Ideal S128x5632 .f32) (v : Vec Ideal S1x5632 .f32) (x : Fin 1) (q : Fin 5632) :
    k0_pay13 a v (ix2 x q) = (show EReal from v (ix2 x q)) + ∑ k : Fin 128, (show EReal from a (ix2 k q)) := by
  pointwise [k0_pay13]

theorem zero12 (c : Dev nD) (hr : AllReal m c) (t : Fin cfg0.N) (h0 : t.val % 64 = 0) (j : S1x5632.Idx) :
    (outsAt0 m c t.val t.isLt).2.2.2.1 j = 0 + part12 m c t j := by
  idx_vars j
  rw [outsAt0_A m c t h0]; frame_out
  exact (add12 _ _ _ _).trans (congrArg₂ (fun a b : EReal => a + b) (pay5 _) (Finset.sum_congr rfl fun k _ => dc m c hr t k j1))

theorem step12 (c : Dev nD) (hr : AllReal m c) (t : Fin cfg0.N) (h0 : ¬t.val % 64 = 0) (j : S1x5632.Idx) :
    (outsAt0 m c t.val t.isLt).2.2.2.1 j = (outsAt0 m c (t.val - 1) (lt_of_le_of_lt (Nat.sub_le _ _) t.isLt)).2.2.2.1 j + part12 m c t j := by
  idx_vars j
  rw [outsAt0_B m c t h0]; frame_out
  exact (add12 _ _ _ _).trans (congrArg₂ (fun a b : EReal => a + b) rfl (Finset.sum_congr rfl fun k _ => dc m c hr t k j1))

theorem final12 (c : Dev nD) (hr : AllReal m c) : (dats m 0 c).arrAt 12 cfg0.N
    = Cert.FfnReferenceIdeal.Read.val_main_v89 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 12 _ (by decide +kernel) fun t hf y => ?_
  idx_vars y
  blk_simp
  rw [after0_12, Pipeline.eq_sum_fin_of_reset_step_apply_of_flush (fun n h => (outsAt0 m c n h).2.2.2.1) 64 (fun _ => 0) (part12 m c)
    (fun t h j => zero12 m c hr t h j) (fun t h j => step12 m c hr t h j)
    t ((flush0_12 t).mp hf) _, zero_add, emb12]
  open FfnReferenceIdeal.Read in
  pointwise [val_main_v89, val_main_v88, val_main_cst_19]
  refine Finite.sum_tiles (M := EReal) _ _ fun s x hl => ?_
  rw [row_at t ((flush0_12 t).mp hf) s x hl]
  rfl

/-- The convolution's input in one column, zero beyond the last row. -/
def az (c : Dev nD) (q : Fin 5632) (n : ℕ) : EReal := if h : n < 8192 then (m ((c : Thread nD τ).loc main_arg1)) (ix2 (⟨n, h⟩ : Fin 8192) q) else 0

theorem az_row (c : Dev nD) (q : Fin 5632) (r : Fin 8192) : az m c q r.val = (m ((c : Thread nD τ).loc main_arg1)) (ix2 r q) := dif_pos r.isLt

/-- The sum of a tap: the gradient moved up against the input, or the input moved down against the gradient. -/
theorem tap_sum (c : Dev nD) (q : Fin 5632) (k : ℕ) (hk : k ≤ 8192) :
    ∑ r : Fin 8192, dcz m c q (r.val + k) * az m c q r.val
      = ∑ r : Fin 8192, dcz m c q r.val * (if r.val < k then 0 else az m c q (r.val - k)) := by
  rw [← Finite.sum_shift 8192 k hk]
  refine Finset.sum_congr rfl fun r _ => congrArg₂ (fun a b : EReal => a * b) ?_ rfl
  by_cases h : r.val + k < 8192
  · rw [if_pos h]
  · rw [if_neg h]; exact dif_neg h

/-- The host program's padded input of the convolution: two rows of zeros, then the input. -/
theorem padded (c : Dev nD) (i : Fin 8194) (q : Fin 5632) : Cert.FfnReferenceIdeal.Read.val_main_v3 (F := Ideal) (m ((c : Thread nD τ).loc main_arg1)) (ix2 i q) = if i.val < 2 then 0 else az m c q (i.val - 2) := by
  open FfnReferenceIdeal.Read in
  pointwise [val_main_v3, val_main_v2, val_main_cst]
  by_cases h : i.val < 2
  · rw [dif_pos h, if_pos h]
  · have := i.isLt
    rw [dif_neg h, if_neg h, az, dif_pos (by omega)]

/-- The sum of a tap with the input moved down. -/
def moved (c : Dev nD) (q : Fin 5632) (k : ℕ) : EReal :=
  ∑ r : Fin 8192, dcz m c q r.val * (if r.val < k then 0 else az m c q (r.val - k))

/-- The host program's gradient of a tap. -/
theorem host0 (c : Dev nD) (q : Fin 5632) : Cert.FfnReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (0 : Fin 3) q)
    = moved m c q 2 := by
  open FfnReferenceIdeal.Read in
  pointwise [val_main_v100, val_main_v87, val_main_v99, val_main_v76, val_main_v86, val_main_v98, val_main_v95, val_main_v94, val_main_v93, val_main_v92, val_main_v7, val_main_cst_14, val_main_cst_18, val_main_cst_20, val_main_cst_21, val_main_cst_23]
  simp only [padded m c]
  refine (Fintype.sum_unique _).trans (Finset.sum_congr rfl fun k _ => ?_)
  refine congrArg₂ (fun a b : EReal => a * b) (dcz_row m c q k).symm ?_
  rfl
theorem host1 (c : Dev nD) (q : Fin 5632) : Cert.FfnReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (1 : Fin 3) q)
    = moved m c q 1 := by
  open FfnReferenceIdeal.Read in
  pointwise [val_main_v100, val_main_v87, val_main_v99, val_main_v76, val_main_v86, val_main_v85, val_main_v82, val_main_v81, val_main_v80, val_main_v79, val_main_v15, val_main_cst_14, val_main_cst_18, val_main_cst_15, val_main_cst_16, val_main_cst_23]
  simp only [padded m c]
  refine (Fintype.sum_unique _).trans (Finset.sum_congr rfl fun k _ => ?_)
  refine congrArg₂ (fun a b : EReal => a * b) (dcz_row m c q k).symm ?_
  by_cases h : k.val < 1
  · rw [if_pos h, if_pos (by omega)]
  · rw [if_neg h, if_neg (by omega)]
    exact congrArg (az m c q) (by omega)
theorem host2 (c : Dev nD) (q : Fin 5632) : Cert.FfnReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (2 : Fin 3) q)
    = moved m c q 0 := by
  open FfnReferenceIdeal.Read in
  pointwise [val_main_v100, val_main_v87, val_main_v99, val_main_v76, val_main_v86, val_main_v75, val_main_v73, val_main_v72, val_main_v71, val_main_v70, val_main_v22, val_main_cst_14, val_main_cst_18, val_main_cst_11, val_main_cst_12, val_main_cst_23]
  simp only [padded m c]
  refine (Fintype.sum_unique _).trans (Finset.sum_congr rfl fun k _ => ?_)
  refine congrArg₂ (fun a b : EReal => a * b) (dcz_row m c q k).symm ?_
  by_cases h : k.val < 0
  · rw [if_pos h, if_pos (by omega)]
  · rw [if_neg h, if_neg (by omega)]
    exact congrArg (az m c q) (by omega)

/-- A store of one row of three: it is what that row holds, and another row holds what it held. -/
theorem row_hit (a : Fin 3) (inb : ∀ x, (![a.val, 0] : Fin 2 → ℕ) x + S1x5632.size x ≤ S3x5632.size x)
    (w : S1x5632.Idx → Elt Ideal .f32) (L : List (View.Piece (Elt Ideal) S3x5632 .f32)) (q : Fin 5632) :
    View.canon ((⟨Rect.unit (s := S3x5632) ![a.val, 0] S1x5632.size inb, w⟩ : View.Piece (Elt Ideal) S3x5632 .f32) :: L) (ix2 a q)
      = w (ix2 (0 : Fin 1) q) := by
  have e : (Rect.unit (s := S3x5632) ![a.val, 0] S1x5632.size inb).emb (ix2 (0 : Fin 1) q) = ix2 a q := by blk_ext []
  exact (congrArg (View.canon _) e.symm).trans (View.canon_cons_emb (Rect.unit (s := S3x5632) ![a.val, 0] S1x5632.size inb) w L _)

theorem row_miss (a b : Fin 3) (hab : a ≠ b) (inb : ∀ x, (![b.val, 0] : Fin 2 → ℕ) x + S1x5632.size x ≤ S3x5632.size x)
    (w : S1x5632.Idx → Elt Ideal .f32) (L : List (View.Piece (Elt Ideal) S3x5632 .f32)) (q : Fin 5632) :
    View.canon ((⟨Rect.unit (s := S3x5632) ![b.val, 0] S1x5632.size inb, w⟩ : View.Piece (Elt Ideal) S3x5632 .f32) :: L) (ix2 a q)
      = View.canon L (ix2 a q) := by
  refine View.canon_cons_of_not_mem _ L fun hm => ?_
  obtain ⟨i, hi, he⟩ := (LoadRect.mem_set _).mp hm (0 : Fin 2)
  have hi1 : i < 1 := hi
  have he' : a.val = b.val + 1 * i := he
  exact hab (Fin.ext (by omega))

/-- Three rows stored one after another, the last first. -/
theorem rows3 (h2 h1 h0) (w2 w1 w0 : S1x5632.Idx → Elt Ideal .f32) (L : List (View.Piece (Elt Ideal) S3x5632 .f32)) (r : Fin 3) (q : Fin 5632) :
    View.canon ((⟨Rect.unit (s := S3x5632) ![2, 0] S1x5632.size h2, w2⟩ : View.Piece (Elt Ideal) S3x5632 .f32)
      :: (⟨Rect.unit (s := S3x5632) ![1, 0] S1x5632.size h1, w1⟩ : View.Piece (Elt Ideal) S3x5632 .f32)
      :: (⟨Rect.unit (s := S3x5632) ![0, 0] S1x5632.size h0, w0⟩ : View.Piece (Elt Ideal) S3x5632 .f32) :: L) (ix2 r q)
      = (match r with | 0 => w0 | 1 => w1 | 2 => w2) (ix2 (0 : Fin 1) q) := by
  match r with
  | 0 => exact (row_miss 0 2 (by decide) _ _ _ _).trans ((row_miss 0 1 (by decide) _ _ _ _).trans (row_hit 0 _ _ _ _))
  | 1 => exact (row_miss 1 2 (by decide) _ _ _ _).trans (row_hit 1 _ _ _ _)
  | 2 => exact row_hit 2 _ _ _ _

/-- The part of the taps' gradient a point adds. -/
def part11 (c : Dev nD) (t : Fin cfg0.N) (j : S3x5632.Idx) : EReal :=
  ∑ x : Fin 128, dcz m c (j 1) ((row t x).val + (2 - (j 0).val)) * az m c (j 1) (row t x).val

theorem add16 (a d : FVec Ideal S128x5632 .f32) (v : Vec Ideal S1x5632 .f32) (x : Fin 1) (q : Fin 5632) :
    k0_pay16 a d v (ix2 x q) = (show EReal from v (ix2 x q)) + ∑ k : Fin 128, (show EReal from d (ix2 k q)) * (show EReal from a (ix2 k q)) := by
  pointwise [k0_pay16]
theorem add15 (a d : FVec Ideal S128x5632 .f32) (v : Vec Ideal S1x5632 .f32) (x : Fin 1) (q : Fin 5632) :
    k0_pay15 a d v (ix2 x q) = (show EReal from v (ix2 x q)) + ∑ k : Fin 128, (show EReal from d (ix2 k q)) * (show EReal from a (ix2 k q)) := by
  pointwise [k0_pay15]
theorem add14 (a : FVec Ideal S128x5632 .f32) (z0 z1 : Vec Ideal S1x5632 .f32) (m0 : IVec S128x1 1) (b : FVec Ideal S128x5632 .f32)
    (m1 : IVec S128x5632 1) (v : Vec Ideal S1x5632 .f32) (x : Fin 1) (q : Fin 5632) :
    k0_pay14 a z0 z1 m0 b m1 v (ix2 x q) = (show EReal from v (ix2 x q))
      + ∑ k : Fin 128, (show EReal from k0_pay12 z0 z1 m0 b m1 (ix2 k q)) * (show EReal from a (ix2 k q)) := by
  pointwise [k0_pay14]

theorem in1z (c : Dev nD) (t : Fin cfg0.N) (x : Fin 128) (q : Fin 5632) : iblk m c 1 t (ix2 x q) = az m c q (row t x).val :=
  (in1 m c t x q).trans (az_row m c q _).symm

/-- What a point leaves in the taps' gradient, from what it finds there. -/
theorem taps_point (c : Dev nD) (hr : AllReal m c) (t : Fin cfg0.N) (z0 z1 : Vec Ideal S1x5632 .f32) (hz : Kept m c t z0 z1)
    (v0 v1 v2 : Vec Ideal S1x5632 .f32) (X : S3x5632.Idx → EReal) (r : Fin 3) (q : Fin 5632)
    (e0 : v0 (ix2 (0 : Fin 1) q) = X (ix2 (0 : Fin 3) q)) (e1 : v1 (ix2 (0 : Fin 1) q) = X (ix2 (1 : Fin 3) q))
    (e2 : v2 (ix2 (0 : Fin 1) q) = X (ix2 (2 : Fin 3) q)) :
    (match r with
      | 0 => k0_pay14 (iblk m c 1 t) z0 z1 k0_pay9 (k0_pay10 (iblk m c 0 t) (iblk m c 5 t) (iblk m c 2 t) (iblk m c 3 t)) k0_pay11 v0
      | 1 => k0_pay15 (iblk m c 1 t) (U1 m c t z0) v1
      | 2 => k0_pay16 (iblk m c 1 t) (D m c t) v2) (ix2 (0 : Fin 1) q) = X (ix2 r q) + part11 m c t (ix2 r q) := by
  match r with
  | 0 => exact (add14 _ _ _ _ _ _ _ _ _).trans (congrArg₂ (fun a b : EReal => a + b) e0 (Finset.sum_congr rfl fun k _ =>
      congrArg₂ (fun a b : EReal => a * b) (d2 m c hr t z0 z1 hz k q) (in1z m c t k q)))
  | 1 => exact (add15 _ _ _ _ _).trans (congrArg₂ (fun a b : EReal => a + b) e1 (Finset.sum_congr rfl fun k _ =>
      congrArg₂ (fun a b : EReal => a * b) (d1 m c hr t z0 z1 hz k q) (in1z m c t k q)))
  | 2 => exact (add16 _ _ _ _ _).trans (congrArg₂ (fun a b : EReal => a + b) e2 (Finset.sum_congr rfl fun k _ =>
      congrArg₂ (fun a b : EReal => a * b) (d0 m c hr t k q) (in1z m c t k q)))

theorem row_read (a : Fin 3) (inb : ∀ x, (![a.val, 0] : Fin 2 → ℕ) x + S1x5632.size x ≤ S3x5632.size x) (X : S3x5632.Idx → Elt Ideal .f32)
    (q : Fin 5632) : View.ld X (Rect.unit (s := S3x5632) ![a.val, 0] S1x5632.size inb) (ix2 (0 : Fin 1) q) = X (ix2 a q) := by
  have e : (Rect.unit (s := S3x5632) ![a.val, 0] S1x5632.size inb).emb (ix2 (0 : Fin 1) q) = ix2 a q := by blk_ext []
  exact congrArg X e

theorem zero11 (c : Dev nD) (hr : AllReal m c) (t : Fin cfg0.N) (h0 : t.val % 64 = 0) (j : S3x5632.Idx) :
    (outsAt0 m c t.val t.isLt).2.2.1 j = 0 + part11 m c t j := by
  idx_vars j
  rw [outsAt0_A m c t h0]; frame_out
  exact (rows3 _ _ _ _ _ _ _ _ _).trans (taps_point m c hr t _ _ (keptA m c t h0 _ _
    (fun i => by rw [View.readCov_fill _ _ _ _ _ (fun a => by fin_cases a <;> rfl)]; exact pay3 _)
    (fun i => by rw [View.readCov_fill _ _ _ _ _ (fun a => by fin_cases a <;> rfl)]; exact pay3 _)) _ _ _ (fun _ => 0) j0 j1 (by
    repeat rw [View.readCov_skip _ _ _ _ _ (by decide)]
    rw [View.readCov_fill _ _ _ _ _ (fun a => by fin_cases a <;> rfl)]
    exact pay4 _) (by
    repeat rw [View.readCov_skip _ _ _ _ _ (by decide)]
    rw [View.readCov_fill _ _ _ _ _ (fun a => by fin_cases a <;> rfl)]
    exact pay4 _) (by
    repeat rw [View.readCov_skip _ _ _ _ _ (by decide)]
    rw [View.readCov_fill _ _ _ _ _ (fun a => by fin_cases a <;> rfl)]
    exact pay4 _))

theorem step11 (c : Dev nD) (hr : AllReal m c) (t : Fin cfg0.N) (h0 : ¬t.val % 64 = 0) (j : S3x5632.Idx) :
    (outsAt0 m c t.val t.isLt).2.2.1 j = (outsAt0 m c (t.val - 1) (lt_of_le_of_lt (Nat.sub_le _ _) t.isLt)).2.2.1 j + part11 m c t j := by
  idx_vars j
  rw [outsAt0_B m c t h0]; frame_out
  rw [Idealize.ShloMosaic.read_unread_whole]
  exact (rows3 _ _ _ _ _ _ _ _ _).trans (taps_point m c hr t _ _ (keptB m c hr t ⟨t.val - 1, lt_of_le_of_lt (Nat.sub_le _ _) t.isLt⟩ h0 rfl) _ _ _ _ j0 j1 (row_read 0 _ _ _) (row_read 1 _ _ _) (row_read 2 _ _ _))

theorem host (c : Dev nD) (r : Fin 3) (q : Fin 5632) : Cert.FfnReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 r q)
    = ∑ k : Fin 8192, dcz m c q (k.val + (2 - r.val)) * az m c q k.val := by
  match r with
  | 0 => exact (host0 m c q).trans (tap_sum m c q 2 (by omega)).symm
  | 1 => exact (host1 m c q).trans (tap_sum m c q 1 (by omega)).symm
  | 2 => exact (host2 m c q).trans (tap_sum m c q 0 (by omega)).symm

theorem final11 (c : Dev nD) (hr : AllReal m c) : (dats m 0 c).arrAt 11 cfg0.N
    = Cert.FfnReferenceIdeal.Read.val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (dats m 0 c).arrAt_eq_of_covers 11 _ (by decide +kernel) fun t hf y => ?_
  idx_vars y
  blk_simp
  rw [after0_11, Pipeline.eq_sum_fin_of_reset_step_apply_of_flush (fun n h => (outsAt0 m c n h).2.2.1) 64 (fun _ => 0) (part11 m c)
    (fun t h j => zero11 m c hr t h j) (fun t h j => step11 m c hr t h j)
    t ((flush0_11 t).mp hf) _, zero_add, emb11]
  rw [host]
  refine Finite.sum_tiles (M := EReal) _ _ fun s x hl => ?_
  rw [row_at t ((flush0_11 t).mp hf) s x hl]
  rfl

end Cert.FfnKernelIdeal.Value

end
-- ==== Proof.FfnPre.lean ====
/- The precondition of the feed-forward's gradient: every entry of the arrays it names is a real number. -/
module

public import proofs.«01_k».proof.Defs
public import proofs.«01_k».proof.Proof.FfnBase
public import Idealize.ShloMosaic.Lib.Pointwise

@[expose] public section

noncomputable section

open Idealize.ShloMosaic Idealize.ShloMosaic.TcCoe Idealize.SL.Sem

namespace Cert.FfnPre

theorem facts : Cert.Pre_finite.Facts where
  bcast_S_S8192x1024 := by decide
  bcast_S_S8192x5632 := by decide
  bcast_S_S3x5632 := by decide
  bcast_S_S1x5632 := by decide
  bitsLt_bf16_f32 := by decide
  bcast_S_S2816x1024 := by decide

/-- An entry that passes the test is a real number. -/
theorem of_test {s : Shape} (x : FVec Ideal s .f32) (b : Cert.Pre_finite.S_.BroadcastsInDim s (![] : Fin 0 → Fin s.rank)) (i : s.Idx)
    (h : cmpf .olt (Host.absf x) (broadcastInDim s ![] b (constant Cert.Pre_finite.S_ .f32 0x7F800000#32)) i = 1#1) :
    Finite.IsReal (x i) := by
  refine Finite.IsReal.of_abs_lt ?_
  revert h
  pointwise
  have e : Ideal.ofBits FTy.f32 2139095040#32 = (⊤ : EReal) := rfl
  rw [e]
  intro h
  by_contra hn
  have hn' : ¬(FloatOps.absf (x i) : Ideal FTy.f32) < (⊤ : EReal) := hn
  rw [decide_eq_false hn'] at h
  exact absurd h (by decide)

theorem real (m : (ℓ : Loc Cert.FfnKernelIdeal.nD Cert.FfnKernelIdeal.τ Cert.FfnKernelIdeal.sig) → Buf (Elt Ideal) ℓ)
    (h : Cert.Pre_FfnKernelIdeal_finite (hPre_finite := facts) m) (c : Dev Cert.FfnKernelIdeal.nD) :
    Cert.FfnKernelIdeal.Value.AllReal m c := by
  obtain ⟨h0, h1, h2, h3, h4⟩ := h c
  exact ⟨fun i => of_test _ _ i (congrFun h0 i), fun i => of_test _ _ i (congrFun h1 i), fun i => of_test _ _ i (congrFun h2 i),
    fun i => of_test _ _ i (congrFun h3 i), fun i => of_test _ _ i (congrFun h4 i)⟩

end Cert.FfnPre

end
-- ==== Proof.FfnClaims.lean ====
/- The equation of the feed-forward's gradient: the kernel's run and the reference's at the same stages, and the claim from the two. -/
module

public import proofs.«01_k».proof.Defs
public import proofs.«01_k».proof.Proof.Gen.FfnKernel.Frame
public import proofs.«01_k».proof.Proof.Gen.FfnReferenceIdeal.Run
public import proofs.«01_k».proof.Proof.FfnSums
public import proofs.«01_k».proof.Proof.FfnPre
public import Idealize.ShloMosaic.Lib.Quiescent

@[expose] public section

noncomputable section

open Idealize.ShloMosaic Idealize.ShloMosaic.TcCoe Idealize.SL.Sem

namespace Cert.FfnClaims

/-- The reference's run, each result at its stage, the arguments kept. -/
theorem stages (m : (ℓ : Loc Cert.FfnReferenceIdeal.nD Cert.FfnReferenceIdeal.τ Cert.FfnReferenceIdeal.sig) → Buf (Elt Ideal) ℓ) (ρ : Dev Cert.FfnReferenceIdeal.nD → PrngReg) :
    θ_run (Cert.FfnReferenceIdeal.defs (F := Ideal)) (onTc (τ := Cert.FfnReferenceIdeal.τ) (Cert.FfnReferenceIdeal.main (F := Ideal))) ⟨m, fun _ => 0, ρ⟩ fun r => ∀ c : Dev Cert.FfnReferenceIdeal.nD,
      r.2.mem ((c.tc : Thread Cert.FfnReferenceIdeal.nD Cert.FfnReferenceIdeal.τ).loc Cert.FfnReferenceIdeal.main_v139) = Cert.FfnReferenceIdeal.Read.val_main_v139 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))
      ∧ r.2.mem ((c.tc : Thread Cert.FfnReferenceIdeal.nD Cert.FfnReferenceIdeal.τ).loc Cert.FfnReferenceIdeal.main_v140) = Cert.FfnReferenceIdeal.Read.val_main_v140 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6)) (m ((c.tc : Thread Cert.FfnReferenceIdeal.nD Cert.FfnReferenceIdeal.τ).loc Cert.FfnReferenceIdeal.main_arg7))
      ∧ r.2.mem ((c.tc : Thread Cert.FfnReferenceIdeal.nD Cert.FfnReferenceIdeal.τ).loc Cert.FfnReferenceIdeal.main_v100) = Cert.FfnReferenceIdeal.Read.val_main_v100 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))
      ∧ r.2.mem ((c.tc : Thread Cert.FfnReferenceIdeal.nD Cert.FfnReferenceIdeal.τ).loc Cert.FfnReferenceIdeal.main_v89) = Cert.FfnReferenceIdeal.Read.val_main_v89 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))
      ∧ r.2.mem ((c.tc : Thread Cert.FfnReferenceIdeal.nD Cert.FfnReferenceIdeal.τ).loc Cert.FfnReferenceIdeal.main_v122) = Cert.FfnReferenceIdeal.Read.val_main_v122 (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5)) (m ((c.tc : Thread Cert.FfnReferenceIdeal.nD Cert.FfnReferenceIdeal.τ).loc Cert.FfnReferenceIdeal.main_arg6))
      ∧ r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7) :=
  (θ_run _ _ _).mono (fun r h c => ⟨(h c).1.trans (Cert.FfnReferenceIdeal.Read.val_main_v139_eq ..), (h c).2.1.trans (Cert.FfnReferenceIdeal.Read.val_main_v140_eq ..), (h c).2.2.1.trans (Cert.FfnReferenceIdeal.Read.val_main_v100_eq ..), (h c).2.2.2.1.trans (Cert.FfnReferenceIdeal.Read.val_main_v89_eq ..), (h c).2.2.2.2.1.trans (Cert.FfnReferenceIdeal.Read.val_main_v122_eq ..), (h c).2.2.2.2.2⟩)
    (Cert.FfnReferenceIdeal.Value.run m ρ)

/-- The kernel's run, each result at the reference's stage over the kernel's own arguments, the arguments kept. -/
theorem results (m : (ℓ : Loc Cert.FfnKernelIdeal.nD Cert.FfnKernelIdeal.τ Cert.FfnKernelIdeal.sig) → Buf (Elt Ideal) ℓ) (ρ : Dev Cert.FfnKernelIdeal.nD → PrngReg) (hp : Cert.Pre_FfnKernelIdeal_finite (hPre_finite := Cert.FfnPre.facts) m) :
    θ_run (Cert.FfnKernelIdeal.defs (F := Ideal)) (onTc (τ := Cert.FfnKernelIdeal.τ) (Cert.FfnKernelIdeal.main (F := Ideal))) ⟨m, fun _ => 0, ρ⟩ fun r => ∀ c : Dev Cert.FfnKernelIdeal.nD,
      r.2.mem ((c.tc : Thread Cert.FfnKernelIdeal.nD Cert.FfnKernelIdeal.τ).loc Cert.FfnKernelIdeal.main_v59_0) = Cert.FfnReferenceIdeal.Read.val_main_v139 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))
      ∧ r.2.mem ((c.tc : Thread Cert.FfnKernelIdeal.nD Cert.FfnKernelIdeal.τ).loc Cert.FfnKernelIdeal.main_v59_1) = Cert.FfnReferenceIdeal.Read.val_main_v140 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7))
      ∧ r.2.mem ((c.tc : Thread Cert.FfnKernelIdeal.nD Cert.FfnKernelIdeal.τ).loc Cert.FfnKernelIdeal.main_v59_2) = Cert.FfnReferenceIdeal.Read.val_main_v100 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))
      ∧ r.2.mem ((c.tc : Thread Cert.FfnKernelIdeal.nD Cert.FfnKernelIdeal.τ).loc Cert.FfnKernelIdeal.main_v59_3) = Cert.FfnReferenceIdeal.Read.val_main_v89 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))
      ∧ r.2.mem ((c.tc : Thread Cert.FfnKernelIdeal.nD Cert.FfnKernelIdeal.τ).loc Cert.FfnKernelIdeal.main_v59_4) = Cert.FfnReferenceIdeal.Read.val_main_v122 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6))
      ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6)
      ∧ r.2.mem ((c.tc : Thread Cert.FfnKernelIdeal.nD Cert.FfnKernelIdeal.τ).loc Cert.FfnKernelIdeal.main_arg7) = m ((c.tc : Thread Cert.FfnKernelIdeal.nD Cert.FfnKernelIdeal.τ).loc Cert.FfnKernelIdeal.main_arg7) :=
  (θ_run _ _ _).mono (fun r h c => ⟨(h c).1.trans (Cert.FfnKernelIdeal.Value.final9 m c (Cert.FfnPre.real m hp c)), (h c).2.1.trans (Cert.FfnKernelIdeal.Value.final10 m c (Cert.FfnPre.real m hp c)), (h c).2.2.1.trans (Cert.FfnKernelIdeal.Value.final11 m c (Cert.FfnPre.real m hp c)), (h c).2.2.2.1.trans (Cert.FfnKernelIdeal.Value.final12 m c (Cert.FfnPre.real m hp c)), (h c).2.2.2.2.1.trans (Cert.FfnKernelIdeal.Value.final13 m c (Cert.FfnPre.real m hp c)), (h c).2.2.2.2.2⟩)
    (Cert.FfnKernelIdeal.Value.run_blocks m ρ)

theorem algebraic : Cert.algebraic_FfnKernelIdeal_FfnReferenceIdeal_pre_finite (hFfnKernelIdeal := Cert.FfnKernelIdeal.Gen.facts) (hFfnReferenceIdeal := Cert.FfnReferenceIdeal.Gen.facts) (hPre_finite := Cert.FfnPre.facts) := by
  intro m g m' g' hp hagree
  refine ⟨fun c => Cert.FfnReferenceIdeal.Read.val_main_v139 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)), fun c => Cert.FfnReferenceIdeal.Read.val_main_v140 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)) (m ((c.tc : Thread Cert.FfnKernelIdeal.nD Cert.FfnKernelIdeal.τ).loc Cert.FfnKernelIdeal.main_arg7)), fun c => Cert.FfnReferenceIdeal.Read.val_main_v100 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)), fun c => Cert.FfnReferenceIdeal.Read.val_main_v89 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)), fun c => Cert.FfnReferenceIdeal.Read.val_main_v122 (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5)) (m ((c.tc : Thread Cert.FfnKernelIdeal.nD Cert.FfnKernelIdeal.τ).loc Cert.FfnKernelIdeal.main_arg6)), results m g hp, ?_⟩
  refine (θ_run _ _ _).mono (fun r h c => ?_) (stages m' g')
  obtain ⟨a0, a1, a2, a3, a4, a5, a6, a7⟩ := hagree c
  obtain ⟨h0, h1, h2, h3, h4, hk⟩ := h c
  rw [a0, a1, a3, a4, a5] at h0
  rw [a0, a1, a2, a3, a4, a5, a6, a7] at h1
  rw [a0, a1, a3, a4, a5] at h2
  rw [a0, a1, a3, a4, a5] at h3
  rw [a0, a1, a2, a3, a4, a5, a6] at h4
  exact ⟨h0, h1, h2, h3, h4, hk⟩

theorem quiet : Cert.quiescent_FfnReferenceIdeal (hFfnReferenceIdeal := Cert.FfnReferenceIdeal.Gen.facts) := fun m ρ _ =>
  (θ_run _ _ _).mono (fun r h => ⟨fun c => (h c).2.2.2.2.2, sem_eq_zero_of_no_sems (by decide) _⟩) (Cert.FfnReferenceIdeal.Value.run m ρ)

/-- The frames under the precondition are the frames without it. -/
theorem quietPre : Cert.quiescent_FfnReferenceIdeal_pre_finite (hFfnReferenceIdeal := Cert.FfnReferenceIdeal.Gen.facts) (hPre_finite := Cert.FfnPre.facts) :=
  fun m ρ _ => quiet m ρ trivial
theorem framePre : Cert.quiescent_FfnKernelIdeal_pre_finite (hFfnKernelIdeal := Cert.FfnKernelIdeal.Gen.facts) (hPre_finite := Cert.FfnPre.facts) :=
  fun m ρ _ => Cert.FfnKernelIdeal.Gen.frame m ρ

end Cert.FfnClaims

end
-- ==== Proof.TailRows.lean ====
/-
  The end of the feed-forward, the layer embedding, the last norm and the loss, with their gradients: the convolution at a
  point of the grid (its first rows read the end of the tile before it), the activation, and the residual stream.
-/
module

public import proofs.«01_k».proof.Proof.Gen.TailKernelIdeal.Value
public import proofs.«01_k».proof.Proof.Gen.TailReferenceIdeal.Read
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.TailKernelIdeal.Value

open Cert.TailKernelIdeal Cert.TailKernelIdeal.Gen

variable (m : (ℓ : Loc nD τ sig) → Buf (Elt Ideal) ℓ)

/-- The block of each window at a point: the point's own rows, the eight rows before them, or the whole array. -/
theorem idx : ∀ t : Fin cfg0.N, win0_0.index t = ![t.val, 0] ∧ win0_1.index t = ![t.val * 16 - 1, 0] ∧ win0_2.index t = ![0, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0]
    ∧ win0_19.index t = ![0, 0] ∧ win0_20.index t = ![0, 0] ∧ win0_21.index t = ![0, 0] :=
  (by decide +kernel : ∀ t : Fin grid0.N, _)

/-- The row of the whole array a row of a point's block is. -/
def row (t : Fin cfg0.N) (x : Fin 128) : Fin 8192 :=
  ⟨t.val * 128 + x.val, by have h : t.val < 64 := lt_of_lt_of_eq t.isLt N_0; have := x.isLt; omega⟩

/-- The test for one row of a point, over the rows. -/
theorem mask0 : ∀ x : Fin 128, IntOp.cmpi CmpIPredicate.eq (BitVec.ofNat 32 x.val) 0#32 = if x.val = 0 then 1#1 else 0#1 := by
  decide +kernel
theorem mask1 : ∀ x : Fin 128, IntOp.cmpi CmpIPredicate.eq (BitVec.ofNat 32 x.val) 1#32 = if x.val = 1 then 1#1 else 0#1 := by
  decide +kernel

/-- The test for the first point, over the points. -/
theorem first : ∀ t : Fin cfg0.N, Scalar.cmpi CmpIPredicate.eq (BitVec.ofNat 32 (grid0.coords t 0).val) 0#32 = if t.val = 0 then 1#1 else 0#1 :=
  (by decide +kernel : ∀ t : Fin grid0.N, _)

/-- The up-projected rows a point holds. -/
theorem in0 (c : Dev nD) (t : Fin cfg0.N) (x : Fin 128) (q : Fin 5632) :
    iblk m c 0 t (ix2 x q) = m ((c : Thread nD τ).loc main_arg0) (ix2 (row t x) q) := by
  simp only [row]; blk_point [iblk, V, idx t]

/-- The rows before the point's, the last two of the eight it holds. -/
theorem halo (c : Dev nD) (t : Fin cfg0.N) (h0 : t.val ≠ 0) (x : Fin 8) (q : Fin 5632) (h : t.val * 128 - 8 + x.val < 8192) :
    iblk m c 1 t (ix2 x q) = m ((c : Thread nD τ).loc main_arg0) (ix2 (⟨t.val * 128 - 8 + x.val, h⟩ : Fin 8192) q) := by
  blk_point [iblk, V, idx t]

/-- The choice between two values, decided. -/
theorem sel1 (a b : EReal) : Scalar.select 1#1 a b = a := rfl
theorem sel0 (a b : EReal) : Scalar.select 0#1 a b = b := rfl
theorem in2 (c : Dev nD) (t : Fin cfg0.N) (k : Fin 3) (q : Fin 5632) :
    iblk m c 2 t (ix2 k q) = m ((c : Thread nD τ).loc main_arg3) (ix2 k q) := by
  blk_point [iblk, V, idx t]
theorem in3 (c : Dev nD) (t : Fin cfg0.N) (k : Fin 1) (q : Fin 5632) :
    iblk m c 3 t (ix2 k q) = m ((c : Thread nD τ).loc main_arg4) (ix2 k q) := by
  blk_point [iblk, V, idx t]
theorem in4 (c : Dev nD) (t : Fin cfg0.N) (k : Fin 2816) (q : Fin 1024) :
    iblk m c 4 t (ix2 k q) = m ((c : Thread nD τ).loc main_arg5) (ix2 k q) := by
  blk_point [iblk, V, idx t]
theorem in5 (c : Dev nD) (t : Fin cfg0.N) (x : Fin 128) (q : Fin 1024) :
    iblk m c 5 t (ix2 x q) = m ((c : Thread nD τ).loc main_arg1) (ix2 (row t x) q) := by
  simp only [row]; blk_point [iblk, V, idx t]
theorem in6 (c : Dev nD) (t : Fin cfg0.N) (x : Fin 128) (q : Fin 256) :
    iblk m c 6 t (ix2 x q) = m ((c : Thread nD τ).loc main_arg2) (ix2 (row t x) q) := by
  simp only [row]; blk_point [iblk, V, idx t]
theorem in7 (c : Dev nD) (t : Fin cfg0.N) (k : Fin 1) (q : Fin 1024) :
    iblk m c 7 t (ix2 k q) = m ((c : Thread nD τ).loc main_arg6) (ix2 k q) := by
  blk_point [iblk, V, idx t]
theorem in8 (c : Dev nD) (t : Fin cfg0.N) (k : Fin 1024) (q : Fin 1024) :
    iblk m c 8 t (ix2 k q) = m ((c : Thread nD τ).loc main_arg7) (ix2 k q) := by
  blk_point [iblk, V, idx t]
theorem in9 (c : Dev nD) (t : Fin cfg0.N) (k : Fin 256) (q : Fin 1024) :
    iblk m c 9 t (ix2 k q) = m ((c : Thread nD τ).loc main_arg8) (ix2 k q) := by
  blk_point [iblk, V, idx t]
theorem in10 (c : Dev nD) (t : Fin cfg0.N) (k : Fin 1) (q : Fin 1024) :
    iblk m c 10 t (ix2 k q) = m ((c : Thread nD τ).loc main_arg9) (ix2 k q) := by
  blk_point [iblk, V, idx t]
theorem in11 (c : Dev nD) (t : Fin cfg0.N) (x : Fin 128) (q : Fin 1024) :
    iblk m c 11 t (ix2 x q) = m ((c : Thread nD τ).loc main_arg10) (ix2 (row t x) q) := by
  simp only [row]; blk_point [iblk, V, idx t]

/-- The convolved rows, as a point makes them. -/
abbrev cv (c : Dev nD) (t : Fin cfg0.N) : FVec Ideal S128x5632 .f32 :=
  k0_pay10 (iblk m c 0 t) (iblk m c 2 t) (iblk m c 3 t) (k0_pay7 (grid0.coords t) (iblk m c 0 t) (iblk m c 1 t)) (k0_pay8 (grid0.coords t) (iblk m c 0 t) (iblk m c 1 t)) (k0_pay9 (iblk m c 2 t))

/-- The activation. -/
abbrev gl (c : Dev nD) (t : Fin cfg0.N) : FVec Ideal S128x2816 .f32 :=
  k0_pay13 (iblk m c 0 t) (iblk m c 2 t) (iblk m c 3 t) (k0_pay7 (grid0.coords t) (iblk m c 0 t) (iblk m c 1 t)) (k0_pay8 (grid0.coords t) (iblk m c 0 t) (iblk m c 1 t)) (k0_pay9 (iblk m c 2 t))

/-- The residual stream after the feed-forward, the norm's factor of its rows, and the normed rows. -/
abbrev x2 (c : Dev nD) (t : Fin cfg0.N) : FVec Ideal S128x1024 .f32 :=
  k0_pay16 (cv m c t) (gl m c t) (iblk m c 5 t) (iblk m c 4 t)

abbrev r2 (c : Dev nD) (t : Fin cfg0.N) : FVec Ideal S128x1 .f32 :=
  k0_pay17 (cv m c t) (gl m c t) (iblk m c 5 t) (iblk m c 4 t)

abbrev xh2 (c : Dev nD) (t : Fin cfg0.N) : FVec Ideal S128x1024 .f32 :=
  k0_pay18 (cv m c t) (gl m c t) (iblk m c 5 t) (iblk m c 4 t)

/-- The gate of the layer embedding, its projection, and their product. -/
abbrev pg (c : Dev nD) (t : Fin cfg0.N) : FVec Ideal S128x1024 .f32 :=
  k0_pay20 (cv m c t) (gl m c t) (iblk m c 5 t) (iblk m c 4 t) (iblk m c 7 t) (iblk m c 8 t)

abbrev pp (c : Dev nD) (t : Fin cfg0.N) : FVec Ideal S128x1024 .f32 :=
  k0_pay21 (iblk m c 6 t) (iblk m c 9 t)

abbrev s3 (c : Dev nD) (t : Fin cfg0.N) : FVec Ideal S128x1024 .f32 :=
  k0_pay22 (cv m c t) (gl m c t) (iblk m c 5 t) (iblk m c 4 t) (iblk m c 7 t) (iblk m c 8 t) (iblk m c 6 t) (iblk m c 9 t)

/-- The last norm's factor, and the normed rows. -/
abbrev r3 (c : Dev nD) (t : Fin cfg0.N) : FVec Ideal S128x1 .f32 :=
  k0_pay24 (x2 m c t) (s3 m c t)

abbrev xh3 (c : Dev nD) (t : Fin cfg0.N) : FVec Ideal S128x1024 .f32 :=
  k0_pay25 (x2 m c t) (s3 m c t)

/-- The gradient of the prediction, of the normed rows, and the sum the norm's gradient takes. -/
abbrev dy (c : Dev nD) (t : Fin cfg0.N) : FVec Ideal S128x1024 .f32 :=
  k0_pay28 (x2 m c t) (s3 m c t) (iblk m c 10 t) (iblk m c 11 t)

abbrev dxh (c : Dev nD) (t : Fin cfg0.N) : FVec Ideal S128x1024 .f32 :=
  k0_pay29 (x2 m c t) (s3 m c t) (iblk m c 10 t) (iblk m c 11 t) (iblk m c 10 t)

abbrev sm (c : Dev nD) (t : Fin cfg0.N) : FVec Ideal S128x1 .f32 :=
  k0_pay30 (x2 m c t) (s3 m c t) (iblk m c 10 t) (iblk m c 11 t) (iblk m c 10 t)

/-- The gradient of the residual stream before the last norm. -/
abbrev dx3 (c : Dev nD) (t : Fin cfg0.N) : FVec Ideal S128x1024 .f32 :=
  k0_pay32 (r3 m c t) (xh3 m c t) (dxh m c t) (sm m c t) (k0_pay31 (F := Ideal))

/-- The gradient of the layer embedding's normed input. -/
abbrev dh3 (c : Dev nD) (t : Fin cfg0.N) : FVec Ideal S128x1024 .f32 :=
  k0_pay37 (pg m c t) (pp m c t) (r3 m c t) (xh3 m c t) (dxh m c t) (sm m c t) (k0_pay31 (F := Ideal)) (iblk m c 8 t)

/-- The padded rows: two rows of zeros, then the rows. -/
theorem padded (c : Dev nD) (r : Fin 8194) (q : Fin 5632) :
    Cert.TailReferenceIdeal.Read.val_main_v4 (F := Ideal) (m ((c : Thread nD τ).loc main_arg0)) (ix2 r q)
      = if h : r.val < 2 then (0 : EReal) else m ((c : Thread nD τ).loc main_arg0) (ix2 (⟨r.val - 2, by omega⟩ : Fin 8192) q) := by
  open TailReferenceIdeal.Read in
  pointwise [val_main_v4, val_main_v3, val_main_cst]

/-- Two rows of the same number are the same. -/
theorem same (c : Dev nD) (a b : Fin 8192) (h : a.val = b.val) (q : Fin 5632) :
    m ((c : Thread nD τ).loc main_arg0) (ix2 a q) = m ((c : Thread nD τ).loc main_arg0) (ix2 b q) := by
  rw [Fin.ext h]

/-- The rows moved down by none, one and two: the padded rows. -/
theorem down0 (c : Dev nD) (t : Fin cfg0.N) (x : Fin 128) (q : Fin 5632) (h : 2 + (row t x).val < 8194) :
    m ((c : Thread nD τ).loc main_arg0) (ix2 (row t x) q) = Cert.TailReferenceIdeal.Read.val_main_v4 (F := Ideal) (m ((c : Thread nD τ).loc main_arg0)) (ix2 (⟨2 + (row t x).val, h⟩ : Fin 8194) q) := by
  rw [padded, dif_neg (by simp only []; omega)]
  exact same m c _ _ (by simp only []; omega) q
theorem down1 (c : Dev nD) (t : Fin cfg0.N) (x : Fin 128) (q : Fin 5632) (h : 1 + (row t x).val < 8194) :
    k0_pay7 (grid0.coords t) (iblk m c 0 t) (iblk m c 1 t) (ix2 x q) = Cert.TailReferenceIdeal.Read.val_main_v4 (F := Ideal) (m ((c : Thread nD τ).loc main_arg0)) (ix2 (⟨1 + (row t x).val, h⟩ : Fin 8194) q) := by
  have ht : t.val < 64 := lt_of_lt_of_eq t.isLt N_0
  have hx := x.isLt
  pointwise [k0_pay7, k0_pay6]
  rw [mask0, first, padded]
  by_cases h0 : x.val = 0
  · rw [if_pos h0, sel1]
    by_cases h1 : t.val = 0
    · rw [if_pos h1, sel1, dif_pos (by simp only [row]; omega)]
    · rw [if_neg h1, sel0, dif_neg (by simp only [row]; omega), halo m c t h1 7 q (show t.val * 128 - 8 + 7 < 8192 by omega)]
      exact same m c _ _ (by simp only [row, Fin.isValue]; omega) q
  · rw [if_neg h0, sel0, dif_neg (by simp only [row]; omega), in0]
    exact same m c _ _ (by simp only [row]; omega) q
theorem down2 (c : Dev nD) (t : Fin cfg0.N) (x : Fin 128) (q : Fin 5632) (h : (row t x).val < 8194) :
    k0_pay8 (grid0.coords t) (iblk m c 0 t) (iblk m c 1 t) (ix2 x q) = Cert.TailReferenceIdeal.Read.val_main_v4 (F := Ideal) (m ((c : Thread nD τ).loc main_arg0)) (ix2 (⟨(row t x).val, h⟩ : Fin 8194) q) := by
  have ht : t.val < 64 := lt_of_lt_of_eq t.isLt N_0
  have hx := x.isLt
  pointwise [k0_pay8, k0_pay6]
  rw [mask0, mask1, first, padded]
  by_cases h0 : x.val = 0
  · rw [if_pos h0, sel1]
    by_cases h1 : t.val = 0
    · rw [if_pos h1, sel1, dif_pos (by simp only [row]; omega)]
    · rw [if_neg h1, sel0, dif_neg (by simp only [row]; omega), halo m c t h1 6 q (show t.val * 128 - 8 + 6 < 8192 by omega)]
      exact same m c _ _ (by simp only [row, Fin.isValue]; omega) q
  · rw [if_neg h0, sel0]
    by_cases h2 : x.val = 1
    · rw [if_pos h2, sel1]
      by_cases h1 : t.val = 0
      · rw [if_pos h1, sel1, dif_pos (by simp only [row]; omega)]
      · rw [if_neg h1, sel0, dif_neg (by simp only [row]; omega), halo m c t h1 7 q (show t.val * 128 - 8 + 7 < 8192 by omega)]
        exact same m c _ _ (by simp only [row, Fin.isValue]; omega) q
    · rw [if_neg h2, sel0, dif_neg (by simp only [row]; omega), in0]
      exact same m c _ _ (by simp only [row]; omega) q

/-- The convolved rows are the host program's. -/
theorem conv (c : Dev nD) (t : Fin cfg0.N) (x : Fin 128) (q : Fin 5632) :
    cv m c t (ix2 x q)
      = Cert.TailReferenceIdeal.Read.val_main_v26 (F := Ideal) (m ((c : Thread nD τ).loc main_arg0)) (m ((c : Thread nD τ).loc main_arg3)) (m ((c : Thread nD τ).loc main_arg4)) (ix2 (row t x) q) := by
  open TailReferenceIdeal.Read in
  pointwise [k0_pay10, k0_pay9, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26]
  simp only [in2 m c t, in3 m c t]
  have hr := (row t x).isLt
  rw [in0, down0 m c t x q (by omega), down1 m c t x q (by omega), down2 m c t x q (by omega)]

/-- The activation, with its products in the two orders. -/
theorem gelu (y a k h o : EReal) : h * y * (o + Ideal.tanh (k * (y + a * y * y * y))) = y * (h * (o + Ideal.tanh (k * (y + a * (y * y * y))))) := by
  have e : a * y * y * y = a * (y * y * y) := by simp only [mul_assoc]
  rw [e, mul_comm h y, mul_assoc]

/-- The activation is the host program's. -/
theorem act (c : Dev nD) (t : Fin cfg0.N) (x : Fin 128) (q : Fin 2816) :
    gl m c t (ix2 x q)
      = Cert.TailReferenceIdeal.Read.val_main_v41 (F := Ideal) (m ((c : Thread nD τ).loc main_arg0)) (m ((c : Thread nD τ).loc main_arg3)) (m ((c : Thread nD τ).loc main_arg4)) (ix2 (row t x) q) := by
  open TailReferenceIdeal.Read in
  pointwise [k0_pay13, k0_pay12, k0_pay11, val_main_v29, val_main_v30, val_main_cst_0, val_main_v31, val_main_v32, val_main_v33, val_main_cst_1, val_main_v34, val_main_v35, val_main_v36, val_main_cst_2, val_main_v37, val_main_v38, val_main_cst_3, val_main_v39, val_main_v40, val_main_v41, val_main_v27]
  simp only [conv m c t]
  exact gelu _ _ _ _ _

/-- The gated rows. -/
theorem gated (c : Dev nD) (t : Fin cfg0.N) (x : Fin 128) (q : Fin 2816) :
    k0_pay15 (cv m c t) (gl m c t) (ix2 x q)
      = Cert.TailReferenceIdeal.Read.val_main_v42 (F := Ideal) (m ((c : Thread nD τ).loc main_arg0)) (m ((c : Thread nD τ).loc main_arg3)) (m ((c : Thread nD τ).loc main_arg4)) (ix2 (row t x) q) := by
  open TailReferenceIdeal.Read in
  pointwise [k0_pay15, val_main_v42, val_main_v28]
  simp only [conv m c t, act m c t]

/-- The residual stream after the feed-forward. -/
theorem stream (c : Dev nD) (t : Fin cfg0.N) (x : Fin 128) (q : Fin 1024) :
    x2 m c t (ix2 x q)
      = Cert.TailReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (row t x) q) := by
  open TailReferenceIdeal.Read in
  pointwise [k0_pay16, val_main_v44, val_main_v43, val_main_v0]
  simp only [gated m c t, in4 m c t, in5 m c t]

/-- The normed rows times the gain. -/
theorem normed (c : Dev nD) (t : Fin cfg0.N) (x : Fin 128) (q : Fin 1024) :
    k0_pay19 (cv m c t) (gl m c t) (iblk m c 5 t) (iblk m c 4 t) (iblk m c 7 t) (ix2 x q)
      = Cert.TailReferenceIdeal.Read.val_main_v56 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 (row t x) q) := by
  open TailReferenceIdeal.Read in
  pointwise [k0_pay19, k0_pay18, k0_pay17, val_main_v45, val_main_cst_4, val_main_v46, val_main_v47, val_main_cst_5, val_main_v48, val_main_v49, val_main_cst_6, val_main_v50, val_main_v51, val_main_v52, val_main_v53, val_main_v54, val_main_v55, val_main_v56]
  simp only [stream m c t, in7 m c t]

/-- The gate of the layer embedding. -/
theorem gate (c : Dev nD) (t : Fin cfg0.N) (x : Fin 128) (q : Fin 1024) :
    pg m c t (ix2 x q)
      = Cert.TailReferenceIdeal.Read.val_main_v64 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (ix2 (row t x) q) := by
  open TailReferenceIdeal.Read in
  pointwise [k0_pay20, val_main_v59, val_main_v60, val_main_cst_7, val_main_v61, val_main_v62, val_main_cst_8, val_main_v63, val_main_v64, val_main_v57, val_main_v1]
  simp only [normed m c t, Ideal.logistic, in8 m c t]

/-- The projection of the layer embedding. -/
theorem proj (c : Dev nD) (t : Fin cfg0.N) (x : Fin 128) (q : Fin 1024) :
    pp m c t (ix2 x q)
      = Cert.TailReferenceIdeal.Read.val_main_v58 (F := Ideal) (m ((c : Thread nD τ).loc main_arg2)) (m ((c : Thread nD τ).loc main_arg8)) (ix2 (row t x) q) := by
  open TailReferenceIdeal.Read in
  pointwise [k0_pay21, val_main_v58, val_main_v2]
  simp only [in6 m c t, in9 m c t]

/-- The residual stream after the layer embedding. -/
theorem stream3 (c : Dev nD) (t : Fin cfg0.N) (x : Fin 128) (q : Fin 1024) :
    k0_pay23 (x2 m c t) (s3 m c t) (ix2 x q)
      = Cert.TailReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t x) q) := by
  open TailReferenceIdeal.Read in
  pointwise [k0_pay23, k0_pay22, val_main_v69, val_main_v68]
  simp only [stream m c t, gate m c t, proj m c t]

/-- The last norm. -/
theorem normed3 (c : Dev nD) (t : Fin cfg0.N) (x : Fin 128) (q : Fin 1024) :
    xh3 m c t (ix2 x q)
      = Cert.TailReferenceIdeal.Read.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t x) q) := by
  open TailReferenceIdeal.Read in
  pointwise [k0_pay25, k0_pay24, val_main_v81, val_main_v82, val_main_v70, val_main_cst_10, val_main_v71, val_main_v72, val_main_cst_11, val_main_v73, val_main_v74, val_main_cst_12, val_main_v75, val_main_v76, val_main_v77]
  simp only [stream3 m c t]

/-- The prediction less the target. -/
theorem diff (c : Dev nD) (t : Fin cfg0.N) (x : Fin 128) (q : Fin 1024) :
    k0_pay26 (x2 m c t) (s3 m c t) (iblk m c 10 t) (iblk m c 11 t) (ix2 x q)
      = Cert.TailReferenceIdeal.Read.val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay26, val_main_v83, val_main_v84, val_main_v85]
  simp only [normed3 m c t, in10 m c t, in11 m c t]

/-- The loss's factor: one half over the lanes, times two. -/
theorem scale (d : EReal) : d * Ideal.ofBits .f32 0x3A800000#32
    = Ideal.div (Ideal.ofBits .f32 0x3F000000#32 * Ideal.ofBits .f32 0x3F800000#32) (Ideal.ofBits .f32 0x44800000#32) * (Ideal.ofBits .f32 0x40000000#32 * d) := by
  have e1 : Ideal.ofBits .f32 0x3A800000#32 = ((1 / 1024 : ℝ) : EReal) := by
    simp [Ideal.ofBits, Ideal.ieee, -EReal.coe_mul]; norm_num
  have e2 : Ideal.ofBits .f32 0x3F000000#32 = ((1 / 2 : ℝ) : EReal) := by
    simp [Ideal.ofBits, Ideal.ieee, -EReal.coe_mul]; norm_num
  have e3 : Ideal.ofBits .f32 0x3F800000#32 = ((1 : ℝ) : EReal) := by
    simp [Ideal.ofBits, Ideal.ieee, -EReal.coe_mul]; norm_num
  have e4 : Ideal.ofBits .f32 0x40000000#32 = ((2 : ℝ) : EReal) := by
    simp [Ideal.ofBits, Ideal.ieee, -EReal.coe_mul]; norm_num
  rw [Norm.lanes, e1, e2, e3, e4, Ideal.div, if_neg (by norm_num), ← EReal.coe_inv, ← mul_assoc, ← EReal.coe_mul, ← EReal.coe_mul, ← EReal.coe_mul,
    mul_comm d]
  congr 2
  norm_num

/-- The gradient of the prediction. -/
theorem pred (c : Dev nD) (t : Fin cfg0.N) (x : Fin 128) (q : Fin 1024) :
    dy m c t (ix2 x q)
      = Cert.TailReferenceIdeal.Read.val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay28, val_main_v94, val_main_v95, val_main_cst_21, val_main_v96, val_main_v97, val_main_v98, val_main_v99, val_main_v87, val_main_v88]
  simp only [diff m c t]
  exact scale _

/-- The gradient of the last norm's rows. -/
theorem dnormed (c : Dev nD) (t : Fin cfg0.N) (x : Fin 128) (q : Fin 1024) :
    dxh m c t (ix2 x q)
      = Cert.TailReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay29, val_main_v103, val_main_v104]
  simp only [pred m c t, in10 m c t]

/-- The gradient of the norm at one lane of a row where nothing is added to it. -/
theorem grad0 (X D : Fin 1024 → EReal) (s : EReal) (hs : 0 < s) (q : Fin 1024) :
    Ideal.rsqrt s * (D q - X q * Ideal.rsqrt s
          * Ideal.div (∑ k, D k * (X k * Ideal.rsqrt s)) (Ideal.ofBits .f32 0x44800000#32))
      = D q * Ideal.rsqrt s
          + X q * Ideal.div ((∑ k, X k * D k) * (Ideal.ofBits .f32 0xBF000000#32 * Ideal.div (Ideal.rsqrt s) s)) (Ideal.ofBits .f32 0x44800000#32)
          + Ideal.div ((∑ k, X k * D k) * (Ideal.ofBits .f32 0xBF000000#32 * Ideal.div (Ideal.rsqrt s) s)) (Ideal.ofBits .f32 0x44800000#32) * X q := by
  have h := Norm.grad_row X D s 0 hs q
  rwa [zero_add, zero_add] at h

/-- The gradient of the residual stream before the last norm. -/
theorem dstream3 (c : Dev nD) (t : Fin cfg0.N) (x : Fin 128) (q : Fin 1024) :
    dx3 m c t (ix2 x q)
      = Cert.TailReferenceIdeal.Read.val_main_v118 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay32, k0_pay31, k0_pay30, k0_pay25, k0_pay24, val_main_v105, val_main_cst_23, val_main_v106, val_main_v107, val_main_v108, val_main_v109, val_main_v110, val_main_cst_24, val_main_v111, val_main_v112, val_main_cst_25, val_main_v113, val_main_v114, val_main_v115, val_main_v116, val_main_v117, val_main_v118, val_main_v70, val_main_cst_10, val_main_v71, val_main_v72, val_main_cst_11, val_main_v73, val_main_v74, val_main_cst_12, val_main_v75, val_main_v76, val_main_v77, val_main_v78, val_main_cst_13, val_main_v79, val_main_v80]
  simp only [dnormed m c t, stream3 m c t, Finset.univ_unique, Finset.sum_singleton]
  exact grad0 (fun k => Cert.TailReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 (row t x) k)) (fun k => Cert.TailReferenceIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) k)) _ (Norm.mean_pos _) q

/-- The gradient of the projection. -/
theorem dproj (c : Dev nD) (t : Fin cfg0.N) (x : Fin 128) (q : Fin 1024) :
    k0_pay34 (pg m c t) (r3 m c t) (xh3 m c t) (dxh m c t) (sm m c t) (k0_pay31 (F := Ideal)) (ix2 x q)
      = Cert.TailReferenceIdeal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay34, val_main_v163, val_main_v119]
  simp only [dstream3 m c t, gate m c t]
  exact mul_comm _ _

/-- The gradient of the gate. -/
theorem dgate (c : Dev nD) (t : Fin cfg0.N) (x : Fin 128) (q : Fin 1024) :
    k0_pay35 (pg m c t) (pp m c t) (r3 m c t) (xh3 m c t) (dxh m c t) (sm m c t) (k0_pay31 (F := Ideal)) (ix2 x q)
      = Cert.TailReferenceIdeal.Read.val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay35, val_main_v121, val_main_v120, val_main_v67, val_main_v66, val_main_v65, val_main_cst_9]
  simp only [dstream3 m c t, gate m c t, proj m c t]
  exact mul_assoc _ _ _

/-- The gradient of the layer embedding's input. -/
theorem dhid (c : Dev nD) (t : Fin cfg0.N) (x : Fin 128) (q : Fin 1024) :
    dh3 m c t (ix2 x q)
      = Cert.TailReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay37, val_main_v138, val_main_v1]
  simp only [dgate m c t, in8 m c t]

/-- The gradient of the residual stream after the feed-forward. -/
theorem dstream (c : Dev nD) (t : Fin cfg0.N) (x : Fin 128) (q : Fin 1024) :
    k0_pay2 (dx3 m c t) (k0_pay38 (r2 m c t) (xh2 m c t) (pg m c t) (pp m c t) (r3 m c t) (xh3 m c t) (dxh m c t) (sm m c t) (k0_pay31 (F := Ideal)) (iblk m c 8 t) (iblk m c 7 t)) (ix2 x q)
      = Cert.TailReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay2, k0_pay38, k0_pay18, k0_pay17, val_main_v159, val_main_v142, val_main_v143, val_main_v144, val_main_cst_31, val_main_v145, val_main_v146, val_main_v147, val_main_v148, val_main_v149, val_main_cst_32, val_main_v150, val_main_v151, val_main_cst_33, val_main_v152, val_main_v153, val_main_v154, val_main_v155, val_main_v156, val_main_v157, val_main_v122, val_main_cst_26, val_main_v123, val_main_v124, val_main_cst_27, val_main_v125, val_main_v126, val_main_cst_28, val_main_v127, val_main_v128, val_main_v129, val_main_v130, val_main_cst_29, val_main_v131, val_main_v132, val_main_v133, val_main_v134]
  simp only [dstream3 m c t, dhid m c t, stream m c t, Finset.univ_unique, Finset.sum_singleton, in7 m c t]
  exact Norm.grad_row (fun k => Cert.TailReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (row t x) k)) (fun k => Cert.TailReferenceIdeal.Read.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) k)
    * m ((c : Thread nD τ).loc main_arg6) (ix2 (0 : Fin 1) k)) _ _ (Norm.mean_pos _) q

end Cert.TailKernelIdeal.Value

end
-- ==== Proof.TailSums.lean ====
/-
  The end of the feed-forward, the layer embedding, the last norm and the loss: each whole result is the host program's. The
  rows come point by point; the loss and the gains' gradients are added up over the points.
-/
module

public import proofs.«01_k».proof.Proof.Gen.TailKernelIdeal.Value
public import proofs.«01_k».proof.Proof.Gen.TailReferenceIdeal.Read
public import proofs.«01_k».proof.Proof.TailRows
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.TailKernelIdeal.Value

open Cert.TailKernelIdeal Cert.TailKernelIdeal.Gen

variable (m : (ℓ : Loc nD τ sig) → Buf (Elt Ideal) ℓ)

/-- The gated rows, as they are kept. -/
theorem gated16 (c : Dev nD) (t : Fin cfg0.N) (x : Fin 128) (q : Fin 2816) :
    k0_pay15 (cv m c t) (gl m c t) (ix2 x q)
      = Cert.TailReferenceIdeal.Read.val_main_v160 (F := Ideal) (m ((c : Thread nD τ).loc main_arg0)) (m ((c : Thread nD τ).loc main_arg3)) (m ((c : Thread nD τ).loc main_arg4)) (ix2 (row t x) q) := by
  open TailReferenceIdeal.Read in
  pointwise [val_main_v160]
  simp only [gated m c t]

/-- The normed rows, as they are kept. -/
theorem normed16 (c : Dev nD) (t : Fin cfg0.N) (x : Fin 128) (q : Fin 1024) :
    k0_pay19 (cv m c t) (gl m c t) (iblk m c 5 t) (iblk m c 4 t) (iblk m c 7 t) (ix2 x q)
      = Cert.TailReferenceIdeal.Read.val_main_v161 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (ix2 (row t x) q) := by
  open TailReferenceIdeal.Read in
  pointwise [val_main_v161]
  simp only [normed m c t]

/-- The gate's gradient, as it is kept. -/
theorem dgate16 (c : Dev nD) (t : Fin cfg0.N) (x : Fin 128) (q : Fin 1024) :
    k0_pay36 (pg m c t) (pp m c t) (r3 m c t) (xh3 m c t) (dxh m c t) (sm m c t) (k0_pay31 (F := Ideal)) (ix2 x q)
      = Cert.TailReferenceIdeal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t x) q) := by
  open TailReferenceIdeal.Read in
  pointwise [k0_pay36, val_main_v162]
  simp only [dgate m c t]

theorem emb12 (t : Fin cfg0.N) (x : Fin 128) (q : Fin 1024) : ((cfg0.win 12).blk t).view.emb (ix2 x q) = ix2 (row t x) q := by
  blk_ext [row, idx t]
theorem final12 (c : Dev nD) : (dats m 0 c).arrAt 12 cfg0.N
    = Cert.TailReferenceIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  idx_vars y
  blk_simp
  rw [after0_12, emb12]
  by_cases h0 : t.val % 64 = 0
  · rw [outsAt0_A m c t h0]; frame_out; exact dstream m c t _ _
  · rw [outsAt0_B m c t h0]; frame_out; exact dstream m c t _ _

theorem emb13 (t : Fin cfg0.N) (x : Fin 128) (q : Fin 2816) : ((cfg0.win 13).blk t).view.emb (ix2 x q) = ix2 (row t x) q := by
  blk_ext [row, idx t]
theorem final13 (c : Dev nD) : (dats m 0 c).arrAt 13 cfg0.N
    = Cert.TailReferenceIdeal.Read.val_main_v160 (F := Ideal) (m ((c : Thread nD τ).loc main_arg0)) (m ((c : Thread nD τ).loc main_arg3)) (m ((c : Thread nD τ).loc main_arg4)) := by
  refine (dats m 0 c).arrAt_eq_of_covers 13 _ (by decide +kernel) fun t _ y => ?_
  idx_vars y
  blk_simp
  rw [after0_13, emb13]
  by_cases h0 : t.val % 64 = 0
  · rw [outsAt0_A m c t h0]; frame_out; exact gated16 m c t _ _
  · rw [outsAt0_B m c t h0]; frame_out; exact gated16 m c t _ _

theorem emb15 (t : Fin cfg0.N) (x : Fin 128) (q : Fin 2816) : ((cfg0.win 15).blk t).view.emb (ix2 x q) = ix2 (row t x) q := by
  blk_ext [row, idx t]
theorem final15 (c : Dev nD) : (dats m 0 c).arrAt 15 cfg0.N
    = Cert.TailReferenceIdeal.Read.val_main_v41 (F := Ideal) (m ((c : Thread nD τ).loc main_arg0)) (m ((c : Thread nD τ).loc main_arg3)) (m ((c : Thread nD τ).loc main_arg4)) := by
  refine (dats m 0 c).arrAt_eq_of_covers 15 _ (by decide +kernel) fun t _ y => ?_
  idx_vars y
  blk_simp
  rw [after0_15, emb15]
  by_cases h0 : t.val % 64 = 0
  · rw [outsAt0_A m c t h0]; frame_out; exact act m c t _ _
  · rw [outsAt0_B m c t h0]; frame_out; exact act m c t _ _

theorem emb16 (t : Fin cfg0.N) (x : Fin 128) (q : Fin 1024) : ((cfg0.win 16).blk t).view.emb (ix2 x q) = ix2 (row t x) q := by
  blk_ext [row, idx t]
theorem final16 (c : Dev nD) : (dats m 0 c).arrAt 16 cfg0.N
    = Cert.TailReferenceIdeal.Read.val_main_v161 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_covers 16 _ (by decide +kernel) fun t _ y => ?_
  idx_vars y
  blk_simp
  rw [after0_16, emb16]
  by_cases h0 : t.val % 64 = 0
  · rw [outsAt0_A m c t h0]; frame_out; exact normed16 m c t _ _
  · rw [outsAt0_B m c t h0]; frame_out; exact normed16 m c t _ _

theorem emb17 (t : Fin cfg0.N) (x : Fin 128) (q : Fin 1024) : ((cfg0.win 17).blk t).view.emb (ix2 x q) = ix2 (row t x) q := by
  blk_ext [row, idx t]
theorem final17 (c : Dev nD) : (dats m 0 c).arrAt 17 cfg0.N
    = Cert.TailReferenceIdeal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 17 _ (by decide +kernel) fun t _ y => ?_
  idx_vars y
  blk_simp
  rw [after0_17, emb17]
  by_cases h0 : t.val % 64 = 0
  · rw [outsAt0_A m c t h0]; frame_out; exact dgate16 m c t _ _
  · rw [outsAt0_B m c t h0]; frame_out; exact dgate16 m c t _ _

theorem emb18 (t : Fin cfg0.N) (x : Fin 128) (q : Fin 1024) : ((cfg0.win 18).blk t).view.emb (ix2 x q) = ix2 (row t x) q := by
  blk_ext [row, idx t]
theorem final18 (c : Dev nD) : (dats m 0 c).arrAt 18 cfg0.N
    = Cert.TailReferenceIdeal.Read.val_main_v163 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 18 _ (by decide +kernel) fun t _ y => ?_
  idx_vars y
  blk_simp
  rw [after0_18, emb18]
  by_cases h0 : t.val % 64 = 0
  · rw [outsAt0_A m c t h0]; frame_out; exact dproj m c t _ _
  · rw [outsAt0_B m c t h0]; frame_out; exact dproj m c t _ _

/-- The gains' gradients and the loss: zero at the start, a point's part added at each point. -/
theorem zero19 (j : S1x128.Idx) : k0_pay3 (F := Ideal) j = 0 := by pointwise! [k0_pay3]
theorem zero20 (j : S1x1024.Idx) : k0_pay4 (F := Ideal) j = 0 := by pointwise! [k0_pay4]
theorem zero21 (j : S1x1024.Idx) : k0_pay5 (F := Ideal) j = 0 := by pointwise! [k0_pay5]
theorem step19 (a b : FVec Ideal S128x1024 .f32) (g : Vec Ideal S1x1024 .f32) (d : Vec Ideal S128x1024 .f32) (v : Vec Ideal S1x128 .f32) (j : S1x128.Idx) :
    k0_pay27 a b g d v j = v j + k0_pay27 a b g d (fun _ => 0) j := by pointwise [k0_pay27]
theorem step20 (a b : FVec Ideal S128x1024 .f32) (v : Vec Ideal S1x1024 .f32) (j : S1x1024.Idx) :
    k0_pay33 a b v j = v j + k0_pay33 a b (fun _ => 0) j := by pointwise [k0_pay33]
theorem step21 (a : FVec Ideal S128x1024 .f32) (v : Vec Ideal S1x1024 .f32) (j : S1x1024.Idx) :
    k0_pay1 a v j = v j + k0_pay1 a (fun _ => 0) j := by pointwise [k0_pay1]

/-- A row of a point of the run of points, numbered over the whole array. -/
theorem run_row (t : Fin cfg0.N) (s : Fin 64) (k : Fin 128) (hs : 64 * (t.val / 64) + s.val < cfg0.N) (hl : s.val * 128 + k.val < 8192) :
    row ⟨64 * (t.val / 64) + s.val, hs⟩ k = ⟨s.val * 128 + k.val, hl⟩ := by
  refine Fin.ext ?_
  have h : t.val < 64 := lt_of_lt_of_eq t.isLt N_0
  simp only [row]
  omega

/-- A point's part of the loss and of the gains' gradients: the host program's values summed over the point's rows. -/
theorem part19 (c : Dev nD) (t : Fin cfg0.N) (j : S1x128.Idx) : k0_pay27 (x2 m c t) (s3 m c t) (iblk m c 10 t) (iblk m c 11 t) (fun _ => 0) j
    = Ideal.ofBits .f32 0x3F000000#32 * ∑ k : Fin 128, Ideal.div (∑ q : Fin 1024, Cert.TailReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t k) q)) (Ideal.ofBits .f32 0x44800000#32) := by
  idx_vars j
  open TailReferenceIdeal.Read in
  pointwise [k0_pay27, val_main_v86]
  simp only [diff m c t]
theorem part20 (c : Dev nD) (t : Fin cfg0.N) (a : Fin 1) (q : Fin 1024) : k0_pay33 (xh3 m c t) (dy m c t) (fun _ => 0) (ix2 a q)
    = ∑ k : Fin 128, Cert.TailReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t k) q) := by
  open TailReferenceIdeal.Read in
  pointwise [k0_pay33, val_main_v100]
  simp only [normed3 m c t, pred m c t]
  exact Finset.sum_congr rfl fun k _ => mul_comm _ _
theorem part21 (c : Dev nD) (t : Fin cfg0.N) (a : Fin 1) (q : Fin 1024) : k0_pay1 (k0_pay39 (xh2 m c t) (pg m c t) (pp m c t) (r3 m c t) (xh3 m c t) (dxh m c t) (sm m c t) (k0_pay31 (F := Ideal)) (iblk m c 8 t)) (fun _ => 0) (ix2 a q)
    = ∑ k : Fin 128, Cert.TailReferenceIdeal.Read.val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t k) q) := by
  open TailReferenceIdeal.Read in
  pointwise [k0_pay1, k0_pay39, k0_pay18, k0_pay17, val_main_v139, val_main_v122, val_main_cst_26, val_main_v123, val_main_v124, val_main_cst_27, val_main_v125, val_main_v126, val_main_cst_28, val_main_v127, val_main_v128, val_main_v129, val_main_v130, val_main_cst_29, val_main_v131, val_main_v132, val_main_v133, val_main_v134]
  simp only [dhid m c t, stream m c t]
  exact Finset.sum_congr rfl fun k _ => mul_comm _ _

/-- A half goes into a sum. -/
theorem half_sum (g : Fin 64 → EReal) : ∑ s, Ideal.ofBits .f32 0x3F000000#32 * g s = Ideal.ofBits .f32 0x3F000000#32 * ∑ s, g s := by
  have e : Ideal.ofBits .f32 0x3F000000#32 = ((1 / 2 : ℝ) : EReal) := by
    simp [Ideal.ofBits, Ideal.ieee, -EReal.coe_mul]; norm_num
  rw [e]
  exact (Norm.coe_mul_sum Finset.univ (1 / 2) (by norm_num) g).symm

theorem final19 (c : Dev nD) : (dats m 0 c).arrAt 19 cfg0.N
    = Cert.TailReferenceIdeal.Read.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 19 _ (by decide +kernel) fun t hf y => ?_
  idx_vars y
  blk_simp
  rw [after0_19, Pipeline.eq_sum_fin_of_reset_step_apply_of_flush (fun n h => (outsAt0 m c n h).2.2.2.2.2.2.2.1) 64 (fun _ => 0)
    (fun t j => k0_pay27 (x2 m c t) (s3 m c t) (iblk m c 10 t) (iblk m c 11 t) (fun _ => 0) j)
    (fun t h j => by rw [outsAt0_A m c t h]; frame_out; rw [step19, zero19]) (fun t h j => by rw [outsAt0_B m c t h]; frame_out; rw [step19])
    t ((flush0_19 t).mp hf) _, zero_add]
  simp only [part19 m c]
  open TailReferenceIdeal.Read in
  pointwise [val_main_v158, val_main_cst_15, val_main_v89, val_main_cst_16, val_main_v90, val_main_v91, val_main_cst_17, val_main_v92, val_main_cst_18, val_main_v93]
  rw [half_sum]
  refine congrArg (fun z : EReal => Ideal.ofBits .f32 0x3F000000#32 * z) (Fin.sum_mul_add_congr fun s k hl => ?_)
  rw [run_row t s k _ hl]

theorem final20 (c : Dev nD) : (dats m 0 c).arrAt 20 cfg0.N
    = Cert.TailReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 20 _ (by decide +kernel) fun t hf y => ?_
  idx_vars y
  blk_simp
  rw [after0_20, Pipeline.eq_sum_fin_of_reset_step_apply_of_flush (fun n h => (outsAt0 m c n h).2.2.2.2.2.2.2.2.1) 64 (fun _ => 0)
    (fun t j => k0_pay33 (xh3 m c t) (dy m c t) (fun _ => 0) j)
    (fun t h j => by rw [outsAt0_A m c t h]; frame_out; rw [step20, zero20]) (fun t h j => by rw [outsAt0_B m c t h]; frame_out; rw [step20])
    t ((flush0_20 t).mp hf) _, zero_add]
  simp only [part20 m c]
  open TailReferenceIdeal.Read in
  pointwise [val_main_v102, val_main_v101, val_main_cst_22]
  have e1 : ((cfg0.win 20).blk t).view.emb (ix2 y0 y1) 1 = y1 := Fin.ext (by blk_simp [idx t])
  refine Fin.sum_mul_add_congr fun s k hl => ?_
  rw [run_row t s k _ hl]
  exact congrArg (fun z : Fin 1024 => Cert.TailReferenceIdeal.Read.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨s.val * 128 + k.val, hl⟩ : Fin 8192) z)) e1.symm

theorem final21 (c : Dev nD) : (dats m 0 c).arrAt 21 cfg0.N
    = Cert.TailReferenceIdeal.Read.val_main_v141 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 21 _ (by decide +kernel) fun t hf y => ?_
  idx_vars y
  blk_simp
  rw [after0_21, Pipeline.eq_sum_fin_of_reset_step_apply_of_flush (fun n h => (outsAt0 m c n h).2.2.2.2.2.2.2.2.2) 64 (fun _ => 0)
    (fun t j => k0_pay1 (k0_pay39 (xh2 m c t) (pg m c t) (pp m c t) (r3 m c t) (xh3 m c t) (dxh m c t) (sm m c t) (k0_pay31 (F := Ideal)) (iblk m c 8 t)) (fun _ => 0) j)
    (fun t h j => by rw [outsAt0_A m c t h]; frame_out; rw [step21, zero21]) (fun t h j => by rw [outsAt0_B m c t h]; frame_out; rw [step21])
    t ((flush0_21 t).mp hf) _, zero_add]
  simp only [part21 m c]
  open TailReferenceIdeal.Read in
  pointwise [val_main_v141, val_main_v140, val_main_cst_30]
  have e1 : ((cfg0.win 21).blk t).view.emb (ix2 y0 y1) 1 = y1 := Fin.ext (by blk_simp [idx t])
  refine Fin.sum_mul_add_congr fun s k hl => ?_
  rw [run_row t s k _ hl]
  exact congrArg (fun z : Fin 1024 => Cert.TailReferenceIdeal.Read.val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (⟨s.val * 128 + k.val, hl⟩ : Fin 8192) z)) e1.symm

end Cert.TailKernelIdeal.Value

end
-- ==== Proof.TailClaims.lean ====
/- The equation of the feed-forward's end, the layer embedding, the last norm and the loss: the kernel's run and the reference's at the same stages, and the claim from the two. -/
module

public import proofs.«01_k».proof.Defs
public import proofs.«01_k».proof.Proof.Gen.TailKernel.Frame
public import proofs.«01_k».proof.Proof.Gen.TailReferenceIdeal.Run
public import proofs.«01_k».proof.Proof.TailSums
public import Idealize.ShloMosaic.Lib.Quiescent

@[expose] public section

noncomputable section

open Idealize.ShloMosaic Idealize.ShloMosaic.TcCoe Idealize.SL.Sem

namespace Cert.TailClaims

/-- The reference's run, each result at its stage, the arguments kept. -/
theorem stages (m : (ℓ : Loc Cert.TailReferenceIdeal.nD Cert.TailReferenceIdeal.τ Cert.TailReferenceIdeal.sig) → Buf (Elt Ideal) ℓ) (ρ : Dev Cert.TailReferenceIdeal.nD → PrngReg) :
    θ_run (Cert.TailReferenceIdeal.defs (F := Ideal)) (onTc (τ := Cert.TailReferenceIdeal.τ) (Cert.TailReferenceIdeal.main (F := Ideal))) ⟨m, fun _ => 0, ρ⟩ fun r => ∀ c : Dev Cert.TailReferenceIdeal.nD,
      r.2.mem ((c.tc : Thread Cert.TailReferenceIdeal.nD Cert.TailReferenceIdeal.τ).loc Cert.TailReferenceIdeal.main_v158) = Cert.TailReferenceIdeal.Read.val_main_v158 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10))
      ∧ r.2.mem ((c.tc : Thread Cert.TailReferenceIdeal.nD Cert.TailReferenceIdeal.τ).loc Cert.TailReferenceIdeal.main_v159) = Cert.TailReferenceIdeal.Read.val_main_v159 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10))
      ∧ r.2.mem ((c.tc : Thread Cert.TailReferenceIdeal.nD Cert.TailReferenceIdeal.τ).loc Cert.TailReferenceIdeal.main_v160) = Cert.TailReferenceIdeal.Read.val_main_v160 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4))
      ∧ r.2.mem ((c.tc : Thread Cert.TailReferenceIdeal.nD Cert.TailReferenceIdeal.τ).loc Cert.TailReferenceIdeal.main_v41) = Cert.TailReferenceIdeal.Read.val_main_v41 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4))
      ∧ r.2.mem ((c.tc : Thread Cert.TailReferenceIdeal.nD Cert.TailReferenceIdeal.τ).loc Cert.TailReferenceIdeal.main_v161) = Cert.TailReferenceIdeal.Read.val_main_v161 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6))
      ∧ r.2.mem ((c.tc : Thread Cert.TailReferenceIdeal.nD Cert.TailReferenceIdeal.τ).loc Cert.TailReferenceIdeal.main_v162) = Cert.TailReferenceIdeal.Read.val_main_v162 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10))
      ∧ r.2.mem ((c.tc : Thread Cert.TailReferenceIdeal.nD Cert.TailReferenceIdeal.τ).loc Cert.TailReferenceIdeal.main_v163) = Cert.TailReferenceIdeal.Read.val_main_v163 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10))
      ∧ r.2.mem ((c.tc : Thread Cert.TailReferenceIdeal.nD Cert.TailReferenceIdeal.τ).loc Cert.TailReferenceIdeal.main_v102) = Cert.TailReferenceIdeal.Read.val_main_v102 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10))
      ∧ r.2.mem ((c.tc : Thread Cert.TailReferenceIdeal.nD Cert.TailReferenceIdeal.τ).loc Cert.TailReferenceIdeal.main_v141) = Cert.TailReferenceIdeal.Read.val_main_v141 (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9)) (m ((c.tc : Thread Cert.TailReferenceIdeal.nD Cert.TailReferenceIdeal.τ).loc Cert.TailReferenceIdeal.main_arg10))
      ∧ r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10) :=
  (θ_run _ _ _).mono (fun r h c => ⟨(h c).1.trans (Cert.TailReferenceIdeal.Read.val_main_v158_eq ..), (h c).2.1.trans (Cert.TailReferenceIdeal.Read.val_main_v159_eq ..), (h c).2.2.1.trans (Cert.TailReferenceIdeal.Read.val_main_v160_eq ..), (h c).2.2.2.1.trans (Cert.TailReferenceIdeal.Read.val_main_v41_eq ..), (h c).2.2.2.2.1.trans (Cert.TailReferenceIdeal.Read.val_main_v161_eq ..), (h c).2.2.2.2.2.1.trans (Cert.TailReferenceIdeal.Read.val_main_v162_eq ..), (h c).2.2.2.2.2.2.1.trans (Cert.TailReferenceIdeal.Read.val_main_v163_eq ..), (h c).2.2.2.2.2.2.2.1.trans (Cert.TailReferenceIdeal.Read.val_main_v102_eq ..), (h c).2.2.2.2.2.2.2.2.1.trans (Cert.TailReferenceIdeal.Read.val_main_v141_eq ..), (h c).2.2.2.2.2.2.2.2.2⟩)
    (Cert.TailReferenceIdeal.Value.run m ρ)

/-- The kernel's run, each result at the reference's stage over the kernel's own arguments, the arguments kept. -/
theorem results (m : (ℓ : Loc Cert.TailKernelIdeal.nD Cert.TailKernelIdeal.τ Cert.TailKernelIdeal.sig) → Buf (Elt Ideal) ℓ) (ρ : Dev Cert.TailKernelIdeal.nD → PrngReg) :
    θ_run (Cert.TailKernelIdeal.defs (F := Ideal)) (onTc (τ := Cert.TailKernelIdeal.τ) (Cert.TailKernelIdeal.main (F := Ideal))) ⟨m, fun _ => 0, ρ⟩ fun r => ∀ c : Dev Cert.TailKernelIdeal.nD,
      r.2.mem ((c.tc : Thread Cert.TailKernelIdeal.nD Cert.TailKernelIdeal.τ).loc Cert.TailKernelIdeal.main_v0_7) = Cert.TailReferenceIdeal.Read.val_main_v158 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10))
      ∧ r.2.mem ((c.tc : Thread Cert.TailKernelIdeal.nD Cert.TailKernelIdeal.τ).loc Cert.TailKernelIdeal.main_v0_0) = Cert.TailReferenceIdeal.Read.val_main_v159 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10))
      ∧ r.2.mem ((c.tc : Thread Cert.TailKernelIdeal.nD Cert.TailKernelIdeal.τ).loc Cert.TailKernelIdeal.main_v0_1) = Cert.TailReferenceIdeal.Read.val_main_v160 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4))
      ∧ r.2.mem ((c.tc : Thread Cert.TailKernelIdeal.nD Cert.TailKernelIdeal.τ).loc Cert.TailKernelIdeal.main_v0_3) = Cert.TailReferenceIdeal.Read.val_main_v41 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4))
      ∧ r.2.mem ((c.tc : Thread Cert.TailKernelIdeal.nD Cert.TailKernelIdeal.τ).loc Cert.TailKernelIdeal.main_v0_4) = Cert.TailReferenceIdeal.Read.val_main_v161 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6))
      ∧ r.2.mem ((c.tc : Thread Cert.TailKernelIdeal.nD Cert.TailKernelIdeal.τ).loc Cert.TailKernelIdeal.main_v0_5) = Cert.TailReferenceIdeal.Read.val_main_v162 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10))
      ∧ r.2.mem ((c.tc : Thread Cert.TailKernelIdeal.nD Cert.TailKernelIdeal.τ).loc Cert.TailKernelIdeal.main_v0_6) = Cert.TailReferenceIdeal.Read.val_main_v163 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10))
      ∧ r.2.mem ((c.tc : Thread Cert.TailKernelIdeal.nD Cert.TailKernelIdeal.τ).loc Cert.TailKernelIdeal.main_v0_8) = Cert.TailReferenceIdeal.Read.val_main_v102 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10))
      ∧ r.2.mem ((c.tc : Thread Cert.TailKernelIdeal.nD Cert.TailKernelIdeal.τ).loc Cert.TailKernelIdeal.main_v0_9) = Cert.TailReferenceIdeal.Read.val_main_v141 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10))
      ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9)
      ∧ r.2.mem ((c.tc : Thread Cert.TailKernelIdeal.nD Cert.TailKernelIdeal.τ).loc Cert.TailKernelIdeal.main_arg10) = m ((c.tc : Thread Cert.TailKernelIdeal.nD Cert.TailKernelIdeal.τ).loc Cert.TailKernelIdeal.main_arg10) :=
  (θ_run _ _ _).mono (fun r h c => ⟨(h c).2.2.2.2.2.2.2.1.trans (Cert.TailKernelIdeal.Value.final19 m c), (h c).1.trans (Cert.TailKernelIdeal.Value.final12 m c), (h c).2.1.trans (Cert.TailKernelIdeal.Value.final13 m c), (h c).2.2.2.1.trans (Cert.TailKernelIdeal.Value.final15 m c), (h c).2.2.2.2.1.trans (Cert.TailKernelIdeal.Value.final16 m c), (h c).2.2.2.2.2.1.trans (Cert.TailKernelIdeal.Value.final17 m c), (h c).2.2.2.2.2.2.1.trans (Cert.TailKernelIdeal.Value.final18 m c), (h c).2.2.2.2.2.2.2.2.1.trans (Cert.TailKernelIdeal.Value.final20 m c), (h c).2.2.2.2.2.2.2.2.2.1.trans (Cert.TailKernelIdeal.Value.final21 m c), (h c).2.2.2.2.2.2.2.2.2.2⟩)
    (Cert.TailKernelIdeal.Value.run_blocks m ρ)

theorem algebraic : Cert.algebraic_TailKernelIdeal_TailReferenceIdeal (hTailKernelIdeal := Cert.TailKernelIdeal.Gen.facts) (hTailReferenceIdeal := Cert.TailReferenceIdeal.Gen.facts) := by
  intro m g m' g' _ hagree
  refine ⟨fun c => Cert.TailReferenceIdeal.Read.val_main_v158 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10)), fun c => Cert.TailReferenceIdeal.Read.val_main_v159 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10)), fun c => Cert.TailReferenceIdeal.Read.val_main_v160 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)), fun c => Cert.TailReferenceIdeal.Read.val_main_v41 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)), fun c => Cert.TailReferenceIdeal.Read.val_main_v161 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)), fun c => Cert.TailReferenceIdeal.Read.val_main_v162 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10)), fun c => Cert.TailReferenceIdeal.Read.val_main_v163 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10)), fun c => Cert.TailReferenceIdeal.Read.val_main_v102 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10)), fun c => Cert.TailReferenceIdeal.Read.val_main_v141 (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9)) (m ((c.tc : Thread Cert.TailKernelIdeal.nD Cert.TailKernelIdeal.τ).loc Cert.TailKernelIdeal.main_arg10)), results m g, ?_⟩
  refine (θ_run _ _ _).mono (fun r h c => ?_) (stages m' g')
  obtain ⟨a0, a1, a2, a3, a4, a5, a6, a7, a8, a9, a10⟩ := hagree c
  obtain ⟨h0, h1, h2, h3, h4, h5, h6, h7, h8, hk⟩ := h c
  rw [a0, a1, a2, a3, a4, a5, a6, a7, a8, a9, a10] at h0
  rw [a0, a1, a2, a3, a4, a5, a6, a7, a8, a9, a10] at h1
  rw [a0, a3, a4] at h2
  rw [a0, a3, a4] at h3
  rw [a0, a1, a3, a4, a5, a6] at h4
  rw [a0, a1, a2, a3, a4, a5, a6, a7, a8, a9, a10] at h5
  rw [a0, a1, a2, a3, a4, a5, a6, a7, a8, a9, a10] at h6
  rw [a0, a1, a2, a3, a4, a5, a6, a7, a8, a9, a10] at h7
  rw [a0, a1, a2, a3, a4, a5, a6, a7, a8, a9, a10] at h8
  exact ⟨h0, h1, h2, h3, h4, h5, h6, h7, h8, hk⟩

theorem quiet : Cert.quiescent_TailReferenceIdeal (hTailReferenceIdeal := Cert.TailReferenceIdeal.Gen.facts) := fun m ρ _ =>
  (θ_run _ _ _).mono (fun r h => ⟨fun c => (h c).2.2.2.2.2.2.2.2.2, sem_eq_zero_of_no_sems (by decide) _⟩) (Cert.TailReferenceIdeal.Value.run m ρ)

end Cert.TailClaims

end
-- ==== Proof.InProjRows.lean ====
/-
  The norm before the input projection and that projection: each point of the grid makes 256 normed rows and their
  products with the three parts of the weight's columns, and they are the host program's rows there.
-/
module

public import proofs.«01_k».proof.Proof.Gen.InProjKernelIdeal.Value
public import proofs.«01_k».proof.Proof.Gen.InProjReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InProjKernelIdeal.Value

open Cert.InProjKernelIdeal Cert.InProjKernelIdeal.Gen

variable (m : (ℓ : Loc nD τ sig) → Buf (Elt Ideal) ℓ)

/-- The block of each window at a point: the point's own rows, or the whole array. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the whole array a row of a point's block is. -/
def row (t : Fin cfg0.N) (x : Fin 256) : Fin 8192 :=
  ⟨t.val * 256 + x.val, by have h : t.val < 32 := lt_of_lt_of_eq t.isLt N_0; have := x.isLt; omega⟩

/-- The normed rows at a point are the host program's at its rows. -/
theorem normed (c : Dev nD) (t : Fin cfg0.N) (x : Fin 256) (q : Fin 1024) :
    k0_pay1 (iblk m c 0 t) (iblk m c 1 t) (ix2 x q)
      = Cert.InProjReferenceIdeal.Read.val_main_v11 (F := Ideal) (m ((c : Thread nD τ).loc main_arg0)) (m ((c : Thread nD τ).loc main_arg1)) (ix2 (row t x) q) := by
  open InProjReferenceIdeal.Read in
  pointwise [k0_pay1, val_main_v0, val_main_cst, val_main_v1, val_main_v2, val_main_cst_0, val_main_v3, val_main_v4, val_main_cst_1, val_main_v5, val_main_v6, val_main_v7, val_main_v8, val_main_v9, val_main_v10, val_main_v11]
  simp only [row]
  blk_point [iblk, V, idx t]

/-- A point's block of each result lies at its own rows. -/
theorem emb3 (t : Fin cfg0.N) (x : Fin 256) (q : Fin 1024) : ((cfg0.win 3).blk t).view.emb (ix2 x q) = ix2 (row t x) q := by
  blk_ext [row, idx t]
theorem emb4 (t : Fin cfg0.N) (x : Fin 256) (q : Fin 2048) : ((cfg0.win 4).blk t).view.emb (ix2 x q) = ix2 (row t x) q := by
  blk_ext [row, idx t]
theorem emb5 (t : Fin cfg0.N) (x : Fin 256) (q : Fin 512) : ((cfg0.win 5).blk t).view.emb (ix2 x q) = ix2 (row t x) q := by
  blk_ext [row, idx t]
theorem emb6 (t : Fin cfg0.N) (x : Fin 256) (q : Fin 2048) : ((cfg0.win 6).blk t).view.emb (ix2 x q) = ix2 (row t x) q := by
  blk_ext [row, idx t]

/-- The normed rows. -/
theorem final3 (c : Dev nD) : (dats m 0 c).arrAt 3 cfg0.N
    = Cert.InProjReferenceIdeal.Read.val_main_v14 (F := Ideal) (m ((c : Thread nD τ).loc main_arg0)) (m ((c : Thread nD τ).loc main_arg1)) := by
  refine (dats m 0 c).arrAt_eq_of_covers 3 _ (by decide +kernel) fun t _ y => ?_
  idx_vars y
  blk_simp
  rw [after0_3, emb3]
  frame_out
  exact normed m c t _ _

/-- The first part of the projection: the first recurrence's inputs. -/
theorem part4 (c : Dev nD) (t : Fin cfg0.N) (x : Fin 256) (q : Fin 2048) :
    k0_pay2 (iblk m c 0 t) (iblk m c 1 t) (View.ld (iblk m c 2 t) r0_2) (ix2 x q)
      = Cert.InProjReferenceIdeal.Read.val_main_v15 (F := Ideal) (m ((c : Thread nD τ).loc main_arg0)) (m ((c : Thread nD τ).loc main_arg1)) (m ((c : Thread nD τ).loc main_arg2)) (ix2 (row t x) q) := by
  open InProjReferenceIdeal.Read in
  pointwise [k0_pay2, val_main_v15, val_main_v13, val_main_v12]
  simp only [normed m c t]
  blk_point [iblk, V, idx t]

theorem final4 (c : Dev nD) : (dats m 0 c).arrAt 4 cfg0.N
    = Cert.InProjReferenceIdeal.Read.val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  idx_vars y
  blk_simp
  rw [after0_4, emb4]
  frame_out
  exact part4 m c t _ _

/-- The second part: the second recurrence's inputs. -/
theorem part5 (c : Dev nD) (t : Fin cfg0.N) (x : Fin 256) (q : Fin 512) :
    k0_pay3 (iblk m c 0 t) (iblk m c 1 t) (View.ld (iblk m c 2 t) r0_4) (ix2 x q)
      = Cert.InProjReferenceIdeal.Read.val_main_v16 (F := Ideal) (m ((c : Thread nD τ).loc main_arg0)) (m ((c : Thread nD τ).loc main_arg1)) (m ((c : Thread nD τ).loc main_arg2)) (ix2 (row t x) q) := by
  open InProjReferenceIdeal.Read in
  pointwise [k0_pay3, val_main_v16, val_main_v13, val_main_v12]
  simp only [normed m c t]
  blk_point [iblk, V, idx t]

theorem final5 (c : Dev nD) : (dats m 0 c).arrAt 5 cfg0.N
    = Cert.InProjReferenceIdeal.Read.val_main_v16 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  idx_vars y
  blk_simp
  rw [after0_5, emb5]
  frame_out
  exact part5 m c t _ _

/-- The third part: the gates. -/
theorem part6 (c : Dev nD) (t : Fin cfg0.N) (x : Fin 256) (q : Fin 2048) :
    k0_pay4 (iblk m c 0 t) (iblk m c 1 t) (View.ld (iblk m c 2 t) r0_6) (ix2 x q)
      = Cert.InProjReferenceIdeal.Read.val_main_v17 (F := Ideal) (m ((c : Thread nD τ).loc main_arg0)) (m ((c : Thread nD τ).loc main_arg1)) (m ((c : Thread nD τ).loc main_arg2)) (ix2 (row t x) q) := by
  open InProjReferenceIdeal.Read in
  pointwise [k0_pay4, val_main_v17, val_main_v13, val_main_v12]
  simp only [normed m c t]
  blk_point [iblk, V, idx t]

theorem final6 (c : Dev nD) : (dats m 0 c).arrAt 6 cfg0.N
    = Cert.InProjReferenceIdeal.Read.val_main_v17 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  idx_vars y
  blk_simp
  rw [after0_6, emb6]
  frame_out
  exact part6 m c t _ _

end Cert.InProjKernelIdeal.Value

end
-- ==== Proof.InProjClaims.lean ====
/- The equation of the norm before the input projection and that projection: the kernel's run and the reference's at the same stages, and the claim from the two. -/
module

public import proofs.«01_k».proof.Defs
public import proofs.«01_k».proof.Proof.Gen.InProjKernel.Frame
public import proofs.«01_k».proof.Proof.Gen.InProjReferenceIdeal.Run
public import proofs.«01_k».proof.Proof.InProjRows
public import Idealize.ShloMosaic.Lib.Quiescent

@[expose] public section

noncomputable section

open Idealize.ShloMosaic Idealize.ShloMosaic.TcCoe Idealize.SL.Sem

namespace Cert.InProjClaims

/-- The reference's run, each result at its stage, the arguments kept. -/
theorem stages (m : (ℓ : Loc Cert.InProjReferenceIdeal.nD Cert.InProjReferenceIdeal.τ Cert.InProjReferenceIdeal.sig) → Buf (Elt Ideal) ℓ) (ρ : Dev Cert.InProjReferenceIdeal.nD → PrngReg) :
    θ_run (Cert.InProjReferenceIdeal.defs (F := Ideal)) (onTc (τ := Cert.InProjReferenceIdeal.τ) (Cert.InProjReferenceIdeal.main (F := Ideal))) ⟨m, fun _ => 0, ρ⟩ fun r => ∀ c : Dev Cert.InProjReferenceIdeal.nD,
      r.2.mem ((c.tc : Thread Cert.InProjReferenceIdeal.nD Cert.InProjReferenceIdeal.τ).loc Cert.InProjReferenceIdeal.main_v14) = Cert.InProjReferenceIdeal.Read.val_main_v14 (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1))
      ∧ r.2.mem ((c.tc : Thread Cert.InProjReferenceIdeal.nD Cert.InProjReferenceIdeal.τ).loc Cert.InProjReferenceIdeal.main_v15) = Cert.InProjReferenceIdeal.Read.val_main_v15 (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2))
      ∧ r.2.mem ((c.tc : Thread Cert.InProjReferenceIdeal.nD Cert.InProjReferenceIdeal.τ).loc Cert.InProjReferenceIdeal.main_v16) = Cert.InProjReferenceIdeal.Read.val_main_v16 (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2))
      ∧ r.2.mem ((c.tc : Thread Cert.InProjReferenceIdeal.nD Cert.InProjReferenceIdeal.τ).loc Cert.InProjReferenceIdeal.main_v17) = Cert.InProjReferenceIdeal.Read.val_main_v17 (F := Ideal) (m ((c.tc : Thread Cert.InProjReferenceIdeal.nD Cert.InProjReferenceIdeal.τ).loc Cert.InProjReferenceIdeal.main_arg0)) (m ((c.tc : Thread Cert.InProjReferenceIdeal.nD Cert.InProjReferenceIdeal.τ).loc Cert.InProjReferenceIdeal.main_arg1)) (m ((c.tc : Thread Cert.InProjReferenceIdeal.nD Cert.InProjReferenceIdeal.τ).loc Cert.InProjReferenceIdeal.main_arg2))
      ∧ r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2) :=
  (θ_run _ _ _).mono (fun r h c => ⟨(h c).1.trans (Cert.InProjReferenceIdeal.Read.val_main_v14_eq ..), (h c).2.1.trans (Cert.InProjReferenceIdeal.Read.val_main_v15_eq ..), (h c).2.2.1.trans (Cert.InProjReferenceIdeal.Read.val_main_v16_eq ..), (h c).2.2.2.1.trans (Cert.InProjReferenceIdeal.Read.val_main_v17_eq ..), (h c).2.2.2.2⟩)
    (Cert.InProjReferenceIdeal.Value.run m ρ)

/-- The kernel's run, each result at the reference's stage over the kernel's own arguments, the arguments kept. -/
theorem results (m : (ℓ : Loc Cert.InProjKernelIdeal.nD Cert.InProjKernelIdeal.τ Cert.InProjKernelIdeal.sig) → Buf (Elt Ideal) ℓ) (ρ : Dev Cert.InProjKernelIdeal.nD → PrngReg) :
    θ_run (Cert.InProjKernelIdeal.defs (F := Ideal)) (onTc (τ := Cert.InProjKernelIdeal.τ) (Cert.InProjKernelIdeal.main (F := Ideal))) ⟨m, fun _ => 0, ρ⟩ fun r => ∀ c : Dev Cert.InProjKernelIdeal.nD,
      r.2.mem ((c.tc : Thread Cert.InProjKernelIdeal.nD Cert.InProjKernelIdeal.τ).loc Cert.InProjKernelIdeal.main_v0_0) = Cert.InProjReferenceIdeal.Read.val_main_v14 (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1))
      ∧ r.2.mem ((c.tc : Thread Cert.InProjKernelIdeal.nD Cert.InProjKernelIdeal.τ).loc Cert.InProjKernelIdeal.main_v0_1) = Cert.InProjReferenceIdeal.Read.val_main_v15 (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2))
      ∧ r.2.mem ((c.tc : Thread Cert.InProjKernelIdeal.nD Cert.InProjKernelIdeal.τ).loc Cert.InProjKernelIdeal.main_v0_2) = Cert.InProjReferenceIdeal.Read.val_main_v16 (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2))
      ∧ r.2.mem ((c.tc : Thread Cert.InProjKernelIdeal.nD Cert.InProjKernelIdeal.τ).loc Cert.InProjKernelIdeal.main_v0_3) = Cert.InProjReferenceIdeal.Read.val_main_v17 (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2))
      ∧ r.2.mem ((c.tc : Thread Cert.InProjKernelIdeal.nD Cert.InProjKernelIdeal.τ).loc Cert.InProjKernelIdeal.main_arg0) = m ((c.tc : Thread Cert.InProjKernelIdeal.nD Cert.InProjKernelIdeal.τ).loc Cert.InProjKernelIdeal.main_arg0)
      ∧ r.2.mem ((c.tc : Thread Cert.InProjKernelIdeal.nD Cert.InProjKernelIdeal.τ).loc Cert.InProjKernelIdeal.main_arg1) = m ((c.tc : Thread Cert.InProjKernelIdeal.nD Cert.InProjKernelIdeal.τ).loc Cert.InProjKernelIdeal.main_arg1)
      ∧ r.2.mem ((c.tc : Thread Cert.InProjKernelIdeal.nD Cert.InProjKernelIdeal.τ).loc Cert.InProjKernelIdeal.main_arg2) = m ((c.tc : Thread Cert.InProjKernelIdeal.nD Cert.InProjKernelIdeal.τ).loc Cert.InProjKernelIdeal.main_arg2) :=
  (θ_run _ _ _).mono (fun r h c => ⟨(h c).1.trans (Cert.InProjKernelIdeal.Value.final3 m c), (h c).2.1.trans (Cert.InProjKernelIdeal.Value.final4 m c), (h c).2.2.1.trans (Cert.InProjKernelIdeal.Value.final5 m c), (h c).2.2.2.1.trans (Cert.InProjKernelIdeal.Value.final6 m c), (h c).2.2.2.2⟩)
    (Cert.InProjKernelIdeal.Value.run_blocks m ρ)

theorem algebraic : Cert.algebraic_InProjKernelIdeal_InProjReferenceIdeal (hInProjKernelIdeal := Cert.InProjKernelIdeal.Gen.facts) (hInProjReferenceIdeal := Cert.InProjReferenceIdeal.Gen.facts) := by
  intro m g m' g' _ hagree
  refine ⟨fun c => Cert.InProjReferenceIdeal.Read.val_main_v14 (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)), fun c => Cert.InProjReferenceIdeal.Read.val_main_v15 (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)), fun c => Cert.InProjReferenceIdeal.Read.val_main_v16 (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)), fun c => Cert.InProjReferenceIdeal.Read.val_main_v17 (F := Ideal) (m ((c.tc : Thread Cert.InProjKernelIdeal.nD Cert.InProjKernelIdeal.τ).loc Cert.InProjKernelIdeal.main_arg0)) (m ((c.tc : Thread Cert.InProjKernelIdeal.nD Cert.InProjKernelIdeal.τ).loc Cert.InProjKernelIdeal.main_arg1)) (m ((c.tc : Thread Cert.InProjKernelIdeal.nD Cert.InProjKernelIdeal.τ).loc Cert.InProjKernelIdeal.main_arg2)), results m g, ?_⟩
  refine (θ_run _ _ _).mono (fun r h c => ?_) (stages m' g')
  obtain ⟨a0, a1, a2⟩ := hagree c
  obtain ⟨h0, h1, h2, h3, hk⟩ := h c
  rw [a0, a1] at h0
  rw [a0, a1, a2] at h1
  rw [a0, a1, a2] at h2
  rw [a0, a1, a2] at h3
  exact ⟨h0, h1, h2, h3, hk⟩

theorem quiet : Cert.quiescent_InProjReferenceIdeal (hInProjReferenceIdeal := Cert.InProjReferenceIdeal.Gen.facts) := fun m ρ _ =>
  (θ_run _ _ _).mono (fun r h => ⟨fun c => (h c).2.2.2.2, sem_eq_zero_of_no_sems (by decide) _⟩) (Cert.InProjReferenceIdeal.Value.run m ρ)

end Cert.InProjClaims

end
-- ==== Proof.WgPg.lean ====
/-
  The weight gradient of the layer embedding's gate: the grid's 16 points add up 512 rows each; the sum over the points
  and their rows is the host program's sum over the 8192 rows.
-/
module

public import proofs.«01_k».proof.Proof.Gen.WgPgKernelIdeal.Value
public import proofs.«01_k».proof.Proof.Gen.WgPgReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.WgPgKernelIdeal.Value

open Cert.WgPgKernelIdeal Cert.WgPgKernelIdeal.Gen

variable (m : (ℓ : Loc nD τ sig) → Buf (Elt Ideal) ℓ)

/-- The block of each window at a point: the point's rows, and the whole result. -/
theorem idx : ∀ t : Fin cfg0.N, win0_0.index t = ![t.val, 0] ∧ win0_1.index t = ![t.val, 0] ∧ win0_2.index t = ![0, 0, 0] :=
  (by decide +kernel : ∀ t : Fin grid0.N, _)

/-- The sum starts from zero. -/
theorem zero (j) : k0_pay1 (F := Ideal) j = 0 := by pointwise [k0_pay1]

/-- The update at a point: 512 rows more. -/
theorem step (acc : FVec Ideal S1x1024x1024 .f32) (x : FVec Ideal S512x1024 .bf16) (d : FVec Ideal S512x1024 .bf16) (j : S1x1024x1024.Idx) :
    k0_pay2 acc x d j = acc j + ∑ k : Fin 512, x (ix2 k (j 1)) * d (ix2 k (j 2)) := by
  idx_vars j
  fin_cases j0
  pointwise [k0_pay2]

/-- What the region finds in the saved array: the host program's. -/
theorem saved (c : Dev nD) : (V m c main_v12 : FVec Ideal S8192x1024 .bf16)
    = Cert.WgPgReferenceIdeal.Read.val_main_v12 (F := Ideal) (m ((c : Thread nD τ).loc main_arg1)) (m ((c : Thread nD τ).loc main_arg2)) := by
  entry_read
  funext i
  open WgPgReferenceIdeal.Read in
  pointwise [val_main_v1, val_main_cst_0, val_main_v2, val_main_v3, val_main_cst_1, val_main_v4, val_main_v5, val_main_cst_2, val_main_v6, val_main_v7, val_main_v8, val_main_v9, val_main_v10, val_main_v11, val_main_v12]

/-- The weight gradient after the run is the host program's. -/
theorem final (c : Dev nD) : (dats m 0 c).arrAt 2 cfg0.N
    = Cert.WgPgReferenceIdeal.Read.val_main_v17 (F := Ideal) (m ((c : Thread nD τ).loc main_arg0)) (m ((c : Thread nD τ).loc main_arg1)) (m ((c : Thread nD τ).loc main_arg2)) := by
  refine (dats m 0 c).arrAt_eq_of_after_last 2 t0_15 (by decide +kernel) _ fun j => ?_
  blk_simp
  rw [after0_2, Pipeline.eq_sum_fin_of_reset_step_apply_last (fun n h => (outsAt0 m c n h)) 16 (fun _ => 0) _
    (fun t h j => by rw [outsAt0_A m c t h]; frame_out; rw [step, zero])
    (fun t h j => by rw [outsAt0_B m c t h]; frame_out; rw [step])
    (le_of_eq N_0) t0_15 rfl j, zero_add]
  open WgPgReferenceIdeal.Read in
  pointwise [val_main_v17, val_main_v16, val_main_v15, val_main_v14]
  refine Fin.sum_mul_add_congr fun s k hl => ?_
  rw [mul_comm]
  refine congrArg₂ (· * ·) ?_ ?_
  · blk_ext [iblk, V, idx s]
  · blk_simp [iblk]
    rw [saved m c]
    blk_ext [idx s]

end Cert.WgPgKernelIdeal.Value

end
-- ==== Proof.WgPgClaims.lean ====
/- The equation of the weight gradient of the layer embedding's gate: the kernel's run and the reference's at the same stages, and the claim from the two. -/
module

public import proofs.«01_k».proof.Defs
public import proofs.«01_k».proof.Proof.Gen.WgPgKernel.Frame
public import proofs.«01_k».proof.Proof.Gen.WgPgReferenceIdeal.Run
public import proofs.«01_k».proof.Proof.WgPg
public import Idealize.ShloMosaic.Lib.Quiescent

@[expose] public section

noncomputable section

open Idealize.ShloMosaic Idealize.ShloMosaic.TcCoe Idealize.SL.Sem

namespace Cert.WgPgClaims

/-- The reference's run, each result at its stage, the arguments kept. -/
theorem stages (m : (ℓ : Loc Cert.WgPgReferenceIdeal.nD Cert.WgPgReferenceIdeal.τ Cert.WgPgReferenceIdeal.sig) → Buf (Elt Ideal) ℓ) (ρ : Dev Cert.WgPgReferenceIdeal.nD → PrngReg) :
    θ_run (Cert.WgPgReferenceIdeal.defs (F := Ideal)) (onTc (τ := Cert.WgPgReferenceIdeal.τ) (Cert.WgPgReferenceIdeal.main (F := Ideal))) ⟨m, fun _ => 0, ρ⟩ fun r => ∀ c : Dev Cert.WgPgReferenceIdeal.nD,
      r.2.mem ((c.tc : Thread Cert.WgPgReferenceIdeal.nD Cert.WgPgReferenceIdeal.τ).loc Cert.WgPgReferenceIdeal.main_v17) = Cert.WgPgReferenceIdeal.Read.val_main_v17 (F := Ideal) (m ((c.tc : Thread Cert.WgPgReferenceIdeal.nD Cert.WgPgReferenceIdeal.τ).loc Cert.WgPgReferenceIdeal.main_arg0)) (m ((c.tc : Thread Cert.WgPgReferenceIdeal.nD Cert.WgPgReferenceIdeal.τ).loc Cert.WgPgReferenceIdeal.main_arg1)) (m ((c.tc : Thread Cert.WgPgReferenceIdeal.nD Cert.WgPgReferenceIdeal.τ).loc Cert.WgPgReferenceIdeal.main_arg2))
      ∧ r.2.mem ((c.tc : Thread Cert.WgPgReferenceIdeal.nD Cert.WgPgReferenceIdeal.τ).loc Cert.WgPgReferenceIdeal.main_arg0) = m ((c.tc : Thread Cert.WgPgReferenceIdeal.nD Cert.WgPgReferenceIdeal.τ).loc Cert.WgPgReferenceIdeal.main_arg0)
      ∧ r.2.mem ((c.tc : Thread Cert.WgPgReferenceIdeal.nD Cert.WgPgReferenceIdeal.τ).loc Cert.WgPgReferenceIdeal.main_arg1) = m ((c.tc : Thread Cert.WgPgReferenceIdeal.nD Cert.WgPgReferenceIdeal.τ).loc Cert.WgPgReferenceIdeal.main_arg1)
      ∧ r.2.mem ((c.tc : Thread Cert.WgPgReferenceIdeal.nD Cert.WgPgReferenceIdeal.τ).loc Cert.WgPgReferenceIdeal.main_arg2) = m ((c.tc : Thread Cert.WgPgReferenceIdeal.nD Cert.WgPgReferenceIdeal.τ).loc Cert.WgPgReferenceIdeal.main_arg2) :=
  (θ_run _ _ _).mono (fun r h c => ⟨(h c).1.trans (Cert.WgPgReferenceIdeal.Read.val_main_v17_eq ..), (h c).2⟩)
    (Cert.WgPgReferenceIdeal.Value.run m ρ)

/-- The kernel's run, each result at the reference's stage over the kernel's own arguments, the arguments kept. -/
theorem results (m : (ℓ : Loc Cert.WgPgKernelIdeal.nD Cert.WgPgKernelIdeal.τ Cert.WgPgKernelIdeal.sig) → Buf (Elt Ideal) ℓ) (ρ : Dev Cert.WgPgKernelIdeal.nD → PrngReg) :
    θ_run (Cert.WgPgKernelIdeal.defs (F := Ideal)) (onTc (τ := Cert.WgPgKernelIdeal.τ) (Cert.WgPgKernelIdeal.main (F := Ideal))) ⟨m, fun _ => 0, ρ⟩ fun r => ∀ c : Dev Cert.WgPgKernelIdeal.nD,
      r.2.mem ((c.tc : Thread Cert.WgPgKernelIdeal.nD Cert.WgPgKernelIdeal.τ).loc Cert.WgPgKernelIdeal.main_v13) = Cert.WgPgReferenceIdeal.Read.val_main_v17 (F := Ideal) (m ((c.tc : Thread Cert.WgPgKernelIdeal.nD Cert.WgPgKernelIdeal.τ).loc Cert.WgPgKernelIdeal.main_arg0)) (m ((c.tc : Thread Cert.WgPgKernelIdeal.nD Cert.WgPgKernelIdeal.τ).loc Cert.WgPgKernelIdeal.main_arg1)) (m ((c.tc : Thread Cert.WgPgKernelIdeal.nD Cert.WgPgKernelIdeal.τ).loc Cert.WgPgKernelIdeal.main_arg2))
      ∧ r.2.mem ((c.tc : Thread Cert.WgPgKernelIdeal.nD Cert.WgPgKernelIdeal.τ).loc Cert.WgPgKernelIdeal.main_arg0) = m ((c.tc : Thread Cert.WgPgKernelIdeal.nD Cert.WgPgKernelIdeal.τ).loc Cert.WgPgKernelIdeal.main_arg0)
      ∧ r.2.mem ((c.tc : Thread Cert.WgPgKernelIdeal.nD Cert.WgPgKernelIdeal.τ).loc Cert.WgPgKernelIdeal.main_arg1) = m ((c.tc : Thread Cert.WgPgKernelIdeal.nD Cert.WgPgKernelIdeal.τ).loc Cert.WgPgKernelIdeal.main_arg1)
      ∧ r.2.mem ((c.tc : Thread Cert.WgPgKernelIdeal.nD Cert.WgPgKernelIdeal.τ).loc Cert.WgPgKernelIdeal.main_arg2) = m ((c.tc : Thread Cert.WgPgKernelIdeal.nD Cert.WgPgKernelIdeal.τ).loc Cert.WgPgKernelIdeal.main_arg2) :=
  (θ_run _ _ _).mono (fun r h c => ⟨(h c).1.trans (Cert.WgPgKernelIdeal.Value.final m c), (h c).2⟩)
    (Cert.WgPgKernelIdeal.Value.run_blocks m ρ)

theorem algebraic : Cert.algebraic_WgPgKernelIdeal_WgPgReferenceIdeal (hWgPgKernelIdeal := Cert.WgPgKernelIdeal.Gen.facts) (hWgPgReferenceIdeal := Cert.WgPgReferenceIdeal.Gen.facts) := by
  intro m g m' g' _ hagree
  refine ⟨fun c => Cert.WgPgReferenceIdeal.Read.val_main_v17 (F := Ideal) (m ((c.tc : Thread Cert.WgPgKernelIdeal.nD Cert.WgPgKernelIdeal.τ).loc Cert.WgPgKernelIdeal.main_arg0)) (m ((c.tc : Thread Cert.WgPgKernelIdeal.nD Cert.WgPgKernelIdeal.τ).loc Cert.WgPgKernelIdeal.main_arg1)) (m ((c.tc : Thread Cert.WgPgKernelIdeal.nD Cert.WgPgKernelIdeal.τ).loc Cert.WgPgKernelIdeal.main_arg2)), results m g, ?_⟩
  refine (θ_run _ _ _).mono (fun r h c => ?_) (stages m' g')
  obtain ⟨a0, a1, a2⟩ := hagree c
  obtain ⟨h0, hk⟩ := h c
  rw [a0, a1, a2] at h0
  exact ⟨h0, hk⟩

theorem quiet : Cert.quiescent_WgPgReferenceIdeal (hWgPgReferenceIdeal := Cert.WgPgReferenceIdeal.Gen.facts) := fun m ρ _ =>
  (θ_run _ _ _).mono (fun r h => ⟨fun c => (h c).2, sem_eq_zero_of_no_sems (by decide) _⟩) (Cert.WgPgReferenceIdeal.Value.run m ρ)

end Cert.WgPgClaims

end
-- ==== Proof.WgPp.lean ====
/-
  The weight gradient of the layer embedding's projection: the grid's 16 points add up 512 rows each; the sum over the points
  and their rows is the host program's sum over the 8192 rows.
-/
module

public import proofs.«01_k».proof.Proof.Gen.WgPpKernelIdeal.Value
public import proofs.«01_k».proof.Proof.Gen.WgPpReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.WgPpKernelIdeal.Value

open Cert.WgPpKernelIdeal Cert.WgPpKernelIdeal.Gen

variable (m : (ℓ : Loc nD τ sig) → Buf (Elt Ideal) ℓ)

/-- The block of each window at a point: the point's rows, and the whole result. -/
theorem idx : ∀ t : Fin cfg0.N, win0_0.index t = ![t.val, 0] ∧ win0_1.index t = ![t.val, 0] ∧ win0_2.index t = ![0, 0, 0] :=
  (by decide +kernel : ∀ t : Fin grid0.N, _)

/-- The sum starts from zero. -/
theorem zero (j) : k0_pay1 (F := Ideal) j = 0 := by pointwise [k0_pay1]

/-- The update at a point: 512 rows more. -/
theorem step (acc : FVec Ideal S1x256x1024 .f32) (x : FVec Ideal S512x256 .f32) (d : FVec Ideal S512x1024 .bf16) (j : S1x256x1024.Idx) :
    k0_pay2 acc x d j = acc j + ∑ k : Fin 512, x (ix2 k (j 1)) * d (ix2 k (j 2)) := by
  idx_vars j
  fin_cases j0
  pointwise [k0_pay2]

/-- The weight gradient after the run is the host program's. -/
theorem final (c : Dev nD) : (dats m 0 c).arrAt 2 cfg0.N
    = Cert.WgPpReferenceIdeal.Read.val_main_v5 (F := Ideal) (m ((c : Thread nD τ).loc main_arg0)) (m ((c : Thread nD τ).loc main_arg1)) := by
  refine (dats m 0 c).arrAt_eq_of_after_last 2 t0_15 (by decide +kernel) _ fun j => ?_
  blk_simp
  rw [after0_2, Pipeline.eq_sum_fin_of_reset_step_apply_last (fun n h => (outsAt0 m c n h)) 16 (fun _ => 0) _
    (fun t h j => by rw [outsAt0_A m c t h]; frame_out; rw [step, zero])
    (fun t h j => by rw [outsAt0_B m c t h]; frame_out; rw [step])
    (le_of_eq N_0) t0_15 rfl j, zero_add]
  open WgPpReferenceIdeal.Read in
  pointwise [val_main_v5, val_main_v4, val_main_v3, val_main_v2]
  refine Fin.sum_mul_add_congr fun s k hl => ?_
  rw [mul_comm]
  refine congrArg₂ (· * ·) ?_ ?_
  · blk_ext [iblk, V, idx s]
  · blk_ext [iblk, V, idx s]

end Cert.WgPpKernelIdeal.Value

end
-- ==== Proof.WgPpClaims.lean ====
/- The equation of the weight gradient of the layer embedding's projection: the kernel's run and the reference's at the same stages, and the claim from the two. -/
module

public import proofs.«01_k».proof.Defs
public import proofs.«01_k».proof.Proof.Gen.WgPpKernel.Frame
public import proofs.«01_k».proof.Proof.Gen.WgPpReferenceIdeal.Run
public import proofs.«01_k».proof.Proof.WgPp
public import Idealize.ShloMosaic.Lib.Quiescent

@[expose] public section

noncomputable section

open Idealize.ShloMosaic Idealize.ShloMosaic.TcCoe Idealize.SL.Sem

namespace Cert.WgPpClaims

/-- The reference's run, each result at its stage, the arguments kept. -/
theorem stages (m : (ℓ : Loc Cert.WgPpReferenceIdeal.nD Cert.WgPpReferenceIdeal.τ Cert.WgPpReferenceIdeal.sig) → Buf (Elt Ideal) ℓ) (ρ : Dev Cert.WgPpReferenceIdeal.nD → PrngReg) :
    θ_run (Cert.WgPpReferenceIdeal.defs (F := Ideal)) (onTc (τ := Cert.WgPpReferenceIdeal.τ) (Cert.WgPpReferenceIdeal.main (F := Ideal))) ⟨m, fun _ => 0, ρ⟩ fun r => ∀ c : Dev Cert.WgPpReferenceIdeal.nD,
      r.2.mem ((c.tc : Thread Cert.WgPpReferenceIdeal.nD Cert.WgPpReferenceIdeal.τ).loc Cert.WgPpReferenceIdeal.main_v5) = Cert.WgPpReferenceIdeal.Read.val_main_v5 (F := Ideal) (m ((c.tc : Thread Cert.WgPpReferenceIdeal.nD Cert.WgPpReferenceIdeal.τ).loc Cert.WgPpReferenceIdeal.main_arg0)) (m ((c.tc : Thread Cert.WgPpReferenceIdeal.nD Cert.WgPpReferenceIdeal.τ).loc Cert.WgPpReferenceIdeal.main_arg1))
      ∧ r.2.mem ((c.tc : Thread Cert.WgPpReferenceIdeal.nD Cert.WgPpReferenceIdeal.τ).loc Cert.WgPpReferenceIdeal.main_arg0) = m ((c.tc : Thread Cert.WgPpReferenceIdeal.nD Cert.WgPpReferenceIdeal.τ).loc Cert.WgPpReferenceIdeal.main_arg0)
      ∧ r.2.mem ((c.tc : Thread Cert.WgPpReferenceIdeal.nD Cert.WgPpReferenceIdeal.τ).loc Cert.WgPpReferenceIdeal.main_arg1) = m ((c.tc : Thread Cert.WgPpReferenceIdeal.nD Cert.WgPpReferenceIdeal.τ).loc Cert.WgPpReferenceIdeal.main_arg1) :=
  (θ_run _ _ _).mono (fun r h c => ⟨(h c).1.trans (Cert.WgPpReferenceIdeal.Read.val_main_v5_eq ..), (h c).2⟩)
    (Cert.WgPpReferenceIdeal.Value.run m ρ)

/-- The kernel's run, each result at the reference's stage over the kernel's own arguments, the arguments kept. -/
theorem results (m : (ℓ : Loc Cert.WgPpKernelIdeal.nD Cert.WgPpKernelIdeal.τ Cert.WgPpKernelIdeal.sig) → Buf (Elt Ideal) ℓ) (ρ : Dev Cert.WgPpKernelIdeal.nD → PrngReg) :
    θ_run (Cert.WgPpKernelIdeal.defs (F := Ideal)) (onTc (τ := Cert.WgPpKernelIdeal.τ) (Cert.WgPpKernelIdeal.main (F := Ideal))) ⟨m, fun _ => 0, ρ⟩ fun r => ∀ c : Dev Cert.WgPpKernelIdeal.nD,
      r.2.mem ((c.tc : Thread Cert.WgPpKernelIdeal.nD Cert.WgPpKernelIdeal.τ).loc Cert.WgPpKernelIdeal.main_v0) = Cert.WgPpReferenceIdeal.Read.val_main_v5 (F := Ideal) (m ((c.tc : Thread Cert.WgPpKernelIdeal.nD Cert.WgPpKernelIdeal.τ).loc Cert.WgPpKernelIdeal.main_arg0)) (m ((c.tc : Thread Cert.WgPpKernelIdeal.nD Cert.WgPpKernelIdeal.τ).loc Cert.WgPpKernelIdeal.main_arg1))
      ∧ r.2.mem ((c.tc : Thread Cert.WgPpKernelIdeal.nD Cert.WgPpKernelIdeal.τ).loc Cert.WgPpKernelIdeal.main_arg0) = m ((c.tc : Thread Cert.WgPpKernelIdeal.nD Cert.WgPpKernelIdeal.τ).loc Cert.WgPpKernelIdeal.main_arg0)
      ∧ r.2.mem ((c.tc : Thread Cert.WgPpKernelIdeal.nD Cert.WgPpKernelIdeal.τ).loc Cert.WgPpKernelIdeal.main_arg1) = m ((c.tc : Thread Cert.WgPpKernelIdeal.nD Cert.WgPpKernelIdeal.τ).loc Cert.WgPpKernelIdeal.main_arg1) :=
  (θ_run _ _ _).mono (fun r h c => ⟨(h c).1.trans (Cert.WgPpKernelIdeal.Value.final m c), (h c).2⟩)
    (Cert.WgPpKernelIdeal.Value.run_blocks m ρ)

theorem algebraic : Cert.algebraic_WgPpKernelIdeal_WgPpReferenceIdeal (hWgPpKernelIdeal := Cert.WgPpKernelIdeal.Gen.facts) (hWgPpReferenceIdeal := Cert.WgPpReferenceIdeal.Gen.facts) := by
  intro m g m' g' _ hagree
  refine ⟨fun c => Cert.WgPpReferenceIdeal.Read.val_main_v5 (F := Ideal) (m ((c.tc : Thread Cert.WgPpKernelIdeal.nD Cert.WgPpKernelIdeal.τ).loc Cert.WgPpKernelIdeal.main_arg0)) (m ((c.tc : Thread Cert.WgPpKernelIdeal.nD Cert.WgPpKernelIdeal.τ).loc Cert.WgPpKernelIdeal.main_arg1)), results m g, ?_⟩
  refine (θ_run _ _ _).mono (fun r h c => ?_) (stages m' g')
  obtain ⟨a0, a1⟩ := hagree c
  obtain ⟨h0, hk⟩ := h c
  rw [a0, a1] at h0
  exact ⟨h0, hk⟩

theorem quiet : Cert.quiescent_WgPpReferenceIdeal (hWgPpReferenceIdeal := Cert.WgPpReferenceIdeal.Gen.facts) := fun m ρ _ =>
  (θ_run _ _ _).mono (fun r h => ⟨fun c => (h c).2, sem_eq_zero_of_no_sems (by decide) _⟩) (Cert.WgPpReferenceIdeal.Value.run m ρ)

end Cert.WgPpClaims

end
-- ==== Proof.AdamIn.lean ====
/-
  The optimiser's step for the input projection's weight: each point of the grid adds the received parts of 256 rows' gradient to its
  own and steps the moments and the weight of those rows, and the blocks are the host program's rows there.
-/
module

public import proofs.«01_k».proof.Proof.Gen.AdamInKernelIdeal.Value
public import proofs.«01_k».proof.Proof.Gen.AdamInReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamInKernelIdeal.Value

open Cert.AdamInKernelIdeal Cert.AdamInKernelIdeal.Gen

variable (m : (ℓ : Loc nD τ sig) → Buf (Elt Ideal) ℓ)

/-- The block of each window at a point: the point's own rows. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array a row of a point's block is. -/
def row (t : Fin cfg0.N) (x : Fin 256) : Fin 1024 :=
  ⟨t.val * 256 + x.val, by have h : t.val < 4 := lt_of_lt_of_eq t.isLt N_0; have := x.isLt; omega⟩

/-- The gradient at a point, its own part and the three received, is the host program's at its rows. -/
theorem grad (c : Dev nD) (t : Fin cfg0.N) (x : Fin 256) (q : Fin 576) :
    k0_pay5 (iblk m c 0 t) (View.ld (iblk m c 1 t) r0_1) (View.ld (iblk m c 1 t) r0_2) (View.ld (iblk m c 1 t) r0_3) (ix2 x q)
      = Cert.AdamInReferenceIdeal.Read.val_main_v3 (F := Ideal) (m ((c : Thread nD τ).loc main_arg0)) (m ((c : Thread nD τ).loc main_arg1)) (ix3 0 (row t x) q) := by
  open AdamInReferenceIdeal.Read in
  pointwise [k0_pay5, val_main_v3, val_main_v2, val_main_v1, val_main_v0, val_main_cst]
  simp only [row, Fin.sum_univ_three, zero_add, add_assoc]
  blk_point [iblk, V, idx t]

theorem own (x0 : Vec Ideal S256x576 .f32) : View.ld x0 r0_0 = x0 := View.ld_unit_lit _ _ (fun a => by fin_cases a <;> rfl)
theorem whole (x : Vec Ideal S1x256x576 .f32) : View.ld x r0_4 = x := View.ld_unit_lit _ _ (fun a => by fin_cases a <;> rfl)

/-- The values a point holds between its two parts, of its whole blocks. -/
theorem held12 (x0 : Vec Ideal S256x576 .f32) (x1 : Vec Ideal S3x256x576 .bf16) (x2 x3 x4 : Vec Ideal S1x256x576 .f32) : k0_pay12 x0 x1 x2 x3 x4 = k0_pay8 x0 (View.ld x1 r0_1) (View.ld x1 r0_2) (View.ld x1 r0_3) x3 := by
  unfold k0_pay12; rw [own, whole]
theorem held13 (x0 : Vec Ideal S256x576 .f32) (x1 : Vec Ideal S3x256x576 .bf16) (x2 x3 x4 : Vec Ideal S1x256x576 .f32) : k0_pay13 x0 x1 x2 x3 x4 = k0_pay9 x4 := by
  unfold k0_pay13; rw [whole]
theorem held14 (x0 : Vec Ideal S256x576 .f32) (x1 : Vec Ideal S3x256x576 .bf16) (x2 x3 x4 : Vec Ideal S1x256x576 .f32) : k0_pay14 x0 x1 x2 x3 x4 = k0_pay10 x0 (View.ld x1 r0_1) (View.ld x1 r0_2) (View.ld x1 r0_3) := by
  unfold k0_pay14; rw [own]
theorem held15 (x0 : Vec Ideal S256x576 .f32) (x1 : Vec Ideal S3x256x576 .bf16) (x2 x3 x4 : Vec Ideal S1x256x576 .f32) : k0_pay15 x0 x1 x2 x3 x4 = k0_pay11 (F := Ideal) := rfl

theorem step5 (c : Dev nD) (t : Fin cfg0.N) (j : S1x256x576.Idx) :
    k0_pay6 (iblk m c 0 t) (View.ld (iblk m c 1 t) r0_1) (View.ld (iblk m c 1 t) r0_2) (View.ld (iblk m c 1 t) r0_3) j
      = Cert.AdamInReferenceIdeal.Read.val_main_v3 (F := Ideal) (m ((c : Thread nD τ).loc main_arg0)) (m ((c : Thread nD τ).loc main_arg1)) (ix3 0 (row t (j 1)) (j 2)) := by
  idx_vars j
  fin_cases j0
  open AdamInReferenceIdeal.Read in
  pointwise [k0_pay6]
  exact grad m c t _ _

theorem at5 (t : Fin cfg0.N) (j : S1x256x576.Idx) : ((cfg0.win 5).blk t).view.emb j = ix3 0 (row t (j 1)) (j 2) := by
  idx_vars j
  fin_cases j0
  blk_ext [row, idx t]

/-- The gradient. -/
theorem rows5 (c : Dev nD) : (dats m 0 c).arrAt 5 cfg0.N
    = Cert.AdamInReferenceIdeal.Read.val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5, at5]
  frame_out
  exact step5 m c t y

theorem step7 (c : Dev nD) (t : Fin cfg0.N) (j : S1x256x576.Idx) :
    k0_pay3 (k0_pay8 (iblk m c 0 t) (View.ld (iblk m c 1 t) r0_1) (View.ld (iblk m c 1 t) r0_2) (View.ld (iblk m c 1 t) r0_3) (iblk m c 3 t)) j
      = Cert.AdamInReferenceIdeal.Read.val_main_v8 (F := Ideal) (m ((c : Thread nD τ).loc main_arg0)) (m ((c : Thread nD τ).loc main_arg1)) (m ((c : Thread nD τ).loc main_arg3)) (ix3 0 (row t (j 1)) (j 2)) := by
  idx_vars j
  fin_cases j0
  open AdamInReferenceIdeal.Read in
  pointwise [k0_pay3, k0_pay8, val_main_v4, val_main_cst_0, val_main_v5, val_main_v6, val_main_cst_1, val_main_v7, val_main_v8]
  simp only [grad m c t]
  simp only [row]
  blk_point [iblk, V, idx t]

theorem at7 (t : Fin cfg0.N) (j : S1x256x576.Idx) : ((cfg0.win 7).blk t).view.emb j = ix3 0 (row t (j 1)) (j 2) := by
  idx_vars j
  fin_cases j0
  blk_ext [row, idx t]

/-- The new first moment. -/
theorem rows7 (c : Dev nD) : (dats m 0 c).arrAt 7 cfg0.N
    = Cert.AdamInReferenceIdeal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7, at7]
  frame_out
  rw [held12]
  exact step7 m c t y

theorem step8 (c : Dev nD) (t : Fin cfg0.N) (j : S1x256x576.Idx) :
    k0_pay4 (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamInReferenceIdeal.Read.val_main_v14 (F := Ideal) (m ((c : Thread nD τ).loc main_arg0)) (m ((c : Thread nD τ).loc main_arg1)) (m ((c : Thread nD τ).loc main_arg4)) (ix3 0 (row t (j 1)) (j 2)) := by
  idx_vars j
  fin_cases j0
  open AdamInReferenceIdeal.Read in
  pointwise [k0_pay4, k0_pay9, k0_pay10, k0_pay11, k0_pay1, val_main_v9, val_main_cst_2, val_main_v10, val_main_v11, val_main_cst_3, val_main_v12, val_main_v13, val_main_v14]
  simp only [grad m c t]
  simp only [row]
  blk_point [iblk, V, idx t]

theorem at8 (t : Fin cfg0.N) (j : S1x256x576.Idx) : ((cfg0.win 8).blk t).view.emb j = ix3 0 (row t (j 1)) (j 2) := by
  idx_vars j
  fin_cases j0
  blk_ext [row, idx t]

/-- The new second moment. -/
theorem rows8 (c : Dev nD) : (dats m 0 c).arrAt 8 cfg0.N
    = Cert.AdamInReferenceIdeal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8, at8]
  frame_out
  rw [held13, held14, held15]
  exact step8 m c t y

theorem step6 (c : Dev nD) (t : Fin cfg0.N) (j : S1x256x576.Idx) :
    k0_pay2 (k0_pay7 (iblk m c 2 t)) (k0_pay8 (iblk m c 0 t) (View.ld (iblk m c 1 t) r0_1) (View.ld (iblk m c 1 t) r0_2) (View.ld (iblk m c 1 t) r0_3) (iblk m c 3 t)) (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamInReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t (j 1)) (j 2)) := by
  idx_vars j
  fin_cases j0
  open AdamInReferenceIdeal.Read in
  pointwise [k0_pay2, k0_pay7, k0_pay8, k0_pay9, k0_pay10, k0_pay11, k0_pay1, val_main_v4, val_main_cst_0, val_main_v5, val_main_v6, val_main_cst_1, val_main_v7, val_main_v8, val_main_v9, val_main_cst_2, val_main_v10, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_cst_4, val_main_cst_5, val_main_cst_6, val_main_cst_7, val_main_cst_8]
  simp only [grad m c t]
  simp only [row]
  blk_point [iblk, V, idx t]

theorem at6 (t : Fin cfg0.N) (j : S1x256x576.Idx) : ((cfg0.win 6).blk t).view.emb j = ix3 0 (row t (j 1)) (j 2) := by
  idx_vars j
  fin_cases j0
  blk_ext [row, idx t]

/-- The change of the weight. -/
theorem rows6 (c : Dev nD) : (dats m 0 c).arrAt 6 cfg0.N
    = Cert.AdamInReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  frame_out
  rw [held12, held13, held14, held15]
  exact step6 m c t y

end Cert.AdamInKernelIdeal.Value

end
-- ==== Proof.AdamInClaims.lean ====
/- The equation of the optimiser's step for the input projection's weight: the kernel's run and the reference's at the same stages, and the claim from the two. -/
module

public import proofs.«01_k».proof.Defs
public import proofs.«01_k».proof.Proof.Gen.AdamInKernel.Frame
public import proofs.«01_k».proof.Proof.Gen.AdamInReferenceIdeal.Run
public import proofs.«01_k».proof.Proof.AdamIn
public import Idealize.ShloMosaic.Lib.Quiescent

@[expose] public section

noncomputable section

open Idealize.ShloMosaic Idealize.ShloMosaic.TcCoe Idealize.SL.Sem

namespace Cert.AdamInClaims

/-- The reference's run, each result at its stage, the arguments kept. -/
theorem stages (m : (ℓ : Loc Cert.AdamInReferenceIdeal.nD Cert.AdamInReferenceIdeal.τ Cert.AdamInReferenceIdeal.sig) → Buf (Elt Ideal) ℓ) (ρ : Dev Cert.AdamInReferenceIdeal.nD → PrngReg) :
    θ_run (Cert.AdamInReferenceIdeal.defs (F := Ideal)) (onTc (τ := Cert.AdamInReferenceIdeal.τ) (Cert.AdamInReferenceIdeal.main (F := Ideal))) ⟨m, fun _ => 0, ρ⟩ fun r => ∀ c : Dev Cert.AdamInReferenceIdeal.nD,
      r.2.mem ((c.tc : Thread Cert.AdamInReferenceIdeal.nD Cert.AdamInReferenceIdeal.τ).loc Cert.AdamInReferenceIdeal.main_v3) = Cert.AdamInReferenceIdeal.Read.val_main_v3 (F := Ideal) (m ((c.tc : Thread Cert.AdamInReferenceIdeal.nD Cert.AdamInReferenceIdeal.τ).loc Cert.AdamInReferenceIdeal.main_arg0)) (m ((c.tc : Thread Cert.AdamInReferenceIdeal.nD Cert.AdamInReferenceIdeal.τ).loc Cert.AdamInReferenceIdeal.main_arg1))
      ∧ r.2.mem ((c.tc : Thread Cert.AdamInReferenceIdeal.nD Cert.AdamInReferenceIdeal.τ).loc Cert.AdamInReferenceIdeal.main_v27) = Cert.AdamInReferenceIdeal.Read.val_main_v27 (F := Ideal) (m ((c.tc : Thread Cert.AdamInReferenceIdeal.nD Cert.AdamInReferenceIdeal.τ).loc Cert.AdamInReferenceIdeal.main_arg0)) (m ((c.tc : Thread Cert.AdamInReferenceIdeal.nD Cert.AdamInReferenceIdeal.τ).loc Cert.AdamInReferenceIdeal.main_arg1)) (m ((c.tc : Thread Cert.AdamInReferenceIdeal.nD Cert.AdamInReferenceIdeal.τ).loc Cert.AdamInReferenceIdeal.main_arg2)) (m ((c.tc : Thread Cert.AdamInReferenceIdeal.nD Cert.AdamInReferenceIdeal.τ).loc Cert.AdamInReferenceIdeal.main_arg3)) (m ((c.tc : Thread Cert.AdamInReferenceIdeal.nD Cert.AdamInReferenceIdeal.τ).loc Cert.AdamInReferenceIdeal.main_arg4))
      ∧ r.2.mem ((c.tc : Thread Cert.AdamInReferenceIdeal.nD Cert.AdamInReferenceIdeal.τ).loc Cert.AdamInReferenceIdeal.main_v8) = Cert.AdamInReferenceIdeal.Read.val_main_v8 (F := Ideal) (m ((c.tc : Thread Cert.AdamInReferenceIdeal.nD Cert.AdamInReferenceIdeal.τ).loc Cert.AdamInReferenceIdeal.main_arg0)) (m ((c.tc : Thread Cert.AdamInReferenceIdeal.nD Cert.AdamInReferenceIdeal.τ).loc Cert.AdamInReferenceIdeal.main_arg1)) (m ((c.tc : Thread Cert.AdamInReferenceIdeal.nD Cert.AdamInReferenceIdeal.τ).loc Cert.AdamInReferenceIdeal.main_arg3))
      ∧ r.2.mem ((c.tc : Thread Cert.AdamInReferenceIdeal.nD Cert.AdamInReferenceIdeal.τ).loc Cert.AdamInReferenceIdeal.main_v14) = Cert.AdamInReferenceIdeal.Read.val_main_v14 (F := Ideal) (m ((c.tc : Thread Cert.AdamInReferenceIdeal.nD Cert.AdamInReferenceIdeal.τ).loc Cert.AdamInReferenceIdeal.main_arg0)) (m ((c.tc : Thread Cert.AdamInReferenceIdeal.nD Cert.AdamInReferenceIdeal.τ).loc Cert.AdamInReferenceIdeal.main_arg1)) (m ((c.tc : Thread Cert.AdamInReferenceIdeal.nD Cert.AdamInReferenceIdeal.τ).loc Cert.AdamInReferenceIdeal.main_arg4))
      ∧ r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4) :=
  (θ_run _ _ _).mono (fun r h c => ⟨(h c).1.trans (Cert.AdamInReferenceIdeal.Read.val_main_v3_eq ..), (h c).2.1.trans (Cert.AdamInReferenceIdeal.Read.val_main_v27_eq ..), (h c).2.2.1.trans (Cert.AdamInReferenceIdeal.Read.val_main_v8_eq ..), (h c).2.2.2.1.trans (Cert.AdamInReferenceIdeal.Read.val_main_v14_eq ..), (h c).2.2.2.2⟩)
    (Cert.AdamInReferenceIdeal.Value.run m ρ)

/-- The kernel's run, each result at the reference's stage over the kernel's own arguments, the arguments kept. -/
theorem results (m : (ℓ : Loc Cert.AdamInKernelIdeal.nD Cert.AdamInKernelIdeal.τ Cert.AdamInKernelIdeal.sig) → Buf (Elt Ideal) ℓ) (ρ : Dev Cert.AdamInKernelIdeal.nD → PrngReg) :
    θ_run (Cert.AdamInKernelIdeal.defs (F := Ideal)) (onTc (τ := Cert.AdamInKernelIdeal.τ) (Cert.AdamInKernelIdeal.main (F := Ideal))) ⟨m, fun _ => 0, ρ⟩ fun r => ∀ c : Dev Cert.AdamInKernelIdeal.nD,
      r.2.mem ((c.tc : Thread Cert.AdamInKernelIdeal.nD Cert.AdamInKernelIdeal.τ).loc Cert.AdamInKernelIdeal.main_v0_0) = Cert.AdamInReferenceIdeal.Read.val_main_v3 (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1))
      ∧ r.2.mem ((c.tc : Thread Cert.AdamInKernelIdeal.nD Cert.AdamInKernelIdeal.τ).loc Cert.AdamInKernelIdeal.main_v0_1) = Cert.AdamInReferenceIdeal.Read.val_main_v27 (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1)) (m ((c.tc : Thread Cert.AdamInKernelIdeal.nD Cert.AdamInKernelIdeal.τ).loc Cert.AdamInKernelIdeal.main_arg2)) (m ((c.tc : Thread Cert.AdamInKernelIdeal.nD Cert.AdamInKernelIdeal.τ).loc Cert.AdamInKernelIdeal.main_arg3)) (m ((c.tc : Thread Cert.AdamInKernelIdeal.nD Cert.AdamInKernelIdeal.τ).loc Cert.AdamInKernelIdeal.main_arg4))
      ∧ r.2.mem ((c.tc : Thread Cert.AdamInKernelIdeal.nD Cert.AdamInKernelIdeal.τ).loc Cert.AdamInKernelIdeal.main_v0_2) = Cert.AdamInReferenceIdeal.Read.val_main_v8 (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1)) (m ((c.tc : Thread Cert.AdamInKernelIdeal.nD Cert.AdamInKernelIdeal.τ).loc Cert.AdamInKernelIdeal.main_arg3))
      ∧ r.2.mem ((c.tc : Thread Cert.AdamInKernelIdeal.nD Cert.AdamInKernelIdeal.τ).loc Cert.AdamInKernelIdeal.main_v0_3) = Cert.AdamInReferenceIdeal.Read.val_main_v14 (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1)) (m ((c.tc : Thread Cert.AdamInKernelIdeal.nD Cert.AdamInKernelIdeal.τ).loc Cert.AdamInKernelIdeal.main_arg4))
      ∧ r.2.mem ((c.tc : Thread Cert.AdamInKernelIdeal.nD Cert.AdamInKernelIdeal.τ).loc Cert.AdamInKernelIdeal.main_arg0) = m ((c.tc : Thread Cert.AdamInKernelIdeal.nD Cert.AdamInKernelIdeal.τ).loc Cert.AdamInKernelIdeal.main_arg0)
      ∧ r.2.mem ((c.tc : Thread Cert.AdamInKernelIdeal.nD Cert.AdamInKernelIdeal.τ).loc Cert.AdamInKernelIdeal.main_arg1) = m ((c.tc : Thread Cert.AdamInKernelIdeal.nD Cert.AdamInKernelIdeal.τ).loc Cert.AdamInKernelIdeal.main_arg1)
      ∧ r.2.mem ((c.tc : Thread Cert.AdamInKernelIdeal.nD Cert.AdamInKernelIdeal.τ).loc Cert.AdamInKernelIdeal.main_arg2) = m ((c.tc : Thread Cert.AdamInKernelIdeal.nD Cert.AdamInKernelIdeal.τ).loc Cert.AdamInKernelIdeal.main_arg2)
      ∧ r.2.mem ((c.tc : Thread Cert.AdamInKernelIdeal.nD Cert.AdamInKernelIdeal.τ).loc Cert.AdamInKernelIdeal.main_arg3) = m ((c.tc : Thread Cert.AdamInKernelIdeal.nD Cert.AdamInKernelIdeal.τ).loc Cert.AdamInKernelIdeal.main_arg3)
      ∧ r.2.mem ((c.tc : Thread Cert.AdamInKernelIdeal.nD Cert.AdamInKernelIdeal.τ).loc Cert.AdamInKernelIdeal.main_arg4) = m ((c.tc : Thread Cert.AdamInKernelIdeal.nD Cert.AdamInKernelIdeal.τ).loc Cert.AdamInKernelIdeal.main_arg4) :=
  (θ_run _ _ _).mono (fun r h c => ⟨(h c).1.trans (Cert.AdamInKernelIdeal.Value.rows5 m c), (h c).2.1.trans (Cert.AdamInKernelIdeal.Value.rows6 m c), (h c).2.2.1.trans (Cert.AdamInKernelIdeal.Value.rows7 m c), (h c).2.2.2.1.trans (Cert.AdamInKernelIdeal.Value.rows8 m c), (h c).2.2.2.2⟩)
    (Cert.AdamInKernelIdeal.Value.run_blocks m ρ)

theorem algebraic : Cert.algebraic_AdamInKernelIdeal_AdamInReferenceIdeal (hAdamInKernelIdeal := Cert.AdamInKernelIdeal.Gen.facts) (hAdamInReferenceIdeal := Cert.AdamInReferenceIdeal.Gen.facts) := by
  intro m g m' g' _ hagree
  refine ⟨fun c => Cert.AdamInReferenceIdeal.Read.val_main_v3 (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1)), fun c => Cert.AdamInReferenceIdeal.Read.val_main_v27 (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1)) (m ((c.tc : Thread Cert.AdamInKernelIdeal.nD Cert.AdamInKernelIdeal.τ).loc Cert.AdamInKernelIdeal.main_arg2)) (m ((c.tc : Thread Cert.AdamInKernelIdeal.nD Cert.AdamInKernelIdeal.τ).loc Cert.AdamInKernelIdeal.main_arg3)) (m ((c.tc : Thread Cert.AdamInKernelIdeal.nD Cert.AdamInKernelIdeal.τ).loc Cert.AdamInKernelIdeal.main_arg4)), fun c => Cert.AdamInReferenceIdeal.Read.val_main_v8 (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1)) (m ((c.tc : Thread Cert.AdamInKernelIdeal.nD Cert.AdamInKernelIdeal.τ).loc Cert.AdamInKernelIdeal.main_arg3)), fun c => Cert.AdamInReferenceIdeal.Read.val_main_v14 (F := Ideal) (m ((c.tc : Thread Cert.AdamInKernelIdeal.nD Cert.AdamInKernelIdeal.τ).loc Cert.AdamInKernelIdeal.main_arg0)) (m ((c.tc : Thread Cert.AdamInKernelIdeal.nD Cert.AdamInKernelIdeal.τ).loc Cert.AdamInKernelIdeal.main_arg1)) (m ((c.tc : Thread Cert.AdamInKernelIdeal.nD Cert.AdamInKernelIdeal.τ).loc Cert.AdamInKernelIdeal.main_arg4)), results m g, ?_⟩
  refine (θ_run _ _ _).mono (fun r h c => ?_) (stages m' g')
  obtain ⟨a0, a1, a2, a3, a4⟩ := hagree c
  obtain ⟨h0, h1, h2, h3, hk⟩ := h c
  rw [a0, a1] at h0
  rw [a0, a1, a2, a3, a4] at h1
  rw [a0, a1, a3] at h2
  rw [a0, a1, a4] at h3
  exact ⟨h0, h1, h2, h3, hk⟩

theorem quiet : Cert.quiescent_AdamInReferenceIdeal (hAdamInReferenceIdeal := Cert.AdamInReferenceIdeal.Gen.facts) := fun m ρ _ =>
  (θ_run _ _ _).mono (fun r h => ⟨fun c => (h c).2.2.2.2, sem_eq_zero_of_no_sems (by decide) _⟩) (Cert.AdamInReferenceIdeal.Value.run m ρ)

end Cert.AdamInClaims

end
-- ==== Proof.AdamGlu.lean ====
/-
  The optimiser's step for the gated unit's weight: each point of the grid adds the received parts of 64 rows' gradient to its
  own and steps the moments and the weight of those rows, and the blocks are the host program's rows there.
-/
module

public import proofs.«01_k».proof.Proof.Gen.AdamGluKernelIdeal.Value
public import proofs.«01_k».proof.Proof.Gen.AdamGluReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamGluKernelIdeal.Value

open Cert.AdamGluKernelIdeal Cert.AdamGluKernelIdeal.Gen

variable (m : (ℓ : Loc nD τ sig) → Buf (Elt Ideal) ℓ)

/-- The block of each window at a point: the point's own rows. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array a row of a point's block is. -/
def row (t : Fin cfg0.N) (x : Fin 64) : Fin 64 :=
  ⟨t.val * 64 + x.val, by have h : t.val < 1 := lt_of_lt_of_eq t.isLt N_0; have := x.isLt; omega⟩

/-- The gradient at a point, its own part and the three received, is the host program's at its rows. -/
theorem grad (c : Dev nD) (t : Fin cfg0.N) (x : Fin 64) (q : Fin 512) :
    k0_pay5 (iblk m c 0 t) (View.ld (iblk m c 1 t) r0_1) (View.ld (iblk m c 1 t) r0_2) (View.ld (iblk m c 1 t) r0_3) (ix2 x q)
      = Cert.AdamGluReferenceIdeal.Read.val_main_v3 (F := Ideal) (m ((c : Thread nD τ).loc main_arg0)) (m ((c : Thread nD τ).loc main_arg1)) (ix3 0 (row t x) q) := by
  open AdamGluReferenceIdeal.Read in
  pointwise [k0_pay5, val_main_v3, val_main_v2, val_main_v1, val_main_v0, val_main_cst]
  simp only [row, Fin.sum_univ_three, zero_add, add_assoc]
  blk_point [iblk, V, idx t]

theorem own (x0 : Vec Ideal S64x512 .f32) : View.ld x0 r0_0 = x0 := View.ld_unit_lit _ _ (fun a => by fin_cases a <;> rfl)
theorem whole (x : Vec Ideal S1x64x512 .f32) : View.ld x r0_4 = x := View.ld_unit_lit _ _ (fun a => by fin_cases a <;> rfl)

/-- The values a point holds between its two parts, of its whole blocks. -/
theorem held12 (x0 : Vec Ideal S64x512 .f32) (x1 : Vec Ideal S3x64x512 .bf16) (x2 x3 x4 : Vec Ideal S1x64x512 .f32) : k0_pay12 x0 x1 x2 x3 x4 = k0_pay8 x0 (View.ld x1 r0_1) (View.ld x1 r0_2) (View.ld x1 r0_3) x3 := by
  unfold k0_pay12; rw [own, whole]
theorem held13 (x0 : Vec Ideal S64x512 .f32) (x1 : Vec Ideal S3x64x512 .bf16) (x2 x3 x4 : Vec Ideal S1x64x512 .f32) : k0_pay13 x0 x1 x2 x3 x4 = k0_pay9 x4 := by
  unfold k0_pay13; rw [whole]
theorem held14 (x0 : Vec Ideal S64x512 .f32) (x1 : Vec Ideal S3x64x512 .bf16) (x2 x3 x4 : Vec Ideal S1x64x512 .f32) : k0_pay14 x0 x1 x2 x3 x4 = k0_pay10 x0 (View.ld x1 r0_1) (View.ld x1 r0_2) (View.ld x1 r0_3) := by
  unfold k0_pay14; rw [own]
theorem held15 (x0 : Vec Ideal S64x512 .f32) (x1 : Vec Ideal S3x64x512 .bf16) (x2 x3 x4 : Vec Ideal S1x64x512 .f32) : k0_pay15 x0 x1 x2 x3 x4 = k0_pay11 (F := Ideal) := rfl

theorem step5 (c : Dev nD) (t : Fin cfg0.N) (j : S1x64x512.Idx) :
    k0_pay6 (iblk m c 0 t) (View.ld (iblk m c 1 t) r0_1) (View.ld (iblk m c 1 t) r0_2) (View.ld (iblk m c 1 t) r0_3) j
      = Cert.AdamGluReferenceIdeal.Read.val_main_v3 (F := Ideal) (m ((c : Thread nD τ).loc main_arg0)) (m ((c : Thread nD τ).loc main_arg1)) (ix3 0 (row t (j 1)) (j 2)) := by
  idx_vars j
  fin_cases j0
  open AdamGluReferenceIdeal.Read in
  pointwise [k0_pay6]
  exact grad m c t _ _

theorem at5 (t : Fin cfg0.N) (j : S1x64x512.Idx) : ((cfg0.win 5).blk t).view.emb j = ix3 0 (row t (j 1)) (j 2) := by
  idx_vars j
  fin_cases j0
  blk_ext [row, idx t]

/-- The gradient. -/
theorem rows5 (c : Dev nD) : (dats m 0 c).arrAt 5 cfg0.N
    = Cert.AdamGluReferenceIdeal.Read.val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5, at5]
  frame_out
  exact step5 m c t y

theorem step7 (c : Dev nD) (t : Fin cfg0.N) (j : S1x64x512.Idx) :
    k0_pay3 (k0_pay8 (iblk m c 0 t) (View.ld (iblk m c 1 t) r0_1) (View.ld (iblk m c 1 t) r0_2) (View.ld (iblk m c 1 t) r0_3) (iblk m c 3 t)) j
      = Cert.AdamGluReferenceIdeal.Read.val_main_v8 (F := Ideal) (m ((c : Thread nD τ).loc main_arg0)) (m ((c : Thread nD τ).loc main_arg1)) (m ((c : Thread nD τ).loc main_arg3)) (ix3 0 (row t (j 1)) (j 2)) := by
  idx_vars j
  fin_cases j0
  open AdamGluReferenceIdeal.Read in
  pointwise [k0_pay3, k0_pay8, val_main_v4, val_main_cst_0, val_main_v5, val_main_v6, val_main_cst_1, val_main_v7, val_main_v8]
  simp only [grad m c t]
  simp only [row]
  blk_point [iblk, V, idx t]

theorem at7 (t : Fin cfg0.N) (j : S1x64x512.Idx) : ((cfg0.win 7).blk t).view.emb j = ix3 0 (row t (j 1)) (j 2) := by
  idx_vars j
  fin_cases j0
  blk_ext [row, idx t]

/-- The new first moment. -/
theorem rows7 (c : Dev nD) : (dats m 0 c).arrAt 7 cfg0.N
    = Cert.AdamGluReferenceIdeal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7, at7]
  frame_out
  rw [held12]
  exact step7 m c t y

theorem step8 (c : Dev nD) (t : Fin cfg0.N) (j : S1x64x512.Idx) :
    k0_pay4 (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamGluReferenceIdeal.Read.val_main_v14 (F := Ideal) (m ((c : Thread nD τ).loc main_arg0)) (m ((c : Thread nD τ).loc main_arg1)) (m ((c : Thread nD τ).loc main_arg4)) (ix3 0 (row t (j 1)) (j 2)) := by
  idx_vars j
  fin_cases j0
  open AdamGluReferenceIdeal.Read in
  pointwise [k0_pay4, k0_pay9, k0_pay10, k0_pay11, k0_pay1, val_main_v9, val_main_cst_2, val_main_v10, val_main_v11, val_main_cst_3, val_main_v12, val_main_v13, val_main_v14]
  simp only [grad m c t]
  simp only [row]
  blk_point [iblk, V, idx t]

theorem at8 (t : Fin cfg0.N) (j : S1x64x512.Idx) : ((cfg0.win 8).blk t).view.emb j = ix3 0 (row t (j 1)) (j 2) := by
  idx_vars j
  fin_cases j0
  blk_ext [row, idx t]

/-- The new second moment. -/
theorem rows8 (c : Dev nD) : (dats m 0 c).arrAt 8 cfg0.N
    = Cert.AdamGluReferenceIdeal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8, at8]
  frame_out
  rw [held13, held14, held15]
  exact step8 m c t y

theorem step6 (c : Dev nD) (t : Fin cfg0.N) (j : S1x64x512.Idx) :
    k0_pay2 (k0_pay7 (iblk m c 2 t)) (k0_pay8 (iblk m c 0 t) (View.ld (iblk m c 1 t) r0_1) (View.ld (iblk m c 1 t) r0_2) (View.ld (iblk m c 1 t) r0_3) (iblk m c 3 t)) (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamGluReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t (j 1)) (j 2)) := by
  idx_vars j
  fin_cases j0
  open AdamGluReferenceIdeal.Read in
  pointwise [k0_pay2, k0_pay7, k0_pay8, k0_pay9, k0_pay10, k0_pay11, k0_pay1, val_main_v4, val_main_cst_0, val_main_v5, val_main_v6, val_main_cst_1, val_main_v7, val_main_v8, val_main_v9, val_main_cst_2, val_main_v10, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_cst_4, val_main_cst_5, val_main_cst_6, val_main_cst_7, val_main_cst_8]
  simp only [grad m c t]
  simp only [row]
  blk_point [iblk, V, idx t]

theorem at6 (t : Fin cfg0.N) (j : S1x64x512.Idx) : ((cfg0.win 6).blk t).view.emb j = ix3 0 (row t (j 1)) (j 2) := by
  idx_vars j
  fin_cases j0
  blk_ext [row, idx t]

/-- The change of the weight. -/
theorem rows6 (c : Dev nD) : (dats m 0 c).arrAt 6 cfg0.N
    = Cert.AdamGluReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  frame_out
  rw [held12, held13, held14, held15]
  exact step6 m c t y

end Cert.AdamGluKernelIdeal.Value

end
-- ==== Proof.AdamGluClaims.lean ====
/- The equation of the optimiser's step for the gated unit's weight: the kernel's run and the reference's at the same stages, and the claim from the two. -/
module

public import proofs.«01_k».proof.Defs
public import proofs.«01_k».proof.Proof.Gen.AdamGluKernel.Frame
public import proofs.«01_k».proof.Proof.Gen.AdamGluReferenceIdeal.Run
public import proofs.«01_k».proof.Proof.AdamGlu
public import Idealize.ShloMosaic.Lib.Quiescent

@[expose] public section

noncomputable section

open Idealize.ShloMosaic Idealize.ShloMosaic.TcCoe Idealize.SL.Sem

namespace Cert.AdamGluClaims

/-- The reference's run, each result at its stage, the arguments kept. -/
theorem stages (m : (ℓ : Loc Cert.AdamGluReferenceIdeal.nD Cert.AdamGluReferenceIdeal.τ Cert.AdamGluReferenceIdeal.sig) → Buf (Elt Ideal) ℓ) (ρ : Dev Cert.AdamGluReferenceIdeal.nD → PrngReg) :
    θ_run (Cert.AdamGluReferenceIdeal.defs (F := Ideal)) (onTc (τ := Cert.AdamGluReferenceIdeal.τ) (Cert.AdamGluReferenceIdeal.main (F := Ideal))) ⟨m, fun _ => 0, ρ⟩ fun r => ∀ c : Dev Cert.AdamGluReferenceIdeal.nD,
      r.2.mem ((c.tc : Thread Cert.AdamGluReferenceIdeal.nD Cert.AdamGluReferenceIdeal.τ).loc Cert.AdamGluReferenceIdeal.main_v3) = Cert.AdamGluReferenceIdeal.Read.val_main_v3 (F := Ideal) (m ((c.tc : Thread Cert.AdamGluReferenceIdeal.nD Cert.AdamGluReferenceIdeal.τ).loc Cert.AdamGluReferenceIdeal.main_arg0)) (m ((c.tc : Thread Cert.AdamGluReferenceIdeal.nD Cert.AdamGluReferenceIdeal.τ).loc Cert.AdamGluReferenceIdeal.main_arg1))
      ∧ r.2.mem ((c.tc : Thread Cert.AdamGluReferenceIdeal.nD Cert.AdamGluReferenceIdeal.τ).loc Cert.AdamGluReferenceIdeal.main_v27) = Cert.AdamGluReferenceIdeal.Read.val_main_v27 (F := Ideal) (m ((c.tc : Thread Cert.AdamGluReferenceIdeal.nD Cert.AdamGluReferenceIdeal.τ).loc Cert.AdamGluReferenceIdeal.main_arg0)) (m ((c.tc : Thread Cert.AdamGluReferenceIdeal.nD Cert.AdamGluReferenceIdeal.τ).loc Cert.AdamGluReferenceIdeal.main_arg1)) (m ((c.tc : Thread Cert.AdamGluReferenceIdeal.nD Cert.AdamGluReferenceIdeal.τ).loc Cert.AdamGluReferenceIdeal.main_arg2)) (m ((c.tc : Thread Cert.AdamGluReferenceIdeal.nD Cert.AdamGluReferenceIdeal.τ).loc Cert.AdamGluReferenceIdeal.main_arg3)) (m ((c.tc : Thread Cert.AdamGluReferenceIdeal.nD Cert.AdamGluReferenceIdeal.τ).loc Cert.AdamGluReferenceIdeal.main_arg4))
      ∧ r.2.mem ((c.tc : Thread Cert.AdamGluReferenceIdeal.nD Cert.AdamGluReferenceIdeal.τ).loc Cert.AdamGluReferenceIdeal.main_v8) = Cert.AdamGluReferenceIdeal.Read.val_main_v8 (F := Ideal) (m ((c.tc : Thread Cert.AdamGluReferenceIdeal.nD Cert.AdamGluReferenceIdeal.τ).loc Cert.AdamGluReferenceIdeal.main_arg0)) (m ((c.tc : Thread Cert.AdamGluReferenceIdeal.nD Cert.AdamGluReferenceIdeal.τ).loc Cert.AdamGluReferenceIdeal.main_arg1)) (m ((c.tc : Thread Cert.AdamGluReferenceIdeal.nD Cert.AdamGluReferenceIdeal.τ).loc Cert.AdamGluReferenceIdeal.main_arg3))
      ∧ r.2.mem ((c.tc : Thread Cert.AdamGluReferenceIdeal.nD Cert.AdamGluReferenceIdeal.τ).loc Cert.AdamGluReferenceIdeal.main_v14) = Cert.AdamGluReferenceIdeal.Read.val_main_v14 (F := Ideal) (m ((c.tc : Thread Cert.AdamGluReferenceIdeal.nD Cert.AdamGluReferenceIdeal.τ).loc Cert.AdamGluReferenceIdeal.main_arg0)) (m ((c.tc : Thread Cert.AdamGluReferenceIdeal.nD Cert.AdamGluReferenceIdeal.τ).loc Cert.AdamGluReferenceIdeal.main_arg1)) (m ((c.tc : Thread Cert.AdamGluReferenceIdeal.nD Cert.AdamGluReferenceIdeal.τ).loc Cert.AdamGluReferenceIdeal.main_arg4))
      ∧ r.2.mem ((c.tc : Thread Cert.AdamGluReferenceIdeal.nD Cert.AdamGluReferenceIdeal.τ).loc Cert.AdamGluReferenceIdeal.main_arg0) = m ((c.tc : Thread Cert.AdamGluReferenceIdeal.nD Cert.AdamGluReferenceIdeal.τ).loc Cert.AdamGluReferenceIdeal.main_arg0)
      ∧ r.2.mem ((c.tc : Thread Cert.AdamGluReferenceIdeal.nD Cert.AdamGluReferenceIdeal.τ).loc Cert.AdamGluReferenceIdeal.main_arg1) = m ((c.tc : Thread Cert.AdamGluReferenceIdeal.nD Cert.AdamGluReferenceIdeal.τ).loc Cert.AdamGluReferenceIdeal.main_arg1)
      ∧ r.2.mem ((c.tc : Thread Cert.AdamGluReferenceIdeal.nD Cert.AdamGluReferenceIdeal.τ).loc Cert.AdamGluReferenceIdeal.main_arg2) = m ((c.tc : Thread Cert.AdamGluReferenceIdeal.nD Cert.AdamGluReferenceIdeal.τ).loc Cert.AdamGluReferenceIdeal.main_arg2)
      ∧ r.2.mem ((c.tc : Thread Cert.AdamGluReferenceIdeal.nD Cert.AdamGluReferenceIdeal.τ).loc Cert.AdamGluReferenceIdeal.main_arg3) = m ((c.tc : Thread Cert.AdamGluReferenceIdeal.nD Cert.AdamGluReferenceIdeal.τ).loc Cert.AdamGluReferenceIdeal.main_arg3)
      ∧ r.2.mem ((c.tc : Thread Cert.AdamGluReferenceIdeal.nD Cert.AdamGluReferenceIdeal.τ).loc Cert.AdamGluReferenceIdeal.main_arg4) = m ((c.tc : Thread Cert.AdamGluReferenceIdeal.nD Cert.AdamGluReferenceIdeal.τ).loc Cert.AdamGluReferenceIdeal.main_arg4) :=
  (θ_run _ _ _).mono (fun r h c => ⟨(h c).1.trans (Cert.AdamGluReferenceIdeal.Read.val_main_v3_eq ..), (h c).2.1.trans (Cert.AdamGluReferenceIdeal.Read.val_main_v27_eq ..), (h c).2.2.1.trans (Cert.AdamGluReferenceIdeal.Read.val_main_v8_eq ..), (h c).2.2.2.1.trans (Cert.AdamGluReferenceIdeal.Read.val_main_v14_eq ..), (h c).2.2.2.2⟩)
    (Cert.AdamGluReferenceIdeal.Value.run m ρ)

/-- The kernel's run, each result at the reference's stage over the kernel's own arguments, the arguments kept. -/
theorem results (m : (ℓ : Loc Cert.AdamGluKernelIdeal.nD Cert.AdamGluKernelIdeal.τ Cert.AdamGluKernelIdeal.sig) → Buf (Elt Ideal) ℓ) (ρ : Dev Cert.AdamGluKernelIdeal.nD → PrngReg) :
    θ_run (Cert.AdamGluKernelIdeal.defs (F := Ideal)) (onTc (τ := Cert.AdamGluKernelIdeal.τ) (Cert.AdamGluKernelIdeal.main (F := Ideal))) ⟨m, fun _ => 0, ρ⟩ fun r => ∀ c : Dev Cert.AdamGluKernelIdeal.nD,
      r.2.mem ((c.tc : Thread Cert.AdamGluKernelIdeal.nD Cert.AdamGluKernelIdeal.τ).loc Cert.AdamGluKernelIdeal.main_v0_0) = Cert.AdamGluReferenceIdeal.Read.val_main_v3 (F := Ideal) (m ((c.tc : Thread Cert.AdamGluKernelIdeal.nD Cert.AdamGluKernelIdeal.τ).loc Cert.AdamGluKernelIdeal.main_arg0)) (m ((c.tc : Thread Cert.AdamGluKernelIdeal.nD Cert.AdamGluKernelIdeal.τ).loc Cert.AdamGluKernelIdeal.main_arg1))
      ∧ r.2.mem ((c.tc : Thread Cert.AdamGluKernelIdeal.nD Cert.AdamGluKernelIdeal.τ).loc Cert.AdamGluKernelIdeal.main_v0_1) = Cert.AdamGluReferenceIdeal.Read.val_main_v27 (F := Ideal) (m ((c.tc : Thread Cert.AdamGluKernelIdeal.nD Cert.AdamGluKernelIdeal.τ).loc Cert.AdamGluKernelIdeal.main_arg0)) (m ((c.tc : Thread Cert.AdamGluKernelIdeal.nD Cert.AdamGluKernelIdeal.τ).loc Cert.AdamGluKernelIdeal.main_arg1)) (m ((c.tc : Thread Cert.AdamGluKernelIdeal.nD Cert.AdamGluKernelIdeal.τ).loc Cert.AdamGluKernelIdeal.main_arg2)) (m ((c.tc : Thread Cert.AdamGluKernelIdeal.nD Cert.AdamGluKernelIdeal.τ).loc Cert.AdamGluKernelIdeal.main_arg3)) (m ((c.tc : Thread Cert.AdamGluKernelIdeal.nD Cert.AdamGluKernelIdeal.τ).loc Cert.AdamGluKernelIdeal.main_arg4))
      ∧ r.2.mem ((c.tc : Thread Cert.AdamGluKernelIdeal.nD Cert.AdamGluKernelIdeal.τ).loc Cert.AdamGluKernelIdeal.main_v0_2) = Cert.AdamGluReferenceIdeal.Read.val_main_v8 (F := Ideal) (m ((c.tc : Thread Cert.AdamGluKernelIdeal.nD Cert.AdamGluKernelIdeal.τ).loc Cert.AdamGluKernelIdeal.main_arg0)) (m ((c.tc : Thread Cert.AdamGluKernelIdeal.nD Cert.AdamGluKernelIdeal.τ).loc Cert.AdamGluKernelIdeal.main_arg1)) (m ((c.tc : Thread Cert.AdamGluKernelIdeal.nD Cert.AdamGluKernelIdeal.τ).loc Cert.AdamGluKernelIdeal.main_arg3))
      ∧ r.2.mem ((c.tc : Thread Cert.AdamGluKernelIdeal.nD Cert.AdamGluKernelIdeal.τ).loc Cert.AdamGluKernelIdeal.main_v0_3) = Cert.AdamGluReferenceIdeal.Read.val_main_v14 (F := Ideal) (m ((c.tc : Thread Cert.AdamGluKernelIdeal.nD Cert.AdamGluKernelIdeal.τ).loc Cert.AdamGluKernelIdeal.main_arg0)) (m ((c.tc : Thread Cert.AdamGluKernelIdeal.nD Cert.AdamGluKernelIdeal.τ).loc Cert.AdamGluKernelIdeal.main_arg1)) (m ((c.tc : Thread Cert.AdamGluKernelIdeal.nD Cert.AdamGluKernelIdeal.τ).loc Cert.AdamGluKernelIdeal.main_arg4))
      ∧ r.2.mem ((c.tc : Thread Cert.AdamGluKernelIdeal.nD Cert.AdamGluKernelIdeal.τ).loc Cert.AdamGluKernelIdeal.main_arg0) = m ((c.tc : Thread Cert.AdamGluKernelIdeal.nD Cert.AdamGluKernelIdeal.τ).loc Cert.AdamGluKernelIdeal.main_arg0)
      ∧ r.2.mem ((c.tc : Thread Cert.AdamGluKernelIdeal.nD Cert.AdamGluKernelIdeal.τ).loc Cert.AdamGluKernelIdeal.main_arg1) = m ((c.tc : Thread Cert.AdamGluKernelIdeal.nD Cert.AdamGluKernelIdeal.τ).loc Cert.AdamGluKernelIdeal.main_arg1)
      ∧ r.2.mem ((c.tc : Thread Cert.AdamGluKernelIdeal.nD Cert.AdamGluKernelIdeal.τ).loc Cert.AdamGluKernelIdeal.main_arg2) = m ((c.tc : Thread Cert.AdamGluKernelIdeal.nD Cert.AdamGluKernelIdeal.τ).loc Cert.AdamGluKernelIdeal.main_arg2)
      ∧ r.2.mem ((c.tc : Thread Cert.AdamGluKernelIdeal.nD Cert.AdamGluKernelIdeal.τ).loc Cert.AdamGluKernelIdeal.main_arg3) = m ((c.tc : Thread Cert.AdamGluKernelIdeal.nD Cert.AdamGluKernelIdeal.τ).loc Cert.AdamGluKernelIdeal.main_arg3)
      ∧ r.2.mem ((c.tc : Thread Cert.AdamGluKernelIdeal.nD Cert.AdamGluKernelIdeal.τ).loc Cert.AdamGluKernelIdeal.main_arg4) = m ((c.tc : Thread Cert.AdamGluKernelIdeal.nD Cert.AdamGluKernelIdeal.τ).loc Cert.AdamGluKernelIdeal.main_arg4) :=
  (θ_run _ _ _).mono (fun r h c => ⟨(h c).1.trans (Cert.AdamGluKernelIdeal.Value.rows5 m c), (h c).2.1.trans (Cert.AdamGluKernelIdeal.Value.rows6 m c), (h c).2.2.1.trans (Cert.AdamGluKernelIdeal.Value.rows7 m c), (h c).2.2.2.1.trans (Cert.AdamGluKernelIdeal.Value.rows8 m c), (h c).2.2.2.2⟩)
    (Cert.AdamGluKernelIdeal.Value.run_blocks m ρ)

theorem algebraic : Cert.algebraic_AdamGluKernelIdeal_AdamGluReferenceIdeal (hAdamGluKernelIdeal := Cert.AdamGluKernelIdeal.Gen.facts) (hAdamGluReferenceIdeal := Cert.AdamGluReferenceIdeal.Gen.facts) := by
  intro m g m' g' _ hagree
  refine ⟨fun c => Cert.AdamGluReferenceIdeal.Read.val_main_v3 (F := Ideal) (m ((c.tc : Thread Cert.AdamGluKernelIdeal.nD Cert.AdamGluKernelIdeal.τ).loc Cert.AdamGluKernelIdeal.main_arg0)) (m ((c.tc : Thread Cert.AdamGluKernelIdeal.nD Cert.AdamGluKernelIdeal.τ).loc Cert.AdamGluKernelIdeal.main_arg1)), fun c => Cert.AdamGluReferenceIdeal.Read.val_main_v27 (F := Ideal) (m ((c.tc : Thread Cert.AdamGluKernelIdeal.nD Cert.AdamGluKernelIdeal.τ).loc Cert.AdamGluKernelIdeal.main_arg0)) (m ((c.tc : Thread Cert.AdamGluKernelIdeal.nD Cert.AdamGluKernelIdeal.τ).loc Cert.AdamGluKernelIdeal.main_arg1)) (m ((c.tc : Thread Cert.AdamGluKernelIdeal.nD Cert.AdamGluKernelIdeal.τ).loc Cert.AdamGluKernelIdeal.main_arg2)) (m ((c.tc : Thread Cert.AdamGluKernelIdeal.nD Cert.AdamGluKernelIdeal.τ).loc Cert.AdamGluKernelIdeal.main_arg3)) (m ((c.tc : Thread Cert.AdamGluKernelIdeal.nD Cert.AdamGluKernelIdeal.τ).loc Cert.AdamGluKernelIdeal.main_arg4)), fun c => Cert.AdamGluReferenceIdeal.Read.val_main_v8 (F := Ideal) (m ((c.tc : Thread Cert.AdamGluKernelIdeal.nD Cert.AdamGluKernelIdeal.τ).loc Cert.AdamGluKernelIdeal.main_arg0)) (m ((c.tc : Thread Cert.AdamGluKernelIdeal.nD Cert.AdamGluKernelIdeal.τ).loc Cert.AdamGluKernelIdeal.main_arg1)) (m ((c.tc : Thread Cert.AdamGluKernelIdeal.nD Cert.AdamGluKernelIdeal.τ).loc Cert.AdamGluKernelIdeal.main_arg3)), fun c => Cert.AdamGluReferenceIdeal.Read.val_main_v14 (F := Ideal) (m ((c.tc : Thread Cert.AdamGluKernelIdeal.nD Cert.AdamGluKernelIdeal.τ).loc Cert.AdamGluKernelIdeal.main_arg0)) (m ((c.tc : Thread Cert.AdamGluKernelIdeal.nD Cert.AdamGluKernelIdeal.τ).loc Cert.AdamGluKernelIdeal.main_arg1)) (m ((c.tc : Thread Cert.AdamGluKernelIdeal.nD Cert.AdamGluKernelIdeal.τ).loc Cert.AdamGluKernelIdeal.main_arg4)), results m g, ?_⟩
  refine (θ_run _ _ _).mono (fun r h c => ?_) (stages m' g')
  obtain ⟨a0, a1, a2, a3, a4⟩ := hagree c
  obtain ⟨h0, h1, h2, h3, hk⟩ := h c
  rw [a0, a1] at h0
  rw [a0, a1, a2, a3, a4] at h1
  rw [a0, a1, a3] at h2
  rw [a0, a1, a4] at h3
  exact ⟨h0, h1, h2, h3, hk⟩

theorem quiet : Cert.quiescent_AdamGluReferenceIdeal (hAdamGluReferenceIdeal := Cert.AdamGluReferenceIdeal.Gen.facts) := fun m ρ _ =>
  (θ_run _ _ _).mono (fun r h => ⟨fun c => (h c).2.2.2.2, sem_eq_zero_of_no_sems (by decide) _⟩) (Cert.AdamGluReferenceIdeal.Value.run m ρ)

end Cert.AdamGluClaims

end
-- ==== Proof.AdamBranch.lean ====
/-
  The optimiser's step for a branch's weight: each point of the grid adds the received parts of 256 rows' gradient to its
  own and steps the moments and the weight of those rows, and the blocks are the host program's rows there.
-/
module

public import proofs.«01_k».proof.Proof.Gen.AdamBranchKernelIdeal.Value
public import proofs.«01_k».proof.Proof.Gen.AdamBranchReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamBranchKernelIdeal.Value

open Cert.AdamBranchKernelIdeal Cert.AdamBranchKernelIdeal.Gen

variable (m : (ℓ : Loc nD τ sig) → Buf (Elt Ideal) ℓ)

/-- The block of each window at a point: the point's own rows. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array a row of a point's block is. -/
def row (t : Fin cfg0.N) (x : Fin 256) : Fin 512 :=
  ⟨t.val * 256 + x.val, by have h : t.val < 2 := lt_of_lt_of_eq t.isLt N_0; have := x.isLt; omega⟩

/-- The gradient at a point, its own part and the three received, is the host program's at its rows. -/
theorem grad (c : Dev nD) (t : Fin cfg0.N) (x : Fin 256) (q : Fin 128) :
    k0_pay5 (iblk m c 0 t) (View.ld (iblk m c 1 t) r0_1) (View.ld (iblk m c 1 t) r0_2) (View.ld (iblk m c 1 t) r0_3) (ix2 x q)
      = Cert.AdamBranchReferenceIdeal.Read.val_main_v3 (F := Ideal) (m ((c : Thread nD τ).loc main_arg0)) (m ((c : Thread nD τ).loc main_arg1)) (ix3 0 (row t x) q) := by
  open AdamBranchReferenceIdeal.Read in
  pointwise [k0_pay5, val_main_v3, val_main_v2, val_main_v1, val_main_v0, val_main_cst]
  simp only [row, Fin.sum_univ_three, zero_add, add_assoc]
  blk_point [iblk, V, idx t]

theorem own (x0 : Vec Ideal S256x128 .f32) : View.ld x0 r0_0 = x0 := View.ld_unit_lit _ _ (fun a => by fin_cases a <;> rfl)
theorem whole (x : Vec Ideal S1x256x128 .f32) : View.ld x r0_4 = x := View.ld_unit_lit _ _ (fun a => by fin_cases a <;> rfl)

/-- The values a point holds between its two parts, of its whole blocks. -/
theorem held12 (x0 : Vec Ideal S256x128 .f32) (x1 : Vec Ideal S3x256x128 .bf16) (x2 x3 x4 : Vec Ideal S1x256x128 .f32) : k0_pay12 x0 x1 x2 x3 x4 = k0_pay8 x0 (View.ld x1 r0_1) (View.ld x1 r0_2) (View.ld x1 r0_3) x3 := by
  unfold k0_pay12; rw [own, whole]
theorem held13 (x0 : Vec Ideal S256x128 .f32) (x1 : Vec Ideal S3x256x128 .bf16) (x2 x3 x4 : Vec Ideal S1x256x128 .f32) : k0_pay13 x0 x1 x2 x3 x4 = k0_pay9 x4 := by
  unfold k0_pay13; rw [whole]
theorem held14 (x0 : Vec Ideal S256x128 .f32) (x1 : Vec Ideal S3x256x128 .bf16) (x2 x3 x4 : Vec Ideal S1x256x128 .f32) : k0_pay14 x0 x1 x2 x3 x4 = k0_pay10 x0 (View.ld x1 r0_1) (View.ld x1 r0_2) (View.ld x1 r0_3) := by
  unfold k0_pay14; rw [own]
theorem held15 (x0 : Vec Ideal S256x128 .f32) (x1 : Vec Ideal S3x256x128 .bf16) (x2 x3 x4 : Vec Ideal S1x256x128 .f32) : k0_pay15 x0 x1 x2 x3 x4 = k0_pay11 (F := Ideal) := rfl

theorem step5 (c : Dev nD) (t : Fin cfg0.N) (j : S1x256x128.Idx) :
    k0_pay6 (iblk m c 0 t) (View.ld (iblk m c 1 t) r0_1) (View.ld (iblk m c 1 t) r0_2) (View.ld (iblk m c 1 t) r0_3) j
      = Cert.AdamBranchReferenceIdeal.Read.val_main_v3 (F := Ideal) (m ((c : Thread nD τ).loc main_arg0)) (m ((c : Thread nD τ).loc main_arg1)) (ix3 0 (row t (j 1)) (j 2)) := by
  idx_vars j
  fin_cases j0
  open AdamBranchReferenceIdeal.Read in
  pointwise [k0_pay6]
  exact grad m c t _ _

theorem at5 (t : Fin cfg0.N) (j : S1x256x128.Idx) : ((cfg0.win 5).blk t).view.emb j = ix3 0 (row t (j 1)) (j 2) := by
  idx_vars j
  fin_cases j0
  blk_ext [row, idx t]

/-- The gradient. -/
theorem rows5 (c : Dev nD) : (dats m 0 c).arrAt 5 cfg0.N
    = Cert.AdamBranchReferenceIdeal.Read.val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5, at5]
  frame_out
  exact step5 m c t y

theorem step7 (c : Dev nD) (t : Fin cfg0.N) (j : S1x256x128.Idx) :
    k0_pay3 (k0_pay8 (iblk m c 0 t) (View.ld (iblk m c 1 t) r0_1) (View.ld (iblk m c 1 t) r0_2) (View.ld (iblk m c 1 t) r0_3) (iblk m c 3 t)) j
      = Cert.AdamBranchReferenceIdeal.Read.val_main_v8 (F := Ideal) (m ((c : Thread nD τ).loc main_arg0)) (m ((c : Thread nD τ).loc main_arg1)) (m ((c : Thread nD τ).loc main_arg3)) (ix3 0 (row t (j 1)) (j 2)) := by
  idx_vars j
  fin_cases j0
  open AdamBranchReferenceIdeal.Read in
  pointwise [k0_pay3, k0_pay8, val_main_v4, val_main_cst_0, val_main_v5, val_main_v6, val_main_cst_1, val_main_v7, val_main_v8]
  simp only [grad m c t]
  simp only [row]
  blk_point [iblk, V, idx t]

theorem at7 (t : Fin cfg0.N) (j : S1x256x128.Idx) : ((cfg0.win 7).blk t).view.emb j = ix3 0 (row t (j 1)) (j 2) := by
  idx_vars j
  fin_cases j0
  blk_ext [row, idx t]

/-- The new first moment. -/
theorem rows7 (c : Dev nD) : (dats m 0 c).arrAt 7 cfg0.N
    = Cert.AdamBranchReferenceIdeal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7, at7]
  frame_out
  rw [held12]
  exact step7 m c t y

theorem step8 (c : Dev nD) (t : Fin cfg0.N) (j : S1x256x128.Idx) :
    k0_pay4 (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamBranchReferenceIdeal.Read.val_main_v14 (F := Ideal) (m ((c : Thread nD τ).loc main_arg0)) (m ((c : Thread nD τ).loc main_arg1)) (m ((c : Thread nD τ).loc main_arg4)) (ix3 0 (row t (j 1)) (j 2)) := by
  idx_vars j
  fin_cases j0
  open AdamBranchReferenceIdeal.Read in
  pointwise [k0_pay4, k0_pay9, k0_pay10, k0_pay11, k0_pay1, val_main_v9, val_main_cst_2, val_main_v10, val_main_v11, val_main_cst_3, val_main_v12, val_main_v13, val_main_v14]
  simp only [grad m c t]
  simp only [row]
  blk_point [iblk, V, idx t]

theorem at8 (t : Fin cfg0.N) (j : S1x256x128.Idx) : ((cfg0.win 8).blk t).view.emb j = ix3 0 (row t (j 1)) (j 2) := by
  idx_vars j
  fin_cases j0
  blk_ext [row, idx t]

/-- The new second moment. -/
theorem rows8 (c : Dev nD) : (dats m 0 c).arrAt 8 cfg0.N
    = Cert.AdamBranchReferenceIdeal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8, at8]
  frame_out
  rw [held13, held14, held15]
  exact step8 m c t y

theorem step6 (c : Dev nD) (t : Fin cfg0.N) (j : S1x256x128.Idx) :
    k0_pay2 (k0_pay7 (iblk m c 2 t)) (k0_pay8 (iblk m c 0 t) (View.ld (iblk m c 1 t) r0_1) (View.ld (iblk m c 1 t) r0_2) (View.ld (iblk m c 1 t) r0_3) (iblk m c 3 t)) (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamBranchReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t (j 1)) (j 2)) := by
  idx_vars j
  fin_cases j0
  open AdamBranchReferenceIdeal.Read in
  pointwise [k0_pay2, k0_pay7, k0_pay8, k0_pay9, k0_pay10, k0_pay11, k0_pay1, val_main_v4, val_main_cst_0, val_main_v5, val_main_v6, val_main_cst_1, val_main_v7, val_main_v8, val_main_v9, val_main_cst_2, val_main_v10, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_cst_4, val_main_cst_5, val_main_cst_6, val_main_cst_7, val_main_cst_8]
  simp only [grad m c t]
  simp only [row]
  blk_point [iblk, V, idx t]

theorem at6 (t : Fin cfg0.N) (j : S1x256x128.Idx) : ((cfg0.win 6).blk t).view.emb j = ix3 0 (row t (j 1)) (j 2) := by
  idx_vars j
  fin_cases j0
  blk_ext [row, idx t]

/-- The change of the weight. -/
theorem rows6 (c : Dev nD) : (dats m 0 c).arrAt 6 cfg0.N
    = Cert.AdamBranchReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  frame_out
  rw [held12, held13, held14, held15]
  exact step6 m c t y

end Cert.AdamBranchKernelIdeal.Value

end
-- ==== Proof.AdamBranchClaims.lean ====
/- The equation of the optimiser's step for a branch's weight: the kernel's run and the reference's at the same stages, and the claim from the two. -/
module

public import proofs.«01_k».proof.Defs
public import proofs.«01_k».proof.Proof.Gen.AdamBranchKernel.Frame
public import proofs.«01_k».proof.Proof.Gen.AdamBranchReferenceIdeal.Run
public import proofs.«01_k».proof.Proof.AdamBranch
public import Idealize.ShloMosaic.Lib.Quiescent

@[expose] public section

noncomputable section

open Idealize.ShloMosaic Idealize.ShloMosaic.TcCoe Idealize.SL.Sem

namespace Cert.AdamBranchClaims

/-- The reference's run, each result at its stage, the arguments kept. -/
theorem stages (m : (ℓ : Loc Cert.AdamBranchReferenceIdeal.nD Cert.AdamBranchReferenceIdeal.τ Cert.AdamBranchReferenceIdeal.sig) → Buf (Elt Ideal) ℓ) (ρ : Dev Cert.AdamBranchReferenceIdeal.nD → PrngReg) :
    θ_run (Cert.AdamBranchReferenceIdeal.defs (F := Ideal)) (onTc (τ := Cert.AdamBranchReferenceIdeal.τ) (Cert.AdamBranchReferenceIdeal.main (F := Ideal))) ⟨m, fun _ => 0, ρ⟩ fun r => ∀ c : Dev Cert.AdamBranchReferenceIdeal.nD,
      r.2.mem ((c.tc : Thread Cert.AdamBranchReferenceIdeal.nD Cert.AdamBranchReferenceIdeal.τ).loc Cert.AdamBranchReferenceIdeal.main_v3) = Cert.AdamBranchReferenceIdeal.Read.val_main_v3 (F := Ideal) (m ((c.tc : Thread Cert.AdamBranchReferenceIdeal.nD Cert.AdamBranchReferenceIdeal.τ).loc Cert.AdamBranchReferenceIdeal.main_arg0)) (m ((c.tc : Thread Cert.AdamBranchReferenceIdeal.nD Cert.AdamBranchReferenceIdeal.τ).loc Cert.AdamBranchReferenceIdeal.main_arg1))
      ∧ r.2.mem ((c.tc : Thread Cert.AdamBranchReferenceIdeal.nD Cert.AdamBranchReferenceIdeal.τ).loc Cert.AdamBranchReferenceIdeal.main_v27) = Cert.AdamBranchReferenceIdeal.Read.val_main_v27 (F := Ideal) (m ((c.tc : Thread Cert.AdamBranchReferenceIdeal.nD Cert.AdamBranchReferenceIdeal.τ).loc Cert.AdamBranchReferenceIdeal.main_arg0)) (m ((c.tc : Thread Cert.AdamBranchReferenceIdeal.nD Cert.AdamBranchReferenceIdeal.τ).loc Cert.AdamBranchReferenceIdeal.main_arg1)) (m ((c.tc : Thread Cert.AdamBranchReferenceIdeal.nD Cert.AdamBranchReferenceIdeal.τ).loc Cert.AdamBranchReferenceIdeal.main_arg2)) (m ((c.tc : Thread Cert.AdamBranchReferenceIdeal.nD Cert.AdamBranchReferenceIdeal.τ).loc Cert.AdamBranchReferenceIdeal.main_arg3)) (m ((c.tc : Thread Cert.AdamBranchReferenceIdeal.nD Cert.AdamBranchReferenceIdeal.τ).loc Cert.AdamBranchReferenceIdeal.main_arg4))
      ∧ r.2.mem ((c.tc : Thread Cert.AdamBranchReferenceIdeal.nD Cert.AdamBranchReferenceIdeal.τ).loc Cert.AdamBranchReferenceIdeal.main_v8) = Cert.AdamBranchReferenceIdeal.Read.val_main_v8 (F := Ideal) (m ((c.tc : Thread Cert.AdamBranchReferenceIdeal.nD Cert.AdamBranchReferenceIdeal.τ).loc Cert.AdamBranchReferenceIdeal.main_arg0)) (m ((c.tc : Thread Cert.AdamBranchReferenceIdeal.nD Cert.AdamBranchReferenceIdeal.τ).loc Cert.AdamBranchReferenceIdeal.main_arg1)) (m ((c.tc : Thread Cert.AdamBranchReferenceIdeal.nD Cert.AdamBranchReferenceIdeal.τ).loc Cert.AdamBranchReferenceIdeal.main_arg3))
      ∧ r.2.mem ((c.tc : Thread Cert.AdamBranchReferenceIdeal.nD Cert.AdamBranchReferenceIdeal.τ).loc Cert.AdamBranchReferenceIdeal.main_v14) = Cert.AdamBranchReferenceIdeal.Read.val_main_v14 (F := Ideal) (m ((c.tc : Thread Cert.AdamBranchReferenceIdeal.nD Cert.AdamBranchReferenceIdeal.τ).loc Cert.AdamBranchReferenceIdeal.main_arg0)) (m ((c.tc : Thread Cert.AdamBranchReferenceIdeal.nD Cert.AdamBranchReferenceIdeal.τ).loc Cert.AdamBranchReferenceIdeal.main_arg1)) (m ((c.tc : Thread Cert.AdamBranchReferenceIdeal.nD Cert.AdamBranchReferenceIdeal.τ).loc Cert.AdamBranchReferenceIdeal.main_arg4))
      ∧ r.2.mem ((c.tc : Thread Cert.AdamBranchReferenceIdeal.nD Cert.AdamBranchReferenceIdeal.τ).loc Cert.AdamBranchReferenceIdeal.main_arg0) = m ((c.tc : Thread Cert.AdamBranchReferenceIdeal.nD Cert.AdamBranchReferenceIdeal.τ).loc Cert.AdamBranchReferenceIdeal.main_arg0)
      ∧ r.2.mem ((c.tc : Thread Cert.AdamBranchReferenceIdeal.nD Cert.AdamBranchReferenceIdeal.τ).loc Cert.AdamBranchReferenceIdeal.main_arg1) = m ((c.tc : Thread Cert.AdamBranchReferenceIdeal.nD Cert.AdamBranchReferenceIdeal.τ).loc Cert.AdamBranchReferenceIdeal.main_arg1)
      ∧ r.2.mem ((c.tc : Thread Cert.AdamBranchReferenceIdeal.nD Cert.AdamBranchReferenceIdeal.τ).loc Cert.AdamBranchReferenceIdeal.main_arg2) = m ((c.tc : Thread Cert.AdamBranchReferenceIdeal.nD Cert.AdamBranchReferenceIdeal.τ).loc Cert.AdamBranchReferenceIdeal.main_arg2)
      ∧ r.2.mem ((c.tc : Thread Cert.AdamBranchReferenceIdeal.nD Cert.AdamBranchReferenceIdeal.τ).loc Cert.AdamBranchReferenceIdeal.main_arg3) = m ((c.tc : Thread Cert.AdamBranchReferenceIdeal.nD Cert.AdamBranchReferenceIdeal.τ).loc Cert.AdamBranchReferenceIdeal.main_arg3)
      ∧ r.2.mem ((c.tc : Thread Cert.AdamBranchReferenceIdeal.nD Cert.AdamBranchReferenceIdeal.τ).loc Cert.AdamBranchReferenceIdeal.main_arg4) = m ((c.tc : Thread Cert.AdamBranchReferenceIdeal.nD Cert.AdamBranchReferenceIdeal.τ).loc Cert.AdamBranchReferenceIdeal.main_arg4) :=
  (θ_run _ _ _).mono (fun r h c => ⟨(h c).1.trans (Cert.AdamBranchReferenceIdeal.Read.val_main_v3_eq ..), (h c).2.1.trans (Cert.AdamBranchReferenceIdeal.Read.val_main_v27_eq ..), (h c).2.2.1.trans (Cert.AdamBranchReferenceIdeal.Read.val_main_v8_eq ..), (h c).2.2.2.1.trans (Cert.AdamBranchReferenceIdeal.Read.val_main_v14_eq ..), (h c).2.2.2.2⟩)
    (Cert.AdamBranchReferenceIdeal.Value.run m ρ)

/-- The kernel's run, each result at the reference's stage over the kernel's own arguments, the arguments kept. -/
theorem results (m : (ℓ : Loc Cert.AdamBranchKernelIdeal.nD Cert.AdamBranchKernelIdeal.τ Cert.AdamBranchKernelIdeal.sig) → Buf (Elt Ideal) ℓ) (ρ : Dev Cert.AdamBranchKernelIdeal.nD → PrngReg) :
    θ_run (Cert.AdamBranchKernelIdeal.defs (F := Ideal)) (onTc (τ := Cert.AdamBranchKernelIdeal.τ) (Cert.AdamBranchKernelIdeal.main (F := Ideal))) ⟨m, fun _ => 0, ρ⟩ fun r => ∀ c : Dev Cert.AdamBranchKernelIdeal.nD,
      r.2.mem ((c.tc : Thread Cert.AdamBranchKernelIdeal.nD Cert.AdamBranchKernelIdeal.τ).loc Cert.AdamBranchKernelIdeal.main_v0_0) = Cert.AdamBranchReferenceIdeal.Read.val_main_v3 (F := Ideal) (m ((c.tc : Thread Cert.AdamBranchKernelIdeal.nD Cert.AdamBranchKernelIdeal.τ).loc Cert.AdamBranchKernelIdeal.main_arg0)) (m ((c.tc : Thread Cert.AdamBranchKernelIdeal.nD Cert.AdamBranchKernelIdeal.τ).loc Cert.AdamBranchKernelIdeal.main_arg1))
      ∧ r.2.mem ((c.tc : Thread Cert.AdamBranchKernelIdeal.nD Cert.AdamBranchKernelIdeal.τ).loc Cert.AdamBranchKernelIdeal.main_v0_1) = Cert.AdamBranchReferenceIdeal.Read.val_main_v27 (F := Ideal) (m ((c.tc : Thread Cert.AdamBranchKernelIdeal.nD Cert.AdamBranchKernelIdeal.τ).loc Cert.AdamBranchKernelIdeal.main_arg0)) (m ((c.tc : Thread Cert.AdamBranchKernelIdeal.nD Cert.AdamBranchKernelIdeal.τ).loc Cert.AdamBranchKernelIdeal.main_arg1)) (m ((c.tc : Thread Cert.AdamBranchKernelIdeal.nD Cert.AdamBranchKernelIdeal.τ).loc Cert.AdamBranchKernelIdeal.main_arg2)) (m ((c.tc : Thread Cert.AdamBranchKernelIdeal.nD Cert.AdamBranchKernelIdeal.τ).loc Cert.AdamBranchKernelIdeal.main_arg3)) (m ((c.tc : Thread Cert.AdamBranchKernelIdeal.nD Cert.AdamBranchKernelIdeal.τ).loc Cert.AdamBranchKernelIdeal.main_arg4))
      ∧ r.2.mem ((c.tc : Thread Cert.AdamBranchKernelIdeal.nD Cert.AdamBranchKernelIdeal.τ).loc Cert.AdamBranchKernelIdeal.main_v0_2) = Cert.AdamBranchReferenceIdeal.Read.val_main_v8 (F := Ideal) (m ((c.tc : Thread Cert.AdamBranchKernelIdeal.nD Cert.AdamBranchKernelIdeal.τ).loc Cert.AdamBranchKernelIdeal.main_arg0)) (m ((c.tc : Thread Cert.AdamBranchKernelIdeal.nD Cert.AdamBranchKernelIdeal.τ).loc Cert.AdamBranchKernelIdeal.main_arg1)) (m ((c.tc : Thread Cert.AdamBranchKernelIdeal.nD Cert.AdamBranchKernelIdeal.τ).loc Cert.AdamBranchKernelIdeal.main_arg3))
      ∧ r.2.mem ((c.tc : Thread Cert.AdamBranchKernelIdeal.nD Cert.AdamBranchKernelIdeal.τ).loc Cert.AdamBranchKernelIdeal.main_v0_3) = Cert.AdamBranchReferenceIdeal.Read.val_main_v14 (F := Ideal) (m ((c.tc : Thread Cert.AdamBranchKernelIdeal.nD Cert.AdamBranchKernelIdeal.τ).loc Cert.AdamBranchKernelIdeal.main_arg0)) (m ((c.tc : Thread Cert.AdamBranchKernelIdeal.nD Cert.AdamBranchKernelIdeal.τ).loc Cert.AdamBranchKernelIdeal.main_arg1)) (m ((c.tc : Thread Cert.AdamBranchKernelIdeal.nD Cert.AdamBranchKernelIdeal.τ).loc Cert.AdamBranchKernelIdeal.main_arg4))
      ∧ r.2.mem ((c.tc : Thread Cert.AdamBranchKernelIdeal.nD Cert.AdamBranchKernelIdeal.τ).loc Cert.AdamBranchKernelIdeal.main_arg0) = m ((c.tc : Thread Cert.AdamBranchKernelIdeal.nD Cert.AdamBranchKernelIdeal.τ).loc Cert.AdamBranchKernelIdeal.main_arg0)
      ∧ r.2.mem ((c.tc : Thread Cert.AdamBranchKernelIdeal.nD Cert.AdamBranchKernelIdeal.τ).loc Cert.AdamBranchKernelIdeal.main_arg1) = m ((c.tc : Thread Cert.AdamBranchKernelIdeal.nD Cert.AdamBranchKernelIdeal.τ).loc Cert.AdamBranchKernelIdeal.main_arg1)
      ∧ r.2.mem ((c.tc : Thread Cert.AdamBranchKernelIdeal.nD Cert.AdamBranchKernelIdeal.τ).loc Cert.AdamBranchKernelIdeal.main_arg2) = m ((c.tc : Thread Cert.AdamBranchKernelIdeal.nD Cert.AdamBranchKernelIdeal.τ).loc Cert.AdamBranchKernelIdeal.main_arg2)
      ∧ r.2.mem ((c.tc : Thread Cert.AdamBranchKernelIdeal.nD Cert.AdamBranchKernelIdeal.τ).loc Cert.AdamBranchKernelIdeal.main_arg3) = m ((c.tc : Thread Cert.AdamBranchKernelIdeal.nD Cert.AdamBranchKernelIdeal.τ).loc Cert.AdamBranchKernelIdeal.main_arg3)
      ∧ r.2.mem ((c.tc : Thread Cert.AdamBranchKernelIdeal.nD Cert.AdamBranchKernelIdeal.τ).loc Cert.AdamBranchKernelIdeal.main_arg4) = m ((c.tc : Thread Cert.AdamBranchKernelIdeal.nD Cert.AdamBranchKernelIdeal.τ).loc Cert.AdamBranchKernelIdeal.main_arg4) :=
  (θ_run _ _ _).mono (fun r h c => ⟨(h c).1.trans (Cert.AdamBranchKernelIdeal.Value.rows5 m c), (h c).2.1.trans (Cert.AdamBranchKernelIdeal.Value.rows6 m c), (h c).2.2.1.trans (Cert.AdamBranchKernelIdeal.Value.rows7 m c), (h c).2.2.2.1.trans (Cert.AdamBranchKernelIdeal.Value.rows8 m c), (h c).2.2.2.2⟩)
    (Cert.AdamBranchKernelIdeal.Value.run_blocks m ρ)

theorem algebraic : Cert.algebraic_AdamBranchKernelIdeal_AdamBranchReferenceIdeal (hAdamBranchKernelIdeal := Cert.AdamBranchKernelIdeal.Gen.facts) (hAdamBranchReferenceIdeal := Cert.AdamBranchReferenceIdeal.Gen.facts) := by
  intro m g m' g' _ hagree
  refine ⟨fun c => Cert.AdamBranchReferenceIdeal.Read.val_main_v3 (F := Ideal) (m ((c.tc : Thread Cert.AdamBranchKernelIdeal.nD Cert.AdamBranchKernelIdeal.τ).loc Cert.AdamBranchKernelIdeal.main_arg0)) (m ((c.tc : Thread Cert.AdamBranchKernelIdeal.nD Cert.AdamBranchKernelIdeal.τ).loc Cert.AdamBranchKernelIdeal.main_arg1)), fun c => Cert.AdamBranchReferenceIdeal.Read.val_main_v27 (F := Ideal) (m ((c.tc : Thread Cert.AdamBranchKernelIdeal.nD Cert.AdamBranchKernelIdeal.τ).loc Cert.AdamBranchKernelIdeal.main_arg0)) (m ((c.tc : Thread Cert.AdamBranchKernelIdeal.nD Cert.AdamBranchKernelIdeal.τ).loc Cert.AdamBranchKernelIdeal.main_arg1)) (m ((c.tc : Thread Cert.AdamBranchKernelIdeal.nD Cert.AdamBranchKernelIdeal.τ).loc Cert.AdamBranchKernelIdeal.main_arg2)) (m ((c.tc : Thread Cert.AdamBranchKernelIdeal.nD Cert.AdamBranchKernelIdeal.τ).loc Cert.AdamBranchKernelIdeal.main_arg3)) (m ((c.tc : Thread Cert.AdamBranchKernelIdeal.nD Cert.AdamBranchKernelIdeal.τ).loc Cert.AdamBranchKernelIdeal.main_arg4)), fun c => Cert.AdamBranchReferenceIdeal.Read.val_main_v8 (F := Ideal) (m ((c.tc : Thread Cert.AdamBranchKernelIdeal.nD Cert.AdamBranchKernelIdeal.τ).loc Cert.AdamBranchKernelIdeal.main_arg0)) (m ((c.tc : Thread Cert.AdamBranchKernelIdeal.nD Cert.AdamBranchKernelIdeal.τ).loc Cert.AdamBranchKernelIdeal.main_arg1)) (m ((c.tc : Thread Cert.AdamBranchKernelIdeal.nD Cert.AdamBranchKernelIdeal.τ).loc Cert.AdamBranchKernelIdeal.main_arg3)), fun c => Cert.AdamBranchReferenceIdeal.Read.val_main_v14 (F := Ideal) (m ((c.tc : Thread Cert.AdamBranchKernelIdeal.nD Cert.AdamBranchKernelIdeal.τ).loc Cert.AdamBranchKernelIdeal.main_arg0)) (m ((c.tc : Thread Cert.AdamBranchKernelIdeal.nD Cert.AdamBranchKernelIdeal.τ).loc Cert.AdamBranchKernelIdeal.main_arg1)) (m ((c.tc : Thread Cert.AdamBranchKernelIdeal.nD Cert.AdamBranchKernelIdeal.τ).loc Cert.AdamBranchKernelIdeal.main_arg4)), results m g, ?_⟩
  refine (θ_run _ _ _).mono (fun r h c => ?_) (stages m' g')
  obtain ⟨a0, a1, a2, a3, a4⟩ := hagree c
  obtain ⟨h0, h1, h2, h3, hk⟩ := h c
  rw [a0, a1] at h0
  rw [a0, a1, a2, a3, a4] at h1
  rw [a0, a1, a3] at h2
  rw [a0, a1, a4] at h3
  exact ⟨h0, h1, h2, h3, hk⟩

theorem quiet : Cert.quiescent_AdamBranchReferenceIdeal (hAdamBranchReferenceIdeal := Cert.AdamBranchReferenceIdeal.Gen.facts) := fun m ρ _ =>
  (θ_run _ _ _).mono (fun r h => ⟨fun c => (h c).2.2.2.2, sem_eq_zero_of_no_sems (by decide) _⟩) (Cert.AdamBranchReferenceIdeal.Value.run m ρ)

end Cert.AdamBranchClaims

end
-- ==== Proof.AdamOut.lean ====
/-
  The optimiser's step for the output projection's weight: each point of the grid adds the received parts of 128 rows' gradient to its
  own and steps the moments and the weight of those rows, and the blocks are the host program's rows there.
-/
module

public import proofs.«01_k».proof.Proof.Gen.AdamOutKernelIdeal.Value
public import proofs.«01_k».proof.Proof.Gen.AdamOutReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamOutKernelIdeal.Value

open Cert.AdamOutKernelIdeal Cert.AdamOutKernelIdeal.Gen

variable (m : (ℓ : Loc nD τ sig) → Buf (Elt Ideal) ℓ)

/-- The block of each window at a point: the point's own rows. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array a row of a point's block is. -/
def row (t : Fin cfg0.N) (x : Fin 128) : Fin 128 :=
  ⟨t.val * 128 + x.val, by have h : t.val < 1 := lt_of_lt_of_eq t.isLt N_0; have := x.isLt; omega⟩

/-- The gradient at a point, its own part and the three received, is the host program's at its rows. -/
theorem grad (c : Dev nD) (t : Fin cfg0.N) (x : Fin 128) (q : Fin 1024) :
    k0_pay5 (iblk m c 0 t) (View.ld (iblk m c 1 t) r0_1) (View.ld (iblk m c 1 t) r0_2) (View.ld (iblk m c 1 t) r0_3) (ix2 x q)
      = Cert.AdamOutReferenceIdeal.Read.val_main_v3 (F := Ideal) (m ((c : Thread nD τ).loc main_arg0)) (m ((c : Thread nD τ).loc main_arg1)) (ix3 0 (row t x) q) := by
  open AdamOutReferenceIdeal.Read in
  pointwise [k0_pay5, val_main_v3, val_main_v2, val_main_v1, val_main_v0, val_main_cst]
  simp only [row, Fin.sum_univ_three, zero_add, add_assoc]
  blk_point [iblk, V, idx t]

theorem own (x0 : Vec Ideal S128x1024 .f32) : View.ld x0 r0_0 = x0 := View.ld_unit_lit _ _ (fun a => by fin_cases a <;> rfl)
theorem whole (x : Vec Ideal S1x128x1024 .f32) : View.ld x r0_4 = x := View.ld_unit_lit _ _ (fun a => by fin_cases a <;> rfl)

/-- The values a point holds between its two parts, of its whole blocks. -/
theorem held12 (x0 : Vec Ideal S128x1024 .f32) (x1 : Vec Ideal S3x128x1024 .bf16) (x2 x3 x4 : Vec Ideal S1x128x1024 .f32) : k0_pay12 x0 x1 x2 x3 x4 = k0_pay8 x0 (View.ld x1 r0_1) (View.ld x1 r0_2) (View.ld x1 r0_3) x3 := by
  unfold k0_pay12; rw [own, whole]
theorem held13 (x0 : Vec Ideal S128x1024 .f32) (x1 : Vec Ideal S3x128x1024 .bf16) (x2 x3 x4 : Vec Ideal S1x128x1024 .f32) : k0_pay13 x0 x1 x2 x3 x4 = k0_pay9 x4 := by
  unfold k0_pay13; rw [whole]
theorem held14 (x0 : Vec Ideal S128x1024 .f32) (x1 : Vec Ideal S3x128x1024 .bf16) (x2 x3 x4 : Vec Ideal S1x128x1024 .f32) : k0_pay14 x0 x1 x2 x3 x4 = k0_pay10 x0 (View.ld x1 r0_1) (View.ld x1 r0_2) (View.ld x1 r0_3) := by
  unfold k0_pay14; rw [own]
theorem held15 (x0 : Vec Ideal S128x1024 .f32) (x1 : Vec Ideal S3x128x1024 .bf16) (x2 x3 x4 : Vec Ideal S1x128x1024 .f32) : k0_pay15 x0 x1 x2 x3 x4 = k0_pay11 (F := Ideal) := rfl

theorem step5 (c : Dev nD) (t : Fin cfg0.N) (j : S1x128x1024.Idx) :
    k0_pay6 (iblk m c 0 t) (View.ld (iblk m c 1 t) r0_1) (View.ld (iblk m c 1 t) r0_2) (View.ld (iblk m c 1 t) r0_3) j
      = Cert.AdamOutReferenceIdeal.Read.val_main_v3 (F := Ideal) (m ((c : Thread nD τ).loc main_arg0)) (m ((c : Thread nD τ).loc main_arg1)) (ix3 0 (row t (j 1)) (j 2)) := by
  idx_vars j
  fin_cases j0
  open AdamOutReferenceIdeal.Read in
  pointwise [k0_pay6]
  exact grad m c t _ _

theorem at5 (t : Fin cfg0.N) (j : S1x128x1024.Idx) : ((cfg0.win 5).blk t).view.emb j = ix3 0 (row t (j 1)) (j 2) := by
  idx_vars j
  fin_cases j0
  blk_ext [row, idx t]

/-- The gradient. -/
theorem rows5 (c : Dev nD) : (dats m 0 c).arrAt 5 cfg0.N
    = Cert.AdamOutReferenceIdeal.Read.val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5, at5]
  frame_out
  exact step5 m c t y

theorem step7 (c : Dev nD) (t : Fin cfg0.N) (j : S1x128x1024.Idx) :
    k0_pay3 (k0_pay8 (iblk m c 0 t) (View.ld (iblk m c 1 t) r0_1) (View.ld (iblk m c 1 t) r0_2) (View.ld (iblk m c 1 t) r0_3) (iblk m c 3 t)) j
      = Cert.AdamOutReferenceIdeal.Read.val_main_v8 (F := Ideal) (m ((c : Thread nD τ).loc main_arg0)) (m ((c : Thread nD τ).loc main_arg1)) (m ((c : Thread nD τ).loc main_arg3)) (ix3 0 (row t (j 1)) (j 2)) := by
  idx_vars j
  fin_cases j0
  open AdamOutReferenceIdeal.Read in
  pointwise [k0_pay3, k0_pay8, val_main_v4, val_main_cst_0, val_main_v5, val_main_v6, val_main_cst_1, val_main_v7, val_main_v8]
  simp only [grad m c t]
  simp only [row]
  blk_point [iblk, V, idx t]

theorem at7 (t : Fin cfg0.N) (j : S1x128x1024.Idx) : ((cfg0.win 7).blk t).view.emb j = ix3 0 (row t (j 1)) (j 2) := by
  idx_vars j
  fin_cases j0
  blk_ext [row, idx t]

/-- The new first moment. -/
theorem rows7 (c : Dev nD) : (dats m 0 c).arrAt 7 cfg0.N
    = Cert.AdamOutReferenceIdeal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7, at7]
  frame_out
  rw [held12]
  exact step7 m c t y

theorem step8 (c : Dev nD) (t : Fin cfg0.N) (j : S1x128x1024.Idx) :
    k0_pay4 (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamOutReferenceIdeal.Read.val_main_v14 (F := Ideal) (m ((c : Thread nD τ).loc main_arg0)) (m ((c : Thread nD τ).loc main_arg1)) (m ((c : Thread nD τ).loc main_arg4)) (ix3 0 (row t (j 1)) (j 2)) := by
  idx_vars j
  fin_cases j0
  open AdamOutReferenceIdeal.Read in
  pointwise [k0_pay4, k0_pay9, k0_pay10, k0_pay11, k0_pay1, val_main_v9, val_main_cst_2, val_main_v10, val_main_v11, val_main_cst_3, val_main_v12, val_main_v13, val_main_v14]
  simp only [grad m c t]
  simp only [row]
  blk_point [iblk, V, idx t]

theorem at8 (t : Fin cfg0.N) (j : S1x128x1024.Idx) : ((cfg0.win 8).blk t).view.emb j = ix3 0 (row t (j 1)) (j 2) := by
  idx_vars j
  fin_cases j0
  blk_ext [row, idx t]

/-- The new second moment. -/
theorem rows8 (c : Dev nD) : (dats m 0 c).arrAt 8 cfg0.N
    = Cert.AdamOutReferenceIdeal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8, at8]
  frame_out
  rw [held13, held14, held15]
  exact step8 m c t y

theorem step6 (c : Dev nD) (t : Fin cfg0.N) (j : S1x128x1024.Idx) :
    k0_pay2 (k0_pay7 (iblk m c 2 t)) (k0_pay8 (iblk m c 0 t) (View.ld (iblk m c 1 t) r0_1) (View.ld (iblk m c 1 t) r0_2) (View.ld (iblk m c 1 t) r0_3) (iblk m c 3 t)) (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamOutReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t (j 1)) (j 2)) := by
  idx_vars j
  fin_cases j0
  open AdamOutReferenceIdeal.Read in
  pointwise [k0_pay2, k0_pay7, k0_pay8, k0_pay9, k0_pay10, k0_pay11, k0_pay1, val_main_v4, val_main_cst_0, val_main_v5, val_main_v6, val_main_cst_1, val_main_v7, val_main_v8, val_main_v9, val_main_cst_2, val_main_v10, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_cst_4, val_main_cst_5, val_main_cst_6, val_main_cst_7, val_main_cst_8]
  simp only [grad m c t]
  simp only [row]
  blk_point [iblk, V, idx t]

theorem at6 (t : Fin cfg0.N) (j : S1x128x1024.Idx) : ((cfg0.win 6).blk t).view.emb j = ix3 0 (row t (j 1)) (j 2) := by
  idx_vars j
  fin_cases j0
  blk_ext [row, idx t]

/-- The change of the weight. -/
theorem rows6 (c : Dev nD) : (dats m 0 c).arrAt 6 cfg0.N
    = Cert.AdamOutReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  frame_out
  rw [held12, held13, held14, held15]
  exact step6 m c t y

end Cert.AdamOutKernelIdeal.Value

end
-- ==== Proof.AdamOutClaims.lean ====
/- The equation of the optimiser's step for the output projection's weight: the kernel's run and the reference's at the same stages, and the claim from the two. -/
module

public import proofs.«01_k».proof.Defs
public import proofs.«01_k».proof.Proof.Gen.AdamOutKernel.Frame
public import proofs.«01_k».proof.Proof.Gen.AdamOutReferenceIdeal.Run
public import proofs.«01_k».proof.Proof.AdamOut
public import Idealize.ShloMosaic.Lib.Quiescent

@[expose] public section

noncomputable section

open Idealize.ShloMosaic Idealize.ShloMosaic.TcCoe Idealize.SL.Sem

namespace Cert.AdamOutClaims

/-- The reference's run, each result at its stage, the arguments kept. -/
theorem stages (m : (ℓ : Loc Cert.AdamOutReferenceIdeal.nD Cert.AdamOutReferenceIdeal.τ Cert.AdamOutReferenceIdeal.sig) → Buf (Elt Ideal) ℓ) (ρ : Dev Cert.AdamOutReferenceIdeal.nD → PrngReg) :
    θ_run (Cert.AdamOutReferenceIdeal.defs (F := Ideal)) (onTc (τ := Cert.AdamOutReferenceIdeal.τ) (Cert.AdamOutReferenceIdeal.main (F := Ideal))) ⟨m, fun _ => 0, ρ⟩ fun r => ∀ c : Dev Cert.AdamOutReferenceIdeal.nD,
      r.2.mem ((c.tc : Thread Cert.AdamOutReferenceIdeal.nD Cert.AdamOutReferenceIdeal.τ).loc Cert.AdamOutReferenceIdeal.main_v3) = Cert.AdamOutReferenceIdeal.Read.val_main_v3 (F := Ideal) (m ((c.tc : Thread Cert.AdamOutReferenceIdeal.nD Cert.AdamOutReferenceIdeal.τ).loc Cert.AdamOutReferenceIdeal.main_arg0)) (m ((c.tc : Thread Cert.AdamOutReferenceIdeal.nD Cert.AdamOutReferenceIdeal.τ).loc Cert.AdamOutReferenceIdeal.main_arg1))
      ∧ r.2.mem ((c.tc : Thread Cert.AdamOutReferenceIdeal.nD Cert.AdamOutReferenceIdeal.τ).loc Cert.AdamOutReferenceIdeal.main_v27) = Cert.AdamOutReferenceIdeal.Read.val_main_v27 (F := Ideal) (m ((c.tc : Thread Cert.AdamOutReferenceIdeal.nD Cert.AdamOutReferenceIdeal.τ).loc Cert.AdamOutReferenceIdeal.main_arg0)) (m ((c.tc : Thread Cert.AdamOutReferenceIdeal.nD Cert.AdamOutReferenceIdeal.τ).loc Cert.AdamOutReferenceIdeal.main_arg1)) (m ((c.tc : Thread Cert.AdamOutReferenceIdeal.nD Cert.AdamOutReferenceIdeal.τ).loc Cert.AdamOutReferenceIdeal.main_arg2)) (m ((c.tc : Thread Cert.AdamOutReferenceIdeal.nD Cert.AdamOutReferenceIdeal.τ).loc Cert.AdamOutReferenceIdeal.main_arg3)) (m ((c.tc : Thread Cert.AdamOutReferenceIdeal.nD Cert.AdamOutReferenceIdeal.τ).loc Cert.AdamOutReferenceIdeal.main_arg4))
      ∧ r.2.mem ((c.tc : Thread Cert.AdamOutReferenceIdeal.nD Cert.AdamOutReferenceIdeal.τ).loc Cert.AdamOutReferenceIdeal.main_v8) = Cert.AdamOutReferenceIdeal.Read.val_main_v8 (F := Ideal) (m ((c.tc : Thread Cert.AdamOutReferenceIdeal.nD Cert.AdamOutReferenceIdeal.τ).loc Cert.AdamOutReferenceIdeal.main_arg0)) (m ((c.tc : Thread Cert.AdamOutReferenceIdeal.nD Cert.AdamOutReferenceIdeal.τ).loc Cert.AdamOutReferenceIdeal.main_arg1)) (m ((c.tc : Thread Cert.AdamOutReferenceIdeal.nD Cert.AdamOutReferenceIdeal.τ).loc Cert.AdamOutReferenceIdeal.main_arg3))
      ∧ r.2.mem ((c.tc : Thread Cert.AdamOutReferenceIdeal.nD Cert.AdamOutReferenceIdeal.τ).loc Cert.AdamOutReferenceIdeal.main_v14) = Cert.AdamOutReferenceIdeal.Read.val_main_v14 (F := Ideal) (m ((c.tc : Thread Cert.AdamOutReferenceIdeal.nD Cert.AdamOutReferenceIdeal.τ).loc Cert.AdamOutReferenceIdeal.main_arg0)) (m ((c.tc : Thread Cert.AdamOutReferenceIdeal.nD Cert.AdamOutReferenceIdeal.τ).loc Cert.AdamOutReferenceIdeal.main_arg1)) (m ((c.tc : Thread Cert.AdamOutReferenceIdeal.nD Cert.AdamOutReferenceIdeal.τ).loc Cert.AdamOutReferenceIdeal.main_arg4))
      ∧ r.2.mem ((c.tc : Thread Cert.AdamOutReferenceIdeal.nD Cert.AdamOutReferenceIdeal.τ).loc Cert.AdamOutReferenceIdeal.main_arg0) = m ((c.tc : Thread Cert.AdamOutReferenceIdeal.nD Cert.AdamOutReferenceIdeal.τ).loc Cert.AdamOutReferenceIdeal.main_arg0)
      ∧ r.2.mem ((c.tc : Thread Cert.AdamOutReferenceIdeal.nD Cert.AdamOutReferenceIdeal.τ).loc Cert.AdamOutReferenceIdeal.main_arg1) = m ((c.tc : Thread Cert.AdamOutReferenceIdeal.nD Cert.AdamOutReferenceIdeal.τ).loc Cert.AdamOutReferenceIdeal.main_arg1)
      ∧ r.2.mem ((c.tc : Thread Cert.AdamOutReferenceIdeal.nD Cert.AdamOutReferenceIdeal.τ).loc Cert.AdamOutReferenceIdeal.main_arg2) = m ((c.tc : Thread Cert.AdamOutReferenceIdeal.nD Cert.AdamOutReferenceIdeal.τ).loc Cert.AdamOutReferenceIdeal.main_arg2)
      ∧ r.2.mem ((c.tc : Thread Cert.AdamOutReferenceIdeal.nD Cert.AdamOutReferenceIdeal.τ).loc Cert.AdamOutReferenceIdeal.main_arg3) = m ((c.tc : Thread Cert.AdamOutReferenceIdeal.nD Cert.AdamOutReferenceIdeal.τ).loc Cert.AdamOutReferenceIdeal.main_arg3)
      ∧ r.2.mem ((c.tc : Thread Cert.AdamOutReferenceIdeal.nD Cert.AdamOutReferenceIdeal.τ).loc Cert.AdamOutReferenceIdeal.main_arg4) = m ((c.tc : Thread Cert.AdamOutReferenceIdeal.nD Cert.AdamOutReferenceIdeal.τ).loc Cert.AdamOutReferenceIdeal.main_arg4) :=
  (θ_run _ _ _).mono (fun r h c => ⟨(h c).1.trans (Cert.AdamOutReferenceIdeal.Read.val_main_v3_eq ..), (h c).2.1.trans (Cert.AdamOutReferenceIdeal.Read.val_main_v27_eq ..), (h c).2.2.1.trans (Cert.AdamOutReferenceIdeal.Read.val_main_v8_eq ..), (h c).2.2.2.1.trans (Cert.AdamOutReferenceIdeal.Read.val_main_v14_eq ..), (h c).2.2.2.2⟩)
    (Cert.AdamOutReferenceIdeal.Value.run m ρ)

/-- The kernel's run, each result at the reference's stage over the kernel's own arguments, the arguments kept. -/
theorem results (m : (ℓ : Loc Cert.AdamOutKernelIdeal.nD Cert.AdamOutKernelIdeal.τ Cert.AdamOutKernelIdeal.sig) → Buf (Elt Ideal) ℓ) (ρ : Dev Cert.AdamOutKernelIdeal.nD → PrngReg) :
    θ_run (Cert.AdamOutKernelIdeal.defs (F := Ideal)) (onTc (τ := Cert.AdamOutKernelIdeal.τ) (Cert.AdamOutKernelIdeal.main (F := Ideal))) ⟨m, fun _ => 0, ρ⟩ fun r => ∀ c : Dev Cert.AdamOutKernelIdeal.nD,
      r.2.mem ((c.tc : Thread Cert.AdamOutKernelIdeal.nD Cert.AdamOutKernelIdeal.τ).loc Cert.AdamOutKernelIdeal.main_v0_0) = Cert.AdamOutReferenceIdeal.Read.val_main_v3 (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1))
      ∧ r.2.mem ((c.tc : Thread Cert.AdamOutKernelIdeal.nD Cert.AdamOutKernelIdeal.τ).loc Cert.AdamOutKernelIdeal.main_v0_1) = Cert.AdamOutReferenceIdeal.Read.val_main_v27 (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1)) (m ((c.tc : Thread Cert.AdamOutKernelIdeal.nD Cert.AdamOutKernelIdeal.τ).loc Cert.AdamOutKernelIdeal.main_arg2)) (m ((c.tc : Thread Cert.AdamOutKernelIdeal.nD Cert.AdamOutKernelIdeal.τ).loc Cert.AdamOutKernelIdeal.main_arg3)) (m ((c.tc : Thread Cert.AdamOutKernelIdeal.nD Cert.AdamOutKernelIdeal.τ).loc Cert.AdamOutKernelIdeal.main_arg4))
      ∧ r.2.mem ((c.tc : Thread Cert.AdamOutKernelIdeal.nD Cert.AdamOutKernelIdeal.τ).loc Cert.AdamOutKernelIdeal.main_v0_2) = Cert.AdamOutReferenceIdeal.Read.val_main_v8 (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1)) (m ((c.tc : Thread Cert.AdamOutKernelIdeal.nD Cert.AdamOutKernelIdeal.τ).loc Cert.AdamOutKernelIdeal.main_arg3))
      ∧ r.2.mem ((c.tc : Thread Cert.AdamOutKernelIdeal.nD Cert.AdamOutKernelIdeal.τ).loc Cert.AdamOutKernelIdeal.main_v0_3) = Cert.AdamOutReferenceIdeal.Read.val_main_v14 (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1)) (m ((c.tc : Thread Cert.AdamOutKernelIdeal.nD Cert.AdamOutKernelIdeal.τ).loc Cert.AdamOutKernelIdeal.main_arg4))
      ∧ r.2.mem ((c.tc : Thread Cert.AdamOutKernelIdeal.nD Cert.AdamOutKernelIdeal.τ).loc Cert.AdamOutKernelIdeal.main_arg0) = m ((c.tc : Thread Cert.AdamOutKernelIdeal.nD Cert.AdamOutKernelIdeal.τ).loc Cert.AdamOutKernelIdeal.main_arg0)
      ∧ r.2.mem ((c.tc : Thread Cert.AdamOutKernelIdeal.nD Cert.AdamOutKernelIdeal.τ).loc Cert.AdamOutKernelIdeal.main_arg1) = m ((c.tc : Thread Cert.AdamOutKernelIdeal.nD Cert.AdamOutKernelIdeal.τ).loc Cert.AdamOutKernelIdeal.main_arg1)
      ∧ r.2.mem ((c.tc : Thread Cert.AdamOutKernelIdeal.nD Cert.AdamOutKernelIdeal.τ).loc Cert.AdamOutKernelIdeal.main_arg2) = m ((c.tc : Thread Cert.AdamOutKernelIdeal.nD Cert.AdamOutKernelIdeal.τ).loc Cert.AdamOutKernelIdeal.main_arg2)
      ∧ r.2.mem ((c.tc : Thread Cert.AdamOutKernelIdeal.nD Cert.AdamOutKernelIdeal.τ).loc Cert.AdamOutKernelIdeal.main_arg3) = m ((c.tc : Thread Cert.AdamOutKernelIdeal.nD Cert.AdamOutKernelIdeal.τ).loc Cert.AdamOutKernelIdeal.main_arg3)
      ∧ r.2.mem ((c.tc : Thread Cert.AdamOutKernelIdeal.nD Cert.AdamOutKernelIdeal.τ).loc Cert.AdamOutKernelIdeal.main_arg4) = m ((c.tc : Thread Cert.AdamOutKernelIdeal.nD Cert.AdamOutKernelIdeal.τ).loc Cert.AdamOutKernelIdeal.main_arg4) :=
  (θ_run _ _ _).mono (fun r h c => ⟨(h c).1.trans (Cert.AdamOutKernelIdeal.Value.rows5 m c), (h c).2.1.trans (Cert.AdamOutKernelIdeal.Value.rows6 m c), (h c).2.2.1.trans (Cert.AdamOutKernelIdeal.Value.rows7 m c), (h c).2.2.2.1.trans (Cert.AdamOutKernelIdeal.Value.rows8 m c), (h c).2.2.2.2⟩)
    (Cert.AdamOutKernelIdeal.Value.run_blocks m ρ)

theorem algebraic : Cert.algebraic_AdamOutKernelIdeal_AdamOutReferenceIdeal (hAdamOutKernelIdeal := Cert.AdamOutKernelIdeal.Gen.facts) (hAdamOutReferenceIdeal := Cert.AdamOutReferenceIdeal.Gen.facts) := by
  intro m g m' g' _ hagree
  refine ⟨fun c => Cert.AdamOutReferenceIdeal.Read.val_main_v3 (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1)), fun c => Cert.AdamOutReferenceIdeal.Read.val_main_v27 (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1)) (m ((c.tc : Thread Cert.AdamOutKernelIdeal.nD Cert.AdamOutKernelIdeal.τ).loc Cert.AdamOutKernelIdeal.main_arg2)) (m ((c.tc : Thread Cert.AdamOutKernelIdeal.nD Cert.AdamOutKernelIdeal.τ).loc Cert.AdamOutKernelIdeal.main_arg3)) (m ((c.tc : Thread Cert.AdamOutKernelIdeal.nD Cert.AdamOutKernelIdeal.τ).loc Cert.AdamOutKernelIdeal.main_arg4)), fun c => Cert.AdamOutReferenceIdeal.Read.val_main_v8 (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1)) (m ((c.tc : Thread Cert.AdamOutKernelIdeal.nD Cert.AdamOutKernelIdeal.τ).loc Cert.AdamOutKernelIdeal.main_arg3)), fun c => Cert.AdamOutReferenceIdeal.Read.val_main_v14 (F := Ideal) (m ((c.tc : Thread Cert.AdamOutKernelIdeal.nD Cert.AdamOutKernelIdeal.τ).loc Cert.AdamOutKernelIdeal.main_arg0)) (m ((c.tc : Thread Cert.AdamOutKernelIdeal.nD Cert.AdamOutKernelIdeal.τ).loc Cert.AdamOutKernelIdeal.main_arg1)) (m ((c.tc : Thread Cert.AdamOutKernelIdeal.nD Cert.AdamOutKernelIdeal.τ).loc Cert.AdamOutKernelIdeal.main_arg4)), results m g, ?_⟩
  refine (θ_run _ _ _).mono (fun r h c => ?_) (stages m' g')
  obtain ⟨a0, a1, a2, a3, a4⟩ := hagree c
  obtain ⟨h0, h1, h2, h3, hk⟩ := h c
  rw [a0, a1] at h0
  rw [a0, a1, a2, a3, a4] at h1
  rw [a0, a1, a3] at h2
  rw [a0, a1, a4] at h3
  exact ⟨h0, h1, h2, h3, hk⟩

theorem quiet : Cert.quiescent_AdamOutReferenceIdeal (hAdamOutReferenceIdeal := Cert.AdamOutReferenceIdeal.Gen.facts) := fun m ρ _ =>
  (θ_run _ _ _).mono (fun r h => ⟨fun c => (h c).2.2.2.2, sem_eq_zero_of_no_sems (by decide) _⟩) (Cert.AdamOutReferenceIdeal.Value.run m ρ)

end Cert.AdamOutClaims

end
-- ==== Proof.AdamUp.lean ====
/-
  The optimiser's step for the feed-forward block's first weight: each point of the grid adds the received parts of 256 rows' gradient to its
  own and steps the moments and the weight of those rows, and the blocks are the host program's rows there.
-/
module

public import proofs.«01_k».proof.Proof.Gen.AdamUpKernelIdeal.Value
public import proofs.«01_k».proof.Proof.Gen.AdamUpReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamUpKernelIdeal.Value

open Cert.AdamUpKernelIdeal Cert.AdamUpKernelIdeal.Gen

variable (m : (ℓ : Loc nD τ sig) → Buf (Elt Ideal) ℓ)

/-- The block of each window at a point: the point's own rows. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array a row of a point's block is. -/
def row (t : Fin cfg0.N) (x : Fin 256) : Fin 1024 :=
  ⟨t.val * 256 + x.val, by have h : t.val < 4 := lt_of_lt_of_eq t.isLt N_0; have := x.isLt; omega⟩

/-- The gradient at a point, its own part and the three received, is the host program's at its rows. -/
theorem grad (c : Dev nD) (t : Fin cfg0.N) (x : Fin 256) (q : Fin 704) :
    k0_pay5 (iblk m c 0 t) (View.ld (iblk m c 1 t) r0_1) (View.ld (iblk m c 1 t) r0_2) (View.ld (iblk m c 1 t) r0_3) (ix2 x q)
      = Cert.AdamUpReferenceIdeal.Read.val_main_v3 (F := Ideal) (m ((c : Thread nD τ).loc main_arg0)) (m ((c : Thread nD τ).loc main_arg1)) (ix3 0 (row t x) q) := by
  open AdamUpReferenceIdeal.Read in
  pointwise [k0_pay5, val_main_v3, val_main_v2, val_main_v1, val_main_v0, val_main_cst]
  simp only [row, Fin.sum_univ_three, zero_add, add_assoc]
  blk_point [iblk, V, idx t]

theorem own (x0 : Vec Ideal S256x704 .f32) : View.ld x0 r0_0 = x0 := View.ld_unit_lit _ _ (fun a => by fin_cases a <;> rfl)
theorem whole (x : Vec Ideal S1x256x704 .f32) : View.ld x r0_4 = x := View.ld_unit_lit _ _ (fun a => by fin_cases a <;> rfl)

/-- The values a point holds between its two parts, of its whole blocks. -/
theorem held12 (x0 : Vec Ideal S256x704 .f32) (x1 : Vec Ideal S3x256x704 .bf16) (x2 x3 x4 : Vec Ideal S1x256x704 .f32) : k0_pay12 x0 x1 x2 x3 x4 = k0_pay8 x0 (View.ld x1 r0_1) (View.ld x1 r0_2) (View.ld x1 r0_3) x3 := by
  unfold k0_pay12; rw [own, whole]
theorem held13 (x0 : Vec Ideal S256x704 .f32) (x1 : Vec Ideal S3x256x704 .bf16) (x2 x3 x4 : Vec Ideal S1x256x704 .f32) : k0_pay13 x0 x1 x2 x3 x4 = k0_pay9 x4 := by
  unfold k0_pay13; rw [whole]
theorem held14 (x0 : Vec Ideal S256x704 .f32) (x1 : Vec Ideal S3x256x704 .bf16) (x2 x3 x4 : Vec Ideal S1x256x704 .f32) : k0_pay14 x0 x1 x2 x3 x4 = k0_pay10 x0 (View.ld x1 r0_1) (View.ld x1 r0_2) (View.ld x1 r0_3) := by
  unfold k0_pay14; rw [own]
theorem held15 (x0 : Vec Ideal S256x704 .f32) (x1 : Vec Ideal S3x256x704 .bf16) (x2 x3 x4 : Vec Ideal S1x256x704 .f32) : k0_pay15 x0 x1 x2 x3 x4 = k0_pay11 (F := Ideal) := rfl

theorem step5 (c : Dev nD) (t : Fin cfg0.N) (j : S1x256x704.Idx) :
    k0_pay6 (iblk m c 0 t) (View.ld (iblk m c 1 t) r0_1) (View.ld (iblk m c 1 t) r0_2) (View.ld (iblk m c 1 t) r0_3) j
      = Cert.AdamUpReferenceIdeal.Read.val_main_v3 (F := Ideal) (m ((c : Thread nD τ).loc main_arg0)) (m ((c : Thread nD τ).loc main_arg1)) (ix3 0 (row t (j 1)) (j 2)) := by
  idx_vars j
  fin_cases j0
  open AdamUpReferenceIdeal.Read in
  pointwise [k0_pay6]
  exact grad m c t _ _

theorem at5 (t : Fin cfg0.N) (j : S1x256x704.Idx) : ((cfg0.win 5).blk t).view.emb j = ix3 0 (row t (j 1)) (j 2) := by
  idx_vars j
  fin_cases j0
  blk_ext [row, idx t]

/-- The gradient. -/
theorem rows5 (c : Dev nD) : (dats m 0 c).arrAt 5 cfg0.N
    = Cert.AdamUpReferenceIdeal.Read.val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5, at5]
  frame_out
  exact step5 m c t y

theorem step7 (c : Dev nD) (t : Fin cfg0.N) (j : S1x256x704.Idx) :
    k0_pay3 (k0_pay8 (iblk m c 0 t) (View.ld (iblk m c 1 t) r0_1) (View.ld (iblk m c 1 t) r0_2) (View.ld (iblk m c 1 t) r0_3) (iblk m c 3 t)) j
      = Cert.AdamUpReferenceIdeal.Read.val_main_v8 (F := Ideal) (m ((c : Thread nD τ).loc main_arg0)) (m ((c : Thread nD τ).loc main_arg1)) (m ((c : Thread nD τ).loc main_arg3)) (ix3 0 (row t (j 1)) (j 2)) := by
  idx_vars j
  fin_cases j0
  open AdamUpReferenceIdeal.Read in
  pointwise [k0_pay3, k0_pay8, val_main_v4, val_main_cst_0, val_main_v5, val_main_v6, val_main_cst_1, val_main_v7, val_main_v8]
  simp only [grad m c t]
  simp only [row]
  blk_point [iblk, V, idx t]

theorem at7 (t : Fin cfg0.N) (j : S1x256x704.Idx) : ((cfg0.win 7).blk t).view.emb j = ix3 0 (row t (j 1)) (j 2) := by
  idx_vars j
  fin_cases j0
  blk_ext [row, idx t]

/-- The new first moment. -/
theorem rows7 (c : Dev nD) : (dats m 0 c).arrAt 7 cfg0.N
    = Cert.AdamUpReferenceIdeal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7, at7]
  frame_out
  rw [held12]
  exact step7 m c t y

theorem step8 (c : Dev nD) (t : Fin cfg0.N) (j : S1x256x704.Idx) :
    k0_pay4 (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamUpReferenceIdeal.Read.val_main_v14 (F := Ideal) (m ((c : Thread nD τ).loc main_arg0)) (m ((c : Thread nD τ).loc main_arg1)) (m ((c : Thread nD τ).loc main_arg4)) (ix3 0 (row t (j 1)) (j 2)) := by
  idx_vars j
  fin_cases j0
  open AdamUpReferenceIdeal.Read in
  pointwise [k0_pay4, k0_pay9, k0_pay10, k0_pay11, k0_pay1, val_main_v9, val_main_cst_2, val_main_v10, val_main_v11, val_main_cst_3, val_main_v12, val_main_v13, val_main_v14]
  simp only [grad m c t]
  simp only [row]
  blk_point [iblk, V, idx t]

theorem at8 (t : Fin cfg0.N) (j : S1x256x704.Idx) : ((cfg0.win 8).blk t).view.emb j = ix3 0 (row t (j 1)) (j 2) := by
  idx_vars j
  fin_cases j0
  blk_ext [row, idx t]

/-- The new second moment. -/
theorem rows8 (c : Dev nD) : (dats m 0 c).arrAt 8 cfg0.N
    = Cert.AdamUpReferenceIdeal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8, at8]
  frame_out
  rw [held13, held14, held15]
  exact step8 m c t y

theorem step6 (c : Dev nD) (t : Fin cfg0.N) (j : S1x256x704.Idx) :
    k0_pay2 (k0_pay7 (iblk m c 2 t)) (k0_pay8 (iblk m c 0 t) (View.ld (iblk m c 1 t) r0_1) (View.ld (iblk m c 1 t) r0_2) (View.ld (iblk m c 1 t) r0_3) (iblk m c 3 t)) (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamUpReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t (j 1)) (j 2)) := by
  idx_vars j
  fin_cases j0
  open AdamUpReferenceIdeal.Read in
  pointwise [k0_pay2, k0_pay7, k0_pay8, k0_pay9, k0_pay10, k0_pay11, k0_pay1, val_main_v4, val_main_cst_0, val_main_v5, val_main_v6, val_main_cst_1, val_main_v7, val_main_v8, val_main_v9, val_main_cst_2, val_main_v10, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_cst_4, val_main_cst_5, val_main_cst_6, val_main_cst_7, val_main_cst_8]
  simp only [grad m c t]
  simp only [row]
  blk_point [iblk, V, idx t]

theorem at6 (t : Fin cfg0.N) (j : S1x256x704.Idx) : ((cfg0.win 6).blk t).view.emb j = ix3 0 (row t (j 1)) (j 2) := by
  idx_vars j
  fin_cases j0
  blk_ext [row, idx t]

/-- The change of the weight. -/
theorem rows6 (c : Dev nD) : (dats m 0 c).arrAt 6 cfg0.N
    = Cert.AdamUpReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  frame_out
  rw [held12, held13, held14, held15]
  exact step6 m c t y

end Cert.AdamUpKernelIdeal.Value

end
-- ==== Proof.AdamUpClaims.lean ====
/- The equation of the optimiser's step for the feed-forward block's first weight: the kernel's run and the reference's at the same stages, and the claim from the two. -/
module

public import proofs.«01_k».proof.Defs
public import proofs.«01_k».proof.Proof.Gen.AdamUpKernel.Frame
public import proofs.«01_k».proof.Proof.Gen.AdamUpReferenceIdeal.Run
public import proofs.«01_k».proof.Proof.AdamUp
public import Idealize.ShloMosaic.Lib.Quiescent

@[expose] public section

noncomputable section

open Idealize.ShloMosaic Idealize.ShloMosaic.TcCoe Idealize.SL.Sem

namespace Cert.AdamUpClaims

/-- The reference's run, each result at its stage, the arguments kept. -/
theorem stages (m : (ℓ : Loc Cert.AdamUpReferenceIdeal.nD Cert.AdamUpReferenceIdeal.τ Cert.AdamUpReferenceIdeal.sig) → Buf (Elt Ideal) ℓ) (ρ : Dev Cert.AdamUpReferenceIdeal.nD → PrngReg) :
    θ_run (Cert.AdamUpReferenceIdeal.defs (F := Ideal)) (onTc (τ := Cert.AdamUpReferenceIdeal.τ) (Cert.AdamUpReferenceIdeal.main (F := Ideal))) ⟨m, fun _ => 0, ρ⟩ fun r => ∀ c : Dev Cert.AdamUpReferenceIdeal.nD,
      r.2.mem ((c.tc : Thread Cert.AdamUpReferenceIdeal.nD Cert.AdamUpReferenceIdeal.τ).loc Cert.AdamUpReferenceIdeal.main_v3) = Cert.AdamUpReferenceIdeal.Read.val_main_v3 (F := Ideal) (m ((c.tc : Thread Cert.AdamUpReferenceIdeal.nD Cert.AdamUpReferenceIdeal.τ).loc Cert.AdamUpReferenceIdeal.main_arg0)) (m ((c.tc : Thread Cert.AdamUpReferenceIdeal.nD Cert.AdamUpReferenceIdeal.τ).loc Cert.AdamUpReferenceIdeal.main_arg1))
      ∧ r.2.mem ((c.tc : Thread Cert.AdamUpReferenceIdeal.nD Cert.AdamUpReferenceIdeal.τ).loc Cert.AdamUpReferenceIdeal.main_v27) = Cert.AdamUpReferenceIdeal.Read.val_main_v27 (F := Ideal) (m ((c.tc : Thread Cert.AdamUpReferenceIdeal.nD Cert.AdamUpReferenceIdeal.τ).loc Cert.AdamUpReferenceIdeal.main_arg0)) (m ((c.tc : Thread Cert.AdamUpReferenceIdeal.nD Cert.AdamUpReferenceIdeal.τ).loc Cert.AdamUpReferenceIdeal.main_arg1)) (m ((c.tc : Thread Cert.AdamUpReferenceIdeal.nD Cert.AdamUpReferenceIdeal.τ).loc Cert.AdamUpReferenceIdeal.main_arg2)) (m ((c.tc : Thread Cert.AdamUpReferenceIdeal.nD Cert.AdamUpReferenceIdeal.τ).loc Cert.AdamUpReferenceIdeal.main_arg3)) (m ((c.tc : Thread Cert.AdamUpReferenceIdeal.nD Cert.AdamUpReferenceIdeal.τ).loc Cert.AdamUpReferenceIdeal.main_arg4))
      ∧ r.2.mem ((c.tc : Thread Cert.AdamUpReferenceIdeal.nD Cert.AdamUpReferenceIdeal.τ).loc Cert.AdamUpReferenceIdeal.main_v8) = Cert.AdamUpReferenceIdeal.Read.val_main_v8 (F := Ideal) (m ((c.tc : Thread Cert.AdamUpReferenceIdeal.nD Cert.AdamUpReferenceIdeal.τ).loc Cert.AdamUpReferenceIdeal.main_arg0)) (m ((c.tc : Thread Cert.AdamUpReferenceIdeal.nD Cert.AdamUpReferenceIdeal.τ).loc Cert.AdamUpReferenceIdeal.main_arg1)) (m ((c.tc : Thread Cert.AdamUpReferenceIdeal.nD Cert.AdamUpReferenceIdeal.τ).loc Cert.AdamUpReferenceIdeal.main_arg3))
      ∧ r.2.mem ((c.tc : Thread Cert.AdamUpReferenceIdeal.nD Cert.AdamUpReferenceIdeal.τ).loc Cert.AdamUpReferenceIdeal.main_v14) = Cert.AdamUpReferenceIdeal.Read.val_main_v14 (F := Ideal) (m ((c.tc : Thread Cert.AdamUpReferenceIdeal.nD Cert.AdamUpReferenceIdeal.τ).loc Cert.AdamUpReferenceIdeal.main_arg0)) (m ((c.tc : Thread Cert.AdamUpReferenceIdeal.nD Cert.AdamUpReferenceIdeal.τ).loc Cert.AdamUpReferenceIdeal.main_arg1)) (m ((c.tc : Thread Cert.AdamUpReferenceIdeal.nD Cert.AdamUpReferenceIdeal.τ).loc Cert.AdamUpReferenceIdeal.main_arg4))
      ∧ r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3)
      ∧ r.2.mem ((c.tc : Thread Cert.AdamUpReferenceIdeal.nD Cert.AdamUpReferenceIdeal.τ).loc Cert.AdamUpReferenceIdeal.main_arg4) = m ((c.tc : Thread Cert.AdamUpReferenceIdeal.nD Cert.AdamUpReferenceIdeal.τ).loc Cert.AdamUpReferenceIdeal.main_arg4) :=
  (θ_run _ _ _).mono (fun r h c => ⟨(h c).1.trans (Cert.AdamUpReferenceIdeal.Read.val_main_v3_eq ..), (h c).2.1.trans (Cert.AdamUpReferenceIdeal.Read.val_main_v27_eq ..), (h c).2.2.1.trans (Cert.AdamUpReferenceIdeal.Read.val_main_v8_eq ..), (h c).2.2.2.1.trans (Cert.AdamUpReferenceIdeal.Read.val_main_v14_eq ..), (h c).2.2.2.2⟩)
    (Cert.AdamUpReferenceIdeal.Value.run m ρ)

/-- The kernel's run, each result at the reference's stage over the kernel's own arguments, the arguments kept. -/
theorem results (m : (ℓ : Loc Cert.AdamUpKernelIdeal.nD Cert.AdamUpKernelIdeal.τ Cert.AdamUpKernelIdeal.sig) → Buf (Elt Ideal) ℓ) (ρ : Dev Cert.AdamUpKernelIdeal.nD → PrngReg) :
    θ_run (Cert.AdamUpKernelIdeal.defs (F := Ideal)) (onTc (τ := Cert.AdamUpKernelIdeal.τ) (Cert.AdamUpKernelIdeal.main (F := Ideal))) ⟨m, fun _ => 0, ρ⟩ fun r => ∀ c : Dev Cert.AdamUpKernelIdeal.nD,
      r.2.mem ((c.tc : Thread Cert.AdamUpKernelIdeal.nD Cert.AdamUpKernelIdeal.τ).loc Cert.AdamUpKernelIdeal.main_v0_0) = Cert.AdamUpReferenceIdeal.Read.val_main_v3 (F := Ideal) (m ((c.tc : Thread Cert.AdamUpKernelIdeal.nD Cert.AdamUpKernelIdeal.τ).loc Cert.AdamUpKernelIdeal.main_arg0)) (m ((c.tc : Thread Cert.AdamUpKernelIdeal.nD Cert.AdamUpKernelIdeal.τ).loc Cert.AdamUpKernelIdeal.main_arg1))
      ∧ r.2.mem ((c.tc : Thread Cert.AdamUpKernelIdeal.nD Cert.AdamUpKernelIdeal.τ).loc Cert.AdamUpKernelIdeal.main_v0_1) = Cert.AdamUpReferenceIdeal.Read.val_main_v27 (F := Ideal) (m ((c.tc : Thread Cert.AdamUpKernelIdeal.nD Cert.AdamUpKernelIdeal.τ).loc Cert.AdamUpKernelIdeal.main_arg0)) (m ((c.tc : Thread Cert.AdamUpKernelIdeal.nD Cert.AdamUpKernelIdeal.τ).loc Cert.AdamUpKernelIdeal.main_arg1)) (m ((c.tc : Thread Cert.AdamUpKernelIdeal.nD Cert.AdamUpKernelIdeal.τ).loc Cert.AdamUpKernelIdeal.main_arg2)) (m ((c.tc : Thread Cert.AdamUpKernelIdeal.nD Cert.AdamUpKernelIdeal.τ).loc Cert.AdamUpKernelIdeal.main_arg3)) (m ((c.tc : Thread Cert.AdamUpKernelIdeal.nD Cert.AdamUpKernelIdeal.τ).loc Cert.AdamUpKernelIdeal.main_arg4))
      ∧ r.2.mem ((c.tc : Thread Cert.AdamUpKernelIdeal.nD Cert.AdamUpKernelIdeal.τ).loc Cert.AdamUpKernelIdeal.main_v0_2) = Cert.AdamUpReferenceIdeal.Read.val_main_v8 (F := Ideal) (m ((c.tc : Thread Cert.AdamUpKernelIdeal.nD Cert.AdamUpKernelIdeal.τ).loc Cert.AdamUpKernelIdeal.main_arg0)) (m ((c.tc : Thread Cert.AdamUpKernelIdeal.nD Cert.AdamUpKernelIdeal.τ).loc Cert.AdamUpKernelIdeal.main_arg1)) (m ((c.tc : Thread Cert.AdamUpKernelIdeal.nD Cert.AdamUpKernelIdeal.τ).loc Cert.AdamUpKernelIdeal.main_arg3))
      ∧ r.2.mem ((c.tc : Thread Cert.AdamUpKernelIdeal.nD Cert.AdamUpKernelIdeal.τ).loc Cert.AdamUpKernelIdeal.main_v0_3) = Cert.AdamUpReferenceIdeal.Read.val_main_v14 (F := Ideal) (m ((c.tc : Thread Cert.AdamUpKernelIdeal.nD Cert.AdamUpKernelIdeal.τ).loc Cert.AdamUpKernelIdeal.main_arg0)) (m ((c.tc : Thread Cert.AdamUpKernelIdeal.nD Cert.AdamUpKernelIdeal.τ).loc Cert.AdamUpKernelIdeal.main_arg1)) (m ((c.tc : Thread Cert.AdamUpKernelIdeal.nD Cert.AdamUpKernelIdeal.τ).loc Cert.AdamUpKernelIdeal.main_arg4))
      ∧ r.2.mem ((c.tc : Thread Cert.AdamUpKernelIdeal.nD Cert.AdamUpKernelIdeal.τ).loc Cert.AdamUpKernelIdeal.main_arg0) = m ((c.tc : Thread Cert.AdamUpKernelIdeal.nD Cert.AdamUpKernelIdeal.τ).loc Cert.AdamUpKernelIdeal.main_arg0)
      ∧ r.2.mem ((c.tc : Thread Cert.AdamUpKernelIdeal.nD Cert.AdamUpKernelIdeal.τ).loc Cert.AdamUpKernelIdeal.main_arg1) = m ((c.tc : Thread Cert.AdamUpKernelIdeal.nD Cert.AdamUpKernelIdeal.τ).loc Cert.AdamUpKernelIdeal.main_arg1)
      ∧ r.2.mem ((c.tc : Thread Cert.AdamUpKernelIdeal.nD Cert.AdamUpKernelIdeal.τ).loc Cert.AdamUpKernelIdeal.main_arg2) = m ((c.tc : Thread Cert.AdamUpKernelIdeal.nD Cert.AdamUpKernelIdeal.τ).loc Cert.AdamUpKernelIdeal.main_arg2)
      ∧ r.2.mem ((c.tc : Thread Cert.AdamUpKernelIdeal.nD Cert.AdamUpKernelIdeal.τ).loc Cert.AdamUpKernelIdeal.main_arg3) = m ((c.tc : Thread Cert.AdamUpKernelIdeal.nD Cert.AdamUpKernelIdeal.τ).loc Cert.AdamUpKernelIdeal.main_arg3)
      ∧ r.2.mem ((c.tc : Thread Cert.AdamUpKernelIdeal.nD Cert.AdamUpKernelIdeal.τ).loc Cert.AdamUpKernelIdeal.main_arg4) = m ((c.tc : Thread Cert.AdamUpKernelIdeal.nD Cert.AdamUpKernelIdeal.τ).loc Cert.AdamUpKernelIdeal.main_arg4) :=
  (θ_run _ _ _).mono (fun r h c => ⟨(h c).1.trans (Cert.AdamUpKernelIdeal.Value.rows5 m c), (h c).2.1.trans (Cert.AdamUpKernelIdeal.Value.rows6 m c), (h c).2.2.1.trans (Cert.AdamUpKernelIdeal.Value.rows7 m c), (h c).2.2.2.1.trans (Cert.AdamUpKernelIdeal.Value.rows8 m c), (h c).2.2.2.2⟩)
    (Cert.AdamUpKernelIdeal.Value.run_blocks m ρ)

theorem algebraic : Cert.algebraic_AdamUpKernelIdeal_AdamUpReferenceIdeal (hAdamUpKernelIdeal := Cert.AdamUpKernelIdeal.Gen.facts) (hAdamUpReferenceIdeal := Cert.AdamUpReferenceIdeal.Gen.facts) := by
  intro m g m' g' _ hagree
  refine ⟨fun c => Cert.AdamUpReferenceIdeal.Read.val_main_v3 (F := Ideal) (m ((c.tc : Thread Cert.AdamUpKernelIdeal.nD Cert.AdamUpKernelIdeal.τ).loc Cert.AdamUpKernelIdeal.main_arg0)) (m ((c.tc : Thread Cert.AdamUpKernelIdeal.nD Cert.AdamUpKernelIdeal.τ).loc Cert.AdamUpKernelIdeal.main_arg1)), fun c => Cert.AdamUpReferenceIdeal.Read.val_main_v27 (F := Ideal) (m ((c.tc : Thread Cert.AdamUpKernelIdeal.nD Cert.AdamUpKernelIdeal.τ).loc Cert.AdamUpKernelIdeal.main_arg0)) (m ((c.tc : Thread Cert.AdamUpKernelIdeal.nD Cert.AdamUpKernelIdeal.τ).loc Cert.AdamUpKernelIdeal.main_arg1)) (m ((c.tc : Thread Cert.AdamUpKernelIdeal.nD Cert.AdamUpKernelIdeal.τ).loc Cert.AdamUpKernelIdeal.main_arg2)) (m ((c.tc : Thread Cert.AdamUpKernelIdeal.nD Cert.AdamUpKernelIdeal.τ).loc Cert.AdamUpKernelIdeal.main_arg3)) (m ((c.tc : Thread Cert.AdamUpKernelIdeal.nD Cert.AdamUpKernelIdeal.τ).loc Cert.AdamUpKernelIdeal.main_arg4)), fun c => Cert.AdamUpReferenceIdeal.Read.val_main_v8 (F := Ideal) (m ((c.tc : Thread Cert.AdamUpKernelIdeal.nD Cert.AdamUpKernelIdeal.τ).loc Cert.AdamUpKernelIdeal.main_arg0)) (m ((c.tc : Thread Cert.AdamUpKernelIdeal.nD Cert.AdamUpKernelIdeal.τ).loc Cert.AdamUpKernelIdeal.main_arg1)) (m ((c.tc : Thread Cert.AdamUpKernelIdeal.nD Cert.AdamUpKernelIdeal.τ).loc Cert.AdamUpKernelIdeal.main_arg3)), fun c => Cert.AdamUpReferenceIdeal.Read.val_main_v14 (F := Ideal) (m ((c.tc : Thread Cert.AdamUpKernelIdeal.nD Cert.AdamUpKernelIdeal.τ).loc Cert.AdamUpKernelIdeal.main_arg0)) (m ((c.tc : Thread Cert.AdamUpKernelIdeal.nD Cert.AdamUpKernelIdeal.τ).loc Cert.AdamUpKernelIdeal.main_arg1)) (m ((c.tc : Thread Cert.AdamUpKernelIdeal.nD Cert.AdamUpKernelIdeal.τ).loc Cert.AdamUpKernelIdeal.main_arg4)), results m g, ?_⟩
  refine (θ_run _ _ _).mono (fun r h c => ?_) (stages m' g')
  obtain ⟨a0, a1, a2, a3, a4⟩ := hagree c
  obtain ⟨h0, h1, h2, h3, hk⟩ := h c
  rw [a0, a1] at h0
  rw [a0, a1, a2, a3, a4] at h1
  rw [a0, a1, a3] at h2
  rw [a0, a1, a4] at h3
  exact ⟨h0, h1, h2, h3, hk⟩

theorem quiet : Cert.quiescent_AdamUpReferenceIdeal (hAdamUpReferenceIdeal := Cert.AdamUpReferenceIdeal.Gen.facts) := fun m ρ _ =>
  (θ_run _ _ _).mono (fun r h => ⟨fun c => (h c).2.2.2.2, sem_eq_zero_of_no_sems (by decide) _⟩) (Cert.AdamUpReferenceIdeal.Value.run m ρ)

end Cert.AdamUpClaims

end
-- ==== Proof.AdamDown.lean ====
/-
  The optimiser's step for the feed-forward block's last weight: each point of the grid adds the received parts of 176 rows' gradient to its
  own and steps the moments and the weight of those rows, and the blocks are the host program's rows there.
-/
module

public import proofs.«01_k».proof.Proof.Gen.AdamDownKernelIdeal.Value
public import proofs.«01_k».proof.Proof.Gen.AdamDownReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamDownKernelIdeal.Value

open Cert.AdamDownKernelIdeal Cert.AdamDownKernelIdeal.Gen

variable (m : (ℓ : Loc nD τ sig) → Buf (Elt Ideal) ℓ)

/-- The block of each window at a point: the point's own rows. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array a row of a point's block is. -/
def row (t : Fin cfg0.N) (x : Fin 176) : Fin 352 :=
  ⟨t.val * 176 + x.val, by have h : t.val < 2 := lt_of_lt_of_eq t.isLt N_0; have := x.isLt; omega⟩

/-- The gradient at a point, its own part and the three received, is the host program's at its rows. -/
theorem grad (c : Dev nD) (t : Fin cfg0.N) (x : Fin 176) (q : Fin 1024) :
    k0_pay5 (iblk m c 0 t) (View.ld (iblk m c 1 t) r0_1) (View.ld (iblk m c 1 t) r0_2) (View.ld (iblk m c 1 t) r0_3) (ix2 x q)
      = Cert.AdamDownReferenceIdeal.Read.val_main_v3 (F := Ideal) (m ((c : Thread nD τ).loc main_arg0)) (m ((c : Thread nD τ).loc main_arg1)) (ix3 0 (row t x) q) := by
  open AdamDownReferenceIdeal.Read in
  pointwise [k0_pay5, val_main_v3, val_main_v2, val_main_v1, val_main_v0, val_main_cst]
  simp only [row, Fin.sum_univ_three, zero_add, add_assoc]
  blk_point [iblk, V, idx t]

theorem own (x0 : Vec Ideal S176x1024 .f32) : View.ld x0 r0_0 = x0 := View.ld_unit_lit _ _ (fun a => by fin_cases a <;> rfl)
theorem whole (x : Vec Ideal S1x176x1024 .f32) : View.ld x r0_4 = x := View.ld_unit_lit _ _ (fun a => by fin_cases a <;> rfl)

/-- The values a point holds between its two parts, of its whole blocks. -/
theorem held12 (x0 : Vec Ideal S176x1024 .f32) (x1 : Vec Ideal S3x176x1024 .bf16) (x2 x3 x4 : Vec Ideal S1x176x1024 .f32) : k0_pay12 x0 x1 x2 x3 x4 = k0_pay8 x0 (View.ld x1 r0_1) (View.ld x1 r0_2) (View.ld x1 r0_3) x3 := by
  unfold k0_pay12; rw [own, whole]
theorem held13 (x0 : Vec Ideal S176x1024 .f32) (x1 : Vec Ideal S3x176x1024 .bf16) (x2 x3 x4 : Vec Ideal S1x176x1024 .f32) : k0_pay13 x0 x1 x2 x3 x4 = k0_pay9 x4 := by
  unfold k0_pay13; rw [whole]
theorem held14 (x0 : Vec Ideal S176x1024 .f32) (x1 : Vec Ideal S3x176x1024 .bf16) (x2 x3 x4 : Vec Ideal S1x176x1024 .f32) : k0_pay14 x0 x1 x2 x3 x4 = k0_pay10 x0 (View.ld x1 r0_1) (View.ld x1 r0_2) (View.ld x1 r0_3) := by
  unfold k0_pay14; rw [own]
theorem held15 (x0 : Vec Ideal S176x1024 .f32) (x1 : Vec Ideal S3x176x1024 .bf16) (x2 x3 x4 : Vec Ideal S1x176x1024 .f32) : k0_pay15 x0 x1 x2 x3 x4 = k0_pay11 (F := Ideal) := rfl

theorem step5 (c : Dev nD) (t : Fin cfg0.N) (j : S1x176x1024.Idx) :
    k0_pay6 (iblk m c 0 t) (View.ld (iblk m c 1 t) r0_1) (View.ld (iblk m c 1 t) r0_2) (View.ld (iblk m c 1 t) r0_3) j
      = Cert.AdamDownReferenceIdeal.Read.val_main_v3 (F := Ideal) (m ((c : Thread nD τ).loc main_arg0)) (m ((c : Thread nD τ).loc main_arg1)) (ix3 0 (row t (j 1)) (j 2)) := by
  idx_vars j
  fin_cases j0
  open AdamDownReferenceIdeal.Read in
  pointwise [k0_pay6]
  exact grad m c t _ _

theorem at5 (t : Fin cfg0.N) (j : S1x176x1024.Idx) : ((cfg0.win 5).blk t).view.emb j = ix3 0 (row t (j 1)) (j 2) := by
  idx_vars j
  fin_cases j0
  blk_ext [row, idx t]

/-- The gradient. -/
theorem rows5 (c : Dev nD) : (dats m 0 c).arrAt 5 cfg0.N
    = Cert.AdamDownReferenceIdeal.Read.val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5, at5]
  frame_out
  exact step5 m c t y

theorem step7 (c : Dev nD) (t : Fin cfg0.N) (j : S1x176x1024.Idx) :
    k0_pay3 (k0_pay8 (iblk m c 0 t) (View.ld (iblk m c 1 t) r0_1) (View.ld (iblk m c 1 t) r0_2) (View.ld (iblk m c 1 t) r0_3) (iblk m c 3 t)) j
      = Cert.AdamDownReferenceIdeal.Read.val_main_v8 (F := Ideal) (m ((c : Thread nD τ).loc main_arg0)) (m ((c : Thread nD τ).loc main_arg1)) (m ((c : Thread nD τ).loc main_arg3)) (ix3 0 (row t (j 1)) (j 2)) := by
  idx_vars j
  fin_cases j0
  open AdamDownReferenceIdeal.Read in
  pointwise [k0_pay3, k0_pay8, val_main_v4, val_main_cst_0, val_main_v5, val_main_v6, val_main_cst_1, val_main_v7, val_main_v8]
  simp only [grad m c t]
  simp only [row]
  blk_point [iblk, V, idx t]

theorem at7 (t : Fin cfg0.N) (j : S1x176x1024.Idx) : ((cfg0.win 7).blk t).view.emb j = ix3 0 (row t (j 1)) (j 2) := by
  idx_vars j
  fin_cases j0
  blk_ext [row, idx t]

/-- The new first moment. -/
theorem rows7 (c : Dev nD) : (dats m 0 c).arrAt 7 cfg0.N
    = Cert.AdamDownReferenceIdeal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7, at7]
  frame_out
  rw [held12]
  exact step7 m c t y

theorem step8 (c : Dev nD) (t : Fin cfg0.N) (j : S1x176x1024.Idx) :
    k0_pay4 (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamDownReferenceIdeal.Read.val_main_v14 (F := Ideal) (m ((c : Thread nD τ).loc main_arg0)) (m ((c : Thread nD τ).loc main_arg1)) (m ((c : Thread nD τ).loc main_arg4)) (ix3 0 (row t (j 1)) (j 2)) := by
  idx_vars j
  fin_cases j0
  open AdamDownReferenceIdeal.Read in
  pointwise [k0_pay4, k0_pay9, k0_pay10, k0_pay11, k0_pay1, val_main_v9, val_main_cst_2, val_main_v10, val_main_v11, val_main_cst_3, val_main_v12, val_main_v13, val_main_v14]
  simp only [grad m c t]
  simp only [row]
  blk_point [iblk, V, idx t]

theorem at8 (t : Fin cfg0.N) (j : S1x176x1024.Idx) : ((cfg0.win 8).blk t).view.emb j = ix3 0 (row t (j 1)) (j 2) := by
  idx_vars j
  fin_cases j0
  blk_ext [row, idx t]

/-- The new second moment. -/
theorem rows8 (c : Dev nD) : (dats m 0 c).arrAt 8 cfg0.N
    = Cert.AdamDownReferenceIdeal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8, at8]
  frame_out
  rw [held13, held14, held15]
  exact step8 m c t y

theorem step6 (c : Dev nD) (t : Fin cfg0.N) (j : S1x176x1024.Idx) :
    k0_pay2 (k0_pay7 (iblk m c 2 t)) (k0_pay8 (iblk m c 0 t) (View.ld (iblk m c 1 t) r0_1) (View.ld (iblk m c 1 t) r0_2) (View.ld (iblk m c 1 t) r0_3) (iblk m c 3 t)) (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamDownReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t (j 1)) (j 2)) := by
  idx_vars j
  fin_cases j0
  open AdamDownReferenceIdeal.Read in
  pointwise [k0_pay2, k0_pay7, k0_pay8, k0_pay9, k0_pay10, k0_pay11, k0_pay1, val_main_v4, val_main_cst_0, val_main_v5, val_main_v6, val_main_cst_1, val_main_v7, val_main_v8, val_main_v9, val_main_cst_2, val_main_v10, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_cst_4, val_main_cst_5, val_main_cst_6, val_main_cst_7, val_main_cst_8]
  simp only [grad m c t]
  simp only [row]
  blk_point [iblk, V, idx t]

theorem at6 (t : Fin cfg0.N) (j : S1x176x1024.Idx) : ((cfg0.win 6).blk t).view.emb j = ix3 0 (row t (j 1)) (j 2) := by
  idx_vars j
  fin_cases j0
  blk_ext [row, idx t]

/-- The change of the weight. -/
theorem rows6 (c : Dev nD) : (dats m 0 c).arrAt 6 cfg0.N
    = Cert.AdamDownReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  frame_out
  rw [held12, held13, held14, held15]
  exact step6 m c t y

end Cert.AdamDownKernelIdeal.Value

end
-- ==== Proof.AdamDownClaims.lean ====
/- The equation of the optimiser's step for the feed-forward block's last weight: the kernel's run and the reference's at the same stages, and the claim from the two. -/
module

public import proofs.«01_k».proof.Defs
public import proofs.«01_k».proof.Proof.Gen.AdamDownKernel.Frame
public import proofs.«01_k».proof.Proof.Gen.AdamDownReferenceIdeal.Run
public import proofs.«01_k».proof.Proof.AdamDown
public import Idealize.ShloMosaic.Lib.Quiescent

@[expose] public section

noncomputable section

open Idealize.ShloMosaic Idealize.ShloMosaic.TcCoe Idealize.SL.Sem

namespace Cert.AdamDownClaims

/-- The reference's run, each result at its stage, the arguments kept. -/
theorem stages (m : (ℓ : Loc Cert.AdamDownReferenceIdeal.nD Cert.AdamDownReferenceIdeal.τ Cert.AdamDownReferenceIdeal.sig) → Buf (Elt Ideal) ℓ) (ρ : Dev Cert.AdamDownReferenceIdeal.nD → PrngReg) :
    θ_run (Cert.AdamDownReferenceIdeal.defs (F := Ideal)) (onTc (τ := Cert.AdamDownReferenceIdeal.τ) (Cert.AdamDownReferenceIdeal.main (F := Ideal))) ⟨m, fun _ => 0, ρ⟩ fun r => ∀ c : Dev Cert.AdamDownReferenceIdeal.nD,
      r.2.mem ((c.tc : Thread Cert.AdamDownReferenceIdeal.nD Cert.AdamDownReferenceIdeal.τ).loc Cert.AdamDownReferenceIdeal.main_v3) = Cert.AdamDownReferenceIdeal.Read.val_main_v3 (F := Ideal) (m ((c.tc : Thread Cert.AdamDownReferenceIdeal.nD Cert.AdamDownReferenceIdeal.τ).loc Cert.AdamDownReferenceIdeal.main_arg0)) (m ((c.tc : Thread Cert.AdamDownReferenceIdeal.nD Cert.AdamDownReferenceIdeal.τ).loc Cert.AdamDownReferenceIdeal.main_arg1))
      ∧ r.2.mem ((c.tc : Thread Cert.AdamDownReferenceIdeal.nD Cert.AdamDownReferenceIdeal.τ).loc Cert.AdamDownReferenceIdeal.main_v27) = Cert.AdamDownReferenceIdeal.Read.val_main_v27 (F := Ideal) (m ((c.tc : Thread Cert.AdamDownReferenceIdeal.nD Cert.AdamDownReferenceIdeal.τ).loc Cert.AdamDownReferenceIdeal.main_arg0)) (m ((c.tc : Thread Cert.AdamDownReferenceIdeal.nD Cert.AdamDownReferenceIdeal.τ).loc Cert.AdamDownReferenceIdeal.main_arg1)) (m ((c.tc : Thread Cert.AdamDownReferenceIdeal.nD Cert.AdamDownReferenceIdeal.τ).loc Cert.AdamDownReferenceIdeal.main_arg2)) (m ((c.tc : Thread Cert.AdamDownReferenceIdeal.nD Cert.AdamDownReferenceIdeal.τ).loc Cert.AdamDownReferenceIdeal.main_arg3)) (m ((c.tc : Thread Cert.AdamDownReferenceIdeal.nD Cert.AdamDownReferenceIdeal.τ).loc Cert.AdamDownReferenceIdeal.main_arg4))
      ∧ r.2.mem ((c.tc : Thread Cert.AdamDownReferenceIdeal.nD Cert.AdamDownReferenceIdeal.τ).loc Cert.AdamDownReferenceIdeal.main_v8) = Cert.AdamDownReferenceIdeal.Read.val_main_v8 (F := Ideal) (m ((c.tc : Thread Cert.AdamDownReferenceIdeal.nD Cert.AdamDownReferenceIdeal.τ).loc Cert.AdamDownReferenceIdeal.main_arg0)) (m ((c.tc : Thread Cert.AdamDownReferenceIdeal.nD Cert.AdamDownReferenceIdeal.τ).loc Cert.AdamDownReferenceIdeal.main_arg1)) (m ((c.tc : Thread Cert.AdamDownReferenceIdeal.nD Cert.AdamDownReferenceIdeal.τ).loc Cert.AdamDownReferenceIdeal.main_arg3))
      ∧ r.2.mem ((c.tc : Thread Cert.AdamDownReferenceIdeal.nD Cert.AdamDownReferenceIdeal.τ).loc Cert.AdamDownReferenceIdeal.main_v14) = Cert.AdamDownReferenceIdeal.Read.val_main_v14 (F := Ideal) (m ((c.tc : Thread Cert.AdamDownReferenceIdeal.nD Cert.AdamDownReferenceIdeal.τ).loc Cert.AdamDownReferenceIdeal.main_arg0)) (m ((c.tc : Thread Cert.AdamDownReferenceIdeal.nD Cert.AdamDownReferenceIdeal.τ).loc Cert.AdamDownReferenceIdeal.main_arg1)) (m ((c.tc : Thread Cert.AdamDownReferenceIdeal.nD Cert.AdamDownReferenceIdeal.τ).loc Cert.AdamDownReferenceIdeal.main_arg4))
      ∧ r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4) :=
  (θ_run _ _ _).mono (fun r h c => ⟨(h c).1.trans (Cert.AdamDownReferenceIdeal.Read.val_main_v3_eq ..), (h c).2.1.trans (Cert.AdamDownReferenceIdeal.Read.val_main_v27_eq ..), (h c).2.2.1.trans (Cert.AdamDownReferenceIdeal.Read.val_main_v8_eq ..), (h c).2.2.2.1.trans (Cert.AdamDownReferenceIdeal.Read.val_main_v14_eq ..), (h c).2.2.2.2⟩)
    (Cert.AdamDownReferenceIdeal.Value.run m ρ)

/-- The kernel's run, each result at the reference's stage over the kernel's own arguments, the arguments kept. -/
theorem results (m : (ℓ : Loc Cert.AdamDownKernelIdeal.nD Cert.AdamDownKernelIdeal.τ Cert.AdamDownKernelIdeal.sig) → Buf (Elt Ideal) ℓ) (ρ : Dev Cert.AdamDownKernelIdeal.nD → PrngReg) :
    θ_run (Cert.AdamDownKernelIdeal.defs (F := Ideal)) (onTc (τ := Cert.AdamDownKernelIdeal.τ) (Cert.AdamDownKernelIdeal.main (F := Ideal))) ⟨m, fun _ => 0, ρ⟩ fun r => ∀ c : Dev Cert.AdamDownKernelIdeal.nD,
      r.2.mem ((c.tc : Thread Cert.AdamDownKernelIdeal.nD Cert.AdamDownKernelIdeal.τ).loc Cert.AdamDownKernelIdeal.main_v0_0) = Cert.AdamDownReferenceIdeal.Read.val_main_v3 (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1))
      ∧ r.2.mem ((c.tc : Thread Cert.AdamDownKernelIdeal.nD Cert.AdamDownKernelIdeal.τ).loc Cert.AdamDownKernelIdeal.main_v0_1) = Cert.AdamDownReferenceIdeal.Read.val_main_v27 (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1)) (m ((c.tc : Thread Cert.AdamDownKernelIdeal.nD Cert.AdamDownKernelIdeal.τ).loc Cert.AdamDownKernelIdeal.main_arg2)) (m ((c.tc : Thread Cert.AdamDownKernelIdeal.nD Cert.AdamDownKernelIdeal.τ).loc Cert.AdamDownKernelIdeal.main_arg3)) (m ((c.tc : Thread Cert.AdamDownKernelIdeal.nD Cert.AdamDownKernelIdeal.τ).loc Cert.AdamDownKernelIdeal.main_arg4))
      ∧ r.2.mem ((c.tc : Thread Cert.AdamDownKernelIdeal.nD Cert.AdamDownKernelIdeal.τ).loc Cert.AdamDownKernelIdeal.main_v0_2) = Cert.AdamDownReferenceIdeal.Read.val_main_v8 (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1)) (m ((c.tc : Thread Cert.AdamDownKernelIdeal.nD Cert.AdamDownKernelIdeal.τ).loc Cert.AdamDownKernelIdeal.main_arg3))
      ∧ r.2.mem ((c.tc : Thread Cert.AdamDownKernelIdeal.nD Cert.AdamDownKernelIdeal.τ).loc Cert.AdamDownKernelIdeal.main_v0_3) = Cert.AdamDownReferenceIdeal.Read.val_main_v14 (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1)) (m ((c.tc : Thread Cert.AdamDownKernelIdeal.nD Cert.AdamDownKernelIdeal.τ).loc Cert.AdamDownKernelIdeal.main_arg4))
      ∧ r.2.mem ((c.tc : Thread Cert.AdamDownKernelIdeal.nD Cert.AdamDownKernelIdeal.τ).loc Cert.AdamDownKernelIdeal.main_arg0) = m ((c.tc : Thread Cert.AdamDownKernelIdeal.nD Cert.AdamDownKernelIdeal.τ).loc Cert.AdamDownKernelIdeal.main_arg0)
      ∧ r.2.mem ((c.tc : Thread Cert.AdamDownKernelIdeal.nD Cert.AdamDownKernelIdeal.τ).loc Cert.AdamDownKernelIdeal.main_arg1) = m ((c.tc : Thread Cert.AdamDownKernelIdeal.nD Cert.AdamDownKernelIdeal.τ).loc Cert.AdamDownKernelIdeal.main_arg1)
      ∧ r.2.mem ((c.tc : Thread Cert.AdamDownKernelIdeal.nD Cert.AdamDownKernelIdeal.τ).loc Cert.AdamDownKernelIdeal.main_arg2) = m ((c.tc : Thread Cert.AdamDownKernelIdeal.nD Cert.AdamDownKernelIdeal.τ).loc Cert.AdamDownKernelIdeal.main_arg2)
      ∧ r.2.mem ((c.tc : Thread Cert.AdamDownKernelIdeal.nD Cert.AdamDownKernelIdeal.τ).loc Cert.AdamDownKernelIdeal.main_arg3) = m ((c.tc : Thread Cert.AdamDownKernelIdeal.nD Cert.AdamDownKernelIdeal.τ).loc Cert.AdamDownKernelIdeal.main_arg3)
      ∧ r.2.mem ((c.tc : Thread Cert.AdamDownKernelIdeal.nD Cert.AdamDownKernelIdeal.τ).loc Cert.AdamDownKernelIdeal.main_arg4) = m ((c.tc : Thread Cert.AdamDownKernelIdeal.nD Cert.AdamDownKernelIdeal.τ).loc Cert.AdamDownKernelIdeal.main_arg4) :=
  (θ_run _ _ _).mono (fun r h c => ⟨(h c).1.trans (Cert.AdamDownKernelIdeal.Value.rows5 m c), (h c).2.1.trans (Cert.AdamDownKernelIdeal.Value.rows6 m c), (h c).2.2.1.trans (Cert.AdamDownKernelIdeal.Value.rows7 m c), (h c).2.2.2.1.trans (Cert.AdamDownKernelIdeal.Value.rows8 m c), (h c).2.2.2.2⟩)
    (Cert.AdamDownKernelIdeal.Value.run_blocks m ρ)

theorem algebraic : Cert.algebraic_AdamDownKernelIdeal_AdamDownReferenceIdeal (hAdamDownKernelIdeal := Cert.AdamDownKernelIdeal.Gen.facts) (hAdamDownReferenceIdeal := Cert.AdamDownReferenceIdeal.Gen.facts) := by
  intro m g m' g' _ hagree
  refine ⟨fun c => Cert.AdamDownReferenceIdeal.Read.val_main_v3 (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1)), fun c => Cert.AdamDownReferenceIdeal.Read.val_main_v27 (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1)) (m ((c.tc : Thread Cert.AdamDownKernelIdeal.nD Cert.AdamDownKernelIdeal.τ).loc Cert.AdamDownKernelIdeal.main_arg2)) (m ((c.tc : Thread Cert.AdamDownKernelIdeal.nD Cert.AdamDownKernelIdeal.τ).loc Cert.AdamDownKernelIdeal.main_arg3)) (m ((c.tc : Thread Cert.AdamDownKernelIdeal.nD Cert.AdamDownKernelIdeal.τ).loc Cert.AdamDownKernelIdeal.main_arg4)), fun c => Cert.AdamDownReferenceIdeal.Read.val_main_v8 (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1)) (m ((c.tc : Thread Cert.AdamDownKernelIdeal.nD Cert.AdamDownKernelIdeal.τ).loc Cert.AdamDownKernelIdeal.main_arg3)), fun c => Cert.AdamDownReferenceIdeal.Read.val_main_v14 (F := Ideal) (m ((c.tc : Thread Cert.AdamDownKernelIdeal.nD Cert.AdamDownKernelIdeal.τ).loc Cert.AdamDownKernelIdeal.main_arg0)) (m ((c.tc : Thread Cert.AdamDownKernelIdeal.nD Cert.AdamDownKernelIdeal.τ).loc Cert.AdamDownKernelIdeal.main_arg1)) (m ((c.tc : Thread Cert.AdamDownKernelIdeal.nD Cert.AdamDownKernelIdeal.τ).loc Cert.AdamDownKernelIdeal.main_arg4)), results m g, ?_⟩
  refine (θ_run _ _ _).mono (fun r h c => ?_) (stages m' g')
  obtain ⟨a0, a1, a2, a3, a4⟩ := hagree c
  obtain ⟨h0, h1, h2, h3, hk⟩ := h c
  rw [a0, a1] at h0
  rw [a0, a1, a2, a3, a4] at h1
  rw [a0, a1, a3] at h2
  rw [a0, a1, a4] at h3
  exact ⟨h0, h1, h2, h3, hk⟩

theorem quiet : Cert.quiescent_AdamDownReferenceIdeal (hAdamDownReferenceIdeal := Cert.AdamDownReferenceIdeal.Gen.facts) := fun m ρ _ =>
  (θ_run _ _ _).mono (fun r h => ⟨fun c => (h c).2.2.2.2, sem_eq_zero_of_no_sems (by decide) _⟩) (Cert.AdamDownReferenceIdeal.Value.run m ρ)

end Cert.AdamDownClaims

end
-- ==== Proof.AdamProj.lean ====
/-
  The optimiser's step for the layer embedding's projection weight: each point of the grid adds the received parts of 256 rows' gradient to its
  own and steps the moments and the weight of those rows, and the blocks are the host program's rows there.
-/
module

public import proofs.«01_k».proof.Proof.Gen.AdamProjKernelIdeal.Value
public import proofs.«01_k».proof.Proof.Gen.AdamProjReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamProjKernelIdeal.Value

open Cert.AdamProjKernelIdeal Cert.AdamProjKernelIdeal.Gen

variable (m : (ℓ : Loc nD τ sig) → Buf (Elt Ideal) ℓ)

/-- The block of each window at a point: the point's own rows. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array a row of a point's block is. -/
def row (t : Fin cfg0.N) (x : Fin 256) : Fin 256 :=
  ⟨t.val * 256 + x.val, by have h : t.val < 1 := lt_of_lt_of_eq t.isLt N_0; have := x.isLt; omega⟩

/-- The gradient at a point, its own part and the three received, is the host program's at its rows. -/
theorem grad (c : Dev nD) (t : Fin cfg0.N) (x : Fin 256) (q : Fin 128) :
    k0_pay5 (iblk m c 0 t) (View.ld (iblk m c 1 t) r0_1) (View.ld (iblk m c 1 t) r0_2) (View.ld (iblk m c 1 t) r0_3) (ix2 x q)
      = Cert.AdamProjReferenceIdeal.Read.val_main_v3 (F := Ideal) (m ((c : Thread nD τ).loc main_arg0)) (m ((c : Thread nD τ).loc main_arg1)) (ix3 0 (row t x) q) := by
  open AdamProjReferenceIdeal.Read in
  pointwise [k0_pay5, val_main_v3, val_main_v2, val_main_v1, val_main_v0, val_main_cst]
  simp only [row, Fin.sum_univ_three, zero_add, add_assoc]
  blk_point [iblk, V, idx t]

theorem own (x0 : Vec Ideal S256x128 .f32) : View.ld x0 r0_0 = x0 := View.ld_unit_lit _ _ (fun a => by fin_cases a <;> rfl)
theorem whole (x : Vec Ideal S1x256x128 .f32) : View.ld x r0_4 = x := View.ld_unit_lit _ _ (fun a => by fin_cases a <;> rfl)

/-- The values a point holds between its two parts, of its whole blocks. -/
theorem held12 (x0 : Vec Ideal S256x128 .f32) (x1 : Vec Ideal S3x256x128 .bf16) (x2 x3 x4 : Vec Ideal S1x256x128 .f32) : k0_pay12 x0 x1 x2 x3 x4 = k0_pay8 x0 (View.ld x1 r0_1) (View.ld x1 r0_2) (View.ld x1 r0_3) x3 := by
  unfold k0_pay12; rw [own, whole]
theorem held13 (x0 : Vec Ideal S256x128 .f32) (x1 : Vec Ideal S3x256x128 .bf16) (x2 x3 x4 : Vec Ideal S1x256x128 .f32) : k0_pay13 x0 x1 x2 x3 x4 = k0_pay9 x4 := by
  unfold k0_pay13; rw [whole]
theorem held14 (x0 : Vec Ideal S256x128 .f32) (x1 : Vec Ideal S3x256x128 .bf16) (x2 x3 x4 : Vec Ideal S1x256x128 .f32) : k0_pay14 x0 x1 x2 x3 x4 = k0_pay10 x0 (View.ld x1 r0_1) (View.ld x1 r0_2) (View.ld x1 r0_3) := by
  unfold k0_pay14; rw [own]
theorem held15 (x0 : Vec Ideal S256x128 .f32) (x1 : Vec Ideal S3x256x128 .bf16) (x2 x3 x4 : Vec Ideal S1x256x128 .f32) : k0_pay15 x0 x1 x2 x3 x4 = k0_pay11 (F := Ideal) := rfl

theorem step5 (c : Dev nD) (t : Fin cfg0.N) (j : S1x256x128.Idx) :
    k0_pay6 (iblk m c 0 t) (View.ld (iblk m c 1 t) r0_1) (View.ld (iblk m c 1 t) r0_2) (View.ld (iblk m c 1 t) r0_3) j
      = Cert.AdamProjReferenceIdeal.Read.val_main_v3 (F := Ideal) (m ((c : Thread nD τ).loc main_arg0)) (m ((c : Thread nD τ).loc main_arg1)) (ix3 0 (row t (j 1)) (j 2)) := by
  idx_vars j
  fin_cases j0
  open AdamProjReferenceIdeal.Read in
  pointwise [k0_pay6]
  exact grad m c t _ _

theorem at5 (t : Fin cfg0.N) (j : S1x256x128.Idx) : ((cfg0.win 5).blk t).view.emb j = ix3 0 (row t (j 1)) (j 2) := by
  idx_vars j
  fin_cases j0
  blk_ext [row, idx t]

/-- The gradient. -/
theorem rows5 (c : Dev nD) : (dats m 0 c).arrAt 5 cfg0.N
    = Cert.AdamProjReferenceIdeal.Read.val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5, at5]
  frame_out
  exact step5 m c t y

theorem step7 (c : Dev nD) (t : Fin cfg0.N) (j : S1x256x128.Idx) :
    k0_pay3 (k0_pay8 (iblk m c 0 t) (View.ld (iblk m c 1 t) r0_1) (View.ld (iblk m c 1 t) r0_2) (View.ld (iblk m c 1 t) r0_3) (iblk m c 3 t)) j
      = Cert.AdamProjReferenceIdeal.Read.val_main_v8 (F := Ideal) (m ((c : Thread nD τ).loc main_arg0)) (m ((c : Thread nD τ).loc main_arg1)) (m ((c : Thread nD τ).loc main_arg3)) (ix3 0 (row t (j 1)) (j 2)) := by
  idx_vars j
  fin_cases j0
  open AdamProjReferenceIdeal.Read in
  pointwise [k0_pay3, k0_pay8, val_main_v4, val_main_cst_0, val_main_v5, val_main_v6, val_main_cst_1, val_main_v7, val_main_v8]
  simp only [grad m c t]
  simp only [row]
  blk_point [iblk, V, idx t]

theorem at7 (t : Fin cfg0.N) (j : S1x256x128.Idx) : ((cfg0.win 7).blk t).view.emb j = ix3 0 (row t (j 1)) (j 2) := by
  idx_vars j
  fin_cases j0
  blk_ext [row, idx t]

/-- The new first moment. -/
theorem rows7 (c : Dev nD) : (dats m 0 c).arrAt 7 cfg0.N
    = Cert.AdamProjReferenceIdeal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7, at7]
  frame_out
  rw [held12]
  exact step7 m c t y

theorem step8 (c : Dev nD) (t : Fin cfg0.N) (j : S1x256x128.Idx) :
    k0_pay4 (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamProjReferenceIdeal.Read.val_main_v14 (F := Ideal) (m ((c : Thread nD τ).loc main_arg0)) (m ((c : Thread nD τ).loc main_arg1)) (m ((c : Thread nD τ).loc main_arg4)) (ix3 0 (row t (j 1)) (j 2)) := by
  idx_vars j
  fin_cases j0
  open AdamProjReferenceIdeal.Read in
  pointwise [k0_pay4, k0_pay9, k0_pay10, k0_pay11, k0_pay1, val_main_v9, val_main_cst_2, val_main_v10, val_main_v11, val_main_cst_3, val_main_v12, val_main_v13, val_main_v14]
  simp only [grad m c t]
  simp only [row]
  blk_point [iblk, V, idx t]

theorem at8 (t : Fin cfg0.N) (j : S1x256x128.Idx) : ((cfg0.win 8).blk t).view.emb j = ix3 0 (row t (j 1)) (j 2) := by
  idx_vars j
  fin_cases j0
  blk_ext [row, idx t]

/-- The new second moment. -/
theorem rows8 (c : Dev nD) : (dats m 0 c).arrAt 8 cfg0.N
    = Cert.AdamProjReferenceIdeal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8, at8]
  frame_out
  rw [held13, held14, held15]
  exact step8 m c t y

theorem step6 (c : Dev nD) (t : Fin cfg0.N) (j : S1x256x128.Idx) :
    k0_pay2 (k0_pay7 (iblk m c 2 t)) (k0_pay8 (iblk m c 0 t) (View.ld (iblk m c 1 t) r0_1) (View.ld (iblk m c 1 t) r0_2) (View.ld (iblk m c 1 t) r0_3) (iblk m c 3 t)) (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamProjReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t (j 1)) (j 2)) := by
  idx_vars j
  fin_cases j0
  open AdamProjReferenceIdeal.Read in
  pointwise [k0_pay2, k0_pay7, k0_pay8, k0_pay9, k0_pay10, k0_pay11, k0_pay1, val_main_v4, val_main_cst_0, val_main_v5, val_main_v6, val_main_cst_1, val_main_v7, val_main_v8, val_main_v9, val_main_cst_2, val_main_v10, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_cst_4, val_main_cst_5, val_main_cst_6, val_main_cst_7, val_main_cst_8]
  simp only [grad m c t]
  simp only [row]
  blk_point [iblk, V, idx t]

theorem at6 (t : Fin cfg0.N) (j : S1x256x128.Idx) : ((cfg0.win 6).blk t).view.emb j = ix3 0 (row t (j 1)) (j 2) := by
  idx_vars j
  fin_cases j0
  blk_ext [row, idx t]

/-- The change of the weight. -/
theorem rows6 (c : Dev nD) : (dats m 0 c).arrAt 6 cfg0.N
    = Cert.AdamProjReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  frame_out
  rw [held12, held13, held14, held15]
  exact step6 m c t y

end Cert.AdamProjKernelIdeal.Value

end
-- ==== Proof.AdamProjClaims.lean ====
/- The equation of the optimiser's step for the layer embedding's projection weight: the kernel's run and the reference's at the same stages, and the claim from the two. -/
module

public import proofs.«01_k».proof.Defs
public import proofs.«01_k».proof.Proof.Gen.AdamProjKernel.Frame
public import proofs.«01_k».proof.Proof.Gen.AdamProjReferenceIdeal.Run
public import proofs.«01_k».proof.Proof.AdamProj
public import Idealize.ShloMosaic.Lib.Quiescent

@[expose] public section

noncomputable section

open Idealize.ShloMosaic Idealize.ShloMosaic.TcCoe Idealize.SL.Sem

namespace Cert.AdamProjClaims

/-- The reference's run, each result at its stage, the arguments kept. -/
theorem stages (m : (ℓ : Loc Cert.AdamProjReferenceIdeal.nD Cert.AdamProjReferenceIdeal.τ Cert.AdamProjReferenceIdeal.sig) → Buf (Elt Ideal) ℓ) (ρ : Dev Cert.AdamProjReferenceIdeal.nD → PrngReg) :
    θ_run (Cert.AdamProjReferenceIdeal.defs (F := Ideal)) (onTc (τ := Cert.AdamProjReferenceIdeal.τ) (Cert.AdamProjReferenceIdeal.main (F := Ideal))) ⟨m, fun _ => 0, ρ⟩ fun r => ∀ c : Dev Cert.AdamProjReferenceIdeal.nD,
      r.2.mem ((c.tc : Thread Cert.AdamProjReferenceIdeal.nD Cert.AdamProjReferenceIdeal.τ).loc Cert.AdamProjReferenceIdeal.main_v3) = Cert.AdamProjReferenceIdeal.Read.val_main_v3 (F := Ideal) (m ((c.tc : Thread Cert.AdamProjReferenceIdeal.nD Cert.AdamProjReferenceIdeal.τ).loc Cert.AdamProjReferenceIdeal.main_arg0)) (m ((c.tc : Thread Cert.AdamProjReferenceIdeal.nD Cert.AdamProjReferenceIdeal.τ).loc Cert.AdamProjReferenceIdeal.main_arg1))
      ∧ r.2.mem ((c.tc : Thread Cert.AdamProjReferenceIdeal.nD Cert.AdamProjReferenceIdeal.τ).loc Cert.AdamProjReferenceIdeal.main_v27) = Cert.AdamProjReferenceIdeal.Read.val_main_v27 (F := Ideal) (m ((c.tc : Thread Cert.AdamProjReferenceIdeal.nD Cert.AdamProjReferenceIdeal.τ).loc Cert.AdamProjReferenceIdeal.main_arg0)) (m ((c.tc : Thread Cert.AdamProjReferenceIdeal.nD Cert.AdamProjReferenceIdeal.τ).loc Cert.AdamProjReferenceIdeal.main_arg1)) (m ((c.tc : Thread Cert.AdamProjReferenceIdeal.nD Cert.AdamProjReferenceIdeal.τ).loc Cert.AdamProjReferenceIdeal.main_arg2)) (m ((c.tc : Thread Cert.AdamProjReferenceIdeal.nD Cert.AdamProjReferenceIdeal.τ).loc Cert.AdamProjReferenceIdeal.main_arg3)) (m ((c.tc : Thread Cert.AdamProjReferenceIdeal.nD Cert.AdamProjReferenceIdeal.τ).loc Cert.AdamProjReferenceIdeal.main_arg4))
      ∧ r.2.mem ((c.tc : Thread Cert.AdamProjReferenceIdeal.nD Cert.AdamProjReferenceIdeal.τ).loc Cert.AdamProjReferenceIdeal.main_v8) = Cert.AdamProjReferenceIdeal.Read.val_main_v8 (F := Ideal) (m ((c.tc : Thread Cert.AdamProjReferenceIdeal.nD Cert.AdamProjReferenceIdeal.τ).loc Cert.AdamProjReferenceIdeal.main_arg0)) (m ((c.tc : Thread Cert.AdamProjReferenceIdeal.nD Cert.AdamProjReferenceIdeal.τ).loc Cert.AdamProjReferenceIdeal.main_arg1)) (m ((c.tc : Thread Cert.AdamProjReferenceIdeal.nD Cert.AdamProjReferenceIdeal.τ).loc Cert.AdamProjReferenceIdeal.main_arg3))
      ∧ r.2.mem ((c.tc : Thread Cert.AdamProjReferenceIdeal.nD Cert.AdamProjReferenceIdeal.τ).loc Cert.AdamProjReferenceIdeal.main_v14) = Cert.AdamProjReferenceIdeal.Read.val_main_v14 (F := Ideal) (m ((c.tc : Thread Cert.AdamProjReferenceIdeal.nD Cert.AdamProjReferenceIdeal.τ).loc Cert.AdamProjReferenceIdeal.main_arg0)) (m ((c.tc : Thread Cert.AdamProjReferenceIdeal.nD Cert.AdamProjReferenceIdeal.τ).loc Cert.AdamProjReferenceIdeal.main_arg1)) (m ((c.tc : Thread Cert.AdamProjReferenceIdeal.nD Cert.AdamProjReferenceIdeal.τ).loc Cert.AdamProjReferenceIdeal.main_arg4))
      ∧ r.2.mem ((c.tc : Thread Cert.AdamProjReferenceIdeal.nD Cert.AdamProjReferenceIdeal.τ).loc Cert.AdamProjReferenceIdeal.main_arg0) = m ((c.tc : Thread Cert.AdamProjReferenceIdeal.nD Cert.AdamProjReferenceIdeal.τ).loc Cert.AdamProjReferenceIdeal.main_arg0)
      ∧ r.2.mem ((c.tc : Thread Cert.AdamProjReferenceIdeal.nD Cert.AdamProjReferenceIdeal.τ).loc Cert.AdamProjReferenceIdeal.main_arg1) = m ((c.tc : Thread Cert.AdamProjReferenceIdeal.nD Cert.AdamProjReferenceIdeal.τ).loc Cert.AdamProjReferenceIdeal.main_arg1)
      ∧ r.2.mem ((c.tc : Thread Cert.AdamProjReferenceIdeal.nD Cert.AdamProjReferenceIdeal.τ).loc Cert.AdamProjReferenceIdeal.main_arg2) = m ((c.tc : Thread Cert.AdamProjReferenceIdeal.nD Cert.AdamProjReferenceIdeal.τ).loc Cert.AdamProjReferenceIdeal.main_arg2)
      ∧ r.2.mem ((c.tc : Thread Cert.AdamProjReferenceIdeal.nD Cert.AdamProjReferenceIdeal.τ).loc Cert.AdamProjReferenceIdeal.main_arg3) = m ((c.tc : Thread Cert.AdamProjReferenceIdeal.nD Cert.AdamProjReferenceIdeal.τ).loc Cert.AdamProjReferenceIdeal.main_arg3)
      ∧ r.2.mem ((c.tc : Thread Cert.AdamProjReferenceIdeal.nD Cert.AdamProjReferenceIdeal.τ).loc Cert.AdamProjReferenceIdeal.main_arg4) = m ((c.tc : Thread Cert.AdamProjReferenceIdeal.nD Cert.AdamProjReferenceIdeal.τ).loc Cert.AdamProjReferenceIdeal.main_arg4) :=
  (θ_run _ _ _).mono (fun r h c => ⟨(h c).1.trans (Cert.AdamProjReferenceIdeal.Read.val_main_v3_eq ..), (h c).2.1.trans (Cert.AdamProjReferenceIdeal.Read.val_main_v27_eq ..), (h c).2.2.1.trans (Cert.AdamProjReferenceIdeal.Read.val_main_v8_eq ..), (h c).2.2.2.1.trans (Cert.AdamProjReferenceIdeal.Read.val_main_v14_eq ..), (h c).2.2.2.2⟩)
    (Cert.AdamProjReferenceIdeal.Value.run m ρ)

/-- The kernel's run, each result at the reference's stage over the kernel's own arguments, the arguments kept. -/
theorem results (m : (ℓ : Loc Cert.AdamProjKernelIdeal.nD Cert.AdamProjKernelIdeal.τ Cert.AdamProjKernelIdeal.sig) → Buf (Elt Ideal) ℓ) (ρ : Dev Cert.AdamProjKernelIdeal.nD → PrngReg) :
    θ_run (Cert.AdamProjKernelIdeal.defs (F := Ideal)) (onTc (τ := Cert.AdamProjKernelIdeal.τ) (Cert.AdamProjKernelIdeal.main (F := Ideal))) ⟨m, fun _ => 0, ρ⟩ fun r => ∀ c : Dev Cert.AdamProjKernelIdeal.nD,
      r.2.mem ((c.tc : Thread Cert.AdamProjKernelIdeal.nD Cert.AdamProjKernelIdeal.τ).loc Cert.AdamProjKernelIdeal.main_v0_0) = Cert.AdamProjReferenceIdeal.Read.val_main_v3 (F := Ideal) (m ((c.tc : Thread Cert.AdamProjKernelIdeal.nD Cert.AdamProjKernelIdeal.τ).loc Cert.AdamProjKernelIdeal.main_arg0)) (m ((c.tc : Thread Cert.AdamProjKernelIdeal.nD Cert.AdamProjKernelIdeal.τ).loc Cert.AdamProjKernelIdeal.main_arg1))
      ∧ r.2.mem ((c.tc : Thread Cert.AdamProjKernelIdeal.nD Cert.AdamProjKernelIdeal.τ).loc Cert.AdamProjKernelIdeal.main_v0_1) = Cert.AdamProjReferenceIdeal.Read.val_main_v27 (F := Ideal) (m ((c.tc : Thread Cert.AdamProjKernelIdeal.nD Cert.AdamProjKernelIdeal.τ).loc Cert.AdamProjKernelIdeal.main_arg0)) (m ((c.tc : Thread Cert.AdamProjKernelIdeal.nD Cert.AdamProjKernelIdeal.τ).loc Cert.AdamProjKernelIdeal.main_arg1)) (m ((c.tc : Thread Cert.AdamProjKernelIdeal.nD Cert.AdamProjKernelIdeal.τ).loc Cert.AdamProjKernelIdeal.main_arg2)) (m ((c.tc : Thread Cert.AdamProjKernelIdeal.nD Cert.AdamProjKernelIdeal.τ).loc Cert.AdamProjKernelIdeal.main_arg3)) (m ((c.tc : Thread Cert.AdamProjKernelIdeal.nD Cert.AdamProjKernelIdeal.τ).loc Cert.AdamProjKernelIdeal.main_arg4))
      ∧ r.2.mem ((c.tc : Thread Cert.AdamProjKernelIdeal.nD Cert.AdamProjKernelIdeal.τ).loc Cert.AdamProjKernelIdeal.main_v0_2) = Cert.AdamProjReferenceIdeal.Read.val_main_v8 (F := Ideal) (m ((c.tc : Thread Cert.AdamProjKernelIdeal.nD Cert.AdamProjKernelIdeal.τ).loc Cert.AdamProjKernelIdeal.main_arg0)) (m ((c.tc : Thread Cert.AdamProjKernelIdeal.nD Cert.AdamProjKernelIdeal.τ).loc Cert.AdamProjKernelIdeal.main_arg1)) (m ((c.tc : Thread Cert.AdamProjKernelIdeal.nD Cert.AdamProjKernelIdeal.τ).loc Cert.AdamProjKernelIdeal.main_arg3))
      ∧ r.2.mem ((c.tc : Thread Cert.AdamProjKernelIdeal.nD Cert.AdamProjKernelIdeal.τ).loc Cert.AdamProjKernelIdeal.main_v0_3) = Cert.AdamProjReferenceIdeal.Read.val_main_v14 (F := Ideal) (m ((c.tc : Thread Cert.AdamProjKernelIdeal.nD Cert.AdamProjKernelIdeal.τ).loc Cert.AdamProjKernelIdeal.main_arg0)) (m ((c.tc : Thread Cert.AdamProjKernelIdeal.nD Cert.AdamProjKernelIdeal.τ).loc Cert.AdamProjKernelIdeal.main_arg1)) (m ((c.tc : Thread Cert.AdamProjKernelIdeal.nD Cert.AdamProjKernelIdeal.τ).loc Cert.AdamProjKernelIdeal.main_arg4))
      ∧ r.2.mem ((c.tc : Thread Cert.AdamProjKernelIdeal.nD Cert.AdamProjKernelIdeal.τ).loc Cert.AdamProjKernelIdeal.main_arg0) = m ((c.tc : Thread Cert.AdamProjKernelIdeal.nD Cert.AdamProjKernelIdeal.τ).loc Cert.AdamProjKernelIdeal.main_arg0)
      ∧ r.2.mem ((c.tc : Thread Cert.AdamProjKernelIdeal.nD Cert.AdamProjKernelIdeal.τ).loc Cert.AdamProjKernelIdeal.main_arg1) = m ((c.tc : Thread Cert.AdamProjKernelIdeal.nD Cert.AdamProjKernelIdeal.τ).loc Cert.AdamProjKernelIdeal.main_arg1)
      ∧ r.2.mem ((c.tc : Thread Cert.AdamProjKernelIdeal.nD Cert.AdamProjKernelIdeal.τ).loc Cert.AdamProjKernelIdeal.main_arg2) = m ((c.tc : Thread Cert.AdamProjKernelIdeal.nD Cert.AdamProjKernelIdeal.τ).loc Cert.AdamProjKernelIdeal.main_arg2)
      ∧ r.2.mem ((c.tc : Thread Cert.AdamProjKernelIdeal.nD Cert.AdamProjKernelIdeal.τ).loc Cert.AdamProjKernelIdeal.main_arg3) = m ((c.tc : Thread Cert.AdamProjKernelIdeal.nD Cert.AdamProjKernelIdeal.τ).loc Cert.AdamProjKernelIdeal.main_arg3)
      ∧ r.2.mem ((c.tc : Thread Cert.AdamProjKernelIdeal.nD Cert.AdamProjKernelIdeal.τ).loc Cert.AdamProjKernelIdeal.main_arg4) = m ((c.tc : Thread Cert.AdamProjKernelIdeal.nD Cert.AdamProjKernelIdeal.τ).loc Cert.AdamProjKernelIdeal.main_arg4) :=
  (θ_run _ _ _).mono (fun r h c => ⟨(h c).1.trans (Cert.AdamProjKernelIdeal.Value.rows5 m c), (h c).2.1.trans (Cert.AdamProjKernelIdeal.Value.rows6 m c), (h c).2.2.1.trans (Cert.AdamProjKernelIdeal.Value.rows7 m c), (h c).2.2.2.1.trans (Cert.AdamProjKernelIdeal.Value.rows8 m c), (h c).2.2.2.2⟩)
    (Cert.AdamProjKernelIdeal.Value.run_blocks m ρ)

theorem algebraic : Cert.algebraic_AdamProjKernelIdeal_AdamProjReferenceIdeal (hAdamProjKernelIdeal := Cert.AdamProjKernelIdeal.Gen.facts) (hAdamProjReferenceIdeal := Cert.AdamProjReferenceIdeal.Gen.facts) := by
  intro m g m' g' _ hagree
  refine ⟨fun c => Cert.AdamProjReferenceIdeal.Read.val_main_v3 (F := Ideal) (m ((c.tc : Thread Cert.AdamProjKernelIdeal.nD Cert.AdamProjKernelIdeal.τ).loc Cert.AdamProjKernelIdeal.main_arg0)) (m ((c.tc : Thread Cert.AdamProjKernelIdeal.nD Cert.AdamProjKernelIdeal.τ).loc Cert.AdamProjKernelIdeal.main_arg1)), fun c => Cert.AdamProjReferenceIdeal.Read.val_main_v27 (F := Ideal) (m ((c.tc : Thread Cert.AdamProjKernelIdeal.nD Cert.AdamProjKernelIdeal.τ).loc Cert.AdamProjKernelIdeal.main_arg0)) (m ((c.tc : Thread Cert.AdamProjKernelIdeal.nD Cert.AdamProjKernelIdeal.τ).loc Cert.AdamProjKernelIdeal.main_arg1)) (m ((c.tc : Thread Cert.AdamProjKernelIdeal.nD Cert.AdamProjKernelIdeal.τ).loc Cert.AdamProjKernelIdeal.main_arg2)) (m ((c.tc : Thread Cert.AdamProjKernelIdeal.nD Cert.AdamProjKernelIdeal.τ).loc Cert.AdamProjKernelIdeal.main_arg3)) (m ((c.tc : Thread Cert.AdamProjKernelIdeal.nD Cert.AdamProjKernelIdeal.τ).loc Cert.AdamProjKernelIdeal.main_arg4)), fun c => Cert.AdamProjReferenceIdeal.Read.val_main_v8 (F := Ideal) (m ((c.tc : Thread Cert.AdamProjKernelIdeal.nD Cert.AdamProjKernelIdeal.τ).loc Cert.AdamProjKernelIdeal.main_arg0)) (m ((c.tc : Thread Cert.AdamProjKernelIdeal.nD Cert.AdamProjKernelIdeal.τ).loc Cert.AdamProjKernelIdeal.main_arg1)) (m ((c.tc : Thread Cert.AdamProjKernelIdeal.nD Cert.AdamProjKernelIdeal.τ).loc Cert.AdamProjKernelIdeal.main_arg3)), fun c => Cert.AdamProjReferenceIdeal.Read.val_main_v14 (F := Ideal) (m ((c.tc : Thread Cert.AdamProjKernelIdeal.nD Cert.AdamProjKernelIdeal.τ).loc Cert.AdamProjKernelIdeal.main_arg0)) (m ((c.tc : Thread Cert.AdamProjKernelIdeal.nD Cert.AdamProjKernelIdeal.τ).loc Cert.AdamProjKernelIdeal.main_arg1)) (m ((c.tc : Thread Cert.AdamProjKernelIdeal.nD Cert.AdamProjKernelIdeal.τ).loc Cert.AdamProjKernelIdeal.main_arg4)), results m g, ?_⟩
  refine (θ_run _ _ _).mono (fun r h c => ?_) (stages m' g')
  obtain ⟨a0, a1, a2, a3, a4⟩ := hagree c
  obtain ⟨h0, h1, h2, h3, hk⟩ := h c
  rw [a0, a1] at h0
  rw [a0, a1, a2, a3, a4] at h1
  rw [a0, a1, a3] at h2
  rw [a0, a1, a4] at h3
  exact ⟨h0, h1, h2, h3, hk⟩

theorem quiet : Cert.quiescent_AdamProjReferenceIdeal (hAdamProjReferenceIdeal := Cert.AdamProjReferenceIdeal.Gen.facts) := fun m ρ _ =>
  (θ_run _ _ _).mono (fun r h => ⟨fun c => (h c).2.2.2.2, sem_eq_zero_of_no_sems (by decide) _⟩) (Cert.AdamProjReferenceIdeal.Value.run m ρ)

end Cert.AdamProjClaims

end
-- ==== Proof.AdamConv.lean ====
/-
  The optimiser's step for the convolution's weight: each point of the grid adds the received parts of 3 rows' gradient to its
  own and steps the moments and the weight of those rows, and the blocks are the host program's rows there.
-/
module

public import proofs.«01_k».proof.Proof.Gen.AdamConvKernelIdeal.Value
public import proofs.«01_k».proof.Proof.Gen.AdamConvReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamConvKernelIdeal.Value

open Cert.AdamConvKernelIdeal Cert.AdamConvKernelIdeal.Gen

variable (m : (ℓ : Loc nD τ sig) → Buf (Elt Ideal) ℓ)

/-- The block of each window at a point: the point's own rows. -/
theorem idx : ∀ t : Fin cfg0.N, win0_0.index t = ![t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The row of the whole array a row of a point's block is. -/
def row (t : Fin cfg0.N) (x : Fin 3) : Fin 3 :=
  ⟨t.val * 3 + x.val, by have h : t.val < 1 := lt_of_lt_of_eq t.isLt N_0; have := x.isLt; omega⟩

/-- The gradient at a point, its own part and the three received, is the host program's at its rows. -/
theorem grad (c : Dev nD) (t : Fin cfg0.N) (x : Fin 3) (q : Fin 704) :
    k0_pay5 (iblk m c 0 t) (View.ld (iblk m c 1 t) r0_1) (View.ld (iblk m c 1 t) r0_2) (View.ld (iblk m c 1 t) r0_3) (ix2 x q)
      = Cert.AdamConvReferenceIdeal.Read.val_main_v3 (F := Ideal) (m ((c : Thread nD τ).loc main_arg0)) (m ((c : Thread nD τ).loc main_arg1)) (ix3 0 (row t x) q) := by
  open AdamConvReferenceIdeal.Read in
  pointwise [k0_pay5, val_main_v3, val_main_v2, val_main_v1, val_main_v0, val_main_cst]
  simp only [row, Fin.sum_univ_three, zero_add, add_assoc]
  blk_point [iblk, V, idx t]

theorem own (x0 : Vec Ideal S3x704 .f32) : View.ld x0 r0_0 = x0 := View.ld_unit_lit _ _ (fun a => by fin_cases a <;> rfl)
theorem whole (x : Vec Ideal S1x3x704 .f32) : View.ld x r0_4 = x := View.ld_unit_lit _ _ (fun a => by fin_cases a <;> rfl)

/-- The values a point holds between its two parts, of its whole blocks. -/
theorem held12 (x0 : Vec Ideal S3x704 .f32) (x1 : Vec Ideal S3x3x704 .bf16) (x2 x3 x4 : Vec Ideal S1x3x704 .f32) : k0_pay12 x0 x1 x2 x3 x4 = k0_pay8 x0 (View.ld x1 r0_1) (View.ld x1 r0_2) (View.ld x1 r0_3) x3 := by
  unfold k0_pay12; rw [own, whole]
theorem held13 (x0 : Vec Ideal S3x704 .f32) (x1 : Vec Ideal S3x3x704 .bf16) (x2 x3 x4 : Vec Ideal S1x3x704 .f32) : k0_pay13 x0 x1 x2 x3 x4 = k0_pay9 x4 := by
  unfold k0_pay13; rw [whole]
theorem held14 (x0 : Vec Ideal S3x704 .f32) (x1 : Vec Ideal S3x3x704 .bf16) (x2 x3 x4 : Vec Ideal S1x3x704 .f32) : k0_pay14 x0 x1 x2 x3 x4 = k0_pay10 x0 (View.ld x1 r0_1) (View.ld x1 r0_2) (View.ld x1 r0_3) := by
  unfold k0_pay14; rw [own]
theorem held15 (x0 : Vec Ideal S3x704 .f32) (x1 : Vec Ideal S3x3x704 .bf16) (x2 x3 x4 : Vec Ideal S1x3x704 .f32) : k0_pay15 x0 x1 x2 x3 x4 = k0_pay11 (F := Ideal) := rfl

theorem step5 (c : Dev nD) (t : Fin cfg0.N) (j : S1x3x704.Idx) :
    k0_pay6 (iblk m c 0 t) (View.ld (iblk m c 1 t) r0_1) (View.ld (iblk m c 1 t) r0_2) (View.ld (iblk m c 1 t) r0_3) j
      = Cert.AdamConvReferenceIdeal.Read.val_main_v3 (F := Ideal) (m ((c : Thread nD τ).loc main_arg0)) (m ((c : Thread nD τ).loc main_arg1)) (ix3 0 (row t (j 1)) (j 2)) := by
  idx_vars j
  fin_cases j0
  open AdamConvReferenceIdeal.Read in
  pointwise [k0_pay6]
  exact grad m c t _ _

theorem at5 (t : Fin cfg0.N) (j : S1x3x704.Idx) : ((cfg0.win 5).blk t).view.emb j = ix3 0 (row t (j 1)) (j 2) := by
  idx_vars j
  fin_cases j0
  blk_ext [row, idx t]

/-- The gradient. -/
theorem rows5 (c : Dev nD) : (dats m 0 c).arrAt 5 cfg0.N
    = Cert.AdamConvReferenceIdeal.Read.val_main_v3 (F := Ideal) (m ((c : Thread nD τ).loc main_arg0)) (m ((c : Thread nD τ).loc main_arg1)) := by
  refine (dats m 0 c).arrAt_eq_of_covers 5 _ (by decide +kernel) fun t _ y => ?_
  blk_simp
  rw [after0_5, at5]
  frame_out
  exact step5 m c t y

theorem step7 (c : Dev nD) (t : Fin cfg0.N) (j : S1x3x704.Idx) :
    k0_pay3 (k0_pay8 (iblk m c 0 t) (View.ld (iblk m c 1 t) r0_1) (View.ld (iblk m c 1 t) r0_2) (View.ld (iblk m c 1 t) r0_3) (iblk m c 3 t)) j
      = Cert.AdamConvReferenceIdeal.Read.val_main_v8 (F := Ideal) (m ((c : Thread nD τ).loc main_arg0)) (m ((c : Thread nD τ).loc main_arg1)) (m ((c : Thread nD τ).loc main_arg3)) (ix3 0 (row t (j 1)) (j 2)) := by
  idx_vars j
  fin_cases j0
  open AdamConvReferenceIdeal.Read in
  pointwise [k0_pay3, k0_pay8, val_main_v4, val_main_cst_0, val_main_v5, val_main_v6, val_main_cst_1, val_main_v7, val_main_v8]
  simp only [grad m c t]
  simp only [row]
  blk_point [iblk, V, idx t]

theorem at7 (t : Fin cfg0.N) (j : S1x3x704.Idx) : ((cfg0.win 7).blk t).view.emb j = ix3 0 (row t (j 1)) (j 2) := by
  idx_vars j
  fin_cases j0
  blk_ext [row, idx t]

/-- The new first moment. -/
theorem rows7 (c : Dev nD) : (dats m 0 c).arrAt 7 cfg0.N
    = Cert.AdamConvReferenceIdeal.Read.val_main_v8 (F := Ideal) (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  rw [after0_7, at7]
  frame_out
  rw [held12]
  exact step7 m c t y

theorem step8 (c : Dev nD) (t : Fin cfg0.N) (j : S1x3x704.Idx) :
    k0_pay4 (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamConvReferenceIdeal.Read.val_main_v14 (F := Ideal) (m ((c : Thread nD τ).loc main_arg0)) (m ((c : Thread nD τ).loc main_arg1)) (m ((c : Thread nD τ).loc main_arg4)) (ix3 0 (row t (j 1)) (j 2)) := by
  idx_vars j
  fin_cases j0
  open AdamConvReferenceIdeal.Read in
  pointwise [k0_pay4, k0_pay9, k0_pay10, k0_pay11, k0_pay1, val_main_v9, val_main_cst_2, val_main_v10, val_main_v11, val_main_cst_3, val_main_v12, val_main_v13, val_main_v14]
  simp only [grad m c t]
  simp only [row]
  blk_point [iblk, V, idx t]

theorem at8 (t : Fin cfg0.N) (j : S1x3x704.Idx) : ((cfg0.win 8).blk t).view.emb j = ix3 0 (row t (j 1)) (j 2) := by
  idx_vars j
  fin_cases j0
  blk_ext [row, idx t]

/-- The new second moment. -/
theorem rows8 (c : Dev nD) : (dats m 0 c).arrAt 8 cfg0.N
    = Cert.AdamConvReferenceIdeal.Read.val_main_v14 (F := Ideal) (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  rw [after0_8, at8]
  frame_out
  rw [held13, held14, held15]
  exact step8 m c t y

theorem step6 (c : Dev nD) (t : Fin cfg0.N) (j : S1x3x704.Idx) :
    k0_pay2 (k0_pay7 (iblk m c 2 t)) (k0_pay8 (iblk m c 0 t) (View.ld (iblk m c 1 t) r0_1) (View.ld (iblk m c 1 t) r0_2) (View.ld (iblk m c 1 t) r0_3) (iblk m c 3 t)) (k0_pay9 (iblk m c 4 t)) (k0_pay10 (iblk m c 0 t) (View.ld (iblk m c 1 t) r0_1) (View.ld (iblk m c 1 t) r0_2) (View.ld (iblk m c 1 t) r0_3)) (k0_pay11 (F := Ideal)) j
      = Cert.AdamConvReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix3 0 (row t (j 1)) (j 2)) := by
  idx_vars j
  fin_cases j0
  open AdamConvReferenceIdeal.Read in
  pointwise [k0_pay2, k0_pay7, k0_pay8, k0_pay9, k0_pay10, k0_pay11, k0_pay1, val_main_v4, val_main_cst_0, val_main_v5, val_main_v6, val_main_cst_1, val_main_v7, val_main_v8, val_main_v9, val_main_cst_2, val_main_v10, val_main_v11, val_main_cst_3, val_main_v12, val_main_v13, val_main_v14, val_main_v15, val_main_v16, val_main_v17, val_main_v18, val_main_v19, val_main_v20, val_main_v21, val_main_v22, val_main_v23, val_main_v24, val_main_v25, val_main_v26, val_main_v27, val_main_cst_4, val_main_cst_5, val_main_cst_6, val_main_cst_7, val_main_cst_8]
  simp only [grad m c t]
  simp only [row]
  blk_point [iblk, V, idx t]

theorem at6 (t : Fin cfg0.N) (j : S1x3x704.Idx) : ((cfg0.win 6).blk t).view.emb j = ix3 0 (row t (j 1)) (j 2) := by
  idx_vars j
  fin_cases j0
  blk_ext [row, idx t]

/-- The change of the weight. -/
theorem rows6 (c : Dev nD) : (dats m 0 c).arrAt 6 cfg0.N
    = Cert.AdamConvReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6, at6]
  frame_out
  rw [held12, held13, held14, held15]
  exact step6 m c t y

end Cert.AdamConvKernelIdeal.Value

end
-- ==== Proof.AdamConvClaims.lean ====
/- The equation of the optimiser's step for the convolution's weight: the kernel's run and the reference's at the same stages, and the claim from the two. -/
module

public import proofs.«01_k».proof.Defs
public import proofs.«01_k».proof.Proof.Gen.AdamConvKernel.Frame
public import proofs.«01_k».proof.Proof.Gen.AdamConvReferenceIdeal.Run
public import proofs.«01_k».proof.Proof.AdamConv
public import Idealize.ShloMosaic.Lib.Quiescent

@[expose] public section

noncomputable section

open Idealize.ShloMosaic Idealize.ShloMosaic.TcCoe Idealize.SL.Sem

namespace Cert.AdamConvClaims

/-- The reference's run, each result at its stage, the arguments kept. -/
theorem stages (m : (ℓ : Loc Cert.AdamConvReferenceIdeal.nD Cert.AdamConvReferenceIdeal.τ Cert.AdamConvReferenceIdeal.sig) → Buf (Elt Ideal) ℓ) (ρ : Dev Cert.AdamConvReferenceIdeal.nD → PrngReg) :
    θ_run (Cert.AdamConvReferenceIdeal.defs (F := Ideal)) (onTc (τ := Cert.AdamConvReferenceIdeal.τ) (Cert.AdamConvReferenceIdeal.main (F := Ideal))) ⟨m, fun _ => 0, ρ⟩ fun r => ∀ c : Dev Cert.AdamConvReferenceIdeal.nD,
      r.2.mem ((c.tc : Thread Cert.AdamConvReferenceIdeal.nD Cert.AdamConvReferenceIdeal.τ).loc Cert.AdamConvReferenceIdeal.main_v3) = Cert.AdamConvReferenceIdeal.Read.val_main_v3 (F := Ideal) (m ((c.tc : Thread Cert.AdamConvReferenceIdeal.nD Cert.AdamConvReferenceIdeal.τ).loc Cert.AdamConvReferenceIdeal.main_arg0)) (m ((c.tc : Thread Cert.AdamConvReferenceIdeal.nD Cert.AdamConvReferenceIdeal.τ).loc Cert.AdamConvReferenceIdeal.main_arg1))
      ∧ r.2.mem ((c.tc : Thread Cert.AdamConvReferenceIdeal.nD Cert.AdamConvReferenceIdeal.τ).loc Cert.AdamConvReferenceIdeal.main_v27) = Cert.AdamConvReferenceIdeal.Read.val_main_v27 (F := Ideal) (m ((c.tc : Thread Cert.AdamConvReferenceIdeal.nD Cert.AdamConvReferenceIdeal.τ).loc Cert.AdamConvReferenceIdeal.main_arg0)) (m ((c.tc : Thread Cert.AdamConvReferenceIdeal.nD Cert.AdamConvReferenceIdeal.τ).loc Cert.AdamConvReferenceIdeal.main_arg1)) (m ((c.tc : Thread Cert.AdamConvReferenceIdeal.nD Cert.AdamConvReferenceIdeal.τ).loc Cert.AdamConvReferenceIdeal.main_arg2)) (m ((c.tc : Thread Cert.AdamConvReferenceIdeal.nD Cert.AdamConvReferenceIdeal.τ).loc Cert.AdamConvReferenceIdeal.main_arg3)) (m ((c.tc : Thread Cert.AdamConvReferenceIdeal.nD Cert.AdamConvReferenceIdeal.τ).loc Cert.AdamConvReferenceIdeal.main_arg4))
      ∧ r.2.mem ((c.tc : Thread Cert.AdamConvReferenceIdeal.nD Cert.AdamConvReferenceIdeal.τ).loc Cert.AdamConvReferenceIdeal.main_v8) = Cert.AdamConvReferenceIdeal.Read.val_main_v8 (F := Ideal) (m ((c.tc : Thread Cert.AdamConvReferenceIdeal.nD Cert.AdamConvReferenceIdeal.τ).loc Cert.AdamConvReferenceIdeal.main_arg0)) (m ((c.tc : Thread Cert.AdamConvReferenceIdeal.nD Cert.AdamConvReferenceIdeal.τ).loc Cert.AdamConvReferenceIdeal.main_arg1)) (m ((c.tc : Thread Cert.AdamConvReferenceIdeal.nD Cert.AdamConvReferenceIdeal.τ).loc Cert.AdamConvReferenceIdeal.main_arg3))
      ∧ r.2.mem ((c.tc : Thread Cert.AdamConvReferenceIdeal.nD Cert.AdamConvReferenceIdeal.τ).loc Cert.AdamConvReferenceIdeal.main_v14) = Cert.AdamConvReferenceIdeal.Read.val_main_v14 (F := Ideal) (m ((c.tc : Thread Cert.AdamConvReferenceIdeal.nD Cert.AdamConvReferenceIdeal.τ).loc Cert.AdamConvReferenceIdeal.main_arg0)) (m ((c.tc : Thread Cert.AdamConvReferenceIdeal.nD Cert.AdamConvReferenceIdeal.τ).loc Cert.AdamConvReferenceIdeal.main_arg1)) (m ((c.tc : Thread Cert.AdamConvReferenceIdeal.nD Cert.AdamConvReferenceIdeal.τ).loc Cert.AdamConvReferenceIdeal.main_arg4))
      ∧ r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3)
      ∧ r.2.mem ((c.tc : Thread Cert.AdamConvReferenceIdeal.nD Cert.AdamConvReferenceIdeal.τ).loc Cert.AdamConvReferenceIdeal.main_arg4) = m ((c.tc : Thread Cert.AdamConvReferenceIdeal.nD Cert.AdamConvReferenceIdeal.τ).loc Cert.AdamConvReferenceIdeal.main_arg4) :=
  (θ_run _ _ _).mono (fun r h c => ⟨(h c).1.trans (Cert.AdamConvReferenceIdeal.Read.val_main_v3_eq ..), (h c).2.1.trans (Cert.AdamConvReferenceIdeal.Read.val_main_v27_eq ..), (h c).2.2.1.trans (Cert.AdamConvReferenceIdeal.Read.val_main_v8_eq ..), (h c).2.2.2.1.trans (Cert.AdamConvReferenceIdeal.Read.val_main_v14_eq ..), (h c).2.2.2.2⟩)
    (Cert.AdamConvReferenceIdeal.Value.run m ρ)

/-- The kernel's run, each result at the reference's stage over the kernel's own arguments, the arguments kept. -/
theorem results (m : (ℓ : Loc Cert.AdamConvKernelIdeal.nD Cert.AdamConvKernelIdeal.τ Cert.AdamConvKernelIdeal.sig) → Buf (Elt Ideal) ℓ) (ρ : Dev Cert.AdamConvKernelIdeal.nD → PrngReg) :
    θ_run (Cert.AdamConvKernelIdeal.defs (F := Ideal)) (onTc (τ := Cert.AdamConvKernelIdeal.τ) (Cert.AdamConvKernelIdeal.main (F := Ideal))) ⟨m, fun _ => 0, ρ⟩ fun r => ∀ c : Dev Cert.AdamConvKernelIdeal.nD,
      r.2.mem ((c.tc : Thread Cert.AdamConvKernelIdeal.nD Cert.AdamConvKernelIdeal.τ).loc Cert.AdamConvKernelIdeal.main_v0_0) = Cert.AdamConvReferenceIdeal.Read.val_main_v3 (F := Ideal) (m ((c.tc : Thread Cert.AdamConvKernelIdeal.nD Cert.AdamConvKernelIdeal.τ).loc Cert.AdamConvKernelIdeal.main_arg0)) (m ((c.tc : Thread Cert.AdamConvKernelIdeal.nD Cert.AdamConvKernelIdeal.τ).loc Cert.AdamConvKernelIdeal.main_arg1))
      ∧ r.2.mem ((c.tc : Thread Cert.AdamConvKernelIdeal.nD Cert.AdamConvKernelIdeal.τ).loc Cert.AdamConvKernelIdeal.main_v0_1) = Cert.AdamConvReferenceIdeal.Read.val_main_v27 (F := Ideal) (m ((c.tc : Thread Cert.AdamConvKernelIdeal.nD Cert.AdamConvKernelIdeal.τ).loc Cert.AdamConvKernelIdeal.main_arg0)) (m ((c.tc : Thread Cert.AdamConvKernelIdeal.nD Cert.AdamConvKernelIdeal.τ).loc Cert.AdamConvKernelIdeal.main_arg1)) (m ((c.tc : Thread Cert.AdamConvKernelIdeal.nD Cert.AdamConvKernelIdeal.τ).loc Cert.AdamConvKernelIdeal.main_arg2)) (m ((c.tc : Thread Cert.AdamConvKernelIdeal.nD Cert.AdamConvKernelIdeal.τ).loc Cert.AdamConvKernelIdeal.main_arg3)) (m ((c.tc : Thread Cert.AdamConvKernelIdeal.nD Cert.AdamConvKernelIdeal.τ).loc Cert.AdamConvKernelIdeal.main_arg4))
      ∧ r.2.mem ((c.tc : Thread Cert.AdamConvKernelIdeal.nD Cert.AdamConvKernelIdeal.τ).loc Cert.AdamConvKernelIdeal.main_v0_2) = Cert.AdamConvReferenceIdeal.Read.val_main_v8 (F := Ideal) (m ((c.tc : Thread Cert.AdamConvKernelIdeal.nD Cert.AdamConvKernelIdeal.τ).loc Cert.AdamConvKernelIdeal.main_arg0)) (m ((c.tc : Thread Cert.AdamConvKernelIdeal.nD Cert.AdamConvKernelIdeal.τ).loc Cert.AdamConvKernelIdeal.main_arg1)) (m ((c.tc : Thread Cert.AdamConvKernelIdeal.nD Cert.AdamConvKernelIdeal.τ).loc Cert.AdamConvKernelIdeal.main_arg3))
      ∧ r.2.mem ((c.tc : Thread Cert.AdamConvKernelIdeal.nD Cert.AdamConvKernelIdeal.τ).loc Cert.AdamConvKernelIdeal.main_v0_3) = Cert.AdamConvReferenceIdeal.Read.val_main_v14 (F := Ideal) (m ((c.tc : Thread Cert.AdamConvKernelIdeal.nD Cert.AdamConvKernelIdeal.τ).loc Cert.AdamConvKernelIdeal.main_arg0)) (m ((c.tc : Thread Cert.AdamConvKernelIdeal.nD Cert.AdamConvKernelIdeal.τ).loc Cert.AdamConvKernelIdeal.main_arg1)) (m ((c.tc : Thread Cert.AdamConvKernelIdeal.nD Cert.AdamConvKernelIdeal.τ).loc Cert.AdamConvKernelIdeal.main_arg4))
      ∧ r.2.mem ((c.tc : Thread Cert.AdamConvKernelIdeal.nD Cert.AdamConvKernelIdeal.τ).loc Cert.AdamConvKernelIdeal.main_arg0) = m ((c.tc : Thread Cert.AdamConvKernelIdeal.nD Cert.AdamConvKernelIdeal.τ).loc Cert.AdamConvKernelIdeal.main_arg0)
      ∧ r.2.mem ((c.tc : Thread Cert.AdamConvKernelIdeal.nD Cert.AdamConvKernelIdeal.τ).loc Cert.AdamConvKernelIdeal.main_arg1) = m ((c.tc : Thread Cert.AdamConvKernelIdeal.nD Cert.AdamConvKernelIdeal.τ).loc Cert.AdamConvKernelIdeal.main_arg1)
      ∧ r.2.mem ((c.tc : Thread Cert.AdamConvKernelIdeal.nD Cert.AdamConvKernelIdeal.τ).loc Cert.AdamConvKernelIdeal.main_arg2) = m ((c.tc : Thread Cert.AdamConvKernelIdeal.nD Cert.AdamConvKernelIdeal.τ).loc Cert.AdamConvKernelIdeal.main_arg2)
      ∧ r.2.mem ((c.tc : Thread Cert.AdamConvKernelIdeal.nD Cert.AdamConvKernelIdeal.τ).loc Cert.AdamConvKernelIdeal.main_arg3) = m ((c.tc : Thread Cert.AdamConvKernelIdeal.nD Cert.AdamConvKernelIdeal.τ).loc Cert.AdamConvKernelIdeal.main_arg3)
      ∧ r.2.mem ((c.tc : Thread Cert.AdamConvKernelIdeal.nD Cert.AdamConvKernelIdeal.τ).loc Cert.AdamConvKernelIdeal.main_arg4) = m ((c.tc : Thread Cert.AdamConvKernelIdeal.nD Cert.AdamConvKernelIdeal.τ).loc Cert.AdamConvKernelIdeal.main_arg4) :=
  (θ_run _ _ _).mono (fun r h c => ⟨(h c).1.trans (Cert.AdamConvKernelIdeal.Value.rows5 m c), (h c).2.1.trans (Cert.AdamConvKernelIdeal.Value.rows6 m c), (h c).2.2.1.trans (Cert.AdamConvKernelIdeal.Value.rows7 m c), (h c).2.2.2.1.trans (Cert.AdamConvKernelIdeal.Value.rows8 m c), (h c).2.2.2.2⟩)
    (Cert.AdamConvKernelIdeal.Value.run_blocks m ρ)

theorem algebraic : Cert.algebraic_AdamConvKernelIdeal_AdamConvReferenceIdeal (hAdamConvKernelIdeal := Cert.AdamConvKernelIdeal.Gen.facts) (hAdamConvReferenceIdeal := Cert.AdamConvReferenceIdeal.Gen.facts) := by
  intro m g m' g' _ hagree
  refine ⟨fun c => Cert.AdamConvReferenceIdeal.Read.val_main_v3 (F := Ideal) (m ((c.tc : Thread Cert.AdamConvKernelIdeal.nD Cert.AdamConvKernelIdeal.τ).loc Cert.AdamConvKernelIdeal.main_arg0)) (m ((c.tc : Thread Cert.AdamConvKernelIdeal.nD Cert.AdamConvKernelIdeal.τ).loc Cert.AdamConvKernelIdeal.main_arg1)), fun c => Cert.AdamConvReferenceIdeal.Read.val_main_v27 (F := Ideal) (m ((c.tc : Thread Cert.AdamConvKernelIdeal.nD Cert.AdamConvKernelIdeal.τ).loc Cert.AdamConvKernelIdeal.main_arg0)) (m ((c.tc : Thread Cert.AdamConvKernelIdeal.nD Cert.AdamConvKernelIdeal.τ).loc Cert.AdamConvKernelIdeal.main_arg1)) (m ((c.tc : Thread Cert.AdamConvKernelIdeal.nD Cert.AdamConvKernelIdeal.τ).loc Cert.AdamConvKernelIdeal.main_arg2)) (m ((c.tc : Thread Cert.AdamConvKernelIdeal.nD Cert.AdamConvKernelIdeal.τ).loc Cert.AdamConvKernelIdeal.main_arg3)) (m ((c.tc : Thread Cert.AdamConvKernelIdeal.nD Cert.AdamConvKernelIdeal.τ).loc Cert.AdamConvKernelIdeal.main_arg4)), fun c => Cert.AdamConvReferenceIdeal.Read.val_main_v8 (F := Ideal) (m ((c.tc : Thread Cert.AdamConvKernelIdeal.nD Cert.AdamConvKernelIdeal.τ).loc Cert.AdamConvKernelIdeal.main_arg0)) (m ((c.tc : Thread Cert.AdamConvKernelIdeal.nD Cert.AdamConvKernelIdeal.τ).loc Cert.AdamConvKernelIdeal.main_arg1)) (m ((c.tc : Thread Cert.AdamConvKernelIdeal.nD Cert.AdamConvKernelIdeal.τ).loc Cert.AdamConvKernelIdeal.main_arg3)), fun c => Cert.AdamConvReferenceIdeal.Read.val_main_v14 (F := Ideal) (m ((c.tc : Thread Cert.AdamConvKernelIdeal.nD Cert.AdamConvKernelIdeal.τ).loc Cert.AdamConvKernelIdeal.main_arg0)) (m ((c.tc : Thread Cert.AdamConvKernelIdeal.nD Cert.AdamConvKernelIdeal.τ).loc Cert.AdamConvKernelIdeal.main_arg1)) (m ((c.tc : Thread Cert.AdamConvKernelIdeal.nD Cert.AdamConvKernelIdeal.τ).loc Cert.AdamConvKernelIdeal.main_arg4)), results m g, ?_⟩
  refine (θ_run _ _ _).mono (fun r h c => ?_) (stages m' g')
  obtain ⟨a0, a1, a2, a3, a4⟩ := hagree c
  obtain ⟨h0, h1, h2, h3, hk⟩ := h c
  rw [a0, a1] at h0
  rw [a0, a1, a2, a3, a4] at h1
  rw [a0, a1, a3] at h2
  rw [a0, a1, a4] at h3
  exact ⟨h0, h1, h2, h3, hk⟩

theorem quiet : Cert.quiescent_AdamConvReferenceIdeal (hAdamConvReferenceIdeal := Cert.AdamConvReferenceIdeal.Gen.facts) := fun m ρ _ =>
  (θ_run _ _ _).mono (fun r h => ⟨fun c => (h c).2.2.2.2, sem_eq_zero_of_no_sems (by decide) _⟩) (Cert.AdamConvReferenceIdeal.Value.run m ρ)

end Cert.AdamConvClaims

end
-- ==== Proof.AdamSum.lean ====
/-
  The optimiser's step for the small weights: each point of the grid adds up 128 rows of all the devices' packed gradients
  and steps the packed moments and weights of those rows, and the blocks are the host program's rows there.
-/
module

public import proofs.«01_k».proof.Proof.Gen.AdamSumKernelIdeal.Value
public import proofs.«01_k».proof.Proof.Gen.AdamSumReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamSumKernelIdeal.Value

open Cert.AdamSumKernelIdeal Cert.AdamSumKernelIdeal.Gen

variable (m : (ℓ : Loc nD τ sig) → Buf (Elt Ideal) ℓ)

/-- The block of each window at a point: the point's own rows. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] :=
  (by decide +kernel : ∀ t : Fin grid0.N, _)

/-- The row of the whole array a row of a point's block is. -/
def row (t : Fin cfg0.N) (x : Fin 128) : Fin 1152 :=
  ⟨t.val * 128 + x.val, by have h : t.val < 9 := lt_of_lt_of_eq t.isLt N_0; have := x.isLt; omega⟩

/-- The eight devices' gradients added up at a point are the host program's sum at its rows. -/
theorem step4 (c : Dev nD) (t : Fin cfg0.N) (x q : Fin 128) :
    k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7) (ix2 x q)
      = Cert.AdamSumReferenceIdeal.Read.val_main_v0 (F := Ideal) (m ((c : Thread nD τ).loc main_arg0)) (ix2 (row t x) q) := by
  open AdamSumReferenceIdeal.Read in
  pointwise [k0_pay4, val_main_v0, val_main_cst]
  simp only [row, Fin.sum_univ_eight, zero_add]
  blk_point [iblk, V, idx t]

/-- The sum a point holds for the other results. -/
theorem held (x0 : Vec Ideal S8x128x128 .f32) (x1 x2 x3 : Vec Ideal S128x128 .f32) : k0_pay5 x0 x1 x2 x3 = k0_pay4 (View.ld x0 r0_0) (View.ld x0 r0_1) (View.ld x0 r0_2) (View.ld x0 r0_3) (View.ld x0 r0_4) (View.ld x0 r0_5) (View.ld x0 r0_6) (View.ld x0 r0_7) := rfl

theorem at4 (t : Fin cfg0.N) (x q : Fin 128) : ((cfg0.win 4).blk t).view.emb (ix2 x q) = ix2 (row t x) q := by
  blk_ext [row, idx t]

/-- The gradient. -/
theorem rows4 (c : Dev nD) : (dats m 0 c).arrAt 4 cfg0.N
    = Cert.AdamSumReferenceIdeal.Read.val_main_v0 (F := Ideal) (m ((c : Thread nD τ).loc main_arg0)) := by
  refine (dats m 0 c).arrAt_eq_of_covers 4 _ (by decide +kernel) fun t _ y => ?_
  idx_vars y
  blk_simp
  rw [after0_4, at4]
  frame_out
  exact step4 m c t _ _

theorem step6 (c : Dev nD) (t : Fin cfg0.N) (x q : Fin 128) :
    k0_pay1 (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 2 t) (ix2 x q)
      = Cert.AdamSumReferenceIdeal.Read.val_main_v5 (F := Ideal) (m ((c : Thread nD τ).loc main_arg0)) (m ((c : Thread nD τ).loc main_arg2)) (ix2 (row t x) q) := by
  open AdamSumReferenceIdeal.Read in
  pointwise [k0_pay1, val_main_v1, val_main_cst_0, val_main_v2, val_main_v3, val_main_cst_1, val_main_v4, val_main_v5]
  simp only [step4 m c t]
  simp only [row]
  blk_point [iblk, V, idx t]

theorem at6 (t : Fin cfg0.N) (x q : Fin 128) : ((cfg0.win 6).blk t).view.emb (ix2 x q) = ix2 (row t x) q := by
  blk_ext [row, idx t]

/-- The new first moment. -/
theorem rows6 (c : Dev nD) : (dats m 0 c).arrAt 6 cfg0.N
    = Cert.AdamSumReferenceIdeal.Read.val_main_v5 (F := Ideal) (m ((c : Thread nD τ).loc main_arg0)) (m ((c : Thread nD τ).loc main_arg2)) := by
  refine (dats m 0 c).arrAt_eq_of_covers 6 _ (by decide +kernel) fun t _ y => ?_
  idx_vars y
  blk_simp
  rw [after0_6, at6]
  frame_out
  rw [held]
  exact step6 m c t _ _

theorem step7 (c : Dev nD) (t : Fin cfg0.N) (x q : Fin 128) :
    k0_pay2 (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 3 t) (ix2 x q)
      = Cert.AdamSumReferenceIdeal.Read.val_main_v11 (F := Ideal) (m ((c : Thread nD τ).loc main_arg0)) (m ((c : Thread nD τ).loc main_arg3)) (ix2 (row t x) q) := by
  open AdamSumReferenceIdeal.Read in
  pointwise [k0_pay2, val_main_v6, val_main_cst_2, val_main_v7, val_main_v8, val_main_v9, val_main_cst_3, val_main_v10, val_main_v11]
  simp only [step4 m c t]
  simp only [row]
  blk_point [iblk, V, idx t]

theorem at7 (t : Fin cfg0.N) (x q : Fin 128) : ((cfg0.win 7).blk t).view.emb (ix2 x q) = ix2 (row t x) q := by
  blk_ext [row, idx t]

/-- The new second moment. -/
theorem rows7 (c : Dev nD) : (dats m 0 c).arrAt 7 cfg0.N
    = Cert.AdamSumReferenceIdeal.Read.val_main_v11 (F := Ideal) (m ((c : Thread nD τ).loc main_arg0)) (m ((c : Thread nD τ).loc main_arg3)) := by
  refine (dats m 0 c).arrAt_eq_of_covers 7 _ (by decide +kernel) fun t _ y => ?_
  idx_vars y
  blk_simp
  rw [after0_7, at7]
  frame_out
  rw [held]
  exact step7 m c t _ _

theorem step5 (c : Dev nD) (t : Fin cfg0.N) (x q : Fin 128) :
    k0_pay3 (k0_pay4 (View.ld (iblk m c 0 t) r0_0) (View.ld (iblk m c 0 t) r0_1) (View.ld (iblk m c 0 t) r0_2) (View.ld (iblk m c 0 t) r0_3) (View.ld (iblk m c 0 t) r0_4) (View.ld (iblk m c 0 t) r0_5) (View.ld (iblk m c 0 t) r0_6) (View.ld (iblk m c 0 t) r0_7)) (iblk m c 1 t) (iblk m c 2 t) (iblk m c 3 t) (ix2 x q)
      = Cert.AdamSumReferenceIdeal.Read.val_main_v24 (F := Ideal) (m ((c : Thread nD τ).loc main_arg0)) (m ((c : Thread nD τ).loc main_arg1)) (m ((c : Thread nD τ).loc main_arg2)) (m ((c : Thread nD τ).loc main_arg3)) (ix2 (row t x) q) := by
  open AdamSumReferenceIdeal.Read in
  pointwise [k0_pay3, k0_pay1, k0_pay2, val_main_v1, val_main_cst_0, val_main_v2, val_main_v3, val_main_cst_1, val_main_v4, val_main_v5, val_main_v6, val_main_cst_2, val_main_v7, val_main_v8, val_main_v9, val_main_cst_3, val_main_v10, val_main_v11, val_main_v12, val_main_v13, val_main_v14, val_main_v15, val_main_v16, val_main_v17, val_main_v18, val_main_v19, val_main_v20, val_main_v21, val_main_v22, val_main_v23, val_main_v24, val_main_cst_4, val_main_cst_5, val_main_cst_6, val_main_cst_7, val_main_cst_8]
  simp only [step4 m c t]
  simp only [row]
  blk_point [iblk, V, idx t]

theorem at5 (t : Fin cfg0.N) (x q : Fin 128) : ((cfg0.win 5).blk t).view.emb (ix2 x q) = ix2 (row t x) q := by
  blk_ext [row, idx t]

/-- The change of the weights. -/
theorem rows5 (c : Dev nD) : (dats m 0 c).arrAt 5 cfg0.N
    = Cert.AdamSumReferenceIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  idx_vars y
  blk_simp
  rw [after0_5, at5]
  frame_out
  rw [held]
  exact step5 m c t _ _

end Cert.AdamSumKernelIdeal.Value

end
-- ==== Proof.AdamSumClaims.lean ====
/- The equation of the optimiser's step for the small weights: the kernel's run and the reference's at the same stages, and the claim from the two. -/
module

public import proofs.«01_k».proof.Defs
public import proofs.«01_k».proof.Proof.Gen.AdamSumKernel.Frame
public import proofs.«01_k».proof.Proof.Gen.AdamSumReferenceIdeal.Run
public import proofs.«01_k».proof.Proof.AdamSum
public import Idealize.ShloMosaic.Lib.Quiescent

@[expose] public section

noncomputable section

open Idealize.ShloMosaic Idealize.ShloMosaic.TcCoe Idealize.SL.Sem

namespace Cert.AdamSumClaims

/-- The reference's run, each result at its stage, the arguments kept. -/
theorem stages (m : (ℓ : Loc Cert.AdamSumReferenceIdeal.nD Cert.AdamSumReferenceIdeal.τ Cert.AdamSumReferenceIdeal.sig) → Buf (Elt Ideal) ℓ) (ρ : Dev Cert.AdamSumReferenceIdeal.nD → PrngReg) :
    θ_run (Cert.AdamSumReferenceIdeal.defs (F := Ideal)) (onTc (τ := Cert.AdamSumReferenceIdeal.τ) (Cert.AdamSumReferenceIdeal.main (F := Ideal))) ⟨m, fun _ => 0, ρ⟩ fun r => ∀ c : Dev Cert.AdamSumReferenceIdeal.nD,
      r.2.mem ((c.tc : Thread Cert.AdamSumReferenceIdeal.nD Cert.AdamSumReferenceIdeal.τ).loc Cert.AdamSumReferenceIdeal.main_v0) = Cert.AdamSumReferenceIdeal.Read.val_main_v0 (F := Ideal) (m ((c.tc : Thread Cert.AdamSumReferenceIdeal.nD Cert.AdamSumReferenceIdeal.τ).loc Cert.AdamSumReferenceIdeal.main_arg0))
      ∧ r.2.mem ((c.tc : Thread Cert.AdamSumReferenceIdeal.nD Cert.AdamSumReferenceIdeal.τ).loc Cert.AdamSumReferenceIdeal.main_v24) = Cert.AdamSumReferenceIdeal.Read.val_main_v24 (F := Ideal) (m ((c.tc : Thread Cert.AdamSumReferenceIdeal.nD Cert.AdamSumReferenceIdeal.τ).loc Cert.AdamSumReferenceIdeal.main_arg0)) (m ((c.tc : Thread Cert.AdamSumReferenceIdeal.nD Cert.AdamSumReferenceIdeal.τ).loc Cert.AdamSumReferenceIdeal.main_arg1)) (m ((c.tc : Thread Cert.AdamSumReferenceIdeal.nD Cert.AdamSumReferenceIdeal.τ).loc Cert.AdamSumReferenceIdeal.main_arg2)) (m ((c.tc : Thread Cert.AdamSumReferenceIdeal.nD Cert.AdamSumReferenceIdeal.τ).loc Cert.AdamSumReferenceIdeal.main_arg3))
      ∧ r.2.mem ((c.tc : Thread Cert.AdamSumReferenceIdeal.nD Cert.AdamSumReferenceIdeal.τ).loc Cert.AdamSumReferenceIdeal.main_v5) = Cert.AdamSumReferenceIdeal.Read.val_main_v5 (F := Ideal) (m ((c.tc : Thread Cert.AdamSumReferenceIdeal.nD Cert.AdamSumReferenceIdeal.τ).loc Cert.AdamSumReferenceIdeal.main_arg0)) (m ((c.tc : Thread Cert.AdamSumReferenceIdeal.nD Cert.AdamSumReferenceIdeal.τ).loc Cert.AdamSumReferenceIdeal.main_arg2))
      ∧ r.2.mem ((c.tc : Thread Cert.AdamSumReferenceIdeal.nD Cert.AdamSumReferenceIdeal.τ).loc Cert.AdamSumReferenceIdeal.main_v11) = Cert.AdamSumReferenceIdeal.Read.val_main_v11 (F := Ideal) (m ((c.tc : Thread Cert.AdamSumReferenceIdeal.nD Cert.AdamSumReferenceIdeal.τ).loc Cert.AdamSumReferenceIdeal.main_arg0)) (m ((c.tc : Thread Cert.AdamSumReferenceIdeal.nD Cert.AdamSumReferenceIdeal.τ).loc Cert.AdamSumReferenceIdeal.main_arg3))
      ∧ r.2.mem ((c.tc : Thread Cert.AdamSumReferenceIdeal.nD Cert.AdamSumReferenceIdeal.τ).loc Cert.AdamSumReferenceIdeal.main_arg0) = m ((c.tc : Thread Cert.AdamSumReferenceIdeal.nD Cert.AdamSumReferenceIdeal.τ).loc Cert.AdamSumReferenceIdeal.main_arg0)
      ∧ r.2.mem ((c.tc : Thread Cert.AdamSumReferenceIdeal.nD Cert.AdamSumReferenceIdeal.τ).loc Cert.AdamSumReferenceIdeal.main_arg1) = m ((c.tc : Thread Cert.AdamSumReferenceIdeal.nD Cert.AdamSumReferenceIdeal.τ).loc Cert.AdamSumReferenceIdeal.main_arg1)
      ∧ r.2.mem ((c.tc : Thread Cert.AdamSumReferenceIdeal.nD Cert.AdamSumReferenceIdeal.τ).loc Cert.AdamSumReferenceIdeal.main_arg2) = m ((c.tc : Thread Cert.AdamSumReferenceIdeal.nD Cert.AdamSumReferenceIdeal.τ).loc Cert.AdamSumReferenceIdeal.main_arg2)
      ∧ r.2.mem ((c.tc : Thread Cert.AdamSumReferenceIdeal.nD Cert.AdamSumReferenceIdeal.τ).loc Cert.AdamSumReferenceIdeal.main_arg3) = m ((c.tc : Thread Cert.AdamSumReferenceIdeal.nD Cert.AdamSumReferenceIdeal.τ).loc Cert.AdamSumReferenceIdeal.main_arg3) :=
  (θ_run _ _ _).mono (fun r h c => ⟨(h c).1.trans (Cert.AdamSumReferenceIdeal.Read.val_main_v0_eq ..), (h c).2.1.trans (Cert.AdamSumReferenceIdeal.Read.val_main_v24_eq ..), (h c).2.2.1.trans (Cert.AdamSumReferenceIdeal.Read.val_main_v5_eq ..), (h c).2.2.2.1.trans (Cert.AdamSumReferenceIdeal.Read.val_main_v11_eq ..), (h c).2.2.2.2⟩)
    (Cert.AdamSumReferenceIdeal.Value.run m ρ)

/-- The kernel's run, each result at the reference's stage over the kernel's own arguments, the arguments kept. -/
theorem results (m : (ℓ : Loc Cert.AdamSumKernelIdeal.nD Cert.AdamSumKernelIdeal.τ Cert.AdamSumKernelIdeal.sig) → Buf (Elt Ideal) ℓ) (ρ : Dev Cert.AdamSumKernelIdeal.nD → PrngReg) :
    θ_run (Cert.AdamSumKernelIdeal.defs (F := Ideal)) (onTc (τ := Cert.AdamSumKernelIdeal.τ) (Cert.AdamSumKernelIdeal.main (F := Ideal))) ⟨m, fun _ => 0, ρ⟩ fun r => ∀ c : Dev Cert.AdamSumKernelIdeal.nD,
      r.2.mem ((c.tc : Thread Cert.AdamSumKernelIdeal.nD Cert.AdamSumKernelIdeal.τ).loc Cert.AdamSumKernelIdeal.main_v0_0) = Cert.AdamSumReferenceIdeal.Read.val_main_v0 (F := Ideal) (m ((c.tc : Thread Cert.AdamSumKernelIdeal.nD Cert.AdamSumKernelIdeal.τ).loc Cert.AdamSumKernelIdeal.main_arg0))
      ∧ r.2.mem ((c.tc : Thread Cert.AdamSumKernelIdeal.nD Cert.AdamSumKernelIdeal.τ).loc Cert.AdamSumKernelIdeal.main_v0_1) = Cert.AdamSumReferenceIdeal.Read.val_main_v24 (F := Ideal) (m ((c.tc : Thread Cert.AdamSumKernelIdeal.nD Cert.AdamSumKernelIdeal.τ).loc Cert.AdamSumKernelIdeal.main_arg0)) (m ((c.tc : Thread Cert.AdamSumKernelIdeal.nD Cert.AdamSumKernelIdeal.τ).loc Cert.AdamSumKernelIdeal.main_arg1)) (m ((c.tc : Thread Cert.AdamSumKernelIdeal.nD Cert.AdamSumKernelIdeal.τ).loc Cert.AdamSumKernelIdeal.main_arg2)) (m ((c.tc : Thread Cert.AdamSumKernelIdeal.nD Cert.AdamSumKernelIdeal.τ).loc Cert.AdamSumKernelIdeal.main_arg3))
      ∧ r.2.mem ((c.tc : Thread Cert.AdamSumKernelIdeal.nD Cert.AdamSumKernelIdeal.τ).loc Cert.AdamSumKernelIdeal.main_v0_2) = Cert.AdamSumReferenceIdeal.Read.val_main_v5 (F := Ideal) (m ((c.tc : Thread Cert.AdamSumKernelIdeal.nD Cert.AdamSumKernelIdeal.τ).loc Cert.AdamSumKernelIdeal.main_arg0)) (m ((c.tc : Thread Cert.AdamSumKernelIdeal.nD Cert.AdamSumKernelIdeal.τ).loc Cert.AdamSumKernelIdeal.main_arg2))
      ∧ r.2.mem ((c.tc : Thread Cert.AdamSumKernelIdeal.nD Cert.AdamSumKernelIdeal.τ).loc Cert.AdamSumKernelIdeal.main_v0_3) = Cert.AdamSumReferenceIdeal.Read.val_main_v11 (F := Ideal) (m ((c.tc : Thread Cert.AdamSumKernelIdeal.nD Cert.AdamSumKernelIdeal.τ).loc Cert.AdamSumKernelIdeal.main_arg0)) (m ((c.tc : Thread Cert.AdamSumKernelIdeal.nD Cert.AdamSumKernelIdeal.τ).loc Cert.AdamSumKernelIdeal.main_arg3))
      ∧ r.2.mem ((c.tc : Thread Cert.AdamSumKernelIdeal.nD Cert.AdamSumKernelIdeal.τ).loc Cert.AdamSumKernelIdeal.main_arg0) = m ((c.tc : Thread Cert.AdamSumKernelIdeal.nD Cert.AdamSumKernelIdeal.τ).loc Cert.AdamSumKernelIdeal.main_arg0)
      ∧ r.2.mem ((c.tc : Thread Cert.AdamSumKernelIdeal.nD Cert.AdamSumKernelIdeal.τ).loc Cert.AdamSumKernelIdeal.main_arg1) = m ((c.tc : Thread Cert.AdamSumKernelIdeal.nD Cert.AdamSumKernelIdeal.τ).loc Cert.AdamSumKernelIdeal.main_arg1)
      ∧ r.2.mem ((c.tc : Thread Cert.AdamSumKernelIdeal.nD Cert.AdamSumKernelIdeal.τ).loc Cert.AdamSumKernelIdeal.main_arg2) = m ((c.tc : Thread Cert.AdamSumKernelIdeal.nD Cert.AdamSumKernelIdeal.τ).loc Cert.AdamSumKernelIdeal.main_arg2)
      ∧ r.2.mem ((c.tc : Thread Cert.AdamSumKernelIdeal.nD Cert.AdamSumKernelIdeal.τ).loc Cert.AdamSumKernelIdeal.main_arg3) = m ((c.tc : Thread Cert.AdamSumKernelIdeal.nD Cert.AdamSumKernelIdeal.τ).loc Cert.AdamSumKernelIdeal.main_arg3) :=
  (θ_run _ _ _).mono (fun r h c => ⟨(h c).1.trans (Cert.AdamSumKernelIdeal.Value.rows4 m c), (h c).2.1.trans (Cert.AdamSumKernelIdeal.Value.rows5 m c), (h c).2.2.1.trans (Cert.AdamSumKernelIdeal.Value.rows6 m c), (h c).2.2.2.1.trans (Cert.AdamSumKernelIdeal.Value.rows7 m c), (h c).2.2.2.2⟩)
    (Cert.AdamSumKernelIdeal.Value.run_blocks m ρ)

theorem algebraic : Cert.algebraic_AdamSumKernelIdeal_AdamSumReferenceIdeal (hAdamSumKernelIdeal := Cert.AdamSumKernelIdeal.Gen.facts) (hAdamSumReferenceIdeal := Cert.AdamSumReferenceIdeal.Gen.facts) := by
  intro m g m' g' _ hagree
  refine ⟨fun c => Cert.AdamSumReferenceIdeal.Read.val_main_v0 (F := Ideal) (m ((c.tc : Thread Cert.AdamSumKernelIdeal.nD Cert.AdamSumKernelIdeal.τ).loc Cert.AdamSumKernelIdeal.main_arg0)), fun c => Cert.AdamSumReferenceIdeal.Read.val_main_v24 (F := Ideal) (m ((c.tc : Thread Cert.AdamSumKernelIdeal.nD Cert.AdamSumKernelIdeal.τ).loc Cert.AdamSumKernelIdeal.main_arg0)) (m ((c.tc : Thread Cert.AdamSumKernelIdeal.nD Cert.AdamSumKernelIdeal.τ).loc Cert.AdamSumKernelIdeal.main_arg1)) (m ((c.tc : Thread Cert.AdamSumKernelIdeal.nD Cert.AdamSumKernelIdeal.τ).loc Cert.AdamSumKernelIdeal.main_arg2)) (m ((c.tc : Thread Cert.AdamSumKernelIdeal.nD Cert.AdamSumKernelIdeal.τ).loc Cert.AdamSumKernelIdeal.main_arg3)), fun c => Cert.AdamSumReferenceIdeal.Read.val_main_v5 (F := Ideal) (m ((c.tc : Thread Cert.AdamSumKernelIdeal.nD Cert.AdamSumKernelIdeal.τ).loc Cert.AdamSumKernelIdeal.main_arg0)) (m ((c.tc : Thread Cert.AdamSumKernelIdeal.nD Cert.AdamSumKernelIdeal.τ).loc Cert.AdamSumKernelIdeal.main_arg2)), fun c => Cert.AdamSumReferenceIdeal.Read.val_main_v11 (F := Ideal) (m ((c.tc : Thread Cert.AdamSumKernelIdeal.nD Cert.AdamSumKernelIdeal.τ).loc Cert.AdamSumKernelIdeal.main_arg0)) (m ((c.tc : Thread Cert.AdamSumKernelIdeal.nD Cert.AdamSumKernelIdeal.τ).loc Cert.AdamSumKernelIdeal.main_arg3)), results m g, ?_⟩
  refine (θ_run _ _ _).mono (fun r h c => ?_) (stages m' g')
  obtain ⟨a0, a1, a2, a3⟩ := hagree c
  obtain ⟨h0, h1, h2, h3, hk⟩ := h c
  rw [a0] at h0
  rw [a0, a1, a2, a3] at h1
  rw [a0, a2] at h2
  rw [a0, a3] at h3
  exact ⟨h0, h1, h2, h3, hk⟩

theorem quiet : Cert.quiescent_AdamSumReferenceIdeal (hAdamSumReferenceIdeal := Cert.AdamSumReferenceIdeal.Gen.facts) := fun m ρ _ =>
  (θ_run _ _ _).mono (fun r h => ⟨fun c => (h c).2.2.2.2, sem_eq_zero_of_no_sems (by decide) _⟩) (Cert.AdamSumReferenceIdeal.Value.run m ρ)

end Cert.AdamSumClaims

end
-- ==== Proof.lean ====
/- The proof of the certificate's claims: the frames are the generated ones; the equations are the modules' beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.InKernelIdeal.Value
public import proofs.«01_k».proof.Proof.Gen.InReferenceIdeal.Run
public import proofs.«01_k».proof.Proof.Gen.InReferenceIdeal.Read
public import proofs.«01_k».proof.Proof.Gen.WgHgKernelIdeal.Value
public import proofs.«01_k».proof.Proof.Gen.WgHgReferenceIdeal.Run
public import proofs.«01_k».proof.Proof.Gen.WgHgReferenceIdeal.Read
public import proofs.«01_k».proof.Proof.Gen.WgUKernelIdeal.Value
public import proofs.«01_k».proof.Proof.Gen.WgUReferenceIdeal.Run
public import proofs.«01_k».proof.Proof.Gen.WgUReferenceIdeal.Read
public import proofs.«01_k».proof.Proof.Gen.WgUpKernelIdeal.Value
public import proofs.«01_k».proof.Proof.Gen.WgUpReferenceIdeal.Run
public import proofs.«01_k».proof.Proof.Gen.WgUpReferenceIdeal.Read
public import proofs.«01_k».proof.Proof.Gen.WgDownKernelIdeal.Value
public import proofs.«01_k».proof.Proof.Gen.WgDownReferenceIdeal.Run
public import proofs.«01_k».proof.Proof.Gen.WgDownReferenceIdeal.Read
public import proofs.«01_k».proof.Proof.Gen.UpKernelIdeal.Value
public import proofs.«01_k».proof.Proof.Gen.UpReferenceIdeal.Run
public import proofs.«01_k».proof.Proof.Gen.UpReferenceIdeal.Read
public import proofs.«01_k».proof.Proof.Gen.InKernel.Frame
public import proofs.«01_k».proof.Proof.Gen.WgHgKernel.Frame
public import proofs.«01_k».proof.Proof.Gen.WgUKernel.Frame
public import proofs.«01_k».proof.Proof.Gen.WgUpKernel.Frame
public import proofs.«01_k».proof.Proof.Gen.WgDownKernel.Frame
public import proofs.«01_k».proof.Proof.Gen.UpKernel.Frame
public import Idealize.ShloMosaic.Lib.Claim
public import Idealize.ShloMosaic.Lib.Quiescent
public import Idealize.ShloMosaic.Adequacy
public import Idealize.ShloMosaic.Init
public import proofs.«01_k».proof.Proof.Gen.FfnKernelIdeal.Value
public import proofs.«01_k».proof.Proof.Gen.FfnReferenceIdeal.Run
public import proofs.«01_k».proof.Proof.Gen.FfnReferenceIdeal.Read
public import proofs.«01_k».proof.Proof.Gen.FfnKernel.Frame
public import proofs.«01_k».proof.Proof.Gen.TailKernelIdeal.Value
public import proofs.«01_k».proof.Proof.Gen.TailReferenceIdeal.Run
public import proofs.«01_k».proof.Proof.Gen.TailReferenceIdeal.Read
public import proofs.«01_k».proof.Proof.Gen.TailKernel.Frame
public import proofs.«01_k».proof.Proof.Gen.InProjKernelIdeal.Value
public import proofs.«01_k».proof.Proof.Gen.InProjReferenceIdeal.Run
public import proofs.«01_k».proof.Proof.Gen.InProjReferenceIdeal.Read
public import proofs.«01_k».proof.Proof.Gen.InProjKernel.Frame
public import proofs.«01_k».proof.Proof.Gen.WgPgKernelIdeal.Value
public import proofs.«01_k».proof.Proof.Gen.WgPgReferenceIdeal.Run
public import proofs.«01_k».proof.Proof.Gen.WgPgReferenceIdeal.Read
public import proofs.«01_k».proof.Proof.Gen.WgPgKernel.Frame
public import proofs.«01_k».proof.Proof.Gen.WgPpKernelIdeal.Value
public import proofs.«01_k».proof.Proof.Gen.WgPpReferenceIdeal.Run
public import proofs.«01_k».proof.Proof.Gen.WgPpReferenceIdeal.Read
public import proofs.«01_k».proof.Proof.Gen.WgPpKernel.Frame
public import proofs.«01_k».proof.Proof.Gen.AdamInKernelIdeal.Value
public import proofs.«01_k».proof.Proof.Gen.AdamInReferenceIdeal.Run
public import proofs.«01_k».proof.Proof.Gen.AdamInReferenceIdeal.Read
public import proofs.«01_k».proof.Proof.Gen.AdamInKernel.Frame
public import proofs.«01_k».proof.Proof.Gen.AdamGluKernelIdeal.Value
public import proofs.«01_k».proof.Proof.Gen.AdamGluReferenceIdeal.Run
public import proofs.«01_k».proof.Proof.Gen.AdamGluReferenceIdeal.Read
public import proofs.«01_k».proof.Proof.Gen.AdamGluKernel.Frame
public import proofs.«01_k».proof.Proof.Gen.AdamBranchKernelIdeal.Value
public import proofs.«01_k».proof.Proof.Gen.AdamBranchReferenceIdeal.Run
public import proofs.«01_k».proof.Proof.Gen.AdamBranchReferenceIdeal.Read
public import proofs.«01_k».proof.Proof.Gen.AdamBranchKernel.Frame
public import proofs.«01_k».proof.Proof.Gen.AdamOutKernelIdeal.Value
public import proofs.«01_k».proof.Proof.Gen.AdamOutReferenceIdeal.Run
public import proofs.«01_k».proof.Proof.Gen.AdamOutReferenceIdeal.Read
public import proofs.«01_k».proof.Proof.Gen.AdamOutKernel.Frame
public import proofs.«01_k».proof.Proof.Gen.AdamUpKernelIdeal.Value
public import proofs.«01_k».proof.Proof.Gen.AdamUpReferenceIdeal.Run
public import proofs.«01_k».proof.Proof.Gen.AdamUpReferenceIdeal.Read
public import proofs.«01_k».proof.Proof.Gen.AdamUpKernel.Frame
public import proofs.«01_k».proof.Proof.Gen.AdamDownKernelIdeal.Value
public import proofs.«01_k».proof.Proof.Gen.AdamDownReferenceIdeal.Run
public import proofs.«01_k».proof.Proof.Gen.AdamDownReferenceIdeal.Read
public import proofs.«01_k».proof.Proof.Gen.AdamDownKernel.Frame
public import proofs.«01_k».proof.Proof.Gen.AdamProjKernelIdeal.Value
public import proofs.«01_k».proof.Proof.Gen.AdamProjReferenceIdeal.Run
public import proofs.«01_k».proof.Proof.Gen.AdamProjReferenceIdeal.Read
public import proofs.«01_k».proof.Proof.Gen.AdamProjKernel.Frame
public import proofs.«01_k».proof.Proof.Gen.AdamConvKernelIdeal.Value
public import proofs.«01_k».proof.Proof.Gen.AdamConvReferenceIdeal.Run
public import proofs.«01_k».proof.Proof.Gen.AdamConvReferenceIdeal.Read
public import proofs.«01_k».proof.Proof.Gen.AdamConvKernel.Frame
public import proofs.«01_k».proof.Proof.Gen.AdamSumKernelIdeal.Value
public import proofs.«01_k».proof.Proof.Gen.AdamSumReferenceIdeal.Run
public import proofs.«01_k».proof.Proof.Gen.AdamSumReferenceIdeal.Read
public import proofs.«01_k».proof.Proof.Gen.AdamSumKernel.Frame
public import proofs.«01_k».proof.Proof.Claims
public import proofs.«01_k».proof.Proof.InClaims
public import proofs.«01_k».proof.Proof.WgHgClaims
public import proofs.«01_k».proof.Proof.WgUClaims
public import proofs.«01_k».proof.Proof.WgUpClaims
public import proofs.«01_k».proof.Proof.WgDownClaims
public import proofs.«01_k».proof.Proof.UpClaims
public import proofs.«01_k».proof.Proof.FfnClaims
public import proofs.«01_k».proof.Proof.TailClaims
public import proofs.«01_k».proof.Proof.InProjClaims
public import proofs.«01_k».proof.Proof.WgPgClaims
public import proofs.«01_k».proof.Proof.WgPpClaims
public import proofs.«01_k».proof.Proof.AdamInClaims
public import proofs.«01_k».proof.Proof.AdamGluClaims
public import proofs.«01_k».proof.Proof.AdamBranchClaims
public import proofs.«01_k».proof.Proof.AdamOutClaims
public import proofs.«01_k».proof.Proof.AdamUpClaims
public import proofs.«01_k».proof.Proof.AdamDownClaims
public import proofs.«01_k».proof.Proof.AdamProjClaims
public import proofs.«01_k».proof.Proof.AdamConvClaims
public import proofs.«01_k».proof.Proof.AdamSumClaims

@[expose] public section

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.InKernel.Gen.facts, Cert.InKernelIdeal.Gen.facts, Cert.InReferenceIdeal.Gen.facts, Cert.WgHgKernel.Gen.facts, Cert.WgHgKernelIdeal.Gen.facts, Cert.WgHgReferenceIdeal.Gen.facts, Cert.WgUKernel.Gen.facts, Cert.WgUKernelIdeal.Gen.facts, Cert.WgUReferenceIdeal.Gen.facts, Cert.WgUpKernel.Gen.facts, Cert.WgUpKernelIdeal.Gen.facts, Cert.WgUpReferenceIdeal.Gen.facts, Cert.WgDownKernel.Gen.facts, Cert.WgDownKernelIdeal.Gen.facts, Cert.WgDownReferenceIdeal.Gen.facts, Cert.UpKernel.Gen.facts, Cert.UpKernelIdeal.Gen.facts, Cert.UpReferenceIdeal.Gen.facts, Cert.FfnKernel.Gen.facts, Cert.FfnKernelIdeal.Gen.facts, Cert.FfnReferenceIdeal.Gen.facts, Cert.TailKernel.Gen.facts, Cert.TailKernelIdeal.Gen.facts, Cert.TailReferenceIdeal.Gen.facts, Cert.InProjKernel.Gen.facts, Cert.InProjKernelIdeal.Gen.facts, Cert.InProjReferenceIdeal.Gen.facts, Cert.WgPgKernel.Gen.facts, Cert.WgPgKernelIdeal.Gen.facts, Cert.WgPgReferenceIdeal.Gen.facts, Cert.WgPpKernel.Gen.facts, Cert.WgPpKernelIdeal.Gen.facts, Cert.WgPpReferenceIdeal.Gen.facts, Cert.AdamInKernel.Gen.facts, Cert.AdamInKernelIdeal.Gen.facts, Cert.AdamInReferenceIdeal.Gen.facts, Cert.AdamGluKernel.Gen.facts, Cert.AdamGluKernelIdeal.Gen.facts, Cert.AdamGluReferenceIdeal.Gen.facts, Cert.AdamBranchKernel.Gen.facts, Cert.AdamBranchKernelIdeal.Gen.facts, Cert.AdamBranchReferenceIdeal.Gen.facts, Cert.AdamOutKernel.Gen.facts, Cert.AdamOutKernelIdeal.Gen.facts, Cert.AdamOutReferenceIdeal.Gen.facts, Cert.AdamUpKernel.Gen.facts, Cert.AdamUpKernelIdeal.Gen.facts, Cert.AdamUpReferenceIdeal.Gen.facts, Cert.AdamDownKernel.Gen.facts, Cert.AdamDownKernelIdeal.Gen.facts, Cert.AdamDownReferenceIdeal.Gen.facts, Cert.AdamProjKernel.Gen.facts, Cert.AdamProjKernelIdeal.Gen.facts, Cert.AdamProjReferenceIdeal.Gen.facts, Cert.AdamConvKernel.Gen.facts, Cert.AdamConvKernelIdeal.Gen.facts, Cert.AdamConvReferenceIdeal.Gen.facts, Cert.AdamSumKernel.Gen.facts, Cert.AdamSumKernelIdeal.Gen.facts, Cert.AdamSumReferenceIdeal.Gen.facts, Cert.FfnPre.facts,
  fun m ρ _ => Cert.Kernel.Gen.frame m ρ, fun m ρ _ => Cert.KernelIdeal.Gen.frame m ρ, Cert.Claims.quiet, fun m ρ _ => Cert.InKernel.Gen.frame m ρ, fun m ρ _ => Cert.InKernelIdeal.Gen.frame m ρ, Cert.InClaims.quiet, fun m ρ _ => Cert.WgHgKernel.Gen.frame m ρ, fun m ρ _ => Cert.WgHgKernelIdeal.Gen.frame m ρ, Cert.WgHgClaims.quiet, fun m ρ _ => Cert.WgUKernel.Gen.frame m ρ, fun m ρ _ => Cert.WgUKernelIdeal.Gen.frame m ρ, Cert.WgUClaims.quiet, fun m ρ _ => Cert.WgUpKernel.Gen.frame m ρ, fun m ρ _ => Cert.WgUpKernelIdeal.Gen.frame m ρ, Cert.WgUpClaims.quiet, fun m ρ _ => Cert.WgDownKernel.Gen.frame m ρ, fun m ρ _ => Cert.WgDownKernelIdeal.Gen.frame m ρ, Cert.WgDownClaims.quiet, fun m ρ _ => Cert.UpKernel.Gen.frame m ρ, fun m ρ _ => Cert.UpKernelIdeal.Gen.frame m ρ, Cert.UpClaims.quiet, fun m ρ _ => Cert.FfnKernel.Gen.frame m ρ, fun m ρ _ => Cert.FfnKernelIdeal.Gen.frame m ρ, Cert.FfnClaims.framePre, Cert.FfnClaims.quiet, Cert.FfnClaims.quietPre, fun m ρ _ => Cert.TailKernel.Gen.frame m ρ, fun m ρ _ => Cert.TailKernelIdeal.Gen.frame m ρ, Cert.TailClaims.quiet, fun m ρ _ => Cert.InProjKernel.Gen.frame m ρ, fun m ρ _ => Cert.InProjKernelIdeal.Gen.frame m ρ, Cert.InProjClaims.quiet, fun m ρ _ => Cert.WgPgKernel.Gen.frame m ρ, fun m ρ _ => Cert.WgPgKernelIdeal.Gen.frame m ρ, Cert.WgPgClaims.quiet, fun m ρ _ => Cert.WgPpKernel.Gen.frame m ρ, fun m ρ _ => Cert.WgPpKernelIdeal.Gen.frame m ρ, Cert.WgPpClaims.quiet, fun m ρ _ => Cert.AdamInKernel.Gen.frame m ρ, fun m ρ _ => Cert.AdamInKernelIdeal.Gen.frame m ρ, Cert.AdamInClaims.quiet, fun m ρ _ => Cert.AdamGluKernel.Gen.frame m ρ, fun m ρ _ => Cert.AdamGluKernelIdeal.Gen.frame m ρ, Cert.AdamGluClaims.quiet, fun m ρ _ => Cert.AdamBranchKernel.Gen.frame m ρ, fun m ρ _ => Cert.AdamBranchKernelIdeal.Gen.frame m ρ, Cert.AdamBranchClaims.quiet, fun m ρ _ => Cert.AdamOutKernel.Gen.frame m ρ, fun m ρ _ => Cert.AdamOutKernelIdeal.Gen.frame m ρ, Cert.AdamOutClaims.quiet, fun m ρ _ => Cert.AdamUpKernel.Gen.frame m ρ, fun m ρ _ => Cert.AdamUpKernelIdeal.Gen.frame m ρ, Cert.AdamUpClaims.quiet, fun m ρ _ => Cert.AdamDownKernel.Gen.frame m ρ, fun m ρ _ => Cert.AdamDownKernelIdeal.Gen.frame m ρ, Cert.AdamDownClaims.quiet, fun m ρ _ => Cert.AdamProjKernel.Gen.frame m ρ, fun m ρ _ => Cert.AdamProjKernelIdeal.Gen.frame m ρ, Cert.AdamProjClaims.quiet, fun m ρ _ => Cert.AdamConvKernel.Gen.frame m ρ, fun m ρ _ => Cert.AdamConvKernelIdeal.Gen.frame m ρ, Cert.AdamConvClaims.quiet, fun m ρ _ => Cert.AdamSumKernel.Gen.frame m ρ, fun m ρ _ => Cert.AdamSumKernelIdeal.Gen.frame m ρ, Cert.AdamSumClaims.quiet,
  trivial, Cert.Claims.algebraic, trivial, Cert.InClaims.algebraic, trivial, Cert.WgHgClaims.algebraic, trivial, Cert.WgUClaims.algebraic, trivial, Cert.WgUpClaims.algebraic, trivial, Cert.WgDownClaims.algebraic, trivial, Cert.UpClaims.algebraic, trivial, Cert.FfnClaims.algebraic, trivial, Cert.TailClaims.algebraic, trivial, Cert.InProjClaims.algebraic, trivial, Cert.WgPgClaims.algebraic, trivial, Cert.WgPpClaims.algebraic, trivial, Cert.AdamInClaims.algebraic, trivial, Cert.AdamGluClaims.algebraic, trivial, Cert.AdamBranchClaims.algebraic, trivial, Cert.AdamOutClaims.algebraic, trivial, Cert.AdamUpClaims.algebraic, trivial, Cert.AdamDownClaims.algebraic, trivial, Cert.AdamProjClaims.algebraic, trivial, Cert.AdamConvClaims.algebraic, trivial, Cert.AdamSumClaims.algebraic⟩

end Cert.Proof

end
